-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapReferenceIdeal (m : (ℓ : Loc Cert.SwapReferenceIdeal.nD Cert.SwapReferenceIdeal.τ Cert.SwapReferenceIdeal.sig) → Buf (Elt Ideal) ℓ) : Prop :=
  True

def Pre_SwapReference (m : (ℓ : Loc Cert.SwapReference.nD Cert.SwapReference.τ Cert.SwapReference.sig) → Buf (Elt Bits) ℓ) : Prop :=
  True

def Pre_Chips (m : (ℓ : Loc Cert.Chips.nD Cert.Chips.τ Cert.Chips.sig) → Buf (Elt Bits) ℓ) : Prop :=
  True

def Pre_ChipsIdeal (m : (ℓ : Loc Cert.ChipsIdeal.nD Cert.ChipsIdeal.τ Cert.ChipsIdeal.sig) → Buf (Elt Ideal) ℓ) : Prop :=
  True

def Pre_ChipsReferenceIdeal (m : (ℓ : Loc Cert.ChipsReferenceIdeal.nD Cert.ChipsReferenceIdeal.τ Cert.ChipsReferenceIdeal.sig) → Buf (Elt Ideal) ℓ) : Prop :=
  True

def Pre_ChipsReference (m : (ℓ : Loc Cert.ChipsReference.nD Cert.ChipsReference.τ Cert.ChipsReference.sig) → Buf (Elt Bits) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def Pre_SmallReference (m : (ℓ : Loc Cert.SmallReference.nD Cert.SmallReference.τ Cert.SmallReference.sig) → Buf (Elt Bits) ℓ) : Prop :=
  True

def Pre_Cond (m : (ℓ : Loc Cert.Cond.nD Cert.Cond.τ Cert.Cond.sig) → Buf (Elt Bits) ℓ) : Prop :=
  True

def Pre_CondIdeal (m : (ℓ : Loc Cert.CondIdeal.nD Cert.CondIdeal.τ Cert.CondIdeal.sig) → Buf (Elt Ideal) ℓ) : Prop :=
  True

def Pre_CondReferenceIdeal (m : (ℓ : Loc Cert.CondReferenceIdeal.nD Cert.CondReferenceIdeal.τ Cert.CondReferenceIdeal.sig) → Buf (Elt Ideal) ℓ) : Prop :=
  True

def Pre_CondReference (m : (ℓ : Loc Cert.CondReference.nD Cert.CondReference.τ Cert.CondReference.sig) → Buf (Elt Bits) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInReferenceIdeal (m : (ℓ : Loc Cert.AdamWInReferenceIdeal.nD Cert.AdamWInReferenceIdeal.τ Cert.AdamWInReferenceIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_AdamWOutReferenceIdeal (m : (ℓ : Loc Cert.AdamWOutReferenceIdeal.nD Cert.AdamWOutReferenceIdeal.τ Cert.AdamWOutReferenceIdeal.sig) → Buf (Elt Ideal) ℓ) : Prop :=
  True

def Pre_AdamFfn1 (m : (ℓ : Loc Cert.AdamFfn1.nD Cert.AdamFfn1.τ Cert.AdamFfn1.sig) → Buf (Elt Bits) ℓ) : Prop :=
  True

def Pre_AdamFfn1Ideal (m : (ℓ : Loc Cert.AdamFfn1Ideal.nD Cert.AdamFfn1Ideal.τ Cert.AdamFfn1Ideal.sig) → Buf (Elt Ideal) ℓ) : Prop :=
  True

def Pre_AdamFfn1ReferenceIdeal (m : (ℓ : Loc Cert.AdamFfn1ReferenceIdeal.nD Cert.AdamFfn1ReferenceIdeal.τ Cert.AdamFfn1ReferenceIdeal.sig) → Buf (Elt Ideal) ℓ) : Prop :=
  True

def Pre_AdamFfn2 (m : (ℓ : Loc Cert.AdamFfn2.nD Cert.AdamFfn2.τ Cert.AdamFfn2.sig) → Buf (Elt Bits) ℓ) : Prop :=
  True

def Pre_AdamFfn2Ideal (m : (ℓ : Loc Cert.AdamFfn2Ideal.nD Cert.AdamFfn2Ideal.τ Cert.AdamFfn2Ideal.sig) → Buf (Elt Ideal) ℓ) : Prop :=
  True

def Pre_AdamFfn2ReferenceIdeal (m : (ℓ : Loc Cert.AdamFfn2ReferenceIdeal.nD Cert.AdamFfn2ReferenceIdeal.τ Cert.AdamFfn2ReferenceIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluReferenceIdeal (m : (ℓ : Loc Cert.AdamGluReferenceIdeal.nD Cert.AdamGluReferenceIdeal.τ Cert.AdamGluReferenceIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaReferenceIdeal (m : (ℓ : Loc Cert.AdamAdaReferenceIdeal.nD Cert.AdamAdaReferenceIdeal.τ Cert.AdamAdaReferenceIdeal.sig) → Buf (Elt Ideal) ℓ) : Prop :=
  True

def Pre_AdamRk (m : (ℓ : Loc Cert.AdamRk.nD Cert.AdamRk.τ Cert.AdamRk.sig) → Buf (Elt Bits) ℓ) : Prop :=
  True

def Pre_AdamRkIdeal (m : (ℓ : Loc Cert.AdamRkIdeal.nD Cert.AdamRkIdeal.τ Cert.AdamRkIdeal.sig) → Buf (Elt Ideal) ℓ) : Prop :=
  True

def Pre_AdamRkReferenceIdeal (m : (ℓ : Loc Cert.AdamRkReferenceIdeal.nD Cert.AdamRkReferenceIdeal.τ Cert.AdamRkReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_AdamLog (m : (ℓ : Loc Cert.AdamLog.nD Cert.AdamLog.τ Cert.AdamLog.sig) → Buf (Elt Bits) ℓ) : Prop :=
  True

def Pre_AdamLogIdeal (m : (ℓ : Loc Cert.AdamLogIdeal.nD Cert.AdamLogIdeal.τ Cert.AdamLogIdeal.sig) → Buf (Elt Ideal) ℓ) : Prop :=
  True

def Pre_AdamLogReferenceIdeal (m : (ℓ : Loc Cert.AdamLogReferenceIdeal.nD Cert.AdamLogReferenceIdeal.τ Cert.AdamLogReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_LossSum (m : (ℓ : Loc Cert.LossSum.nD Cert.LossSum.τ Cert.LossSum.sig) → Buf (Elt Bits) ℓ) : Prop :=
  True

def Pre_LossSumIdeal (m : (ℓ : Loc Cert.LossSumIdeal.nD Cert.LossSumIdeal.τ Cert.LossSumIdeal.sig) → Buf (Elt Ideal) ℓ) : Prop :=
  True

def Pre_LossSumReferenceIdeal (m : (ℓ : Loc Cert.LossSumReferenceIdeal.nD Cert.LossSumReferenceIdeal.τ Cert.LossSumReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_OutMix (m : (ℓ : Loc Cert.OutMix.nD Cert.OutMix.τ Cert.OutMix.sig) → Buf (Elt Bits) ℓ) : Prop :=
  True

def Pre_OutMixIdeal (m : (ℓ : Loc Cert.OutMixIdeal.nD Cert.OutMixIdeal.τ Cert.OutMixIdeal.sig) → Buf (Elt Ideal) ℓ) : Prop :=
  True

def Pre_OutMixReferenceIdeal (m : (ℓ : Loc Cert.OutMixReferenceIdeal.nD Cert.OutMixReferenceIdeal.τ Cert.OutMixReferenceIdeal.sig) → Buf (Elt Ideal) ℓ) : Prop :=
  True

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1ReferenceIdeal (m : (ℓ : Loc Cert.Ffn1ReferenceIdeal.nD Cert.Ffn1ReferenceIdeal.τ Cert.Ffn1ReferenceIdeal.sig) → Buf (Elt Ideal) ℓ) : Prop :=
  True

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2ReferenceIdeal (m : (ℓ : Loc Cert.Ffn2ReferenceIdeal.nD Cert.Ffn2ReferenceIdeal.τ Cert.Ffn2ReferenceIdeal.sig) → Buf (Elt Ideal) ℓ) : Prop :=
  True

def Pre_DFfn2 (m : (ℓ : Loc Cert.DFfn2.nD Cert.DFfn2.τ Cert.DFfn2.sig) → Buf (Elt Bits) ℓ) : Prop :=
  True

def Pre_DFfn2Ideal (m : (ℓ : Loc Cert.DFfn2Ideal.nD Cert.DFfn2Ideal.τ Cert.DFfn2Ideal.sig) → Buf (Elt Ideal) ℓ) : Prop :=
  True

def Pre_DFfn2ReferenceIdeal (m : (ℓ : Loc Cert.DFfn2ReferenceIdeal.nD Cert.DFfn2ReferenceIdeal.τ Cert.DFfn2ReferenceIdeal.sig) → Buf (Elt Ideal) ℓ) : Prop :=
  True

def Pre_GwFfn2 (m : (ℓ : Loc Cert.GwFfn2.nD Cert.GwFfn2.τ Cert.GwFfn2.sig) → Buf (Elt Bits) ℓ) : Prop :=
  True

def Pre_GwFfn2Ideal (m : (ℓ : Loc Cert.GwFfn2Ideal.nD Cert.GwFfn2Ideal.τ Cert.GwFfn2Ideal.sig) → Buf (Elt Ideal) ℓ) : Prop :=
  True

def Pre_GwFfn2ReferenceIdeal (m : (ℓ : Loc Cert.GwFfn2ReferenceIdeal.nD Cert.GwFfn2ReferenceIdeal.τ Cert.GwFfn2ReferenceIdeal.sig) → Buf (Elt Ideal) ℓ) : Prop :=
  True

def Pre_DFfn1 (m : (ℓ : Loc Cert.DFfn1.nD Cert.DFfn1.τ Cert.DFfn1.sig) → Buf (Elt Bits) ℓ) : Prop :=
  True

def Pre_DFfn1Ideal (m : (ℓ : Loc Cert.DFfn1Ideal.nD Cert.DFfn1Ideal.τ Cert.DFfn1Ideal.sig) → Buf (Elt Ideal) ℓ) : Prop :=
  True

def Pre_DFfn1ReferenceIdeal (m : (ℓ : Loc Cert.DFfn1ReferenceIdeal.nD Cert.DFfn1ReferenceIdeal.τ Cert.DFfn1ReferenceIdeal.sig) → Buf (Elt Ideal) ℓ) : Prop :=
  True

def Pre_GwFfn1 (m : (ℓ : Loc Cert.GwFfn1.nD Cert.GwFfn1.τ Cert.GwFfn1.sig) → Buf (Elt Bits) ℓ) : Prop :=
  True

def Pre_GwFfn1Ideal (m : (ℓ : Loc Cert.GwFfn1Ideal.nD Cert.GwFfn1Ideal.τ Cert.GwFfn1Ideal.sig) → Buf (Elt Ideal) ℓ) : Prop :=
  True

def Pre_GwFfn1ReferenceIdeal (m : (ℓ : Loc Cert.GwFfn1ReferenceIdeal.nD Cert.GwFfn1ReferenceIdeal.τ Cert.GwFfn1ReferenceIdeal.sig) → Buf (Elt Ideal) ℓ) : Prop :=
  True

def Pre_DOut (m : (ℓ : Loc Cert.DOut.nD Cert.DOut.τ Cert.DOut.sig) → Buf (Elt Bits) ℓ) : Prop :=
  True

def Pre_DOutIdeal (m : (ℓ : Loc Cert.DOutIdeal.nD Cert.DOutIdeal.τ Cert.DOutIdeal.sig) → Buf (Elt Ideal) ℓ) : Prop :=
  True

def Pre_DOutReferenceIdeal (m : (ℓ : Loc Cert.DOutReferenceIdeal.nD Cert.DOutReferenceIdeal.τ Cert.DOutReferenceIdeal.sig) → Buf (Elt Ideal) ℓ) : Prop :=
  True

def Pre_GwOut (m : (ℓ : Loc Cert.GwOut.nD Cert.GwOut.τ Cert.GwOut.sig) → Buf (Elt Bits) ℓ) : Prop :=
  True

def Pre_GwOutIdeal (m : (ℓ : Loc Cert.GwOutIdeal.nD Cert.GwOutIdeal.τ Cert.GwOutIdeal.sig) → Buf (Elt Ideal) ℓ) : Prop :=
  True

def Pre_GwOutReferenceIdeal (m : (ℓ : Loc Cert.GwOutReferenceIdeal.nD Cert.GwOutReferenceIdeal.τ Cert.GwOutReferenceIdeal.sig) → Buf (Elt Ideal) ℓ) : Prop :=
  True

def Pre_DIn (m : (ℓ : Loc Cert.DIn.nD Cert.DIn.τ Cert.DIn.sig) → Buf (Elt Bits) ℓ) : Prop :=
  True

def Pre_DInIdeal (m : (ℓ : Loc Cert.DInIdeal.nD Cert.DInIdeal.τ Cert.DInIdeal.sig) → Buf (Elt Ideal) ℓ) : Prop :=
  True

def Pre_DInReferenceIdeal (m : (ℓ : Loc Cert.DInReferenceIdeal.nD Cert.DInReferenceIdeal.τ Cert.DInReferenceIdeal.sig) → Buf (Elt Ideal) ℓ) : Prop :=
  True

def Pre_GwIn (m : (ℓ : Loc Cert.GwIn.nD Cert.GwIn.τ Cert.GwIn.sig) → Buf (Elt Bits) ℓ) : Prop :=
  True

def Pre_GwInIdeal (m : (ℓ : Loc Cert.GwInIdeal.nD Cert.GwInIdeal.τ Cert.GwInIdeal.sig) → Buf (Elt Ideal) ℓ) : Prop :=
  True

def Pre_GwInReferenceIdeal (m : (ℓ : Loc Cert.GwInReferenceIdeal.nD Cert.GwInReferenceIdeal.τ Cert.GwInReferenceIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_GwAda (m : (ℓ : Loc Cert.GwAda.nD Cert.GwAda.τ Cert.GwAda.sig) → Buf (Elt Bits) ℓ) : Prop :=
  True

def Pre_GwAdaIdeal (m : (ℓ : Loc Cert.GwAdaIdeal.nD Cert.GwAdaIdeal.τ Cert.GwAdaIdeal.sig) → Buf (Elt Ideal) ℓ) : Prop :=
  True

def Pre_GwAdaReferenceIdeal (m : (ℓ : Loc Cert.GwAdaReferenceIdeal.nD Cert.GwAdaReferenceIdeal.τ Cert.GwAdaReferenceIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def Pre_Second (m : (ℓ : Loc Cert.Second.nD Cert.Second.τ Cert.Second.sig) → Buf (Elt Bits) ℓ) : Prop :=
  True

def Pre_SecondIdeal (m : (ℓ : Loc Cert.SecondIdeal.nD Cert.SecondIdeal.τ Cert.SecondIdeal.sig) → Buf (Elt Ideal) ℓ) : Prop :=
  True

def Pre_SecondReferenceIdeal (m : (ℓ : Loc Cert.SecondReferenceIdeal.nD Cert.SecondReferenceIdeal.τ Cert.SecondReferenceIdeal.sig) → Buf (Elt Ideal) ℓ) : Prop :=
  True

def Pre_SecondBack (m : (ℓ : Loc Cert.SecondBack.nD Cert.SecondBack.τ Cert.SecondBack.sig) → Buf (Elt Bits) ℓ) : Prop :=
  True

def Pre_SecondBackIdeal (m : (ℓ : Loc Cert.SecondBackIdeal.nD Cert.SecondBackIdeal.τ Cert.SecondBackIdeal.sig) → Buf (Elt Ideal) ℓ) : Prop :=
  True

def Pre_SecondBackReferenceIdeal (m : (ℓ : Loc Cert.SecondBackReferenceIdeal.nD Cert.SecondBackReferenceIdeal.τ Cert.SecondBackReferenceIdeal.sig) → Buf (Elt Ideal) ℓ) : Prop :=
  True

def Pre_SumWIn (m : (ℓ : Loc Cert.SumWIn.nD Cert.SumWIn.τ Cert.SumWIn.sig) → Buf (Elt Bits) ℓ) : Prop :=
  True

def Pre_SumWInIdeal (m : (ℓ : Loc Cert.SumWInIdeal.nD Cert.SumWInIdeal.τ Cert.SumWInIdeal.sig) → Buf (Elt Ideal) ℓ) : Prop :=
  True

def Pre_SumWInReferenceIdeal (m : (ℓ : Loc Cert.SumWInReferenceIdeal.nD Cert.SumWInReferenceIdeal.τ Cert.SumWInReferenceIdeal.sig) → Buf (Elt Ideal) ℓ) : Prop :=
  True

def Pre_SumWOut (m : (ℓ : Loc Cert.SumWOut.nD Cert.SumWOut.τ Cert.SumWOut.sig) → Buf (Elt Bits) ℓ) : Prop :=
  True

def Pre_SumWOutIdeal (m : (ℓ : Loc Cert.SumWOutIdeal.nD Cert.SumWOutIdeal.τ Cert.SumWOutIdeal.sig) → Buf (Elt Ideal) ℓ) : Prop :=
  True

def Pre_SumWOutReferenceIdeal (m : (ℓ : Loc Cert.SumWOutReferenceIdeal.nD Cert.SumWOutReferenceIdeal.τ Cert.SumWOutReferenceIdeal.sig) → Buf (Elt Ideal) ℓ) : Prop :=
  True

def Pre_SumFfn1 (m : (ℓ : Loc Cert.SumFfn1.nD Cert.SumFfn1.τ Cert.SumFfn1.sig) → Buf (Elt Bits) ℓ) : Prop :=
  True

def Pre_SumFfn1Ideal (m : (ℓ : Loc Cert.SumFfn1Ideal.nD Cert.SumFfn1Ideal.τ Cert.SumFfn1Ideal.sig) → Buf (Elt Ideal) ℓ) : Prop :=
  True

def Pre_SumFfn1ReferenceIdeal (m : (ℓ : Loc Cert.SumFfn1ReferenceIdeal.nD Cert.SumFfn1ReferenceIdeal.τ Cert.SumFfn1ReferenceIdeal.sig) → Buf (Elt Ideal) ℓ) : Prop :=
  True

def Pre_SumFfn2 (m : (ℓ : Loc Cert.SumFfn2.nD Cert.SumFfn2.τ Cert.SumFfn2.sig) → Buf (Elt Bits) ℓ) : Prop :=
  True

def Pre_SumFfn2Ideal (m : (ℓ : Loc Cert.SumFfn2Ideal.nD Cert.SumFfn2Ideal.τ Cert.SumFfn2Ideal.sig) → Buf (Elt Ideal) ℓ) : Prop :=
  True

def Pre_SumFfn2ReferenceIdeal (m : (ℓ : Loc Cert.SumFfn2ReferenceIdeal.nD Cert.SumFfn2ReferenceIdeal.τ Cert.SumFfn2ReferenceIdeal.sig) → Buf (Elt Ideal) ℓ) : Prop :=
  True

def Pre_SumGlu (m : (ℓ : Loc Cert.SumGlu.nD Cert.SumGlu.τ Cert.SumGlu.sig) → Buf (Elt Bits) ℓ) : Prop :=
  True

def Pre_SumGluIdeal (m : (ℓ : Loc Cert.SumGluIdeal.nD Cert.SumGluIdeal.τ Cert.SumGluIdeal.sig) → Buf (Elt Ideal) ℓ) : Prop :=
  True

def Pre_SumGluReferenceIdeal (m : (ℓ : Loc Cert.SumGluReferenceIdeal.nD Cert.SumGluReferenceIdeal.τ Cert.SumGluReferenceIdeal.sig) → Buf (Elt Ideal) ℓ) : Prop :=
  True

def Pre_SumRk (m : (ℓ : Loc Cert.SumRk.nD Cert.SumRk.τ Cert.SumRk.sig) → Buf (Elt Bits) ℓ) : Prop :=
  True

def Pre_SumRkIdeal (m : (ℓ : Loc Cert.SumRkIdeal.nD Cert.SumRkIdeal.τ Cert.SumRkIdeal.sig) → Buf (Elt Ideal) ℓ) : Prop :=
  True

def Pre_SumRkReferenceIdeal (m : (ℓ : Loc Cert.SumRkReferenceIdeal.nD Cert.SumRkReferenceIdeal.τ Cert.SumRkReferenceIdeal.sig) → Buf (Elt Ideal) ℓ) : Prop :=
  True

def Pre_SumU (m : (ℓ : Loc Cert.SumU.nD Cert.SumU.τ Cert.SumU.sig) → Buf (Elt Bits) ℓ) : Prop :=
  True

def Pre_SumUIdeal (m : (ℓ : Loc Cert.SumUIdeal.nD Cert.SumUIdeal.τ Cert.SumUIdeal.sig) → Buf (Elt Ideal) ℓ) : Prop :=
  True

def Pre_SumUReferenceIdeal (m : (ℓ : Loc Cert.SumUReferenceIdeal.nD Cert.SumUReferenceIdeal.τ Cert.SumUReferenceIdeal.sig) → Buf (Elt Ideal) ℓ) : Prop :=
  True

def Pre_Silu (m : (ℓ : Loc Cert.Silu.nD Cert.Silu.τ Cert.Silu.sig) → Buf (Elt Bits) ℓ) : Prop :=
  True

def Pre_SiluIdeal (m : (ℓ : Loc Cert.SiluIdeal.nD Cert.SiluIdeal.τ Cert.SiluIdeal.sig) → Buf (Elt Ideal) ℓ) : Prop :=
  True

def Pre_SiluReferenceIdeal (m : (ℓ : Loc Cert.SiluReferenceIdeal.nD Cert.SiluReferenceIdeal.τ Cert.SiluReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6))
      ∧ r.2.sem = fun _ => 0)

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0)
      ∧ r.2.mem ((c.tc : Thread Cert.Swap.nD Cert.Swap.τ).loc Cert.Swap.main_arg1) = m ((c.tc : Thread Cert.Swap.nD Cert.Swap.τ).loc Cert.Swap.main_arg1)
      ∧ r.2.mem ((c.tc : Thread Cert.Swap.nD Cert.Swap.τ).loc Cert.Swap.main_arg2) = m ((c.tc : Thread Cert.Swap.nD Cert.Swap.τ).loc Cert.Swap.main_arg2)
      ∧ r.2.mem ((c.tc : Thread Cert.Swap.nD Cert.Swap.τ).loc Cert.Swap.main_arg3) = m ((c.tc : Thread Cert.Swap.nD Cert.Swap.τ).loc Cert.Swap.main_arg3)
      ∧ r.2.mem ((c.tc : Thread Cert.Swap.nD Cert.Swap.τ).loc Cert.Swap.main_arg4) = m ((c.tc : Thread Cert.Swap.nD Cert.Swap.τ).loc Cert.Swap.main_arg4)
      ∧ r.2.mem ((c.tc : Thread Cert.Swap.nD Cert.Swap.τ).loc Cert.Swap.main_arg5) = m ((c.tc : Thread Cert.Swap.nD Cert.Swap.τ).loc Cert.Swap.main_arg5))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0)
      ∧ r.2.mem ((c.tc : Thread Cert.SwapIdeal.nD Cert.SwapIdeal.τ).loc Cert.SwapIdeal.main_arg1) = m ((c.tc : Thread Cert.SwapIdeal.nD Cert.SwapIdeal.τ).loc Cert.SwapIdeal.main_arg1)
      ∧ r.2.mem ((c.tc : Thread Cert.SwapIdeal.nD Cert.SwapIdeal.τ).loc Cert.SwapIdeal.main_arg2) = m ((c.tc : Thread Cert.SwapIdeal.nD Cert.SwapIdeal.τ).loc Cert.SwapIdeal.main_arg2)
      ∧ r.2.mem ((c.tc : Thread Cert.SwapIdeal.nD Cert.SwapIdeal.τ).loc Cert.SwapIdeal.main_arg3) = m ((c.tc : Thread Cert.SwapIdeal.nD Cert.SwapIdeal.τ).loc Cert.SwapIdeal.main_arg3)
      ∧ r.2.mem ((c.tc : Thread Cert.SwapIdeal.nD Cert.SwapIdeal.τ).loc Cert.SwapIdeal.main_arg4) = m ((c.tc : Thread Cert.SwapIdeal.nD Cert.SwapIdeal.τ).loc Cert.SwapIdeal.main_arg4)
      ∧ r.2.mem ((c.tc : Thread Cert.SwapIdeal.nD Cert.SwapIdeal.τ).loc Cert.SwapIdeal.main_arg5) = m ((c.tc : Thread Cert.SwapIdeal.nD Cert.SwapIdeal.τ).loc Cert.SwapIdeal.main_arg5))
      ∧ r.2.sem = fun _ => 0)

def quiescent_SwapReferenceIdeal [hSwapReferenceIdeal : Cert.SwapReferenceIdeal.Facts] : Prop :=
  ∀ (m : (ℓ : Loc Cert.SwapReferenceIdeal.nD Cert.SwapReferenceIdeal.τ Cert.SwapReferenceIdeal.sig) → Buf (Elt Ideal) ℓ) (g : Dev Cert.SwapReferenceIdeal.nD → PrngReg), Pre_SwapReferenceIdeal m →
    θ_run (Cert.SwapReferenceIdeal.defs (F := Ideal)) (onTc (τ := Cert.SwapReferenceIdeal.τ) (Cert.SwapReferenceIdeal.main (F := Ideal))) ⟨m, fun _ => 0, g⟩ (fun r => (∀ c : Dev Cert.SwapReferenceIdeal.nD,
      r.2.mem ((c.tc : Thread Cert.SwapReferenceIdeal.nD Cert.SwapReferenceIdeal.τ).loc Cert.SwapReferenceIdeal.main_arg0) = m ((c.tc : Thread Cert.SwapReferenceIdeal.nD Cert.SwapReferenceIdeal.τ).loc Cert.SwapReferenceIdeal.main_arg0)
      ∧ r.2.mem ((c.tc : Thread Cert.SwapReferenceIdeal.nD Cert.SwapReferenceIdeal.τ).loc Cert.SwapReferenceIdeal.main_arg1) = m ((c.tc : Thread Cert.SwapReferenceIdeal.nD Cert.SwapReferenceIdeal.τ).loc Cert.SwapReferenceIdeal.main_arg1)
      ∧ r.2.mem ((c.tc : Thread Cert.SwapReferenceIdeal.nD Cert.SwapReferenceIdeal.τ).loc Cert.SwapReferenceIdeal.main_arg2) = m ((c.tc : Thread Cert.SwapReferenceIdeal.nD Cert.SwapReferenceIdeal.τ).loc Cert.SwapReferenceIdeal.main_arg2)
      ∧ r.2.mem ((c.tc : Thread Cert.SwapReferenceIdeal.nD Cert.SwapReferenceIdeal.τ).loc Cert.SwapReferenceIdeal.main_arg3) = m ((c.tc : Thread Cert.SwapReferenceIdeal.nD Cert.SwapReferenceIdeal.τ).loc Cert.SwapReferenceIdeal.main_arg3)
      ∧ r.2.mem ((c.tc : Thread Cert.SwapReferenceIdeal.nD Cert.SwapReferenceIdeal.τ).loc Cert.SwapReferenceIdeal.main_arg4) = m ((c.tc : Thread Cert.SwapReferenceIdeal.nD Cert.SwapReferenceIdeal.τ).loc Cert.SwapReferenceIdeal.main_arg4)
      ∧ r.2.mem ((c.tc : Thread Cert.SwapReferenceIdeal.nD Cert.SwapReferenceIdeal.τ).loc Cert.SwapReferenceIdeal.main_arg5) = m ((c.tc : Thread Cert.SwapReferenceIdeal.nD Cert.SwapReferenceIdeal.τ).loc Cert.SwapReferenceIdeal.main_arg5))
      ∧ r.2.sem = fun _ => 0)

def quiescent_SwapReference [hSwapReference : Cert.SwapReference.Facts] : Prop :=
  ∀ (m : (ℓ : Loc Cert.SwapReference.nD Cert.SwapReference.τ Cert.SwapReference.sig) → Buf (Elt Bits) ℓ) (g : Dev Cert.SwapReference.nD → PrngReg), Pre_SwapReference m →
    θ_run (Cert.SwapReference.defs (F := Bits)) (onTc (τ := Cert.SwapReference.τ) (Cert.SwapReference.main (F := Bits))) ⟨m, fun _ => 0, g⟩ (fun r => (∀ c : Dev Cert.SwapReference.nD,
      r.2.mem ((c.tc : Thread Cert.SwapReference.nD Cert.SwapReference.τ).loc Cert.SwapReference.main_arg0) = m ((c.tc : Thread Cert.SwapReference.nD Cert.SwapReference.τ).loc Cert.SwapReference.main_arg0)
      ∧ r.2.mem ((c.tc : Thread Cert.SwapReference.nD Cert.SwapReference.τ).loc Cert.SwapReference.main_arg1) = m ((c.tc : Thread Cert.SwapReference.nD Cert.SwapReference.τ).loc Cert.SwapReference.main_arg1)
      ∧ r.2.mem ((c.tc : Thread Cert.SwapReference.nD Cert.SwapReference.τ).loc Cert.SwapReference.main_arg2) = m ((c.tc : Thread Cert.SwapReference.nD Cert.SwapReference.τ).loc Cert.SwapReference.main_arg2)
      ∧ r.2.mem ((c.tc : Thread Cert.SwapReference.nD Cert.SwapReference.τ).loc Cert.SwapReference.main_arg3) = m ((c.tc : Thread Cert.SwapReference.nD Cert.SwapReference.τ).loc Cert.SwapReference.main_arg3)
      ∧ r.2.mem ((c.tc : Thread Cert.SwapReference.nD Cert.SwapReference.τ).loc Cert.SwapReference.main_arg4) = m ((c.tc : Thread Cert.SwapReference.nD Cert.SwapReference.τ).loc Cert.SwapReference.main_arg4)
      ∧ r.2.mem ((c.tc : Thread Cert.SwapReference.nD Cert.SwapReference.τ).loc Cert.SwapReference.main_arg5) = m ((c.tc : Thread Cert.SwapReference.nD Cert.SwapReference.τ).loc Cert.SwapReference.main_arg5))
      ∧ r.2.sem = fun _ => 0)

def quiescent_Chips [hChips : Cert.Chips.Facts] : Prop :=
  ∀ (m : (ℓ : Loc Cert.Chips.nD Cert.Chips.τ Cert.Chips.sig) → Buf (Elt Bits) ℓ) (g : Dev Cert.Chips.nD → PrngReg), Pre_Chips m →
    θ_run (Cert.Chips.defs (F := Bits)) (onTc (τ := Cert.Chips.τ) (Cert.Chips.main (F := Bits))) ⟨m, fun _ => 0, g⟩ (fun r => (∀ c : Dev Cert.Chips.nD,
      r.2.mem ((c.tc : Thread Cert.Chips.nD Cert.Chips.τ).loc Cert.Chips.main_arg0) = m ((c.tc : Thread Cert.Chips.nD Cert.Chips.τ).loc Cert.Chips.main_arg0)
      ∧ r.2.mem ((c.tc : Thread Cert.Chips.nD Cert.Chips.τ).loc Cert.Chips.main_arg1) = m ((c.tc : Thread Cert.Chips.nD Cert.Chips.τ).loc Cert.Chips.main_arg1)
      ∧ r.2.mem ((c.tc : Thread Cert.Chips.nD Cert.Chips.τ).loc Cert.Chips.main_arg2) = m ((c.tc : Thread Cert.Chips.nD Cert.Chips.τ).loc Cert.Chips.main_arg2)
      ∧ r.2.mem ((c.tc : Thread Cert.Chips.nD Cert.Chips.τ).loc Cert.Chips.main_arg3) = m ((c.tc : Thread Cert.Chips.nD Cert.Chips.τ).loc Cert.Chips.main_arg3)
      ∧ r.2.mem ((c.tc : Thread Cert.Chips.nD Cert.Chips.τ).loc Cert.Chips.main_arg4) = m ((c.tc : Thread Cert.Chips.nD Cert.Chips.τ).loc Cert.Chips.main_arg4)
      ∧ r.2.mem ((c.tc : Thread Cert.Chips.nD Cert.Chips.τ).loc Cert.Chips.main_arg5) = m ((c.tc : Thread Cert.Chips.nD Cert.Chips.τ).loc Cert.Chips.main_arg5))
      ∧ r.2.sem = fun _ => 0)

def quiescent_ChipsIdeal [hChipsIdeal : Cert.ChipsIdeal.Facts] : Prop :=
  ∀ (m : (ℓ : Loc Cert.ChipsIdeal.nD Cert.ChipsIdeal.τ Cert.ChipsIdeal.sig) → Buf (Elt Ideal) ℓ) (g : Dev Cert.ChipsIdeal.nD → PrngReg), Pre_ChipsIdeal m →
    θ_run (Cert.ChipsIdeal.defs (F := Ideal)) (onTc (τ := Cert.ChipsIdeal.τ) (Cert.ChipsIdeal.main (F := Ideal))) ⟨m, fun _ => 0, g⟩ (fun r => (∀ c : Dev Cert.ChipsIdeal.nD,
      r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0)
      ∧ r.2.mem ((c.tc : Thread Cert.ChipsIdeal.nD Cert.ChipsIdeal.τ).loc Cert.ChipsIdeal.main_arg1) = m ((c.tc : Thread Cert.ChipsIdeal.nD Cert.ChipsIdeal.τ).loc Cert.ChipsIdeal.main_arg1)
      ∧ r.2.mem ((c.tc : Thread Cert.ChipsIdeal.nD Cert.ChipsIdeal.τ).loc Cert.ChipsIdeal.main_arg2) = m ((c.tc : Thread Cert.ChipsIdeal.nD Cert.ChipsIdeal.τ).loc Cert.ChipsIdeal.main_arg2)
      ∧ r.2.mem ((c.tc : Thread Cert.ChipsIdeal.nD Cert.ChipsIdeal.τ).loc Cert.ChipsIdeal.main_arg3) = m ((c.tc : Thread Cert.ChipsIdeal.nD Cert.ChipsIdeal.τ).loc Cert.ChipsIdeal.main_arg3)
      ∧ r.2.mem ((c.tc : Thread Cert.ChipsIdeal.nD Cert.ChipsIdeal.τ).loc Cert.ChipsIdeal.main_arg4) = m ((c.tc : Thread Cert.ChipsIdeal.nD Cert.ChipsIdeal.τ).loc Cert.ChipsIdeal.main_arg4)
      ∧ r.2.mem ((c.tc : Thread Cert.ChipsIdeal.nD Cert.ChipsIdeal.τ).loc Cert.ChipsIdeal.main_arg5) = m ((c.tc : Thread Cert.ChipsIdeal.nD Cert.ChipsIdeal.τ).loc Cert.ChipsIdeal.main_arg5))
      ∧ r.2.sem = fun _ => 0)

def quiescent_ChipsReferenceIdeal [hChipsReferenceIdeal : Cert.ChipsReferenceIdeal.Facts] : Prop :=
  ∀ (m : (ℓ : Loc Cert.ChipsReferenceIdeal.nD Cert.ChipsReferenceIdeal.τ Cert.ChipsReferenceIdeal.sig) → Buf (Elt Ideal) ℓ) (g : Dev Cert.ChipsReferenceIdeal.nD → PrngReg), Pre_ChipsReferenceIdeal m →
    θ_run (Cert.ChipsReferenceIdeal.defs (F := Ideal)) (onTc (τ := Cert.ChipsReferenceIdeal.τ) (Cert.ChipsReferenceIdeal.main (F := Ideal))) ⟨m, fun _ => 0, g⟩ (fun r => (∀ c : Dev Cert.ChipsReferenceIdeal.nD,
      r.2.mem ((c.tc : Thread Cert.ChipsReferenceIdeal.nD Cert.ChipsReferenceIdeal.τ).loc Cert.ChipsReferenceIdeal.main_arg0) = m ((c.tc : Thread Cert.ChipsReferenceIdeal.nD Cert.ChipsReferenceIdeal.τ).loc Cert.ChipsReferenceIdeal.main_arg0)
      ∧ r.2.mem ((c.tc : Thread Cert.ChipsReferenceIdeal.nD Cert.ChipsReferenceIdeal.τ).loc Cert.ChipsReferenceIdeal.main_arg1) = m ((c.tc : Thread Cert.ChipsReferenceIdeal.nD Cert.ChipsReferenceIdeal.τ).loc Cert.ChipsReferenceIdeal.main_arg1)
      ∧ r.2.mem ((c.tc : Thread Cert.ChipsReferenceIdeal.nD Cert.ChipsReferenceIdeal.τ).loc Cert.ChipsReferenceIdeal.main_arg2) = m ((c.tc : Thread Cert.ChipsReferenceIdeal.nD Cert.ChipsReferenceIdeal.τ).loc Cert.ChipsReferenceIdeal.main_arg2)
      ∧ r.2.mem ((c.tc : Thread Cert.ChipsReferenceIdeal.nD Cert.ChipsReferenceIdeal.τ).loc Cert.ChipsReferenceIdeal.main_arg3) = m ((c.tc : Thread Cert.ChipsReferenceIdeal.nD Cert.ChipsReferenceIdeal.τ).loc Cert.ChipsReferenceIdeal.main_arg3)
      ∧ r.2.mem ((c.tc : Thread Cert.ChipsReferenceIdeal.nD Cert.ChipsReferenceIdeal.τ).loc Cert.ChipsReferenceIdeal.main_arg4) = m ((c.tc : Thread Cert.ChipsReferenceIdeal.nD Cert.ChipsReferenceIdeal.τ).loc Cert.ChipsReferenceIdeal.main_arg4)
      ∧ r.2.mem ((c.tc : Thread Cert.ChipsReferenceIdeal.nD Cert.ChipsReferenceIdeal.τ).loc Cert.ChipsReferenceIdeal.main_arg5) = m ((c.tc : Thread Cert.ChipsReferenceIdeal.nD Cert.ChipsReferenceIdeal.τ).loc Cert.ChipsReferenceIdeal.main_arg5))
      ∧ r.2.sem = fun _ => 0)

def quiescent_ChipsReference [hChipsReference : Cert.ChipsReference.Facts] : Prop :=
  ∀ (m : (ℓ : Loc Cert.ChipsReference.nD Cert.ChipsReference.τ Cert.ChipsReference.sig) → Buf (Elt Bits) ℓ) (g : Dev Cert.ChipsReference.nD → PrngReg), Pre_ChipsReference m →
    θ_run (Cert.ChipsReference.defs (F := Bits)) (onTc (τ := Cert.ChipsReference.τ) (Cert.ChipsReference.main (F := Bits))) ⟨m, fun _ => 0, g⟩ (fun r => (∀ c : Dev Cert.ChipsReference.nD,
      r.2.mem ((c.tc : Thread Cert.ChipsReference.nD Cert.ChipsReference.τ).loc Cert.ChipsReference.main_arg0) = m ((c.tc : Thread Cert.ChipsReference.nD Cert.ChipsReference.τ).loc Cert.ChipsReference.main_arg0)
      ∧ r.2.mem ((c.tc : Thread Cert.ChipsReference.nD Cert.ChipsReference.τ).loc Cert.ChipsReference.main_arg1) = m ((c.tc : Thread Cert.ChipsReference.nD Cert.ChipsReference.τ).loc Cert.ChipsReference.main_arg1)
      ∧ r.2.mem ((c.tc : Thread Cert.ChipsReference.nD Cert.ChipsReference.τ).loc Cert.ChipsReference.main_arg2) = m ((c.tc : Thread Cert.ChipsReference.nD Cert.ChipsReference.τ).loc Cert.ChipsReference.main_arg2)
      ∧ r.2.mem ((c.tc : Thread Cert.ChipsReference.nD Cert.ChipsReference.τ).loc Cert.ChipsReference.main_arg3) = m ((c.tc : Thread Cert.ChipsReference.nD Cert.ChipsReference.τ).loc Cert.ChipsReference.main_arg3)
      ∧ r.2.mem ((c.tc : Thread Cert.ChipsReference.nD Cert.ChipsReference.τ).loc Cert.ChipsReference.main_arg4) = m ((c.tc : Thread Cert.ChipsReference.nD Cert.ChipsReference.τ).loc Cert.ChipsReference.main_arg4)
      ∧ r.2.mem ((c.tc : Thread Cert.ChipsReference.nD Cert.ChipsReference.τ).loc Cert.ChipsReference.main_arg5) = m ((c.tc : Thread Cert.ChipsReference.nD Cert.ChipsReference.τ).loc Cert.ChipsReference.main_arg5))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0))
      ∧ r.2.sem = fun _ => 0)

def quiescent_SmallReference [hSmallReference : Cert.SmallReference.Facts] : Prop :=
  ∀ (m : (ℓ : Loc Cert.SmallReference.nD Cert.SmallReference.τ Cert.SmallReference.sig) → Buf (Elt Bits) ℓ) (g : Dev Cert.SmallReference.nD → PrngReg), Pre_SmallReference m →
    θ_run (Cert.SmallReference.defs (F := Bits)) (onTc (τ := Cert.SmallReference.τ) (Cert.SmallReference.main (F := Bits))) ⟨m, fun _ => 0, g⟩ (fun r => (∀ c : Dev Cert.SmallReference.nD,
      r.2.mem ((c.tc : Thread Cert.SmallReference.nD Cert.SmallReference.τ).loc Cert.SmallReference.main_arg0) = m ((c.tc : Thread Cert.SmallReference.nD Cert.SmallReference.τ).loc Cert.SmallReference.main_arg0))
      ∧ r.2.sem = fun _ => 0)

def quiescent_Cond [hCond : Cert.Cond.Facts] : Prop :=
  ∀ (m : (ℓ : Loc Cert.Cond.nD Cert.Cond.τ Cert.Cond.sig) → Buf (Elt Bits) ℓ) (g : Dev Cert.Cond.nD → PrngReg), Pre_Cond m →
    θ_run (Cert.Cond.defs (F := Bits)) (onTc (τ := Cert.Cond.τ) (Cert.Cond.main (F := Bits))) ⟨m, fun _ => 0, g⟩ (fun r => (∀ c : Dev Cert.Cond.nD,
      r.2.mem ((c.tc : Thread Cert.Cond.nD Cert.Cond.τ).loc Cert.Cond.main_arg0) = m ((c.tc : Thread Cert.Cond.nD Cert.Cond.τ).loc Cert.Cond.main_arg0))
      ∧ r.2.sem = fun _ => 0)

def quiescent_CondIdeal [hCondIdeal : Cert.CondIdeal.Facts] : Prop :=
  ∀ (m : (ℓ : Loc Cert.CondIdeal.nD Cert.CondIdeal.τ Cert.CondIdeal.sig) → Buf (Elt Ideal) ℓ) (g : Dev Cert.CondIdeal.nD → PrngReg), Pre_CondIdeal m →
    θ_run (Cert.CondIdeal.defs (F := Ideal)) (onTc (τ := Cert.CondIdeal.τ) (Cert.CondIdeal.main (F := Ideal))) ⟨m, fun _ => 0, g⟩ (fun r => (∀ c : Dev Cert.CondIdeal.nD,
      r.2.mem ((c.tc : Thread Cert.CondIdeal.nD Cert.CondIdeal.τ).loc Cert.CondIdeal.main_arg0) = m ((c.tc : Thread Cert.CondIdeal.nD Cert.CondIdeal.τ).loc Cert.CondIdeal.main_arg0))
      ∧ r.2.sem = fun _ => 0)

def quiescent_CondReferenceIdeal [hCondReferenceIdeal : Cert.CondReferenceIdeal.Facts] : Prop :=
  ∀ (m : (ℓ : Loc Cert.CondReferenceIdeal.nD Cert.CondReferenceIdeal.τ Cert.CondReferenceIdeal.sig) → Buf (Elt Ideal) ℓ) (g : Dev Cert.CondReferenceIdeal.nD → PrngReg), Pre_CondReferenceIdeal m →
    θ_run (Cert.CondReferenceIdeal.defs (F := Ideal)) (onTc (τ := Cert.CondReferenceIdeal.τ) (Cert.CondReferenceIdeal.main (F := Ideal))) ⟨m, fun _ => 0, g⟩ (fun r => (∀ c : Dev Cert.CondReferenceIdeal.nD,
      r.2.mem ((c.tc : Thread Cert.CondReferenceIdeal.nD Cert.CondReferenceIdeal.τ).loc Cert.CondReferenceIdeal.main_arg0) = m ((c.tc : Thread Cert.CondReferenceIdeal.nD Cert.CondReferenceIdeal.τ).loc Cert.CondReferenceIdeal.main_arg0))
      ∧ r.2.sem = fun _ => 0)

def quiescent_CondReference [hCondReference : Cert.CondReference.Facts] : Prop :=
  ∀ (m : (ℓ : Loc Cert.CondReference.nD Cert.CondReference.τ Cert.CondReference.sig) → Buf (Elt Bits) ℓ) (g : Dev Cert.CondReference.nD → PrngReg), Pre_CondReference m →
    θ_run (Cert.CondReference.defs (F := Bits)) (onTc (τ := Cert.CondReference.τ) (Cert.CondReference.main (F := Bits))) ⟨m, fun _ => 0, g⟩ (fun r => (∀ c : Dev Cert.CondReference.nD,
      r.2.mem ((c.tc : Thread Cert.CondReference.nD Cert.CondReference.τ).loc Cert.CondReference.main_arg0) = m ((c.tc : Thread Cert.CondReference.nD Cert.CondReference.τ).loc Cert.CondReference.main_arg0))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInReferenceIdeal [hAdamWInReferenceIdeal : Cert.AdamWInReferenceIdeal.Facts] : Prop :=
  ∀ (m : (ℓ : Loc Cert.AdamWInReferenceIdeal.nD Cert.AdamWInReferenceIdeal.τ Cert.AdamWInReferenceIdeal.sig) → Buf (Elt Ideal) ℓ) (g : Dev Cert.AdamWInReferenceIdeal.nD → PrngReg), Pre_AdamWInReferenceIdeal m →
    θ_run (Cert.AdamWInReferenceIdeal.defs (F := Ideal)) (onTc (τ := Cert.AdamWInReferenceIdeal.τ) (Cert.AdamWInReferenceIdeal.main (F := Ideal))) ⟨m, fun _ => 0, g⟩ (fun r => (∀ c : Dev Cert.AdamWInReferenceIdeal.nD,
      r.2.mem ((c.tc : Thread Cert.AdamWInReferenceIdeal.nD Cert.AdamWInReferenceIdeal.τ).loc Cert.AdamWInReferenceIdeal.main_arg0) = m ((c.tc : Thread Cert.AdamWInReferenceIdeal.nD Cert.AdamWInReferenceIdeal.τ).loc Cert.AdamWInReferenceIdeal.main_arg0)
      ∧ r.2.mem ((c.tc : Thread Cert.AdamWInReferenceIdeal.nD Cert.AdamWInReferenceIdeal.τ).loc Cert.AdamWInReferenceIdeal.main_arg1) = m ((c.tc : Thread Cert.AdamWInReferenceIdeal.nD Cert.AdamWInReferenceIdeal.τ).loc Cert.AdamWInReferenceIdeal.main_arg1)
      ∧ r.2.mem ((c.tc : Thread Cert.AdamWInReferenceIdeal.nD Cert.AdamWInReferenceIdeal.τ).loc Cert.AdamWInReferenceIdeal.main_arg2) = m ((c.tc : Thread Cert.AdamWInReferenceIdeal.nD Cert.AdamWInReferenceIdeal.τ).loc Cert.AdamWInReferenceIdeal.main_arg2)
      ∧ r.2.mem ((c.tc : Thread Cert.AdamWInReferenceIdeal.nD Cert.AdamWInReferenceIdeal.τ).loc Cert.AdamWInReferenceIdeal.main_arg3) = m ((c.tc : Thread Cert.AdamWInReferenceIdeal.nD Cert.AdamWInReferenceIdeal.τ).loc Cert.AdamWInReferenceIdeal.main_arg3))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ r.2.sem = fun _ => 0)

def quiescent_AdamWOutReferenceIdeal [hAdamWOutReferenceIdeal : Cert.AdamWOutReferenceIdeal.Facts] : Prop :=
  ∀ (m : (ℓ : Loc Cert.AdamWOutReferenceIdeal.nD Cert.AdamWOutReferenceIdeal.τ Cert.AdamWOutReferenceIdeal.sig) → Buf (Elt Ideal) ℓ) (g : Dev Cert.AdamWOutReferenceIdeal.nD → PrngReg), Pre_AdamWOutReferenceIdeal m →
    θ_run (Cert.AdamWOutReferenceIdeal.defs (F := Ideal)) (onTc (τ := Cert.AdamWOutReferenceIdeal.τ) (Cert.AdamWOutReferenceIdeal.main (F := Ideal))) ⟨m, fun _ => 0, g⟩ (fun r => (∀ c : Dev Cert.AdamWOutReferenceIdeal.nD,
      r.2.mem ((c.tc : Thread Cert.AdamWOutReferenceIdeal.nD Cert.AdamWOutReferenceIdeal.τ).loc Cert.AdamWOutReferenceIdeal.main_arg0) = m ((c.tc : Thread Cert.AdamWOutReferenceIdeal.nD Cert.AdamWOutReferenceIdeal.τ).loc Cert.AdamWOutReferenceIdeal.main_arg0)
      ∧ r.2.mem ((c.tc : Thread Cert.AdamWOutReferenceIdeal.nD Cert.AdamWOutReferenceIdeal.τ).loc Cert.AdamWOutReferenceIdeal.main_arg1) = m ((c.tc : Thread Cert.AdamWOutReferenceIdeal.nD Cert.AdamWOutReferenceIdeal.τ).loc Cert.AdamWOutReferenceIdeal.main_arg1)
      ∧ r.2.mem ((c.tc : Thread Cert.AdamWOutReferenceIdeal.nD Cert.AdamWOutReferenceIdeal.τ).loc Cert.AdamWOutReferenceIdeal.main_arg2) = m ((c.tc : Thread Cert.AdamWOutReferenceIdeal.nD Cert.AdamWOutReferenceIdeal.τ).loc Cert.AdamWOutReferenceIdeal.main_arg2)
      ∧ r.2.mem ((c.tc : Thread Cert.AdamWOutReferenceIdeal.nD Cert.AdamWOutReferenceIdeal.τ).loc Cert.AdamWOutReferenceIdeal.main_arg3) = m ((c.tc : Thread Cert.AdamWOutReferenceIdeal.nD Cert.AdamWOutReferenceIdeal.τ).loc Cert.AdamWOutReferenceIdeal.main_arg3))
      ∧ r.2.sem = fun _ => 0)

def quiescent_AdamFfn1 [hAdamFfn1 : Cert.AdamFfn1.Facts] : Prop :=
  ∀ (m : (ℓ : Loc Cert.AdamFfn1.nD Cert.AdamFfn1.τ Cert.AdamFfn1.sig) → Buf (Elt Bits) ℓ) (g : Dev Cert.AdamFfn1.nD → PrngReg), Pre_AdamFfn1 m →
    θ_run (Cert.AdamFfn1.defs (F := Bits)) (onTc (τ := Cert.AdamFfn1.τ) (Cert.AdamFfn1.main (F := Bits))) ⟨m, fun _ => 0, g⟩ (fun r => (∀ c : Dev Cert.AdamFfn1.nD,
      r.2.mem ((c.tc : Thread Cert.AdamFfn1.nD Cert.AdamFfn1.τ).loc Cert.AdamFfn1.main_arg0) = m ((c.tc : Thread Cert.AdamFfn1.nD Cert.AdamFfn1.τ).loc Cert.AdamFfn1.main_arg0)
      ∧ r.2.mem ((c.tc : Thread Cert.AdamFfn1.nD Cert.AdamFfn1.τ).loc Cert.AdamFfn1.main_arg1) = m ((c.tc : Thread Cert.AdamFfn1.nD Cert.AdamFfn1.τ).loc Cert.AdamFfn1.main_arg1)
      ∧ r.2.mem ((c.tc : Thread Cert.AdamFfn1.nD Cert.AdamFfn1.τ).loc Cert.AdamFfn1.main_arg2) = m ((c.tc : Thread Cert.AdamFfn1.nD Cert.AdamFfn1.τ).loc Cert.AdamFfn1.main_arg2)
      ∧ r.2.mem ((c.tc : Thread Cert.AdamFfn1.nD Cert.AdamFfn1.τ).loc Cert.AdamFfn1.main_arg3) = m ((c.tc : Thread Cert.AdamFfn1.nD Cert.AdamFfn1.τ).loc Cert.AdamFfn1.main_arg3))
      ∧ r.2.sem = fun _ => 0)

def quiescent_AdamFfn1Ideal [hAdamFfn1Ideal : Cert.AdamFfn1Ideal.Facts] : Prop :=
  ∀ (m : (ℓ : Loc Cert.AdamFfn1Ideal.nD Cert.AdamFfn1Ideal.τ Cert.AdamFfn1Ideal.sig) → Buf (Elt Ideal) ℓ) (g : Dev Cert.AdamFfn1Ideal.nD → PrngReg), Pre_AdamFfn1Ideal m →
    θ_run (Cert.AdamFfn1Ideal.defs (F := Ideal)) (onTc (τ := Cert.AdamFfn1Ideal.τ) (Cert.AdamFfn1Ideal.main (F := Ideal))) ⟨m, fun _ => 0, g⟩ (fun r => (∀ c : Dev Cert.AdamFfn1Ideal.nD,
      r.2.mem ((c.tc : Thread Cert.AdamFfn1Ideal.nD Cert.AdamFfn1Ideal.τ).loc Cert.AdamFfn1Ideal.main_arg0) = m ((c.tc : Thread Cert.AdamFfn1Ideal.nD Cert.AdamFfn1Ideal.τ).loc Cert.AdamFfn1Ideal.main_arg0)
      ∧ r.2.mem ((c.tc : Thread Cert.AdamFfn1Ideal.nD Cert.AdamFfn1Ideal.τ).loc Cert.AdamFfn1Ideal.main_arg1) = m ((c.tc : Thread Cert.AdamFfn1Ideal.nD Cert.AdamFfn1Ideal.τ).loc Cert.AdamFfn1Ideal.main_arg1)
      ∧ r.2.mem ((c.tc : Thread Cert.AdamFfn1Ideal.nD Cert.AdamFfn1Ideal.τ).loc Cert.AdamFfn1Ideal.main_arg2) = m ((c.tc : Thread Cert.AdamFfn1Ideal.nD Cert.AdamFfn1Ideal.τ).loc Cert.AdamFfn1Ideal.main_arg2)
      ∧ r.2.mem ((c.tc : Thread Cert.AdamFfn1Ideal.nD Cert.AdamFfn1Ideal.τ).loc Cert.AdamFfn1Ideal.main_arg3) = m ((c.tc : Thread Cert.AdamFfn1Ideal.nD Cert.AdamFfn1Ideal.τ).loc Cert.AdamFfn1Ideal.main_arg3))
      ∧ r.2.sem = fun _ => 0)

def quiescent_AdamFfn1ReferenceIdeal [hAdamFfn1ReferenceIdeal : Cert.AdamFfn1ReferenceIdeal.Facts] : Prop :=
  ∀ (m : (ℓ : Loc Cert.AdamFfn1ReferenceIdeal.nD Cert.AdamFfn1ReferenceIdeal.τ Cert.AdamFfn1ReferenceIdeal.sig) → Buf (Elt Ideal) ℓ) (g : Dev Cert.AdamFfn1ReferenceIdeal.nD → PrngReg), Pre_AdamFfn1ReferenceIdeal m →
    θ_run (Cert.AdamFfn1ReferenceIdeal.defs (F := Ideal)) (onTc (τ := Cert.AdamFfn1ReferenceIdeal.τ) (Cert.AdamFfn1ReferenceIdeal.main (F := Ideal))) ⟨m, fun _ => 0, g⟩ (fun r => (∀ c : Dev Cert.AdamFfn1ReferenceIdeal.nD,
      r.2.mem ((c.tc : Thread Cert.AdamFfn1ReferenceIdeal.nD Cert.AdamFfn1ReferenceIdeal.τ).loc Cert.AdamFfn1ReferenceIdeal.main_arg0) = m ((c.tc : Thread Cert.AdamFfn1ReferenceIdeal.nD Cert.AdamFfn1ReferenceIdeal.τ).loc Cert.AdamFfn1ReferenceIdeal.main_arg0)
      ∧ r.2.mem ((c.tc : Thread Cert.AdamFfn1ReferenceIdeal.nD Cert.AdamFfn1ReferenceIdeal.τ).loc Cert.AdamFfn1ReferenceIdeal.main_arg1) = m ((c.tc : Thread Cert.AdamFfn1ReferenceIdeal.nD Cert.AdamFfn1ReferenceIdeal.τ).loc Cert.AdamFfn1ReferenceIdeal.main_arg1)
      ∧ r.2.mem ((c.tc : Thread Cert.AdamFfn1ReferenceIdeal.nD Cert.AdamFfn1ReferenceIdeal.τ).loc Cert.AdamFfn1ReferenceIdeal.main_arg2) = m ((c.tc : Thread Cert.AdamFfn1ReferenceIdeal.nD Cert.AdamFfn1ReferenceIdeal.τ).loc Cert.AdamFfn1ReferenceIdeal.main_arg2)
      ∧ r.2.mem ((c.tc : Thread Cert.AdamFfn1ReferenceIdeal.nD Cert.AdamFfn1ReferenceIdeal.τ).loc Cert.AdamFfn1ReferenceIdeal.main_arg3) = m ((c.tc : Thread Cert.AdamFfn1ReferenceIdeal.nD Cert.AdamFfn1ReferenceIdeal.τ).loc Cert.AdamFfn1ReferenceIdeal.main_arg3))
      ∧ r.2.sem = fun _ => 0)

def quiescent_AdamFfn2 [hAdamFfn2 : Cert.AdamFfn2.Facts] : Prop :=
  ∀ (m : (ℓ : Loc Cert.AdamFfn2.nD Cert.AdamFfn2.τ Cert.AdamFfn2.sig) → Buf (Elt Bits) ℓ) (g : Dev Cert.AdamFfn2.nD → PrngReg), Pre_AdamFfn2 m →
    θ_run (Cert.AdamFfn2.defs (F := Bits)) (onTc (τ := Cert.AdamFfn2.τ) (Cert.AdamFfn2.main (F := Bits))) ⟨m, fun _ => 0, g⟩ (fun r => (∀ c : Dev Cert.AdamFfn2.nD,
      r.2.mem ((c.tc : Thread Cert.AdamFfn2.nD Cert.AdamFfn2.τ).loc Cert.AdamFfn2.main_arg0) = m ((c.tc : Thread Cert.AdamFfn2.nD Cert.AdamFfn2.τ).loc Cert.AdamFfn2.main_arg0)
      ∧ r.2.mem ((c.tc : Thread Cert.AdamFfn2.nD Cert.AdamFfn2.τ).loc Cert.AdamFfn2.main_arg1) = m ((c.tc : Thread Cert.AdamFfn2.nD Cert.AdamFfn2.τ).loc Cert.AdamFfn2.main_arg1)
      ∧ r.2.mem ((c.tc : Thread Cert.AdamFfn2.nD Cert.AdamFfn2.τ).loc Cert.AdamFfn2.main_arg2) = m ((c.tc : Thread Cert.AdamFfn2.nD Cert.AdamFfn2.τ).loc Cert.AdamFfn2.main_arg2)
      ∧ r.2.mem ((c.tc : Thread Cert.AdamFfn2.nD Cert.AdamFfn2.τ).loc Cert.AdamFfn2.main_arg3) = m ((c.tc : Thread Cert.AdamFfn2.nD Cert.AdamFfn2.τ).loc Cert.AdamFfn2.main_arg3))
      ∧ r.2.sem = fun _ => 0)

def quiescent_AdamFfn2Ideal [hAdamFfn2Ideal : Cert.AdamFfn2Ideal.Facts] : Prop :=
  ∀ (m : (ℓ : Loc Cert.AdamFfn2Ideal.nD Cert.AdamFfn2Ideal.τ Cert.AdamFfn2Ideal.sig) → Buf (Elt Ideal) ℓ) (g : Dev Cert.AdamFfn2Ideal.nD → PrngReg), Pre_AdamFfn2Ideal m →
    θ_run (Cert.AdamFfn2Ideal.defs (F := Ideal)) (onTc (τ := Cert.AdamFfn2Ideal.τ) (Cert.AdamFfn2Ideal.main (F := Ideal))) ⟨m, fun _ => 0, g⟩ (fun r => (∀ c : Dev Cert.AdamFfn2Ideal.nD,
      r.2.mem ((c.tc : Thread Cert.AdamFfn2Ideal.nD Cert.AdamFfn2Ideal.τ).loc Cert.AdamFfn2Ideal.main_arg0) = m ((c.tc : Thread Cert.AdamFfn2Ideal.nD Cert.AdamFfn2Ideal.τ).loc Cert.AdamFfn2Ideal.main_arg0)
      ∧ r.2.mem ((c.tc : Thread Cert.AdamFfn2Ideal.nD Cert.AdamFfn2Ideal.τ).loc Cert.AdamFfn2Ideal.main_arg1) = m ((c.tc : Thread Cert.AdamFfn2Ideal.nD Cert.AdamFfn2Ideal.τ).loc Cert.AdamFfn2Ideal.main_arg1)
      ∧ r.2.mem ((c.tc : Thread Cert.AdamFfn2Ideal.nD Cert.AdamFfn2Ideal.τ).loc Cert.AdamFfn2Ideal.main_arg2) = m ((c.tc : Thread Cert.AdamFfn2Ideal.nD Cert.AdamFfn2Ideal.τ).loc Cert.AdamFfn2Ideal.main_arg2)
      ∧ r.2.mem ((c.tc : Thread Cert.AdamFfn2Ideal.nD Cert.AdamFfn2Ideal.τ).loc Cert.AdamFfn2Ideal.main_arg3) = m ((c.tc : Thread Cert.AdamFfn2Ideal.nD Cert.AdamFfn2Ideal.τ).loc Cert.AdamFfn2Ideal.main_arg3))
      ∧ r.2.sem = fun _ => 0)

def quiescent_AdamFfn2ReferenceIdeal [hAdamFfn2ReferenceIdeal : Cert.AdamFfn2ReferenceIdeal.Facts] : Prop :=
  ∀ (m : (ℓ : Loc Cert.AdamFfn2ReferenceIdeal.nD Cert.AdamFfn2ReferenceIdeal.τ Cert.AdamFfn2ReferenceIdeal.sig) → Buf (Elt Ideal) ℓ) (g : Dev Cert.AdamFfn2ReferenceIdeal.nD → PrngReg), Pre_AdamFfn2ReferenceIdeal m →
    θ_run (Cert.AdamFfn2ReferenceIdeal.defs (F := Ideal)) (onTc (τ := Cert.AdamFfn2ReferenceIdeal.τ) (Cert.AdamFfn2ReferenceIdeal.main (F := Ideal))) ⟨m, fun _ => 0, g⟩ (fun r => (∀ c : Dev Cert.AdamFfn2ReferenceIdeal.nD,
      r.2.mem ((c.tc : Thread Cert.AdamFfn2ReferenceIdeal.nD Cert.AdamFfn2ReferenceIdeal.τ).loc Cert.AdamFfn2ReferenceIdeal.main_arg0) = m ((c.tc : Thread Cert.AdamFfn2ReferenceIdeal.nD Cert.AdamFfn2ReferenceIdeal.τ).loc Cert.AdamFfn2ReferenceIdeal.main_arg0)
      ∧ r.2.mem ((c.tc : Thread Cert.AdamFfn2ReferenceIdeal.nD Cert.AdamFfn2ReferenceIdeal.τ).loc Cert.AdamFfn2ReferenceIdeal.main_arg1) = m ((c.tc : Thread Cert.AdamFfn2ReferenceIdeal.nD Cert.AdamFfn2ReferenceIdeal.τ).loc Cert.AdamFfn2ReferenceIdeal.main_arg1)
      ∧ r.2.mem ((c.tc : Thread Cert.AdamFfn2ReferenceIdeal.nD Cert.AdamFfn2ReferenceIdeal.τ).loc Cert.AdamFfn2ReferenceIdeal.main_arg2) = m ((c.tc : Thread Cert.AdamFfn2ReferenceIdeal.nD Cert.AdamFfn2ReferenceIdeal.τ).loc Cert.AdamFfn2ReferenceIdeal.main_arg2)
      ∧ r.2.mem ((c.tc : Thread Cert.AdamFfn2ReferenceIdeal.nD Cert.AdamFfn2ReferenceIdeal.τ).loc Cert.AdamFfn2ReferenceIdeal.main_arg3) = m ((c.tc : Thread Cert.AdamFfn2ReferenceIdeal.nD Cert.AdamFfn2ReferenceIdeal.τ).loc Cert.AdamFfn2ReferenceIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluReferenceIdeal [hAdamGluReferenceIdeal : Cert.AdamGluReferenceIdeal.Facts] : Prop :=
  ∀ (m : (ℓ : Loc Cert.AdamGluReferenceIdeal.nD Cert.AdamGluReferenceIdeal.τ Cert.AdamGluReferenceIdeal.sig) → Buf (Elt Ideal) ℓ) (g : Dev Cert.AdamGluReferenceIdeal.nD → PrngReg), Pre_AdamGluReferenceIdeal m →
    θ_run (Cert.AdamGluReferenceIdeal.defs (F := Ideal)) (onTc (τ := Cert.AdamGluReferenceIdeal.τ) (Cert.AdamGluReferenceIdeal.main (F := Ideal))) ⟨m, fun _ => 0, g⟩ (fun r => (∀ c : Dev Cert.AdamGluReferenceIdeal.nD,
      r.2.mem ((c.tc : Thread Cert.AdamGluReferenceIdeal.nD Cert.AdamGluReferenceIdeal.τ).loc Cert.AdamGluReferenceIdeal.main_arg0) = m ((c.tc : Thread Cert.AdamGluReferenceIdeal.nD Cert.AdamGluReferenceIdeal.τ).loc Cert.AdamGluReferenceIdeal.main_arg0)
      ∧ r.2.mem ((c.tc : Thread Cert.AdamGluReferenceIdeal.nD Cert.AdamGluReferenceIdeal.τ).loc Cert.AdamGluReferenceIdeal.main_arg1) = m ((c.tc : Thread Cert.AdamGluReferenceIdeal.nD Cert.AdamGluReferenceIdeal.τ).loc Cert.AdamGluReferenceIdeal.main_arg1)
      ∧ r.2.mem ((c.tc : Thread Cert.AdamGluReferenceIdeal.nD Cert.AdamGluReferenceIdeal.τ).loc Cert.AdamGluReferenceIdeal.main_arg2) = m ((c.tc : Thread Cert.AdamGluReferenceIdeal.nD Cert.AdamGluReferenceIdeal.τ).loc Cert.AdamGluReferenceIdeal.main_arg2)
      ∧ r.2.mem ((c.tc : Thread Cert.AdamGluReferenceIdeal.nD Cert.AdamGluReferenceIdeal.τ).loc Cert.AdamGluReferenceIdeal.main_arg3) = m ((c.tc : Thread Cert.AdamGluReferenceIdeal.nD Cert.AdamGluReferenceIdeal.τ).loc Cert.AdamGluReferenceIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaReferenceIdeal [hAdamAdaReferenceIdeal : Cert.AdamAdaReferenceIdeal.Facts] : Prop :=
  ∀ (m : (ℓ : Loc Cert.AdamAdaReferenceIdeal.nD Cert.AdamAdaReferenceIdeal.τ Cert.AdamAdaReferenceIdeal.sig) → Buf (Elt Ideal) ℓ) (g : Dev Cert.AdamAdaReferenceIdeal.nD → PrngReg), Pre_AdamAdaReferenceIdeal m →
    θ_run (Cert.AdamAdaReferenceIdeal.defs (F := Ideal)) (onTc (τ := Cert.AdamAdaReferenceIdeal.τ) (Cert.AdamAdaReferenceIdeal.main (F := Ideal))) ⟨m, fun _ => 0, g⟩ (fun r => (∀ c : Dev Cert.AdamAdaReferenceIdeal.nD,
      r.2.mem ((c.tc : Thread Cert.AdamAdaReferenceIdeal.nD Cert.AdamAdaReferenceIdeal.τ).loc Cert.AdamAdaReferenceIdeal.main_arg0) = m ((c.tc : Thread Cert.AdamAdaReferenceIdeal.nD Cert.AdamAdaReferenceIdeal.τ).loc Cert.AdamAdaReferenceIdeal.main_arg0)
      ∧ r.2.mem ((c.tc : Thread Cert.AdamAdaReferenceIdeal.nD Cert.AdamAdaReferenceIdeal.τ).loc Cert.AdamAdaReferenceIdeal.main_arg1) = m ((c.tc : Thread Cert.AdamAdaReferenceIdeal.nD Cert.AdamAdaReferenceIdeal.τ).loc Cert.AdamAdaReferenceIdeal.main_arg1)
      ∧ r.2.mem ((c.tc : Thread Cert.AdamAdaReferenceIdeal.nD Cert.AdamAdaReferenceIdeal.τ).loc Cert.AdamAdaReferenceIdeal.main_arg2) = m ((c.tc : Thread Cert.AdamAdaReferenceIdeal.nD Cert.AdamAdaReferenceIdeal.τ).loc Cert.AdamAdaReferenceIdeal.main_arg2)
      ∧ r.2.mem ((c.tc : Thread Cert.AdamAdaReferenceIdeal.nD Cert.AdamAdaReferenceIdeal.τ).loc Cert.AdamAdaReferenceIdeal.main_arg3) = m ((c.tc : Thread Cert.AdamAdaReferenceIdeal.nD Cert.AdamAdaReferenceIdeal.τ).loc Cert.AdamAdaReferenceIdeal.main_arg3))
      ∧ r.2.sem = fun _ => 0)

def quiescent_AdamRk [hAdamRk : Cert.AdamRk.Facts] : Prop :=
  ∀ (m : (ℓ : Loc Cert.AdamRk.nD Cert.AdamRk.τ Cert.AdamRk.sig) → Buf (Elt Bits) ℓ) (g : Dev Cert.AdamRk.nD → PrngReg), Pre_AdamRk m →
    θ_run (Cert.AdamRk.defs (F := Bits)) (onTc (τ := Cert.AdamRk.τ) (Cert.AdamRk.main (F := Bits))) ⟨m, fun _ => 0, g⟩ (fun r => (∀ c : Dev Cert.AdamRk.nD,
      r.2.mem ((c.tc : Thread Cert.AdamRk.nD Cert.AdamRk.τ).loc Cert.AdamRk.main_arg0) = m ((c.tc : Thread Cert.AdamRk.nD Cert.AdamRk.τ).loc Cert.AdamRk.main_arg0)
      ∧ r.2.mem ((c.tc : Thread Cert.AdamRk.nD Cert.AdamRk.τ).loc Cert.AdamRk.main_arg1) = m ((c.tc : Thread Cert.AdamRk.nD Cert.AdamRk.τ).loc Cert.AdamRk.main_arg1)
      ∧ r.2.mem ((c.tc : Thread Cert.AdamRk.nD Cert.AdamRk.τ).loc Cert.AdamRk.main_arg2) = m ((c.tc : Thread Cert.AdamRk.nD Cert.AdamRk.τ).loc Cert.AdamRk.main_arg2)
      ∧ r.2.mem ((c.tc : Thread Cert.AdamRk.nD Cert.AdamRk.τ).loc Cert.AdamRk.main_arg3) = m ((c.tc : Thread Cert.AdamRk.nD Cert.AdamRk.τ).loc Cert.AdamRk.main_arg3))
      ∧ r.2.sem = fun _ => 0)

def quiescent_AdamRkIdeal [hAdamRkIdeal : Cert.AdamRkIdeal.Facts] : Prop :=
  ∀ (m : (ℓ : Loc Cert.AdamRkIdeal.nD Cert.AdamRkIdeal.τ Cert.AdamRkIdeal.sig) → Buf (Elt Ideal) ℓ) (g : Dev Cert.AdamRkIdeal.nD → PrngReg), Pre_AdamRkIdeal m →
    θ_run (Cert.AdamRkIdeal.defs (F := Ideal)) (onTc (τ := Cert.AdamRkIdeal.τ) (Cert.AdamRkIdeal.main (F := Ideal))) ⟨m, fun _ => 0, g⟩ (fun r => (∀ c : Dev Cert.AdamRkIdeal.nD,
      r.2.mem ((c.tc : Thread Cert.AdamRkIdeal.nD Cert.AdamRkIdeal.τ).loc Cert.AdamRkIdeal.main_arg0) = m ((c.tc : Thread Cert.AdamRkIdeal.nD Cert.AdamRkIdeal.τ).loc Cert.AdamRkIdeal.main_arg0)
      ∧ r.2.mem ((c.tc : Thread Cert.AdamRkIdeal.nD Cert.AdamRkIdeal.τ).loc Cert.AdamRkIdeal.main_arg1) = m ((c.tc : Thread Cert.AdamRkIdeal.nD Cert.AdamRkIdeal.τ).loc Cert.AdamRkIdeal.main_arg1)
      ∧ r.2.mem ((c.tc : Thread Cert.AdamRkIdeal.nD Cert.AdamRkIdeal.τ).loc Cert.AdamRkIdeal.main_arg2) = m ((c.tc : Thread Cert.AdamRkIdeal.nD Cert.AdamRkIdeal.τ).loc Cert.AdamRkIdeal.main_arg2)
      ∧ r.2.mem ((c.tc : Thread Cert.AdamRkIdeal.nD Cert.AdamRkIdeal.τ).loc Cert.AdamRkIdeal.main_arg3) = m ((c.tc : Thread Cert.AdamRkIdeal.nD Cert.AdamRkIdeal.τ).loc Cert.AdamRkIdeal.main_arg3))
      ∧ r.2.sem = fun _ => 0)

def quiescent_AdamRkReferenceIdeal [hAdamRkReferenceIdeal : Cert.AdamRkReferenceIdeal.Facts] : Prop :=
  ∀ (m : (ℓ : Loc Cert.AdamRkReferenceIdeal.nD Cert.AdamRkReferenceIdeal.τ Cert.AdamRkReferenceIdeal.sig) → Buf (Elt Ideal) ℓ) (g : Dev Cert.AdamRkReferenceIdeal.nD → PrngReg), Pre_AdamRkReferenceIdeal m →
    θ_run (Cert.AdamRkReferenceIdeal.defs (F := Ideal)) (onTc (τ := Cert.AdamRkReferenceIdeal.τ) (Cert.AdamRkReferenceIdeal.main (F := Ideal))) ⟨m, fun _ => 0, g⟩ (fun r => (∀ c : Dev Cert.AdamRkReferenceIdeal.nD,
      r.2.mem ((c.tc : Thread Cert.AdamRkReferenceIdeal.nD Cert.AdamRkReferenceIdeal.τ).loc Cert.AdamRkReferenceIdeal.main_arg0) = m ((c.tc : Thread Cert.AdamRkReferenceIdeal.nD Cert.AdamRkReferenceIdeal.τ).loc Cert.AdamRkReferenceIdeal.main_arg0)
      ∧ r.2.mem ((c.tc : Thread Cert.AdamRkReferenceIdeal.nD Cert.AdamRkReferenceIdeal.τ).loc Cert.AdamRkReferenceIdeal.main_arg1) = m ((c.tc : Thread Cert.AdamRkReferenceIdeal.nD Cert.AdamRkReferenceIdeal.τ).loc Cert.AdamRkReferenceIdeal.main_arg1)
      ∧ r.2.mem ((c.tc : Thread Cert.AdamRkReferenceIdeal.nD Cert.AdamRkReferenceIdeal.τ).loc Cert.AdamRkReferenceIdeal.main_arg2) = m ((c.tc : Thread Cert.AdamRkReferenceIdeal.nD Cert.AdamRkReferenceIdeal.τ).loc Cert.AdamRkReferenceIdeal.main_arg2)
      ∧ r.2.mem ((c.tc : Thread Cert.AdamRkReferenceIdeal.nD Cert.AdamRkReferenceIdeal.τ).loc Cert.AdamRkReferenceIdeal.main_arg3) = m ((c.tc : Thread Cert.AdamRkReferenceIdeal.nD Cert.AdamRkReferenceIdeal.τ).loc Cert.AdamRkReferenceIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_AdamLog [hAdamLog : Cert.AdamLog.Facts] : Prop :=
  ∀ (m : (ℓ : Loc Cert.AdamLog.nD Cert.AdamLog.τ Cert.AdamLog.sig) → Buf (Elt Bits) ℓ) (g : Dev Cert.AdamLog.nD → PrngReg), Pre_AdamLog m →
    θ_run (Cert.AdamLog.defs (F := Bits)) (onTc (τ := Cert.AdamLog.τ) (Cert.AdamLog.main (F := Bits))) ⟨m, fun _ => 0, g⟩ (fun r => (∀ c : Dev Cert.AdamLog.nD,
      r.2.mem ((c.tc : Thread Cert.AdamLog.nD Cert.AdamLog.τ).loc Cert.AdamLog.main_arg0) = m ((c.tc : Thread Cert.AdamLog.nD Cert.AdamLog.τ).loc Cert.AdamLog.main_arg0)
      ∧ r.2.mem ((c.tc : Thread Cert.AdamLog.nD Cert.AdamLog.τ).loc Cert.AdamLog.main_arg1) = m ((c.tc : Thread Cert.AdamLog.nD Cert.AdamLog.τ).loc Cert.AdamLog.main_arg1)
      ∧ r.2.mem ((c.tc : Thread Cert.AdamLog.nD Cert.AdamLog.τ).loc Cert.AdamLog.main_arg2) = m ((c.tc : Thread Cert.AdamLog.nD Cert.AdamLog.τ).loc Cert.AdamLog.main_arg2)
      ∧ r.2.mem ((c.tc : Thread Cert.AdamLog.nD Cert.AdamLog.τ).loc Cert.AdamLog.main_arg3) = m ((c.tc : Thread Cert.AdamLog.nD Cert.AdamLog.τ).loc Cert.AdamLog.main_arg3))
      ∧ r.2.sem = fun _ => 0)

def quiescent_AdamLogIdeal [hAdamLogIdeal : Cert.AdamLogIdeal.Facts] : Prop :=
  ∀ (m : (ℓ : Loc Cert.AdamLogIdeal.nD Cert.AdamLogIdeal.τ Cert.AdamLogIdeal.sig) → Buf (Elt Ideal) ℓ) (g : Dev Cert.AdamLogIdeal.nD → PrngReg), Pre_AdamLogIdeal m →
    θ_run (Cert.AdamLogIdeal.defs (F := Ideal)) (onTc (τ := Cert.AdamLogIdeal.τ) (Cert.AdamLogIdeal.main (F := Ideal))) ⟨m, fun _ => 0, g⟩ (fun r => (∀ c : Dev Cert.AdamLogIdeal.nD,
      r.2.mem ((c.tc : Thread Cert.AdamLogIdeal.nD Cert.AdamLogIdeal.τ).loc Cert.AdamLogIdeal.main_arg0) = m ((c.tc : Thread Cert.AdamLogIdeal.nD Cert.AdamLogIdeal.τ).loc Cert.AdamLogIdeal.main_arg0)
      ∧ r.2.mem ((c.tc : Thread Cert.AdamLogIdeal.nD Cert.AdamLogIdeal.τ).loc Cert.AdamLogIdeal.main_arg1) = m ((c.tc : Thread Cert.AdamLogIdeal.nD Cert.AdamLogIdeal.τ).loc Cert.AdamLogIdeal.main_arg1)
      ∧ r.2.mem ((c.tc : Thread Cert.AdamLogIdeal.nD Cert.AdamLogIdeal.τ).loc Cert.AdamLogIdeal.main_arg2) = m ((c.tc : Thread Cert.AdamLogIdeal.nD Cert.AdamLogIdeal.τ).loc Cert.AdamLogIdeal.main_arg2)
      ∧ r.2.mem ((c.tc : Thread Cert.AdamLogIdeal.nD Cert.AdamLogIdeal.τ).loc Cert.AdamLogIdeal.main_arg3) = m ((c.tc : Thread Cert.AdamLogIdeal.nD Cert.AdamLogIdeal.τ).loc Cert.AdamLogIdeal.main_arg3))
      ∧ r.2.sem = fun _ => 0)

def quiescent_AdamLogReferenceIdeal [hAdamLogReferenceIdeal : Cert.AdamLogReferenceIdeal.Facts] : Prop :=
  ∀ (m : (ℓ : Loc Cert.AdamLogReferenceIdeal.nD Cert.AdamLogReferenceIdeal.τ Cert.AdamLogReferenceIdeal.sig) → Buf (Elt Ideal) ℓ) (g : Dev Cert.AdamLogReferenceIdeal.nD → PrngReg), Pre_AdamLogReferenceIdeal m →
    θ_run (Cert.AdamLogReferenceIdeal.defs (F := Ideal)) (onTc (τ := Cert.AdamLogReferenceIdeal.τ) (Cert.AdamLogReferenceIdeal.main (F := Ideal))) ⟨m, fun _ => 0, g⟩ (fun r => (∀ c : Dev Cert.AdamLogReferenceIdeal.nD,
      r.2.mem ((c.tc : Thread Cert.AdamLogReferenceIdeal.nD Cert.AdamLogReferenceIdeal.τ).loc Cert.AdamLogReferenceIdeal.main_arg0) = m ((c.tc : Thread Cert.AdamLogReferenceIdeal.nD Cert.AdamLogReferenceIdeal.τ).loc Cert.AdamLogReferenceIdeal.main_arg0)
      ∧ r.2.mem ((c.tc : Thread Cert.AdamLogReferenceIdeal.nD Cert.AdamLogReferenceIdeal.τ).loc Cert.AdamLogReferenceIdeal.main_arg1) = m ((c.tc : Thread Cert.AdamLogReferenceIdeal.nD Cert.AdamLogReferenceIdeal.τ).loc Cert.AdamLogReferenceIdeal.main_arg1)
      ∧ r.2.mem ((c.tc : Thread Cert.AdamLogReferenceIdeal.nD Cert.AdamLogReferenceIdeal.τ).loc Cert.AdamLogReferenceIdeal.main_arg2) = m ((c.tc : Thread Cert.AdamLogReferenceIdeal.nD Cert.AdamLogReferenceIdeal.τ).loc Cert.AdamLogReferenceIdeal.main_arg2)
      ∧ r.2.mem ((c.tc : Thread Cert.AdamLogReferenceIdeal.nD Cert.AdamLogReferenceIdeal.τ).loc Cert.AdamLogReferenceIdeal.main_arg3) = m ((c.tc : Thread Cert.AdamLogReferenceIdeal.nD Cert.AdamLogReferenceIdeal.τ).loc Cert.AdamLogReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_LossSum [hLossSum : Cert.LossSum.Facts] : Prop :=
  ∀ (m : (ℓ : Loc Cert.LossSum.nD Cert.LossSum.τ Cert.LossSum.sig) → Buf (Elt Bits) ℓ) (g : Dev Cert.LossSum.nD → PrngReg), Pre_LossSum m →
    θ_run (Cert.LossSum.defs (F := Bits)) (onTc (τ := Cert.LossSum.τ) (Cert.LossSum.main (F := Bits))) ⟨m, fun _ => 0, g⟩ (fun r => (∀ c : Dev Cert.LossSum.nD,
      r.2.mem ((c.tc : Thread Cert.LossSum.nD Cert.LossSum.τ).loc Cert.LossSum.main_arg0) = m ((c.tc : Thread Cert.LossSum.nD Cert.LossSum.τ).loc Cert.LossSum.main_arg0))
      ∧ r.2.sem = fun _ => 0)

def quiescent_LossSumIdeal [hLossSumIdeal : Cert.LossSumIdeal.Facts] : Prop :=
  ∀ (m : (ℓ : Loc Cert.LossSumIdeal.nD Cert.LossSumIdeal.τ Cert.LossSumIdeal.sig) → Buf (Elt Ideal) ℓ) (g : Dev Cert.LossSumIdeal.nD → PrngReg), Pre_LossSumIdeal m →
    θ_run (Cert.LossSumIdeal.defs (F := Ideal)) (onTc (τ := Cert.LossSumIdeal.τ) (Cert.LossSumIdeal.main (F := Ideal))) ⟨m, fun _ => 0, g⟩ (fun r => (∀ c : Dev Cert.LossSumIdeal.nD,
      r.2.mem ((c.tc : Thread Cert.LossSumIdeal.nD Cert.LossSumIdeal.τ).loc Cert.LossSumIdeal.main_arg0) = m ((c.tc : Thread Cert.LossSumIdeal.nD Cert.LossSumIdeal.τ).loc Cert.LossSumIdeal.main_arg0))
      ∧ r.2.sem = fun _ => 0)

def quiescent_LossSumReferenceIdeal [hLossSumReferenceIdeal : Cert.LossSumReferenceIdeal.Facts] : Prop :=
  ∀ (m : (ℓ : Loc Cert.LossSumReferenceIdeal.nD Cert.LossSumReferenceIdeal.τ Cert.LossSumReferenceIdeal.sig) → Buf (Elt Ideal) ℓ) (g : Dev Cert.LossSumReferenceIdeal.nD → PrngReg), Pre_LossSumReferenceIdeal m →
    θ_run (Cert.LossSumReferenceIdeal.defs (F := Ideal)) (onTc (τ := Cert.LossSumReferenceIdeal.τ) (Cert.LossSumReferenceIdeal.main (F := Ideal))) ⟨m, fun _ => 0, g⟩ (fun r => (∀ c : Dev Cert.LossSumReferenceIdeal.nD,
      r.2.mem ((c.tc : Thread Cert.LossSumReferenceIdeal.nD Cert.LossSumReferenceIdeal.τ).loc Cert.LossSumReferenceIdeal.main_arg0) = m ((c.tc : Thread Cert.LossSumReferenceIdeal.nD Cert.LossSumReferenceIdeal.τ).loc Cert.LossSumReferenceIdeal.main_arg0))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_OutMix [hOutMix : Cert.OutMix.Facts] : Prop :=
  ∀ (m : (ℓ : Loc Cert.OutMix.nD Cert.OutMix.τ Cert.OutMix.sig) → Buf (Elt Bits) ℓ) (g : Dev Cert.OutMix.nD → PrngReg), Pre_OutMix m →
    θ_run (Cert.OutMix.defs (F := Bits)) (onTc (τ := Cert.OutMix.τ) (Cert.OutMix.main (F := Bits))) ⟨m, fun _ => 0, g⟩ (fun r => (∀ c : Dev Cert.OutMix.nD,
      r.2.mem ((c.tc : Thread Cert.OutMix.nD Cert.OutMix.τ).loc Cert.OutMix.main_arg0) = m ((c.tc : Thread Cert.OutMix.nD Cert.OutMix.τ).loc Cert.OutMix.main_arg0)
      ∧ r.2.mem ((c.tc : Thread Cert.OutMix.nD Cert.OutMix.τ).loc Cert.OutMix.main_arg1) = m ((c.tc : Thread Cert.OutMix.nD Cert.OutMix.τ).loc Cert.OutMix.main_arg1))
      ∧ r.2.sem = fun _ => 0)

def quiescent_OutMixIdeal [hOutMixIdeal : Cert.OutMixIdeal.Facts] : Prop :=
  ∀ (m : (ℓ : Loc Cert.OutMixIdeal.nD Cert.OutMixIdeal.τ Cert.OutMixIdeal.sig) → Buf (Elt Ideal) ℓ) (g : Dev Cert.OutMixIdeal.nD → PrngReg), Pre_OutMixIdeal m →
    θ_run (Cert.OutMixIdeal.defs (F := Ideal)) (onTc (τ := Cert.OutMixIdeal.τ) (Cert.OutMixIdeal.main (F := Ideal))) ⟨m, fun _ => 0, g⟩ (fun r => (∀ c : Dev Cert.OutMixIdeal.nD,
      r.2.mem ((c.tc : Thread Cert.OutMixIdeal.nD Cert.OutMixIdeal.τ).loc Cert.OutMixIdeal.main_arg0) = m ((c.tc : Thread Cert.OutMixIdeal.nD Cert.OutMixIdeal.τ).loc Cert.OutMixIdeal.main_arg0)
      ∧ r.2.mem ((c.tc : Thread Cert.OutMixIdeal.nD Cert.OutMixIdeal.τ).loc Cert.OutMixIdeal.main_arg1) = m ((c.tc : Thread Cert.OutMixIdeal.nD Cert.OutMixIdeal.τ).loc Cert.OutMixIdeal.main_arg1))
      ∧ r.2.sem = fun _ => 0)

def quiescent_OutMixReferenceIdeal [hOutMixReferenceIdeal : Cert.OutMixReferenceIdeal.Facts] : Prop :=
  ∀ (m : (ℓ : Loc Cert.OutMixReferenceIdeal.nD Cert.OutMixReferenceIdeal.τ Cert.OutMixReferenceIdeal.sig) → Buf (Elt Ideal) ℓ) (g : Dev Cert.OutMixReferenceIdeal.nD → PrngReg), Pre_OutMixReferenceIdeal m →
    θ_run (Cert.OutMixReferenceIdeal.defs (F := Ideal)) (onTc (τ := Cert.OutMixReferenceIdeal.τ) (Cert.OutMixReferenceIdeal.main (F := Ideal))) ⟨m, fun _ => 0, g⟩ (fun r => (∀ c : Dev Cert.OutMixReferenceIdeal.nD,
      r.2.mem ((c.tc : Thread Cert.OutMixReferenceIdeal.nD Cert.OutMixReferenceIdeal.τ).loc Cert.OutMixReferenceIdeal.main_arg0) = m ((c.tc : Thread Cert.OutMixReferenceIdeal.nD Cert.OutMixReferenceIdeal.τ).loc Cert.OutMixReferenceIdeal.main_arg0)
      ∧ r.2.mem ((c.tc : Thread Cert.OutMixReferenceIdeal.nD Cert.OutMixReferenceIdeal.τ).loc Cert.OutMixReferenceIdeal.main_arg1) = m ((c.tc : Thread Cert.OutMixReferenceIdeal.nD Cert.OutMixReferenceIdeal.τ).loc Cert.OutMixReferenceIdeal.main_arg1))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1))
      ∧ r.2.sem = fun _ => 0)

def quiescent_Ffn1ReferenceIdeal [hFfn1ReferenceIdeal : Cert.Ffn1ReferenceIdeal.Facts] : Prop :=
  ∀ (m : (ℓ : Loc Cert.Ffn1ReferenceIdeal.nD Cert.Ffn1ReferenceIdeal.τ Cert.Ffn1ReferenceIdeal.sig) → Buf (Elt Ideal) ℓ) (g : Dev Cert.Ffn1ReferenceIdeal.nD → PrngReg), Pre_Ffn1ReferenceIdeal m →
    θ_run (Cert.Ffn1ReferenceIdeal.defs (F := Ideal)) (onTc (τ := Cert.Ffn1ReferenceIdeal.τ) (Cert.Ffn1ReferenceIdeal.main (F := Ideal))) ⟨m, fun _ => 0, g⟩ (fun r => (∀ c : Dev Cert.Ffn1ReferenceIdeal.nD,
      r.2.mem ((c.tc : Thread Cert.Ffn1ReferenceIdeal.nD Cert.Ffn1ReferenceIdeal.τ).loc Cert.Ffn1ReferenceIdeal.main_arg0) = m ((c.tc : Thread Cert.Ffn1ReferenceIdeal.nD Cert.Ffn1ReferenceIdeal.τ).loc Cert.Ffn1ReferenceIdeal.main_arg0)
      ∧ r.2.mem ((c.tc : Thread Cert.Ffn1ReferenceIdeal.nD Cert.Ffn1ReferenceIdeal.τ).loc Cert.Ffn1ReferenceIdeal.main_arg1) = m ((c.tc : Thread Cert.Ffn1ReferenceIdeal.nD Cert.Ffn1ReferenceIdeal.τ).loc Cert.Ffn1ReferenceIdeal.main_arg1))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1))
      ∧ r.2.sem = fun _ => 0)

def quiescent_Ffn2ReferenceIdeal [hFfn2ReferenceIdeal : Cert.Ffn2ReferenceIdeal.Facts] : Prop :=
  ∀ (m : (ℓ : Loc Cert.Ffn2ReferenceIdeal.nD Cert.Ffn2ReferenceIdeal.τ Cert.Ffn2ReferenceIdeal.sig) → Buf (Elt Ideal) ℓ) (g : Dev Cert.Ffn2ReferenceIdeal.nD → PrngReg), Pre_Ffn2ReferenceIdeal m →
    θ_run (Cert.Ffn2ReferenceIdeal.defs (F := Ideal)) (onTc (τ := Cert.Ffn2ReferenceIdeal.τ) (Cert.Ffn2ReferenceIdeal.main (F := Ideal))) ⟨m, fun _ => 0, g⟩ (fun r => (∀ c : Dev Cert.Ffn2ReferenceIdeal.nD,
      r.2.mem ((c.tc : Thread Cert.Ffn2ReferenceIdeal.nD Cert.Ffn2ReferenceIdeal.τ).loc Cert.Ffn2ReferenceIdeal.main_arg0) = m ((c.tc : Thread Cert.Ffn2ReferenceIdeal.nD Cert.Ffn2ReferenceIdeal.τ).loc Cert.Ffn2ReferenceIdeal.main_arg0)
      ∧ r.2.mem ((c.tc : Thread Cert.Ffn2ReferenceIdeal.nD Cert.Ffn2ReferenceIdeal.τ).loc Cert.Ffn2ReferenceIdeal.main_arg1) = m ((c.tc : Thread Cert.Ffn2ReferenceIdeal.nD Cert.Ffn2ReferenceIdeal.τ).loc Cert.Ffn2ReferenceIdeal.main_arg1))
      ∧ r.2.sem = fun _ => 0)

def quiescent_DFfn2 [hDFfn2 : Cert.DFfn2.Facts] : Prop :=
  ∀ (m : (ℓ : Loc Cert.DFfn2.nD Cert.DFfn2.τ Cert.DFfn2.sig) → Buf (Elt Bits) ℓ) (g : Dev Cert.DFfn2.nD → PrngReg), Pre_DFfn2 m →
    θ_run (Cert.DFfn2.defs (F := Bits)) (onTc (τ := Cert.DFfn2.τ) (Cert.DFfn2.main (F := Bits))) ⟨m, fun _ => 0, g⟩ (fun r => (∀ c : Dev Cert.DFfn2.nD,
      r.2.mem ((c.tc : Thread Cert.DFfn2.nD Cert.DFfn2.τ).loc Cert.DFfn2.main_arg0) = m ((c.tc : Thread Cert.DFfn2.nD Cert.DFfn2.τ).loc Cert.DFfn2.main_arg0)
      ∧ r.2.mem ((c.tc : Thread Cert.DFfn2.nD Cert.DFfn2.τ).loc Cert.DFfn2.main_arg1) = m ((c.tc : Thread Cert.DFfn2.nD Cert.DFfn2.τ).loc Cert.DFfn2.main_arg1)
      ∧ r.2.mem ((c.tc : Thread Cert.DFfn2.nD Cert.DFfn2.τ).loc Cert.DFfn2.main_arg2) = m ((c.tc : Thread Cert.DFfn2.nD Cert.DFfn2.τ).loc Cert.DFfn2.main_arg2))
      ∧ r.2.sem = fun _ => 0)

def quiescent_DFfn2Ideal [hDFfn2Ideal : Cert.DFfn2Ideal.Facts] : Prop :=
  ∀ (m : (ℓ : Loc Cert.DFfn2Ideal.nD Cert.DFfn2Ideal.τ Cert.DFfn2Ideal.sig) → Buf (Elt Ideal) ℓ) (g : Dev Cert.DFfn2Ideal.nD → PrngReg), Pre_DFfn2Ideal m →
    θ_run (Cert.DFfn2Ideal.defs (F := Ideal)) (onTc (τ := Cert.DFfn2Ideal.τ) (Cert.DFfn2Ideal.main (F := Ideal))) ⟨m, fun _ => 0, g⟩ (fun r => (∀ c : Dev Cert.DFfn2Ideal.nD,
      r.2.mem ((c.tc : Thread Cert.DFfn2Ideal.nD Cert.DFfn2Ideal.τ).loc Cert.DFfn2Ideal.main_arg0) = m ((c.tc : Thread Cert.DFfn2Ideal.nD Cert.DFfn2Ideal.τ).loc Cert.DFfn2Ideal.main_arg0)
      ∧ r.2.mem ((c.tc : Thread Cert.DFfn2Ideal.nD Cert.DFfn2Ideal.τ).loc Cert.DFfn2Ideal.main_arg1) = m ((c.tc : Thread Cert.DFfn2Ideal.nD Cert.DFfn2Ideal.τ).loc Cert.DFfn2Ideal.main_arg1)
      ∧ r.2.mem ((c.tc : Thread Cert.DFfn2Ideal.nD Cert.DFfn2Ideal.τ).loc Cert.DFfn2Ideal.main_arg2) = m ((c.tc : Thread Cert.DFfn2Ideal.nD Cert.DFfn2Ideal.τ).loc Cert.DFfn2Ideal.main_arg2))
      ∧ r.2.sem = fun _ => 0)

def quiescent_DFfn2ReferenceIdeal [hDFfn2ReferenceIdeal : Cert.DFfn2ReferenceIdeal.Facts] : Prop :=
  ∀ (m : (ℓ : Loc Cert.DFfn2ReferenceIdeal.nD Cert.DFfn2ReferenceIdeal.τ Cert.DFfn2ReferenceIdeal.sig) → Buf (Elt Ideal) ℓ) (g : Dev Cert.DFfn2ReferenceIdeal.nD → PrngReg), Pre_DFfn2ReferenceIdeal m →
    θ_run (Cert.DFfn2ReferenceIdeal.defs (F := Ideal)) (onTc (τ := Cert.DFfn2ReferenceIdeal.τ) (Cert.DFfn2ReferenceIdeal.main (F := Ideal))) ⟨m, fun _ => 0, g⟩ (fun r => (∀ c : Dev Cert.DFfn2ReferenceIdeal.nD,
      r.2.mem ((c.tc : Thread Cert.DFfn2ReferenceIdeal.nD Cert.DFfn2ReferenceIdeal.τ).loc Cert.DFfn2ReferenceIdeal.main_arg0) = m ((c.tc : Thread Cert.DFfn2ReferenceIdeal.nD Cert.DFfn2ReferenceIdeal.τ).loc Cert.DFfn2ReferenceIdeal.main_arg0)
      ∧ r.2.mem ((c.tc : Thread Cert.DFfn2ReferenceIdeal.nD Cert.DFfn2ReferenceIdeal.τ).loc Cert.DFfn2ReferenceIdeal.main_arg1) = m ((c.tc : Thread Cert.DFfn2ReferenceIdeal.nD Cert.DFfn2ReferenceIdeal.τ).loc Cert.DFfn2ReferenceIdeal.main_arg1)
      ∧ r.2.mem ((c.tc : Thread Cert.DFfn2ReferenceIdeal.nD Cert.DFfn2ReferenceIdeal.τ).loc Cert.DFfn2ReferenceIdeal.main_arg2) = m ((c.tc : Thread Cert.DFfn2ReferenceIdeal.nD Cert.DFfn2ReferenceIdeal.τ).loc Cert.DFfn2ReferenceIdeal.main_arg2))
      ∧ r.2.sem = fun _ => 0)

def quiescent_GwFfn2 [hGwFfn2 : Cert.GwFfn2.Facts] : Prop :=
  ∀ (m : (ℓ : Loc Cert.GwFfn2.nD Cert.GwFfn2.τ Cert.GwFfn2.sig) → Buf (Elt Bits) ℓ) (g : Dev Cert.GwFfn2.nD → PrngReg), Pre_GwFfn2 m →
    θ_run (Cert.GwFfn2.defs (F := Bits)) (onTc (τ := Cert.GwFfn2.τ) (Cert.GwFfn2.main (F := Bits))) ⟨m, fun _ => 0, g⟩ (fun r => (∀ c : Dev Cert.GwFfn2.nD,
      r.2.mem ((c.tc : Thread Cert.GwFfn2.nD Cert.GwFfn2.τ).loc Cert.GwFfn2.main_arg0) = m ((c.tc : Thread Cert.GwFfn2.nD Cert.GwFfn2.τ).loc Cert.GwFfn2.main_arg0)
      ∧ r.2.mem ((c.tc : Thread Cert.GwFfn2.nD Cert.GwFfn2.τ).loc Cert.GwFfn2.main_arg1) = m ((c.tc : Thread Cert.GwFfn2.nD Cert.GwFfn2.τ).loc Cert.GwFfn2.main_arg1))
      ∧ r.2.sem = fun _ => 0)

def quiescent_GwFfn2Ideal [hGwFfn2Ideal : Cert.GwFfn2Ideal.Facts] : Prop :=
  ∀ (m : (ℓ : Loc Cert.GwFfn2Ideal.nD Cert.GwFfn2Ideal.τ Cert.GwFfn2Ideal.sig) → Buf (Elt Ideal) ℓ) (g : Dev Cert.GwFfn2Ideal.nD → PrngReg), Pre_GwFfn2Ideal m →
    θ_run (Cert.GwFfn2Ideal.defs (F := Ideal)) (onTc (τ := Cert.GwFfn2Ideal.τ) (Cert.GwFfn2Ideal.main (F := Ideal))) ⟨m, fun _ => 0, g⟩ (fun r => (∀ c : Dev Cert.GwFfn2Ideal.nD,
      r.2.mem ((c.tc : Thread Cert.GwFfn2Ideal.nD Cert.GwFfn2Ideal.τ).loc Cert.GwFfn2Ideal.main_arg0) = m ((c.tc : Thread Cert.GwFfn2Ideal.nD Cert.GwFfn2Ideal.τ).loc Cert.GwFfn2Ideal.main_arg0)
      ∧ r.2.mem ((c.tc : Thread Cert.GwFfn2Ideal.nD Cert.GwFfn2Ideal.τ).loc Cert.GwFfn2Ideal.main_arg1) = m ((c.tc : Thread Cert.GwFfn2Ideal.nD Cert.GwFfn2Ideal.τ).loc Cert.GwFfn2Ideal.main_arg1))
      ∧ r.2.sem = fun _ => 0)

def quiescent_GwFfn2ReferenceIdeal [hGwFfn2ReferenceIdeal : Cert.GwFfn2ReferenceIdeal.Facts] : Prop :=
  ∀ (m : (ℓ : Loc Cert.GwFfn2ReferenceIdeal.nD Cert.GwFfn2ReferenceIdeal.τ Cert.GwFfn2ReferenceIdeal.sig) → Buf (Elt Ideal) ℓ) (g : Dev Cert.GwFfn2ReferenceIdeal.nD → PrngReg), Pre_GwFfn2ReferenceIdeal m →
    θ_run (Cert.GwFfn2ReferenceIdeal.defs (F := Ideal)) (onTc (τ := Cert.GwFfn2ReferenceIdeal.τ) (Cert.GwFfn2ReferenceIdeal.main (F := Ideal))) ⟨m, fun _ => 0, g⟩ (fun r => (∀ c : Dev Cert.GwFfn2ReferenceIdeal.nD,
      r.2.mem ((c.tc : Thread Cert.GwFfn2ReferenceIdeal.nD Cert.GwFfn2ReferenceIdeal.τ).loc Cert.GwFfn2ReferenceIdeal.main_arg0) = m ((c.tc : Thread Cert.GwFfn2ReferenceIdeal.nD Cert.GwFfn2ReferenceIdeal.τ).loc Cert.GwFfn2ReferenceIdeal.main_arg0)
      ∧ r.2.mem ((c.tc : Thread Cert.GwFfn2ReferenceIdeal.nD Cert.GwFfn2ReferenceIdeal.τ).loc Cert.GwFfn2ReferenceIdeal.main_arg1) = m ((c.tc : Thread Cert.GwFfn2ReferenceIdeal.nD Cert.GwFfn2ReferenceIdeal.τ).loc Cert.GwFfn2ReferenceIdeal.main_arg1))
      ∧ r.2.sem = fun _ => 0)

def quiescent_DFfn1 [hDFfn1 : Cert.DFfn1.Facts] : Prop :=
  ∀ (m : (ℓ : Loc Cert.DFfn1.nD Cert.DFfn1.τ Cert.DFfn1.sig) → Buf (Elt Bits) ℓ) (g : Dev Cert.DFfn1.nD → PrngReg), Pre_DFfn1 m →
    θ_run (Cert.DFfn1.defs (F := Bits)) (onTc (τ := Cert.DFfn1.τ) (Cert.DFfn1.main (F := Bits))) ⟨m, fun _ => 0, g⟩ (fun r => (∀ c : Dev Cert.DFfn1.nD,
      r.2.mem ((c.tc : Thread Cert.DFfn1.nD Cert.DFfn1.τ).loc Cert.DFfn1.main_arg0) = m ((c.tc : Thread Cert.DFfn1.nD Cert.DFfn1.τ).loc Cert.DFfn1.main_arg0)
      ∧ r.2.mem ((c.tc : Thread Cert.DFfn1.nD Cert.DFfn1.τ).loc Cert.DFfn1.main_arg1) = m ((c.tc : Thread Cert.DFfn1.nD Cert.DFfn1.τ).loc Cert.DFfn1.main_arg1))
      ∧ r.2.sem = fun _ => 0)

def quiescent_DFfn1Ideal [hDFfn1Ideal : Cert.DFfn1Ideal.Facts] : Prop :=
  ∀ (m : (ℓ : Loc Cert.DFfn1Ideal.nD Cert.DFfn1Ideal.τ Cert.DFfn1Ideal.sig) → Buf (Elt Ideal) ℓ) (g : Dev Cert.DFfn1Ideal.nD → PrngReg), Pre_DFfn1Ideal m →
    θ_run (Cert.DFfn1Ideal.defs (F := Ideal)) (onTc (τ := Cert.DFfn1Ideal.τ) (Cert.DFfn1Ideal.main (F := Ideal))) ⟨m, fun _ => 0, g⟩ (fun r => (∀ c : Dev Cert.DFfn1Ideal.nD,
      r.2.mem ((c.tc : Thread Cert.DFfn1Ideal.nD Cert.DFfn1Ideal.τ).loc Cert.DFfn1Ideal.main_arg0) = m ((c.tc : Thread Cert.DFfn1Ideal.nD Cert.DFfn1Ideal.τ).loc Cert.DFfn1Ideal.main_arg0)
      ∧ r.2.mem ((c.tc : Thread Cert.DFfn1Ideal.nD Cert.DFfn1Ideal.τ).loc Cert.DFfn1Ideal.main_arg1) = m ((c.tc : Thread Cert.DFfn1Ideal.nD Cert.DFfn1Ideal.τ).loc Cert.DFfn1Ideal.main_arg1))
      ∧ r.2.sem = fun _ => 0)

def quiescent_DFfn1ReferenceIdeal [hDFfn1ReferenceIdeal : Cert.DFfn1ReferenceIdeal.Facts] : Prop :=
  ∀ (m : (ℓ : Loc Cert.DFfn1ReferenceIdeal.nD Cert.DFfn1ReferenceIdeal.τ Cert.DFfn1ReferenceIdeal.sig) → Buf (Elt Ideal) ℓ) (g : Dev Cert.DFfn1ReferenceIdeal.nD → PrngReg), Pre_DFfn1ReferenceIdeal m →
    θ_run (Cert.DFfn1ReferenceIdeal.defs (F := Ideal)) (onTc (τ := Cert.DFfn1ReferenceIdeal.τ) (Cert.DFfn1ReferenceIdeal.main (F := Ideal))) ⟨m, fun _ => 0, g⟩ (fun r => (∀ c : Dev Cert.DFfn1ReferenceIdeal.nD,
      r.2.mem ((c.tc : Thread Cert.DFfn1ReferenceIdeal.nD Cert.DFfn1ReferenceIdeal.τ).loc Cert.DFfn1ReferenceIdeal.main_arg0) = m ((c.tc : Thread Cert.DFfn1ReferenceIdeal.nD Cert.DFfn1ReferenceIdeal.τ).loc Cert.DFfn1ReferenceIdeal.main_arg0)
      ∧ r.2.mem ((c.tc : Thread Cert.DFfn1ReferenceIdeal.nD Cert.DFfn1ReferenceIdeal.τ).loc Cert.DFfn1ReferenceIdeal.main_arg1) = m ((c.tc : Thread Cert.DFfn1ReferenceIdeal.nD Cert.DFfn1ReferenceIdeal.τ).loc Cert.DFfn1ReferenceIdeal.main_arg1))
      ∧ r.2.sem = fun _ => 0)

def quiescent_GwFfn1 [hGwFfn1 : Cert.GwFfn1.Facts] : Prop :=
  ∀ (m : (ℓ : Loc Cert.GwFfn1.nD Cert.GwFfn1.τ Cert.GwFfn1.sig) → Buf (Elt Bits) ℓ) (g : Dev Cert.GwFfn1.nD → PrngReg), Pre_GwFfn1 m →
    θ_run (Cert.GwFfn1.defs (F := Bits)) (onTc (τ := Cert.GwFfn1.τ) (Cert.GwFfn1.main (F := Bits))) ⟨m, fun _ => 0, g⟩ (fun r => (∀ c : Dev Cert.GwFfn1.nD,
      r.2.mem ((c.tc : Thread Cert.GwFfn1.nD Cert.GwFfn1.τ).loc Cert.GwFfn1.main_arg0) = m ((c.tc : Thread Cert.GwFfn1.nD Cert.GwFfn1.τ).loc Cert.GwFfn1.main_arg0)
      ∧ r.2.mem ((c.tc : Thread Cert.GwFfn1.nD Cert.GwFfn1.τ).loc Cert.GwFfn1.main_arg1) = m ((c.tc : Thread Cert.GwFfn1.nD Cert.GwFfn1.τ).loc Cert.GwFfn1.main_arg1))
      ∧ r.2.sem = fun _ => 0)

def quiescent_GwFfn1Ideal [hGwFfn1Ideal : Cert.GwFfn1Ideal.Facts] : Prop :=
  ∀ (m : (ℓ : Loc Cert.GwFfn1Ideal.nD Cert.GwFfn1Ideal.τ Cert.GwFfn1Ideal.sig) → Buf (Elt Ideal) ℓ) (g : Dev Cert.GwFfn1Ideal.nD → PrngReg), Pre_GwFfn1Ideal m →
    θ_run (Cert.GwFfn1Ideal.defs (F := Ideal)) (onTc (τ := Cert.GwFfn1Ideal.τ) (Cert.GwFfn1Ideal.main (F := Ideal))) ⟨m, fun _ => 0, g⟩ (fun r => (∀ c : Dev Cert.GwFfn1Ideal.nD,
      r.2.mem ((c.tc : Thread Cert.GwFfn1Ideal.nD Cert.GwFfn1Ideal.τ).loc Cert.GwFfn1Ideal.main_arg0) = m ((c.tc : Thread Cert.GwFfn1Ideal.nD Cert.GwFfn1Ideal.τ).loc Cert.GwFfn1Ideal.main_arg0)
      ∧ r.2.mem ((c.tc : Thread Cert.GwFfn1Ideal.nD Cert.GwFfn1Ideal.τ).loc Cert.GwFfn1Ideal.main_arg1) = m ((c.tc : Thread Cert.GwFfn1Ideal.nD Cert.GwFfn1Ideal.τ).loc Cert.GwFfn1Ideal.main_arg1))
      ∧ r.2.sem = fun _ => 0)

def quiescent_GwFfn1ReferenceIdeal [hGwFfn1ReferenceIdeal : Cert.GwFfn1ReferenceIdeal.Facts] : Prop :=
  ∀ (m : (ℓ : Loc Cert.GwFfn1ReferenceIdeal.nD Cert.GwFfn1ReferenceIdeal.τ Cert.GwFfn1ReferenceIdeal.sig) → Buf (Elt Ideal) ℓ) (g : Dev Cert.GwFfn1ReferenceIdeal.nD → PrngReg), Pre_GwFfn1ReferenceIdeal m →
    θ_run (Cert.GwFfn1ReferenceIdeal.defs (F := Ideal)) (onTc (τ := Cert.GwFfn1ReferenceIdeal.τ) (Cert.GwFfn1ReferenceIdeal.main (F := Ideal))) ⟨m, fun _ => 0, g⟩ (fun r => (∀ c : Dev Cert.GwFfn1ReferenceIdeal.nD,
      r.2.mem ((c.tc : Thread Cert.GwFfn1ReferenceIdeal.nD Cert.GwFfn1ReferenceIdeal.τ).loc Cert.GwFfn1ReferenceIdeal.main_arg0) = m ((c.tc : Thread Cert.GwFfn1ReferenceIdeal.nD Cert.GwFfn1ReferenceIdeal.τ).loc Cert.GwFfn1ReferenceIdeal.main_arg0)
      ∧ r.2.mem ((c.tc : Thread Cert.GwFfn1ReferenceIdeal.nD Cert.GwFfn1ReferenceIdeal.τ).loc Cert.GwFfn1ReferenceIdeal.main_arg1) = m ((c.tc : Thread Cert.GwFfn1ReferenceIdeal.nD Cert.GwFfn1ReferenceIdeal.τ).loc Cert.GwFfn1ReferenceIdeal.main_arg1))
      ∧ r.2.sem = fun _ => 0)

def quiescent_DOut [hDOut : Cert.DOut.Facts] : Prop :=
  ∀ (m : (ℓ : Loc Cert.DOut.nD Cert.DOut.τ Cert.DOut.sig) → Buf (Elt Bits) ℓ) (g : Dev Cert.DOut.nD → PrngReg), Pre_DOut m →
    θ_run (Cert.DOut.defs (F := Bits)) (onTc (τ := Cert.DOut.τ) (Cert.DOut.main (F := Bits))) ⟨m, fun _ => 0, g⟩ (fun r => (∀ c : Dev Cert.DOut.nD,
      r.2.mem ((c.tc : Thread Cert.DOut.nD Cert.DOut.τ).loc Cert.DOut.main_arg0) = m ((c.tc : Thread Cert.DOut.nD Cert.DOut.τ).loc Cert.DOut.main_arg0)
      ∧ r.2.mem ((c.tc : Thread Cert.DOut.nD Cert.DOut.τ).loc Cert.DOut.main_arg1) = m ((c.tc : Thread Cert.DOut.nD Cert.DOut.τ).loc Cert.DOut.main_arg1))
      ∧ r.2.sem = fun _ => 0)

def quiescent_DOutIdeal [hDOutIdeal : Cert.DOutIdeal.Facts] : Prop :=
  ∀ (m : (ℓ : Loc Cert.DOutIdeal.nD Cert.DOutIdeal.τ Cert.DOutIdeal.sig) → Buf (Elt Ideal) ℓ) (g : Dev Cert.DOutIdeal.nD → PrngReg), Pre_DOutIdeal m →
    θ_run (Cert.DOutIdeal.defs (F := Ideal)) (onTc (τ := Cert.DOutIdeal.τ) (Cert.DOutIdeal.main (F := Ideal))) ⟨m, fun _ => 0, g⟩ (fun r => (∀ c : Dev Cert.DOutIdeal.nD,
      r.2.mem ((c.tc : Thread Cert.DOutIdeal.nD Cert.DOutIdeal.τ).loc Cert.DOutIdeal.main_arg0) = m ((c.tc : Thread Cert.DOutIdeal.nD Cert.DOutIdeal.τ).loc Cert.DOutIdeal.main_arg0)
      ∧ r.2.mem ((c.tc : Thread Cert.DOutIdeal.nD Cert.DOutIdeal.τ).loc Cert.DOutIdeal.main_arg1) = m ((c.tc : Thread Cert.DOutIdeal.nD Cert.DOutIdeal.τ).loc Cert.DOutIdeal.main_arg1))
      ∧ r.2.sem = fun _ => 0)

def quiescent_DOutReferenceIdeal [hDOutReferenceIdeal : Cert.DOutReferenceIdeal.Facts] : Prop :=
  ∀ (m : (ℓ : Loc Cert.DOutReferenceIdeal.nD Cert.DOutReferenceIdeal.τ Cert.DOutReferenceIdeal.sig) → Buf (Elt Ideal) ℓ) (g : Dev Cert.DOutReferenceIdeal.nD → PrngReg), Pre_DOutReferenceIdeal m →
    θ_run (Cert.DOutReferenceIdeal.defs (F := Ideal)) (onTc (τ := Cert.DOutReferenceIdeal.τ) (Cert.DOutReferenceIdeal.main (F := Ideal))) ⟨m, fun _ => 0, g⟩ (fun r => (∀ c : Dev Cert.DOutReferenceIdeal.nD,
      r.2.mem ((c.tc : Thread Cert.DOutReferenceIdeal.nD Cert.DOutReferenceIdeal.τ).loc Cert.DOutReferenceIdeal.main_arg0) = m ((c.tc : Thread Cert.DOutReferenceIdeal.nD Cert.DOutReferenceIdeal.τ).loc Cert.DOutReferenceIdeal.main_arg0)
      ∧ r.2.mem ((c.tc : Thread Cert.DOutReferenceIdeal.nD Cert.DOutReferenceIdeal.τ).loc Cert.DOutReferenceIdeal.main_arg1) = m ((c.tc : Thread Cert.DOutReferenceIdeal.nD Cert.DOutReferenceIdeal.τ).loc Cert.DOutReferenceIdeal.main_arg1))
      ∧ r.2.sem = fun _ => 0)

def quiescent_GwOut [hGwOut : Cert.GwOut.Facts] : Prop :=
  ∀ (m : (ℓ : Loc Cert.GwOut.nD Cert.GwOut.τ Cert.GwOut.sig) → Buf (Elt Bits) ℓ) (g : Dev Cert.GwOut.nD → PrngReg), Pre_GwOut m →
    θ_run (Cert.GwOut.defs (F := Bits)) (onTc (τ := Cert.GwOut.τ) (Cert.GwOut.main (F := Bits))) ⟨m, fun _ => 0, g⟩ (fun r => (∀ c : Dev Cert.GwOut.nD,
      r.2.mem ((c.tc : Thread Cert.GwOut.nD Cert.GwOut.τ).loc Cert.GwOut.main_arg0) = m ((c.tc : Thread Cert.GwOut.nD Cert.GwOut.τ).loc Cert.GwOut.main_arg0)
      ∧ r.2.mem ((c.tc : Thread Cert.GwOut.nD Cert.GwOut.τ).loc Cert.GwOut.main_arg1) = m ((c.tc : Thread Cert.GwOut.nD Cert.GwOut.τ).loc Cert.GwOut.main_arg1))
      ∧ r.2.sem = fun _ => 0)

def quiescent_GwOutIdeal [hGwOutIdeal : Cert.GwOutIdeal.Facts] : Prop :=
  ∀ (m : (ℓ : Loc Cert.GwOutIdeal.nD Cert.GwOutIdeal.τ Cert.GwOutIdeal.sig) → Buf (Elt Ideal) ℓ) (g : Dev Cert.GwOutIdeal.nD → PrngReg), Pre_GwOutIdeal m →
    θ_run (Cert.GwOutIdeal.defs (F := Ideal)) (onTc (τ := Cert.GwOutIdeal.τ) (Cert.GwOutIdeal.main (F := Ideal))) ⟨m, fun _ => 0, g⟩ (fun r => (∀ c : Dev Cert.GwOutIdeal.nD,
      r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
      ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ r.2.sem = fun _ => 0)

def quiescent_GwOutReferenceIdeal [hGwOutReferenceIdeal : Cert.GwOutReferenceIdeal.Facts] : Prop :=
  ∀ (m : (ℓ : Loc Cert.GwOutReferenceIdeal.nD Cert.GwOutReferenceIdeal.τ Cert.GwOutReferenceIdeal.sig) → Buf (Elt Ideal) ℓ) (g : Dev Cert.GwOutReferenceIdeal.nD → PrngReg), Pre_GwOutReferenceIdeal m →
    θ_run (Cert.GwOutReferenceIdeal.defs (F := Ideal)) (onTc (τ := Cert.GwOutReferenceIdeal.τ) (Cert.GwOutReferenceIdeal.main (F := Ideal))) ⟨m, fun _ => 0, g⟩ (fun r => (∀ c : Dev Cert.GwOutReferenceIdeal.nD,
      r.2.mem ((c.tc : Thread Cert.GwOutReferenceIdeal.nD Cert.GwOutReferenceIdeal.τ).loc Cert.GwOutReferenceIdeal.main_arg0) = m ((c.tc : Thread Cert.GwOutReferenceIdeal.nD Cert.GwOutReferenceIdeal.τ).loc Cert.GwOutReferenceIdeal.main_arg0)
      ∧ r.2.mem ((c.tc : Thread Cert.GwOutReferenceIdeal.nD Cert.GwOutReferenceIdeal.τ).loc Cert.GwOutReferenceIdeal.main_arg1) = m ((c.tc : Thread Cert.GwOutReferenceIdeal.nD Cert.GwOutReferenceIdeal.τ).loc Cert.GwOutReferenceIdeal.main_arg1))
      ∧ r.2.sem = fun _ => 0)

def quiescent_DIn [hDIn : Cert.DIn.Facts] : Prop :=
  ∀ (m : (ℓ : Loc Cert.DIn.nD Cert.DIn.τ Cert.DIn.sig) → Buf (Elt Bits) ℓ) (g : Dev Cert.DIn.nD → PrngReg), Pre_DIn m →
    θ_run (Cert.DIn.defs (F := Bits)) (onTc (τ := Cert.DIn.τ) (Cert.DIn.main (F := Bits))) ⟨m, fun _ => 0, g⟩ (fun r => (∀ c : Dev Cert.DIn.nD,
      r.2.mem ((c.tc : Thread Cert.DIn.nD Cert.DIn.τ).loc Cert.DIn.main_arg0) = m ((c.tc : Thread Cert.DIn.nD Cert.DIn.τ).loc Cert.DIn.main_arg0)
      ∧ r.2.mem ((c.tc : Thread Cert.DIn.nD Cert.DIn.τ).loc Cert.DIn.main_arg1) = m ((c.tc : Thread Cert.DIn.nD Cert.DIn.τ).loc Cert.DIn.main_arg1))
      ∧ r.2.sem = fun _ => 0)

def quiescent_DInIdeal [hDInIdeal : Cert.DInIdeal.Facts] : Prop :=
  ∀ (m : (ℓ : Loc Cert.DInIdeal.nD Cert.DInIdeal.τ Cert.DInIdeal.sig) → Buf (Elt Ideal) ℓ) (g : Dev Cert.DInIdeal.nD → PrngReg), Pre_DInIdeal m →
    θ_run (Cert.DInIdeal.defs (F := Ideal)) (onTc (τ := Cert.DInIdeal.τ) (Cert.DInIdeal.main (F := Ideal))) ⟨m, fun _ => 0, g⟩ (fun r => (∀ c : Dev Cert.DInIdeal.nD,
      r.2.mem ((c.tc : Thread Cert.DInIdeal.nD Cert.DInIdeal.τ).loc Cert.DInIdeal.main_arg0) = m ((c.tc : Thread Cert.DInIdeal.nD Cert.DInIdeal.τ).loc Cert.DInIdeal.main_arg0)
      ∧ r.2.mem ((c.tc : Thread Cert.DInIdeal.nD Cert.DInIdeal.τ).loc Cert.DInIdeal.main_arg1) = m ((c.tc : Thread Cert.DInIdeal.nD Cert.DInIdeal.τ).loc Cert.DInIdeal.main_arg1))
      ∧ r.2.sem = fun _ => 0)

def quiescent_DInReferenceIdeal [hDInReferenceIdeal : Cert.DInReferenceIdeal.Facts] : Prop :=
  ∀ (m : (ℓ : Loc Cert.DInReferenceIdeal.nD Cert.DInReferenceIdeal.τ Cert.DInReferenceIdeal.sig) → Buf (Elt Ideal) ℓ) (g : Dev Cert.DInReferenceIdeal.nD → PrngReg), Pre_DInReferenceIdeal m →
    θ_run (Cert.DInReferenceIdeal.defs (F := Ideal)) (onTc (τ := Cert.DInReferenceIdeal.τ) (Cert.DInReferenceIdeal.main (F := Ideal))) ⟨m, fun _ => 0, g⟩ (fun r => (∀ c : Dev Cert.DInReferenceIdeal.nD,
      r.2.mem ((c.tc : Thread Cert.DInReferenceIdeal.nD Cert.DInReferenceIdeal.τ).loc Cert.DInReferenceIdeal.main_arg0) = m ((c.tc : Thread Cert.DInReferenceIdeal.nD Cert.DInReferenceIdeal.τ).loc Cert.DInReferenceIdeal.main_arg0)
      ∧ r.2.mem ((c.tc : Thread Cert.DInReferenceIdeal.nD Cert.DInReferenceIdeal.τ).loc Cert.DInReferenceIdeal.main_arg1) = m ((c.tc : Thread Cert.DInReferenceIdeal.nD Cert.DInReferenceIdeal.τ).loc Cert.DInReferenceIdeal.main_arg1))
      ∧ r.2.sem = fun _ => 0)

def quiescent_GwIn [hGwIn : Cert.GwIn.Facts] : Prop :=
  ∀ (m : (ℓ : Loc Cert.GwIn.nD Cert.GwIn.τ Cert.GwIn.sig) → Buf (Elt Bits) ℓ) (g : Dev Cert.GwIn.nD → PrngReg), Pre_GwIn m →
    θ_run (Cert.GwIn.defs (F := Bits)) (onTc (τ := Cert.GwIn.τ) (Cert.GwIn.main (F := Bits))) ⟨m, fun _ => 0, g⟩ (fun r => (∀ c : Dev Cert.GwIn.nD,
      r.2.mem ((c.tc : Thread Cert.GwIn.nD Cert.GwIn.τ).loc Cert.GwIn.main_arg0) = m ((c.tc : Thread Cert.GwIn.nD Cert.GwIn.τ).loc Cert.GwIn.main_arg0)
      ∧ r.2.mem ((c.tc : Thread Cert.GwIn.nD Cert.GwIn.τ).loc Cert.GwIn.main_arg1) = m ((c.tc : Thread Cert.GwIn.nD Cert.GwIn.τ).loc Cert.GwIn.main_arg1))
      ∧ r.2.sem = fun _ => 0)

def quiescent_GwInIdeal [hGwInIdeal : Cert.GwInIdeal.Facts] : Prop :=
  ∀ (m : (ℓ : Loc Cert.GwInIdeal.nD Cert.GwInIdeal.τ Cert.GwInIdeal.sig) → Buf (Elt Ideal) ℓ) (g : Dev Cert.GwInIdeal.nD → PrngReg), Pre_GwInIdeal m →
    θ_run (Cert.GwInIdeal.defs (F := Ideal)) (onTc (τ := Cert.GwInIdeal.τ) (Cert.GwInIdeal.main (F := Ideal))) ⟨m, fun _ => 0, g⟩ (fun r => (∀ c : Dev Cert.GwInIdeal.nD,
      r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
      ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ r.2.sem = fun _ => 0)

def quiescent_GwInReferenceIdeal [hGwInReferenceIdeal : Cert.GwInReferenceIdeal.Facts] : Prop :=
  ∀ (m : (ℓ : Loc Cert.GwInReferenceIdeal.nD Cert.GwInReferenceIdeal.τ Cert.GwInReferenceIdeal.sig) → Buf (Elt Ideal) ℓ) (g : Dev Cert.GwInReferenceIdeal.nD → PrngReg), Pre_GwInReferenceIdeal m →
    θ_run (Cert.GwInReferenceIdeal.defs (F := Ideal)) (onTc (τ := Cert.GwInReferenceIdeal.τ) (Cert.GwInReferenceIdeal.main (F := Ideal))) ⟨m, fun _ => 0, g⟩ (fun r => (∀ c : Dev Cert.GwInReferenceIdeal.nD,
      r.2.mem ((c.tc : Thread Cert.GwInReferenceIdeal.nD Cert.GwInReferenceIdeal.τ).loc Cert.GwInReferenceIdeal.main_arg0) = m ((c.tc : Thread Cert.GwInReferenceIdeal.nD Cert.GwInReferenceIdeal.τ).loc Cert.GwInReferenceIdeal.main_arg0)
      ∧ r.2.mem ((c.tc : Thread Cert.GwInReferenceIdeal.nD Cert.GwInReferenceIdeal.τ).loc Cert.GwInReferenceIdeal.main_arg1) = m ((c.tc : Thread Cert.GwInReferenceIdeal.nD Cert.GwInReferenceIdeal.τ).loc Cert.GwInReferenceIdeal.main_arg1))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2))
      ∧ r.2.sem = fun _ => 0)

def quiescent_GwAda [hGwAda : Cert.GwAda.Facts] : Prop :=
  ∀ (m : (ℓ : Loc Cert.GwAda.nD Cert.GwAda.τ Cert.GwAda.sig) → Buf (Elt Bits) ℓ) (g : Dev Cert.GwAda.nD → PrngReg), Pre_GwAda m →
    θ_run (Cert.GwAda.defs (F := Bits)) (onTc (τ := Cert.GwAda.τ) (Cert.GwAda.main (F := Bits))) ⟨m, fun _ => 0, g⟩ (fun r => (∀ c : Dev Cert.GwAda.nD,
      r.2.mem ((c.tc : Thread Cert.GwAda.nD Cert.GwAda.τ).loc Cert.GwAda.main_arg0) = m ((c.tc : Thread Cert.GwAda.nD Cert.GwAda.τ).loc Cert.GwAda.main_arg0)
      ∧ r.2.mem ((c.tc : Thread Cert.GwAda.nD Cert.GwAda.τ).loc Cert.GwAda.main_arg1) = m ((c.tc : Thread Cert.GwAda.nD Cert.GwAda.τ).loc Cert.GwAda.main_arg1))
      ∧ r.2.sem = fun _ => 0)

def quiescent_GwAdaIdeal [hGwAdaIdeal : Cert.GwAdaIdeal.Facts] : Prop :=
  ∀ (m : (ℓ : Loc Cert.GwAdaIdeal.nD Cert.GwAdaIdeal.τ Cert.GwAdaIdeal.sig) → Buf (Elt Ideal) ℓ) (g : Dev Cert.GwAdaIdeal.nD → PrngReg), Pre_GwAdaIdeal m →
    θ_run (Cert.GwAdaIdeal.defs (F := Ideal)) (onTc (τ := Cert.GwAdaIdeal.τ) (Cert.GwAdaIdeal.main (F := Ideal))) ⟨m, fun _ => 0, g⟩ (fun r => (∀ c : Dev Cert.GwAdaIdeal.nD,
      r.2.mem ((c.tc : Thread Cert.GwAdaIdeal.nD Cert.GwAdaIdeal.τ).loc Cert.GwAdaIdeal.main_arg0) = m ((c.tc : Thread Cert.GwAdaIdeal.nD Cert.GwAdaIdeal.τ).loc Cert.GwAdaIdeal.main_arg0)
      ∧ r.2.mem ((c.tc : Thread Cert.GwAdaIdeal.nD Cert.GwAdaIdeal.τ).loc Cert.GwAdaIdeal.main_arg1) = m ((c.tc : Thread Cert.GwAdaIdeal.nD Cert.GwAdaIdeal.τ).loc Cert.GwAdaIdeal.main_arg1))
      ∧ r.2.sem = fun _ => 0)

def quiescent_GwAdaReferenceIdeal [hGwAdaReferenceIdeal : Cert.GwAdaReferenceIdeal.Facts] : Prop :=
  ∀ (m : (ℓ : Loc Cert.GwAdaReferenceIdeal.nD Cert.GwAdaReferenceIdeal.τ Cert.GwAdaReferenceIdeal.sig) → Buf (Elt Ideal) ℓ) (g : Dev Cert.GwAdaReferenceIdeal.nD → PrngReg), Pre_GwAdaReferenceIdeal m →
    θ_run (Cert.GwAdaReferenceIdeal.defs (F := Ideal)) (onTc (τ := Cert.GwAdaReferenceIdeal.τ) (Cert.GwAdaReferenceIdeal.main (F := Ideal))) ⟨m, fun _ => 0, g⟩ (fun r => (∀ c : Dev Cert.GwAdaReferenceIdeal.nD,
      r.2.mem ((c.tc : Thread Cert.GwAdaReferenceIdeal.nD Cert.GwAdaReferenceIdeal.τ).loc Cert.GwAdaReferenceIdeal.main_arg0) = m ((c.tc : Thread Cert.GwAdaReferenceIdeal.nD Cert.GwAdaReferenceIdeal.τ).loc Cert.GwAdaReferenceIdeal.main_arg0)
      ∧ r.2.mem ((c.tc : Thread Cert.GwAdaReferenceIdeal.nD Cert.GwAdaReferenceIdeal.τ).loc Cert.GwAdaReferenceIdeal.main_arg1) = m ((c.tc : Thread Cert.GwAdaReferenceIdeal.nD Cert.GwAdaReferenceIdeal.τ).loc Cert.GwAdaReferenceIdeal.main_arg1))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3))
      ∧ r.2.sem = fun _ => 0)

def quiescent_Second [hSecond : Cert.Second.Facts] : Prop :=
  ∀ (m : (ℓ : Loc Cert.Second.nD Cert.Second.τ Cert.Second.sig) → Buf (Elt Bits) ℓ) (g : Dev Cert.Second.nD → PrngReg), Pre_Second m →
    θ_run (Cert.Second.defs (F := Bits)) (onTc (τ := Cert.Second.τ) (Cert.Second.main (F := Bits))) ⟨m, fun _ => 0, g⟩ (fun r => (∀ c : Dev Cert.Second.nD,
      r.2.mem ((c.tc : Thread Cert.Second.nD Cert.Second.τ).loc Cert.Second.main_arg0) = m ((c.tc : Thread Cert.Second.nD Cert.Second.τ).loc Cert.Second.main_arg0)
      ∧ r.2.mem ((c.tc : Thread Cert.Second.nD Cert.Second.τ).loc Cert.Second.main_arg1) = m ((c.tc : Thread Cert.Second.nD Cert.Second.τ).loc Cert.Second.main_arg1)
      ∧ r.2.mem ((c.tc : Thread Cert.Second.nD Cert.Second.τ).loc Cert.Second.main_arg2) = m ((c.tc : Thread Cert.Second.nD Cert.Second.τ).loc Cert.Second.main_arg2)
      ∧ r.2.mem ((c.tc : Thread Cert.Second.nD Cert.Second.τ).loc Cert.Second.main_arg3) = m ((c.tc : Thread Cert.Second.nD Cert.Second.τ).loc Cert.Second.main_arg3)
      ∧ r.2.mem ((c.tc : Thread Cert.Second.nD Cert.Second.τ).loc Cert.Second.main_arg4) = m ((c.tc : Thread Cert.Second.nD Cert.Second.τ).loc Cert.Second.main_arg4)
      ∧ r.2.mem ((c.tc : Thread Cert.Second.nD Cert.Second.τ).loc Cert.Second.main_arg5) = m ((c.tc : Thread Cert.Second.nD Cert.Second.τ).loc Cert.Second.main_arg5))
      ∧ r.2.sem = fun _ => 0)

def quiescent_SecondIdeal [hSecondIdeal : Cert.SecondIdeal.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
      ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
      ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
      ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5))
      ∧ r.2.sem = fun _ => 0)

def quiescent_SecondReferenceIdeal [hSecondReferenceIdeal : Cert.SecondReferenceIdeal.Facts] : Prop :=
  ∀ (m : (ℓ : Loc Cert.SecondReferenceIdeal.nD Cert.SecondReferenceIdeal.τ Cert.SecondReferenceIdeal.sig) → Buf (Elt Ideal) ℓ) (g : Dev Cert.SecondReferenceIdeal.nD → PrngReg), Pre_SecondReferenceIdeal m →
    θ_run (Cert.SecondReferenceIdeal.defs (F := Ideal)) (onTc (τ := Cert.SecondReferenceIdeal.τ) (Cert.SecondReferenceIdeal.main (F := Ideal))) ⟨m, fun _ => 0, g⟩ (fun r => (∀ c : Dev Cert.SecondReferenceIdeal.nD,
      r.2.mem ((c.tc : Thread Cert.SecondReferenceIdeal.nD Cert.SecondReferenceIdeal.τ).loc Cert.SecondReferenceIdeal.main_arg0) = m ((c.tc : Thread Cert.SecondReferenceIdeal.nD Cert.SecondReferenceIdeal.τ).loc Cert.SecondReferenceIdeal.main_arg0)
      ∧ r.2.mem ((c.tc : Thread Cert.SecondReferenceIdeal.nD Cert.SecondReferenceIdeal.τ).loc Cert.SecondReferenceIdeal.main_arg1) = m ((c.tc : Thread Cert.SecondReferenceIdeal.nD Cert.SecondReferenceIdeal.τ).loc Cert.SecondReferenceIdeal.main_arg1)
      ∧ r.2.mem ((c.tc : Thread Cert.SecondReferenceIdeal.nD Cert.SecondReferenceIdeal.τ).loc Cert.SecondReferenceIdeal.main_arg2) = m ((c.tc : Thread Cert.SecondReferenceIdeal.nD Cert.SecondReferenceIdeal.τ).loc Cert.SecondReferenceIdeal.main_arg2)
      ∧ r.2.mem ((c.tc : Thread Cert.SecondReferenceIdeal.nD Cert.SecondReferenceIdeal.τ).loc Cert.SecondReferenceIdeal.main_arg3) = m ((c.tc : Thread Cert.SecondReferenceIdeal.nD Cert.SecondReferenceIdeal.τ).loc Cert.SecondReferenceIdeal.main_arg3)
      ∧ r.2.mem ((c.tc : Thread Cert.SecondReferenceIdeal.nD Cert.SecondReferenceIdeal.τ).loc Cert.SecondReferenceIdeal.main_arg4) = m ((c.tc : Thread Cert.SecondReferenceIdeal.nD Cert.SecondReferenceIdeal.τ).loc Cert.SecondReferenceIdeal.main_arg4)
      ∧ r.2.mem ((c.tc : Thread Cert.SecondReferenceIdeal.nD Cert.SecondReferenceIdeal.τ).loc Cert.SecondReferenceIdeal.main_arg5) = m ((c.tc : Thread Cert.SecondReferenceIdeal.nD Cert.SecondReferenceIdeal.τ).loc Cert.SecondReferenceIdeal.main_arg5))
      ∧ r.2.sem = fun _ => 0)

def quiescent_SecondBack [hSecondBack : Cert.SecondBack.Facts] : Prop :=
  ∀ (m : (ℓ : Loc Cert.SecondBack.nD Cert.SecondBack.τ Cert.SecondBack.sig) → Buf (Elt Bits) ℓ) (g : Dev Cert.SecondBack.nD → PrngReg), Pre_SecondBack m →
    θ_run (Cert.SecondBack.defs (F := Bits)) (onTc (τ := Cert.SecondBack.τ) (Cert.SecondBack.main (F := Bits))) ⟨m, fun _ => 0, g⟩ (fun r => (∀ c : Dev Cert.SecondBack.nD,
      r.2.mem ((c.tc : Thread Cert.SecondBack.nD Cert.SecondBack.τ).loc Cert.SecondBack.main_arg0) = m ((c.tc : Thread Cert.SecondBack.nD Cert.SecondBack.τ).loc Cert.SecondBack.main_arg0)
      ∧ r.2.mem ((c.tc : Thread Cert.SecondBack.nD Cert.SecondBack.τ).loc Cert.SecondBack.main_arg1) = m ((c.tc : Thread Cert.SecondBack.nD Cert.SecondBack.τ).loc Cert.SecondBack.main_arg1)
      ∧ r.2.mem ((c.tc : Thread Cert.SecondBack.nD Cert.SecondBack.τ).loc Cert.SecondBack.main_arg2) = m ((c.tc : Thread Cert.SecondBack.nD Cert.SecondBack.τ).loc Cert.SecondBack.main_arg2)
      ∧ r.2.mem ((c.tc : Thread Cert.SecondBack.nD Cert.SecondBack.τ).loc Cert.SecondBack.main_arg3) = m ((c.tc : Thread Cert.SecondBack.nD Cert.SecondBack.τ).loc Cert.SecondBack.main_arg3)
      ∧ r.2.mem ((c.tc : Thread Cert.SecondBack.nD Cert.SecondBack.τ).loc Cert.SecondBack.main_arg4) = m ((c.tc : Thread Cert.SecondBack.nD Cert.SecondBack.τ).loc Cert.SecondBack.main_arg4)
      ∧ r.2.mem ((c.tc : Thread Cert.SecondBack.nD Cert.SecondBack.τ).loc Cert.SecondBack.main_arg5) = m ((c.tc : Thread Cert.SecondBack.nD Cert.SecondBack.τ).loc Cert.SecondBack.main_arg5)
      ∧ r.2.mem ((c.tc : Thread Cert.SecondBack.nD Cert.SecondBack.τ).loc Cert.SecondBack.main_arg6) = m ((c.tc : Thread Cert.SecondBack.nD Cert.SecondBack.τ).loc Cert.SecondBack.main_arg6)
      ∧ r.2.mem ((c.tc : Thread Cert.SecondBack.nD Cert.SecondBack.τ).loc Cert.SecondBack.main_arg7) = m ((c.tc : Thread Cert.SecondBack.nD Cert.SecondBack.τ).loc Cert.SecondBack.main_arg7))
      ∧ r.2.sem = fun _ => 0)

def quiescent_SecondBackIdeal [hSecondBackIdeal : Cert.SecondBackIdeal.Facts] : Prop :=
  ∀ (m : (ℓ : Loc Cert.SecondBackIdeal.nD Cert.SecondBackIdeal.τ Cert.SecondBackIdeal.sig) → Buf (Elt Ideal) ℓ) (g : Dev Cert.SecondBackIdeal.nD → PrngReg), Pre_SecondBackIdeal m →
    θ_run (Cert.SecondBackIdeal.defs (F := Ideal)) (onTc (τ := Cert.SecondBackIdeal.τ) (Cert.SecondBackIdeal.main (F := Ideal))) ⟨m, fun _ => 0, g⟩ (fun r => (∀ c : Dev Cert.SecondBackIdeal.nD,
      r.2.mem ((c.tc : Thread Cert.SecondBackIdeal.nD Cert.SecondBackIdeal.τ).loc Cert.SecondBackIdeal.main_arg0) = m ((c.tc : Thread Cert.SecondBackIdeal.nD Cert.SecondBackIdeal.τ).loc Cert.SecondBackIdeal.main_arg0)
      ∧ r.2.mem ((c.tc : Thread Cert.SecondBackIdeal.nD Cert.SecondBackIdeal.τ).loc Cert.SecondBackIdeal.main_arg1) = m ((c.tc : Thread Cert.SecondBackIdeal.nD Cert.SecondBackIdeal.τ).loc Cert.SecondBackIdeal.main_arg1)
      ∧ r.2.mem ((c.tc : Thread Cert.SecondBackIdeal.nD Cert.SecondBackIdeal.τ).loc Cert.SecondBackIdeal.main_arg2) = m ((c.tc : Thread Cert.SecondBackIdeal.nD Cert.SecondBackIdeal.τ).loc Cert.SecondBackIdeal.main_arg2)
      ∧ r.2.mem ((c.tc : Thread Cert.SecondBackIdeal.nD Cert.SecondBackIdeal.τ).loc Cert.SecondBackIdeal.main_arg3) = m ((c.tc : Thread Cert.SecondBackIdeal.nD Cert.SecondBackIdeal.τ).loc Cert.SecondBackIdeal.main_arg3)
      ∧ r.2.mem ((c.tc : Thread Cert.SecondBackIdeal.nD Cert.SecondBackIdeal.τ).loc Cert.SecondBackIdeal.main_arg4) = m ((c.tc : Thread Cert.SecondBackIdeal.nD Cert.SecondBackIdeal.τ).loc Cert.SecondBackIdeal.main_arg4)
      ∧ r.2.mem ((c.tc : Thread Cert.SecondBackIdeal.nD Cert.SecondBackIdeal.τ).loc Cert.SecondBackIdeal.main_arg5) = m ((c.tc : Thread Cert.SecondBackIdeal.nD Cert.SecondBackIdeal.τ).loc Cert.SecondBackIdeal.main_arg5)
      ∧ r.2.mem ((c.tc : Thread Cert.SecondBackIdeal.nD Cert.SecondBackIdeal.τ).loc Cert.SecondBackIdeal.main_arg6) = m ((c.tc : Thread Cert.SecondBackIdeal.nD Cert.SecondBackIdeal.τ).loc Cert.SecondBackIdeal.main_arg6)
      ∧ r.2.mem ((c.tc : Thread Cert.SecondBackIdeal.nD Cert.SecondBackIdeal.τ).loc Cert.SecondBackIdeal.main_arg7) = m ((c.tc : Thread Cert.SecondBackIdeal.nD Cert.SecondBackIdeal.τ).loc Cert.SecondBackIdeal.main_arg7))
      ∧ r.2.sem = fun _ => 0)

def quiescent_SecondBackReferenceIdeal [hSecondBackReferenceIdeal : Cert.SecondBackReferenceIdeal.Facts] : Prop :=
  ∀ (m : (ℓ : Loc Cert.SecondBackReferenceIdeal.nD Cert.SecondBackReferenceIdeal.τ Cert.SecondBackReferenceIdeal.sig) → Buf (Elt Ideal) ℓ) (g : Dev Cert.SecondBackReferenceIdeal.nD → PrngReg), Pre_SecondBackReferenceIdeal m →
    θ_run (Cert.SecondBackReferenceIdeal.defs (F := Ideal)) (onTc (τ := Cert.SecondBackReferenceIdeal.τ) (Cert.SecondBackReferenceIdeal.main (F := Ideal))) ⟨m, fun _ => 0, g⟩ (fun r => (∀ c : Dev Cert.SecondBackReferenceIdeal.nD,
      r.2.mem ((c.tc : Thread Cert.SecondBackReferenceIdeal.nD Cert.SecondBackReferenceIdeal.τ).loc Cert.SecondBackReferenceIdeal.main_arg0) = m ((c.tc : Thread Cert.SecondBackReferenceIdeal.nD Cert.SecondBackReferenceIdeal.τ).loc Cert.SecondBackReferenceIdeal.main_arg0)
      ∧ r.2.mem ((c.tc : Thread Cert.SecondBackReferenceIdeal.nD Cert.SecondBackReferenceIdeal.τ).loc Cert.SecondBackReferenceIdeal.main_arg1) = m ((c.tc : Thread Cert.SecondBackReferenceIdeal.nD Cert.SecondBackReferenceIdeal.τ).loc Cert.SecondBackReferenceIdeal.main_arg1)
      ∧ r.2.mem ((c.tc : Thread Cert.SecondBackReferenceIdeal.nD Cert.SecondBackReferenceIdeal.τ).loc Cert.SecondBackReferenceIdeal.main_arg2) = m ((c.tc : Thread Cert.SecondBackReferenceIdeal.nD Cert.SecondBackReferenceIdeal.τ).loc Cert.SecondBackReferenceIdeal.main_arg2)
      ∧ r.2.mem ((c.tc : Thread Cert.SecondBackReferenceIdeal.nD Cert.SecondBackReferenceIdeal.τ).loc Cert.SecondBackReferenceIdeal.main_arg3) = m ((c.tc : Thread Cert.SecondBackReferenceIdeal.nD Cert.SecondBackReferenceIdeal.τ).loc Cert.SecondBackReferenceIdeal.main_arg3)
      ∧ r.2.mem ((c.tc : Thread Cert.SecondBackReferenceIdeal.nD Cert.SecondBackReferenceIdeal.τ).loc Cert.SecondBackReferenceIdeal.main_arg4) = m ((c.tc : Thread Cert.SecondBackReferenceIdeal.nD Cert.SecondBackReferenceIdeal.τ).loc Cert.SecondBackReferenceIdeal.main_arg4)
      ∧ r.2.mem ((c.tc : Thread Cert.SecondBackReferenceIdeal.nD Cert.SecondBackReferenceIdeal.τ).loc Cert.SecondBackReferenceIdeal.main_arg5) = m ((c.tc : Thread Cert.SecondBackReferenceIdeal.nD Cert.SecondBackReferenceIdeal.τ).loc Cert.SecondBackReferenceIdeal.main_arg5)
      ∧ r.2.mem ((c.tc : Thread Cert.SecondBackReferenceIdeal.nD Cert.SecondBackReferenceIdeal.τ).loc Cert.SecondBackReferenceIdeal.main_arg6) = m ((c.tc : Thread Cert.SecondBackReferenceIdeal.nD Cert.SecondBackReferenceIdeal.τ).loc Cert.SecondBackReferenceIdeal.main_arg6)
      ∧ r.2.mem ((c.tc : Thread Cert.SecondBackReferenceIdeal.nD Cert.SecondBackReferenceIdeal.τ).loc Cert.SecondBackReferenceIdeal.main_arg7) = m ((c.tc : Thread Cert.SecondBackReferenceIdeal.nD Cert.SecondBackReferenceIdeal.τ).loc Cert.SecondBackReferenceIdeal.main_arg7))
      ∧ r.2.sem = fun _ => 0)

def quiescent_SumWIn [hSumWIn : Cert.SumWIn.Facts] : Prop :=
  ∀ (m : (ℓ : Loc Cert.SumWIn.nD Cert.SumWIn.τ Cert.SumWIn.sig) → Buf (Elt Bits) ℓ) (g : Dev Cert.SumWIn.nD → PrngReg), Pre_SumWIn m →
    θ_run (Cert.SumWIn.defs (F := Bits)) (onTc (τ := Cert.SumWIn.τ) (Cert.SumWIn.main (F := Bits))) ⟨m, fun _ => 0, g⟩ (fun r => (∀ c : Dev Cert.SumWIn.nD,
      r.2.mem ((c.tc : Thread Cert.SumWIn.nD Cert.SumWIn.τ).loc Cert.SumWIn.main_arg0) = m ((c.tc : Thread Cert.SumWIn.nD Cert.SumWIn.τ).loc Cert.SumWIn.main_arg0)
      ∧ r.2.mem ((c.tc : Thread Cert.SumWIn.nD Cert.SumWIn.τ).loc Cert.SumWIn.main_arg1) = m ((c.tc : Thread Cert.SumWIn.nD Cert.SumWIn.τ).loc Cert.SumWIn.main_arg1))
      ∧ r.2.sem = fun _ => 0)

def quiescent_SumWInIdeal [hSumWInIdeal : Cert.SumWInIdeal.Facts] : Prop :=
  ∀ (m : (ℓ : Loc Cert.SumWInIdeal.nD Cert.SumWInIdeal.τ Cert.SumWInIdeal.sig) → Buf (Elt Ideal) ℓ) (g : Dev Cert.SumWInIdeal.nD → PrngReg), Pre_SumWInIdeal m →
    θ_run (Cert.SumWInIdeal.defs (F := Ideal)) (onTc (τ := Cert.SumWInIdeal.τ) (Cert.SumWInIdeal.main (F := Ideal))) ⟨m, fun _ => 0, g⟩ (fun r => (∀ c : Dev Cert.SumWInIdeal.nD,
      r.2.mem ((c.tc : Thread Cert.SumWInIdeal.nD Cert.SumWInIdeal.τ).loc Cert.SumWInIdeal.main_arg0) = m ((c.tc : Thread Cert.SumWInIdeal.nD Cert.SumWInIdeal.τ).loc Cert.SumWInIdeal.main_arg0)
      ∧ r.2.mem ((c.tc : Thread Cert.SumWInIdeal.nD Cert.SumWInIdeal.τ).loc Cert.SumWInIdeal.main_arg1) = m ((c.tc : Thread Cert.SumWInIdeal.nD Cert.SumWInIdeal.τ).loc Cert.SumWInIdeal.main_arg1))
      ∧ r.2.sem = fun _ => 0)

def quiescent_SumWInReferenceIdeal [hSumWInReferenceIdeal : Cert.SumWInReferenceIdeal.Facts] : Prop :=
  ∀ (m : (ℓ : Loc Cert.SumWInReferenceIdeal.nD Cert.SumWInReferenceIdeal.τ Cert.SumWInReferenceIdeal.sig) → Buf (Elt Ideal) ℓ) (g : Dev Cert.SumWInReferenceIdeal.nD → PrngReg), Pre_SumWInReferenceIdeal m →
    θ_run (Cert.SumWInReferenceIdeal.defs (F := Ideal)) (onTc (τ := Cert.SumWInReferenceIdeal.τ) (Cert.SumWInReferenceIdeal.main (F := Ideal))) ⟨m, fun _ => 0, g⟩ (fun r => (∀ c : Dev Cert.SumWInReferenceIdeal.nD,
      r.2.mem ((c.tc : Thread Cert.SumWInReferenceIdeal.nD Cert.SumWInReferenceIdeal.τ).loc Cert.SumWInReferenceIdeal.main_arg0) = m ((c.tc : Thread Cert.SumWInReferenceIdeal.nD Cert.SumWInReferenceIdeal.τ).loc Cert.SumWInReferenceIdeal.main_arg0)
      ∧ r.2.mem ((c.tc : Thread Cert.SumWInReferenceIdeal.nD Cert.SumWInReferenceIdeal.τ).loc Cert.SumWInReferenceIdeal.main_arg1) = m ((c.tc : Thread Cert.SumWInReferenceIdeal.nD Cert.SumWInReferenceIdeal.τ).loc Cert.SumWInReferenceIdeal.main_arg1))
      ∧ r.2.sem = fun _ => 0)

def quiescent_SumWOut [hSumWOut : Cert.SumWOut.Facts] : Prop :=
  ∀ (m : (ℓ : Loc Cert.SumWOut.nD Cert.SumWOut.τ Cert.SumWOut.sig) → Buf (Elt Bits) ℓ) (g : Dev Cert.SumWOut.nD → PrngReg), Pre_SumWOut m →
    θ_run (Cert.SumWOut.defs (F := Bits)) (onTc (τ := Cert.SumWOut.τ) (Cert.SumWOut.main (F := Bits))) ⟨m, fun _ => 0, g⟩ (fun r => (∀ c : Dev Cert.SumWOut.nD,
      r.2.mem ((c.tc : Thread Cert.SumWOut.nD Cert.SumWOut.τ).loc Cert.SumWOut.main_arg0) = m ((c.tc : Thread Cert.SumWOut.nD Cert.SumWOut.τ).loc Cert.SumWOut.main_arg0)
      ∧ r.2.mem ((c.tc : Thread Cert.SumWOut.nD Cert.SumWOut.τ).loc Cert.SumWOut.main_arg1) = m ((c.tc : Thread Cert.SumWOut.nD Cert.SumWOut.τ).loc Cert.SumWOut.main_arg1))
      ∧ r.2.sem = fun _ => 0)

def quiescent_SumWOutIdeal [hSumWOutIdeal : Cert.SumWOutIdeal.Facts] : Prop :=
  ∀ (m : (ℓ : Loc Cert.SumWOutIdeal.nD Cert.SumWOutIdeal.τ Cert.SumWOutIdeal.sig) → Buf (Elt Ideal) ℓ) (g : Dev Cert.SumWOutIdeal.nD → PrngReg), Pre_SumWOutIdeal m →
    θ_run (Cert.SumWOutIdeal.defs (F := Ideal)) (onTc (τ := Cert.SumWOutIdeal.τ) (Cert.SumWOutIdeal.main (F := Ideal))) ⟨m, fun _ => 0, g⟩ (fun r => (∀ c : Dev Cert.SumWOutIdeal.nD,
      r.2.mem ((c.tc : Thread Cert.SumWOutIdeal.nD Cert.SumWOutIdeal.τ).loc Cert.SumWOutIdeal.main_arg0) = m ((c.tc : Thread Cert.SumWOutIdeal.nD Cert.SumWOutIdeal.τ).loc Cert.SumWOutIdeal.main_arg0)
      ∧ r.2.mem ((c.tc : Thread Cert.SumWOutIdeal.nD Cert.SumWOutIdeal.τ).loc Cert.SumWOutIdeal.main_arg1) = m ((c.tc : Thread Cert.SumWOutIdeal.nD Cert.SumWOutIdeal.τ).loc Cert.SumWOutIdeal.main_arg1))
      ∧ r.2.sem = fun _ => 0)

def quiescent_SumWOutReferenceIdeal [hSumWOutReferenceIdeal : Cert.SumWOutReferenceIdeal.Facts] : Prop :=
  ∀ (m : (ℓ : Loc Cert.SumWOutReferenceIdeal.nD Cert.SumWOutReferenceIdeal.τ Cert.SumWOutReferenceIdeal.sig) → Buf (Elt Ideal) ℓ) (g : Dev Cert.SumWOutReferenceIdeal.nD → PrngReg), Pre_SumWOutReferenceIdeal m →
    θ_run (Cert.SumWOutReferenceIdeal.defs (F := Ideal)) (onTc (τ := Cert.SumWOutReferenceIdeal.τ) (Cert.SumWOutReferenceIdeal.main (F := Ideal))) ⟨m, fun _ => 0, g⟩ (fun r => (∀ c : Dev Cert.SumWOutReferenceIdeal.nD,
      r.2.mem ((c.tc : Thread Cert.SumWOutReferenceIdeal.nD Cert.SumWOutReferenceIdeal.τ).loc Cert.SumWOutReferenceIdeal.main_arg0) = m ((c.tc : Thread Cert.SumWOutReferenceIdeal.nD Cert.SumWOutReferenceIdeal.τ).loc Cert.SumWOutReferenceIdeal.main_arg0)
      ∧ r.2.mem ((c.tc : Thread Cert.SumWOutReferenceIdeal.nD Cert.SumWOutReferenceIdeal.τ).loc Cert.SumWOutReferenceIdeal.main_arg1) = m ((c.tc : Thread Cert.SumWOutReferenceIdeal.nD Cert.SumWOutReferenceIdeal.τ).loc Cert.SumWOutReferenceIdeal.main_arg1))
      ∧ r.2.sem = fun _ => 0)

def quiescent_SumFfn1 [hSumFfn1 : Cert.SumFfn1.Facts] : Prop :=
  ∀ (m : (ℓ : Loc Cert.SumFfn1.nD Cert.SumFfn1.τ Cert.SumFfn1.sig) → Buf (Elt Bits) ℓ) (g : Dev Cert.SumFfn1.nD → PrngReg), Pre_SumFfn1 m →
    θ_run (Cert.SumFfn1.defs (F := Bits)) (onTc (τ := Cert.SumFfn1.τ) (Cert.SumFfn1.main (F := Bits))) ⟨m, fun _ => 0, g⟩ (fun r => (∀ c : Dev Cert.SumFfn1.nD,
      r.2.mem ((c.tc : Thread Cert.SumFfn1.nD Cert.SumFfn1.τ).loc Cert.SumFfn1.main_arg0) = m ((c.tc : Thread Cert.SumFfn1.nD Cert.SumFfn1.τ).loc Cert.SumFfn1.main_arg0)
      ∧ r.2.mem ((c.tc : Thread Cert.SumFfn1.nD Cert.SumFfn1.τ).loc Cert.SumFfn1.main_arg1) = m ((c.tc : Thread Cert.SumFfn1.nD Cert.SumFfn1.τ).loc Cert.SumFfn1.main_arg1))
      ∧ r.2.sem = fun _ => 0)

def quiescent_SumFfn1Ideal [hSumFfn1Ideal : Cert.SumFfn1Ideal.Facts] : Prop :=
  ∀ (m : (ℓ : Loc Cert.SumFfn1Ideal.nD Cert.SumFfn1Ideal.τ Cert.SumFfn1Ideal.sig) → Buf (Elt Ideal) ℓ) (g : Dev Cert.SumFfn1Ideal.nD → PrngReg), Pre_SumFfn1Ideal m →
    θ_run (Cert.SumFfn1Ideal.defs (F := Ideal)) (onTc (τ := Cert.SumFfn1Ideal.τ) (Cert.SumFfn1Ideal.main (F := Ideal))) ⟨m, fun _ => 0, g⟩ (fun r => (∀ c : Dev Cert.SumFfn1Ideal.nD,
      r.2.mem ((c.tc : Thread Cert.SumFfn1Ideal.nD Cert.SumFfn1Ideal.τ).loc Cert.SumFfn1Ideal.main_arg0) = m ((c.tc : Thread Cert.SumFfn1Ideal.nD Cert.SumFfn1Ideal.τ).loc Cert.SumFfn1Ideal.main_arg0)
      ∧ r.2.mem ((c.tc : Thread Cert.SumFfn1Ideal.nD Cert.SumFfn1Ideal.τ).loc Cert.SumFfn1Ideal.main_arg1) = m ((c.tc : Thread Cert.SumFfn1Ideal.nD Cert.SumFfn1Ideal.τ).loc Cert.SumFfn1Ideal.main_arg1))
      ∧ r.2.sem = fun _ => 0)

def quiescent_SumFfn1ReferenceIdeal [hSumFfn1ReferenceIdeal : Cert.SumFfn1ReferenceIdeal.Facts] : Prop :=
  ∀ (m : (ℓ : Loc Cert.SumFfn1ReferenceIdeal.nD Cert.SumFfn1ReferenceIdeal.τ Cert.SumFfn1ReferenceIdeal.sig) → Buf (Elt Ideal) ℓ) (g : Dev Cert.SumFfn1ReferenceIdeal.nD → PrngReg), Pre_SumFfn1ReferenceIdeal m →
    θ_run (Cert.SumFfn1ReferenceIdeal.defs (F := Ideal)) (onTc (τ := Cert.SumFfn1ReferenceIdeal.τ) (Cert.SumFfn1ReferenceIdeal.main (F := Ideal))) ⟨m, fun _ => 0, g⟩ (fun r => (∀ c : Dev Cert.SumFfn1ReferenceIdeal.nD,
      r.2.mem ((c.tc : Thread Cert.SumFfn1ReferenceIdeal.nD Cert.SumFfn1ReferenceIdeal.τ).loc Cert.SumFfn1ReferenceIdeal.main_arg0) = m ((c.tc : Thread Cert.SumFfn1ReferenceIdeal.nD Cert.SumFfn1ReferenceIdeal.τ).loc Cert.SumFfn1ReferenceIdeal.main_arg0)
      ∧ r.2.mem ((c.tc : Thread Cert.SumFfn1ReferenceIdeal.nD Cert.SumFfn1ReferenceIdeal.τ).loc Cert.SumFfn1ReferenceIdeal.main_arg1) = m ((c.tc : Thread Cert.SumFfn1ReferenceIdeal.nD Cert.SumFfn1ReferenceIdeal.τ).loc Cert.SumFfn1ReferenceIdeal.main_arg1))
      ∧ r.2.sem = fun _ => 0)

def quiescent_SumFfn2 [hSumFfn2 : Cert.SumFfn2.Facts] : Prop :=
  ∀ (m : (ℓ : Loc Cert.SumFfn2.nD Cert.SumFfn2.τ Cert.SumFfn2.sig) → Buf (Elt Bits) ℓ) (g : Dev Cert.SumFfn2.nD → PrngReg), Pre_SumFfn2 m →
    θ_run (Cert.SumFfn2.defs (F := Bits)) (onTc (τ := Cert.SumFfn2.τ) (Cert.SumFfn2.main (F := Bits))) ⟨m, fun _ => 0, g⟩ (fun r => (∀ c : Dev Cert.SumFfn2.nD,
      r.2.mem ((c.tc : Thread Cert.SumFfn2.nD Cert.SumFfn2.τ).loc Cert.SumFfn2.main_arg0) = m ((c.tc : Thread Cert.SumFfn2.nD Cert.SumFfn2.τ).loc Cert.SumFfn2.main_arg0)
      ∧ r.2.mem ((c.tc : Thread Cert.SumFfn2.nD Cert.SumFfn2.τ).loc Cert.SumFfn2.main_arg1) = m ((c.tc : Thread Cert.SumFfn2.nD Cert.SumFfn2.τ).loc Cert.SumFfn2.main_arg1))
      ∧ r.2.sem = fun _ => 0)

def quiescent_SumFfn2Ideal [hSumFfn2Ideal : Cert.SumFfn2Ideal.Facts] : Prop :=
  ∀ (m : (ℓ : Loc Cert.SumFfn2Ideal.nD Cert.SumFfn2Ideal.τ Cert.SumFfn2Ideal.sig) → Buf (Elt Ideal) ℓ) (g : Dev Cert.SumFfn2Ideal.nD → PrngReg), Pre_SumFfn2Ideal m →
    θ_run (Cert.SumFfn2Ideal.defs (F := Ideal)) (onTc (τ := Cert.SumFfn2Ideal.τ) (Cert.SumFfn2Ideal.main (F := Ideal))) ⟨m, fun _ => 0, g⟩ (fun r => (∀ c : Dev Cert.SumFfn2Ideal.nD,
      r.2.mem ((c.tc : Thread Cert.SumFfn2Ideal.nD Cert.SumFfn2Ideal.τ).loc Cert.SumFfn2Ideal.main_arg0) = m ((c.tc : Thread Cert.SumFfn2Ideal.nD Cert.SumFfn2Ideal.τ).loc Cert.SumFfn2Ideal.main_arg0)
      ∧ r.2.mem ((c.tc : Thread Cert.SumFfn2Ideal.nD Cert.SumFfn2Ideal.τ).loc Cert.SumFfn2Ideal.main_arg1) = m ((c.tc : Thread Cert.SumFfn2Ideal.nD Cert.SumFfn2Ideal.τ).loc Cert.SumFfn2Ideal.main_arg1))
      ∧ r.2.sem = fun _ => 0)

def quiescent_SumFfn2ReferenceIdeal [hSumFfn2ReferenceIdeal : Cert.SumFfn2ReferenceIdeal.Facts] : Prop :=
  ∀ (m : (ℓ : Loc Cert.SumFfn2ReferenceIdeal.nD Cert.SumFfn2ReferenceIdeal.τ Cert.SumFfn2ReferenceIdeal.sig) → Buf (Elt Ideal) ℓ) (g : Dev Cert.SumFfn2ReferenceIdeal.nD → PrngReg), Pre_SumFfn2ReferenceIdeal m →
    θ_run (Cert.SumFfn2ReferenceIdeal.defs (F := Ideal)) (onTc (τ := Cert.SumFfn2ReferenceIdeal.τ) (Cert.SumFfn2ReferenceIdeal.main (F := Ideal))) ⟨m, fun _ => 0, g⟩ (fun r => (∀ c : Dev Cert.SumFfn2ReferenceIdeal.nD,
      r.2.mem ((c.tc : Thread Cert.SumFfn2ReferenceIdeal.nD Cert.SumFfn2ReferenceIdeal.τ).loc Cert.SumFfn2ReferenceIdeal.main_arg0) = m ((c.tc : Thread Cert.SumFfn2ReferenceIdeal.nD Cert.SumFfn2ReferenceIdeal.τ).loc Cert.SumFfn2ReferenceIdeal.main_arg0)
      ∧ r.2.mem ((c.tc : Thread Cert.SumFfn2ReferenceIdeal.nD Cert.SumFfn2ReferenceIdeal.τ).loc Cert.SumFfn2ReferenceIdeal.main_arg1) = m ((c.tc : Thread Cert.SumFfn2ReferenceIdeal.nD Cert.SumFfn2ReferenceIdeal.τ).loc Cert.SumFfn2ReferenceIdeal.main_arg1))
      ∧ r.2.sem = fun _ => 0)

def quiescent_SumGlu [hSumGlu : Cert.SumGlu.Facts] : Prop :=
  ∀ (m : (ℓ : Loc Cert.SumGlu.nD Cert.SumGlu.τ Cert.SumGlu.sig) → Buf (Elt Bits) ℓ) (g : Dev Cert.SumGlu.nD → PrngReg), Pre_SumGlu m →
    θ_run (Cert.SumGlu.defs (F := Bits)) (onTc (τ := Cert.SumGlu.τ) (Cert.SumGlu.main (F := Bits))) ⟨m, fun _ => 0, g⟩ (fun r => (∀ c : Dev Cert.SumGlu.nD,
      r.2.mem ((c.tc : Thread Cert.SumGlu.nD Cert.SumGlu.τ).loc Cert.SumGlu.main_arg0) = m ((c.tc : Thread Cert.SumGlu.nD Cert.SumGlu.τ).loc Cert.SumGlu.main_arg0)
      ∧ r.2.mem ((c.tc : Thread Cert.SumGlu.nD Cert.SumGlu.τ).loc Cert.SumGlu.main_arg1) = m ((c.tc : Thread Cert.SumGlu.nD Cert.SumGlu.τ).loc Cert.SumGlu.main_arg1))
      ∧ r.2.sem = fun _ => 0)

def quiescent_SumGluIdeal [hSumGluIdeal : Cert.SumGluIdeal.Facts] : Prop :=
  ∀ (m : (ℓ : Loc Cert.SumGluIdeal.nD Cert.SumGluIdeal.τ Cert.SumGluIdeal.sig) → Buf (Elt Ideal) ℓ) (g : Dev Cert.SumGluIdeal.nD → PrngReg), Pre_SumGluIdeal m →
    θ_run (Cert.SumGluIdeal.defs (F := Ideal)) (onTc (τ := Cert.SumGluIdeal.τ) (Cert.SumGluIdeal.main (F := Ideal))) ⟨m, fun _ => 0, g⟩ (fun r => (∀ c : Dev Cert.SumGluIdeal.nD,
      r.2.mem ((c.tc : Thread Cert.SumGluIdeal.nD Cert.SumGluIdeal.τ).loc Cert.SumGluIdeal.main_arg0) = m ((c.tc : Thread Cert.SumGluIdeal.nD Cert.SumGluIdeal.τ).loc Cert.SumGluIdeal.main_arg0)
      ∧ r.2.mem ((c.tc : Thread Cert.SumGluIdeal.nD Cert.SumGluIdeal.τ).loc Cert.SumGluIdeal.main_arg1) = m ((c.tc : Thread Cert.SumGluIdeal.nD Cert.SumGluIdeal.τ).loc Cert.SumGluIdeal.main_arg1))
      ∧ r.2.sem = fun _ => 0)

def quiescent_SumGluReferenceIdeal [hSumGluReferenceIdeal : Cert.SumGluReferenceIdeal.Facts] : Prop :=
  ∀ (m : (ℓ : Loc Cert.SumGluReferenceIdeal.nD Cert.SumGluReferenceIdeal.τ Cert.SumGluReferenceIdeal.sig) → Buf (Elt Ideal) ℓ) (g : Dev Cert.SumGluReferenceIdeal.nD → PrngReg), Pre_SumGluReferenceIdeal m →
    θ_run (Cert.SumGluReferenceIdeal.defs (F := Ideal)) (onTc (τ := Cert.SumGluReferenceIdeal.τ) (Cert.SumGluReferenceIdeal.main (F := Ideal))) ⟨m, fun _ => 0, g⟩ (fun r => (∀ c : Dev Cert.SumGluReferenceIdeal.nD,
      r.2.mem ((c.tc : Thread Cert.SumGluReferenceIdeal.nD Cert.SumGluReferenceIdeal.τ).loc Cert.SumGluReferenceIdeal.main_arg0) = m ((c.tc : Thread Cert.SumGluReferenceIdeal.nD Cert.SumGluReferenceIdeal.τ).loc Cert.SumGluReferenceIdeal.main_arg0)
      ∧ r.2.mem ((c.tc : Thread Cert.SumGluReferenceIdeal.nD Cert.SumGluReferenceIdeal.τ).loc Cert.SumGluReferenceIdeal.main_arg1) = m ((c.tc : Thread Cert.SumGluReferenceIdeal.nD Cert.SumGluReferenceIdeal.τ).loc Cert.SumGluReferenceIdeal.main_arg1))
      ∧ r.2.sem = fun _ => 0)

def quiescent_SumRk [hSumRk : Cert.SumRk.Facts] : Prop :=
  ∀ (m : (ℓ : Loc Cert.SumRk.nD Cert.SumRk.τ Cert.SumRk.sig) → Buf (Elt Bits) ℓ) (g : Dev Cert.SumRk.nD → PrngReg), Pre_SumRk m →
    θ_run (Cert.SumRk.defs (F := Bits)) (onTc (τ := Cert.SumRk.τ) (Cert.SumRk.main (F := Bits))) ⟨m, fun _ => 0, g⟩ (fun r => (∀ c : Dev Cert.SumRk.nD,
      r.2.mem ((c.tc : Thread Cert.SumRk.nD Cert.SumRk.τ).loc Cert.SumRk.main_arg0) = m ((c.tc : Thread Cert.SumRk.nD Cert.SumRk.τ).loc Cert.SumRk.main_arg0)
      ∧ r.2.mem ((c.tc : Thread Cert.SumRk.nD Cert.SumRk.τ).loc Cert.SumRk.main_arg1) = m ((c.tc : Thread Cert.SumRk.nD Cert.SumRk.τ).loc Cert.SumRk.main_arg1))
      ∧ r.2.sem = fun _ => 0)

def quiescent_SumRkIdeal [hSumRkIdeal : Cert.SumRkIdeal.Facts] : Prop :=
  ∀ (m : (ℓ : Loc Cert.SumRkIdeal.nD Cert.SumRkIdeal.τ Cert.SumRkIdeal.sig) → Buf (Elt Ideal) ℓ) (g : Dev Cert.SumRkIdeal.nD → PrngReg), Pre_SumRkIdeal m →
    θ_run (Cert.SumRkIdeal.defs (F := Ideal)) (onTc (τ := Cert.SumRkIdeal.τ) (Cert.SumRkIdeal.main (F := Ideal))) ⟨m, fun _ => 0, g⟩ (fun r => (∀ c : Dev Cert.SumRkIdeal.nD,
      r.2.mem ((c.tc : Thread Cert.SumRkIdeal.nD Cert.SumRkIdeal.τ).loc Cert.SumRkIdeal.main_arg0) = m ((c.tc : Thread Cert.SumRkIdeal.nD Cert.SumRkIdeal.τ).loc Cert.SumRkIdeal.main_arg0)
      ∧ r.2.mem ((c.tc : Thread Cert.SumRkIdeal.nD Cert.SumRkIdeal.τ).loc Cert.SumRkIdeal.main_arg1) = m ((c.tc : Thread Cert.SumRkIdeal.nD Cert.SumRkIdeal.τ).loc Cert.SumRkIdeal.main_arg1))
      ∧ r.2.sem = fun _ => 0)

def quiescent_SumRkReferenceIdeal [hSumRkReferenceIdeal : Cert.SumRkReferenceIdeal.Facts] : Prop :=
  ∀ (m : (ℓ : Loc Cert.SumRkReferenceIdeal.nD Cert.SumRkReferenceIdeal.τ Cert.SumRkReferenceIdeal.sig) → Buf (Elt Ideal) ℓ) (g : Dev Cert.SumRkReferenceIdeal.nD → PrngReg), Pre_SumRkReferenceIdeal m →
    θ_run (Cert.SumRkReferenceIdeal.defs (F := Ideal)) (onTc (τ := Cert.SumRkReferenceIdeal.τ) (Cert.SumRkReferenceIdeal.main (F := Ideal))) ⟨m, fun _ => 0, g⟩ (fun r => (∀ c : Dev Cert.SumRkReferenceIdeal.nD,
      r.2.mem ((c.tc : Thread Cert.SumRkReferenceIdeal.nD Cert.SumRkReferenceIdeal.τ).loc Cert.SumRkReferenceIdeal.main_arg0) = m ((c.tc : Thread Cert.SumRkReferenceIdeal.nD Cert.SumRkReferenceIdeal.τ).loc Cert.SumRkReferenceIdeal.main_arg0)
      ∧ r.2.mem ((c.tc : Thread Cert.SumRkReferenceIdeal.nD Cert.SumRkReferenceIdeal.τ).loc Cert.SumRkReferenceIdeal.main_arg1) = m ((c.tc : Thread Cert.SumRkReferenceIdeal.nD Cert.SumRkReferenceIdeal.τ).loc Cert.SumRkReferenceIdeal.main_arg1))
      ∧ r.2.sem = fun _ => 0)

def quiescent_SumU [hSumU : Cert.SumU.Facts] : Prop :=
  ∀ (m : (ℓ : Loc Cert.SumU.nD Cert.SumU.τ Cert.SumU.sig) → Buf (Elt Bits) ℓ) (g : Dev Cert.SumU.nD → PrngReg), Pre_SumU m →
    θ_run (Cert.SumU.defs (F := Bits)) (onTc (τ := Cert.SumU.τ) (Cert.SumU.main (F := Bits))) ⟨m, fun _ => 0, g⟩ (fun r => (∀ c : Dev Cert.SumU.nD,
      r.2.mem ((c.tc : Thread Cert.SumU.nD Cert.SumU.τ).loc Cert.SumU.main_arg0) = m ((c.tc : Thread Cert.SumU.nD Cert.SumU.τ).loc Cert.SumU.main_arg0)
      ∧ r.2.mem ((c.tc : Thread Cert.SumU.nD Cert.SumU.τ).loc Cert.SumU.main_arg1) = m ((c.tc : Thread Cert.SumU.nD Cert.SumU.τ).loc Cert.SumU.main_arg1))
      ∧ r.2.sem = fun _ => 0)

def quiescent_SumUIdeal [hSumUIdeal : Cert.SumUIdeal.Facts] : Prop :=
  ∀ (m : (ℓ : Loc Cert.SumUIdeal.nD Cert.SumUIdeal.τ Cert.SumUIdeal.sig) → Buf (Elt Ideal) ℓ) (g : Dev Cert.SumUIdeal.nD → PrngReg), Pre_SumUIdeal m →
    θ_run (Cert.SumUIdeal.defs (F := Ideal)) (onTc (τ := Cert.SumUIdeal.τ) (Cert.SumUIdeal.main (F := Ideal))) ⟨m, fun _ => 0, g⟩ (fun r => (∀ c : Dev Cert.SumUIdeal.nD,
      r.2.mem ((c.tc : Thread Cert.SumUIdeal.nD Cert.SumUIdeal.τ).loc Cert.SumUIdeal.main_arg0) = m ((c.tc : Thread Cert.SumUIdeal.nD Cert.SumUIdeal.τ).loc Cert.SumUIdeal.main_arg0)
      ∧ r.2.mem ((c.tc : Thread Cert.SumUIdeal.nD Cert.SumUIdeal.τ).loc Cert.SumUIdeal.main_arg1) = m ((c.tc : Thread Cert.SumUIdeal.nD Cert.SumUIdeal.τ).loc Cert.SumUIdeal.main_arg1))
      ∧ r.2.sem = fun _ => 0)

def quiescent_SumUReferenceIdeal [hSumUReferenceIdeal : Cert.SumUReferenceIdeal.Facts] : Prop :=
  ∀ (m : (ℓ : Loc Cert.SumUReferenceIdeal.nD Cert.SumUReferenceIdeal.τ Cert.SumUReferenceIdeal.sig) → Buf (Elt Ideal) ℓ) (g : Dev Cert.SumUReferenceIdeal.nD → PrngReg), Pre_SumUReferenceIdeal m →
    θ_run (Cert.SumUReferenceIdeal.defs (F := Ideal)) (onTc (τ := Cert.SumUReferenceIdeal.τ) (Cert.SumUReferenceIdeal.main (F := Ideal))) ⟨m, fun _ => 0, g⟩ (fun r => (∀ c : Dev Cert.SumUReferenceIdeal.nD,
      r.2.mem ((c.tc : Thread Cert.SumUReferenceIdeal.nD Cert.SumUReferenceIdeal.τ).loc Cert.SumUReferenceIdeal.main_arg0) = m ((c.tc : Thread Cert.SumUReferenceIdeal.nD Cert.SumUReferenceIdeal.τ).loc Cert.SumUReferenceIdeal.main_arg0)
      ∧ r.2.mem ((c.tc : Thread Cert.SumUReferenceIdeal.nD Cert.SumUReferenceIdeal.τ).loc Cert.SumUReferenceIdeal.main_arg1) = m ((c.tc : Thread Cert.SumUReferenceIdeal.nD Cert.SumUReferenceIdeal.τ).loc Cert.SumUReferenceIdeal.main_arg1))
      ∧ r.2.sem = fun _ => 0)

def quiescent_Silu [hSilu : Cert.Silu.Facts] : Prop :=
  ∀ (m : (ℓ : Loc Cert.Silu.nD Cert.Silu.τ Cert.Silu.sig) → Buf (Elt Bits) ℓ) (g : Dev Cert.Silu.nD → PrngReg), Pre_Silu m →
    θ_run (Cert.Silu.defs (F := Bits)) (onTc (τ := Cert.Silu.τ) (Cert.Silu.main (F := Bits))) ⟨m, fun _ => 0, g⟩ (fun r => (∀ c : Dev Cert.Silu.nD,
      r.2.mem ((c.tc : Thread Cert.Silu.nD Cert.Silu.τ).loc Cert.Silu.main_arg0) = m ((c.tc : Thread Cert.Silu.nD Cert.Silu.τ).loc Cert.Silu.main_arg0))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0))
      ∧ r.2.sem = fun _ => 0)

def quiescent_SiluReferenceIdeal [hSiluReferenceIdeal : Cert.SiluReferenceIdeal.Facts] : Prop :=
  ∀ (m : (ℓ : Loc Cert.SiluReferenceIdeal.nD Cert.SiluReferenceIdeal.τ Cert.SiluReferenceIdeal.sig) → Buf (Elt Ideal) ℓ) (g : Dev Cert.SiluReferenceIdeal.nD → PrngReg), Pre_SiluReferenceIdeal m →
    θ_run (Cert.SiluReferenceIdeal.defs (F := Ideal)) (onTc (τ := Cert.SiluReferenceIdeal.τ) (Cert.SiluReferenceIdeal.main (F := Ideal))) ⟨m, fun _ => 0, g⟩ (fun r => (∀ c : Dev Cert.SiluReferenceIdeal.nD,
      r.2.mem ((c.tc : Thread Cert.SiluReferenceIdeal.nD Cert.SiluReferenceIdeal.τ).loc Cert.SiluReferenceIdeal.main_arg0) = m ((c.tc : Thread Cert.SiluReferenceIdeal.nD Cert.SiluReferenceIdeal.τ).loc Cert.SiluReferenceIdeal.main_arg0))
      ∧ r.2.sem = fun _ => 0)

def preserves_Kernel_KernelIdeal : Prop :=
  True

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨2, ![8, 1536]⟩ ⟨2, ![8, 12288]⟩ 1 8 c (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.block ⟨2, ![2048, 564]⟩ ⟨2, ![2048, 4512]⟩ 1 8 c (m' (((0 : Dev Cert.Reference.nD).tc : Thread Cert.Reference.nD Cert.Reference.τ).loc Cert.Reference.main_arg1))
      ∧ m ((c.tc : Thread Cert.Kernel.nD Cert.Kernel.τ).loc Cert.Kernel.main_arg2) = Layout.block ⟨2, ![256, 2048]⟩ ⟨2, ![2048, 2048]⟩ 0 8 c (m' (((0 : Dev Cert.Reference.nD).tc : Thread Cert.Reference.nD Cert.Reference.τ).loc Cert.Reference.main_arg2))
      ∧ m ((c.tc : Thread Cert.Kernel.nD Cert.Kernel.τ).loc Cert.Kernel.main_arg3) = Layout.block ⟨2, ![2048, 1024]⟩ ⟨2, ![2048, 8192]⟩ 1 8 c (m' (((0 : Dev Cert.Reference.nD).tc : Thread Cert.Reference.nD Cert.Reference.τ).loc Cert.Reference.main_arg3))
      ∧ m ((c.tc : Thread Cert.Kernel.nD Cert.Kernel.τ).loc Cert.Kernel.main_arg4) = Layout.block ⟨2, ![1024, 2048]⟩ ⟨2, ![8192, 2048]⟩ 0 8 c (m' (((0 : Dev Cert.Reference.nD).tc : Thread Cert.Reference.nD Cert.Reference.τ).loc Cert.Reference.main_arg4))
      ∧ m ((c.tc : Thread Cert.Kernel.nD Cert.Kernel.τ).loc Cert.Kernel.main_arg5) = Layout.block ⟨2, ![128, 1024]⟩ ⟨2, ![1024, 1024]⟩ 0 8 c (m' (((0 : Dev Cert.Reference.nD).tc : Thread Cert.Reference.nD Cert.Reference.τ).loc Cert.Reference.main_arg5))
      ∧ m ((c.tc : Thread Cert.Kernel.nD Cert.Kernel.τ).loc Cert.Kernel.main_arg6) = Layout.block ⟨2, ![432, 128]⟩ ⟨2, ![432, 1024]⟩ 1 8 c (m' (((0 : Dev Cert.Reference.nD).tc : Thread Cert.Reference.nD Cert.Reference.τ).loc Cert.Reference.main_arg6))) →
    ∃ (v0 : Buf (Elt Bits) (((0 : Dev Cert.Reference.nD).tc : Thread Cert.Reference.nD Cert.Reference.τ).loc Cert.Reference.main_v1)) (v1 : Buf (Elt Bits) (((0 : Dev Cert.Reference.nD).tc : Thread Cert.Reference.nD Cert.Reference.τ).loc Cert.Reference.main_v3)) (v2 : Buf (Elt Bits) (((0 : Dev Cert.Reference.nD).tc : Thread Cert.Reference.nD Cert.Reference.τ).loc Cert.Reference.main_v4)) (v3 : Buf (Elt Bits) (((0 : Dev Cert.Reference.nD).tc : Thread Cert.Reference.nD Cert.Reference.τ).loc Cert.Reference.main_v6)) (v4 : Buf (Elt Bits) (((0 : Dev Cert.Reference.nD).tc : Thread Cert.Reference.nD Cert.Reference.τ).loc Cert.Reference.main_v7)) (v5 : Buf (Elt Bits) (((0 : Dev Cert.Reference.nD).tc : Thread Cert.Reference.nD Cert.Reference.τ).loc Cert.Reference.main_v8)) (v6 : Buf (Elt Bits) (((0 : Dev Cert.Reference.nD).tc : Thread Cert.Reference.nD Cert.Reference.τ).loc Cert.Reference.main_v10)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = v0
          ∧ r.2.mem ((c.tc : Thread Cert.Kernel.nD Cert.Kernel.τ).loc Cert.Kernel.main_v1_1) = v1
          ∧ r.2.mem ((c.tc : Thread Cert.Kernel.nD Cert.Kernel.τ).loc Cert.Kernel.main_v1_2) = v2
          ∧ r.2.mem ((c.tc : Thread Cert.Kernel.nD Cert.Kernel.τ).loc Cert.Kernel.main_v1_3) = v3
          ∧ r.2.mem ((c.tc : Thread Cert.Kernel.nD Cert.Kernel.τ).loc Cert.Kernel.main_v1_4) = v4
          ∧ r.2.mem ((c.tc : Thread Cert.Kernel.nD Cert.Kernel.τ).loc Cert.Kernel.main_v1_5) = v5
          ∧ r.2.mem ((c.tc : Thread Cert.Kernel.nD Cert.Kernel.τ).loc Cert.Kernel.main_v1_6) = v6
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5)
          ∧ r.2.mem ((c.tc : Thread Cert.Kernel.nD Cert.Kernel.τ).loc Cert.Kernel.main_arg6) = m ((c.tc : Thread Cert.Kernel.nD Cert.Kernel.τ).loc Cert.Kernel.main_arg6))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v1) = v0
          ∧ r.2.mem (((0 : Dev Cert.Reference.nD).tc : Thread Cert.Reference.nD Cert.Reference.τ).loc Cert.Reference.main_v3) = v1
          ∧ r.2.mem (((0 : Dev Cert.Reference.nD).tc : Thread Cert.Reference.nD Cert.Reference.τ).loc Cert.Reference.main_v4) = v2
          ∧ r.2.mem (((0 : Dev Cert.Reference.nD).tc : Thread Cert.Reference.nD Cert.Reference.τ).loc Cert.Reference.main_v6) = v3
          ∧ r.2.mem (((0 : Dev Cert.Reference.nD).tc : Thread Cert.Reference.nD Cert.Reference.τ).loc Cert.Reference.main_v7) = v4
          ∧ r.2.mem (((0 : Dev Cert.Reference.nD).tc : Thread Cert.Reference.nD Cert.Reference.τ).loc Cert.Reference.main_v8) = v5
          ∧ r.2.mem (((0 : Dev Cert.Reference.nD).tc : Thread Cert.Reference.nD Cert.Reference.τ).loc Cert.Reference.main_v10) = v6
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)
          ∧ r.2.mem (((0 : Dev Cert.Reference.nD).tc : Thread Cert.Reference.nD Cert.Reference.τ).loc Cert.Reference.main_arg2) = m' (((0 : Dev Cert.Reference.nD).tc : Thread Cert.Reference.nD Cert.Reference.τ).loc Cert.Reference.main_arg2)
          ∧ r.2.mem (((0 : Dev Cert.Reference.nD).tc : Thread Cert.Reference.nD Cert.Reference.τ).loc Cert.Reference.main_arg3) = m' (((0 : Dev Cert.Reference.nD).tc : Thread Cert.Reference.nD Cert.Reference.τ).loc Cert.Reference.main_arg3)
          ∧ r.2.mem (((0 : Dev Cert.Reference.nD).tc : Thread Cert.Reference.nD Cert.Reference.τ).loc Cert.Reference.main_arg4) = m' (((0 : Dev Cert.Reference.nD).tc : Thread Cert.Reference.nD Cert.Reference.τ).loc Cert.Reference.main_arg4)
          ∧ r.2.mem (((0 : Dev Cert.Reference.nD).tc : Thread Cert.Reference.nD Cert.Reference.τ).loc Cert.Reference.main_arg5) = m' (((0 : Dev Cert.Reference.nD).tc : Thread Cert.Reference.nD Cert.Reference.τ).loc Cert.Reference.main_arg5)
          ∧ r.2.mem (((0 : Dev Cert.Reference.nD).tc : Thread Cert.Reference.nD Cert.Reference.τ).loc Cert.Reference.main_arg6) = m' (((0 : Dev Cert.Reference.nD).tc : Thread Cert.Reference.nD Cert.Reference.τ).loc Cert.Reference.main_arg6))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8, 1536]⟩ ⟨2, ![8, 12288]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 564]⟩ ⟨2, ![2048, 4512]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 1024]⟩ ⟨2, ![2048, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 2048]⟩ ⟨2, ![8192, 2048]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![432, 128]⟩ ⟨2, ![432, 1024]⟩ 1 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v1)) (v1 : Buf (Elt Ideal) (((0 : Dev Cert.ReferenceIdeal.nD).tc : Thread Cert.ReferenceIdeal.nD Cert.ReferenceIdeal.τ).loc Cert.ReferenceIdeal.main_v3)) (v2 : Buf (Elt Ideal) (((0 : Dev Cert.ReferenceIdeal.nD).tc : Thread Cert.ReferenceIdeal.nD Cert.ReferenceIdeal.τ).loc Cert.ReferenceIdeal.main_v4)) (v3 : Buf (Elt Ideal) (((0 : Dev Cert.ReferenceIdeal.nD).tc : Thread Cert.ReferenceIdeal.nD Cert.ReferenceIdeal.τ).loc Cert.ReferenceIdeal.main_v6)) (v4 : Buf (Elt Ideal) (((0 : Dev Cert.ReferenceIdeal.nD).tc : Thread Cert.ReferenceIdeal.nD Cert.ReferenceIdeal.τ).loc Cert.ReferenceIdeal.main_v7)) (v5 : Buf (Elt Ideal) (((0 : Dev Cert.ReferenceIdeal.nD).tc : Thread Cert.ReferenceIdeal.nD Cert.ReferenceIdeal.τ).loc Cert.ReferenceIdeal.main_v8)) (v6 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_v1_1) = v1
          ∧ r.2.mem ((c.tc : Thread Cert.KernelIdeal.nD Cert.KernelIdeal.τ).loc Cert.KernelIdeal.main_v1_2) = v2
          ∧ r.2.mem ((c.tc : Thread Cert.KernelIdeal.nD Cert.KernelIdeal.τ).loc Cert.KernelIdeal.main_v1_3) = v3
          ∧ r.2.mem ((c.tc : Thread Cert.KernelIdeal.nD Cert.KernelIdeal.τ).loc Cert.KernelIdeal.main_v1_4) = v4
          ∧ r.2.mem ((c.tc : Thread Cert.KernelIdeal.nD Cert.KernelIdeal.τ).loc Cert.KernelIdeal.main_v1_5) = v5
          ∧ r.2.mem ((c.tc : Thread Cert.KernelIdeal.nD Cert.KernelIdeal.τ).loc Cert.KernelIdeal.main_v1_6) = v6
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_v3) = v1
          ∧ r.2.mem (((0 : Dev Cert.ReferenceIdeal.nD).tc : Thread Cert.ReferenceIdeal.nD Cert.ReferenceIdeal.τ).loc Cert.ReferenceIdeal.main_v4) = v2
          ∧ r.2.mem (((0 : Dev Cert.ReferenceIdeal.nD).tc : Thread Cert.ReferenceIdeal.nD Cert.ReferenceIdeal.τ).loc Cert.ReferenceIdeal.main_v6) = v3
          ∧ r.2.mem (((0 : Dev Cert.ReferenceIdeal.nD).tc : Thread Cert.ReferenceIdeal.nD Cert.ReferenceIdeal.τ).loc Cert.ReferenceIdeal.main_v7) = v4
          ∧ r.2.mem (((0 : Dev Cert.ReferenceIdeal.nD).tc : Thread Cert.ReferenceIdeal.nD Cert.ReferenceIdeal.τ).loc Cert.ReferenceIdeal.main_v8) = v5
          ∧ r.2.mem (((0 : Dev Cert.ReferenceIdeal.nD).tc : Thread Cert.ReferenceIdeal.nD Cert.ReferenceIdeal.τ).loc Cert.ReferenceIdeal.main_v10) = v6
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def preserves_Swap_SwapIdeal : Prop :=
  True

def bitexact_Swap_SwapReference [hSwap : Cert.Swap.Facts] [hSwapReference : Cert.SwapReference.Facts] : Prop :=
  ∀ (m : (ℓ : Loc Cert.Swap.nD Cert.Swap.τ Cert.Swap.sig) → Buf (Elt Bits) ℓ) (g : Dev Cert.Swap.nD → PrngReg)
    (m' : (ℓ : Loc Cert.SwapReference.nD Cert.SwapReference.τ Cert.SwapReference.sig) → Buf (Elt Bits) ℓ) (g' : Dev Cert.SwapReference.nD → PrngReg), Pre_Swap m →
    (∀ c : Dev Cert.Swap.nD,
      m ((c.tc : Thread Cert.Swap.nD Cert.Swap.τ).loc Cert.Swap.main_arg0) = Layout.block ⟨3, ![4, 2048, 564]⟩ ⟨3, ![32, 2048, 564]⟩ 0 8 c (m' (((0 : Dev Cert.SwapReference.nD).tc : Thread Cert.SwapReference.nD Cert.SwapReference.τ).loc Cert.SwapReference.main_arg0))
      ∧ m ((c.tc : Thread Cert.Swap.nD Cert.Swap.τ).loc Cert.Swap.main_arg1) = Layout.block ⟨3, ![4, 256, 2048]⟩ ⟨3, ![32, 256, 2048]⟩ 0 8 c (m' (((0 : Dev Cert.SwapReference.nD).tc : Thread Cert.SwapReference.nD Cert.SwapReference.τ).loc Cert.SwapReference.main_arg1))
      ∧ m ((c.tc : Thread Cert.Swap.nD Cert.Swap.τ).loc Cert.Swap.main_arg2) = Layout.block ⟨3, ![4, 2048, 1024]⟩ ⟨3, ![32, 2048, 1024]⟩ 0 8 c (m' (((0 : Dev Cert.SwapReference.nD).tc : Thread Cert.SwapReference.nD Cert.SwapReference.τ).loc Cert.SwapReference.main_arg2))
      ∧ m ((c.tc : Thread Cert.Swap.nD Cert.Swap.τ).loc Cert.Swap.main_arg3) = Layout.block ⟨3, ![4, 1024, 2048]⟩ ⟨3, ![32, 1024, 2048]⟩ 0 8 c (m' (((0 : Dev Cert.SwapReference.nD).tc : Thread Cert.SwapReference.nD Cert.SwapReference.τ).loc Cert.SwapReference.main_arg3))
      ∧ m ((c.tc : Thread Cert.Swap.nD Cert.Swap.τ).loc Cert.Swap.main_arg4) = Layout.block ⟨3, ![4, 128, 1024]⟩ ⟨3, ![32, 128, 1024]⟩ 0 8 c (m' (((0 : Dev Cert.SwapReference.nD).tc : Thread Cert.SwapReference.nD Cert.SwapReference.τ).loc Cert.SwapReference.main_arg4))
      ∧ m ((c.tc : Thread Cert.Swap.nD Cert.Swap.τ).loc Cert.Swap.main_arg5) = Layout.block ⟨3, ![4, 432, 128]⟩ ⟨3, ![32, 432, 128]⟩ 0 8 c (m' (((0 : Dev Cert.SwapReference.nD).tc : Thread Cert.SwapReference.nD Cert.SwapReference.τ).loc Cert.SwapReference.main_arg5))) →
    ∃ (v0 : Buf (Elt Bits) (((0 : Dev Cert.SwapReference.nD).tc : Thread Cert.SwapReference.nD Cert.SwapReference.τ).loc Cert.SwapReference.main_v2)) (v1 : Buf (Elt Bits) (((0 : Dev Cert.SwapReference.nD).tc : Thread Cert.SwapReference.nD Cert.SwapReference.τ).loc Cert.SwapReference.main_v5)) (v2 : Buf (Elt Bits) (((0 : Dev Cert.SwapReference.nD).tc : Thread Cert.SwapReference.nD Cert.SwapReference.τ).loc Cert.SwapReference.main_v8)) (v3 : Buf (Elt Bits) (((0 : Dev Cert.SwapReference.nD).tc : Thread Cert.SwapReference.nD Cert.SwapReference.τ).loc Cert.SwapReference.main_v11)) (v4 : Buf (Elt Bits) (((0 : Dev Cert.SwapReference.nD).tc : Thread Cert.SwapReference.nD Cert.SwapReference.τ).loc Cert.SwapReference.main_v14)) (v5 : Buf (Elt Bits) (((0 : Dev Cert.SwapReference.nD).tc : Thread Cert.SwapReference.nD Cert.SwapReference.τ).loc Cert.SwapReference.main_v17)),
      θ_run (Cert.Swap.defs (F := Bits)) (onTc (τ := Cert.Swap.τ) (Cert.Swap.main (F := Bits))) ⟨m, fun _ => 0, g⟩ (fun r => ∀ c : Dev Cert.Swap.nD,
          r.2.mem ((c.tc : Thread Cert.Swap.nD Cert.Swap.τ).loc Cert.Swap.main_v1_0) = Layout.block ⟨3, ![4, 2048, 564]⟩ ⟨3, ![32, 2048, 564]⟩ 0 8 c v0
          ∧ r.2.mem ((c.tc : Thread Cert.Swap.nD Cert.Swap.τ).loc Cert.Swap.main_v1_1) = Layout.block ⟨3, ![4, 256, 2048]⟩ ⟨3, ![32, 256, 2048]⟩ 0 8 c v1
          ∧ r.2.mem ((c.tc : Thread Cert.Swap.nD Cert.Swap.τ).loc Cert.Swap.main_v1_2) = Layout.block ⟨3, ![4, 2048, 1024]⟩ ⟨3, ![32, 2048, 1024]⟩ 0 8 c v2
          ∧ r.2.mem ((c.tc : Thread Cert.Swap.nD Cert.Swap.τ).loc Cert.Swap.main_v1_3) = Layout.block ⟨3, ![4, 1024, 2048]⟩ ⟨3, ![32, 1024, 2048]⟩ 0 8 c v3
          ∧ r.2.mem ((c.tc : Thread Cert.Swap.nD Cert.Swap.τ).loc Cert.Swap.main_v1_4) = Layout.block ⟨3, ![4, 128, 1024]⟩ ⟨3, ![32, 128, 1024]⟩ 0 8 c v4
          ∧ r.2.mem ((c.tc : Thread Cert.Swap.nD Cert.Swap.τ).loc Cert.Swap.main_v1_5) = Layout.block ⟨3, ![4, 432, 128]⟩ ⟨3, ![32, 432, 128]⟩ 0 8 c v5
          ∧ r.2.mem ((c.tc : Thread Cert.Swap.nD Cert.Swap.τ).loc Cert.Swap.main_arg0) = m ((c.tc : Thread Cert.Swap.nD Cert.Swap.τ).loc Cert.Swap.main_arg0)
          ∧ r.2.mem ((c.tc : Thread Cert.Swap.nD Cert.Swap.τ).loc Cert.Swap.main_arg1) = m ((c.tc : Thread Cert.Swap.nD Cert.Swap.τ).loc Cert.Swap.main_arg1)
          ∧ r.2.mem ((c.tc : Thread Cert.Swap.nD Cert.Swap.τ).loc Cert.Swap.main_arg2) = m ((c.tc : Thread Cert.Swap.nD Cert.Swap.τ).loc Cert.Swap.main_arg2)
          ∧ r.2.mem ((c.tc : Thread Cert.Swap.nD Cert.Swap.τ).loc Cert.Swap.main_arg3) = m ((c.tc : Thread Cert.Swap.nD Cert.Swap.τ).loc Cert.Swap.main_arg3)
          ∧ r.2.mem ((c.tc : Thread Cert.Swap.nD Cert.Swap.τ).loc Cert.Swap.main_arg4) = m ((c.tc : Thread Cert.Swap.nD Cert.Swap.τ).loc Cert.Swap.main_arg4)
          ∧ r.2.mem ((c.tc : Thread Cert.Swap.nD Cert.Swap.τ).loc Cert.Swap.main_arg5) = m ((c.tc : Thread Cert.Swap.nD Cert.Swap.τ).loc Cert.Swap.main_arg5))
      ∧ θ_run (Cert.SwapReference.defs (F := Bits)) (onTc (τ := Cert.SwapReference.τ) (Cert.SwapReference.main (F := Bits))) ⟨m', fun _ => 0, g'⟩ (fun r =>
          r.2.mem (((0 : Dev Cert.SwapReference.nD).tc : Thread Cert.SwapReference.nD Cert.SwapReference.τ).loc Cert.SwapReference.main_v2) = v0
          ∧ r.2.mem (((0 : Dev Cert.SwapReference.nD).tc : Thread Cert.SwapReference.nD Cert.SwapReference.τ).loc Cert.SwapReference.main_v5) = v1
          ∧ r.2.mem (((0 : Dev Cert.SwapReference.nD).tc : Thread Cert.SwapReference.nD Cert.SwapReference.τ).loc Cert.SwapReference.main_v8) = v2
          ∧ r.2.mem (((0 : Dev Cert.SwapReference.nD).tc : Thread Cert.SwapReference.nD Cert.SwapReference.τ).loc Cert.SwapReference.main_v11) = v3
          ∧ r.2.mem (((0 : Dev Cert.SwapReference.nD).tc : Thread Cert.SwapReference.nD Cert.SwapReference.τ).loc Cert.SwapReference.main_v14) = v4
          ∧ r.2.mem (((0 : Dev Cert.SwapReference.nD).tc : Thread Cert.SwapReference.nD Cert.SwapReference.τ).loc Cert.SwapReference.main_v17) = v5
          ∧ r.2.mem (((0 : Dev Cert.SwapReference.nD).tc : Thread Cert.SwapReference.nD Cert.SwapReference.τ).loc Cert.SwapReference.main_arg0) = m' (((0 : Dev Cert.SwapReference.nD).tc : Thread Cert.SwapReference.nD Cert.SwapReference.τ).loc Cert.SwapReference.main_arg0)
          ∧ r.2.mem (((0 : Dev Cert.SwapReference.nD).tc : Thread Cert.SwapReference.nD Cert.SwapReference.τ).loc Cert.SwapReference.main_arg1) = m' (((0 : Dev Cert.SwapReference.nD).tc : Thread Cert.SwapReference.nD Cert.SwapReference.τ).loc Cert.SwapReference.main_arg1)
          ∧ r.2.mem (((0 : Dev Cert.SwapReference.nD).tc : Thread Cert.SwapReference.nD Cert.SwapReference.τ).loc Cert.SwapReference.main_arg2) = m' (((0 : Dev Cert.SwapReference.nD).tc : Thread Cert.SwapReference.nD Cert.SwapReference.τ).loc Cert.SwapReference.main_arg2)
          ∧ r.2.mem (((0 : Dev Cert.SwapReference.nD).tc : Thread Cert.SwapReference.nD Cert.SwapReference.τ).loc Cert.SwapReference.main_arg3) = m' (((0 : Dev Cert.SwapReference.nD).tc : Thread Cert.SwapReference.nD Cert.SwapReference.τ).loc Cert.SwapReference.main_arg3)
          ∧ r.2.mem (((0 : Dev Cert.SwapReference.nD).tc : Thread Cert.SwapReference.nD Cert.SwapReference.τ).loc Cert.SwapReference.main_arg4) = m' (((0 : Dev Cert.SwapReference.nD).tc : Thread Cert.SwapReference.nD Cert.SwapReference.τ).loc Cert.SwapReference.main_arg4)
          ∧ r.2.mem (((0 : Dev Cert.SwapReference.nD).tc : Thread Cert.SwapReference.nD Cert.SwapReference.τ).loc Cert.SwapReference.main_arg5) = m' (((0 : Dev Cert.SwapReference.nD).tc : Thread Cert.SwapReference.nD Cert.SwapReference.τ).loc Cert.SwapReference.main_arg5))

def algebraic_SwapIdeal_SwapReferenceIdeal [hSwapIdeal : Cert.SwapIdeal.Facts] [hSwapReferenceIdeal : Cert.SwapReferenceIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapReferenceIdeal.nD Cert.SwapReferenceIdeal.τ Cert.SwapReferenceIdeal.sig) → Buf (Elt Ideal) ℓ) (g' : Dev Cert.SwapReferenceIdeal.nD → PrngReg), Pre_SwapIdeal m →
    (∀ c : Dev Cert.SwapIdeal.nD,
      m ((c.tc : Thread Cert.SwapIdeal.nD Cert.SwapIdeal.τ).loc Cert.SwapIdeal.main_arg0) = Layout.block ⟨3, ![4, 2048, 564]⟩ ⟨3, ![32, 2048, 564]⟩ 0 8 c (m' (((0 : Dev Cert.SwapReferenceIdeal.nD).tc : Thread Cert.SwapReferenceIdeal.nD Cert.SwapReferenceIdeal.τ).loc Cert.SwapReferenceIdeal.main_arg0))
      ∧ m ((c.tc : Thread Cert.SwapIdeal.nD Cert.SwapIdeal.τ).loc Cert.SwapIdeal.main_arg1) = Layout.block ⟨3, ![4, 256, 2048]⟩ ⟨3, ![32, 256, 2048]⟩ 0 8 c (m' (((0 : Dev Cert.SwapReferenceIdeal.nD).tc : Thread Cert.SwapReferenceIdeal.nD Cert.SwapReferenceIdeal.τ).loc Cert.SwapReferenceIdeal.main_arg1))
      ∧ m ((c.tc : Thread Cert.SwapIdeal.nD Cert.SwapIdeal.τ).loc Cert.SwapIdeal.main_arg2) = Layout.block ⟨3, ![4, 2048, 1024]⟩ ⟨3, ![32, 2048, 1024]⟩ 0 8 c (m' (((0 : Dev Cert.SwapReferenceIdeal.nD).tc : Thread Cert.SwapReferenceIdeal.nD Cert.SwapReferenceIdeal.τ).loc Cert.SwapReferenceIdeal.main_arg2))
      ∧ m ((c.tc : Thread Cert.SwapIdeal.nD Cert.SwapIdeal.τ).loc Cert.SwapIdeal.main_arg3) = Layout.block ⟨3, ![4, 1024, 2048]⟩ ⟨3, ![32, 1024, 2048]⟩ 0 8 c (m' (((0 : Dev Cert.SwapReferenceIdeal.nD).tc : Thread Cert.SwapReferenceIdeal.nD Cert.SwapReferenceIdeal.τ).loc Cert.SwapReferenceIdeal.main_arg3))
      ∧ m ((c.tc : Thread Cert.SwapIdeal.nD Cert.SwapIdeal.τ).loc Cert.SwapIdeal.main_arg4) = Layout.block ⟨3, ![4, 128, 1024]⟩ ⟨3, ![32, 128, 1024]⟩ 0 8 c (m' (((0 : Dev Cert.SwapReferenceIdeal.nD).tc : Thread Cert.SwapReferenceIdeal.nD Cert.SwapReferenceIdeal.τ).loc Cert.SwapReferenceIdeal.main_arg4))
      ∧ m ((c.tc : Thread Cert.SwapIdeal.nD Cert.SwapIdeal.τ).loc Cert.SwapIdeal.main_arg5) = Layout.block ⟨3, ![4, 432, 128]⟩ ⟨3, ![32, 432, 128]⟩ 0 8 c (m' (((0 : Dev Cert.SwapReferenceIdeal.nD).tc : Thread Cert.SwapReferenceIdeal.nD Cert.SwapReferenceIdeal.τ).loc Cert.SwapReferenceIdeal.main_arg5))) →
    ∃ (v0 : Buf (Elt Ideal) (((0 : Dev Cert.SwapReferenceIdeal.nD).tc : Thread Cert.SwapReferenceIdeal.nD Cert.SwapReferenceIdeal.τ).loc Cert.SwapReferenceIdeal.main_v2)) (v1 : Buf (Elt Ideal) (((0 : Dev Cert.SwapReferenceIdeal.nD).tc : Thread Cert.SwapReferenceIdeal.nD Cert.SwapReferenceIdeal.τ).loc Cert.SwapReferenceIdeal.main_v5)) (v2 : Buf (Elt Ideal) (((0 : Dev Cert.SwapReferenceIdeal.nD).tc : Thread Cert.SwapReferenceIdeal.nD Cert.SwapReferenceIdeal.τ).loc Cert.SwapReferenceIdeal.main_v8)) (v3 : Buf (Elt Ideal) (((0 : Dev Cert.SwapReferenceIdeal.nD).tc : Thread Cert.SwapReferenceIdeal.nD Cert.SwapReferenceIdeal.τ).loc Cert.SwapReferenceIdeal.main_v11)) (v4 : Buf (Elt Ideal) (((0 : Dev Cert.SwapReferenceIdeal.nD).tc : Thread Cert.SwapReferenceIdeal.nD Cert.SwapReferenceIdeal.τ).loc Cert.SwapReferenceIdeal.main_v14)) (v5 : Buf (Elt Ideal) (((0 : Dev Cert.SwapReferenceIdeal.nD).tc : Thread Cert.SwapReferenceIdeal.nD Cert.SwapReferenceIdeal.τ).loc Cert.SwapReferenceIdeal.main_v17)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1_0) = Layout.block ⟨3, ![4, 2048, 564]⟩ ⟨3, ![32, 2048, 564]⟩ 0 8 c v0
          ∧ r.2.mem ((c.tc : Thread Cert.SwapIdeal.nD Cert.SwapIdeal.τ).loc Cert.SwapIdeal.main_v1_1) = Layout.block ⟨3, ![4, 256, 2048]⟩ ⟨3, ![32, 256, 2048]⟩ 0 8 c v1
          ∧ r.2.mem ((c.tc : Thread Cert.SwapIdeal.nD Cert.SwapIdeal.τ).loc Cert.SwapIdeal.main_v1_2) = Layout.block ⟨3, ![4, 2048, 1024]⟩ ⟨3, ![32, 2048, 1024]⟩ 0 8 c v2
          ∧ r.2.mem ((c.tc : Thread Cert.SwapIdeal.nD Cert.SwapIdeal.τ).loc Cert.SwapIdeal.main_v1_3) = Layout.block ⟨3, ![4, 1024, 2048]⟩ ⟨3, ![32, 1024, 2048]⟩ 0 8 c v3
          ∧ r.2.mem ((c.tc : Thread Cert.SwapIdeal.nD Cert.SwapIdeal.τ).loc Cert.SwapIdeal.main_v1_4) = Layout.block ⟨3, ![4, 128, 1024]⟩ ⟨3, ![32, 128, 1024]⟩ 0 8 c v4
          ∧ r.2.mem ((c.tc : Thread Cert.SwapIdeal.nD Cert.SwapIdeal.τ).loc Cert.SwapIdeal.main_v1_5) = Layout.block ⟨3, ![4, 432, 128]⟩ ⟨3, ![32, 432, 128]⟩ 0 8 c v5
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0)
          ∧ r.2.mem ((c.tc : Thread Cert.SwapIdeal.nD Cert.SwapIdeal.τ).loc Cert.SwapIdeal.main_arg1) = m ((c.tc : Thread Cert.SwapIdeal.nD Cert.SwapIdeal.τ).loc Cert.SwapIdeal.main_arg1)
          ∧ r.2.mem ((c.tc : Thread Cert.SwapIdeal.nD Cert.SwapIdeal.τ).loc Cert.SwapIdeal.main_arg2) = m ((c.tc : Thread Cert.SwapIdeal.nD Cert.SwapIdeal.τ).loc Cert.SwapIdeal.main_arg2)
          ∧ r.2.mem ((c.tc : Thread Cert.SwapIdeal.nD Cert.SwapIdeal.τ).loc Cert.SwapIdeal.main_arg3) = m ((c.tc : Thread Cert.SwapIdeal.nD Cert.SwapIdeal.τ).loc Cert.SwapIdeal.main_arg3)
          ∧ r.2.mem ((c.tc : Thread Cert.SwapIdeal.nD Cert.SwapIdeal.τ).loc Cert.SwapIdeal.main_arg4) = m ((c.tc : Thread Cert.SwapIdeal.nD Cert.SwapIdeal.τ).loc Cert.SwapIdeal.main_arg4)
          ∧ r.2.mem ((c.tc : Thread Cert.SwapIdeal.nD Cert.SwapIdeal.τ).loc Cert.SwapIdeal.main_arg5) = m ((c.tc : Thread Cert.SwapIdeal.nD Cert.SwapIdeal.τ).loc Cert.SwapIdeal.main_arg5))
      ∧ θ_run (Cert.SwapReferenceIdeal.defs (F := Ideal)) (onTc (τ := Cert.SwapReferenceIdeal.τ) (Cert.SwapReferenceIdeal.main (F := Ideal))) ⟨m', fun _ => 0, g'⟩ (fun r =>
          r.2.mem (((0 : Dev Cert.SwapReferenceIdeal.nD).tc : Thread Cert.SwapReferenceIdeal.nD Cert.SwapReferenceIdeal.τ).loc Cert.SwapReferenceIdeal.main_v2) = v0
          ∧ r.2.mem (((0 : Dev Cert.SwapReferenceIdeal.nD).tc : Thread Cert.SwapReferenceIdeal.nD Cert.SwapReferenceIdeal.τ).loc Cert.SwapReferenceIdeal.main_v5) = v1
          ∧ r.2.mem (((0 : Dev Cert.SwapReferenceIdeal.nD).tc : Thread Cert.SwapReferenceIdeal.nD Cert.SwapReferenceIdeal.τ).loc Cert.SwapReferenceIdeal.main_v8) = v2
          ∧ r.2.mem (((0 : Dev Cert.SwapReferenceIdeal.nD).tc : Thread Cert.SwapReferenceIdeal.nD Cert.SwapReferenceIdeal.τ).loc Cert.SwapReferenceIdeal.main_v11) = v3
          ∧ r.2.mem (((0 : Dev Cert.SwapReferenceIdeal.nD).tc : Thread Cert.SwapReferenceIdeal.nD Cert.SwapReferenceIdeal.τ).loc Cert.SwapReferenceIdeal.main_v14) = v4
          ∧ r.2.mem (((0 : Dev Cert.SwapReferenceIdeal.nD).tc : Thread Cert.SwapReferenceIdeal.nD Cert.SwapReferenceIdeal.τ).loc Cert.SwapReferenceIdeal.main_v17) = v5
          ∧ r.2.mem (((0 : Dev Cert.SwapReferenceIdeal.nD).tc : Thread Cert.SwapReferenceIdeal.nD Cert.SwapReferenceIdeal.τ).loc Cert.SwapReferenceIdeal.main_arg0) = m' (((0 : Dev Cert.SwapReferenceIdeal.nD).tc : Thread Cert.SwapReferenceIdeal.nD Cert.SwapReferenceIdeal.τ).loc Cert.SwapReferenceIdeal.main_arg0)
          ∧ r.2.mem (((0 : Dev Cert.SwapReferenceIdeal.nD).tc : Thread Cert.SwapReferenceIdeal.nD Cert.SwapReferenceIdeal.τ).loc Cert.SwapReferenceIdeal.main_arg1) = m' (((0 : Dev Cert.SwapReferenceIdeal.nD).tc : Thread Cert.SwapReferenceIdeal.nD Cert.SwapReferenceIdeal.τ).loc Cert.SwapReferenceIdeal.main_arg1)
          ∧ r.2.mem (((0 : Dev Cert.SwapReferenceIdeal.nD).tc : Thread Cert.SwapReferenceIdeal.nD Cert.SwapReferenceIdeal.τ).loc Cert.SwapReferenceIdeal.main_arg2) = m' (((0 : Dev Cert.SwapReferenceIdeal.nD).tc : Thread Cert.SwapReferenceIdeal.nD Cert.SwapReferenceIdeal.τ).loc Cert.SwapReferenceIdeal.main_arg2)
          ∧ r.2.mem (((0 : Dev Cert.SwapReferenceIdeal.nD).tc : Thread Cert.SwapReferenceIdeal.nD Cert.SwapReferenceIdeal.τ).loc Cert.SwapReferenceIdeal.main_arg3) = m' (((0 : Dev Cert.SwapReferenceIdeal.nD).tc : Thread Cert.SwapReferenceIdeal.nD Cert.SwapReferenceIdeal.τ).loc Cert.SwapReferenceIdeal.main_arg3)
          ∧ r.2.mem (((0 : Dev Cert.SwapReferenceIdeal.nD).tc : Thread Cert.SwapReferenceIdeal.nD Cert.SwapReferenceIdeal.τ).loc Cert.SwapReferenceIdeal.main_arg4) = m' (((0 : Dev Cert.SwapReferenceIdeal.nD).tc : Thread Cert.SwapReferenceIdeal.nD Cert.SwapReferenceIdeal.τ).loc Cert.SwapReferenceIdeal.main_arg4)
          ∧ r.2.mem (((0 : Dev Cert.SwapReferenceIdeal.nD).tc : Thread Cert.SwapReferenceIdeal.nD Cert.SwapReferenceIdeal.τ).loc Cert.SwapReferenceIdeal.main_arg5) = m' (((0 : Dev Cert.SwapReferenceIdeal.nD).tc : Thread Cert.SwapReferenceIdeal.nD Cert.SwapReferenceIdeal.τ).loc Cert.SwapReferenceIdeal.main_arg5))

def preserves_Chips_ChipsIdeal : Prop :=
  True

def bitexact_Chips_ChipsReference [hChips : Cert.Chips.Facts] [hChipsReference : Cert.ChipsReference.Facts] : Prop :=
  ∀ (m : (ℓ : Loc Cert.Chips.nD Cert.Chips.τ Cert.Chips.sig) → Buf (Elt Bits) ℓ) (g : Dev Cert.Chips.nD → PrngReg)
    (m' : (ℓ : Loc Cert.ChipsReference.nD Cert.ChipsReference.τ Cert.ChipsReference.sig) → Buf (Elt Bits) ℓ) (g' : Dev Cert.ChipsReference.nD → PrngReg), Pre_Chips m →
    (∀ c : Dev Cert.Chips.nD,
      m ((c.tc : Thread Cert.Chips.nD Cert.Chips.τ).loc Cert.Chips.main_arg0) = Layout.block ⟨3, ![4, 2048, 564]⟩ ⟨3, ![32, 2048, 564]⟩ 0 8 c (m' (((0 : Dev Cert.ChipsReference.nD).tc : Thread Cert.ChipsReference.nD Cert.ChipsReference.τ).loc Cert.ChipsReference.main_arg0))
      ∧ m ((c.tc : Thread Cert.Chips.nD Cert.Chips.τ).loc Cert.Chips.main_arg1) = Layout.block ⟨3, ![4, 256, 2048]⟩ ⟨3, ![32, 256, 2048]⟩ 0 8 c (m' (((0 : Dev Cert.ChipsReference.nD).tc : Thread Cert.ChipsReference.nD Cert.ChipsReference.τ).loc Cert.ChipsReference.main_arg1))
      ∧ m ((c.tc : Thread Cert.Chips.nD Cert.Chips.τ).loc Cert.Chips.main_arg2) = Layout.block ⟨3, ![4, 2048, 1024]⟩ ⟨3, ![32, 2048, 1024]⟩ 0 8 c (m' (((0 : Dev Cert.ChipsReference.nD).tc : Thread Cert.ChipsReference.nD Cert.ChipsReference.τ).loc Cert.ChipsReference.main_arg2))
      ∧ m ((c.tc : Thread Cert.Chips.nD Cert.Chips.τ).loc Cert.Chips.main_arg3) = Layout.block ⟨3, ![4, 1024, 2048]⟩ ⟨3, ![32, 1024, 2048]⟩ 0 8 c (m' (((0 : Dev Cert.ChipsReference.nD).tc : Thread Cert.ChipsReference.nD Cert.ChipsReference.τ).loc Cert.ChipsReference.main_arg3))
      ∧ m ((c.tc : Thread Cert.Chips.nD Cert.Chips.τ).loc Cert.Chips.main_arg4) = Layout.block ⟨3, ![4, 128, 1024]⟩ ⟨3, ![32, 128, 1024]⟩ 0 8 c (m' (((0 : Dev Cert.ChipsReference.nD).tc : Thread Cert.ChipsReference.nD Cert.ChipsReference.τ).loc Cert.ChipsReference.main_arg4))
      ∧ m ((c.tc : Thread Cert.Chips.nD Cert.Chips.τ).loc Cert.Chips.main_arg5) = Layout.block ⟨3, ![4, 432, 128]⟩ ⟨3, ![32, 432, 128]⟩ 0 8 c (m' (((0 : Dev Cert.ChipsReference.nD).tc : Thread Cert.ChipsReference.nD Cert.ChipsReference.τ).loc Cert.ChipsReference.main_arg5))) →
    ∃ (v0 : Buf (Elt Bits) (((0 : Dev Cert.ChipsReference.nD).tc : Thread Cert.ChipsReference.nD Cert.ChipsReference.τ).loc Cert.ChipsReference.main_v2)) (v1 : Buf (Elt Bits) (((0 : Dev Cert.ChipsReference.nD).tc : Thread Cert.ChipsReference.nD Cert.ChipsReference.τ).loc Cert.ChipsReference.main_v5)) (v2 : Buf (Elt Bits) (((0 : Dev Cert.ChipsReference.nD).tc : Thread Cert.ChipsReference.nD Cert.ChipsReference.τ).loc Cert.ChipsReference.main_v8)) (v3 : Buf (Elt Bits) (((0 : Dev Cert.ChipsReference.nD).tc : Thread Cert.ChipsReference.nD Cert.ChipsReference.τ).loc Cert.ChipsReference.main_v11)) (v4 : Buf (Elt Bits) (((0 : Dev Cert.ChipsReference.nD).tc : Thread Cert.ChipsReference.nD Cert.ChipsReference.τ).loc Cert.ChipsReference.main_v14)) (v5 : Buf (Elt Bits) (((0 : Dev Cert.ChipsReference.nD).tc : Thread Cert.ChipsReference.nD Cert.ChipsReference.τ).loc Cert.ChipsReference.main_v17)),
      θ_run (Cert.Chips.defs (F := Bits)) (onTc (τ := Cert.Chips.τ) (Cert.Chips.main (F := Bits))) ⟨m, fun _ => 0, g⟩ (fun r => ∀ c : Dev Cert.Chips.nD,
          r.2.mem ((c.tc : Thread Cert.Chips.nD Cert.Chips.τ).loc Cert.Chips.main_v1_0) = Layout.block ⟨3, ![4, 2048, 564]⟩ ⟨3, ![32, 2048, 564]⟩ 0 8 c v0
          ∧ r.2.mem ((c.tc : Thread Cert.Chips.nD Cert.Chips.τ).loc Cert.Chips.main_v1_1) = Layout.block ⟨3, ![4, 256, 2048]⟩ ⟨3, ![32, 256, 2048]⟩ 0 8 c v1
          ∧ r.2.mem ((c.tc : Thread Cert.Chips.nD Cert.Chips.τ).loc Cert.Chips.main_v1_2) = Layout.block ⟨3, ![4, 2048, 1024]⟩ ⟨3, ![32, 2048, 1024]⟩ 0 8 c v2
          ∧ r.2.mem ((c.tc : Thread Cert.Chips.nD Cert.Chips.τ).loc Cert.Chips.main_v1_3) = Layout.block ⟨3, ![4, 1024, 2048]⟩ ⟨3, ![32, 1024, 2048]⟩ 0 8 c v3
          ∧ r.2.mem ((c.tc : Thread Cert.Chips.nD Cert.Chips.τ).loc Cert.Chips.main_v1_4) = Layout.block ⟨3, ![4, 128, 1024]⟩ ⟨3, ![32, 128, 1024]⟩ 0 8 c v4
          ∧ r.2.mem ((c.tc : Thread Cert.Chips.nD Cert.Chips.τ).loc Cert.Chips.main_v1_5) = Layout.block ⟨3, ![4, 432, 128]⟩ ⟨3, ![32, 432, 128]⟩ 0 8 c v5
          ∧ r.2.mem ((c.tc : Thread Cert.Chips.nD Cert.Chips.τ).loc Cert.Chips.main_arg0) = m ((c.tc : Thread Cert.Chips.nD Cert.Chips.τ).loc Cert.Chips.main_arg0)
          ∧ r.2.mem ((c.tc : Thread Cert.Chips.nD Cert.Chips.τ).loc Cert.Chips.main_arg1) = m ((c.tc : Thread Cert.Chips.nD Cert.Chips.τ).loc Cert.Chips.main_arg1)
          ∧ r.2.mem ((c.tc : Thread Cert.Chips.nD Cert.Chips.τ).loc Cert.Chips.main_arg2) = m ((c.tc : Thread Cert.Chips.nD Cert.Chips.τ).loc Cert.Chips.main_arg2)
          ∧ r.2.mem ((c.tc : Thread Cert.Chips.nD Cert.Chips.τ).loc Cert.Chips.main_arg3) = m ((c.tc : Thread Cert.Chips.nD Cert.Chips.τ).loc Cert.Chips.main_arg3)
          ∧ r.2.mem ((c.tc : Thread Cert.Chips.nD Cert.Chips.τ).loc Cert.Chips.main_arg4) = m ((c.tc : Thread Cert.Chips.nD Cert.Chips.τ).loc Cert.Chips.main_arg4)
          ∧ r.2.mem ((c.tc : Thread Cert.Chips.nD Cert.Chips.τ).loc Cert.Chips.main_arg5) = m ((c.tc : Thread Cert.Chips.nD Cert.Chips.τ).loc Cert.Chips.main_arg5))
      ∧ θ_run (Cert.ChipsReference.defs (F := Bits)) (onTc (τ := Cert.ChipsReference.τ) (Cert.ChipsReference.main (F := Bits))) ⟨m', fun _ => 0, g'⟩ (fun r =>
          r.2.mem (((0 : Dev Cert.ChipsReference.nD).tc : Thread Cert.ChipsReference.nD Cert.ChipsReference.τ).loc Cert.ChipsReference.main_v2) = v0
          ∧ r.2.mem (((0 : Dev Cert.ChipsReference.nD).tc : Thread Cert.ChipsReference.nD Cert.ChipsReference.τ).loc Cert.ChipsReference.main_v5) = v1
          ∧ r.2.mem (((0 : Dev Cert.ChipsReference.nD).tc : Thread Cert.ChipsReference.nD Cert.ChipsReference.τ).loc Cert.ChipsReference.main_v8) = v2
          ∧ r.2.mem (((0 : Dev Cert.ChipsReference.nD).tc : Thread Cert.ChipsReference.nD Cert.ChipsReference.τ).loc Cert.ChipsReference.main_v11) = v3
          ∧ r.2.mem (((0 : Dev Cert.ChipsReference.nD).tc : Thread Cert.ChipsReference.nD Cert.ChipsReference.τ).loc Cert.ChipsReference.main_v14) = v4
          ∧ r.2.mem (((0 : Dev Cert.ChipsReference.nD).tc : Thread Cert.ChipsReference.nD Cert.ChipsReference.τ).loc Cert.ChipsReference.main_v17) = v5
          ∧ r.2.mem (((0 : Dev Cert.ChipsReference.nD).tc : Thread Cert.ChipsReference.nD Cert.ChipsReference.τ).loc Cert.ChipsReference.main_arg0) = m' (((0 : Dev Cert.ChipsReference.nD).tc : Thread Cert.ChipsReference.nD Cert.ChipsReference.τ).loc Cert.ChipsReference.main_arg0)
          ∧ r.2.mem (((0 : Dev Cert.ChipsReference.nD).tc : Thread Cert.ChipsReference.nD Cert.ChipsReference.τ).loc Cert.ChipsReference.main_arg1) = m' (((0 : Dev Cert.ChipsReference.nD).tc : Thread Cert.ChipsReference.nD Cert.ChipsReference.τ).loc Cert.ChipsReference.main_arg1)
          ∧ r.2.mem (((0 : Dev Cert.ChipsReference.nD).tc : Thread Cert.ChipsReference.nD Cert.ChipsReference.τ).loc Cert.ChipsReference.main_arg2) = m' (((0 : Dev Cert.ChipsReference.nD).tc : Thread Cert.ChipsReference.nD Cert.ChipsReference.τ).loc Cert.ChipsReference.main_arg2)
          ∧ r.2.mem (((0 : Dev Cert.ChipsReference.nD).tc : Thread Cert.ChipsReference.nD Cert.ChipsReference.τ).loc Cert.ChipsReference.main_arg3) = m' (((0 : Dev Cert.ChipsReference.nD).tc : Thread Cert.ChipsReference.nD Cert.ChipsReference.τ).loc Cert.ChipsReference.main_arg3)
          ∧ r.2.mem (((0 : Dev Cert.ChipsReference.nD).tc : Thread Cert.ChipsReference.nD Cert.ChipsReference.τ).loc Cert.ChipsReference.main_arg4) = m' (((0 : Dev Cert.ChipsReference.nD).tc : Thread Cert.ChipsReference.nD Cert.ChipsReference.τ).loc Cert.ChipsReference.main_arg4)
          ∧ r.2.mem (((0 : Dev Cert.ChipsReference.nD).tc : Thread Cert.ChipsReference.nD Cert.ChipsReference.τ).loc Cert.ChipsReference.main_arg5) = m' (((0 : Dev Cert.ChipsReference.nD).tc : Thread Cert.ChipsReference.nD Cert.ChipsReference.τ).loc Cert.ChipsReference.main_arg5))

def algebraic_ChipsIdeal_ChipsReferenceIdeal [hChipsIdeal : Cert.ChipsIdeal.Facts] [hChipsReferenceIdeal : Cert.ChipsReferenceIdeal.Facts] : Prop :=
  ∀ (m : (ℓ : Loc Cert.ChipsIdeal.nD Cert.ChipsIdeal.τ Cert.ChipsIdeal.sig) → Buf (Elt Ideal) ℓ) (g : Dev Cert.ChipsIdeal.nD → PrngReg)
    (m' : (ℓ : Loc Cert.ChipsReferenceIdeal.nD Cert.ChipsReferenceIdeal.τ Cert.ChipsReferenceIdeal.sig) → Buf (Elt Ideal) ℓ) (g' : Dev Cert.ChipsReferenceIdeal.nD → PrngReg), Pre_ChipsIdeal m →
    (∀ c : Dev Cert.ChipsIdeal.nD,
      m ((c.tc : Thread Cert.ChipsIdeal.nD Cert.ChipsIdeal.τ).loc Cert.ChipsIdeal.main_arg0) = Layout.block ⟨3, ![4, 2048, 564]⟩ ⟨3, ![32, 2048, 564]⟩ 0 8 c (m' (((0 : Dev Cert.ChipsReferenceIdeal.nD).tc : Thread Cert.ChipsReferenceIdeal.nD Cert.ChipsReferenceIdeal.τ).loc Cert.ChipsReferenceIdeal.main_arg0))
      ∧ m ((c.tc : Thread Cert.ChipsIdeal.nD Cert.ChipsIdeal.τ).loc Cert.ChipsIdeal.main_arg1) = Layout.block ⟨3, ![4, 256, 2048]⟩ ⟨3, ![32, 256, 2048]⟩ 0 8 c (m' (((0 : Dev Cert.ChipsReferenceIdeal.nD).tc : Thread Cert.ChipsReferenceIdeal.nD Cert.ChipsReferenceIdeal.τ).loc Cert.ChipsReferenceIdeal.main_arg1))
      ∧ m ((c.tc : Thread Cert.ChipsIdeal.nD Cert.ChipsIdeal.τ).loc Cert.ChipsIdeal.main_arg2) = Layout.block ⟨3, ![4, 2048, 1024]⟩ ⟨3, ![32, 2048, 1024]⟩ 0 8 c (m' (((0 : Dev Cert.ChipsReferenceIdeal.nD).tc : Thread Cert.ChipsReferenceIdeal.nD Cert.ChipsReferenceIdeal.τ).loc Cert.ChipsReferenceIdeal.main_arg2))
      ∧ m ((c.tc : Thread Cert.ChipsIdeal.nD Cert.ChipsIdeal.τ).loc Cert.ChipsIdeal.main_arg3) = Layout.block ⟨3, ![4, 1024, 2048]⟩ ⟨3, ![32, 1024, 2048]⟩ 0 8 c (m' (((0 : Dev Cert.ChipsReferenceIdeal.nD).tc : Thread Cert.ChipsReferenceIdeal.nD Cert.ChipsReferenceIdeal.τ).loc Cert.ChipsReferenceIdeal.main_arg3))
      ∧ m ((c.tc : Thread Cert.ChipsIdeal.nD Cert.ChipsIdeal.τ).loc Cert.ChipsIdeal.main_arg4) = Layout.block ⟨3, ![4, 128, 1024]⟩ ⟨3, ![32, 128, 1024]⟩ 0 8 c (m' (((0 : Dev Cert.ChipsReferenceIdeal.nD).tc : Thread Cert.ChipsReferenceIdeal.nD Cert.ChipsReferenceIdeal.τ).loc Cert.ChipsReferenceIdeal.main_arg4))
      ∧ m ((c.tc : Thread Cert.ChipsIdeal.nD Cert.ChipsIdeal.τ).loc Cert.ChipsIdeal.main_arg5) = Layout.block ⟨3, ![4, 432, 128]⟩ ⟨3, ![32, 432, 128]⟩ 0 8 c (m' (((0 : Dev Cert.ChipsReferenceIdeal.nD).tc : Thread Cert.ChipsReferenceIdeal.nD Cert.ChipsReferenceIdeal.τ).loc Cert.ChipsReferenceIdeal.main_arg5))) →
    ∃ (v0 : Buf (Elt Ideal) (((0 : Dev Cert.ChipsReferenceIdeal.nD).tc : Thread Cert.ChipsReferenceIdeal.nD Cert.ChipsReferenceIdeal.τ).loc Cert.ChipsReferenceIdeal.main_v2)) (v1 : Buf (Elt Ideal) (((0 : Dev Cert.ChipsReferenceIdeal.nD).tc : Thread Cert.ChipsReferenceIdeal.nD Cert.ChipsReferenceIdeal.τ).loc Cert.ChipsReferenceIdeal.main_v5)) (v2 : Buf (Elt Ideal) (((0 : Dev Cert.ChipsReferenceIdeal.nD).tc : Thread Cert.ChipsReferenceIdeal.nD Cert.ChipsReferenceIdeal.τ).loc Cert.ChipsReferenceIdeal.main_v8)) (v3 : Buf (Elt Ideal) (((0 : Dev Cert.ChipsReferenceIdeal.nD).tc : Thread Cert.ChipsReferenceIdeal.nD Cert.ChipsReferenceIdeal.τ).loc Cert.ChipsReferenceIdeal.main_v11)) (v4 : Buf (Elt Ideal) (((0 : Dev Cert.ChipsReferenceIdeal.nD).tc : Thread Cert.ChipsReferenceIdeal.nD Cert.ChipsReferenceIdeal.τ).loc Cert.ChipsReferenceIdeal.main_v14)) (v5 : Buf (Elt Ideal) (((0 : Dev Cert.ChipsReferenceIdeal.nD).tc : Thread Cert.ChipsReferenceIdeal.nD Cert.ChipsReferenceIdeal.τ).loc Cert.ChipsReferenceIdeal.main_v17)),
      θ_run (Cert.ChipsIdeal.defs (F := Ideal)) (onTc (τ := Cert.ChipsIdeal.τ) (Cert.ChipsIdeal.main (F := Ideal))) ⟨m, fun _ => 0, g⟩ (fun r => ∀ c : Dev Cert.ChipsIdeal.nD,
          r.2.mem ((c.tc : Thread Cert.ChipsIdeal.nD Cert.ChipsIdeal.τ).loc Cert.ChipsIdeal.main_v1_0) = Layout.block ⟨3, ![4, 2048, 564]⟩ ⟨3, ![32, 2048, 564]⟩ 0 8 c v0
          ∧ r.2.mem ((c.tc : Thread Cert.ChipsIdeal.nD Cert.ChipsIdeal.τ).loc Cert.ChipsIdeal.main_v1_1) = Layout.block ⟨3, ![4, 256, 2048]⟩ ⟨3, ![32, 256, 2048]⟩ 0 8 c v1
          ∧ r.2.mem ((c.tc : Thread Cert.ChipsIdeal.nD Cert.ChipsIdeal.τ).loc Cert.ChipsIdeal.main_v1_2) = Layout.block ⟨3, ![4, 2048, 1024]⟩ ⟨3, ![32, 2048, 1024]⟩ 0 8 c v2
          ∧ r.2.mem ((c.tc : Thread Cert.ChipsIdeal.nD Cert.ChipsIdeal.τ).loc Cert.ChipsIdeal.main_v1_3) = Layout.block ⟨3, ![4, 1024, 2048]⟩ ⟨3, ![32, 1024, 2048]⟩ 0 8 c v3
          ∧ r.2.mem ((c.tc : Thread Cert.ChipsIdeal.nD Cert.ChipsIdeal.τ).loc Cert.ChipsIdeal.main_v1_4) = Layout.block ⟨3, ![4, 128, 1024]⟩ ⟨3, ![32, 128, 1024]⟩ 0 8 c v4
          ∧ r.2.mem ((c.tc : Thread Cert.ChipsIdeal.nD Cert.ChipsIdeal.τ).loc Cert.ChipsIdeal.main_v1_5) = Layout.block ⟨3, ![4, 432, 128]⟩ ⟨3, ![32, 432, 128]⟩ 0 8 c v5
          ∧ r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0)
          ∧ r.2.mem ((c.tc : Thread Cert.ChipsIdeal.nD Cert.ChipsIdeal.τ).loc Cert.ChipsIdeal.main_arg1) = m ((c.tc : Thread Cert.ChipsIdeal.nD Cert.ChipsIdeal.τ).loc Cert.ChipsIdeal.main_arg1)
          ∧ r.2.mem ((c.tc : Thread Cert.ChipsIdeal.nD Cert.ChipsIdeal.τ).loc Cert.ChipsIdeal.main_arg2) = m ((c.tc : Thread Cert.ChipsIdeal.nD Cert.ChipsIdeal.τ).loc Cert.ChipsIdeal.main_arg2)
          ∧ r.2.mem ((c.tc : Thread Cert.ChipsIdeal.nD Cert.ChipsIdeal.τ).loc Cert.ChipsIdeal.main_arg3) = m ((c.tc : Thread Cert.ChipsIdeal.nD Cert.ChipsIdeal.τ).loc Cert.ChipsIdeal.main_arg3)
          ∧ r.2.mem ((c.tc : Thread Cert.ChipsIdeal.nD Cert.ChipsIdeal.τ).loc Cert.ChipsIdeal.main_arg4) = m ((c.tc : Thread Cert.ChipsIdeal.nD Cert.ChipsIdeal.τ).loc Cert.ChipsIdeal.main_arg4)
          ∧ r.2.mem ((c.tc : Thread Cert.ChipsIdeal.nD Cert.ChipsIdeal.τ).loc Cert.ChipsIdeal.main_arg5) = m ((c.tc : Thread Cert.ChipsIdeal.nD Cert.ChipsIdeal.τ).loc Cert.ChipsIdeal.main_arg5))
      ∧ θ_run (Cert.ChipsReferenceIdeal.defs (F := Ideal)) (onTc (τ := Cert.ChipsReferenceIdeal.τ) (Cert.ChipsReferenceIdeal.main (F := Ideal))) ⟨m', fun _ => 0, g'⟩ (fun r =>
          r.2.mem (((0 : Dev Cert.ChipsReferenceIdeal.nD).tc : Thread Cert.ChipsReferenceIdeal.nD Cert.ChipsReferenceIdeal.τ).loc Cert.ChipsReferenceIdeal.main_v2) = v0
          ∧ r.2.mem (((0 : Dev Cert.ChipsReferenceIdeal.nD).tc : Thread Cert.ChipsReferenceIdeal.nD Cert.ChipsReferenceIdeal.τ).loc Cert.ChipsReferenceIdeal.main_v5) = v1
          ∧ r.2.mem (((0 : Dev Cert.ChipsReferenceIdeal.nD).tc : Thread Cert.ChipsReferenceIdeal.nD Cert.ChipsReferenceIdeal.τ).loc Cert.ChipsReferenceIdeal.main_v8) = v2
          ∧ r.2.mem (((0 : Dev Cert.ChipsReferenceIdeal.nD).tc : Thread Cert.ChipsReferenceIdeal.nD Cert.ChipsReferenceIdeal.τ).loc Cert.ChipsReferenceIdeal.main_v11) = v3
          ∧ r.2.mem (((0 : Dev Cert.ChipsReferenceIdeal.nD).tc : Thread Cert.ChipsReferenceIdeal.nD Cert.ChipsReferenceIdeal.τ).loc Cert.ChipsReferenceIdeal.main_v14) = v4
          ∧ r.2.mem (((0 : Dev Cert.ChipsReferenceIdeal.nD).tc : Thread Cert.ChipsReferenceIdeal.nD Cert.ChipsReferenceIdeal.τ).loc Cert.ChipsReferenceIdeal.main_v17) = v5
          ∧ r.2.mem (((0 : Dev Cert.ChipsReferenceIdeal.nD).tc : Thread Cert.ChipsReferenceIdeal.nD Cert.ChipsReferenceIdeal.τ).loc Cert.ChipsReferenceIdeal.main_arg0) = m' (((0 : Dev Cert.ChipsReferenceIdeal.nD).tc : Thread Cert.ChipsReferenceIdeal.nD Cert.ChipsReferenceIdeal.τ).loc Cert.ChipsReferenceIdeal.main_arg0)
          ∧ r.2.mem (((0 : Dev Cert.ChipsReferenceIdeal.nD).tc : Thread Cert.ChipsReferenceIdeal.nD Cert.ChipsReferenceIdeal.τ).loc Cert.ChipsReferenceIdeal.main_arg1) = m' (((0 : Dev Cert.ChipsReferenceIdeal.nD).tc : Thread Cert.ChipsReferenceIdeal.nD Cert.ChipsReferenceIdeal.τ).loc Cert.ChipsReferenceIdeal.main_arg1)
          ∧ r.2.mem (((0 : Dev Cert.ChipsReferenceIdeal.nD).tc : Thread Cert.ChipsReferenceIdeal.nD Cert.ChipsReferenceIdeal.τ).loc Cert.ChipsReferenceIdeal.main_arg2) = m' (((0 : Dev Cert.ChipsReferenceIdeal.nD).tc : Thread Cert.ChipsReferenceIdeal.nD Cert.ChipsReferenceIdeal.τ).loc Cert.ChipsReferenceIdeal.main_arg2)
          ∧ r.2.mem (((0 : Dev Cert.ChipsReferenceIdeal.nD).tc : Thread Cert.ChipsReferenceIdeal.nD Cert.ChipsReferenceIdeal.τ).loc Cert.ChipsReferenceIdeal.main_arg3) = m' (((0 : Dev Cert.ChipsReferenceIdeal.nD).tc : Thread Cert.ChipsReferenceIdeal.nD Cert.ChipsReferenceIdeal.τ).loc Cert.ChipsReferenceIdeal.main_arg3)
          ∧ r.2.mem (((0 : Dev Cert.ChipsReferenceIdeal.nD).tc : Thread Cert.ChipsReferenceIdeal.nD Cert.ChipsReferenceIdeal.τ).loc Cert.ChipsReferenceIdeal.main_arg4) = m' (((0 : Dev Cert.ChipsReferenceIdeal.nD).tc : Thread Cert.ChipsReferenceIdeal.nD Cert.ChipsReferenceIdeal.τ).loc Cert.ChipsReferenceIdeal.main_arg4)
          ∧ r.2.mem (((0 : Dev Cert.ChipsReferenceIdeal.nD).tc : Thread Cert.ChipsReferenceIdeal.nD Cert.ChipsReferenceIdeal.τ).loc Cert.ChipsReferenceIdeal.main_arg5) = m' (((0 : Dev Cert.ChipsReferenceIdeal.nD).tc : Thread Cert.ChipsReferenceIdeal.nD Cert.ChipsReferenceIdeal.τ).loc Cert.ChipsReferenceIdeal.main_arg5))

def preserves_Small_SmallIdeal : Prop :=
  True

def bitexact_Small_SmallReference [hSmall : Cert.Small.Facts] [hSmallReference : Cert.SmallReference.Facts] : Prop :=
  ∀ (m : (ℓ : Loc Cert.Small.nD Cert.Small.τ Cert.Small.sig) → Buf (Elt Bits) ℓ) (g : Dev Cert.Small.nD → PrngReg)
    (m' : (ℓ : Loc Cert.SmallReference.nD Cert.SmallReference.τ Cert.SmallReference.sig) → Buf (Elt Bits) ℓ) (g' : Dev Cert.SmallReference.nD → PrngReg), Pre_Small m →
    (∀ c : Dev Cert.Small.nD,
      m ((c.tc : Thread Cert.Small.nD Cert.Small.τ).loc Cert.Small.main_arg0) = Layout.block ⟨2, ![2504, 128]⟩ ⟨2, ![20032, 128]⟩ 0 8 c (m' (((0 : Dev Cert.SmallReference.nD).tc : Thread Cert.SmallReference.nD Cert.SmallReference.τ).loc Cert.SmallReference.main_arg0))) →
    ∃ (v0 : Buf (Elt Bits) (((0 : Dev Cert.SmallReference.nD).tc : Thread Cert.SmallReference.nD Cert.SmallReference.τ).loc Cert.SmallReference.main_v0)),
      θ_run (Cert.Small.defs (F := Bits)) (onTc (τ := Cert.Small.τ) (Cert.Small.main (F := Bits))) ⟨m, fun _ => 0, g⟩ (fun r => ∀ c : Dev Cert.Small.nD,
          r.2.mem ((c.tc : Thread Cert.Small.nD Cert.Small.τ).loc Cert.Small.main_v1) = v0
          ∧ r.2.mem ((c.tc : Thread Cert.Small.nD Cert.Small.τ).loc Cert.Small.main_arg0) = m ((c.tc : Thread Cert.Small.nD Cert.Small.τ).loc Cert.Small.main_arg0))
      ∧ θ_run (Cert.SmallReference.defs (F := Bits)) (onTc (τ := Cert.SmallReference.τ) (Cert.SmallReference.main (F := Bits))) ⟨m', fun _ => 0, g'⟩ (fun r =>
          r.2.mem (((0 : Dev Cert.SmallReference.nD).tc : Thread Cert.SmallReference.nD Cert.SmallReference.τ).loc Cert.SmallReference.main_v0) = v0
          ∧ r.2.mem (((0 : Dev Cert.SmallReference.nD).tc : Thread Cert.SmallReference.nD Cert.SmallReference.τ).loc Cert.SmallReference.main_arg0) = m' (((0 : Dev Cert.SmallReference.nD).tc : Thread Cert.SmallReference.nD Cert.SmallReference.τ).loc Cert.SmallReference.main_arg0))

def algebraic_SmallIdeal_SmallReferenceIdeal [hSmallIdeal : Cert.SmallIdeal.Facts] [hSmallReferenceIdeal : Cert.SmallReferenceIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallIdeal m →
    (∀ c : Dev Cert.SmallIdeal.nD,
      m ((c.tc : Thread Cert.SmallIdeal.nD Cert.SmallIdeal.τ).loc Cert.SmallIdeal.main_arg0) = Layout.block ⟨2, ![2504, 128]⟩ ⟨2, ![20032, 128]⟩ 0 8 c (m' (((0 : Dev Cert.SmallReferenceIdeal.nD).tc : Thread Cert.SmallReferenceIdeal.nD Cert.SmallReferenceIdeal.τ).loc Cert.SmallReferenceIdeal.main_arg0))) →
    ∃ (v0 : Buf (Elt Ideal) (((0 : Dev Cert.SmallReferenceIdeal.nD).tc : Thread Cert.SmallReferenceIdeal.nD Cert.SmallReferenceIdeal.τ).loc Cert.SmallReferenceIdeal.main_v0)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v1) = v0
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ θ_run (Cert.SmallReferenceIdeal.defs (F := Ideal)) (onTc (τ := Cert.SmallReferenceIdeal.τ) (Cert.SmallReferenceIdeal.main (F := Ideal))) ⟨m', fun _ => 0, g'⟩ (fun r =>
          r.2.mem (((0 : Dev Cert.SmallReferenceIdeal.nD).tc : Thread Cert.SmallReferenceIdeal.nD Cert.SmallReferenceIdeal.τ).loc Cert.SmallReferenceIdeal.main_v0) = v0
          ∧ r.2.mem (((0 : Dev Cert.SmallReferenceIdeal.nD).tc : Thread Cert.SmallReferenceIdeal.nD Cert.SmallReferenceIdeal.τ).loc Cert.SmallReferenceIdeal.main_arg0) = m' (((0 : Dev Cert.SmallReferenceIdeal.nD).tc : Thread Cert.SmallReferenceIdeal.nD Cert.SmallReferenceIdeal.τ).loc Cert.SmallReferenceIdeal.main_arg0))

def preserves_Cond_CondIdeal : Prop :=
  True

def bitexact_Cond_CondReference [hCond : Cert.Cond.Facts] [hCondReference : Cert.CondReference.Facts] : Prop :=
  ∀ (m : (ℓ : Loc Cert.Cond.nD Cert.Cond.τ Cert.Cond.sig) → Buf (Elt Bits) ℓ) (g : Dev Cert.Cond.nD → PrngReg)
    (m' : (ℓ : Loc Cert.CondReference.nD Cert.CondReference.τ Cert.CondReference.sig) → Buf (Elt Bits) ℓ) (g' : Dev Cert.CondReference.nD → PrngReg), Pre_Cond m →
    (∀ c : Dev Cert.Cond.nD,
      m ((c.tc : Thread Cert.Cond.nD Cert.Cond.τ).loc Cert.Cond.main_arg0) = Layout.block ⟨2, ![1, 2048]⟩ ⟨2, ![8, 2048]⟩ 0 8 c (m' (((0 : Dev Cert.CondReference.nD).tc : Thread Cert.CondReference.nD Cert.CondReference.τ).loc Cert.CondReference.main_arg0))) →
    ∃ (v0 : Buf (Elt Bits) (((0 : Dev Cert.CondReference.nD).tc : Thread Cert.CondReference.nD Cert.CondReference.τ).loc Cert.CondReference.main_v0)),
      θ_run (Cert.Cond.defs (F := Bits)) (onTc (τ := Cert.Cond.τ) (Cert.Cond.main (F := Bits))) ⟨m, fun _ => 0, g⟩ (fun r => ∀ c : Dev Cert.Cond.nD,
          r.2.mem ((c.tc : Thread Cert.Cond.nD Cert.Cond.τ).loc Cert.Cond.main_v1) = v0
          ∧ r.2.mem ((c.tc : Thread Cert.Cond.nD Cert.Cond.τ).loc Cert.Cond.main_arg0) = m ((c.tc : Thread Cert.Cond.nD Cert.Cond.τ).loc Cert.Cond.main_arg0))
      ∧ θ_run (Cert.CondReference.defs (F := Bits)) (onTc (τ := Cert.CondReference.τ) (Cert.CondReference.main (F := Bits))) ⟨m', fun _ => 0, g'⟩ (fun r =>
          r.2.mem (((0 : Dev Cert.CondReference.nD).tc : Thread Cert.CondReference.nD Cert.CondReference.τ).loc Cert.CondReference.main_v0) = v0
          ∧ r.2.mem (((0 : Dev Cert.CondReference.nD).tc : Thread Cert.CondReference.nD Cert.CondReference.τ).loc Cert.CondReference.main_arg0) = m' (((0 : Dev Cert.CondReference.nD).tc : Thread Cert.CondReference.nD Cert.CondReference.τ).loc Cert.CondReference.main_arg0))

def algebraic_CondIdeal_CondReferenceIdeal [hCondIdeal : Cert.CondIdeal.Facts] [hCondReferenceIdeal : Cert.CondReferenceIdeal.Facts] : Prop :=
  ∀ (m : (ℓ : Loc Cert.CondIdeal.nD Cert.CondIdeal.τ Cert.CondIdeal.sig) → Buf (Elt Ideal) ℓ) (g : Dev Cert.CondIdeal.nD → PrngReg)
    (m' : (ℓ : Loc Cert.CondReferenceIdeal.nD Cert.CondReferenceIdeal.τ Cert.CondReferenceIdeal.sig) → Buf (Elt Ideal) ℓ) (g' : Dev Cert.CondReferenceIdeal.nD → PrngReg), Pre_CondIdeal m →
    (∀ c : Dev Cert.CondIdeal.nD,
      m ((c.tc : Thread Cert.CondIdeal.nD Cert.CondIdeal.τ).loc Cert.CondIdeal.main_arg0) = Layout.block ⟨2, ![1, 2048]⟩ ⟨2, ![8, 2048]⟩ 0 8 c (m' (((0 : Dev Cert.CondReferenceIdeal.nD).tc : Thread Cert.CondReferenceIdeal.nD Cert.CondReferenceIdeal.τ).loc Cert.CondReferenceIdeal.main_arg0))) →
    ∃ (v0 : Buf (Elt Ideal) (((0 : Dev Cert.CondReferenceIdeal.nD).tc : Thread Cert.CondReferenceIdeal.nD Cert.CondReferenceIdeal.τ).loc Cert.CondReferenceIdeal.main_v0)),
      θ_run (Cert.CondIdeal.defs (F := Ideal)) (onTc (τ := Cert.CondIdeal.τ) (Cert.CondIdeal.main (F := Ideal))) ⟨m, fun _ => 0, g⟩ (fun r => ∀ c : Dev Cert.CondIdeal.nD,
          r.2.mem ((c.tc : Thread Cert.CondIdeal.nD Cert.CondIdeal.τ).loc Cert.CondIdeal.main_v1) = v0
          ∧ r.2.mem ((c.tc : Thread Cert.CondIdeal.nD Cert.CondIdeal.τ).loc Cert.CondIdeal.main_arg0) = m ((c.tc : Thread Cert.CondIdeal.nD Cert.CondIdeal.τ).loc Cert.CondIdeal.main_arg0))
      ∧ θ_run (Cert.CondReferenceIdeal.defs (F := Ideal)) (onTc (τ := Cert.CondReferenceIdeal.τ) (Cert.CondReferenceIdeal.main (F := Ideal))) ⟨m', fun _ => 0, g'⟩ (fun r =>
          r.2.mem (((0 : Dev Cert.CondReferenceIdeal.nD).tc : Thread Cert.CondReferenceIdeal.nD Cert.CondReferenceIdeal.τ).loc Cert.CondReferenceIdeal.main_v0) = v0
          ∧ r.2.mem (((0 : Dev Cert.CondReferenceIdeal.nD).tc : Thread Cert.CondReferenceIdeal.nD Cert.CondReferenceIdeal.τ).loc Cert.CondReferenceIdeal.main_arg0) = m' (((0 : Dev Cert.CondReferenceIdeal.nD).tc : Thread Cert.CondReferenceIdeal.nD Cert.CondReferenceIdeal.τ).loc Cert.CondReferenceIdeal.main_arg0))

def preserves_AdamWIn_AdamWInIdeal : Prop :=
  IdealRules.named_const.Statement Cert.AdamWInIdeal.κ "c1" .f32 0x3FC48605#32 ((8388608 / 5463681 : ℝ) : EReal)
  ∧ IdealRules.named_const.Statement Cert.AdamWInIdeal.κ "c2" .f32 0x42C8E6D3#32 ((268435456 / 2672307 : ℝ) : EReal)

def algebraic_AdamWInIdeal_AdamWInReferenceIdeal [hAdamWInIdeal : Cert.AdamWInIdeal.Facts] [hAdamWInReferenceIdeal : Cert.AdamWInReferenceIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInReferenceIdeal.nD Cert.AdamWInReferenceIdeal.τ Cert.AdamWInReferenceIdeal.sig) → Buf (Elt Ideal) ℓ) (g' : Dev Cert.AdamWInReferenceIdeal.nD → PrngReg), Pre_AdamWInIdeal m →
    (∀ c : Dev Cert.AdamWInIdeal.nD,
      m' ((c.tc : Thread Cert.AdamWInReferenceIdeal.nD Cert.AdamWInReferenceIdeal.τ).loc Cert.AdamWInReferenceIdeal.main_arg0) = m ((c.tc : Thread Cert.AdamWInIdeal.nD Cert.AdamWInIdeal.τ).loc Cert.AdamWInIdeal.main_arg0)
      ∧ m' ((c.tc : Thread Cert.AdamWInReferenceIdeal.nD Cert.AdamWInReferenceIdeal.τ).loc Cert.AdamWInReferenceIdeal.main_arg1) = m ((c.tc : Thread Cert.AdamWInIdeal.nD Cert.AdamWInIdeal.τ).loc Cert.AdamWInIdeal.main_arg1)
      ∧ m' ((c.tc : Thread Cert.AdamWInReferenceIdeal.nD Cert.AdamWInReferenceIdeal.τ).loc Cert.AdamWInReferenceIdeal.main_arg2) = m ((c.tc : Thread Cert.AdamWInIdeal.nD Cert.AdamWInIdeal.τ).loc Cert.AdamWInIdeal.main_arg2)
      ∧ m' ((c.tc : Thread Cert.AdamWInReferenceIdeal.nD Cert.AdamWInReferenceIdeal.τ).loc Cert.AdamWInReferenceIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v0_0)) (v1 : (c : Dev Cert.AdamWInIdeal.nD) → Buf (Elt Ideal) ((c.tc : Thread Cert.AdamWInIdeal.nD Cert.AdamWInIdeal.τ).loc Cert.AdamWInIdeal.main_v0_1)) (v2 : (c : Dev Cert.AdamWInIdeal.nD) → Buf (Elt Ideal) ((c.tc : Thread Cert.AdamWInIdeal.nD Cert.AdamWInIdeal.τ).loc Cert.AdamWInIdeal.main_v0_2)) (v3 : (c : Dev Cert.AdamWInIdeal.nD) → Buf (Elt Ideal) ((c.tc : Thread Cert.AdamWInIdeal.nD Cert.AdamWInIdeal.τ).loc Cert.AdamWInIdeal.main_v0_3)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v0_0) = v0 c
          ∧ r.2.mem ((c.tc : Thread Cert.AdamWInIdeal.nD Cert.AdamWInIdeal.τ).loc Cert.AdamWInIdeal.main_v0_1) = v1 c
          ∧ r.2.mem ((c.tc : Thread Cert.AdamWInIdeal.nD Cert.AdamWInIdeal.τ).loc Cert.AdamWInIdeal.main_v0_2) = v2 c
          ∧ r.2.mem ((c.tc : Thread Cert.AdamWInIdeal.nD Cert.AdamWInIdeal.τ).loc Cert.AdamWInIdeal.main_v0_3) = v3 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInReferenceIdeal.defs (F := Ideal)) (onTc (τ := Cert.AdamWInReferenceIdeal.τ) (Cert.AdamWInReferenceIdeal.main (F := Ideal))) ⟨m', fun _ => 0, g'⟩ (fun r => ∀ c : Dev Cert.AdamWInReferenceIdeal.nD,
          r.2.mem ((c.tc : Thread Cert.AdamWInReferenceIdeal.nD Cert.AdamWInReferenceIdeal.τ).loc Cert.AdamWInReferenceIdeal.main_v1) = v0 c
          ∧ r.2.mem ((c.tc : Thread Cert.AdamWInReferenceIdeal.nD Cert.AdamWInReferenceIdeal.τ).loc Cert.AdamWInReferenceIdeal.main_v25) = v1 c
          ∧ r.2.mem ((c.tc : Thread Cert.AdamWInReferenceIdeal.nD Cert.AdamWInReferenceIdeal.τ).loc Cert.AdamWInReferenceIdeal.main_v6) = v2 c
          ∧ r.2.mem ((c.tc : Thread Cert.AdamWInReferenceIdeal.nD Cert.AdamWInReferenceIdeal.τ).loc Cert.AdamWInReferenceIdeal.main_v12) = v3 c
          ∧ r.2.mem ((c.tc : Thread Cert.AdamWInReferenceIdeal.nD Cert.AdamWInReferenceIdeal.τ).loc Cert.AdamWInReferenceIdeal.main_arg0) = m' ((c.tc : Thread Cert.AdamWInReferenceIdeal.nD Cert.AdamWInReferenceIdeal.τ).loc Cert.AdamWInReferenceIdeal.main_arg0)
          ∧ r.2.mem ((c.tc : Thread Cert.AdamWInReferenceIdeal.nD Cert.AdamWInReferenceIdeal.τ).loc Cert.AdamWInReferenceIdeal.main_arg1) = m' ((c.tc : Thread Cert.AdamWInReferenceIdeal.nD Cert.AdamWInReferenceIdeal.τ).loc Cert.AdamWInReferenceIdeal.main_arg1)
          ∧ r.2.mem ((c.tc : Thread Cert.AdamWInReferenceIdeal.nD Cert.AdamWInReferenceIdeal.τ).loc Cert.AdamWInReferenceIdeal.main_arg2) = m' ((c.tc : Thread Cert.AdamWInReferenceIdeal.nD Cert.AdamWInReferenceIdeal.τ).loc Cert.AdamWInReferenceIdeal.main_arg2)
          ∧ r.2.mem ((c.tc : Thread Cert.AdamWInReferenceIdeal.nD Cert.AdamWInReferenceIdeal.τ).loc Cert.AdamWInReferenceIdeal.main_arg3) = m' ((c.tc : Thread Cert.AdamWInReferenceIdeal.nD Cert.AdamWInReferenceIdeal.τ).loc Cert.AdamWInReferenceIdeal.main_arg3))

def preserves_AdamWOut_AdamWOutIdeal : Prop :=
  IdealRules.named_const.Statement Cert.AdamWOutIdeal.κ "c1" .f32 0x3FC48605#32 ((8388608 / 5463681 : ℝ) : EReal)
  ∧ IdealRules.named_const.Statement Cert.AdamWOutIdeal.κ "c2" .f32 0x42C8E6D3#32 ((268435456 / 2672307 : ℝ) : EReal)

def algebraic_AdamWOutIdeal_AdamWOutReferenceIdeal [hAdamWOutIdeal : Cert.AdamWOutIdeal.Facts] [hAdamWOutReferenceIdeal : Cert.AdamWOutReferenceIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutReferenceIdeal.nD Cert.AdamWOutReferenceIdeal.τ Cert.AdamWOutReferenceIdeal.sig) → Buf (Elt Ideal) ℓ) (g' : Dev Cert.AdamWOutReferenceIdeal.nD → PrngReg), Pre_AdamWOutIdeal m →
    (∀ c : Dev Cert.AdamWOutIdeal.nD,
      m' ((c.tc : Thread Cert.AdamWOutReferenceIdeal.nD Cert.AdamWOutReferenceIdeal.τ).loc Cert.AdamWOutReferenceIdeal.main_arg0) = m ((c.tc : Thread Cert.AdamWOutIdeal.nD Cert.AdamWOutIdeal.τ).loc Cert.AdamWOutIdeal.main_arg0)
      ∧ m' ((c.tc : Thread Cert.AdamWOutReferenceIdeal.nD Cert.AdamWOutReferenceIdeal.τ).loc Cert.AdamWOutReferenceIdeal.main_arg1) = m ((c.tc : Thread Cert.AdamWOutIdeal.nD Cert.AdamWOutIdeal.τ).loc Cert.AdamWOutIdeal.main_arg1)
      ∧ m' ((c.tc : Thread Cert.AdamWOutReferenceIdeal.nD Cert.AdamWOutReferenceIdeal.τ).loc Cert.AdamWOutReferenceIdeal.main_arg2) = m ((c.tc : Thread Cert.AdamWOutIdeal.nD Cert.AdamWOutIdeal.τ).loc Cert.AdamWOutIdeal.main_arg2)
      ∧ m' ((c.tc : Thread Cert.AdamWOutReferenceIdeal.nD Cert.AdamWOutReferenceIdeal.τ).loc Cert.AdamWOutReferenceIdeal.main_arg3) = m ((c.tc : Thread Cert.AdamWOutIdeal.nD Cert.AdamWOutIdeal.τ).loc Cert.AdamWOutIdeal.main_arg3)) →
    ∃ (v0 : (c : Dev Cert.AdamWOutIdeal.nD) → Buf (Elt Ideal) ((c.tc : Thread Cert.AdamWOutIdeal.nD Cert.AdamWOutIdeal.τ).loc Cert.AdamWOutIdeal.main_v0_0)) (v1 : (c : Dev Cert.AdamWOutIdeal.nD) → Buf (Elt Ideal) ((c.tc : Thread Cert.AdamWOutIdeal.nD Cert.AdamWOutIdeal.τ).loc Cert.AdamWOutIdeal.main_v0_1)) (v2 : (c : Dev Cert.AdamWOutIdeal.nD) → Buf (Elt Ideal) ((c.tc : Thread Cert.AdamWOutIdeal.nD Cert.AdamWOutIdeal.τ).loc Cert.AdamWOutIdeal.main_v0_2)) (v3 : (c : Dev Cert.AdamWOutIdeal.nD) → Buf (Elt Ideal) ((c.tc : Thread Cert.AdamWOutIdeal.nD Cert.AdamWOutIdeal.τ).loc Cert.AdamWOutIdeal.main_v0_3)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v0_0) = v0 c
          ∧ r.2.mem ((c.tc : Thread Cert.AdamWOutIdeal.nD Cert.AdamWOutIdeal.τ).loc Cert.AdamWOutIdeal.main_v0_1) = v1 c
          ∧ r.2.mem ((c.tc : Thread Cert.AdamWOutIdeal.nD Cert.AdamWOutIdeal.τ).loc Cert.AdamWOutIdeal.main_v0_2) = v2 c
          ∧ r.2.mem ((c.tc : Thread Cert.AdamWOutIdeal.nD Cert.AdamWOutIdeal.τ).loc Cert.AdamWOutIdeal.main_v0_3) = v3 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ θ_run (Cert.AdamWOutReferenceIdeal.defs (F := Ideal)) (onTc (τ := Cert.AdamWOutReferenceIdeal.τ) (Cert.AdamWOutReferenceIdeal.main (F := Ideal))) ⟨m', fun _ => 0, g'⟩ (fun r => ∀ c : Dev Cert.AdamWOutReferenceIdeal.nD,
          r.2.mem ((c.tc : Thread Cert.AdamWOutReferenceIdeal.nD Cert.AdamWOutReferenceIdeal.τ).loc Cert.AdamWOutReferenceIdeal.main_v1) = v0 c
          ∧ r.2.mem ((c.tc : Thread Cert.AdamWOutReferenceIdeal.nD Cert.AdamWOutReferenceIdeal.τ).loc Cert.AdamWOutReferenceIdeal.main_v25) = v1 c
          ∧ r.2.mem ((c.tc : Thread Cert.AdamWOutReferenceIdeal.nD Cert.AdamWOutReferenceIdeal.τ).loc Cert.AdamWOutReferenceIdeal.main_v6) = v2 c
          ∧ r.2.mem ((c.tc : Thread Cert.AdamWOutReferenceIdeal.nD Cert.AdamWOutReferenceIdeal.τ).loc Cert.AdamWOutReferenceIdeal.main_v12) = v3 c
          ∧ r.2.mem ((c.tc : Thread Cert.AdamWOutReferenceIdeal.nD Cert.AdamWOutReferenceIdeal.τ).loc Cert.AdamWOutReferenceIdeal.main_arg0) = m' ((c.tc : Thread Cert.AdamWOutReferenceIdeal.nD Cert.AdamWOutReferenceIdeal.τ).loc Cert.AdamWOutReferenceIdeal.main_arg0)
          ∧ r.2.mem ((c.tc : Thread Cert.AdamWOutReferenceIdeal.nD Cert.AdamWOutReferenceIdeal.τ).loc Cert.AdamWOutReferenceIdeal.main_arg1) = m' ((c.tc : Thread Cert.AdamWOutReferenceIdeal.nD Cert.AdamWOutReferenceIdeal.τ).loc Cert.AdamWOutReferenceIdeal.main_arg1)
          ∧ r.2.mem ((c.tc : Thread Cert.AdamWOutReferenceIdeal.nD Cert.AdamWOutReferenceIdeal.τ).loc Cert.AdamWOutReferenceIdeal.main_arg2) = m' ((c.tc : Thread Cert.AdamWOutReferenceIdeal.nD Cert.AdamWOutReferenceIdeal.τ).loc Cert.AdamWOutReferenceIdeal.main_arg2)
          ∧ r.2.mem ((c.tc : Thread Cert.AdamWOutReferenceIdeal.nD Cert.AdamWOutReferenceIdeal.τ).loc Cert.AdamWOutReferenceIdeal.main_arg3) = m' ((c.tc : Thread Cert.AdamWOutReferenceIdeal.nD Cert.AdamWOutReferenceIdeal.τ).loc Cert.AdamWOutReferenceIdeal.main_arg3))

def preserves_AdamFfn1_AdamFfn1Ideal : Prop :=
  IdealRules.named_const.Statement Cert.AdamFfn1Ideal.κ "c1" .f32 0x3FC48605#32 ((8388608 / 5463681 : ℝ) : EReal)
  ∧ IdealRules.named_const.Statement Cert.AdamFfn1Ideal.κ "c2" .f32 0x42C8E6D3#32 ((268435456 / 2672307 : ℝ) : EReal)

def algebraic_AdamFfn1Ideal_AdamFfn1ReferenceIdeal [hAdamFfn1Ideal : Cert.AdamFfn1Ideal.Facts] [hAdamFfn1ReferenceIdeal : Cert.AdamFfn1ReferenceIdeal.Facts] : Prop :=
  ∀ (m : (ℓ : Loc Cert.AdamFfn1Ideal.nD Cert.AdamFfn1Ideal.τ Cert.AdamFfn1Ideal.sig) → Buf (Elt Ideal) ℓ) (g : Dev Cert.AdamFfn1Ideal.nD → PrngReg)
    (m' : (ℓ : Loc Cert.AdamFfn1ReferenceIdeal.nD Cert.AdamFfn1ReferenceIdeal.τ Cert.AdamFfn1ReferenceIdeal.sig) → Buf (Elt Ideal) ℓ) (g' : Dev Cert.AdamFfn1ReferenceIdeal.nD → PrngReg), Pre_AdamFfn1Ideal m →
    (∀ c : Dev Cert.AdamFfn1Ideal.nD,
      m' ((c.tc : Thread Cert.AdamFfn1ReferenceIdeal.nD Cert.AdamFfn1ReferenceIdeal.τ).loc Cert.AdamFfn1ReferenceIdeal.main_arg0) = m ((c.tc : Thread Cert.AdamFfn1Ideal.nD Cert.AdamFfn1Ideal.τ).loc Cert.AdamFfn1Ideal.main_arg0)
      ∧ m' ((c.tc : Thread Cert.AdamFfn1ReferenceIdeal.nD Cert.AdamFfn1ReferenceIdeal.τ).loc Cert.AdamFfn1ReferenceIdeal.main_arg1) = m ((c.tc : Thread Cert.AdamFfn1Ideal.nD Cert.AdamFfn1Ideal.τ).loc Cert.AdamFfn1Ideal.main_arg1)
      ∧ m' ((c.tc : Thread Cert.AdamFfn1ReferenceIdeal.nD Cert.AdamFfn1ReferenceIdeal.τ).loc Cert.AdamFfn1ReferenceIdeal.main_arg2) = m ((c.tc : Thread Cert.AdamFfn1Ideal.nD Cert.AdamFfn1Ideal.τ).loc Cert.AdamFfn1Ideal.main_arg2)
      ∧ m' ((c.tc : Thread Cert.AdamFfn1ReferenceIdeal.nD Cert.AdamFfn1ReferenceIdeal.τ).loc Cert.AdamFfn1ReferenceIdeal.main_arg3) = m ((c.tc : Thread Cert.AdamFfn1Ideal.nD Cert.AdamFfn1Ideal.τ).loc Cert.AdamFfn1Ideal.main_arg3)) →
    ∃ (v0 : (c : Dev Cert.AdamFfn1Ideal.nD) → Buf (Elt Ideal) ((c.tc : Thread Cert.AdamFfn1Ideal.nD Cert.AdamFfn1Ideal.τ).loc Cert.AdamFfn1Ideal.main_v0_0)) (v1 : (c : Dev Cert.AdamFfn1Ideal.nD) → Buf (Elt Ideal) ((c.tc : Thread Cert.AdamFfn1Ideal.nD Cert.AdamFfn1Ideal.τ).loc Cert.AdamFfn1Ideal.main_v0_1)) (v2 : (c : Dev Cert.AdamFfn1Ideal.nD) → Buf (Elt Ideal) ((c.tc : Thread Cert.AdamFfn1Ideal.nD Cert.AdamFfn1Ideal.τ).loc Cert.AdamFfn1Ideal.main_v0_2)) (v3 : (c : Dev Cert.AdamFfn1Ideal.nD) → Buf (Elt Ideal) ((c.tc : Thread Cert.AdamFfn1Ideal.nD Cert.AdamFfn1Ideal.τ).loc Cert.AdamFfn1Ideal.main_v0_3)),
      θ_run (Cert.AdamFfn1Ideal.defs (F := Ideal)) (onTc (τ := Cert.AdamFfn1Ideal.τ) (Cert.AdamFfn1Ideal.main (F := Ideal))) ⟨m, fun _ => 0, g⟩ (fun r => ∀ c : Dev Cert.AdamFfn1Ideal.nD,
          r.2.mem ((c.tc : Thread Cert.AdamFfn1Ideal.nD Cert.AdamFfn1Ideal.τ).loc Cert.AdamFfn1Ideal.main_v0_0) = v0 c
          ∧ r.2.mem ((c.tc : Thread Cert.AdamFfn1Ideal.nD Cert.AdamFfn1Ideal.τ).loc Cert.AdamFfn1Ideal.main_v0_1) = v1 c
          ∧ r.2.mem ((c.tc : Thread Cert.AdamFfn1Ideal.nD Cert.AdamFfn1Ideal.τ).loc Cert.AdamFfn1Ideal.main_v0_2) = v2 c
          ∧ r.2.mem ((c.tc : Thread Cert.AdamFfn1Ideal.nD Cert.AdamFfn1Ideal.τ).loc Cert.AdamFfn1Ideal.main_v0_3) = v3 c
          ∧ r.2.mem ((c.tc : Thread Cert.AdamFfn1Ideal.nD Cert.AdamFfn1Ideal.τ).loc Cert.AdamFfn1Ideal.main_arg0) = m ((c.tc : Thread Cert.AdamFfn1Ideal.nD Cert.AdamFfn1Ideal.τ).loc Cert.AdamFfn1Ideal.main_arg0)
          ∧ r.2.mem ((c.tc : Thread Cert.AdamFfn1Ideal.nD Cert.AdamFfn1Ideal.τ).loc Cert.AdamFfn1Ideal.main_arg1) = m ((c.tc : Thread Cert.AdamFfn1Ideal.nD Cert.AdamFfn1Ideal.τ).loc Cert.AdamFfn1Ideal.main_arg1)
          ∧ r.2.mem ((c.tc : Thread Cert.AdamFfn1Ideal.nD Cert.AdamFfn1Ideal.τ).loc Cert.AdamFfn1Ideal.main_arg2) = m ((c.tc : Thread Cert.AdamFfn1Ideal.nD Cert.AdamFfn1Ideal.τ).loc Cert.AdamFfn1Ideal.main_arg2)
          ∧ r.2.mem ((c.tc : Thread Cert.AdamFfn1Ideal.nD Cert.AdamFfn1Ideal.τ).loc Cert.AdamFfn1Ideal.main_arg3) = m ((c.tc : Thread Cert.AdamFfn1Ideal.nD Cert.AdamFfn1Ideal.τ).loc Cert.AdamFfn1Ideal.main_arg3))
      ∧ θ_run (Cert.AdamFfn1ReferenceIdeal.defs (F := Ideal)) (onTc (τ := Cert.AdamFfn1ReferenceIdeal.τ) (Cert.AdamFfn1ReferenceIdeal.main (F := Ideal))) ⟨m', fun _ => 0, g'⟩ (fun r => ∀ c : Dev Cert.AdamFfn1ReferenceIdeal.nD,
          r.2.mem ((c.tc : Thread Cert.AdamFfn1ReferenceIdeal.nD Cert.AdamFfn1ReferenceIdeal.τ).loc Cert.AdamFfn1ReferenceIdeal.main_v1) = v0 c
          ∧ r.2.mem ((c.tc : Thread Cert.AdamFfn1ReferenceIdeal.nD Cert.AdamFfn1ReferenceIdeal.τ).loc Cert.AdamFfn1ReferenceIdeal.main_v25) = v1 c
          ∧ r.2.mem ((c.tc : Thread Cert.AdamFfn1ReferenceIdeal.nD Cert.AdamFfn1ReferenceIdeal.τ).loc Cert.AdamFfn1ReferenceIdeal.main_v6) = v2 c
          ∧ r.2.mem ((c.tc : Thread Cert.AdamFfn1ReferenceIdeal.nD Cert.AdamFfn1ReferenceIdeal.τ).loc Cert.AdamFfn1ReferenceIdeal.main_v12) = v3 c
          ∧ r.2.mem ((c.tc : Thread Cert.AdamFfn1ReferenceIdeal.nD Cert.AdamFfn1ReferenceIdeal.τ).loc Cert.AdamFfn1ReferenceIdeal.main_arg0) = m' ((c.tc : Thread Cert.AdamFfn1ReferenceIdeal.nD Cert.AdamFfn1ReferenceIdeal.τ).loc Cert.AdamFfn1ReferenceIdeal.main_arg0)
          ∧ r.2.mem ((c.tc : Thread Cert.AdamFfn1ReferenceIdeal.nD Cert.AdamFfn1ReferenceIdeal.τ).loc Cert.AdamFfn1ReferenceIdeal.main_arg1) = m' ((c.tc : Thread Cert.AdamFfn1ReferenceIdeal.nD Cert.AdamFfn1ReferenceIdeal.τ).loc Cert.AdamFfn1ReferenceIdeal.main_arg1)
          ∧ r.2.mem ((c.tc : Thread Cert.AdamFfn1ReferenceIdeal.nD Cert.AdamFfn1ReferenceIdeal.τ).loc Cert.AdamFfn1ReferenceIdeal.main_arg2) = m' ((c.tc : Thread Cert.AdamFfn1ReferenceIdeal.nD Cert.AdamFfn1ReferenceIdeal.τ).loc Cert.AdamFfn1ReferenceIdeal.main_arg2)
          ∧ r.2.mem ((c.tc : Thread Cert.AdamFfn1ReferenceIdeal.nD Cert.AdamFfn1ReferenceIdeal.τ).loc Cert.AdamFfn1ReferenceIdeal.main_arg3) = m' ((c.tc : Thread Cert.AdamFfn1ReferenceIdeal.nD Cert.AdamFfn1ReferenceIdeal.τ).loc Cert.AdamFfn1ReferenceIdeal.main_arg3))

def preserves_AdamFfn2_AdamFfn2Ideal : Prop :=
  IdealRules.named_const.Statement Cert.AdamFfn2Ideal.κ "c1" .f32 0x3FC48605#32 ((8388608 / 5463681 : ℝ) : EReal)
  ∧ IdealRules.named_const.Statement Cert.AdamFfn2Ideal.κ "c2" .f32 0x42C8E6D3#32 ((268435456 / 2672307 : ℝ) : EReal)

def algebraic_AdamFfn2Ideal_AdamFfn2ReferenceIdeal [hAdamFfn2Ideal : Cert.AdamFfn2Ideal.Facts] [hAdamFfn2ReferenceIdeal : Cert.AdamFfn2ReferenceIdeal.Facts] : Prop :=
  ∀ (m : (ℓ : Loc Cert.AdamFfn2Ideal.nD Cert.AdamFfn2Ideal.τ Cert.AdamFfn2Ideal.sig) → Buf (Elt Ideal) ℓ) (g : Dev Cert.AdamFfn2Ideal.nD → PrngReg)
    (m' : (ℓ : Loc Cert.AdamFfn2ReferenceIdeal.nD Cert.AdamFfn2ReferenceIdeal.τ Cert.AdamFfn2ReferenceIdeal.sig) → Buf (Elt Ideal) ℓ) (g' : Dev Cert.AdamFfn2ReferenceIdeal.nD → PrngReg), Pre_AdamFfn2Ideal m →
    (∀ c : Dev Cert.AdamFfn2Ideal.nD,
      m' ((c.tc : Thread Cert.AdamFfn2ReferenceIdeal.nD Cert.AdamFfn2ReferenceIdeal.τ).loc Cert.AdamFfn2ReferenceIdeal.main_arg0) = m ((c.tc : Thread Cert.AdamFfn2Ideal.nD Cert.AdamFfn2Ideal.τ).loc Cert.AdamFfn2Ideal.main_arg0)
      ∧ m' ((c.tc : Thread Cert.AdamFfn2ReferenceIdeal.nD Cert.AdamFfn2ReferenceIdeal.τ).loc Cert.AdamFfn2ReferenceIdeal.main_arg1) = m ((c.tc : Thread Cert.AdamFfn2Ideal.nD Cert.AdamFfn2Ideal.τ).loc Cert.AdamFfn2Ideal.main_arg1)
      ∧ m' ((c.tc : Thread Cert.AdamFfn2ReferenceIdeal.nD Cert.AdamFfn2ReferenceIdeal.τ).loc Cert.AdamFfn2ReferenceIdeal.main_arg2) = m ((c.tc : Thread Cert.AdamFfn2Ideal.nD Cert.AdamFfn2Ideal.τ).loc Cert.AdamFfn2Ideal.main_arg2)
      ∧ m' ((c.tc : Thread Cert.AdamFfn2ReferenceIdeal.nD Cert.AdamFfn2ReferenceIdeal.τ).loc Cert.AdamFfn2ReferenceIdeal.main_arg3) = m ((c.tc : Thread Cert.AdamFfn2Ideal.nD Cert.AdamFfn2Ideal.τ).loc Cert.AdamFfn2Ideal.main_arg3)) →
    ∃ (v0 : (c : Dev Cert.AdamFfn2Ideal.nD) → Buf (Elt Ideal) ((c.tc : Thread Cert.AdamFfn2Ideal.nD Cert.AdamFfn2Ideal.τ).loc Cert.AdamFfn2Ideal.main_v0_0)) (v1 : (c : Dev Cert.AdamFfn2Ideal.nD) → Buf (Elt Ideal) ((c.tc : Thread Cert.AdamFfn2Ideal.nD Cert.AdamFfn2Ideal.τ).loc Cert.AdamFfn2Ideal.main_v0_1)) (v2 : (c : Dev Cert.AdamFfn2Ideal.nD) → Buf (Elt Ideal) ((c.tc : Thread Cert.AdamFfn2Ideal.nD Cert.AdamFfn2Ideal.τ).loc Cert.AdamFfn2Ideal.main_v0_2)) (v3 : (c : Dev Cert.AdamFfn2Ideal.nD) → Buf (Elt Ideal) ((c.tc : Thread Cert.AdamFfn2Ideal.nD Cert.AdamFfn2Ideal.τ).loc Cert.AdamFfn2Ideal.main_v0_3)),
      θ_run (Cert.AdamFfn2Ideal.defs (F := Ideal)) (onTc (τ := Cert.AdamFfn2Ideal.τ) (Cert.AdamFfn2Ideal.main (F := Ideal))) ⟨m, fun _ => 0, g⟩ (fun r => ∀ c : Dev Cert.AdamFfn2Ideal.nD,
          r.2.mem ((c.tc : Thread Cert.AdamFfn2Ideal.nD Cert.AdamFfn2Ideal.τ).loc Cert.AdamFfn2Ideal.main_v0_0) = v0 c
          ∧ r.2.mem ((c.tc : Thread Cert.AdamFfn2Ideal.nD Cert.AdamFfn2Ideal.τ).loc Cert.AdamFfn2Ideal.main_v0_1) = v1 c
          ∧ r.2.mem ((c.tc : Thread Cert.AdamFfn2Ideal.nD Cert.AdamFfn2Ideal.τ).loc Cert.AdamFfn2Ideal.main_v0_2) = v2 c
          ∧ r.2.mem ((c.tc : Thread Cert.AdamFfn2Ideal.nD Cert.AdamFfn2Ideal.τ).loc Cert.AdamFfn2Ideal.main_v0_3) = v3 c
          ∧ r.2.mem ((c.tc : Thread Cert.AdamFfn2Ideal.nD Cert.AdamFfn2Ideal.τ).loc Cert.AdamFfn2Ideal.main_arg0) = m ((c.tc : Thread Cert.AdamFfn2Ideal.nD Cert.AdamFfn2Ideal.τ).loc Cert.AdamFfn2Ideal.main_arg0)
          ∧ r.2.mem ((c.tc : Thread Cert.AdamFfn2Ideal.nD Cert.AdamFfn2Ideal.τ).loc Cert.AdamFfn2Ideal.main_arg1) = m ((c.tc : Thread Cert.AdamFfn2Ideal.nD Cert.AdamFfn2Ideal.τ).loc Cert.AdamFfn2Ideal.main_arg1)
          ∧ r.2.mem ((c.tc : Thread Cert.AdamFfn2Ideal.nD Cert.AdamFfn2Ideal.τ).loc Cert.AdamFfn2Ideal.main_arg2) = m ((c.tc : Thread Cert.AdamFfn2Ideal.nD Cert.AdamFfn2Ideal.τ).loc Cert.AdamFfn2Ideal.main_arg2)
          ∧ r.2.mem ((c.tc : Thread Cert.AdamFfn2Ideal.nD Cert.AdamFfn2Ideal.τ).loc Cert.AdamFfn2Ideal.main_arg3) = m ((c.tc : Thread Cert.AdamFfn2Ideal.nD Cert.AdamFfn2Ideal.τ).loc Cert.AdamFfn2Ideal.main_arg3))
      ∧ θ_run (Cert.AdamFfn2ReferenceIdeal.defs (F := Ideal)) (onTc (τ := Cert.AdamFfn2ReferenceIdeal.τ) (Cert.AdamFfn2ReferenceIdeal.main (F := Ideal))) ⟨m', fun _ => 0, g'⟩ (fun r => ∀ c : Dev Cert.AdamFfn2ReferenceIdeal.nD,
          r.2.mem ((c.tc : Thread Cert.AdamFfn2ReferenceIdeal.nD Cert.AdamFfn2ReferenceIdeal.τ).loc Cert.AdamFfn2ReferenceIdeal.main_v1) = v0 c
          ∧ r.2.mem ((c.tc : Thread Cert.AdamFfn2ReferenceIdeal.nD Cert.AdamFfn2ReferenceIdeal.τ).loc Cert.AdamFfn2ReferenceIdeal.main_v25) = v1 c
          ∧ r.2.mem ((c.tc : Thread Cert.AdamFfn2ReferenceIdeal.nD Cert.AdamFfn2ReferenceIdeal.τ).loc Cert.AdamFfn2ReferenceIdeal.main_v6) = v2 c
          ∧ r.2.mem ((c.tc : Thread Cert.AdamFfn2ReferenceIdeal.nD Cert.AdamFfn2ReferenceIdeal.τ).loc Cert.AdamFfn2ReferenceIdeal.main_v12) = v3 c
          ∧ r.2.mem ((c.tc : Thread Cert.AdamFfn2ReferenceIdeal.nD Cert.AdamFfn2ReferenceIdeal.τ).loc Cert.AdamFfn2ReferenceIdeal.main_arg0) = m' ((c.tc : Thread Cert.AdamFfn2ReferenceIdeal.nD Cert.AdamFfn2ReferenceIdeal.τ).loc Cert.AdamFfn2ReferenceIdeal.main_arg0)
          ∧ r.2.mem ((c.tc : Thread Cert.AdamFfn2ReferenceIdeal.nD Cert.AdamFfn2ReferenceIdeal.τ).loc Cert.AdamFfn2ReferenceIdeal.main_arg1) = m' ((c.tc : Thread Cert.AdamFfn2ReferenceIdeal.nD Cert.AdamFfn2ReferenceIdeal.τ).loc Cert.AdamFfn2ReferenceIdeal.main_arg1)
          ∧ r.2.mem ((c.tc : Thread Cert.AdamFfn2ReferenceIdeal.nD Cert.AdamFfn2ReferenceIdeal.τ).loc Cert.AdamFfn2ReferenceIdeal.main_arg2) = m' ((c.tc : Thread Cert.AdamFfn2ReferenceIdeal.nD Cert.AdamFfn2ReferenceIdeal.τ).loc Cert.AdamFfn2ReferenceIdeal.main_arg2)
          ∧ r.2.mem ((c.tc : Thread Cert.AdamFfn2ReferenceIdeal.nD Cert.AdamFfn2ReferenceIdeal.τ).loc Cert.AdamFfn2ReferenceIdeal.main_arg3) = m' ((c.tc : Thread Cert.AdamFfn2ReferenceIdeal.nD Cert.AdamFfn2ReferenceIdeal.τ).loc Cert.AdamFfn2ReferenceIdeal.main_arg3))

def preserves_AdamGlu_AdamGluIdeal : Prop :=
  IdealRules.named_const.Statement Cert.AdamGluIdeal.κ "c1" .f32 0x3FC48605#32 ((8388608 / 5463681 : ℝ) : EReal)
  ∧ IdealRules.named_const.Statement Cert.AdamGluIdeal.κ "c2" .f32 0x42C8E6D3#32 ((268435456 / 2672307 : ℝ) : EReal)

def algebraic_AdamGluIdeal_AdamGluReferenceIdeal [hAdamGluIdeal : Cert.AdamGluIdeal.Facts] [hAdamGluReferenceIdeal : Cert.AdamGluReferenceIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluReferenceIdeal.nD Cert.AdamGluReferenceIdeal.τ Cert.AdamGluReferenceIdeal.sig) → Buf (Elt Ideal) ℓ) (g' : Dev Cert.AdamGluReferenceIdeal.nD → PrngReg), Pre_AdamGluIdeal m →
    (∀ c : Dev Cert.AdamGluIdeal.nD,
      m' ((c.tc : Thread Cert.AdamGluReferenceIdeal.nD Cert.AdamGluReferenceIdeal.τ).loc Cert.AdamGluReferenceIdeal.main_arg0) = m ((c.tc : Thread Cert.AdamGluIdeal.nD Cert.AdamGluIdeal.τ).loc Cert.AdamGluIdeal.main_arg0)
      ∧ m' ((c.tc : Thread Cert.AdamGluReferenceIdeal.nD Cert.AdamGluReferenceIdeal.τ).loc Cert.AdamGluReferenceIdeal.main_arg1) = m ((c.tc : Thread Cert.AdamGluIdeal.nD Cert.AdamGluIdeal.τ).loc Cert.AdamGluIdeal.main_arg1)
      ∧ m' ((c.tc : Thread Cert.AdamGluReferenceIdeal.nD Cert.AdamGluReferenceIdeal.τ).loc Cert.AdamGluReferenceIdeal.main_arg2) = m ((c.tc : Thread Cert.AdamGluIdeal.nD Cert.AdamGluIdeal.τ).loc Cert.AdamGluIdeal.main_arg2)
      ∧ m' ((c.tc : Thread Cert.AdamGluReferenceIdeal.nD Cert.AdamGluReferenceIdeal.τ).loc Cert.AdamGluReferenceIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)) (v3 : (c : Dev Cert.AdamGluIdeal.nD) → Buf (Elt Ideal) ((c.tc : Thread Cert.AdamGluIdeal.nD Cert.AdamGluIdeal.τ).loc Cert.AdamGluIdeal.main_v0_3)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_v0_3) = v3 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluReferenceIdeal.defs (F := Ideal)) (onTc (τ := Cert.AdamGluReferenceIdeal.τ) (Cert.AdamGluReferenceIdeal.main (F := Ideal))) ⟨m', fun _ => 0, g'⟩ (fun r => ∀ c : Dev Cert.AdamGluReferenceIdeal.nD,
          r.2.mem ((c.tc : Thread Cert.AdamGluReferenceIdeal.nD Cert.AdamGluReferenceIdeal.τ).loc Cert.AdamGluReferenceIdeal.main_v0) = v0 c
          ∧ r.2.mem ((c.tc : Thread Cert.AdamGluReferenceIdeal.nD Cert.AdamGluReferenceIdeal.τ).loc Cert.AdamGluReferenceIdeal.main_v24) = v1 c
          ∧ r.2.mem ((c.tc : Thread Cert.AdamGluReferenceIdeal.nD Cert.AdamGluReferenceIdeal.τ).loc Cert.AdamGluReferenceIdeal.main_v5) = v2 c
          ∧ r.2.mem ((c.tc : Thread Cert.AdamGluReferenceIdeal.nD Cert.AdamGluReferenceIdeal.τ).loc Cert.AdamGluReferenceIdeal.main_v11) = v3 c
          ∧ r.2.mem ((c.tc : Thread Cert.AdamGluReferenceIdeal.nD Cert.AdamGluReferenceIdeal.τ).loc Cert.AdamGluReferenceIdeal.main_arg0) = m' ((c.tc : Thread Cert.AdamGluReferenceIdeal.nD Cert.AdamGluReferenceIdeal.τ).loc Cert.AdamGluReferenceIdeal.main_arg0)
          ∧ r.2.mem ((c.tc : Thread Cert.AdamGluReferenceIdeal.nD Cert.AdamGluReferenceIdeal.τ).loc Cert.AdamGluReferenceIdeal.main_arg1) = m' ((c.tc : Thread Cert.AdamGluReferenceIdeal.nD Cert.AdamGluReferenceIdeal.τ).loc Cert.AdamGluReferenceIdeal.main_arg1)
          ∧ r.2.mem ((c.tc : Thread Cert.AdamGluReferenceIdeal.nD Cert.AdamGluReferenceIdeal.τ).loc Cert.AdamGluReferenceIdeal.main_arg2) = m' ((c.tc : Thread Cert.AdamGluReferenceIdeal.nD Cert.AdamGluReferenceIdeal.τ).loc Cert.AdamGluReferenceIdeal.main_arg2)
          ∧ r.2.mem ((c.tc : Thread Cert.AdamGluReferenceIdeal.nD Cert.AdamGluReferenceIdeal.τ).loc Cert.AdamGluReferenceIdeal.main_arg3) = m' ((c.tc : Thread Cert.AdamGluReferenceIdeal.nD Cert.AdamGluReferenceIdeal.τ).loc Cert.AdamGluReferenceIdeal.main_arg3))

def preserves_AdamAda_AdamAdaIdeal : Prop :=
  IdealRules.named_const.Statement Cert.AdamAdaIdeal.κ "c1" .f32 0x3FC48605#32 ((8388608 / 5463681 : ℝ) : EReal)
  ∧ IdealRules.named_const.Statement Cert.AdamAdaIdeal.κ "c2" .f32 0x42C8E6D3#32 ((268435456 / 2672307 : ℝ) : EReal)

def algebraic_AdamAdaIdeal_AdamAdaReferenceIdeal [hAdamAdaIdeal : Cert.AdamAdaIdeal.Facts] [hAdamAdaReferenceIdeal : Cert.AdamAdaReferenceIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaReferenceIdeal.nD Cert.AdamAdaReferenceIdeal.τ Cert.AdamAdaReferenceIdeal.sig) → Buf (Elt Ideal) ℓ) (g' : Dev Cert.AdamAdaReferenceIdeal.nD → PrngReg), Pre_AdamAdaIdeal m →
    (∀ c : Dev Cert.AdamAdaIdeal.nD,
      m' ((c.tc : Thread Cert.AdamAdaReferenceIdeal.nD Cert.AdamAdaReferenceIdeal.τ).loc Cert.AdamAdaReferenceIdeal.main_arg0) = m ((c.tc : Thread Cert.AdamAdaIdeal.nD Cert.AdamAdaIdeal.τ).loc Cert.AdamAdaIdeal.main_arg0)
      ∧ m' ((c.tc : Thread Cert.AdamAdaReferenceIdeal.nD Cert.AdamAdaReferenceIdeal.τ).loc Cert.AdamAdaReferenceIdeal.main_arg1) = m ((c.tc : Thread Cert.AdamAdaIdeal.nD Cert.AdamAdaIdeal.τ).loc Cert.AdamAdaIdeal.main_arg1)
      ∧ m' ((c.tc : Thread Cert.AdamAdaReferenceIdeal.nD Cert.AdamAdaReferenceIdeal.τ).loc Cert.AdamAdaReferenceIdeal.main_arg2) = m ((c.tc : Thread Cert.AdamAdaIdeal.nD Cert.AdamAdaIdeal.τ).loc Cert.AdamAdaIdeal.main_arg2)
      ∧ m' ((c.tc : Thread Cert.AdamAdaReferenceIdeal.nD Cert.AdamAdaReferenceIdeal.τ).loc Cert.AdamAdaReferenceIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaReferenceIdeal.defs (F := Ideal)) (onTc (τ := Cert.AdamAdaReferenceIdeal.τ) (Cert.AdamAdaReferenceIdeal.main (F := Ideal))) ⟨m', fun _ => 0, g'⟩ (fun r => ∀ c : Dev Cert.AdamAdaReferenceIdeal.nD,
          r.2.mem ((c.tc : Thread Cert.AdamAdaReferenceIdeal.nD Cert.AdamAdaReferenceIdeal.τ).loc Cert.AdamAdaReferenceIdeal.main_v0) = v0 c
          ∧ r.2.mem ((c.tc : Thread Cert.AdamAdaReferenceIdeal.nD Cert.AdamAdaReferenceIdeal.τ).loc Cert.AdamAdaReferenceIdeal.main_v24) = v1 c
          ∧ r.2.mem ((c.tc : Thread Cert.AdamAdaReferenceIdeal.nD Cert.AdamAdaReferenceIdeal.τ).loc Cert.AdamAdaReferenceIdeal.main_v5) = v2 c
          ∧ r.2.mem ((c.tc : Thread Cert.AdamAdaReferenceIdeal.nD Cert.AdamAdaReferenceIdeal.τ).loc Cert.AdamAdaReferenceIdeal.main_v11) = v3 c
          ∧ r.2.mem ((c.tc : Thread Cert.AdamAdaReferenceIdeal.nD Cert.AdamAdaReferenceIdeal.τ).loc Cert.AdamAdaReferenceIdeal.main_arg0) = m' ((c.tc : Thread Cert.AdamAdaReferenceIdeal.nD Cert.AdamAdaReferenceIdeal.τ).loc Cert.AdamAdaReferenceIdeal.main_arg0)
          ∧ r.2.mem ((c.tc : Thread Cert.AdamAdaReferenceIdeal.nD Cert.AdamAdaReferenceIdeal.τ).loc Cert.AdamAdaReferenceIdeal.main_arg1) = m' ((c.tc : Thread Cert.AdamAdaReferenceIdeal.nD Cert.AdamAdaReferenceIdeal.τ).loc Cert.AdamAdaReferenceIdeal.main_arg1)
          ∧ r.2.mem ((c.tc : Thread Cert.AdamAdaReferenceIdeal.nD Cert.AdamAdaReferenceIdeal.τ).loc Cert.AdamAdaReferenceIdeal.main_arg2) = m' ((c.tc : Thread Cert.AdamAdaReferenceIdeal.nD Cert.AdamAdaReferenceIdeal.τ).loc Cert.AdamAdaReferenceIdeal.main_arg2)
          ∧ r.2.mem ((c.tc : Thread Cert.AdamAdaReferenceIdeal.nD Cert.AdamAdaReferenceIdeal.τ).loc Cert.AdamAdaReferenceIdeal.main_arg3) = m' ((c.tc : Thread Cert.AdamAdaReferenceIdeal.nD Cert.AdamAdaReferenceIdeal.τ).loc Cert.AdamAdaReferenceIdeal.main_arg3))

def preserves_AdamRk_AdamRkIdeal : Prop :=
  IdealRules.named_const.Statement Cert.AdamRkIdeal.κ "c1" .f32 0x3FC48605#32 ((8388608 / 5463681 : ℝ) : EReal)
  ∧ IdealRules.named_const.Statement Cert.AdamRkIdeal.κ "c2" .f32 0x42C8E6D3#32 ((268435456 / 2672307 : ℝ) : EReal)

def algebraic_AdamRkIdeal_AdamRkReferenceIdeal [hAdamRkIdeal : Cert.AdamRkIdeal.Facts] [hAdamRkReferenceIdeal : Cert.AdamRkReferenceIdeal.Facts] : Prop :=
  ∀ (m : (ℓ : Loc Cert.AdamRkIdeal.nD Cert.AdamRkIdeal.τ Cert.AdamRkIdeal.sig) → Buf (Elt Ideal) ℓ) (g : Dev Cert.AdamRkIdeal.nD → PrngReg)
    (m' : (ℓ : Loc Cert.AdamRkReferenceIdeal.nD Cert.AdamRkReferenceIdeal.τ Cert.AdamRkReferenceIdeal.sig) → Buf (Elt Ideal) ℓ) (g' : Dev Cert.AdamRkReferenceIdeal.nD → PrngReg), Pre_AdamRkIdeal m →
    (∀ c : Dev Cert.AdamRkIdeal.nD,
      m' ((c.tc : Thread Cert.AdamRkReferenceIdeal.nD Cert.AdamRkReferenceIdeal.τ).loc Cert.AdamRkReferenceIdeal.main_arg0) = m ((c.tc : Thread Cert.AdamRkIdeal.nD Cert.AdamRkIdeal.τ).loc Cert.AdamRkIdeal.main_arg0)
      ∧ m' ((c.tc : Thread Cert.AdamRkReferenceIdeal.nD Cert.AdamRkReferenceIdeal.τ).loc Cert.AdamRkReferenceIdeal.main_arg1) = m ((c.tc : Thread Cert.AdamRkIdeal.nD Cert.AdamRkIdeal.τ).loc Cert.AdamRkIdeal.main_arg1)
      ∧ m' ((c.tc : Thread Cert.AdamRkReferenceIdeal.nD Cert.AdamRkReferenceIdeal.τ).loc Cert.AdamRkReferenceIdeal.main_arg2) = m ((c.tc : Thread Cert.AdamRkIdeal.nD Cert.AdamRkIdeal.τ).loc Cert.AdamRkIdeal.main_arg2)
      ∧ m' ((c.tc : Thread Cert.AdamRkReferenceIdeal.nD Cert.AdamRkReferenceIdeal.τ).loc Cert.AdamRkReferenceIdeal.main_arg3) = m ((c.tc : Thread Cert.AdamRkIdeal.nD Cert.AdamRkIdeal.τ).loc Cert.AdamRkIdeal.main_arg3)) →
    ∃ (v0 : (c : Dev Cert.AdamRkIdeal.nD) → Buf (Elt Ideal) ((c.tc : Thread Cert.AdamRkIdeal.nD Cert.AdamRkIdeal.τ).loc Cert.AdamRkIdeal.main_v0_0)) (v1 : (c : Dev Cert.AdamRkIdeal.nD) → Buf (Elt Ideal) ((c.tc : Thread Cert.AdamRkIdeal.nD Cert.AdamRkIdeal.τ).loc Cert.AdamRkIdeal.main_v0_1)) (v2 : (c : Dev Cert.AdamRkIdeal.nD) → Buf (Elt Ideal) ((c.tc : Thread Cert.AdamRkIdeal.nD Cert.AdamRkIdeal.τ).loc Cert.AdamRkIdeal.main_v0_2)) (v3 : (c : Dev Cert.AdamRkIdeal.nD) → Buf (Elt Ideal) ((c.tc : Thread Cert.AdamRkIdeal.nD Cert.AdamRkIdeal.τ).loc Cert.AdamRkIdeal.main_v0_3)),
      θ_run (Cert.AdamRkIdeal.defs (F := Ideal)) (onTc (τ := Cert.AdamRkIdeal.τ) (Cert.AdamRkIdeal.main (F := Ideal))) ⟨m, fun _ => 0, g⟩ (fun r => ∀ c : Dev Cert.AdamRkIdeal.nD,
          r.2.mem ((c.tc : Thread Cert.AdamRkIdeal.nD Cert.AdamRkIdeal.τ).loc Cert.AdamRkIdeal.main_v0_0) = v0 c
          ∧ r.2.mem ((c.tc : Thread Cert.AdamRkIdeal.nD Cert.AdamRkIdeal.τ).loc Cert.AdamRkIdeal.main_v0_1) = v1 c
          ∧ r.2.mem ((c.tc : Thread Cert.AdamRkIdeal.nD Cert.AdamRkIdeal.τ).loc Cert.AdamRkIdeal.main_v0_2) = v2 c
          ∧ r.2.mem ((c.tc : Thread Cert.AdamRkIdeal.nD Cert.AdamRkIdeal.τ).loc Cert.AdamRkIdeal.main_v0_3) = v3 c
          ∧ r.2.mem ((c.tc : Thread Cert.AdamRkIdeal.nD Cert.AdamRkIdeal.τ).loc Cert.AdamRkIdeal.main_arg0) = m ((c.tc : Thread Cert.AdamRkIdeal.nD Cert.AdamRkIdeal.τ).loc Cert.AdamRkIdeal.main_arg0)
          ∧ r.2.mem ((c.tc : Thread Cert.AdamRkIdeal.nD Cert.AdamRkIdeal.τ).loc Cert.AdamRkIdeal.main_arg1) = m ((c.tc : Thread Cert.AdamRkIdeal.nD Cert.AdamRkIdeal.τ).loc Cert.AdamRkIdeal.main_arg1)
          ∧ r.2.mem ((c.tc : Thread Cert.AdamRkIdeal.nD Cert.AdamRkIdeal.τ).loc Cert.AdamRkIdeal.main_arg2) = m ((c.tc : Thread Cert.AdamRkIdeal.nD Cert.AdamRkIdeal.τ).loc Cert.AdamRkIdeal.main_arg2)
          ∧ r.2.mem ((c.tc : Thread Cert.AdamRkIdeal.nD Cert.AdamRkIdeal.τ).loc Cert.AdamRkIdeal.main_arg3) = m ((c.tc : Thread Cert.AdamRkIdeal.nD Cert.AdamRkIdeal.τ).loc Cert.AdamRkIdeal.main_arg3))
      ∧ θ_run (Cert.AdamRkReferenceIdeal.defs (F := Ideal)) (onTc (τ := Cert.AdamRkReferenceIdeal.τ) (Cert.AdamRkReferenceIdeal.main (F := Ideal))) ⟨m', fun _ => 0, g'⟩ (fun r => ∀ c : Dev Cert.AdamRkReferenceIdeal.nD,
          r.2.mem ((c.tc : Thread Cert.AdamRkReferenceIdeal.nD Cert.AdamRkReferenceIdeal.τ).loc Cert.AdamRkReferenceIdeal.main_v0) = v0 c
          ∧ r.2.mem ((c.tc : Thread Cert.AdamRkReferenceIdeal.nD Cert.AdamRkReferenceIdeal.τ).loc Cert.AdamRkReferenceIdeal.main_v24) = v1 c
          ∧ r.2.mem ((c.tc : Thread Cert.AdamRkReferenceIdeal.nD Cert.AdamRkReferenceIdeal.τ).loc Cert.AdamRkReferenceIdeal.main_v5) = v2 c
          ∧ r.2.mem ((c.tc : Thread Cert.AdamRkReferenceIdeal.nD Cert.AdamRkReferenceIdeal.τ).loc Cert.AdamRkReferenceIdeal.main_v11) = v3 c
          ∧ r.2.mem ((c.tc : Thread Cert.AdamRkReferenceIdeal.nD Cert.AdamRkReferenceIdeal.τ).loc Cert.AdamRkReferenceIdeal.main_arg0) = m' ((c.tc : Thread Cert.AdamRkReferenceIdeal.nD Cert.AdamRkReferenceIdeal.τ).loc Cert.AdamRkReferenceIdeal.main_arg0)
          ∧ r.2.mem ((c.tc : Thread Cert.AdamRkReferenceIdeal.nD Cert.AdamRkReferenceIdeal.τ).loc Cert.AdamRkReferenceIdeal.main_arg1) = m' ((c.tc : Thread Cert.AdamRkReferenceIdeal.nD Cert.AdamRkReferenceIdeal.τ).loc Cert.AdamRkReferenceIdeal.main_arg1)
          ∧ r.2.mem ((c.tc : Thread Cert.AdamRkReferenceIdeal.nD Cert.AdamRkReferenceIdeal.τ).loc Cert.AdamRkReferenceIdeal.main_arg2) = m' ((c.tc : Thread Cert.AdamRkReferenceIdeal.nD Cert.AdamRkReferenceIdeal.τ).loc Cert.AdamRkReferenceIdeal.main_arg2)
          ∧ r.2.mem ((c.tc : Thread Cert.AdamRkReferenceIdeal.nD Cert.AdamRkReferenceIdeal.τ).loc Cert.AdamRkReferenceIdeal.main_arg3) = m' ((c.tc : Thread Cert.AdamRkReferenceIdeal.nD Cert.AdamRkReferenceIdeal.τ).loc Cert.AdamRkReferenceIdeal.main_arg3))

def preserves_AdamSmall_AdamSmallIdeal : Prop :=
  IdealRules.named_const.Statement Cert.AdamSmallIdeal.κ "c1" .f32 0x3FC48605#32 ((8388608 / 5463681 : ℝ) : EReal)
  ∧ IdealRules.named_const.Statement Cert.AdamSmallIdeal.κ "c2" .f32 0x42C8E6D3#32 ((268435456 / 2672307 : ℝ) : EReal)

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v0) = v0 c
          ∧ r.2.mem ((c.tc : Thread Cert.AdamSmallReferenceIdeal.nD Cert.AdamSmallReferenceIdeal.τ).loc Cert.AdamSmallReferenceIdeal.main_v24) = v1 c
          ∧ r.2.mem ((c.tc : Thread Cert.AdamSmallReferenceIdeal.nD Cert.AdamSmallReferenceIdeal.τ).loc Cert.AdamSmallReferenceIdeal.main_v5) = v2 c
          ∧ r.2.mem ((c.tc : Thread Cert.AdamSmallReferenceIdeal.nD Cert.AdamSmallReferenceIdeal.τ).loc Cert.AdamSmallReferenceIdeal.main_v11) = v3 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_AdamLog_AdamLogIdeal : Prop :=
  IdealRules.named_const.Statement Cert.AdamLogIdeal.κ "c1" .f32 0x3FC48605#32 ((8388608 / 5463681 : ℝ) : EReal)
  ∧ IdealRules.named_const.Statement Cert.AdamLogIdeal.κ "c2" .f32 0x42C8E6D3#32 ((268435456 / 2672307 : ℝ) : EReal)

def algebraic_AdamLogIdeal_AdamLogReferenceIdeal [hAdamLogIdeal : Cert.AdamLogIdeal.Facts] [hAdamLogReferenceIdeal : Cert.AdamLogReferenceIdeal.Facts] : Prop :=
  ∀ (m : (ℓ : Loc Cert.AdamLogIdeal.nD Cert.AdamLogIdeal.τ Cert.AdamLogIdeal.sig) → Buf (Elt Ideal) ℓ) (g : Dev Cert.AdamLogIdeal.nD → PrngReg)
    (m' : (ℓ : Loc Cert.AdamLogReferenceIdeal.nD Cert.AdamLogReferenceIdeal.τ Cert.AdamLogReferenceIdeal.sig) → Buf (Elt Ideal) ℓ) (g' : Dev Cert.AdamLogReferenceIdeal.nD → PrngReg), Pre_AdamLogIdeal m →
    (∀ c : Dev Cert.AdamLogIdeal.nD,
      m' ((c.tc : Thread Cert.AdamLogReferenceIdeal.nD Cert.AdamLogReferenceIdeal.τ).loc Cert.AdamLogReferenceIdeal.main_arg0) = m ((c.tc : Thread Cert.AdamLogIdeal.nD Cert.AdamLogIdeal.τ).loc Cert.AdamLogIdeal.main_arg0)
      ∧ m' ((c.tc : Thread Cert.AdamLogReferenceIdeal.nD Cert.AdamLogReferenceIdeal.τ).loc Cert.AdamLogReferenceIdeal.main_arg1) = m ((c.tc : Thread Cert.AdamLogIdeal.nD Cert.AdamLogIdeal.τ).loc Cert.AdamLogIdeal.main_arg1)
      ∧ m' ((c.tc : Thread Cert.AdamLogReferenceIdeal.nD Cert.AdamLogReferenceIdeal.τ).loc Cert.AdamLogReferenceIdeal.main_arg2) = m ((c.tc : Thread Cert.AdamLogIdeal.nD Cert.AdamLogIdeal.τ).loc Cert.AdamLogIdeal.main_arg2)
      ∧ m' ((c.tc : Thread Cert.AdamLogReferenceIdeal.nD Cert.AdamLogReferenceIdeal.τ).loc Cert.AdamLogReferenceIdeal.main_arg3) = m ((c.tc : Thread Cert.AdamLogIdeal.nD Cert.AdamLogIdeal.τ).loc Cert.AdamLogIdeal.main_arg3)) →
    ∃ (v0 : (c : Dev Cert.AdamLogIdeal.nD) → Buf (Elt Ideal) ((c.tc : Thread Cert.AdamLogIdeal.nD Cert.AdamLogIdeal.τ).loc Cert.AdamLogIdeal.main_v0_0)) (v1 : (c : Dev Cert.AdamLogIdeal.nD) → Buf (Elt Ideal) ((c.tc : Thread Cert.AdamLogIdeal.nD Cert.AdamLogIdeal.τ).loc Cert.AdamLogIdeal.main_v0_1)) (v2 : (c : Dev Cert.AdamLogIdeal.nD) → Buf (Elt Ideal) ((c.tc : Thread Cert.AdamLogIdeal.nD Cert.AdamLogIdeal.τ).loc Cert.AdamLogIdeal.main_v0_2)) (v3 : (c : Dev Cert.AdamLogIdeal.nD) → Buf (Elt Ideal) ((c.tc : Thread Cert.AdamLogIdeal.nD Cert.AdamLogIdeal.τ).loc Cert.AdamLogIdeal.main_v0_3)),
      θ_run (Cert.AdamLogIdeal.defs (F := Ideal)) (onTc (τ := Cert.AdamLogIdeal.τ) (Cert.AdamLogIdeal.main (F := Ideal))) ⟨m, fun _ => 0, g⟩ (fun r => ∀ c : Dev Cert.AdamLogIdeal.nD,
          r.2.mem ((c.tc : Thread Cert.AdamLogIdeal.nD Cert.AdamLogIdeal.τ).loc Cert.AdamLogIdeal.main_v0_0) = v0 c
          ∧ r.2.mem ((c.tc : Thread Cert.AdamLogIdeal.nD Cert.AdamLogIdeal.τ).loc Cert.AdamLogIdeal.main_v0_1) = v1 c
          ∧ r.2.mem ((c.tc : Thread Cert.AdamLogIdeal.nD Cert.AdamLogIdeal.τ).loc Cert.AdamLogIdeal.main_v0_2) = v2 c
          ∧ r.2.mem ((c.tc : Thread Cert.AdamLogIdeal.nD Cert.AdamLogIdeal.τ).loc Cert.AdamLogIdeal.main_v0_3) = v3 c
          ∧ r.2.mem ((c.tc : Thread Cert.AdamLogIdeal.nD Cert.AdamLogIdeal.τ).loc Cert.AdamLogIdeal.main_arg0) = m ((c.tc : Thread Cert.AdamLogIdeal.nD Cert.AdamLogIdeal.τ).loc Cert.AdamLogIdeal.main_arg0)
          ∧ r.2.mem ((c.tc : Thread Cert.AdamLogIdeal.nD Cert.AdamLogIdeal.τ).loc Cert.AdamLogIdeal.main_arg1) = m ((c.tc : Thread Cert.AdamLogIdeal.nD Cert.AdamLogIdeal.τ).loc Cert.AdamLogIdeal.main_arg1)
          ∧ r.2.mem ((c.tc : Thread Cert.AdamLogIdeal.nD Cert.AdamLogIdeal.τ).loc Cert.AdamLogIdeal.main_arg2) = m ((c.tc : Thread Cert.AdamLogIdeal.nD Cert.AdamLogIdeal.τ).loc Cert.AdamLogIdeal.main_arg2)
          ∧ r.2.mem ((c.tc : Thread Cert.AdamLogIdeal.nD Cert.AdamLogIdeal.τ).loc Cert.AdamLogIdeal.main_arg3) = m ((c.tc : Thread Cert.AdamLogIdeal.nD Cert.AdamLogIdeal.τ).loc Cert.AdamLogIdeal.main_arg3))
      ∧ θ_run (Cert.AdamLogReferenceIdeal.defs (F := Ideal)) (onTc (τ := Cert.AdamLogReferenceIdeal.τ) (Cert.AdamLogReferenceIdeal.main (F := Ideal))) ⟨m', fun _ => 0, g'⟩ (fun r => ∀ c : Dev Cert.AdamLogReferenceIdeal.nD,
          r.2.mem ((c.tc : Thread Cert.AdamLogReferenceIdeal.nD Cert.AdamLogReferenceIdeal.τ).loc Cert.AdamLogReferenceIdeal.main_v0) = v0 c
          ∧ r.2.mem ((c.tc : Thread Cert.AdamLogReferenceIdeal.nD Cert.AdamLogReferenceIdeal.τ).loc Cert.AdamLogReferenceIdeal.main_v24) = v1 c
          ∧ r.2.mem ((c.tc : Thread Cert.AdamLogReferenceIdeal.nD Cert.AdamLogReferenceIdeal.τ).loc Cert.AdamLogReferenceIdeal.main_v5) = v2 c
          ∧ r.2.mem ((c.tc : Thread Cert.AdamLogReferenceIdeal.nD Cert.AdamLogReferenceIdeal.τ).loc Cert.AdamLogReferenceIdeal.main_v11) = v3 c
          ∧ r.2.mem ((c.tc : Thread Cert.AdamLogReferenceIdeal.nD Cert.AdamLogReferenceIdeal.τ).loc Cert.AdamLogReferenceIdeal.main_arg0) = m' ((c.tc : Thread Cert.AdamLogReferenceIdeal.nD Cert.AdamLogReferenceIdeal.τ).loc Cert.AdamLogReferenceIdeal.main_arg0)
          ∧ r.2.mem ((c.tc : Thread Cert.AdamLogReferenceIdeal.nD Cert.AdamLogReferenceIdeal.τ).loc Cert.AdamLogReferenceIdeal.main_arg1) = m' ((c.tc : Thread Cert.AdamLogReferenceIdeal.nD Cert.AdamLogReferenceIdeal.τ).loc Cert.AdamLogReferenceIdeal.main_arg1)
          ∧ r.2.mem ((c.tc : Thread Cert.AdamLogReferenceIdeal.nD Cert.AdamLogReferenceIdeal.τ).loc Cert.AdamLogReferenceIdeal.main_arg2) = m' ((c.tc : Thread Cert.AdamLogReferenceIdeal.nD Cert.AdamLogReferenceIdeal.τ).loc Cert.AdamLogReferenceIdeal.main_arg2)
          ∧ r.2.mem ((c.tc : Thread Cert.AdamLogReferenceIdeal.nD Cert.AdamLogReferenceIdeal.τ).loc Cert.AdamLogReferenceIdeal.main_arg3) = m' ((c.tc : Thread Cert.AdamLogReferenceIdeal.nD Cert.AdamLogReferenceIdeal.τ).loc Cert.AdamLogReferenceIdeal.main_arg3))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)
      ∧ m' ((c.tc : Thread Cert.NormReferenceIdeal.nD Cert.NormReferenceIdeal.τ).loc Cert.NormReferenceIdeal.main_arg4) = m ((c.tc : Thread Cert.NormIdeal.nD Cert.NormIdeal.τ).loc Cert.NormIdeal.main_arg4)
      ∧ m' ((c.tc : Thread Cert.NormReferenceIdeal.nD Cert.NormReferenceIdeal.τ).loc Cert.NormReferenceIdeal.main_arg5) = m ((c.tc : Thread Cert.NormIdeal.nD Cert.NormIdeal.τ).loc Cert.NormIdeal.main_arg5)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)) (v3 : (c : Dev Cert.NormIdeal.nD) → Buf (Elt Ideal) ((c.tc : Thread Cert.NormIdeal.nD Cert.NormIdeal.τ).loc Cert.NormIdeal.main_v0_3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_v0_3) = v3 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v48) = v0 c
          ∧ r.2.mem ((c.tc : Thread Cert.NormReferenceIdeal.nD Cert.NormReferenceIdeal.τ).loc Cert.NormReferenceIdeal.main_v31) = v1 c
          ∧ r.2.mem ((c.tc : Thread Cert.NormReferenceIdeal.nD Cert.NormReferenceIdeal.τ).loc Cert.NormReferenceIdeal.main_v26) = v2 c
          ∧ r.2.mem ((c.tc : Thread Cert.NormReferenceIdeal.nD Cert.NormReferenceIdeal.τ).loc Cert.NormReferenceIdeal.main_v23) = v3 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4)
          ∧ r.2.mem ((c.tc : Thread Cert.NormReferenceIdeal.nD Cert.NormReferenceIdeal.τ).loc Cert.NormReferenceIdeal.main_arg5) = m' ((c.tc : Thread Cert.NormReferenceIdeal.nD Cert.NormReferenceIdeal.τ).loc Cert.NormReferenceIdeal.main_arg5))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)
      ∧ m' ((c.tc : Thread Cert.LossReferenceIdeal.nD Cert.LossReferenceIdeal.τ).loc Cert.LossReferenceIdeal.main_arg3) = m ((c.tc : Thread Cert.LossIdeal.nD Cert.LossIdeal.τ).loc Cert.LossIdeal.main_arg3)
      ∧ m' ((c.tc : Thread Cert.LossReferenceIdeal.nD Cert.LossReferenceIdeal.τ).loc Cert.LossReferenceIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)) (v4 : (c : Dev Cert.LossIdeal.nD) → Buf (Elt Ideal) ((c.tc : Thread Cert.LossIdeal.nD Cert.LossIdeal.τ).loc Cert.LossIdeal.main_v0_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_v0_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v51) = v0 c
          ∧ r.2.mem ((c.tc : Thread Cert.LossReferenceIdeal.nD Cert.LossReferenceIdeal.τ).loc Cert.LossReferenceIdeal.main_v57) = v1 c
          ∧ r.2.mem ((c.tc : Thread Cert.LossReferenceIdeal.nD Cert.LossReferenceIdeal.τ).loc Cert.LossReferenceIdeal.main_v58) = v2 c
          ∧ r.2.mem ((c.tc : Thread Cert.LossReferenceIdeal.nD Cert.LossReferenceIdeal.τ).loc Cert.LossReferenceIdeal.main_v56) = v3 c
          ∧ r.2.mem ((c.tc : Thread Cert.LossReferenceIdeal.nD Cert.LossReferenceIdeal.τ).loc Cert.LossReferenceIdeal.main_v35) = v4 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4))

def preserves_LossSum_LossSumIdeal : Prop :=
  True

def algebraic_LossSumIdeal_LossSumReferenceIdeal [hLossSumIdeal : Cert.LossSumIdeal.Facts] [hLossSumReferenceIdeal : Cert.LossSumReferenceIdeal.Facts] : Prop :=
  ∀ (m : (ℓ : Loc Cert.LossSumIdeal.nD Cert.LossSumIdeal.τ Cert.LossSumIdeal.sig) → Buf (Elt Ideal) ℓ) (g : Dev Cert.LossSumIdeal.nD → PrngReg)
    (m' : (ℓ : Loc Cert.LossSumReferenceIdeal.nD Cert.LossSumReferenceIdeal.τ Cert.LossSumReferenceIdeal.sig) → Buf (Elt Ideal) ℓ) (g' : Dev Cert.LossSumReferenceIdeal.nD → PrngReg), Pre_LossSumIdeal m →
    (∀ c : Dev Cert.LossSumIdeal.nD,
      m ((c.tc : Thread Cert.LossSumIdeal.nD Cert.LossSumIdeal.τ).loc Cert.LossSumIdeal.main_arg0) = Layout.block ⟨2, ![8, 128]⟩ ⟨2, ![64, 128]⟩ 0 8 c (m' (((0 : Dev Cert.LossSumReferenceIdeal.nD).tc : Thread Cert.LossSumReferenceIdeal.nD Cert.LossSumReferenceIdeal.τ).loc Cert.LossSumReferenceIdeal.main_arg0))) →
    ∃ (v0 : Buf (Elt Ideal) (((0 : Dev Cert.LossSumReferenceIdeal.nD).tc : Thread Cert.LossSumReferenceIdeal.nD Cert.LossSumReferenceIdeal.τ).loc Cert.LossSumReferenceIdeal.main_v3)),
      θ_run (Cert.LossSumIdeal.defs (F := Ideal)) (onTc (τ := Cert.LossSumIdeal.τ) (Cert.LossSumIdeal.main (F := Ideal))) ⟨m, fun _ => 0, g⟩ (fun r => ∀ c : Dev Cert.LossSumIdeal.nD,
          r.2.mem ((c.tc : Thread Cert.LossSumIdeal.nD Cert.LossSumIdeal.τ).loc Cert.LossSumIdeal.main_v3) = v0
          ∧ r.2.mem ((c.tc : Thread Cert.LossSumIdeal.nD Cert.LossSumIdeal.τ).loc Cert.LossSumIdeal.main_arg0) = m ((c.tc : Thread Cert.LossSumIdeal.nD Cert.LossSumIdeal.τ).loc Cert.LossSumIdeal.main_arg0))
      ∧ θ_run (Cert.LossSumReferenceIdeal.defs (F := Ideal)) (onTc (τ := Cert.LossSumReferenceIdeal.τ) (Cert.LossSumReferenceIdeal.main (F := Ideal))) ⟨m', fun _ => 0, g'⟩ (fun r =>
          r.2.mem (((0 : Dev Cert.LossSumReferenceIdeal.nD).tc : Thread Cert.LossSumReferenceIdeal.nD Cert.LossSumReferenceIdeal.τ).loc Cert.LossSumReferenceIdeal.main_v3) = v0
          ∧ r.2.mem (((0 : Dev Cert.LossSumReferenceIdeal.nD).tc : Thread Cert.LossSumReferenceIdeal.nD Cert.LossSumReferenceIdeal.τ).loc Cert.LossSumReferenceIdeal.main_arg0) = m' (((0 : Dev Cert.LossSumReferenceIdeal.nD).tc : Thread Cert.LossSumReferenceIdeal.nD Cert.LossSumReferenceIdeal.τ).loc Cert.LossSumReferenceIdeal.main_arg0))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v0) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_OutMix_OutMixIdeal : Prop :=
  True

def algebraic_OutMixIdeal_OutMixReferenceIdeal [hOutMixIdeal : Cert.OutMixIdeal.Facts] [hOutMixReferenceIdeal : Cert.OutMixReferenceIdeal.Facts] : Prop :=
  ∀ (m : (ℓ : Loc Cert.OutMixIdeal.nD Cert.OutMixIdeal.τ Cert.OutMixIdeal.sig) → Buf (Elt Ideal) ℓ) (g : Dev Cert.OutMixIdeal.nD → PrngReg)
    (m' : (ℓ : Loc Cert.OutMixReferenceIdeal.nD Cert.OutMixReferenceIdeal.τ Cert.OutMixReferenceIdeal.sig) → Buf (Elt Ideal) ℓ) (g' : Dev Cert.OutMixReferenceIdeal.nD → PrngReg), Pre_OutMixIdeal m →
    (∀ c : Dev Cert.OutMixIdeal.nD,
      m' ((c.tc : Thread Cert.OutMixReferenceIdeal.nD Cert.OutMixReferenceIdeal.τ).loc Cert.OutMixReferenceIdeal.main_arg0) = m ((c.tc : Thread Cert.OutMixIdeal.nD Cert.OutMixIdeal.τ).loc Cert.OutMixIdeal.main_arg0)
      ∧ m' ((c.tc : Thread Cert.OutMixReferenceIdeal.nD Cert.OutMixReferenceIdeal.τ).loc Cert.OutMixReferenceIdeal.main_arg1) = m ((c.tc : Thread Cert.OutMixIdeal.nD Cert.OutMixIdeal.τ).loc Cert.OutMixIdeal.main_arg1)) →
    ∃ (v0 : (c : Dev Cert.OutMixIdeal.nD) → Buf (Elt Ideal) ((c.tc : Thread Cert.OutMixIdeal.nD Cert.OutMixIdeal.τ).loc Cert.OutMixIdeal.main_v0)),
      θ_run (Cert.OutMixIdeal.defs (F := Ideal)) (onTc (τ := Cert.OutMixIdeal.τ) (Cert.OutMixIdeal.main (F := Ideal))) ⟨m, fun _ => 0, g⟩ (fun r => ∀ c : Dev Cert.OutMixIdeal.nD,
          r.2.mem ((c.tc : Thread Cert.OutMixIdeal.nD Cert.OutMixIdeal.τ).loc Cert.OutMixIdeal.main_v0) = v0 c
          ∧ r.2.mem ((c.tc : Thread Cert.OutMixIdeal.nD Cert.OutMixIdeal.τ).loc Cert.OutMixIdeal.main_arg0) = m ((c.tc : Thread Cert.OutMixIdeal.nD Cert.OutMixIdeal.τ).loc Cert.OutMixIdeal.main_arg0)
          ∧ r.2.mem ((c.tc : Thread Cert.OutMixIdeal.nD Cert.OutMixIdeal.τ).loc Cert.OutMixIdeal.main_arg1) = m ((c.tc : Thread Cert.OutMixIdeal.nD Cert.OutMixIdeal.τ).loc Cert.OutMixIdeal.main_arg1))
      ∧ θ_run (Cert.OutMixReferenceIdeal.defs (F := Ideal)) (onTc (τ := Cert.OutMixReferenceIdeal.τ) (Cert.OutMixReferenceIdeal.main (F := Ideal))) ⟨m', fun _ => 0, g'⟩ (fun r => ∀ c : Dev Cert.OutMixReferenceIdeal.nD,
          r.2.mem ((c.tc : Thread Cert.OutMixReferenceIdeal.nD Cert.OutMixReferenceIdeal.τ).loc Cert.OutMixReferenceIdeal.main_v0) = v0 c
          ∧ r.2.mem ((c.tc : Thread Cert.OutMixReferenceIdeal.nD Cert.OutMixReferenceIdeal.τ).loc Cert.OutMixReferenceIdeal.main_arg0) = m' ((c.tc : Thread Cert.OutMixReferenceIdeal.nD Cert.OutMixReferenceIdeal.τ).loc Cert.OutMixReferenceIdeal.main_arg0)
          ∧ r.2.mem ((c.tc : Thread Cert.OutMixReferenceIdeal.nD Cert.OutMixReferenceIdeal.τ).loc Cert.OutMixReferenceIdeal.main_arg1) = m' ((c.tc : Thread Cert.OutMixReferenceIdeal.nD Cert.OutMixReferenceIdeal.τ).loc Cert.OutMixReferenceIdeal.main_arg1))

def preserves_Ffn1_Ffn1Ideal : Prop :=
  True

def algebraic_Ffn1Ideal_Ffn1ReferenceIdeal [hFfn1Ideal : Cert.Ffn1Ideal.Facts] [hFfn1ReferenceIdeal : Cert.Ffn1ReferenceIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1ReferenceIdeal.nD Cert.Ffn1ReferenceIdeal.τ Cert.Ffn1ReferenceIdeal.sig) → Buf (Elt Ideal) ℓ) (g' : Dev Cert.Ffn1ReferenceIdeal.nD → PrngReg), Pre_Ffn1Ideal m →
    (∀ c : Dev Cert.Ffn1Ideal.nD,
      m' ((c.tc : Thread Cert.Ffn1ReferenceIdeal.nD Cert.Ffn1ReferenceIdeal.τ).loc Cert.Ffn1ReferenceIdeal.main_arg0) = m ((c.tc : Thread Cert.Ffn1Ideal.nD Cert.Ffn1Ideal.τ).loc Cert.Ffn1Ideal.main_arg0)
      ∧ m' ((c.tc : Thread Cert.Ffn1ReferenceIdeal.nD Cert.Ffn1ReferenceIdeal.τ).loc Cert.Ffn1ReferenceIdeal.main_arg1) = m ((c.tc : Thread Cert.Ffn1Ideal.nD Cert.Ffn1Ideal.τ).loc Cert.Ffn1Ideal.main_arg1)) →
    ∃ (v0 : (c : Dev Cert.Ffn1Ideal.nD) → Buf (Elt Ideal) ((c.tc : Thread Cert.Ffn1Ideal.nD Cert.Ffn1Ideal.τ).loc Cert.Ffn1Ideal.main_v0_0)) (v1 : (c : Dev Cert.Ffn1Ideal.nD) → Buf (Elt Ideal) ((c.tc : Thread Cert.Ffn1Ideal.nD Cert.Ffn1Ideal.τ).loc Cert.Ffn1Ideal.main_v0_1)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v0_0) = v0 c
          ∧ r.2.mem ((c.tc : Thread Cert.Ffn1Ideal.nD Cert.Ffn1Ideal.τ).loc Cert.Ffn1Ideal.main_v0_1) = v1 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1))
      ∧ θ_run (Cert.Ffn1ReferenceIdeal.defs (F := Ideal)) (onTc (τ := Cert.Ffn1ReferenceIdeal.τ) (Cert.Ffn1ReferenceIdeal.main (F := Ideal))) ⟨m', fun _ => 0, g'⟩ (fun r => ∀ c : Dev Cert.Ffn1ReferenceIdeal.nD,
          r.2.mem ((c.tc : Thread Cert.Ffn1ReferenceIdeal.nD Cert.Ffn1ReferenceIdeal.τ).loc Cert.Ffn1ReferenceIdeal.main_v2) = v0 c
          ∧ r.2.mem ((c.tc : Thread Cert.Ffn1ReferenceIdeal.nD Cert.Ffn1ReferenceIdeal.τ).loc Cert.Ffn1ReferenceIdeal.main_v5) = v1 c
          ∧ r.2.mem ((c.tc : Thread Cert.Ffn1ReferenceIdeal.nD Cert.Ffn1ReferenceIdeal.τ).loc Cert.Ffn1ReferenceIdeal.main_arg0) = m' ((c.tc : Thread Cert.Ffn1ReferenceIdeal.nD Cert.Ffn1ReferenceIdeal.τ).loc Cert.Ffn1ReferenceIdeal.main_arg0)
          ∧ r.2.mem ((c.tc : Thread Cert.Ffn1ReferenceIdeal.nD Cert.Ffn1ReferenceIdeal.τ).loc Cert.Ffn1ReferenceIdeal.main_arg1) = m' ((c.tc : Thread Cert.Ffn1ReferenceIdeal.nD Cert.Ffn1ReferenceIdeal.τ).loc Cert.Ffn1ReferenceIdeal.main_arg1))

def preserves_Ffn2_Ffn2Ideal : Prop :=
  True

def algebraic_Ffn2Ideal_Ffn2ReferenceIdeal [hFfn2Ideal : Cert.Ffn2Ideal.Facts] [hFfn2ReferenceIdeal : Cert.Ffn2ReferenceIdeal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ffn2ReferenceIdeal.nD Cert.Ffn2ReferenceIdeal.τ Cert.Ffn2ReferenceIdeal.sig) → Buf (Elt Ideal) ℓ) (g' : Dev Cert.Ffn2ReferenceIdeal.nD → PrngReg), Pre_Ffn2Ideal m →
    (∀ c : Dev Cert.Ffn2Ideal.nD,
      m' ((c.tc : Thread Cert.Ffn2ReferenceIdeal.nD Cert.Ffn2ReferenceIdeal.τ).loc Cert.Ffn2ReferenceIdeal.main_arg0) = m ((c.tc : Thread Cert.Ffn2Ideal.nD Cert.Ffn2Ideal.τ).loc Cert.Ffn2Ideal.main_arg0)
      ∧ m' ((c.tc : Thread Cert.Ffn2ReferenceIdeal.nD Cert.Ffn2ReferenceIdeal.τ).loc Cert.Ffn2ReferenceIdeal.main_arg1) = m ((c.tc : Thread Cert.Ffn2Ideal.nD Cert.Ffn2Ideal.τ).loc Cert.Ffn2Ideal.main_arg1)) →
    ∃ (v0 : (c : Dev Cert.Ffn2Ideal.nD) → Buf (Elt Ideal) ((c.tc : Thread Cert.Ffn2Ideal.nD Cert.Ffn2Ideal.τ).loc Cert.Ffn2Ideal.main_v0)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v0) = v0 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1))
      ∧ θ_run (Cert.Ffn2ReferenceIdeal.defs (F := Ideal)) (onTc (τ := Cert.Ffn2ReferenceIdeal.τ) (Cert.Ffn2ReferenceIdeal.main (F := Ideal))) ⟨m', fun _ => 0, g'⟩ (fun r => ∀ c : Dev Cert.Ffn2ReferenceIdeal.nD,
          r.2.mem ((c.tc : Thread Cert.Ffn2ReferenceIdeal.nD Cert.Ffn2ReferenceIdeal.τ).loc Cert.Ffn2ReferenceIdeal.main_v0) = v0 c
          ∧ r.2.mem ((c.tc : Thread Cert.Ffn2ReferenceIdeal.nD Cert.Ffn2ReferenceIdeal.τ).loc Cert.Ffn2ReferenceIdeal.main_arg0) = m' ((c.tc : Thread Cert.Ffn2ReferenceIdeal.nD Cert.Ffn2ReferenceIdeal.τ).loc Cert.Ffn2ReferenceIdeal.main_arg0)
          ∧ r.2.mem ((c.tc : Thread Cert.Ffn2ReferenceIdeal.nD Cert.Ffn2ReferenceIdeal.τ).loc Cert.Ffn2ReferenceIdeal.main_arg1) = m' ((c.tc : Thread Cert.Ffn2ReferenceIdeal.nD Cert.Ffn2ReferenceIdeal.τ).loc Cert.Ffn2ReferenceIdeal.main_arg1))

def preserves_DFfn2_DFfn2Ideal : Prop :=
  True

def algebraic_DFfn2Ideal_DFfn2ReferenceIdeal [hDFfn2Ideal : Cert.DFfn2Ideal.Facts] [hDFfn2ReferenceIdeal : Cert.DFfn2ReferenceIdeal.Facts] : Prop :=
  ∀ (m : (ℓ : Loc Cert.DFfn2Ideal.nD Cert.DFfn2Ideal.τ Cert.DFfn2Ideal.sig) → Buf (Elt Ideal) ℓ) (g : Dev Cert.DFfn2Ideal.nD → PrngReg)
    (m' : (ℓ : Loc Cert.DFfn2ReferenceIdeal.nD Cert.DFfn2ReferenceIdeal.τ Cert.DFfn2ReferenceIdeal.sig) → Buf (Elt Ideal) ℓ) (g' : Dev Cert.DFfn2ReferenceIdeal.nD → PrngReg), Pre_DFfn2Ideal m →
    (∀ c : Dev Cert.DFfn2Ideal.nD,
      m' ((c.tc : Thread Cert.DFfn2ReferenceIdeal.nD Cert.DFfn2ReferenceIdeal.τ).loc Cert.DFfn2ReferenceIdeal.main_arg0) = m ((c.tc : Thread Cert.DFfn2Ideal.nD Cert.DFfn2Ideal.τ).loc Cert.DFfn2Ideal.main_arg0)
      ∧ m' ((c.tc : Thread Cert.DFfn2ReferenceIdeal.nD Cert.DFfn2ReferenceIdeal.τ).loc Cert.DFfn2ReferenceIdeal.main_arg1) = m ((c.tc : Thread Cert.DFfn2Ideal.nD Cert.DFfn2Ideal.τ).loc Cert.DFfn2Ideal.main_arg1)
      ∧ m' ((c.tc : Thread Cert.DFfn2ReferenceIdeal.nD Cert.DFfn2ReferenceIdeal.τ).loc Cert.DFfn2ReferenceIdeal.main_arg2) = m ((c.tc : Thread Cert.DFfn2Ideal.nD Cert.DFfn2Ideal.τ).loc Cert.DFfn2Ideal.main_arg2)) →
    ∃ (v0 : (c : Dev Cert.DFfn2Ideal.nD) → Buf (Elt Ideal) ((c.tc : Thread Cert.DFfn2Ideal.nD Cert.DFfn2Ideal.τ).loc Cert.DFfn2Ideal.main_v0)),
      θ_run (Cert.DFfn2Ideal.defs (F := Ideal)) (onTc (τ := Cert.DFfn2Ideal.τ) (Cert.DFfn2Ideal.main (F := Ideal))) ⟨m, fun _ => 0, g⟩ (fun r => ∀ c : Dev Cert.DFfn2Ideal.nD,
          r.2.mem ((c.tc : Thread Cert.DFfn2Ideal.nD Cert.DFfn2Ideal.τ).loc Cert.DFfn2Ideal.main_v0) = v0 c
          ∧ r.2.mem ((c.tc : Thread Cert.DFfn2Ideal.nD Cert.DFfn2Ideal.τ).loc Cert.DFfn2Ideal.main_arg0) = m ((c.tc : Thread Cert.DFfn2Ideal.nD Cert.DFfn2Ideal.τ).loc Cert.DFfn2Ideal.main_arg0)
          ∧ r.2.mem ((c.tc : Thread Cert.DFfn2Ideal.nD Cert.DFfn2Ideal.τ).loc Cert.DFfn2Ideal.main_arg1) = m ((c.tc : Thread Cert.DFfn2Ideal.nD Cert.DFfn2Ideal.τ).loc Cert.DFfn2Ideal.main_arg1)
          ∧ r.2.mem ((c.tc : Thread Cert.DFfn2Ideal.nD Cert.DFfn2Ideal.τ).loc Cert.DFfn2Ideal.main_arg2) = m ((c.tc : Thread Cert.DFfn2Ideal.nD Cert.DFfn2Ideal.τ).loc Cert.DFfn2Ideal.main_arg2))
      ∧ θ_run (Cert.DFfn2ReferenceIdeal.defs (F := Ideal)) (onTc (τ := Cert.DFfn2ReferenceIdeal.τ) (Cert.DFfn2ReferenceIdeal.main (F := Ideal))) ⟨m', fun _ => 0, g'⟩ (fun r => ∀ c : Dev Cert.DFfn2ReferenceIdeal.nD,
          r.2.mem ((c.tc : Thread Cert.DFfn2ReferenceIdeal.nD Cert.DFfn2ReferenceIdeal.τ).loc Cert.DFfn2ReferenceIdeal.main_v12) = v0 c
          ∧ r.2.mem ((c.tc : Thread Cert.DFfn2ReferenceIdeal.nD Cert.DFfn2ReferenceIdeal.τ).loc Cert.DFfn2ReferenceIdeal.main_arg0) = m' ((c.tc : Thread Cert.DFfn2ReferenceIdeal.nD Cert.DFfn2ReferenceIdeal.τ).loc Cert.DFfn2ReferenceIdeal.main_arg0)
          ∧ r.2.mem ((c.tc : Thread Cert.DFfn2ReferenceIdeal.nD Cert.DFfn2ReferenceIdeal.τ).loc Cert.DFfn2ReferenceIdeal.main_arg1) = m' ((c.tc : Thread Cert.DFfn2ReferenceIdeal.nD Cert.DFfn2ReferenceIdeal.τ).loc Cert.DFfn2ReferenceIdeal.main_arg1)
          ∧ r.2.mem ((c.tc : Thread Cert.DFfn2ReferenceIdeal.nD Cert.DFfn2ReferenceIdeal.τ).loc Cert.DFfn2ReferenceIdeal.main_arg2) = m' ((c.tc : Thread Cert.DFfn2ReferenceIdeal.nD Cert.DFfn2ReferenceIdeal.τ).loc Cert.DFfn2ReferenceIdeal.main_arg2))

def preserves_GwFfn2_GwFfn2Ideal : Prop :=
  True

def algebraic_GwFfn2Ideal_GwFfn2ReferenceIdeal [hGwFfn2Ideal : Cert.GwFfn2Ideal.Facts] [hGwFfn2ReferenceIdeal : Cert.GwFfn2ReferenceIdeal.Facts] : Prop :=
  ∀ (m : (ℓ : Loc Cert.GwFfn2Ideal.nD Cert.GwFfn2Ideal.τ Cert.GwFfn2Ideal.sig) → Buf (Elt Ideal) ℓ) (g : Dev Cert.GwFfn2Ideal.nD → PrngReg)
    (m' : (ℓ : Loc Cert.GwFfn2ReferenceIdeal.nD Cert.GwFfn2ReferenceIdeal.τ Cert.GwFfn2ReferenceIdeal.sig) → Buf (Elt Ideal) ℓ) (g' : Dev Cert.GwFfn2ReferenceIdeal.nD → PrngReg), Pre_GwFfn2Ideal m →
    (∀ c : Dev Cert.GwFfn2Ideal.nD,
      m' ((c.tc : Thread Cert.GwFfn2ReferenceIdeal.nD Cert.GwFfn2ReferenceIdeal.τ).loc Cert.GwFfn2ReferenceIdeal.main_arg0) = m ((c.tc : Thread Cert.GwFfn2Ideal.nD Cert.GwFfn2Ideal.τ).loc Cert.GwFfn2Ideal.main_arg0)
      ∧ m' ((c.tc : Thread Cert.GwFfn2ReferenceIdeal.nD Cert.GwFfn2ReferenceIdeal.τ).loc Cert.GwFfn2ReferenceIdeal.main_arg1) = m ((c.tc : Thread Cert.GwFfn2Ideal.nD Cert.GwFfn2Ideal.τ).loc Cert.GwFfn2Ideal.main_arg1)) →
    ∃ (v0 : (c : Dev Cert.GwFfn2Ideal.nD) → Buf (Elt Ideal) ((c.tc : Thread Cert.GwFfn2Ideal.nD Cert.GwFfn2Ideal.τ).loc Cert.GwFfn2Ideal.main_v0)),
      θ_run (Cert.GwFfn2Ideal.defs (F := Ideal)) (onTc (τ := Cert.GwFfn2Ideal.τ) (Cert.GwFfn2Ideal.main (F := Ideal))) ⟨m, fun _ => 0, g⟩ (fun r => ∀ c : Dev Cert.GwFfn2Ideal.nD,
          r.2.mem ((c.tc : Thread Cert.GwFfn2Ideal.nD Cert.GwFfn2Ideal.τ).loc Cert.GwFfn2Ideal.main_v0) = v0 c
          ∧ r.2.mem ((c.tc : Thread Cert.GwFfn2Ideal.nD Cert.GwFfn2Ideal.τ).loc Cert.GwFfn2Ideal.main_arg0) = m ((c.tc : Thread Cert.GwFfn2Ideal.nD Cert.GwFfn2Ideal.τ).loc Cert.GwFfn2Ideal.main_arg0)
          ∧ r.2.mem ((c.tc : Thread Cert.GwFfn2Ideal.nD Cert.GwFfn2Ideal.τ).loc Cert.GwFfn2Ideal.main_arg1) = m ((c.tc : Thread Cert.GwFfn2Ideal.nD Cert.GwFfn2Ideal.τ).loc Cert.GwFfn2Ideal.main_arg1))
      ∧ θ_run (Cert.GwFfn2ReferenceIdeal.defs (F := Ideal)) (onTc (τ := Cert.GwFfn2ReferenceIdeal.τ) (Cert.GwFfn2ReferenceIdeal.main (F := Ideal))) ⟨m', fun _ => 0, g'⟩ (fun r => ∀ c : Dev Cert.GwFfn2ReferenceIdeal.nD,
          r.2.mem ((c.tc : Thread Cert.GwFfn2ReferenceIdeal.nD Cert.GwFfn2ReferenceIdeal.τ).loc Cert.GwFfn2ReferenceIdeal.main_v2) = v0 c
          ∧ r.2.mem ((c.tc : Thread Cert.GwFfn2ReferenceIdeal.nD Cert.GwFfn2ReferenceIdeal.τ).loc Cert.GwFfn2ReferenceIdeal.main_arg0) = m' ((c.tc : Thread Cert.GwFfn2ReferenceIdeal.nD Cert.GwFfn2ReferenceIdeal.τ).loc Cert.GwFfn2ReferenceIdeal.main_arg0)
          ∧ r.2.mem ((c.tc : Thread Cert.GwFfn2ReferenceIdeal.nD Cert.GwFfn2ReferenceIdeal.τ).loc Cert.GwFfn2ReferenceIdeal.main_arg1) = m' ((c.tc : Thread Cert.GwFfn2ReferenceIdeal.nD Cert.GwFfn2ReferenceIdeal.τ).loc Cert.GwFfn2ReferenceIdeal.main_arg1))

def preserves_DFfn1_DFfn1Ideal : Prop :=
  True

def algebraic_DFfn1Ideal_DFfn1ReferenceIdeal [hDFfn1Ideal : Cert.DFfn1Ideal.Facts] [hDFfn1ReferenceIdeal : Cert.DFfn1ReferenceIdeal.Facts] : Prop :=
  ∀ (m : (ℓ : Loc Cert.DFfn1Ideal.nD Cert.DFfn1Ideal.τ Cert.DFfn1Ideal.sig) → Buf (Elt Ideal) ℓ) (g : Dev Cert.DFfn1Ideal.nD → PrngReg)
    (m' : (ℓ : Loc Cert.DFfn1ReferenceIdeal.nD Cert.DFfn1ReferenceIdeal.τ Cert.DFfn1ReferenceIdeal.sig) → Buf (Elt Ideal) ℓ) (g' : Dev Cert.DFfn1ReferenceIdeal.nD → PrngReg), Pre_DFfn1Ideal m →
    (∀ c : Dev Cert.DFfn1Ideal.nD,
      m' ((c.tc : Thread Cert.DFfn1ReferenceIdeal.nD Cert.DFfn1ReferenceIdeal.τ).loc Cert.DFfn1ReferenceIdeal.main_arg0) = m ((c.tc : Thread Cert.DFfn1Ideal.nD Cert.DFfn1Ideal.τ).loc Cert.DFfn1Ideal.main_arg0)
      ∧ m' ((c.tc : Thread Cert.DFfn1ReferenceIdeal.nD Cert.DFfn1ReferenceIdeal.τ).loc Cert.DFfn1ReferenceIdeal.main_arg1) = m ((c.tc : Thread Cert.DFfn1Ideal.nD Cert.DFfn1Ideal.τ).loc Cert.DFfn1Ideal.main_arg1)) →
    ∃ (v0 : (c : Dev Cert.DFfn1Ideal.nD) → Buf (Elt Ideal) ((c.tc : Thread Cert.DFfn1Ideal.nD Cert.DFfn1Ideal.τ).loc Cert.DFfn1Ideal.main_v0)),
      θ_run (Cert.DFfn1Ideal.defs (F := Ideal)) (onTc (τ := Cert.DFfn1Ideal.τ) (Cert.DFfn1Ideal.main (F := Ideal))) ⟨m, fun _ => 0, g⟩ (fun r => ∀ c : Dev Cert.DFfn1Ideal.nD,
          r.2.mem ((c.tc : Thread Cert.DFfn1Ideal.nD Cert.DFfn1Ideal.τ).loc Cert.DFfn1Ideal.main_v0) = v0 c
          ∧ r.2.mem ((c.tc : Thread Cert.DFfn1Ideal.nD Cert.DFfn1Ideal.τ).loc Cert.DFfn1Ideal.main_arg0) = m ((c.tc : Thread Cert.DFfn1Ideal.nD Cert.DFfn1Ideal.τ).loc Cert.DFfn1Ideal.main_arg0)
          ∧ r.2.mem ((c.tc : Thread Cert.DFfn1Ideal.nD Cert.DFfn1Ideal.τ).loc Cert.DFfn1Ideal.main_arg1) = m ((c.tc : Thread Cert.DFfn1Ideal.nD Cert.DFfn1Ideal.τ).loc Cert.DFfn1Ideal.main_arg1))
      ∧ θ_run (Cert.DFfn1ReferenceIdeal.defs (F := Ideal)) (onTc (τ := Cert.DFfn1ReferenceIdeal.τ) (Cert.DFfn1ReferenceIdeal.main (F := Ideal))) ⟨m', fun _ => 0, g'⟩ (fun r => ∀ c : Dev Cert.DFfn1ReferenceIdeal.nD,
          r.2.mem ((c.tc : Thread Cert.DFfn1ReferenceIdeal.nD Cert.DFfn1ReferenceIdeal.τ).loc Cert.DFfn1ReferenceIdeal.main_v3) = v0 c
          ∧ r.2.mem ((c.tc : Thread Cert.DFfn1ReferenceIdeal.nD Cert.DFfn1ReferenceIdeal.τ).loc Cert.DFfn1ReferenceIdeal.main_arg0) = m' ((c.tc : Thread Cert.DFfn1ReferenceIdeal.nD Cert.DFfn1ReferenceIdeal.τ).loc Cert.DFfn1ReferenceIdeal.main_arg0)
          ∧ r.2.mem ((c.tc : Thread Cert.DFfn1ReferenceIdeal.nD Cert.DFfn1ReferenceIdeal.τ).loc Cert.DFfn1ReferenceIdeal.main_arg1) = m' ((c.tc : Thread Cert.DFfn1ReferenceIdeal.nD Cert.DFfn1ReferenceIdeal.τ).loc Cert.DFfn1ReferenceIdeal.main_arg1))

def preserves_GwFfn1_GwFfn1Ideal : Prop :=
  True

def algebraic_GwFfn1Ideal_GwFfn1ReferenceIdeal [hGwFfn1Ideal : Cert.GwFfn1Ideal.Facts] [hGwFfn1ReferenceIdeal : Cert.GwFfn1ReferenceIdeal.Facts] : Prop :=
  ∀ (m : (ℓ : Loc Cert.GwFfn1Ideal.nD Cert.GwFfn1Ideal.τ Cert.GwFfn1Ideal.sig) → Buf (Elt Ideal) ℓ) (g : Dev Cert.GwFfn1Ideal.nD → PrngReg)
    (m' : (ℓ : Loc Cert.GwFfn1ReferenceIdeal.nD Cert.GwFfn1ReferenceIdeal.τ Cert.GwFfn1ReferenceIdeal.sig) → Buf (Elt Ideal) ℓ) (g' : Dev Cert.GwFfn1ReferenceIdeal.nD → PrngReg), Pre_GwFfn1Ideal m →
    (∀ c : Dev Cert.GwFfn1Ideal.nD,
      m' ((c.tc : Thread Cert.GwFfn1ReferenceIdeal.nD Cert.GwFfn1ReferenceIdeal.τ).loc Cert.GwFfn1ReferenceIdeal.main_arg0) = m ((c.tc : Thread Cert.GwFfn1Ideal.nD Cert.GwFfn1Ideal.τ).loc Cert.GwFfn1Ideal.main_arg0)
      ∧ m' ((c.tc : Thread Cert.GwFfn1ReferenceIdeal.nD Cert.GwFfn1ReferenceIdeal.τ).loc Cert.GwFfn1ReferenceIdeal.main_arg1) = m ((c.tc : Thread Cert.GwFfn1Ideal.nD Cert.GwFfn1Ideal.τ).loc Cert.GwFfn1Ideal.main_arg1)) →
    ∃ (v0 : (c : Dev Cert.GwFfn1Ideal.nD) → Buf (Elt Ideal) ((c.tc : Thread Cert.GwFfn1Ideal.nD Cert.GwFfn1Ideal.τ).loc Cert.GwFfn1Ideal.main_v0)),
      θ_run (Cert.GwFfn1Ideal.defs (F := Ideal)) (onTc (τ := Cert.GwFfn1Ideal.τ) (Cert.GwFfn1Ideal.main (F := Ideal))) ⟨m, fun _ => 0, g⟩ (fun r => ∀ c : Dev Cert.GwFfn1Ideal.nD,
          r.2.mem ((c.tc : Thread Cert.GwFfn1Ideal.nD Cert.GwFfn1Ideal.τ).loc Cert.GwFfn1Ideal.main_v0) = v0 c
          ∧ r.2.mem ((c.tc : Thread Cert.GwFfn1Ideal.nD Cert.GwFfn1Ideal.τ).loc Cert.GwFfn1Ideal.main_arg0) = m ((c.tc : Thread Cert.GwFfn1Ideal.nD Cert.GwFfn1Ideal.τ).loc Cert.GwFfn1Ideal.main_arg0)
          ∧ r.2.mem ((c.tc : Thread Cert.GwFfn1Ideal.nD Cert.GwFfn1Ideal.τ).loc Cert.GwFfn1Ideal.main_arg1) = m ((c.tc : Thread Cert.GwFfn1Ideal.nD Cert.GwFfn1Ideal.τ).loc Cert.GwFfn1Ideal.main_arg1))
      ∧ θ_run (Cert.GwFfn1ReferenceIdeal.defs (F := Ideal)) (onTc (τ := Cert.GwFfn1ReferenceIdeal.τ) (Cert.GwFfn1ReferenceIdeal.main (F := Ideal))) ⟨m', fun _ => 0, g'⟩ (fun r => ∀ c : Dev Cert.GwFfn1ReferenceIdeal.nD,
          r.2.mem ((c.tc : Thread Cert.GwFfn1ReferenceIdeal.nD Cert.GwFfn1ReferenceIdeal.τ).loc Cert.GwFfn1ReferenceIdeal.main_v4) = v0 c
          ∧ r.2.mem ((c.tc : Thread Cert.GwFfn1ReferenceIdeal.nD Cert.GwFfn1ReferenceIdeal.τ).loc Cert.GwFfn1ReferenceIdeal.main_arg0) = m' ((c.tc : Thread Cert.GwFfn1ReferenceIdeal.nD Cert.GwFfn1ReferenceIdeal.τ).loc Cert.GwFfn1ReferenceIdeal.main_arg0)
          ∧ r.2.mem ((c.tc : Thread Cert.GwFfn1ReferenceIdeal.nD Cert.GwFfn1ReferenceIdeal.τ).loc Cert.GwFfn1ReferenceIdeal.main_arg1) = m' ((c.tc : Thread Cert.GwFfn1ReferenceIdeal.nD Cert.GwFfn1ReferenceIdeal.τ).loc Cert.GwFfn1ReferenceIdeal.main_arg1))

def preserves_DOut_DOutIdeal : Prop :=
  True

def algebraic_DOutIdeal_DOutReferenceIdeal [hDOutIdeal : Cert.DOutIdeal.Facts] [hDOutReferenceIdeal : Cert.DOutReferenceIdeal.Facts] : Prop :=
  ∀ (m : (ℓ : Loc Cert.DOutIdeal.nD Cert.DOutIdeal.τ Cert.DOutIdeal.sig) → Buf (Elt Ideal) ℓ) (g : Dev Cert.DOutIdeal.nD → PrngReg)
    (m' : (ℓ : Loc Cert.DOutReferenceIdeal.nD Cert.DOutReferenceIdeal.τ Cert.DOutReferenceIdeal.sig) → Buf (Elt Ideal) ℓ) (g' : Dev Cert.DOutReferenceIdeal.nD → PrngReg), Pre_DOutIdeal m →
    (∀ c : Dev Cert.DOutIdeal.nD,
      m' ((c.tc : Thread Cert.DOutReferenceIdeal.nD Cert.DOutReferenceIdeal.τ).loc Cert.DOutReferenceIdeal.main_arg0) = m ((c.tc : Thread Cert.DOutIdeal.nD Cert.DOutIdeal.τ).loc Cert.DOutIdeal.main_arg0)
      ∧ m' ((c.tc : Thread Cert.DOutReferenceIdeal.nD Cert.DOutReferenceIdeal.τ).loc Cert.DOutReferenceIdeal.main_arg1) = m ((c.tc : Thread Cert.DOutIdeal.nD Cert.DOutIdeal.τ).loc Cert.DOutIdeal.main_arg1)) →
    ∃ (v0 : (c : Dev Cert.DOutIdeal.nD) → Buf (Elt Ideal) ((c.tc : Thread Cert.DOutIdeal.nD Cert.DOutIdeal.τ).loc Cert.DOutIdeal.main_v0)),
      θ_run (Cert.DOutIdeal.defs (F := Ideal)) (onTc (τ := Cert.DOutIdeal.τ) (Cert.DOutIdeal.main (F := Ideal))) ⟨m, fun _ => 0, g⟩ (fun r => ∀ c : Dev Cert.DOutIdeal.nD,
          r.2.mem ((c.tc : Thread Cert.DOutIdeal.nD Cert.DOutIdeal.τ).loc Cert.DOutIdeal.main_v0) = v0 c
          ∧ r.2.mem ((c.tc : Thread Cert.DOutIdeal.nD Cert.DOutIdeal.τ).loc Cert.DOutIdeal.main_arg0) = m ((c.tc : Thread Cert.DOutIdeal.nD Cert.DOutIdeal.τ).loc Cert.DOutIdeal.main_arg0)
          ∧ r.2.mem ((c.tc : Thread Cert.DOutIdeal.nD Cert.DOutIdeal.τ).loc Cert.DOutIdeal.main_arg1) = m ((c.tc : Thread Cert.DOutIdeal.nD Cert.DOutIdeal.τ).loc Cert.DOutIdeal.main_arg1))
      ∧ θ_run (Cert.DOutReferenceIdeal.defs (F := Ideal)) (onTc (τ := Cert.DOutReferenceIdeal.τ) (Cert.DOutReferenceIdeal.main (F := Ideal))) ⟨m', fun _ => 0, g'⟩ (fun r => ∀ c : Dev Cert.DOutReferenceIdeal.nD,
          r.2.mem ((c.tc : Thread Cert.DOutReferenceIdeal.nD Cert.DOutReferenceIdeal.τ).loc Cert.DOutReferenceIdeal.main_v1) = v0 c
          ∧ r.2.mem ((c.tc : Thread Cert.DOutReferenceIdeal.nD Cert.DOutReferenceIdeal.τ).loc Cert.DOutReferenceIdeal.main_arg0) = m' ((c.tc : Thread Cert.DOutReferenceIdeal.nD Cert.DOutReferenceIdeal.τ).loc Cert.DOutReferenceIdeal.main_arg0)
          ∧ r.2.mem ((c.tc : Thread Cert.DOutReferenceIdeal.nD Cert.DOutReferenceIdeal.τ).loc Cert.DOutReferenceIdeal.main_arg1) = m' ((c.tc : Thread Cert.DOutReferenceIdeal.nD Cert.DOutReferenceIdeal.τ).loc Cert.DOutReferenceIdeal.main_arg1))

def preserves_GwOut_GwOutIdeal : Prop :=
  True

def algebraic_GwOutIdeal_GwOutReferenceIdeal [hGwOutIdeal : Cert.GwOutIdeal.Facts] [hGwOutReferenceIdeal : Cert.GwOutReferenceIdeal.Facts] : Prop :=
  ∀ (m : (ℓ : Loc Cert.GwOutIdeal.nD Cert.GwOutIdeal.τ Cert.GwOutIdeal.sig) → Buf (Elt Ideal) ℓ) (g : Dev Cert.GwOutIdeal.nD → PrngReg)
    (m' : (ℓ : Loc Cert.GwOutReferenceIdeal.nD Cert.GwOutReferenceIdeal.τ Cert.GwOutReferenceIdeal.sig) → Buf (Elt Ideal) ℓ) (g' : Dev Cert.GwOutReferenceIdeal.nD → PrngReg), Pre_GwOutIdeal m →
    (∀ c : Dev Cert.GwOutIdeal.nD,
      m' ((c.tc : Thread Cert.GwOutReferenceIdeal.nD Cert.GwOutReferenceIdeal.τ).loc Cert.GwOutReferenceIdeal.main_arg0) = m ((c.tc : Thread Cert.GwOutIdeal.nD Cert.GwOutIdeal.τ).loc Cert.GwOutIdeal.main_arg0)
      ∧ m' ((c.tc : Thread Cert.GwOutReferenceIdeal.nD Cert.GwOutReferenceIdeal.τ).loc Cert.GwOutReferenceIdeal.main_arg1) = m ((c.tc : Thread Cert.GwOutIdeal.nD Cert.GwOutIdeal.τ).loc Cert.GwOutIdeal.main_arg1)) →
    ∃ (v0 : (c : Dev Cert.GwOutIdeal.nD) → Buf (Elt Ideal) ((c.tc : Thread Cert.GwOutIdeal.nD Cert.GwOutIdeal.τ).loc Cert.GwOutIdeal.main_v0)),
      θ_run (Cert.GwOutIdeal.defs (F := Ideal)) (onTc (τ := Cert.GwOutIdeal.τ) (Cert.GwOutIdeal.main (F := Ideal))) ⟨m, fun _ => 0, g⟩ (fun r => ∀ c : Dev Cert.GwOutIdeal.nD,
          r.2.mem ((c.tc : Thread Cert.GwOutIdeal.nD Cert.GwOutIdeal.τ).loc Cert.GwOutIdeal.main_v0) = v0 c
          ∧ r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
          ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ θ_run (Cert.GwOutReferenceIdeal.defs (F := Ideal)) (onTc (τ := Cert.GwOutReferenceIdeal.τ) (Cert.GwOutReferenceIdeal.main (F := Ideal))) ⟨m', fun _ => 0, g'⟩ (fun r => ∀ c : Dev Cert.GwOutReferenceIdeal.nD,
          r.2.mem ((c.tc : Thread Cert.GwOutReferenceIdeal.nD Cert.GwOutReferenceIdeal.τ).loc Cert.GwOutReferenceIdeal.main_v2) = v0 c
          ∧ r.2.mem ((c.tc : Thread Cert.GwOutReferenceIdeal.nD Cert.GwOutReferenceIdeal.τ).loc Cert.GwOutReferenceIdeal.main_arg0) = m' ((c.tc : Thread Cert.GwOutReferenceIdeal.nD Cert.GwOutReferenceIdeal.τ).loc Cert.GwOutReferenceIdeal.main_arg0)
          ∧ r.2.mem ((c.tc : Thread Cert.GwOutReferenceIdeal.nD Cert.GwOutReferenceIdeal.τ).loc Cert.GwOutReferenceIdeal.main_arg1) = m' ((c.tc : Thread Cert.GwOutReferenceIdeal.nD Cert.GwOutReferenceIdeal.τ).loc Cert.GwOutReferenceIdeal.main_arg1))

def preserves_DIn_DInIdeal : Prop :=
  True

def algebraic_DInIdeal_DInReferenceIdeal [hDInIdeal : Cert.DInIdeal.Facts] [hDInReferenceIdeal : Cert.DInReferenceIdeal.Facts] : Prop :=
  ∀ (m : (ℓ : Loc Cert.DInIdeal.nD Cert.DInIdeal.τ Cert.DInIdeal.sig) → Buf (Elt Ideal) ℓ) (g : Dev Cert.DInIdeal.nD → PrngReg)
    (m' : (ℓ : Loc Cert.DInReferenceIdeal.nD Cert.DInReferenceIdeal.τ Cert.DInReferenceIdeal.sig) → Buf (Elt Ideal) ℓ) (g' : Dev Cert.DInReferenceIdeal.nD → PrngReg), Pre_DInIdeal m →
    (∀ c : Dev Cert.DInIdeal.nD,
      m' ((c.tc : Thread Cert.DInReferenceIdeal.nD Cert.DInReferenceIdeal.τ).loc Cert.DInReferenceIdeal.main_arg0) = m ((c.tc : Thread Cert.DInIdeal.nD Cert.DInIdeal.τ).loc Cert.DInIdeal.main_arg0)
      ∧ m' ((c.tc : Thread Cert.DInReferenceIdeal.nD Cert.DInReferenceIdeal.τ).loc Cert.DInReferenceIdeal.main_arg1) = m ((c.tc : Thread Cert.DInIdeal.nD Cert.DInIdeal.τ).loc Cert.DInIdeal.main_arg1)) →
    ∃ (v0 : (c : Dev Cert.DInIdeal.nD) → Buf (Elt Ideal) ((c.tc : Thread Cert.DInIdeal.nD Cert.DInIdeal.τ).loc Cert.DInIdeal.main_v0)),
      θ_run (Cert.DInIdeal.defs (F := Ideal)) (onTc (τ := Cert.DInIdeal.τ) (Cert.DInIdeal.main (F := Ideal))) ⟨m, fun _ => 0, g⟩ (fun r => ∀ c : Dev Cert.DInIdeal.nD,
          r.2.mem ((c.tc : Thread Cert.DInIdeal.nD Cert.DInIdeal.τ).loc Cert.DInIdeal.main_v0) = v0 c
          ∧ r.2.mem ((c.tc : Thread Cert.DInIdeal.nD Cert.DInIdeal.τ).loc Cert.DInIdeal.main_arg0) = m ((c.tc : Thread Cert.DInIdeal.nD Cert.DInIdeal.τ).loc Cert.DInIdeal.main_arg0)
          ∧ r.2.mem ((c.tc : Thread Cert.DInIdeal.nD Cert.DInIdeal.τ).loc Cert.DInIdeal.main_arg1) = m ((c.tc : Thread Cert.DInIdeal.nD Cert.DInIdeal.τ).loc Cert.DInIdeal.main_arg1))
      ∧ θ_run (Cert.DInReferenceIdeal.defs (F := Ideal)) (onTc (τ := Cert.DInReferenceIdeal.τ) (Cert.DInReferenceIdeal.main (F := Ideal))) ⟨m', fun _ => 0, g'⟩ (fun r => ∀ c : Dev Cert.DInReferenceIdeal.nD,
          r.2.mem ((c.tc : Thread Cert.DInReferenceIdeal.nD Cert.DInReferenceIdeal.τ).loc Cert.DInReferenceIdeal.main_v1) = v0 c
          ∧ r.2.mem ((c.tc : Thread Cert.DInReferenceIdeal.nD Cert.DInReferenceIdeal.τ).loc Cert.DInReferenceIdeal.main_arg0) = m' ((c.tc : Thread Cert.DInReferenceIdeal.nD Cert.DInReferenceIdeal.τ).loc Cert.DInReferenceIdeal.main_arg0)
          ∧ r.2.mem ((c.tc : Thread Cert.DInReferenceIdeal.nD Cert.DInReferenceIdeal.τ).loc Cert.DInReferenceIdeal.main_arg1) = m' ((c.tc : Thread Cert.DInReferenceIdeal.nD Cert.DInReferenceIdeal.τ).loc Cert.DInReferenceIdeal.main_arg1))

def preserves_GwIn_GwInIdeal : Prop :=
  True

def algebraic_GwInIdeal_GwInReferenceIdeal [hGwInIdeal : Cert.GwInIdeal.Facts] [hGwInReferenceIdeal : Cert.GwInReferenceIdeal.Facts] : Prop :=
  ∀ (m : (ℓ : Loc Cert.GwInIdeal.nD Cert.GwInIdeal.τ Cert.GwInIdeal.sig) → Buf (Elt Ideal) ℓ) (g : Dev Cert.GwInIdeal.nD → PrngReg)
    (m' : (ℓ : Loc Cert.GwInReferenceIdeal.nD Cert.GwInReferenceIdeal.τ Cert.GwInReferenceIdeal.sig) → Buf (Elt Ideal) ℓ) (g' : Dev Cert.GwInReferenceIdeal.nD → PrngReg), Pre_GwInIdeal m →
    (∀ c : Dev Cert.GwInIdeal.nD,
      m' ((c.tc : Thread Cert.GwInReferenceIdeal.nD Cert.GwInReferenceIdeal.τ).loc Cert.GwInReferenceIdeal.main_arg0) = m ((c.tc : Thread Cert.GwInIdeal.nD Cert.GwInIdeal.τ).loc Cert.GwInIdeal.main_arg0)
      ∧ m' ((c.tc : Thread Cert.GwInReferenceIdeal.nD Cert.GwInReferenceIdeal.τ).loc Cert.GwInReferenceIdeal.main_arg1) = m ((c.tc : Thread Cert.GwInIdeal.nD Cert.GwInIdeal.τ).loc Cert.GwInIdeal.main_arg1)) →
    ∃ (v0 : (c : Dev Cert.GwInIdeal.nD) → Buf (Elt Ideal) ((c.tc : Thread Cert.GwInIdeal.nD Cert.GwInIdeal.τ).loc Cert.GwInIdeal.main_v0)),
      θ_run (Cert.GwInIdeal.defs (F := Ideal)) (onTc (τ := Cert.GwInIdeal.τ) (Cert.GwInIdeal.main (F := Ideal))) ⟨m, fun _ => 0, g⟩ (fun r => ∀ c : Dev Cert.GwInIdeal.nD,
          r.2.mem ((c.tc : Thread Cert.GwInIdeal.nD Cert.GwInIdeal.τ).loc Cert.GwInIdeal.main_v0) = v0 c
          ∧ r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
          ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ θ_run (Cert.GwInReferenceIdeal.defs (F := Ideal)) (onTc (τ := Cert.GwInReferenceIdeal.τ) (Cert.GwInReferenceIdeal.main (F := Ideal))) ⟨m', fun _ => 0, g'⟩ (fun r => ∀ c : Dev Cert.GwInReferenceIdeal.nD,
          r.2.mem ((c.tc : Thread Cert.GwInReferenceIdeal.nD Cert.GwInReferenceIdeal.τ).loc Cert.GwInReferenceIdeal.main_v2) = v0 c
          ∧ r.2.mem ((c.tc : Thread Cert.GwInReferenceIdeal.nD Cert.GwInReferenceIdeal.τ).loc Cert.GwInReferenceIdeal.main_arg0) = m' ((c.tc : Thread Cert.GwInReferenceIdeal.nD Cert.GwInReferenceIdeal.τ).loc Cert.GwInReferenceIdeal.main_arg0)
          ∧ r.2.mem ((c.tc : Thread Cert.GwInReferenceIdeal.nD Cert.GwInReferenceIdeal.τ).loc Cert.GwInReferenceIdeal.main_arg1) = m' ((c.tc : Thread Cert.GwInReferenceIdeal.nD Cert.GwInReferenceIdeal.τ).loc Cert.GwInReferenceIdeal.main_arg1))

def preserves_Mod_ModIdeal : Prop :=
  True

def algebraic_ModIdeal_ModReferenceIdeal [hModIdeal : Cert.ModIdeal.Facts] [hModReferenceIdeal : Cert.ModReferenceIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModIdeal m →
    (∀ c : Dev Cert.ModIdeal.nD,
      m' ((c.tc : Thread Cert.ModReferenceIdeal.nD Cert.ModReferenceIdeal.τ).loc Cert.ModReferenceIdeal.main_arg0) = m ((c.tc : Thread Cert.ModIdeal.nD Cert.ModIdeal.τ).loc Cert.ModIdeal.main_arg0)
      ∧ m' ((c.tc : Thread Cert.ModReferenceIdeal.nD Cert.ModReferenceIdeal.τ).loc Cert.ModReferenceIdeal.main_arg1) = m ((c.tc : Thread Cert.ModIdeal.nD Cert.ModIdeal.τ).loc Cert.ModIdeal.main_arg1)
      ∧ m' ((c.tc : Thread Cert.ModReferenceIdeal.nD Cert.ModReferenceIdeal.τ).loc Cert.ModReferenceIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v0)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v0) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v2) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2))

def preserves_GwAda_GwAdaIdeal : Prop :=
  True

def algebraic_GwAdaIdeal_GwAdaReferenceIdeal [hGwAdaIdeal : Cert.GwAdaIdeal.Facts] [hGwAdaReferenceIdeal : Cert.GwAdaReferenceIdeal.Facts] : Prop :=
  ∀ (m : (ℓ : Loc Cert.GwAdaIdeal.nD Cert.GwAdaIdeal.τ Cert.GwAdaIdeal.sig) → Buf (Elt Ideal) ℓ) (g : Dev Cert.GwAdaIdeal.nD → PrngReg)
    (m' : (ℓ : Loc Cert.GwAdaReferenceIdeal.nD Cert.GwAdaReferenceIdeal.τ Cert.GwAdaReferenceIdeal.sig) → Buf (Elt Ideal) ℓ) (g' : Dev Cert.GwAdaReferenceIdeal.nD → PrngReg), Pre_GwAdaIdeal m →
    (∀ c : Dev Cert.GwAdaIdeal.nD,
      m' ((c.tc : Thread Cert.GwAdaReferenceIdeal.nD Cert.GwAdaReferenceIdeal.τ).loc Cert.GwAdaReferenceIdeal.main_arg0) = m ((c.tc : Thread Cert.GwAdaIdeal.nD Cert.GwAdaIdeal.τ).loc Cert.GwAdaIdeal.main_arg0)
      ∧ m' ((c.tc : Thread Cert.GwAdaReferenceIdeal.nD Cert.GwAdaReferenceIdeal.τ).loc Cert.GwAdaReferenceIdeal.main_arg1) = m ((c.tc : Thread Cert.GwAdaIdeal.nD Cert.GwAdaIdeal.τ).loc Cert.GwAdaIdeal.main_arg1)) →
    ∃ (v0 : (c : Dev Cert.GwAdaIdeal.nD) → Buf (Elt Ideal) ((c.tc : Thread Cert.GwAdaIdeal.nD Cert.GwAdaIdeal.τ).loc Cert.GwAdaIdeal.main_v0)),
      θ_run (Cert.GwAdaIdeal.defs (F := Ideal)) (onTc (τ := Cert.GwAdaIdeal.τ) (Cert.GwAdaIdeal.main (F := Ideal))) ⟨m, fun _ => 0, g⟩ (fun r => ∀ c : Dev Cert.GwAdaIdeal.nD,
          r.2.mem ((c.tc : Thread Cert.GwAdaIdeal.nD Cert.GwAdaIdeal.τ).loc Cert.GwAdaIdeal.main_v0) = v0 c
          ∧ r.2.mem ((c.tc : Thread Cert.GwAdaIdeal.nD Cert.GwAdaIdeal.τ).loc Cert.GwAdaIdeal.main_arg0) = m ((c.tc : Thread Cert.GwAdaIdeal.nD Cert.GwAdaIdeal.τ).loc Cert.GwAdaIdeal.main_arg0)
          ∧ r.2.mem ((c.tc : Thread Cert.GwAdaIdeal.nD Cert.GwAdaIdeal.τ).loc Cert.GwAdaIdeal.main_arg1) = m ((c.tc : Thread Cert.GwAdaIdeal.nD Cert.GwAdaIdeal.τ).loc Cert.GwAdaIdeal.main_arg1))
      ∧ θ_run (Cert.GwAdaReferenceIdeal.defs (F := Ideal)) (onTc (τ := Cert.GwAdaReferenceIdeal.τ) (Cert.GwAdaReferenceIdeal.main (F := Ideal))) ⟨m', fun _ => 0, g'⟩ (fun r => ∀ c : Dev Cert.GwAdaReferenceIdeal.nD,
          r.2.mem ((c.tc : Thread Cert.GwAdaReferenceIdeal.nD Cert.GwAdaReferenceIdeal.τ).loc Cert.GwAdaReferenceIdeal.main_v1) = v0 c
          ∧ r.2.mem ((c.tc : Thread Cert.GwAdaReferenceIdeal.nD Cert.GwAdaReferenceIdeal.τ).loc Cert.GwAdaReferenceIdeal.main_arg0) = m' ((c.tc : Thread Cert.GwAdaReferenceIdeal.nD Cert.GwAdaReferenceIdeal.τ).loc Cert.GwAdaReferenceIdeal.main_arg0)
          ∧ r.2.mem ((c.tc : Thread Cert.GwAdaReferenceIdeal.nD Cert.GwAdaReferenceIdeal.τ).loc Cert.GwAdaReferenceIdeal.main_arg1) = m' ((c.tc : Thread Cert.GwAdaReferenceIdeal.nD Cert.GwAdaReferenceIdeal.τ).loc Cert.GwAdaReferenceIdeal.main_arg1))

def preserves_First_FirstIdeal : Prop :=
  True

def algebraic_FirstIdeal_FirstReferenceIdeal [hFirstIdeal : Cert.FirstIdeal.Facts] [hFirstReferenceIdeal : Cert.FirstReferenceIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)
      ∧ m' ((c.tc : Thread Cert.FirstReferenceIdeal.nD Cert.FirstReferenceIdeal.τ).loc Cert.FirstReferenceIdeal.main_arg3) = m ((c.tc : Thread Cert.FirstIdeal.nD Cert.FirstIdeal.τ).loc Cert.FirstIdeal.main_arg3)) →
    ∃ (v0 : (c : Dev Cert.FirstIdeal.nD) → Buf (Elt Ideal) ((c.tc : Thread Cert.FirstIdeal.nD Cert.FirstIdeal.τ).loc Cert.FirstIdeal.main_v0)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v0) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v18) = v0 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3))

def preserves_Second_SecondIdeal : Prop :=
  True

def algebraic_SecondIdeal_SecondReferenceIdeal [hSecondIdeal : Cert.SecondIdeal.Facts] [hSecondReferenceIdeal : Cert.SecondReferenceIdeal.Facts] : Prop :=
  ∀ (m : (ℓ : Loc Cert.SecondIdeal.nD Cert.SecondIdeal.τ Cert.SecondIdeal.sig) → Buf (Elt Ideal) ℓ) (g : Dev Cert.SecondIdeal.nD → PrngReg)
    (m' : (ℓ : Loc Cert.SecondReferenceIdeal.nD Cert.SecondReferenceIdeal.τ Cert.SecondReferenceIdeal.sig) → Buf (Elt Ideal) ℓ) (g' : Dev Cert.SecondReferenceIdeal.nD → PrngReg), Pre_SecondIdeal m →
    (∀ c : Dev Cert.SecondIdeal.nD,
      m' ((c.tc : Thread Cert.SecondReferenceIdeal.nD Cert.SecondReferenceIdeal.τ).loc Cert.SecondReferenceIdeal.main_arg0) = m ((c.tc : Thread Cert.SecondIdeal.nD Cert.SecondIdeal.τ).loc Cert.SecondIdeal.main_arg0)
      ∧ m' ((c.tc : Thread Cert.SecondReferenceIdeal.nD Cert.SecondReferenceIdeal.τ).loc Cert.SecondReferenceIdeal.main_arg1) = m ((c.tc : Thread Cert.SecondIdeal.nD Cert.SecondIdeal.τ).loc Cert.SecondIdeal.main_arg1)
      ∧ m' ((c.tc : Thread Cert.SecondReferenceIdeal.nD Cert.SecondReferenceIdeal.τ).loc Cert.SecondReferenceIdeal.main_arg2) = m ((c.tc : Thread Cert.SecondIdeal.nD Cert.SecondIdeal.τ).loc Cert.SecondIdeal.main_arg2)
      ∧ m' ((c.tc : Thread Cert.SecondReferenceIdeal.nD Cert.SecondReferenceIdeal.τ).loc Cert.SecondReferenceIdeal.main_arg3) = m ((c.tc : Thread Cert.SecondIdeal.nD Cert.SecondIdeal.τ).loc Cert.SecondIdeal.main_arg3)
      ∧ m' ((c.tc : Thread Cert.SecondReferenceIdeal.nD Cert.SecondReferenceIdeal.τ).loc Cert.SecondReferenceIdeal.main_arg4) = m ((c.tc : Thread Cert.SecondIdeal.nD Cert.SecondIdeal.τ).loc Cert.SecondIdeal.main_arg4)
      ∧ m' ((c.tc : Thread Cert.SecondReferenceIdeal.nD Cert.SecondReferenceIdeal.τ).loc Cert.SecondReferenceIdeal.main_arg5) = m ((c.tc : Thread Cert.SecondIdeal.nD Cert.SecondIdeal.τ).loc Cert.SecondIdeal.main_arg5)) →
    ∃ (v0 : (c : Dev Cert.SecondIdeal.nD) → Buf (Elt Ideal) ((c.tc : Thread Cert.SecondIdeal.nD Cert.SecondIdeal.τ).loc Cert.SecondIdeal.main_v0_0)) (v1 : (c : Dev Cert.SecondIdeal.nD) → Buf (Elt Ideal) ((c.tc : Thread Cert.SecondIdeal.nD Cert.SecondIdeal.τ).loc Cert.SecondIdeal.main_v0_1)),
      θ_run (Cert.SecondIdeal.defs (F := Ideal)) (onTc (τ := Cert.SecondIdeal.τ) (Cert.SecondIdeal.main (F := Ideal))) ⟨m, fun _ => 0, g⟩ (fun r => ∀ c : Dev Cert.SecondIdeal.nD,
          r.2.mem ((c.tc : Thread Cert.SecondIdeal.nD Cert.SecondIdeal.τ).loc Cert.SecondIdeal.main_v0_0) = v0 c
          ∧ r.2.mem ((c.tc : Thread Cert.SecondIdeal.nD Cert.SecondIdeal.τ).loc Cert.SecondIdeal.main_v0_1) = v1 c
          ∧ r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
          ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
          ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
          ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
          ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
          ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5))
      ∧ θ_run (Cert.SecondReferenceIdeal.defs (F := Ideal)) (onTc (τ := Cert.SecondReferenceIdeal.τ) (Cert.SecondReferenceIdeal.main (F := Ideal))) ⟨m', fun _ => 0, g'⟩ (fun r => ∀ c : Dev Cert.SecondReferenceIdeal.nD,
          r.2.mem ((c.tc : Thread Cert.SecondReferenceIdeal.nD Cert.SecondReferenceIdeal.τ).loc Cert.SecondReferenceIdeal.main_v2) = v0 c
          ∧ r.2.mem ((c.tc : Thread Cert.SecondReferenceIdeal.nD Cert.SecondReferenceIdeal.τ).loc Cert.SecondReferenceIdeal.main_v21) = v1 c
          ∧ r.2.mem ((c.tc : Thread Cert.SecondReferenceIdeal.nD Cert.SecondReferenceIdeal.τ).loc Cert.SecondReferenceIdeal.main_arg0) = m' ((c.tc : Thread Cert.SecondReferenceIdeal.nD Cert.SecondReferenceIdeal.τ).loc Cert.SecondReferenceIdeal.main_arg0)
          ∧ r.2.mem ((c.tc : Thread Cert.SecondReferenceIdeal.nD Cert.SecondReferenceIdeal.τ).loc Cert.SecondReferenceIdeal.main_arg1) = m' ((c.tc : Thread Cert.SecondReferenceIdeal.nD Cert.SecondReferenceIdeal.τ).loc Cert.SecondReferenceIdeal.main_arg1)
          ∧ r.2.mem ((c.tc : Thread Cert.SecondReferenceIdeal.nD Cert.SecondReferenceIdeal.τ).loc Cert.SecondReferenceIdeal.main_arg2) = m' ((c.tc : Thread Cert.SecondReferenceIdeal.nD Cert.SecondReferenceIdeal.τ).loc Cert.SecondReferenceIdeal.main_arg2)
          ∧ r.2.mem ((c.tc : Thread Cert.SecondReferenceIdeal.nD Cert.SecondReferenceIdeal.τ).loc Cert.SecondReferenceIdeal.main_arg3) = m' ((c.tc : Thread Cert.SecondReferenceIdeal.nD Cert.SecondReferenceIdeal.τ).loc Cert.SecondReferenceIdeal.main_arg3)
          ∧ r.2.mem ((c.tc : Thread Cert.SecondReferenceIdeal.nD Cert.SecondReferenceIdeal.τ).loc Cert.SecondReferenceIdeal.main_arg4) = m' ((c.tc : Thread Cert.SecondReferenceIdeal.nD Cert.SecondReferenceIdeal.τ).loc Cert.SecondReferenceIdeal.main_arg4)
          ∧ r.2.mem ((c.tc : Thread Cert.SecondReferenceIdeal.nD Cert.SecondReferenceIdeal.τ).loc Cert.SecondReferenceIdeal.main_arg5) = m' ((c.tc : Thread Cert.SecondReferenceIdeal.nD Cert.SecondReferenceIdeal.τ).loc Cert.SecondReferenceIdeal.main_arg5))

def preserves_SecondBack_SecondBackIdeal : Prop :=
  True

def algebraic_SecondBackIdeal_SecondBackReferenceIdeal [hSecondBackIdeal : Cert.SecondBackIdeal.Facts] [hSecondBackReferenceIdeal : Cert.SecondBackReferenceIdeal.Facts] : Prop :=
  ∀ (m : (ℓ : Loc Cert.SecondBackIdeal.nD Cert.SecondBackIdeal.τ Cert.SecondBackIdeal.sig) → Buf (Elt Ideal) ℓ) (g : Dev Cert.SecondBackIdeal.nD → PrngReg)
    (m' : (ℓ : Loc Cert.SecondBackReferenceIdeal.nD Cert.SecondBackReferenceIdeal.τ Cert.SecondBackReferenceIdeal.sig) → Buf (Elt Ideal) ℓ) (g' : Dev Cert.SecondBackReferenceIdeal.nD → PrngReg), Pre_SecondBackIdeal m →
    (∀ c : Dev Cert.SecondBackIdeal.nD,
      m' ((c.tc : Thread Cert.SecondBackReferenceIdeal.nD Cert.SecondBackReferenceIdeal.τ).loc Cert.SecondBackReferenceIdeal.main_arg0) = m ((c.tc : Thread Cert.SecondBackIdeal.nD Cert.SecondBackIdeal.τ).loc Cert.SecondBackIdeal.main_arg0)
      ∧ m' ((c.tc : Thread Cert.SecondBackReferenceIdeal.nD Cert.SecondBackReferenceIdeal.τ).loc Cert.SecondBackReferenceIdeal.main_arg1) = m ((c.tc : Thread Cert.SecondBackIdeal.nD Cert.SecondBackIdeal.τ).loc Cert.SecondBackIdeal.main_arg1)
      ∧ m' ((c.tc : Thread Cert.SecondBackReferenceIdeal.nD Cert.SecondBackReferenceIdeal.τ).loc Cert.SecondBackReferenceIdeal.main_arg2) = m ((c.tc : Thread Cert.SecondBackIdeal.nD Cert.SecondBackIdeal.τ).loc Cert.SecondBackIdeal.main_arg2)
      ∧ m' ((c.tc : Thread Cert.SecondBackReferenceIdeal.nD Cert.SecondBackReferenceIdeal.τ).loc Cert.SecondBackReferenceIdeal.main_arg3) = m ((c.tc : Thread Cert.SecondBackIdeal.nD Cert.SecondBackIdeal.τ).loc Cert.SecondBackIdeal.main_arg3)
      ∧ m' ((c.tc : Thread Cert.SecondBackReferenceIdeal.nD Cert.SecondBackReferenceIdeal.τ).loc Cert.SecondBackReferenceIdeal.main_arg4) = m ((c.tc : Thread Cert.SecondBackIdeal.nD Cert.SecondBackIdeal.τ).loc Cert.SecondBackIdeal.main_arg4)
      ∧ m' ((c.tc : Thread Cert.SecondBackReferenceIdeal.nD Cert.SecondBackReferenceIdeal.τ).loc Cert.SecondBackReferenceIdeal.main_arg5) = m ((c.tc : Thread Cert.SecondBackIdeal.nD Cert.SecondBackIdeal.τ).loc Cert.SecondBackIdeal.main_arg5)
      ∧ m' ((c.tc : Thread Cert.SecondBackReferenceIdeal.nD Cert.SecondBackReferenceIdeal.τ).loc Cert.SecondBackReferenceIdeal.main_arg6) = m ((c.tc : Thread Cert.SecondBackIdeal.nD Cert.SecondBackIdeal.τ).loc Cert.SecondBackIdeal.main_arg6)
      ∧ m' ((c.tc : Thread Cert.SecondBackReferenceIdeal.nD Cert.SecondBackReferenceIdeal.τ).loc Cert.SecondBackReferenceIdeal.main_arg7) = m ((c.tc : Thread Cert.SecondBackIdeal.nD Cert.SecondBackIdeal.τ).loc Cert.SecondBackIdeal.main_arg7)) →
    ∃ (v0 : (c : Dev Cert.SecondBackIdeal.nD) → Buf (Elt Ideal) ((c.tc : Thread Cert.SecondBackIdeal.nD Cert.SecondBackIdeal.τ).loc Cert.SecondBackIdeal.main_v0_0)) (v1 : (c : Dev Cert.SecondBackIdeal.nD) → Buf (Elt Ideal) ((c.tc : Thread Cert.SecondBackIdeal.nD Cert.SecondBackIdeal.τ).loc Cert.SecondBackIdeal.main_v0_1)) (v2 : (c : Dev Cert.SecondBackIdeal.nD) → Buf (Elt Ideal) ((c.tc : Thread Cert.SecondBackIdeal.nD Cert.SecondBackIdeal.τ).loc Cert.SecondBackIdeal.main_v0_2)) (v3 : (c : Dev Cert.SecondBackIdeal.nD) → Buf (Elt Ideal) ((c.tc : Thread Cert.SecondBackIdeal.nD Cert.SecondBackIdeal.τ).loc Cert.SecondBackIdeal.main_v0_3)) (v4 : (c : Dev Cert.SecondBackIdeal.nD) → Buf (Elt Ideal) ((c.tc : Thread Cert.SecondBackIdeal.nD Cert.SecondBackIdeal.τ).loc Cert.SecondBackIdeal.main_v0_4)) (v5 : (c : Dev Cert.SecondBackIdeal.nD) → Buf (Elt Ideal) ((c.tc : Thread Cert.SecondBackIdeal.nD Cert.SecondBackIdeal.τ).loc Cert.SecondBackIdeal.main_v0_5)),
      θ_run (Cert.SecondBackIdeal.defs (F := Ideal)) (onTc (τ := Cert.SecondBackIdeal.τ) (Cert.SecondBackIdeal.main (F := Ideal))) ⟨m, fun _ => 0, g⟩ (fun r => ∀ c : Dev Cert.SecondBackIdeal.nD,
          r.2.mem ((c.tc : Thread Cert.SecondBackIdeal.nD Cert.SecondBackIdeal.τ).loc Cert.SecondBackIdeal.main_v0_0) = v0 c
          ∧ r.2.mem ((c.tc : Thread Cert.SecondBackIdeal.nD Cert.SecondBackIdeal.τ).loc Cert.SecondBackIdeal.main_v0_1) = v1 c
          ∧ r.2.mem ((c.tc : Thread Cert.SecondBackIdeal.nD Cert.SecondBackIdeal.τ).loc Cert.SecondBackIdeal.main_v0_2) = v2 c
          ∧ r.2.mem ((c.tc : Thread Cert.SecondBackIdeal.nD Cert.SecondBackIdeal.τ).loc Cert.SecondBackIdeal.main_v0_3) = v3 c
          ∧ r.2.mem ((c.tc : Thread Cert.SecondBackIdeal.nD Cert.SecondBackIdeal.τ).loc Cert.SecondBackIdeal.main_v0_4) = v4 c
          ∧ r.2.mem ((c.tc : Thread Cert.SecondBackIdeal.nD Cert.SecondBackIdeal.τ).loc Cert.SecondBackIdeal.main_v0_5) = v5 c
          ∧ r.2.mem ((c.tc : Thread Cert.SecondBackIdeal.nD Cert.SecondBackIdeal.τ).loc Cert.SecondBackIdeal.main_arg0) = m ((c.tc : Thread Cert.SecondBackIdeal.nD Cert.SecondBackIdeal.τ).loc Cert.SecondBackIdeal.main_arg0)
          ∧ r.2.mem ((c.tc : Thread Cert.SecondBackIdeal.nD Cert.SecondBackIdeal.τ).loc Cert.SecondBackIdeal.main_arg1) = m ((c.tc : Thread Cert.SecondBackIdeal.nD Cert.SecondBackIdeal.τ).loc Cert.SecondBackIdeal.main_arg1)
          ∧ r.2.mem ((c.tc : Thread Cert.SecondBackIdeal.nD Cert.SecondBackIdeal.τ).loc Cert.SecondBackIdeal.main_arg2) = m ((c.tc : Thread Cert.SecondBackIdeal.nD Cert.SecondBackIdeal.τ).loc Cert.SecondBackIdeal.main_arg2)
          ∧ r.2.mem ((c.tc : Thread Cert.SecondBackIdeal.nD Cert.SecondBackIdeal.τ).loc Cert.SecondBackIdeal.main_arg3) = m ((c.tc : Thread Cert.SecondBackIdeal.nD Cert.SecondBackIdeal.τ).loc Cert.SecondBackIdeal.main_arg3)
          ∧ r.2.mem ((c.tc : Thread Cert.SecondBackIdeal.nD Cert.SecondBackIdeal.τ).loc Cert.SecondBackIdeal.main_arg4) = m ((c.tc : Thread Cert.SecondBackIdeal.nD Cert.SecondBackIdeal.τ).loc Cert.SecondBackIdeal.main_arg4)
          ∧ r.2.mem ((c.tc : Thread Cert.SecondBackIdeal.nD Cert.SecondBackIdeal.τ).loc Cert.SecondBackIdeal.main_arg5) = m ((c.tc : Thread Cert.SecondBackIdeal.nD Cert.SecondBackIdeal.τ).loc Cert.SecondBackIdeal.main_arg5)
          ∧ r.2.mem ((c.tc : Thread Cert.SecondBackIdeal.nD Cert.SecondBackIdeal.τ).loc Cert.SecondBackIdeal.main_arg6) = m ((c.tc : Thread Cert.SecondBackIdeal.nD Cert.SecondBackIdeal.τ).loc Cert.SecondBackIdeal.main_arg6)
          ∧ r.2.mem ((c.tc : Thread Cert.SecondBackIdeal.nD Cert.SecondBackIdeal.τ).loc Cert.SecondBackIdeal.main_arg7) = m ((c.tc : Thread Cert.SecondBackIdeal.nD Cert.SecondBackIdeal.τ).loc Cert.SecondBackIdeal.main_arg7))
      ∧ θ_run (Cert.SecondBackReferenceIdeal.defs (F := Ideal)) (onTc (τ := Cert.SecondBackReferenceIdeal.τ) (Cert.SecondBackReferenceIdeal.main (F := Ideal))) ⟨m', fun _ => 0, g'⟩ (fun r => ∀ c : Dev Cert.SecondBackReferenceIdeal.nD,
          r.2.mem ((c.tc : Thread Cert.SecondBackReferenceIdeal.nD Cert.SecondBackReferenceIdeal.τ).loc Cert.SecondBackReferenceIdeal.main_v51) = v0 c
          ∧ r.2.mem ((c.tc : Thread Cert.SecondBackReferenceIdeal.nD Cert.SecondBackReferenceIdeal.τ).loc Cert.SecondBackReferenceIdeal.main_v58) = v1 c
          ∧ r.2.mem ((c.tc : Thread Cert.SecondBackReferenceIdeal.nD Cert.SecondBackReferenceIdeal.τ).loc Cert.SecondBackReferenceIdeal.main_v57) = v2 c
          ∧ r.2.mem ((c.tc : Thread Cert.SecondBackReferenceIdeal.nD Cert.SecondBackReferenceIdeal.τ).loc Cert.SecondBackReferenceIdeal.main_v34) = v3 c
          ∧ r.2.mem ((c.tc : Thread Cert.SecondBackReferenceIdeal.nD Cert.SecondBackReferenceIdeal.τ).loc Cert.SecondBackReferenceIdeal.main_v29) = v4 c
          ∧ r.2.mem ((c.tc : Thread Cert.SecondBackReferenceIdeal.nD Cert.SecondBackReferenceIdeal.τ).loc Cert.SecondBackReferenceIdeal.main_v26) = v5 c
          ∧ r.2.mem ((c.tc : Thread Cert.SecondBackReferenceIdeal.nD Cert.SecondBackReferenceIdeal.τ).loc Cert.SecondBackReferenceIdeal.main_arg0) = m' ((c.tc : Thread Cert.SecondBackReferenceIdeal.nD Cert.SecondBackReferenceIdeal.τ).loc Cert.SecondBackReferenceIdeal.main_arg0)
          ∧ r.2.mem ((c.tc : Thread Cert.SecondBackReferenceIdeal.nD Cert.SecondBackReferenceIdeal.τ).loc Cert.SecondBackReferenceIdeal.main_arg1) = m' ((c.tc : Thread Cert.SecondBackReferenceIdeal.nD Cert.SecondBackReferenceIdeal.τ).loc Cert.SecondBackReferenceIdeal.main_arg1)
          ∧ r.2.mem ((c.tc : Thread Cert.SecondBackReferenceIdeal.nD Cert.SecondBackReferenceIdeal.τ).loc Cert.SecondBackReferenceIdeal.main_arg2) = m' ((c.tc : Thread Cert.SecondBackReferenceIdeal.nD Cert.SecondBackReferenceIdeal.τ).loc Cert.SecondBackReferenceIdeal.main_arg2)
          ∧ r.2.mem ((c.tc : Thread Cert.SecondBackReferenceIdeal.nD Cert.SecondBackReferenceIdeal.τ).loc Cert.SecondBackReferenceIdeal.main_arg3) = m' ((c.tc : Thread Cert.SecondBackReferenceIdeal.nD Cert.SecondBackReferenceIdeal.τ).loc Cert.SecondBackReferenceIdeal.main_arg3)
          ∧ r.2.mem ((c.tc : Thread Cert.SecondBackReferenceIdeal.nD Cert.SecondBackReferenceIdeal.τ).loc Cert.SecondBackReferenceIdeal.main_arg4) = m' ((c.tc : Thread Cert.SecondBackReferenceIdeal.nD Cert.SecondBackReferenceIdeal.τ).loc Cert.SecondBackReferenceIdeal.main_arg4)
          ∧ r.2.mem ((c.tc : Thread Cert.SecondBackReferenceIdeal.nD Cert.SecondBackReferenceIdeal.τ).loc Cert.SecondBackReferenceIdeal.main_arg5) = m' ((c.tc : Thread Cert.SecondBackReferenceIdeal.nD Cert.SecondBackReferenceIdeal.τ).loc Cert.SecondBackReferenceIdeal.main_arg5)
          ∧ r.2.mem ((c.tc : Thread Cert.SecondBackReferenceIdeal.nD Cert.SecondBackReferenceIdeal.τ).loc Cert.SecondBackReferenceIdeal.main_arg6) = m' ((c.tc : Thread Cert.SecondBackReferenceIdeal.nD Cert.SecondBackReferenceIdeal.τ).loc Cert.SecondBackReferenceIdeal.main_arg6)
          ∧ r.2.mem ((c.tc : Thread Cert.SecondBackReferenceIdeal.nD Cert.SecondBackReferenceIdeal.τ).loc Cert.SecondBackReferenceIdeal.main_arg7) = m' ((c.tc : Thread Cert.SecondBackReferenceIdeal.nD Cert.SecondBackReferenceIdeal.τ).loc Cert.SecondBackReferenceIdeal.main_arg7))

def preserves_SumWIn_SumWInIdeal : Prop :=
  True

def algebraic_SumWInIdeal_SumWInReferenceIdeal [hSumWInIdeal : Cert.SumWInIdeal.Facts] [hSumWInReferenceIdeal : Cert.SumWInReferenceIdeal.Facts] : Prop :=
  ∀ (m : (ℓ : Loc Cert.SumWInIdeal.nD Cert.SumWInIdeal.τ Cert.SumWInIdeal.sig) → Buf (Elt Ideal) ℓ) (g : Dev Cert.SumWInIdeal.nD → PrngReg)
    (m' : (ℓ : Loc Cert.SumWInReferenceIdeal.nD Cert.SumWInReferenceIdeal.τ Cert.SumWInReferenceIdeal.sig) → Buf (Elt Ideal) ℓ) (g' : Dev Cert.SumWInReferenceIdeal.nD → PrngReg), Pre_SumWInIdeal m →
    (∀ c : Dev Cert.SumWInIdeal.nD,
      m' ((c.tc : Thread Cert.SumWInReferenceIdeal.nD Cert.SumWInReferenceIdeal.τ).loc Cert.SumWInReferenceIdeal.main_arg0) = m ((c.tc : Thread Cert.SumWInIdeal.nD Cert.SumWInIdeal.τ).loc Cert.SumWInIdeal.main_arg0)
      ∧ m' ((c.tc : Thread Cert.SumWInReferenceIdeal.nD Cert.SumWInReferenceIdeal.τ).loc Cert.SumWInReferenceIdeal.main_arg1) = m ((c.tc : Thread Cert.SumWInIdeal.nD Cert.SumWInIdeal.τ).loc Cert.SumWInIdeal.main_arg1)) →
    ∃ (v0 : (c : Dev Cert.SumWInIdeal.nD) → Buf (Elt Ideal) ((c.tc : Thread Cert.SumWInIdeal.nD Cert.SumWInIdeal.τ).loc Cert.SumWInIdeal.main_v0)),
      θ_run (Cert.SumWInIdeal.defs (F := Ideal)) (onTc (τ := Cert.SumWInIdeal.τ) (Cert.SumWInIdeal.main (F := Ideal))) ⟨m, fun _ => 0, g⟩ (fun r => ∀ c : Dev Cert.SumWInIdeal.nD,
          r.2.mem ((c.tc : Thread Cert.SumWInIdeal.nD Cert.SumWInIdeal.τ).loc Cert.SumWInIdeal.main_v0) = v0 c
          ∧ r.2.mem ((c.tc : Thread Cert.SumWInIdeal.nD Cert.SumWInIdeal.τ).loc Cert.SumWInIdeal.main_arg0) = m ((c.tc : Thread Cert.SumWInIdeal.nD Cert.SumWInIdeal.τ).loc Cert.SumWInIdeal.main_arg0)
          ∧ r.2.mem ((c.tc : Thread Cert.SumWInIdeal.nD Cert.SumWInIdeal.τ).loc Cert.SumWInIdeal.main_arg1) = m ((c.tc : Thread Cert.SumWInIdeal.nD Cert.SumWInIdeal.τ).loc Cert.SumWInIdeal.main_arg1))
      ∧ θ_run (Cert.SumWInReferenceIdeal.defs (F := Ideal)) (onTc (τ := Cert.SumWInReferenceIdeal.τ) (Cert.SumWInReferenceIdeal.main (F := Ideal))) ⟨m', fun _ => 0, g'⟩ (fun r => ∀ c : Dev Cert.SumWInReferenceIdeal.nD,
          r.2.mem ((c.tc : Thread Cert.SumWInReferenceIdeal.nD Cert.SumWInReferenceIdeal.τ).loc Cert.SumWInReferenceIdeal.main_v0) = v0 c
          ∧ r.2.mem ((c.tc : Thread Cert.SumWInReferenceIdeal.nD Cert.SumWInReferenceIdeal.τ).loc Cert.SumWInReferenceIdeal.main_arg0) = m' ((c.tc : Thread Cert.SumWInReferenceIdeal.nD Cert.SumWInReferenceIdeal.τ).loc Cert.SumWInReferenceIdeal.main_arg0)
          ∧ r.2.mem ((c.tc : Thread Cert.SumWInReferenceIdeal.nD Cert.SumWInReferenceIdeal.τ).loc Cert.SumWInReferenceIdeal.main_arg1) = m' ((c.tc : Thread Cert.SumWInReferenceIdeal.nD Cert.SumWInReferenceIdeal.τ).loc Cert.SumWInReferenceIdeal.main_arg1))

def preserves_SumWOut_SumWOutIdeal : Prop :=
  True

def algebraic_SumWOutIdeal_SumWOutReferenceIdeal [hSumWOutIdeal : Cert.SumWOutIdeal.Facts] [hSumWOutReferenceIdeal : Cert.SumWOutReferenceIdeal.Facts] : Prop :=
  ∀ (m : (ℓ : Loc Cert.SumWOutIdeal.nD Cert.SumWOutIdeal.τ Cert.SumWOutIdeal.sig) → Buf (Elt Ideal) ℓ) (g : Dev Cert.SumWOutIdeal.nD → PrngReg)
    (m' : (ℓ : Loc Cert.SumWOutReferenceIdeal.nD Cert.SumWOutReferenceIdeal.τ Cert.SumWOutReferenceIdeal.sig) → Buf (Elt Ideal) ℓ) (g' : Dev Cert.SumWOutReferenceIdeal.nD → PrngReg), Pre_SumWOutIdeal m →
    (∀ c : Dev Cert.SumWOutIdeal.nD,
      m' ((c.tc : Thread Cert.SumWOutReferenceIdeal.nD Cert.SumWOutReferenceIdeal.τ).loc Cert.SumWOutReferenceIdeal.main_arg0) = m ((c.tc : Thread Cert.SumWOutIdeal.nD Cert.SumWOutIdeal.τ).loc Cert.SumWOutIdeal.main_arg0)
      ∧ m' ((c.tc : Thread Cert.SumWOutReferenceIdeal.nD Cert.SumWOutReferenceIdeal.τ).loc Cert.SumWOutReferenceIdeal.main_arg1) = m ((c.tc : Thread Cert.SumWOutIdeal.nD Cert.SumWOutIdeal.τ).loc Cert.SumWOutIdeal.main_arg1)) →
    ∃ (v0 : (c : Dev Cert.SumWOutIdeal.nD) → Buf (Elt Ideal) ((c.tc : Thread Cert.SumWOutIdeal.nD Cert.SumWOutIdeal.τ).loc Cert.SumWOutIdeal.main_v0)),
      θ_run (Cert.SumWOutIdeal.defs (F := Ideal)) (onTc (τ := Cert.SumWOutIdeal.τ) (Cert.SumWOutIdeal.main (F := Ideal))) ⟨m, fun _ => 0, g⟩ (fun r => ∀ c : Dev Cert.SumWOutIdeal.nD,
          r.2.mem ((c.tc : Thread Cert.SumWOutIdeal.nD Cert.SumWOutIdeal.τ).loc Cert.SumWOutIdeal.main_v0) = v0 c
          ∧ r.2.mem ((c.tc : Thread Cert.SumWOutIdeal.nD Cert.SumWOutIdeal.τ).loc Cert.SumWOutIdeal.main_arg0) = m ((c.tc : Thread Cert.SumWOutIdeal.nD Cert.SumWOutIdeal.τ).loc Cert.SumWOutIdeal.main_arg0)
          ∧ r.2.mem ((c.tc : Thread Cert.SumWOutIdeal.nD Cert.SumWOutIdeal.τ).loc Cert.SumWOutIdeal.main_arg1) = m ((c.tc : Thread Cert.SumWOutIdeal.nD Cert.SumWOutIdeal.τ).loc Cert.SumWOutIdeal.main_arg1))
      ∧ θ_run (Cert.SumWOutReferenceIdeal.defs (F := Ideal)) (onTc (τ := Cert.SumWOutReferenceIdeal.τ) (Cert.SumWOutReferenceIdeal.main (F := Ideal))) ⟨m', fun _ => 0, g'⟩ (fun r => ∀ c : Dev Cert.SumWOutReferenceIdeal.nD,
          r.2.mem ((c.tc : Thread Cert.SumWOutReferenceIdeal.nD Cert.SumWOutReferenceIdeal.τ).loc Cert.SumWOutReferenceIdeal.main_v0) = v0 c
          ∧ r.2.mem ((c.tc : Thread Cert.SumWOutReferenceIdeal.nD Cert.SumWOutReferenceIdeal.τ).loc Cert.SumWOutReferenceIdeal.main_arg0) = m' ((c.tc : Thread Cert.SumWOutReferenceIdeal.nD Cert.SumWOutReferenceIdeal.τ).loc Cert.SumWOutReferenceIdeal.main_arg0)
          ∧ r.2.mem ((c.tc : Thread Cert.SumWOutReferenceIdeal.nD Cert.SumWOutReferenceIdeal.τ).loc Cert.SumWOutReferenceIdeal.main_arg1) = m' ((c.tc : Thread Cert.SumWOutReferenceIdeal.nD Cert.SumWOutReferenceIdeal.τ).loc Cert.SumWOutReferenceIdeal.main_arg1))

def preserves_SumFfn1_SumFfn1Ideal : Prop :=
  True

def algebraic_SumFfn1Ideal_SumFfn1ReferenceIdeal [hSumFfn1Ideal : Cert.SumFfn1Ideal.Facts] [hSumFfn1ReferenceIdeal : Cert.SumFfn1ReferenceIdeal.Facts] : Prop :=
  ∀ (m : (ℓ : Loc Cert.SumFfn1Ideal.nD Cert.SumFfn1Ideal.τ Cert.SumFfn1Ideal.sig) → Buf (Elt Ideal) ℓ) (g : Dev Cert.SumFfn1Ideal.nD → PrngReg)
    (m' : (ℓ : Loc Cert.SumFfn1ReferenceIdeal.nD Cert.SumFfn1ReferenceIdeal.τ Cert.SumFfn1ReferenceIdeal.sig) → Buf (Elt Ideal) ℓ) (g' : Dev Cert.SumFfn1ReferenceIdeal.nD → PrngReg), Pre_SumFfn1Ideal m →
    (∀ c : Dev Cert.SumFfn1Ideal.nD,
      m' ((c.tc : Thread Cert.SumFfn1ReferenceIdeal.nD Cert.SumFfn1ReferenceIdeal.τ).loc Cert.SumFfn1ReferenceIdeal.main_arg0) = m ((c.tc : Thread Cert.SumFfn1Ideal.nD Cert.SumFfn1Ideal.τ).loc Cert.SumFfn1Ideal.main_arg0)
      ∧ m' ((c.tc : Thread Cert.SumFfn1ReferenceIdeal.nD Cert.SumFfn1ReferenceIdeal.τ).loc Cert.SumFfn1ReferenceIdeal.main_arg1) = m ((c.tc : Thread Cert.SumFfn1Ideal.nD Cert.SumFfn1Ideal.τ).loc Cert.SumFfn1Ideal.main_arg1)) →
    ∃ (v0 : (c : Dev Cert.SumFfn1Ideal.nD) → Buf (Elt Ideal) ((c.tc : Thread Cert.SumFfn1Ideal.nD Cert.SumFfn1Ideal.τ).loc Cert.SumFfn1Ideal.main_v0)),
      θ_run (Cert.SumFfn1Ideal.defs (F := Ideal)) (onTc (τ := Cert.SumFfn1Ideal.τ) (Cert.SumFfn1Ideal.main (F := Ideal))) ⟨m, fun _ => 0, g⟩ (fun r => ∀ c : Dev Cert.SumFfn1Ideal.nD,
          r.2.mem ((c.tc : Thread Cert.SumFfn1Ideal.nD Cert.SumFfn1Ideal.τ).loc Cert.SumFfn1Ideal.main_v0) = v0 c
          ∧ r.2.mem ((c.tc : Thread Cert.SumFfn1Ideal.nD Cert.SumFfn1Ideal.τ).loc Cert.SumFfn1Ideal.main_arg0) = m ((c.tc : Thread Cert.SumFfn1Ideal.nD Cert.SumFfn1Ideal.τ).loc Cert.SumFfn1Ideal.main_arg0)
          ∧ r.2.mem ((c.tc : Thread Cert.SumFfn1Ideal.nD Cert.SumFfn1Ideal.τ).loc Cert.SumFfn1Ideal.main_arg1) = m ((c.tc : Thread Cert.SumFfn1Ideal.nD Cert.SumFfn1Ideal.τ).loc Cert.SumFfn1Ideal.main_arg1))
      ∧ θ_run (Cert.SumFfn1ReferenceIdeal.defs (F := Ideal)) (onTc (τ := Cert.SumFfn1ReferenceIdeal.τ) (Cert.SumFfn1ReferenceIdeal.main (F := Ideal))) ⟨m', fun _ => 0, g'⟩ (fun r => ∀ c : Dev Cert.SumFfn1ReferenceIdeal.nD,
          r.2.mem ((c.tc : Thread Cert.SumFfn1ReferenceIdeal.nD Cert.SumFfn1ReferenceIdeal.τ).loc Cert.SumFfn1ReferenceIdeal.main_v0) = v0 c
          ∧ r.2.mem ((c.tc : Thread Cert.SumFfn1ReferenceIdeal.nD Cert.SumFfn1ReferenceIdeal.τ).loc Cert.SumFfn1ReferenceIdeal.main_arg0) = m' ((c.tc : Thread Cert.SumFfn1ReferenceIdeal.nD Cert.SumFfn1ReferenceIdeal.τ).loc Cert.SumFfn1ReferenceIdeal.main_arg0)
          ∧ r.2.mem ((c.tc : Thread Cert.SumFfn1ReferenceIdeal.nD Cert.SumFfn1ReferenceIdeal.τ).loc Cert.SumFfn1ReferenceIdeal.main_arg1) = m' ((c.tc : Thread Cert.SumFfn1ReferenceIdeal.nD Cert.SumFfn1ReferenceIdeal.τ).loc Cert.SumFfn1ReferenceIdeal.main_arg1))

def preserves_SumFfn2_SumFfn2Ideal : Prop :=
  True

def algebraic_SumFfn2Ideal_SumFfn2ReferenceIdeal [hSumFfn2Ideal : Cert.SumFfn2Ideal.Facts] [hSumFfn2ReferenceIdeal : Cert.SumFfn2ReferenceIdeal.Facts] : Prop :=
  ∀ (m : (ℓ : Loc Cert.SumFfn2Ideal.nD Cert.SumFfn2Ideal.τ Cert.SumFfn2Ideal.sig) → Buf (Elt Ideal) ℓ) (g : Dev Cert.SumFfn2Ideal.nD → PrngReg)
    (m' : (ℓ : Loc Cert.SumFfn2ReferenceIdeal.nD Cert.SumFfn2ReferenceIdeal.τ Cert.SumFfn2ReferenceIdeal.sig) → Buf (Elt Ideal) ℓ) (g' : Dev Cert.SumFfn2ReferenceIdeal.nD → PrngReg), Pre_SumFfn2Ideal m →
    (∀ c : Dev Cert.SumFfn2Ideal.nD,
      m' ((c.tc : Thread Cert.SumFfn2ReferenceIdeal.nD Cert.SumFfn2ReferenceIdeal.τ).loc Cert.SumFfn2ReferenceIdeal.main_arg0) = m ((c.tc : Thread Cert.SumFfn2Ideal.nD Cert.SumFfn2Ideal.τ).loc Cert.SumFfn2Ideal.main_arg0)
      ∧ m' ((c.tc : Thread Cert.SumFfn2ReferenceIdeal.nD Cert.SumFfn2ReferenceIdeal.τ).loc Cert.SumFfn2ReferenceIdeal.main_arg1) = m ((c.tc : Thread Cert.SumFfn2Ideal.nD Cert.SumFfn2Ideal.τ).loc Cert.SumFfn2Ideal.main_arg1)) →
    ∃ (v0 : (c : Dev Cert.SumFfn2Ideal.nD) → Buf (Elt Ideal) ((c.tc : Thread Cert.SumFfn2Ideal.nD Cert.SumFfn2Ideal.τ).loc Cert.SumFfn2Ideal.main_v0)),
      θ_run (Cert.SumFfn2Ideal.defs (F := Ideal)) (onTc (τ := Cert.SumFfn2Ideal.τ) (Cert.SumFfn2Ideal.main (F := Ideal))) ⟨m, fun _ => 0, g⟩ (fun r => ∀ c : Dev Cert.SumFfn2Ideal.nD,
          r.2.mem ((c.tc : Thread Cert.SumFfn2Ideal.nD Cert.SumFfn2Ideal.τ).loc Cert.SumFfn2Ideal.main_v0) = v0 c
          ∧ r.2.mem ((c.tc : Thread Cert.SumFfn2Ideal.nD Cert.SumFfn2Ideal.τ).loc Cert.SumFfn2Ideal.main_arg0) = m ((c.tc : Thread Cert.SumFfn2Ideal.nD Cert.SumFfn2Ideal.τ).loc Cert.SumFfn2Ideal.main_arg0)
          ∧ r.2.mem ((c.tc : Thread Cert.SumFfn2Ideal.nD Cert.SumFfn2Ideal.τ).loc Cert.SumFfn2Ideal.main_arg1) = m ((c.tc : Thread Cert.SumFfn2Ideal.nD Cert.SumFfn2Ideal.τ).loc Cert.SumFfn2Ideal.main_arg1))
      ∧ θ_run (Cert.SumFfn2ReferenceIdeal.defs (F := Ideal)) (onTc (τ := Cert.SumFfn2ReferenceIdeal.τ) (Cert.SumFfn2ReferenceIdeal.main (F := Ideal))) ⟨m', fun _ => 0, g'⟩ (fun r => ∀ c : Dev Cert.SumFfn2ReferenceIdeal.nD,
          r.2.mem ((c.tc : Thread Cert.SumFfn2ReferenceIdeal.nD Cert.SumFfn2ReferenceIdeal.τ).loc Cert.SumFfn2ReferenceIdeal.main_v0) = v0 c
          ∧ r.2.mem ((c.tc : Thread Cert.SumFfn2ReferenceIdeal.nD Cert.SumFfn2ReferenceIdeal.τ).loc Cert.SumFfn2ReferenceIdeal.main_arg0) = m' ((c.tc : Thread Cert.SumFfn2ReferenceIdeal.nD Cert.SumFfn2ReferenceIdeal.τ).loc Cert.SumFfn2ReferenceIdeal.main_arg0)
          ∧ r.2.mem ((c.tc : Thread Cert.SumFfn2ReferenceIdeal.nD Cert.SumFfn2ReferenceIdeal.τ).loc Cert.SumFfn2ReferenceIdeal.main_arg1) = m' ((c.tc : Thread Cert.SumFfn2ReferenceIdeal.nD Cert.SumFfn2ReferenceIdeal.τ).loc Cert.SumFfn2ReferenceIdeal.main_arg1))

def preserves_SumGlu_SumGluIdeal : Prop :=
  True

def algebraic_SumGluIdeal_SumGluReferenceIdeal [hSumGluIdeal : Cert.SumGluIdeal.Facts] [hSumGluReferenceIdeal : Cert.SumGluReferenceIdeal.Facts] : Prop :=
  ∀ (m : (ℓ : Loc Cert.SumGluIdeal.nD Cert.SumGluIdeal.τ Cert.SumGluIdeal.sig) → Buf (Elt Ideal) ℓ) (g : Dev Cert.SumGluIdeal.nD → PrngReg)
    (m' : (ℓ : Loc Cert.SumGluReferenceIdeal.nD Cert.SumGluReferenceIdeal.τ Cert.SumGluReferenceIdeal.sig) → Buf (Elt Ideal) ℓ) (g' : Dev Cert.SumGluReferenceIdeal.nD → PrngReg), Pre_SumGluIdeal m →
    (∀ c : Dev Cert.SumGluIdeal.nD,
      m' ((c.tc : Thread Cert.SumGluReferenceIdeal.nD Cert.SumGluReferenceIdeal.τ).loc Cert.SumGluReferenceIdeal.main_arg0) = m ((c.tc : Thread Cert.SumGluIdeal.nD Cert.SumGluIdeal.τ).loc Cert.SumGluIdeal.main_arg0)
      ∧ m' ((c.tc : Thread Cert.SumGluReferenceIdeal.nD Cert.SumGluReferenceIdeal.τ).loc Cert.SumGluReferenceIdeal.main_arg1) = m ((c.tc : Thread Cert.SumGluIdeal.nD Cert.SumGluIdeal.τ).loc Cert.SumGluIdeal.main_arg1)) →
    ∃ (v0 : (c : Dev Cert.SumGluIdeal.nD) → Buf (Elt Ideal) ((c.tc : Thread Cert.SumGluIdeal.nD Cert.SumGluIdeal.τ).loc Cert.SumGluIdeal.main_v0)),
      θ_run (Cert.SumGluIdeal.defs (F := Ideal)) (onTc (τ := Cert.SumGluIdeal.τ) (Cert.SumGluIdeal.main (F := Ideal))) ⟨m, fun _ => 0, g⟩ (fun r => ∀ c : Dev Cert.SumGluIdeal.nD,
          r.2.mem ((c.tc : Thread Cert.SumGluIdeal.nD Cert.SumGluIdeal.τ).loc Cert.SumGluIdeal.main_v0) = v0 c
          ∧ r.2.mem ((c.tc : Thread Cert.SumGluIdeal.nD Cert.SumGluIdeal.τ).loc Cert.SumGluIdeal.main_arg0) = m ((c.tc : Thread Cert.SumGluIdeal.nD Cert.SumGluIdeal.τ).loc Cert.SumGluIdeal.main_arg0)
          ∧ r.2.mem ((c.tc : Thread Cert.SumGluIdeal.nD Cert.SumGluIdeal.τ).loc Cert.SumGluIdeal.main_arg1) = m ((c.tc : Thread Cert.SumGluIdeal.nD Cert.SumGluIdeal.τ).loc Cert.SumGluIdeal.main_arg1))
      ∧ θ_run (Cert.SumGluReferenceIdeal.defs (F := Ideal)) (onTc (τ := Cert.SumGluReferenceIdeal.τ) (Cert.SumGluReferenceIdeal.main (F := Ideal))) ⟨m', fun _ => 0, g'⟩ (fun r => ∀ c : Dev Cert.SumGluReferenceIdeal.nD,
          r.2.mem ((c.tc : Thread Cert.SumGluReferenceIdeal.nD Cert.SumGluReferenceIdeal.τ).loc Cert.SumGluReferenceIdeal.main_v0) = v0 c
          ∧ r.2.mem ((c.tc : Thread Cert.SumGluReferenceIdeal.nD Cert.SumGluReferenceIdeal.τ).loc Cert.SumGluReferenceIdeal.main_arg0) = m' ((c.tc : Thread Cert.SumGluReferenceIdeal.nD Cert.SumGluReferenceIdeal.τ).loc Cert.SumGluReferenceIdeal.main_arg0)
          ∧ r.2.mem ((c.tc : Thread Cert.SumGluReferenceIdeal.nD Cert.SumGluReferenceIdeal.τ).loc Cert.SumGluReferenceIdeal.main_arg1) = m' ((c.tc : Thread Cert.SumGluReferenceIdeal.nD Cert.SumGluReferenceIdeal.τ).loc Cert.SumGluReferenceIdeal.main_arg1))

def preserves_SumRk_SumRkIdeal : Prop :=
  True

def algebraic_SumRkIdeal_SumRkReferenceIdeal [hSumRkIdeal : Cert.SumRkIdeal.Facts] [hSumRkReferenceIdeal : Cert.SumRkReferenceIdeal.Facts] : Prop :=
  ∀ (m : (ℓ : Loc Cert.SumRkIdeal.nD Cert.SumRkIdeal.τ Cert.SumRkIdeal.sig) → Buf (Elt Ideal) ℓ) (g : Dev Cert.SumRkIdeal.nD → PrngReg)
    (m' : (ℓ : Loc Cert.SumRkReferenceIdeal.nD Cert.SumRkReferenceIdeal.τ Cert.SumRkReferenceIdeal.sig) → Buf (Elt Ideal) ℓ) (g' : Dev Cert.SumRkReferenceIdeal.nD → PrngReg), Pre_SumRkIdeal m →
    (∀ c : Dev Cert.SumRkIdeal.nD,
      m' ((c.tc : Thread Cert.SumRkReferenceIdeal.nD Cert.SumRkReferenceIdeal.τ).loc Cert.SumRkReferenceIdeal.main_arg0) = m ((c.tc : Thread Cert.SumRkIdeal.nD Cert.SumRkIdeal.τ).loc Cert.SumRkIdeal.main_arg0)
      ∧ m' ((c.tc : Thread Cert.SumRkReferenceIdeal.nD Cert.SumRkReferenceIdeal.τ).loc Cert.SumRkReferenceIdeal.main_arg1) = m ((c.tc : Thread Cert.SumRkIdeal.nD Cert.SumRkIdeal.τ).loc Cert.SumRkIdeal.main_arg1)) →
    ∃ (v0 : (c : Dev Cert.SumRkIdeal.nD) → Buf (Elt Ideal) ((c.tc : Thread Cert.SumRkIdeal.nD Cert.SumRkIdeal.τ).loc Cert.SumRkIdeal.main_v0)),
      θ_run (Cert.SumRkIdeal.defs (F := Ideal)) (onTc (τ := Cert.SumRkIdeal.τ) (Cert.SumRkIdeal.main (F := Ideal))) ⟨m, fun _ => 0, g⟩ (fun r => ∀ c : Dev Cert.SumRkIdeal.nD,
          r.2.mem ((c.tc : Thread Cert.SumRkIdeal.nD Cert.SumRkIdeal.τ).loc Cert.SumRkIdeal.main_v0) = v0 c
          ∧ r.2.mem ((c.tc : Thread Cert.SumRkIdeal.nD Cert.SumRkIdeal.τ).loc Cert.SumRkIdeal.main_arg0) = m ((c.tc : Thread Cert.SumRkIdeal.nD Cert.SumRkIdeal.τ).loc Cert.SumRkIdeal.main_arg0)
          ∧ r.2.mem ((c.tc : Thread Cert.SumRkIdeal.nD Cert.SumRkIdeal.τ).loc Cert.SumRkIdeal.main_arg1) = m ((c.tc : Thread Cert.SumRkIdeal.nD Cert.SumRkIdeal.τ).loc Cert.SumRkIdeal.main_arg1))
      ∧ θ_run (Cert.SumRkReferenceIdeal.defs (F := Ideal)) (onTc (τ := Cert.SumRkReferenceIdeal.τ) (Cert.SumRkReferenceIdeal.main (F := Ideal))) ⟨m', fun _ => 0, g'⟩ (fun r => ∀ c : Dev Cert.SumRkReferenceIdeal.nD,
          r.2.mem ((c.tc : Thread Cert.SumRkReferenceIdeal.nD Cert.SumRkReferenceIdeal.τ).loc Cert.SumRkReferenceIdeal.main_v0) = v0 c
          ∧ r.2.mem ((c.tc : Thread Cert.SumRkReferenceIdeal.nD Cert.SumRkReferenceIdeal.τ).loc Cert.SumRkReferenceIdeal.main_arg0) = m' ((c.tc : Thread Cert.SumRkReferenceIdeal.nD Cert.SumRkReferenceIdeal.τ).loc Cert.SumRkReferenceIdeal.main_arg0)
          ∧ r.2.mem ((c.tc : Thread Cert.SumRkReferenceIdeal.nD Cert.SumRkReferenceIdeal.τ).loc Cert.SumRkReferenceIdeal.main_arg1) = m' ((c.tc : Thread Cert.SumRkReferenceIdeal.nD Cert.SumRkReferenceIdeal.τ).loc Cert.SumRkReferenceIdeal.main_arg1))

def preserves_SumU_SumUIdeal : Prop :=
  True

def algebraic_SumUIdeal_SumUReferenceIdeal [hSumUIdeal : Cert.SumUIdeal.Facts] [hSumUReferenceIdeal : Cert.SumUReferenceIdeal.Facts] : Prop :=
  ∀ (m : (ℓ : Loc Cert.SumUIdeal.nD Cert.SumUIdeal.τ Cert.SumUIdeal.sig) → Buf (Elt Ideal) ℓ) (g : Dev Cert.SumUIdeal.nD → PrngReg)
    (m' : (ℓ : Loc Cert.SumUReferenceIdeal.nD Cert.SumUReferenceIdeal.τ Cert.SumUReferenceIdeal.sig) → Buf (Elt Ideal) ℓ) (g' : Dev Cert.SumUReferenceIdeal.nD → PrngReg), Pre_SumUIdeal m →
    (∀ c : Dev Cert.SumUIdeal.nD,
      m' ((c.tc : Thread Cert.SumUReferenceIdeal.nD Cert.SumUReferenceIdeal.τ).loc Cert.SumUReferenceIdeal.main_arg0) = m ((c.tc : Thread Cert.SumUIdeal.nD Cert.SumUIdeal.τ).loc Cert.SumUIdeal.main_arg0)
      ∧ m' ((c.tc : Thread Cert.SumUReferenceIdeal.nD Cert.SumUReferenceIdeal.τ).loc Cert.SumUReferenceIdeal.main_arg1) = m ((c.tc : Thread Cert.SumUIdeal.nD Cert.SumUIdeal.τ).loc Cert.SumUIdeal.main_arg1)) →
    ∃ (v0 : (c : Dev Cert.SumUIdeal.nD) → Buf (Elt Ideal) ((c.tc : Thread Cert.SumUIdeal.nD Cert.SumUIdeal.τ).loc Cert.SumUIdeal.main_v0)),
      θ_run (Cert.SumUIdeal.defs (F := Ideal)) (onTc (τ := Cert.SumUIdeal.τ) (Cert.SumUIdeal.main (F := Ideal))) ⟨m, fun _ => 0, g⟩ (fun r => ∀ c : Dev Cert.SumUIdeal.nD,
          r.2.mem ((c.tc : Thread Cert.SumUIdeal.nD Cert.SumUIdeal.τ).loc Cert.SumUIdeal.main_v0) = v0 c
          ∧ r.2.mem ((c.tc : Thread Cert.SumUIdeal.nD Cert.SumUIdeal.τ).loc Cert.SumUIdeal.main_arg0) = m ((c.tc : Thread Cert.SumUIdeal.nD Cert.SumUIdeal.τ).loc Cert.SumUIdeal.main_arg0)
          ∧ r.2.mem ((c.tc : Thread Cert.SumUIdeal.nD Cert.SumUIdeal.τ).loc Cert.SumUIdeal.main_arg1) = m ((c.tc : Thread Cert.SumUIdeal.nD Cert.SumUIdeal.τ).loc Cert.SumUIdeal.main_arg1))
      ∧ θ_run (Cert.SumUReferenceIdeal.defs (F := Ideal)) (onTc (τ := Cert.SumUReferenceIdeal.τ) (Cert.SumUReferenceIdeal.main (F := Ideal))) ⟨m', fun _ => 0, g'⟩ (fun r => ∀ c : Dev Cert.SumUReferenceIdeal.nD,
          r.2.mem ((c.tc : Thread Cert.SumUReferenceIdeal.nD Cert.SumUReferenceIdeal.τ).loc Cert.SumUReferenceIdeal.main_v1) = v0 c
          ∧ r.2.mem ((c.tc : Thread Cert.SumUReferenceIdeal.nD Cert.SumUReferenceIdeal.τ).loc Cert.SumUReferenceIdeal.main_arg0) = m' ((c.tc : Thread Cert.SumUReferenceIdeal.nD Cert.SumUReferenceIdeal.τ).loc Cert.SumUReferenceIdeal.main_arg0)
          ∧ r.2.mem ((c.tc : Thread Cert.SumUReferenceIdeal.nD Cert.SumUReferenceIdeal.τ).loc Cert.SumUReferenceIdeal.main_arg1) = m' ((c.tc : Thread Cert.SumUReferenceIdeal.nD Cert.SumUReferenceIdeal.τ).loc Cert.SumUReferenceIdeal.main_arg1))

def preserves_Silu_SiluIdeal : Prop :=
  True

def algebraic_SiluIdeal_SiluReferenceIdeal [hSiluIdeal : Cert.SiluIdeal.Facts] [hSiluReferenceIdeal : Cert.SiluReferenceIdeal.Facts] : Prop :=
  ∀ (m : (ℓ : Loc Cert.SiluIdeal.nD Cert.SiluIdeal.τ Cert.SiluIdeal.sig) → Buf (Elt Ideal) ℓ) (g : Dev Cert.SiluIdeal.nD → PrngReg)
    (m' : (ℓ : Loc Cert.SiluReferenceIdeal.nD Cert.SiluReferenceIdeal.τ Cert.SiluReferenceIdeal.sig) → Buf (Elt Ideal) ℓ) (g' : Dev Cert.SiluReferenceIdeal.nD → PrngReg), Pre_SiluIdeal m →
    (∀ c : Dev Cert.SiluIdeal.nD,
      m' ((c.tc : Thread Cert.SiluReferenceIdeal.nD Cert.SiluReferenceIdeal.τ).loc Cert.SiluReferenceIdeal.main_arg0) = m ((c.tc : Thread Cert.SiluIdeal.nD Cert.SiluIdeal.τ).loc Cert.SiluIdeal.main_arg0)) →
    ∃ (v0 : (c : Dev Cert.SiluIdeal.nD) → Buf (Elt Ideal) ((c.tc : Thread Cert.SiluIdeal.nD Cert.SiluIdeal.τ).loc Cert.SiluIdeal.main_v0)),
      θ_run (Cert.SiluIdeal.defs (F := Ideal)) (onTc (τ := Cert.SiluIdeal.τ) (Cert.SiluIdeal.main (F := Ideal))) ⟨m, fun _ => 0, g⟩ (fun r => ∀ c : Dev Cert.SiluIdeal.nD,
          r.2.mem ((c.tc : Thread Cert.SiluIdeal.nD Cert.SiluIdeal.τ).loc Cert.SiluIdeal.main_v0) = v0 c
          ∧ r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0))
      ∧ θ_run (Cert.SiluReferenceIdeal.defs (F := Ideal)) (onTc (τ := Cert.SiluReferenceIdeal.τ) (Cert.SiluReferenceIdeal.main (F := Ideal))) ⟨m', fun _ => 0, g'⟩ (fun r => ∀ c : Dev Cert.SiluReferenceIdeal.nD,
          r.2.mem ((c.tc : Thread Cert.SiluReferenceIdeal.nD Cert.SiluReferenceIdeal.τ).loc Cert.SiluReferenceIdeal.main_v0) = v0 c
          ∧ r.2.mem ((c.tc : Thread Cert.SiluReferenceIdeal.nD Cert.SiluReferenceIdeal.τ).loc Cert.SiluReferenceIdeal.main_arg0) = m' ((c.tc : Thread Cert.SiluReferenceIdeal.nD Cert.SiluReferenceIdeal.τ).loc Cert.SiluReferenceIdeal.main_arg0))

def Claim : Prop :=
  ∃ (hKernel : Cert.Kernel.Facts) (hKernelIdeal : Cert.KernelIdeal.Facts) (hReferenceIdeal : Cert.ReferenceIdeal.Facts) (hReference : Cert.Reference.Facts) (hSwap : Cert.Swap.Facts) (hSwapIdeal : Cert.SwapIdeal.Facts) (hSwapReferenceIdeal : Cert.SwapReferenceIdeal.Facts) (hSwapReference : Cert.SwapReference.Facts) (hChips : Cert.Chips.Facts) (hChipsIdeal : Cert.ChipsIdeal.Facts) (hChipsReferenceIdeal : Cert.ChipsReferenceIdeal.Facts) (hChipsReference : Cert.ChipsReference.Facts) (hSmall : Cert.Small.Facts) (hSmallIdeal : Cert.SmallIdeal.Facts) (hSmallReferenceIdeal : Cert.SmallReferenceIdeal.Facts) (hSmallReference : Cert.SmallReference.Facts) (hCond : Cert.Cond.Facts) (hCondIdeal : Cert.CondIdeal.Facts) (hCondReferenceIdeal : Cert.CondReferenceIdeal.Facts) (hCondReference : Cert.CondReference.Facts) (hAdamWIn : Cert.AdamWIn.Facts) (hAdamWInIdeal : Cert.AdamWInIdeal.Facts) (hAdamWInReferenceIdeal : Cert.AdamWInReferenceIdeal.Facts) (hAdamWOut : Cert.AdamWOut.Facts) (hAdamWOutIdeal : Cert.AdamWOutIdeal.Facts) (hAdamWOutReferenceIdeal : Cert.AdamWOutReferenceIdeal.Facts) (hAdamFfn1 : Cert.AdamFfn1.Facts) (hAdamFfn1Ideal : Cert.AdamFfn1Ideal.Facts) (hAdamFfn1ReferenceIdeal : Cert.AdamFfn1ReferenceIdeal.Facts) (hAdamFfn2 : Cert.AdamFfn2.Facts) (hAdamFfn2Ideal : Cert.AdamFfn2Ideal.Facts) (hAdamFfn2ReferenceIdeal : Cert.AdamFfn2ReferenceIdeal.Facts) (hAdamGlu : Cert.AdamGlu.Facts) (hAdamGluIdeal : Cert.AdamGluIdeal.Facts) (hAdamGluReferenceIdeal : Cert.AdamGluReferenceIdeal.Facts) (hAdamAda : Cert.AdamAda.Facts) (hAdamAdaIdeal : Cert.AdamAdaIdeal.Facts) (hAdamAdaReferenceIdeal : Cert.AdamAdaReferenceIdeal.Facts) (hAdamRk : Cert.AdamRk.Facts) (hAdamRkIdeal : Cert.AdamRkIdeal.Facts) (hAdamRkReferenceIdeal : Cert.AdamRkReferenceIdeal.Facts) (hAdamSmall : Cert.AdamSmall.Facts) (hAdamSmallIdeal : Cert.AdamSmallIdeal.Facts) (hAdamSmallReferenceIdeal : Cert.AdamSmallReferenceIdeal.Facts) (hAdamLog : Cert.AdamLog.Facts) (hAdamLogIdeal : Cert.AdamLogIdeal.Facts) (hAdamLogReferenceIdeal : Cert.AdamLogReferenceIdeal.Facts) (hNorm : Cert.Norm.Facts) (hNormIdeal : Cert.NormIdeal.Facts) (hNormReferenceIdeal : Cert.NormReferenceIdeal.Facts) (hLoss : Cert.Loss.Facts) (hLossIdeal : Cert.LossIdeal.Facts) (hLossReferenceIdeal : Cert.LossReferenceIdeal.Facts) (hLossSum : Cert.LossSum.Facts) (hLossSumIdeal : Cert.LossSumIdeal.Facts) (hLossSumReferenceIdeal : Cert.LossSumReferenceIdeal.Facts) (hProj : Cert.Proj.Facts) (hProjIdeal : Cert.ProjIdeal.Facts) (hProjReferenceIdeal : Cert.ProjReferenceIdeal.Facts) (hOutMix : Cert.OutMix.Facts) (hOutMixIdeal : Cert.OutMixIdeal.Facts) (hOutMixReferenceIdeal : Cert.OutMixReferenceIdeal.Facts) (hFfn1 : Cert.Ffn1.Facts) (hFfn1Ideal : Cert.Ffn1Ideal.Facts) (hFfn1ReferenceIdeal : Cert.Ffn1ReferenceIdeal.Facts) (hFfn2 : Cert.Ffn2.Facts) (hFfn2Ideal : Cert.Ffn2Ideal.Facts) (hFfn2ReferenceIdeal : Cert.Ffn2ReferenceIdeal.Facts) (hDFfn2 : Cert.DFfn2.Facts) (hDFfn2Ideal : Cert.DFfn2Ideal.Facts) (hDFfn2ReferenceIdeal : Cert.DFfn2ReferenceIdeal.Facts) (hGwFfn2 : Cert.GwFfn2.Facts) (hGwFfn2Ideal : Cert.GwFfn2Ideal.Facts) (hGwFfn2ReferenceIdeal : Cert.GwFfn2ReferenceIdeal.Facts) (hDFfn1 : Cert.DFfn1.Facts) (hDFfn1Ideal : Cert.DFfn1Ideal.Facts) (hDFfn1ReferenceIdeal : Cert.DFfn1ReferenceIdeal.Facts) (hGwFfn1 : Cert.GwFfn1.Facts) (hGwFfn1Ideal : Cert.GwFfn1Ideal.Facts) (hGwFfn1ReferenceIdeal : Cert.GwFfn1ReferenceIdeal.Facts) (hDOut : Cert.DOut.Facts) (hDOutIdeal : Cert.DOutIdeal.Facts) (hDOutReferenceIdeal : Cert.DOutReferenceIdeal.Facts) (hGwOut : Cert.GwOut.Facts) (hGwOutIdeal : Cert.GwOutIdeal.Facts) (hGwOutReferenceIdeal : Cert.GwOutReferenceIdeal.Facts) (hDIn : Cert.DIn.Facts) (hDInIdeal : Cert.DInIdeal.Facts) (hDInReferenceIdeal : Cert.DInReferenceIdeal.Facts) (hGwIn : Cert.GwIn.Facts) (hGwInIdeal : Cert.GwInIdeal.Facts) (hGwInReferenceIdeal : Cert.GwInReferenceIdeal.Facts) (hMod : Cert.Mod.Facts) (hModIdeal : Cert.ModIdeal.Facts) (hModReferenceIdeal : Cert.ModReferenceIdeal.Facts) (hGwAda : Cert.GwAda.Facts) (hGwAdaIdeal : Cert.GwAdaIdeal.Facts) (hGwAdaReferenceIdeal : Cert.GwAdaReferenceIdeal.Facts) (hFirst : Cert.First.Facts) (hFirstIdeal : Cert.FirstIdeal.Facts) (hFirstReferenceIdeal : Cert.FirstReferenceIdeal.Facts) (hSecond : Cert.Second.Facts) (hSecondIdeal : Cert.SecondIdeal.Facts) (hSecondReferenceIdeal : Cert.SecondReferenceIdeal.Facts) (hSecondBack : Cert.SecondBack.Facts) (hSecondBackIdeal : Cert.SecondBackIdeal.Facts) (hSecondBackReferenceIdeal : Cert.SecondBackReferenceIdeal.Facts) (hSumWIn : Cert.SumWIn.Facts) (hSumWInIdeal : Cert.SumWInIdeal.Facts) (hSumWInReferenceIdeal : Cert.SumWInReferenceIdeal.Facts) (hSumWOut : Cert.SumWOut.Facts) (hSumWOutIdeal : Cert.SumWOutIdeal.Facts) (hSumWOutReferenceIdeal : Cert.SumWOutReferenceIdeal.Facts) (hSumFfn1 : Cert.SumFfn1.Facts) (hSumFfn1Ideal : Cert.SumFfn1Ideal.Facts) (hSumFfn1ReferenceIdeal : Cert.SumFfn1ReferenceIdeal.Facts) (hSumFfn2 : Cert.SumFfn2.Facts) (hSumFfn2Ideal : Cert.SumFfn2Ideal.Facts) (hSumFfn2ReferenceIdeal : Cert.SumFfn2ReferenceIdeal.Facts) (hSumGlu : Cert.SumGlu.Facts) (hSumGluIdeal : Cert.SumGluIdeal.Facts) (hSumGluReferenceIdeal : Cert.SumGluReferenceIdeal.Facts) (hSumRk : Cert.SumRk.Facts) (hSumRkIdeal : Cert.SumRkIdeal.Facts) (hSumRkReferenceIdeal : Cert.SumRkReferenceIdeal.Facts) (hSumU : Cert.SumU.Facts) (hSumUIdeal : Cert.SumUIdeal.Facts) (hSumUReferenceIdeal : Cert.SumUReferenceIdeal.Facts) (hSilu : Cert.Silu.Facts) (hSiluIdeal : Cert.SiluIdeal.Facts) (hSiluReferenceIdeal : Cert.SiluReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Swap (hSwap := hSwap)
    ∧ quiescent_SwapIdeal (hSwapIdeal := hSwapIdeal)
    ∧ quiescent_SwapReferenceIdeal (hSwapReferenceIdeal := hSwapReferenceIdeal)
    ∧ quiescent_SwapReference (hSwapReference := hSwapReference)
    ∧ quiescent_Chips (hChips := hChips)
    ∧ quiescent_ChipsIdeal (hChipsIdeal := hChipsIdeal)
    ∧ quiescent_ChipsReferenceIdeal (hChipsReferenceIdeal := hChipsReferenceIdeal)
    ∧ quiescent_ChipsReference (hChipsReference := hChipsReference)
    ∧ quiescent_Small (hSmall := hSmall)
    ∧ quiescent_SmallIdeal (hSmallIdeal := hSmallIdeal)
    ∧ quiescent_SmallReferenceIdeal (hSmallReferenceIdeal := hSmallReferenceIdeal)
    ∧ quiescent_SmallReference (hSmallReference := hSmallReference)
    ∧ quiescent_Cond (hCond := hCond)
    ∧ quiescent_CondIdeal (hCondIdeal := hCondIdeal)
    ∧ quiescent_CondReferenceIdeal (hCondReferenceIdeal := hCondReferenceIdeal)
    ∧ quiescent_CondReference (hCondReference := hCondReference)
    ∧ quiescent_AdamWIn (hAdamWIn := hAdamWIn)
    ∧ quiescent_AdamWInIdeal (hAdamWInIdeal := hAdamWInIdeal)
    ∧ quiescent_AdamWInReferenceIdeal (hAdamWInReferenceIdeal := hAdamWInReferenceIdeal)
    ∧ quiescent_AdamWOut (hAdamWOut := hAdamWOut)
    ∧ quiescent_AdamWOutIdeal (hAdamWOutIdeal := hAdamWOutIdeal)
    ∧ quiescent_AdamWOutReferenceIdeal (hAdamWOutReferenceIdeal := hAdamWOutReferenceIdeal)
    ∧ quiescent_AdamFfn1 (hAdamFfn1 := hAdamFfn1)
    ∧ quiescent_AdamFfn1Ideal (hAdamFfn1Ideal := hAdamFfn1Ideal)
    ∧ quiescent_AdamFfn1ReferenceIdeal (hAdamFfn1ReferenceIdeal := hAdamFfn1ReferenceIdeal)
    ∧ quiescent_AdamFfn2 (hAdamFfn2 := hAdamFfn2)
    ∧ quiescent_AdamFfn2Ideal (hAdamFfn2Ideal := hAdamFfn2Ideal)
    ∧ quiescent_AdamFfn2ReferenceIdeal (hAdamFfn2ReferenceIdeal := hAdamFfn2ReferenceIdeal)
    ∧ quiescent_AdamGlu (hAdamGlu := hAdamGlu)
    ∧ quiescent_AdamGluIdeal (hAdamGluIdeal := hAdamGluIdeal)
    ∧ quiescent_AdamGluReferenceIdeal (hAdamGluReferenceIdeal := hAdamGluReferenceIdeal)
    ∧ quiescent_AdamAda (hAdamAda := hAdamAda)
    ∧ quiescent_AdamAdaIdeal (hAdamAdaIdeal := hAdamAdaIdeal)
    ∧ quiescent_AdamAdaReferenceIdeal (hAdamAdaReferenceIdeal := hAdamAdaReferenceIdeal)
    ∧ quiescent_AdamRk (hAdamRk := hAdamRk)
    ∧ quiescent_AdamRkIdeal (hAdamRkIdeal := hAdamRkIdeal)
    ∧ quiescent_AdamRkReferenceIdeal (hAdamRkReferenceIdeal := hAdamRkReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_AdamLog (hAdamLog := hAdamLog)
    ∧ quiescent_AdamLogIdeal (hAdamLogIdeal := hAdamLogIdeal)
    ∧ quiescent_AdamLogReferenceIdeal (hAdamLogReferenceIdeal := hAdamLogReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_LossSum (hLossSum := hLossSum)
    ∧ quiescent_LossSumIdeal (hLossSumIdeal := hLossSumIdeal)
    ∧ quiescent_LossSumReferenceIdeal (hLossSumReferenceIdeal := hLossSumReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_OutMix (hOutMix := hOutMix)
    ∧ quiescent_OutMixIdeal (hOutMixIdeal := hOutMixIdeal)
    ∧ quiescent_OutMixReferenceIdeal (hOutMixReferenceIdeal := hOutMixReferenceIdeal)
    ∧ quiescent_Ffn1 (hFfn1 := hFfn1)
    ∧ quiescent_Ffn1Ideal (hFfn1Ideal := hFfn1Ideal)
    ∧ quiescent_Ffn1ReferenceIdeal (hFfn1ReferenceIdeal := hFfn1ReferenceIdeal)
    ∧ quiescent_Ffn2 (hFfn2 := hFfn2)
    ∧ quiescent_Ffn2Ideal (hFfn2Ideal := hFfn2Ideal)
    ∧ quiescent_Ffn2ReferenceIdeal (hFfn2ReferenceIdeal := hFfn2ReferenceIdeal)
    ∧ quiescent_DFfn2 (hDFfn2 := hDFfn2)
    ∧ quiescent_DFfn2Ideal (hDFfn2Ideal := hDFfn2Ideal)
    ∧ quiescent_DFfn2ReferenceIdeal (hDFfn2ReferenceIdeal := hDFfn2ReferenceIdeal)
    ∧ quiescent_GwFfn2 (hGwFfn2 := hGwFfn2)
    ∧ quiescent_GwFfn2Ideal (hGwFfn2Ideal := hGwFfn2Ideal)
    ∧ quiescent_GwFfn2ReferenceIdeal (hGwFfn2ReferenceIdeal := hGwFfn2ReferenceIdeal)
    ∧ quiescent_DFfn1 (hDFfn1 := hDFfn1)
    ∧ quiescent_DFfn1Ideal (hDFfn1Ideal := hDFfn1Ideal)
    ∧ quiescent_DFfn1ReferenceIdeal (hDFfn1ReferenceIdeal := hDFfn1ReferenceIdeal)
    ∧ quiescent_GwFfn1 (hGwFfn1 := hGwFfn1)
    ∧ quiescent_GwFfn1Ideal (hGwFfn1Ideal := hGwFfn1Ideal)
    ∧ quiescent_GwFfn1ReferenceIdeal (hGwFfn1ReferenceIdeal := hGwFfn1ReferenceIdeal)
    ∧ quiescent_DOut (hDOut := hDOut)
    ∧ quiescent_DOutIdeal (hDOutIdeal := hDOutIdeal)
    ∧ quiescent_DOutReferenceIdeal (hDOutReferenceIdeal := hDOutReferenceIdeal)
    ∧ quiescent_GwOut (hGwOut := hGwOut)
    ∧ quiescent_GwOutIdeal (hGwOutIdeal := hGwOutIdeal)
    ∧ quiescent_GwOutReferenceIdeal (hGwOutReferenceIdeal := hGwOutReferenceIdeal)
    ∧ quiescent_DIn (hDIn := hDIn)
    ∧ quiescent_DInIdeal (hDInIdeal := hDInIdeal)
    ∧ quiescent_DInReferenceIdeal (hDInReferenceIdeal := hDInReferenceIdeal)
    ∧ quiescent_GwIn (hGwIn := hGwIn)
    ∧ quiescent_GwInIdeal (hGwInIdeal := hGwInIdeal)
    ∧ quiescent_GwInReferenceIdeal (hGwInReferenceIdeal := hGwInReferenceIdeal)
    ∧ quiescent_Mod (hMod := hMod)
    ∧ quiescent_ModIdeal (hModIdeal := hModIdeal)
    ∧ quiescent_ModReferenceIdeal (hModReferenceIdeal := hModReferenceIdeal)
    ∧ quiescent_GwAda (hGwAda := hGwAda)
    ∧ quiescent_GwAdaIdeal (hGwAdaIdeal := hGwAdaIdeal)
    ∧ quiescent_GwAdaReferenceIdeal (hGwAdaReferenceIdeal := hGwAdaReferenceIdeal)
    ∧ quiescent_First (hFirst := hFirst)
    ∧ quiescent_FirstIdeal (hFirstIdeal := hFirstIdeal)
    ∧ quiescent_FirstReferenceIdeal (hFirstReferenceIdeal := hFirstReferenceIdeal)
    ∧ quiescent_Second (hSecond := hSecond)
    ∧ quiescent_SecondIdeal (hSecondIdeal := hSecondIdeal)
    ∧ quiescent_SecondReferenceIdeal (hSecondReferenceIdeal := hSecondReferenceIdeal)
    ∧ quiescent_SecondBack (hSecondBack := hSecondBack)
    ∧ quiescent_SecondBackIdeal (hSecondBackIdeal := hSecondBackIdeal)
    ∧ quiescent_SecondBackReferenceIdeal (hSecondBackReferenceIdeal := hSecondBackReferenceIdeal)
    ∧ quiescent_SumWIn (hSumWIn := hSumWIn)
    ∧ quiescent_SumWInIdeal (hSumWInIdeal := hSumWInIdeal)
    ∧ quiescent_SumWInReferenceIdeal (hSumWInReferenceIdeal := hSumWInReferenceIdeal)
    ∧ quiescent_SumWOut (hSumWOut := hSumWOut)
    ∧ quiescent_SumWOutIdeal (hSumWOutIdeal := hSumWOutIdeal)
    ∧ quiescent_SumWOutReferenceIdeal (hSumWOutReferenceIdeal := hSumWOutReferenceIdeal)
    ∧ quiescent_SumFfn1 (hSumFfn1 := hSumFfn1)
    ∧ quiescent_SumFfn1Ideal (hSumFfn1Ideal := hSumFfn1Ideal)
    ∧ quiescent_SumFfn1ReferenceIdeal (hSumFfn1ReferenceIdeal := hSumFfn1ReferenceIdeal)
    ∧ quiescent_SumFfn2 (hSumFfn2 := hSumFfn2)
    ∧ quiescent_SumFfn2Ideal (hSumFfn2Ideal := hSumFfn2Ideal)
    ∧ quiescent_SumFfn2ReferenceIdeal (hSumFfn2ReferenceIdeal := hSumFfn2ReferenceIdeal)
    ∧ quiescent_SumGlu (hSumGlu := hSumGlu)
    ∧ quiescent_SumGluIdeal (hSumGluIdeal := hSumGluIdeal)
    ∧ quiescent_SumGluReferenceIdeal (hSumGluReferenceIdeal := hSumGluReferenceIdeal)
    ∧ quiescent_SumRk (hSumRk := hSumRk)
    ∧ quiescent_SumRkIdeal (hSumRkIdeal := hSumRkIdeal)
    ∧ quiescent_SumRkReferenceIdeal (hSumRkReferenceIdeal := hSumRkReferenceIdeal)
    ∧ quiescent_SumU (hSumU := hSumU)
    ∧ quiescent_SumUIdeal (hSumUIdeal := hSumUIdeal)
    ∧ quiescent_SumUReferenceIdeal (hSumUReferenceIdeal := hSumUReferenceIdeal)
    ∧ quiescent_Silu (hSilu := hSilu)
    ∧ quiescent_SiluIdeal (hSiluIdeal := hSiluIdeal)
    ∧ quiescent_SiluReferenceIdeal (hSiluReferenceIdeal := hSiluReferenceIdeal)
    ∧ preserves_Kernel_KernelIdeal
    ∧ bitexact_Kernel_Reference (hKernel := hKernel) (hReference := hReference)
    ∧ algebraic_KernelIdeal_ReferenceIdeal (hKernelIdeal := hKernelIdeal) (hReferenceIdeal := hReferenceIdeal)
    ∧ preserves_Swap_SwapIdeal
    ∧ bitexact_Swap_SwapReference (hSwap := hSwap) (hSwapReference := hSwapReference)
    ∧ algebraic_SwapIdeal_SwapReferenceIdeal (hSwapIdeal := hSwapIdeal) (hSwapReferenceIdeal := hSwapReferenceIdeal)
    ∧ preserves_Chips_ChipsIdeal
    ∧ bitexact_Chips_ChipsReference (hChips := hChips) (hChipsReference := hChipsReference)
    ∧ algebraic_ChipsIdeal_ChipsReferenceIdeal (hChipsIdeal := hChipsIdeal) (hChipsReferenceIdeal := hChipsReferenceIdeal)
    ∧ preserves_Small_SmallIdeal
    ∧ bitexact_Small_SmallReference (hSmall := hSmall) (hSmallReference := hSmallReference)
    ∧ algebraic_SmallIdeal_SmallReferenceIdeal (hSmallIdeal := hSmallIdeal) (hSmallReferenceIdeal := hSmallReferenceIdeal)
    ∧ preserves_Cond_CondIdeal
    ∧ bitexact_Cond_CondReference (hCond := hCond) (hCondReference := hCondReference)
    ∧ algebraic_CondIdeal_CondReferenceIdeal (hCondIdeal := hCondIdeal) (hCondReferenceIdeal := hCondReferenceIdeal)
    ∧ preserves_AdamWIn_AdamWInIdeal
    ∧ algebraic_AdamWInIdeal_AdamWInReferenceIdeal (hAdamWInIdeal := hAdamWInIdeal) (hAdamWInReferenceIdeal := hAdamWInReferenceIdeal)
    ∧ preserves_AdamWOut_AdamWOutIdeal
    ∧ algebraic_AdamWOutIdeal_AdamWOutReferenceIdeal (hAdamWOutIdeal := hAdamWOutIdeal) (hAdamWOutReferenceIdeal := hAdamWOutReferenceIdeal)
    ∧ preserves_AdamFfn1_AdamFfn1Ideal
    ∧ algebraic_AdamFfn1Ideal_AdamFfn1ReferenceIdeal (hAdamFfn1Ideal := hAdamFfn1Ideal) (hAdamFfn1ReferenceIdeal := hAdamFfn1ReferenceIdeal)
    ∧ preserves_AdamFfn2_AdamFfn2Ideal
    ∧ algebraic_AdamFfn2Ideal_AdamFfn2ReferenceIdeal (hAdamFfn2Ideal := hAdamFfn2Ideal) (hAdamFfn2ReferenceIdeal := hAdamFfn2ReferenceIdeal)
    ∧ preserves_AdamGlu_AdamGluIdeal
    ∧ algebraic_AdamGluIdeal_AdamGluReferenceIdeal (hAdamGluIdeal := hAdamGluIdeal) (hAdamGluReferenceIdeal := hAdamGluReferenceIdeal)
    ∧ preserves_AdamAda_AdamAdaIdeal
    ∧ algebraic_AdamAdaIdeal_AdamAdaReferenceIdeal (hAdamAdaIdeal := hAdamAdaIdeal) (hAdamAdaReferenceIdeal := hAdamAdaReferenceIdeal)
    ∧ preserves_AdamRk_AdamRkIdeal
    ∧ algebraic_AdamRkIdeal_AdamRkReferenceIdeal (hAdamRkIdeal := hAdamRkIdeal) (hAdamRkReferenceIdeal := hAdamRkReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_AdamLog_AdamLogIdeal
    ∧ algebraic_AdamLogIdeal_AdamLogReferenceIdeal (hAdamLogIdeal := hAdamLogIdeal) (hAdamLogReferenceIdeal := hAdamLogReferenceIdeal)
    ∧ preserves_Norm_NormIdeal
    ∧ algebraic_NormIdeal_NormReferenceIdeal (hNormIdeal := hNormIdeal) (hNormReferenceIdeal := hNormReferenceIdeal)
    ∧ preserves_Loss_LossIdeal
    ∧ algebraic_LossIdeal_LossReferenceIdeal (hLossIdeal := hLossIdeal) (hLossReferenceIdeal := hLossReferenceIdeal)
    ∧ preserves_LossSum_LossSumIdeal
    ∧ algebraic_LossSumIdeal_LossSumReferenceIdeal (hLossSumIdeal := hLossSumIdeal) (hLossSumReferenceIdeal := hLossSumReferenceIdeal)
    ∧ preserves_Proj_ProjIdeal
    ∧ algebraic_ProjIdeal_ProjReferenceIdeal (hProjIdeal := hProjIdeal) (hProjReferenceIdeal := hProjReferenceIdeal)
    ∧ preserves_OutMix_OutMixIdeal
    ∧ algebraic_OutMixIdeal_OutMixReferenceIdeal (hOutMixIdeal := hOutMixIdeal) (hOutMixReferenceIdeal := hOutMixReferenceIdeal)
    ∧ preserves_Ffn1_Ffn1Ideal
    ∧ algebraic_Ffn1Ideal_Ffn1ReferenceIdeal (hFfn1Ideal := hFfn1Ideal) (hFfn1ReferenceIdeal := hFfn1ReferenceIdeal)
    ∧ preserves_Ffn2_Ffn2Ideal
    ∧ algebraic_Ffn2Ideal_Ffn2ReferenceIdeal (hFfn2Ideal := hFfn2Ideal) (hFfn2ReferenceIdeal := hFfn2ReferenceIdeal)
    ∧ preserves_DFfn2_DFfn2Ideal
    ∧ algebraic_DFfn2Ideal_DFfn2ReferenceIdeal (hDFfn2Ideal := hDFfn2Ideal) (hDFfn2ReferenceIdeal := hDFfn2ReferenceIdeal)
    ∧ preserves_GwFfn2_GwFfn2Ideal
    ∧ algebraic_GwFfn2Ideal_GwFfn2ReferenceIdeal (hGwFfn2Ideal := hGwFfn2Ideal) (hGwFfn2ReferenceIdeal := hGwFfn2ReferenceIdeal)
    ∧ preserves_DFfn1_DFfn1Ideal
    ∧ algebraic_DFfn1Ideal_DFfn1ReferenceIdeal (hDFfn1Ideal := hDFfn1Ideal) (hDFfn1ReferenceIdeal := hDFfn1ReferenceIdeal)
    ∧ preserves_GwFfn1_GwFfn1Ideal
    ∧ algebraic_GwFfn1Ideal_GwFfn1ReferenceIdeal (hGwFfn1Ideal := hGwFfn1Ideal) (hGwFfn1ReferenceIdeal := hGwFfn1ReferenceIdeal)
    ∧ preserves_DOut_DOutIdeal
    ∧ algebraic_DOutIdeal_DOutReferenceIdeal (hDOutIdeal := hDOutIdeal) (hDOutReferenceIdeal := hDOutReferenceIdeal)
    ∧ preserves_GwOut_GwOutIdeal
    ∧ algebraic_GwOutIdeal_GwOutReferenceIdeal (hGwOutIdeal := hGwOutIdeal) (hGwOutReferenceIdeal := hGwOutReferenceIdeal)
    ∧ preserves_DIn_DInIdeal
    ∧ algebraic_DInIdeal_DInReferenceIdeal (hDInIdeal := hDInIdeal) (hDInReferenceIdeal := hDInReferenceIdeal)
    ∧ preserves_GwIn_GwInIdeal
    ∧ algebraic_GwInIdeal_GwInReferenceIdeal (hGwInIdeal := hGwInIdeal) (hGwInReferenceIdeal := hGwInReferenceIdeal)
    ∧ preserves_Mod_ModIdeal
    ∧ algebraic_ModIdeal_ModReferenceIdeal (hModIdeal := hModIdeal) (hModReferenceIdeal := hModReferenceIdeal)
    ∧ preserves_GwAda_GwAdaIdeal
    ∧ algebraic_GwAdaIdeal_GwAdaReferenceIdeal (hGwAdaIdeal := hGwAdaIdeal) (hGwAdaReferenceIdeal := hGwAdaReferenceIdeal)
    ∧ preserves_First_FirstIdeal
    ∧ algebraic_FirstIdeal_FirstReferenceIdeal (hFirstIdeal := hFirstIdeal) (hFirstReferenceIdeal := hFirstReferenceIdeal)
    ∧ preserves_Second_SecondIdeal
    ∧ algebraic_SecondIdeal_SecondReferenceIdeal (hSecondIdeal := hSecondIdeal) (hSecondReferenceIdeal := hSecondReferenceIdeal)
    ∧ preserves_SecondBack_SecondBackIdeal
    ∧ algebraic_SecondBackIdeal_SecondBackReferenceIdeal (hSecondBackIdeal := hSecondBackIdeal) (hSecondBackReferenceIdeal := hSecondBackReferenceIdeal)
    ∧ preserves_SumWIn_SumWInIdeal
    ∧ algebraic_SumWInIdeal_SumWInReferenceIdeal (hSumWInIdeal := hSumWInIdeal) (hSumWInReferenceIdeal := hSumWInReferenceIdeal)
    ∧ preserves_SumWOut_SumWOutIdeal
    ∧ algebraic_SumWOutIdeal_SumWOutReferenceIdeal (hSumWOutIdeal := hSumWOutIdeal) (hSumWOutReferenceIdeal := hSumWOutReferenceIdeal)
    ∧ preserves_SumFfn1_SumFfn1Ideal
    ∧ algebraic_SumFfn1Ideal_SumFfn1ReferenceIdeal (hSumFfn1Ideal := hSumFfn1Ideal) (hSumFfn1ReferenceIdeal := hSumFfn1ReferenceIdeal)
    ∧ preserves_SumFfn2_SumFfn2Ideal
    ∧ algebraic_SumFfn2Ideal_SumFfn2ReferenceIdeal (hSumFfn2Ideal := hSumFfn2Ideal) (hSumFfn2ReferenceIdeal := hSumFfn2ReferenceIdeal)
    ∧ preserves_SumGlu_SumGluIdeal
    ∧ algebraic_SumGluIdeal_SumGluReferenceIdeal (hSumGluIdeal := hSumGluIdeal) (hSumGluReferenceIdeal := hSumGluReferenceIdeal)
    ∧ preserves_SumRk_SumRkIdeal
    ∧ algebraic_SumRkIdeal_SumRkReferenceIdeal (hSumRkIdeal := hSumRkIdeal) (hSumRkReferenceIdeal := hSumRkReferenceIdeal)
    ∧ preserves_SumU_SumUIdeal
    ∧ algebraic_SumUIdeal_SumUReferenceIdeal (hSumUIdeal := hSumUIdeal) (hSumUReferenceIdeal := hSumUReferenceIdeal)
    ∧ preserves_Silu_SiluIdeal
    ∧ algebraic_SiluIdeal_SiluReferenceIdeal (hSiluIdeal := hSiluIdeal) (hSiluReferenceIdeal := hSiluReferenceIdeal)
-- ==== Kernel.lean ====
abbrev S8x1536 : Shape := ⟨2, ![8, 1536]⟩
abbrev S2048x564 : Shape := ⟨2, ![2048, 564]⟩
abbrev S256x2048 : Shape := ⟨2, ![256, 2048]⟩
abbrev S2048x1024 : Shape := ⟨2, ![2048, 1024]⟩
abbrev S1024x2048 : Shape := ⟨2, ![1024, 2048]⟩
abbrev S128x1024 : Shape := ⟨2, ![128, 1024]⟩
abbrev S432x128 : Shape := ⟨2, ![432, 128]⟩
abbrev S8x8x1536 : Shape := ⟨3, ![8, 8, 1536]⟩
abbrev S8x2048x564 : Shape := ⟨3, ![8, 2048, 564]⟩
abbrev S8x256x2048 : Shape := ⟨3, ![8, 256, 2048]⟩
abbrev S8x2048x1024 : Shape := ⟨3, ![8, 2048, 1024]⟩
abbrev S8x1024x2048 : Shape := ⟨3, ![8, 1024, 2048]⟩
abbrev S8x128x1024 : Shape := ⟨3, ![8, 128, 1024]⟩
abbrev S8x432x128 : Shape := ⟨3, ![8, 432, 128]⟩
abbrev S7x7 : Shape := ⟨2, ![7, 7]⟩
abbrev S7 : Shape := ⟨1, ![7]⟩
abbrev S1 : Shape := ⟨1, ![1]⟩
abbrev S_ : Shape := ⟨0, ![]⟩
abbrev S1x8x1536 : Shape := ⟨3, ![1, 8, 1536]⟩
abbrev S1x2048x564 : Shape := ⟨3, ![1, 2048, 564]⟩
abbrev S1x256x2048 : Shape := ⟨3, ![1, 256, 2048]⟩
abbrev S1x2048x1024 : Shape := ⟨3, ![1, 2048, 1024]⟩
abbrev S1x1024x2048 : Shape := ⟨3, ![1, 1024, 2048]⟩
abbrev S1x128x1024 : Shape := ⟨3, ![1, 128, 1024]⟩
abbrev S1x432x128 : Shape := ⟨3, ![1, 432, 128]⟩
abbrev S1x1 : Shape := ⟨2, ![1, 1]⟩

abbrev nBuf : Space → Nat
  | .hbm => 14
  | .vmem => 0
  | .smem => 0
  | _ => 0

abbrev bufTy : (tb : Table) → Fin (tcTables nBuf tb) → BufTy
  | .hbm, ⟨0, _⟩ => ⟨S8x1536, .f32⟩
  | .hbm, ⟨1, _⟩ => ⟨S2048x564, .bf16⟩
  | .hbm, ⟨2, _⟩ => ⟨S256x2048, .bf16⟩
  | .hbm, ⟨3, _⟩ => ⟨S2048x1024, .bf16⟩
  | .hbm, ⟨4, _⟩ => ⟨S1024x2048, .bf16⟩
  | .hbm, ⟨5, _⟩ => ⟨S128x1024, .bf16⟩
  | .hbm, ⟨6, _⟩ => ⟨S432x128, .f32⟩
  | .hbm, ⟨7, _⟩ => ⟨S8x8x1536, .f32⟩
  | .hbm, ⟨8, _⟩ => ⟨S8x2048x564, .bf16⟩
  | .hbm, ⟨9, _⟩ => ⟨S8x256x2048, .bf16⟩
  | .hbm, ⟨10, _⟩ => ⟨S8x2048x1024, .bf16⟩
  | .hbm, ⟨11, _⟩ => ⟨S8x1024x2048, .bf16⟩
  | .hbm, ⟨12, _⟩ => ⟨S8x128x1024, .bf16⟩
  | .hbm, ⟨13, _⟩ => ⟨S8x432x128, .f32⟩
  | _, _ => ⟨S8x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 105 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | _ => false

abbrev sig : RefSig :=
  ofTc nBuf bufTy 0 105 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_v1_6 : Ref sig .tc := ⟨.hbm, 13, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_22 : BitVec 32 := 0#32
  let c0_i32_23 : BitVec 32 := 0#32
  ![v17.toNat, 0, 0]
def k0_off2 (d0 : Dev nD) : Fin 3 → Nat :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_10 v2
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_11 v5
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi v20 v8
  let c0_i32_25 : BitVec 32 := 0#32
  let c0_i32_26 : BitVec 32 := 0#32
  ![v21.toNat, 0, 0]
def k0_off3 (d0 : Dev nD) : Fin 3 → Nat :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.muli c4_i32_12 v2
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.muli c2_i32_13 v5
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.addi v24 v8
  let c0_i32_28 : BitVec 32 := 0#32
  let c0_i32_29 : BitVec 32 := 0#32
  ![v25.toNat, 0, 0]
def k0_off4 (d0 : Dev nD) : Fin 3 → Nat :=
  let c4_i32_14 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v26 : BitVec 32 := Scalar.muli c4_i32_14 v2
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.muli c2_i32_15 v5
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.addi v28 v8
  let c0_i32_30 : BitVec 32 := 0#32
  let c0_i32_31 : BitVec 32 := 0#32
  ![v29.toNat, 0, 0]
def k0_off5 (d0 : Dev nD) : Fin 3 → Nat :=
  let c4_i32_16 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : BitVec 32 := Scalar.muli c4_i32_16 v2
  let c2_i32_17 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_17 v5
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.addi v32 v8
  let c0_i32_33 : BitVec 32 := 0#32
  let c0_i32_34 : BitVec 32 := 0#32
  ![v33.toNat, 0, 0]
def k0_off6 (d0 : Dev nD) : Fin 3 → Nat :=
  let c4_i32_18 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.muli c4_i32_18 v2
  let c2_i32_19 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.muli c2_i32_19 v5
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.addi v36 v8
  let c0_i32_35 : BitVec 32 := 0#32
  let c0_i32_36 : BitVec 32 := 0#32
  ![v37.toNat, 0, 0]
def k0_off7 (d0 : Dev nD) : Fin 3 → Nat :=
  let c4_i32_20 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.muli c4_i32_20 v2
  let c2_i32_21 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.muli c2_i32_21 v5
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.addi v40 v8
  let c0_i32_37 : BitVec 32 := 0#32
  let c0_i32_38 : BitVec 32 := 0#32
  ![v41.toNat, 0, 0]
def k0_dev1 (d0 : Dev nD) : Nat :=
  let c0_i32_100 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_99 : BitVec 32 := 4#32
  let v182 : BitVec 32 := Scalar.muli v2 c4_i32_99
  let v183 : BitVec 32 := Scalar.addi c0_i32_100 v182
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_101 : BitVec 32 := 2#32
  let v184 : BitVec 32 := Scalar.muli v5 c2_i32_101
  let v185 : BitVec 32 := Scalar.addi v183 v184
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_102 : BitVec 32 := 1#32
  let v186 : BitVec 32 := Scalar.muli v9 c1_i32_102
  let v187 : BitVec 32 := Scalar.addi v185 v186
  v187.toNat
def k0_dev2 (d0 : Dev nD) : Nat :=
  let c0_i32_110 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_109 : BitVec 32 := 4#32
  let v194 : BitVec 32 := Scalar.muli v10 c4_i32_109
  let v195 : BitVec 32 := Scalar.addi c0_i32_110 v194
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_111 : BitVec 32 := 2#32
  let v196 : BitVec 32 := Scalar.muli v5 c2_i32_111
  let v197 : BitVec 32 := Scalar.addi v195 v196
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_112 : BitVec 32 := 1#32
  let v198 : BitVec 32 := Scalar.muli v8 c1_i32_112
  let v199 : BitVec 32 := Scalar.addi v197 v198
  v199.toNat
def k0_dev3 (d0 : Dev nD) : Nat :=
  let c0_i32_120 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_119 : BitVec 32 := 4#32
  let v206 : BitVec 32 := Scalar.muli v2 c4_i32_119
  let v207 : BitVec 32 := Scalar.addi c0_i32_120 v206
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_121 : BitVec 32 := 2#32
  let v208 : BitVec 32 := Scalar.muli v11 c2_i32_121
  let v209 : BitVec 32 := Scalar.addi v207 v208
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_122 : BitVec 32 := 1#32
  let v210 : BitVec 32 := Scalar.muli v8 c1_i32_122
  let v211 : BitVec 32 := Scalar.addi v209 v210
  v211.toNat
def k0_dev4 (d0 : Dev nD) : Nat :=
  let c0_i32_130 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_129 : BitVec 32 := 4#32
  let v218 : BitVec 32 := Scalar.muli v12 c4_i32_129
  let v219 : BitVec 32 := Scalar.addi c0_i32_130 v218
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_131 : BitVec 32 := 2#32
  let v220 : BitVec 32 := Scalar.muli v13 c2_i32_131
  let v221 : BitVec 32 := Scalar.addi v219 v220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_132 : BitVec 32 := 1#32
  let v222 : BitVec 32 := Scalar.muli v8 c1_i32_132
  let v223 : BitVec 32 := Scalar.addi v221 v222
  v223.toNat
def k0_dev5 (d0 : Dev nD) : Nat :=
  let c0_i32_140 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_139 : BitVec 32 := 4#32
  let v230 : BitVec 32 := Scalar.muli v2 c4_i32_139
  let v231 : BitVec 32 := Scalar.addi c0_i32_140 v230
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_141 : BitVec 32 := 2#32
  let v232 : BitVec 32 := Scalar.muli v5 c2_i32_141
  let v233 : BitVec 32 := Scalar.addi v231 v232
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_142 : BitVec 32 := 1#32
  let v234 : BitVec 32 := Scalar.muli v9 c1_i32_142
  let v235 : BitVec 32 := Scalar.addi v233 v234
  v235.toNat
def k0_dev6 (d0 : Dev nD) : Nat :=
  let c0_i32_150 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_149 : BitVec 32 := 4#32
  let v242 : BitVec 32 := Scalar.muli v10 c4_i32_149
  let v243 : BitVec 32 := Scalar.addi c0_i32_150 v242
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_151 : BitVec 32 := 2#32
  let v244 : BitVec 32 := Scalar.muli v5 c2_i32_151
  let v245 : BitVec 32 := Scalar.addi v243 v244
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_152 : BitVec 32 := 1#32
  let v246 : BitVec 32 := Scalar.muli v8 c1_i32_152
  let v247 : BitVec 32 := Scalar.addi v245 v246
  v247.toNat
def k0_dev7 (d0 : Dev nD) : Nat :=
  let c0_i32_160 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_159 : BitVec 32 := 4#32
  let v254 : BitVec 32 := Scalar.muli v2 c4_i32_159
  let v255 : BitVec 32 := Scalar.addi c0_i32_160 v254
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_161 : BitVec 32 := 2#32
  let v256 : BitVec 32 := Scalar.muli v11 c2_i32_161
  let v257 : BitVec 32 := Scalar.addi v255 v256
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_162 : BitVec 32 := 1#32
  let v258 : BitVec 32 := Scalar.muli v8 c1_i32_162
  let v259 : BitVec 32 := Scalar.addi v257 v258
  v259.toNat
def k0_dev8 (d0 : Dev nD) : Nat :=
  let c0_i32_170 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_169 : BitVec 32 := 4#32
  let v266 : BitVec 32 := Scalar.muli v12 c4_i32_169
  let v267 : BitVec 32 := Scalar.addi c0_i32_170 v266
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_171 : BitVec 32 := 2#32
  let v268 : BitVec 32 := Scalar.muli v13 c2_i32_171
  let v269 : BitVec 32 := Scalar.addi v267 v268
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_172 : BitVec 32 := 1#32
  let v270 : BitVec 32 := Scalar.muli v8 c1_i32_172
  let v271 : BitVec 32 := Scalar.addi v269 v270
  v271.toNat
def k0_dev9 (d0 : Dev nD) : Nat :=
  let c0_i32_180 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_179 : BitVec 32 := 4#32
  let v278 : BitVec 32 := Scalar.muli v2 c4_i32_179
  let v279 : BitVec 32 := Scalar.addi c0_i32_180 v278
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_181 : BitVec 32 := 2#32
  let v280 : BitVec 32 := Scalar.muli v5 c2_i32_181
  let v281 : BitVec 32 := Scalar.addi v279 v280
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_182 : BitVec 32 := 1#32
  let v282 : BitVec 32 := Scalar.muli v9 c1_i32_182
  let v283 : BitVec 32 := Scalar.addi v281 v282
  v283.toNat
def k0_dev10 (d0 : Dev nD) : Nat :=
  let c0_i32_190 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_189 : BitVec 32 := 4#32
  let v290 : BitVec 32 := Scalar.muli v10 c4_i32_189
  let v291 : BitVec 32 := Scalar.addi c0_i32_190 v290
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_191 : BitVec 32 := 2#32
  let v292 : BitVec 32 := Scalar.muli v5 c2_i32_191
  let v293 : BitVec 32 := Scalar.addi v291 v292
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_192 : BitVec 32 := 1#32
  let v294 : BitVec 32 := Scalar.muli v8 c1_i32_192
  let v295 : BitVec 32 := Scalar.addi v293 v294
  v295.toNat
def k0_dev11 (d0 : Dev nD) : Nat :=
  let c0_i32_200 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_199 : BitVec 32 := 4#32
  let v302 : BitVec 32 := Scalar.muli v2 c4_i32_199
  let v303 : BitVec 32 := Scalar.addi c0_i32_200 v302
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_201 : BitVec 32 := 2#32
  let v304 : BitVec 32 := Scalar.muli v11 c2_i32_201
  let v305 : BitVec 32 := Scalar.addi v303 v304
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_202 : BitVec 32 := 1#32
  let v306 : BitVec 32 := Scalar.muli v8 c1_i32_202
  let v307 : BitVec 32 := Scalar.addi v305 v306
  v307.toNat
def k0_dev12 (d0 : Dev nD) : Nat :=
  let c0_i32_210 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_209 : BitVec 32 := 4#32
  let v314 : BitVec 32 := Scalar.muli v12 c4_i32_209
  let v315 : BitVec 32 := Scalar.addi c0_i32_210 v314
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_211 : BitVec 32 := 2#32
  let v316 : BitVec 32 := Scalar.muli v13 c2_i32_211
  let v317 : BitVec 32 := Scalar.addi v315 v316
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_212 : BitVec 32 := 1#32
  let v318 : BitVec 32 := Scalar.muli v8 c1_i32_212
  let v319 : BitVec 32 := Scalar.addi v317 v318
  v319.toNat
def k0_dev13 (d0 : Dev nD) : Nat :=
  let c0_i32_220 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_219 : BitVec 32 := 4#32
  let v326 : BitVec 32 := Scalar.muli v2 c4_i32_219
  let v327 : BitVec 32 := Scalar.addi c0_i32_220 v326
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_221 : BitVec 32 := 2#32
  let v328 : BitVec 32 := Scalar.muli v5 c2_i32_221
  let v329 : BitVec 32 := Scalar.addi v327 v328
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_222 : BitVec 32 := 1#32
  let v330 : BitVec 32 := Scalar.muli v9 c1_i32_222
  let v331 : BitVec 32 := Scalar.addi v329 v330
  v331.toNat
def k0_dev14 (d0 : Dev nD) : Nat :=
  let c0_i32_230 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_229 : BitVec 32 := 4#32
  let v338 : BitVec 32 := Scalar.muli v10 c4_i32_229
  let v339 : BitVec 32 := Scalar.addi c0_i32_230 v338
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_231 : BitVec 32 := 2#32
  let v340 : BitVec 32 := Scalar.muli v5 c2_i32_231
  let v341 : BitVec 32 := Scalar.addi v339 v340
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_232 : BitVec 32 := 1#32
  let v342 : BitVec 32 := Scalar.muli v8 c1_i32_232
  let v343 : BitVec 32 := Scalar.addi v341 v342
  v343.toNat
def k0_dev15 (d0 : Dev nD) : Nat :=
  let c0_i32_240 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_239 : BitVec 32 := 4#32
  let v350 : BitVec 32 := Scalar.muli v2 c4_i32_239
  let v351 : BitVec 32 := Scalar.addi c0_i32_240 v350
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_241 : BitVec 32 := 2#32
  let v352 : BitVec 32 := Scalar.muli v11 c2_i32_241
  let v353 : BitVec 32 := Scalar.addi v351 v352
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_242 : BitVec 32 := 1#32
  let v354 : BitVec 32 := Scalar.muli v8 c1_i32_242
  let v355 : BitVec 32 := Scalar.addi v353 v354
  v355.toNat
def k0_dev16 (d0 : Dev nD) : Nat :=
  let c0_i32_250 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_249 : BitVec 32 := 4#32
  let v362 : BitVec 32 := Scalar.muli v12 c4_i32_249
  let v363 : BitVec 32 := Scalar.addi c0_i32_250 v362
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_251 : BitVec 32 := 2#32
  let v364 : BitVec 32 := Scalar.muli v13 c2_i32_251
  let v365 : BitVec 32 := Scalar.addi v363 v364
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_252 : BitVec 32 := 1#32
  let v366 : BitVec 32 := Scalar.muli v8 c1_i32_252
  let v367 : BitVec 32 := Scalar.addi v365 v366
  v367.toNat
def k0_dev17 (d0 : Dev nD) : Nat :=
  let c0_i32_260 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_259 : BitVec 32 := 4#32
  let v374 : BitVec 32 := Scalar.muli v2 c4_i32_259
  let v375 : BitVec 32 := Scalar.addi c0_i32_260 v374
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_261 : BitVec 32 := 2#32
  let v376 : BitVec 32 := Scalar.muli v5 c2_i32_261
  let v377 : BitVec 32 := Scalar.addi v375 v376
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_262 : BitVec 32 := 1#32
  let v378 : BitVec 32 := Scalar.muli v9 c1_i32_262
  let v379 : BitVec 32 := Scalar.addi v377 v378
  v379.toNat
def k0_dev18 (d0 : Dev nD) : Nat :=
  let c0_i32_270 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_269 : BitVec 32 := 4#32
  let v386 : BitVec 32 := Scalar.muli v10 c4_i32_269
  let v387 : BitVec 32 := Scalar.addi c0_i32_270 v386
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_271 : BitVec 32 := 2#32
  let v388 : BitVec 32 := Scalar.muli v5 c2_i32_271
  let v389 : BitVec 32 := Scalar.addi v387 v388
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_272 : BitVec 32 := 1#32
  let v390 : BitVec 32 := Scalar.muli v8 c1_i32_272
  let v391 : BitVec 32 := Scalar.addi v389 v390
  v391.toNat
def k0_dev19 (d0 : Dev nD) : Nat :=
  let c0_i32_280 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_279 : BitVec 32 := 4#32
  let v398 : BitVec 32 := Scalar.muli v2 c4_i32_279
  let v399 : BitVec 32 := Scalar.addi c0_i32_280 v398
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_281 : BitVec 32 := 2#32
  let v400 : BitVec 32 := Scalar.muli v11 c2_i32_281
  let v401 : BitVec 32 := Scalar.addi v399 v400
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_282 : BitVec 32 := 1#32
  let v402 : BitVec 32 := Scalar.muli v8 c1_i32_282
  let v403 : BitVec 32 := Scalar.addi v401 v402
  v403.toNat
def k0_dev20 (d0 : Dev nD) : Nat :=
  let c0_i32_290 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_289 : BitVec 32 := 4#32
  let v410 : BitVec 32 := Scalar.muli v12 c4_i32_289
  let v411 : BitVec 32 := Scalar.addi c0_i32_290 v410
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_291 : BitVec 32 := 2#32
  let v412 : BitVec 32 := Scalar.muli v13 c2_i32_291
  let v413 : BitVec 32 := Scalar.addi v411 v412
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_292 : BitVec 32 := 1#32
  let v414 : BitVec 32 := Scalar.muli v8 c1_i32_292
  let v415 : BitVec 32 := Scalar.addi v413 v414
  v415.toNat
def k0_dev21 (d0 : Dev nD) : Nat :=
  let c0_i32_300 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_299 : BitVec 32 := 4#32
  let v422 : BitVec 32 := Scalar.muli v2 c4_i32_299
  let v423 : BitVec 32 := Scalar.addi c0_i32_300 v422
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_301 : BitVec 32 := 2#32
  let v424 : BitVec 32 := Scalar.muli v5 c2_i32_301
  let v425 : BitVec 32 := Scalar.addi v423 v424
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_302 : BitVec 32 := 1#32
  let v426 : BitVec 32 := Scalar.muli v9 c1_i32_302
  let v427 : BitVec 32 := Scalar.addi v425 v426
  v427.toNat
def k0_dev22 (d0 : Dev nD) : Nat :=
  let c0_i32_310 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_309 : BitVec 32 := 4#32
  let v434 : BitVec 32 := Scalar.muli v10 c4_i32_309
  let v435 : BitVec 32 := Scalar.addi c0_i32_310 v434
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_311 : BitVec 32 := 2#32
  let v436 : BitVec 32 := Scalar.muli v5 c2_i32_311
  let v437 : BitVec 32 := Scalar.addi v435 v436
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_312 : BitVec 32 := 1#32
  let v438 : BitVec 32 := Scalar.muli v8 c1_i32_312
  let v439 : BitVec 32 := Scalar.addi v437 v438
  v439.toNat
def k0_dev23 (d0 : Dev nD) : Nat :=
  let c0_i32_320 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_319 : BitVec 32 := 4#32
  let v446 : BitVec 32 := Scalar.muli v2 c4_i32_319
  let v447 : BitVec 32 := Scalar.addi c0_i32_320 v446
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_321 : BitVec 32 := 2#32
  let v448 : BitVec 32 := Scalar.muli v11 c2_i32_321
  let v449 : BitVec 32 := Scalar.addi v447 v448
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_322 : BitVec 32 := 1#32
  let v450 : BitVec 32 := Scalar.muli v8 c1_i32_322
  let v451 : BitVec 32 := Scalar.addi v449 v450
  v451.toNat
def k0_dev24 (d0 : Dev nD) : Nat :=
  let c0_i32_330 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_329 : BitVec 32 := 4#32
  let v458 : BitVec 32 := Scalar.muli v12 c4_i32_329
  let v459 : BitVec 32 := Scalar.addi c0_i32_330 v458
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_331 : BitVec 32 := 2#32
  let v460 : BitVec 32 := Scalar.muli v13 c2_i32_331
  let v461 : BitVec 32 := Scalar.addi v459 v460
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_332 : BitVec 32 := 1#32
  let v462 : BitVec 32 := Scalar.muli v8 c1_i32_332
  let v463 : BitVec 32 := Scalar.addi v461 v462
  v463.toNat
def k0_dev25 (d0 : Dev nD) : Nat :=
  let c0_i32_340 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_339 : BitVec 32 := 4#32
  let v470 : BitVec 32 := Scalar.muli v2 c4_i32_339
  let v471 : BitVec 32 := Scalar.addi c0_i32_340 v470
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_341 : BitVec 32 := 2#32
  let v472 : BitVec 32 := Scalar.muli v5 c2_i32_341
  let v473 : BitVec 32 := Scalar.addi v471 v472
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_342 : BitVec 32 := 1#32
  let v474 : BitVec 32 := Scalar.muli v9 c1_i32_342
  let v475 : BitVec 32 := Scalar.addi v473 v474
  v475.toNat
def k0_dev26 (d0 : Dev nD) : Nat :=
  let c0_i32_350 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_349 : BitVec 32 := 4#32
  let v482 : BitVec 32 := Scalar.muli v10 c4_i32_349
  let v483 : BitVec 32 := Scalar.addi c0_i32_350 v482
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_351 : BitVec 32 := 2#32
  let v484 : BitVec 32 := Scalar.muli v5 c2_i32_351
  let v485 : BitVec 32 := Scalar.addi v483 v484
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_352 : BitVec 32 := 1#32
  let v486 : BitVec 32 := Scalar.muli v8 c1_i32_352
  let v487 : BitVec 32 := Scalar.addi v485 v486
  v487.toNat
def k0_dev27 (d0 : Dev nD) : Nat :=
  let c0_i32_360 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_359 : BitVec 32 := 4#32
  let v494 : BitVec 32 := Scalar.muli v2 c4_i32_359
  let v495 : BitVec 32 := Scalar.addi c0_i32_360 v494
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_361 : BitVec 32 := 2#32
  let v496 : BitVec 32 := Scalar.muli v11 c2_i32_361
  let v497 : BitVec 32 := Scalar.addi v495 v496
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_362 : BitVec 32 := 1#32
  let v498 : BitVec 32 := Scalar.muli v8 c1_i32_362
  let v499 : BitVec 32 := Scalar.addi v497 v498
  v499.toNat
def k0_dev28 (d0 : Dev nD) : Nat :=
  let c0_i32_370 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_369 : BitVec 32 := 4#32
  let v506 : BitVec 32 := Scalar.muli v12 c4_i32_369
  let v507 : BitVec 32 := Scalar.addi c0_i32_370 v506
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_371 : BitVec 32 := 2#32
  let v508 : BitVec 32 := Scalar.muli v13 c2_i32_371
  let v509 : BitVec 32 := Scalar.addi v507 v508
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_372 : BitVec 32 := 1#32
  let v510 : BitVec 32 := Scalar.muli v8 c1_i32_372
  let v511 : BitVec 32 := Scalar.addi v509 v510
  v511.toNat
def k0_off8 (d0 : Dev nD) : Fin 3 → Nat :=
  let c4_i32_377 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v522 : BitVec 32 := Scalar.muli c4_i32_377 v10
  let c2_i32_378 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v523 : BitVec 32 := Scalar.muli c2_i32_378 v5
  let v524 : BitVec 32 := Scalar.addi v522 v523
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v525 : BitVec 32 := Scalar.addi v524 v8
  let c0_i32_387 : BitVec 32 := 0#32
  let c0_i32_388 : BitVec 32 := 0#32
  ![v525.toNat, 0, 0]
def k0_dev29 (d0 : Dev nD) : Nat :=
  let c0_i32_400 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_399 : BitVec 32 := 4#32
  let v546 : BitVec 32 := Scalar.muli v2 c4_i32_399
  let v547 : BitVec 32 := Scalar.addi c0_i32_400 v546
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_401 : BitVec 32 := 2#32
  let v548 : BitVec 32 := Scalar.muli v5 c2_i32_401
  let v549 : BitVec 32 := Scalar.addi v547 v548
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_402 : BitVec 32 := 1#32
  let v550 : BitVec 32 := Scalar.muli v9 c1_i32_402
  let v551 : BitVec 32 := Scalar.addi v549 v550
  v551.toNat
def k0_off9 (d0 : Dev nD) : Fin 3 → Nat :=
  let c4_i32_409 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v564 : BitVec 32 := Scalar.muli c4_i32_409 v10
  let c2_i32_410 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v565 : BitVec 32 := Scalar.muli c2_i32_410 v5
  let v566 : BitVec 32 := Scalar.addi v564 v565
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v567 : BitVec 32 := Scalar.addi v566 v8
  let c0_i32_419 : BitVec 32 := 0#32
  let c0_i32_420 : BitVec 32 := 0#32
  ![v567.toNat, 0, 0]
def k0_dev30 (d0 : Dev nD) : Nat :=
  let c0_i32_432 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_431 : BitVec 32 := 4#32
  let v588 : BitVec 32 := Scalar.muli v2 c4_i32_431
  let v589 : BitVec 32 := Scalar.addi c0_i32_432 v588
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_433 : BitVec 32 := 2#32
  let v590 : BitVec 32 := Scalar.muli v5 c2_i32_433
  let v591 : BitVec 32 := Scalar.addi v589 v590
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_434 : BitVec 32 := 1#32
  let v592 : BitVec 32 := Scalar.muli v9 c1_i32_434
  let v593 : BitVec 32 := Scalar.addi v591 v592
  v593.toNat
def k0_off10 (d0 : Dev nD) : Fin 3 → Nat :=
  let c4_i32_441 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v606 : BitVec 32 := Scalar.muli c4_i32_441 v10
  let c2_i32_442 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v607 : BitVec 32 := Scalar.muli c2_i32_442 v5
  let v608 : BitVec 32 := Scalar.addi v606 v607
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v609 : BitVec 32 := Scalar.addi v608 v8
  let c0_i32_451 : BitVec 32 := 0#32
  let c0_i32_452 : BitVec 32 := 0#32
  ![v609.toNat, 0, 0]
def k0_dev31 (d0 : Dev nD) : Nat :=
  let c0_i32_464 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_463 : BitVec 32 := 4#32
  let v630 : BitVec 32 := Scalar.muli v2 c4_i32_463
  let v631 : BitVec 32 := Scalar.addi c0_i32_464 v630
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_465 : BitVec 32 := 2#32
  let v632 : BitVec 32 := Scalar.muli v5 c2_i32_465
  let v633 : BitVec 32 := Scalar.addi v631 v632
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_466 : BitVec 32 := 1#32
  let v634 : BitVec 32 := Scalar.muli v9 c1_i32_466
  let v635 : BitVec 32 := Scalar.addi v633 v634
  v635.toNat
def k0_off11 (d0 : Dev nD) : Fin 3 → Nat :=
  let c4_i32_473 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v648 : BitVec 32 := Scalar.muli c4_i32_473 v10
  let c2_i32_474 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v649 : BitVec 32 := Scalar.muli c2_i32_474 v5
  let v650 : BitVec 32 := Scalar.addi v648 v649
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v651 : BitVec 32 := Scalar.addi v650 v8
  let c0_i32_483 : BitVec 32 := 0#32
  let c0_i32_484 : BitVec 32 := 0#32
  ![v651.toNat, 0, 0]
def k0_dev32 (d0 : Dev nD) : Nat :=
  let c0_i32_496 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_495 : BitVec 32 := 4#32
  let v672 : BitVec 32 := Scalar.muli v2 c4_i32_495
  let v673 : BitVec 32 := Scalar.addi c0_i32_496 v672
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_497 : BitVec 32 := 2#32
  let v674 : BitVec 32 := Scalar.muli v5 c2_i32_497
  let v675 : BitVec 32 := Scalar.addi v673 v674
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_498 : BitVec 32 := 1#32
  let v676 : BitVec 32 := Scalar.muli v9 c1_i32_498
  let v677 : BitVec 32 := Scalar.addi v675 v676
  v677.toNat
def k0_off12 (d0 : Dev nD) : Fin 3 → Nat :=
  let c4_i32_505 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v690 : BitVec 32 := Scalar.muli c4_i32_505 v10
  let c2_i32_506 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v691 : BitVec 32 := Scalar.muli c2_i32_506 v5
  let v692 : BitVec 32 := Scalar.addi v690 v691
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v693 : BitVec 32 := Scalar.addi v692 v8
  let c0_i32_515 : BitVec 32 := 0#32
  let c0_i32_516 : BitVec 32 := 0#32
  ![v693.toNat, 0, 0]
def k0_dev33 (d0 : Dev nD) : Nat :=
  let c0_i32_528 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_527 : BitVec 32 := 4#32
  let v714 : BitVec 32 := Scalar.muli v2 c4_i32_527
  let v715 : BitVec 32 := Scalar.addi c0_i32_528 v714
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_529 : BitVec 32 := 2#32
  let v716 : BitVec 32 := Scalar.muli v5 c2_i32_529
  let v717 : BitVec 32 := Scalar.addi v715 v716
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_530 : BitVec 32 := 1#32
  let v718 : BitVec 32 := Scalar.muli v9 c1_i32_530
  let v719 : BitVec 32 := Scalar.addi v717 v718
  v719.toNat
def k0_off13 (d0 : Dev nD) : Fin 3 → Nat :=
  let c4_i32_537 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v732 : BitVec 32 := Scalar.muli c4_i32_537 v10
  let c2_i32_538 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v733 : BitVec 32 := Scalar.muli c2_i32_538 v5
  let v734 : BitVec 32 := Scalar.addi v732 v733
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v735 : BitVec 32 := Scalar.addi v734 v8
  let c0_i32_547 : BitVec 32 := 0#32
  let c0_i32_548 : BitVec 32 := 0#32
  ![v735.toNat, 0, 0]
def k0_dev34 (d0 : Dev nD) : Nat :=
  let c0_i32_560 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_559 : BitVec 32 := 4#32
  let v756 : BitVec 32 := Scalar.muli v2 c4_i32_559
  let v757 : BitVec 32 := Scalar.addi c0_i32_560 v756
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_561 : BitVec 32 := 2#32
  let v758 : BitVec 32 := Scalar.muli v5 c2_i32_561
  let v759 : BitVec 32 := Scalar.addi v757 v758
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_562 : BitVec 32 := 1#32
  let v760 : BitVec 32 := Scalar.muli v9 c1_i32_562
  let v761 : BitVec 32 := Scalar.addi v759 v760
  v761.toNat
def k0_off14 (d0 : Dev nD) : Fin 3 → Nat :=
  let c4_i32_569 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v774 : BitVec 32 := Scalar.muli c4_i32_569 v10
  let c2_i32_570 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v775 : BitVec 32 := Scalar.muli c2_i32_570 v5
  let v776 : BitVec 32 := Scalar.addi v774 v775
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v777 : BitVec 32 := Scalar.addi v776 v8
  let c0_i32_579 : BitVec 32 := 0#32
  let c0_i32_580 : BitVec 32 := 0#32
  ![v777.toNat, 0, 0]
def k0_dev35 (d0 : Dev nD) : Nat :=
  let c0_i32_592 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_591 : BitVec 32 := 4#32
  let v798 : BitVec 32 := Scalar.muli v2 c4_i32_591
  let v799 : BitVec 32 := Scalar.addi c0_i32_592 v798
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_593 : BitVec 32 := 2#32
  let v800 : BitVec 32 := Scalar.muli v5 c2_i32_593
  let v801 : BitVec 32 := Scalar.addi v799 v800
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_594 : BitVec 32 := 1#32
  let v802 : BitVec 32 := Scalar.muli v9 c1_i32_594
  let v803 : BitVec 32 := Scalar.addi v801 v802
  v803.toNat
def k0_off15 (d0 : Dev nD) : Fin 3 → Nat :=
  let c4_i32_601 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v816 : BitVec 32 := Scalar.muli c4_i32_601 v2
  let c2_i32_602 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v817 : BitVec 32 := Scalar.muli c2_i32_602 v11
  let v818 : BitVec 32 := Scalar.addi v816 v817
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v819 : BitVec 32 := Scalar.addi v818 v8
  let c0_i32_611 : BitVec 32 := 0#32
  let c0_i32_612 : BitVec 32 := 0#32
  ![v819.toNat, 0, 0]
def k0_dev36 (d0 : Dev nD) : Nat :=
  let c0_i32_624 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_623 : BitVec 32 := 4#32
  let v840 : BitVec 32 := Scalar.muli v2 c4_i32_623
  let v841 : BitVec 32 := Scalar.addi c0_i32_624 v840
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_625 : BitVec 32 := 2#32
  let v842 : BitVec 32 := Scalar.muli v5 c2_i32_625
  let v843 : BitVec 32 := Scalar.addi v841 v842
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_626 : BitVec 32 := 1#32
  let v844 : BitVec 32 := Scalar.muli v9 c1_i32_626
  let v845 : BitVec 32 := Scalar.addi v843 v844
  v845.toNat
def k0_off16 (d0 : Dev nD) : Fin 3 → Nat :=
  let c4_i32_633 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v858 : BitVec 32 := Scalar.muli c4_i32_633 v2
  let c2_i32_634 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v859 : BitVec 32 := Scalar.muli c2_i32_634 v11
  let v860 : BitVec 32 := Scalar.addi v858 v859
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v861 : BitVec 32 := Scalar.addi v860 v8
  let c0_i32_643 : BitVec 32 := 0#32
  let c0_i32_644 : BitVec 32 := 0#32
  ![v861.toNat, 0, 0]
def k0_dev37 (d0 : Dev nD) : Nat :=
  let c0_i32_656 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_655 : BitVec 32 := 4#32
  let v882 : BitVec 32 := Scalar.muli v2 c4_i32_655
  let v883 : BitVec 32 := Scalar.addi c0_i32_656 v882
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_657 : BitVec 32 := 2#32
  let v884 : BitVec 32 := Scalar.muli v5 c2_i32_657
  let v885 : BitVec 32 := Scalar.addi v883 v884
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_658 : BitVec 32 := 1#32
  let v886 : BitVec 32 := Scalar.muli v9 c1_i32_658
  let v887 : BitVec 32 := Scalar.addi v885 v886
  v887.toNat
def k0_off17 (d0 : Dev nD) : Fin 3 → Nat :=
  let c4_i32_665 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v900 : BitVec 32 := Scalar.muli c4_i32_665 v2
  let c2_i32_666 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v901 : BitVec 32 := Scalar.muli c2_i32_666 v11
  let v902 : BitVec 32 := Scalar.addi v900 v901
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v903 : BitVec 32 := Scalar.addi v902 v8
  let c0_i32_675 : BitVec 32 := 0#32
  let c0_i32_676 : BitVec 32 := 0#32
  ![v903.toNat, 0, 0]
def k0_dev38 (d0 : Dev nD) : Nat :=
  let c0_i32_688 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_687 : BitVec 32 := 4#32
  let v924 : BitVec 32 := Scalar.muli v2 c4_i32_687
  let v925 : BitVec 32 := Scalar.addi c0_i32_688 v924
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_689 : BitVec 32 := 2#32
  let v926 : BitVec 32 := Scalar.muli v5 c2_i32_689
  let v927 : BitVec 32 := Scalar.addi v925 v926
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_690 : BitVec 32 := 1#32
  let v928 : BitVec 32 := Scalar.muli v9 c1_i32_690
  let v929 : BitVec 32 := Scalar.addi v927 v928
  v929.toNat
def k0_off18 (d0 : Dev nD) : Fin 3 → Nat :=
  let c4_i32_697 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v942 : BitVec 32 := Scalar.muli c4_i32_697 v2
  let c2_i32_698 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v943 : BitVec 32 := Scalar.muli c2_i32_698 v11
  let v944 : BitVec 32 := Scalar.addi v942 v943
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v945 : BitVec 32 := Scalar.addi v944 v8
  let c0_i32_707 : BitVec 32 := 0#32
  let c0_i32_708 : BitVec 32 := 0#32
  ![v945.toNat, 0, 0]
def k0_dev39 (d0 : Dev nD) : Nat :=
  let c0_i32_720 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_719 : BitVec 32 := 4#32
  let v966 : BitVec 32 := Scalar.muli v2 c4_i32_719
  let v967 : BitVec 32 := Scalar.addi c0_i32_720 v966
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_721 : BitVec 32 := 2#32
  let v968 : BitVec 32 := Scalar.muli v5 c2_i32_721
  let v969 : BitVec 32 := Scalar.addi v967 v968
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_722 : BitVec 32 := 1#32
  let v970 : BitVec 32 := Scalar.muli v9 c1_i32_722
  let v971 : BitVec 32 := Scalar.addi v969 v970
  v971.toNat
def k0_off19 (d0 : Dev nD) : Fin 3 → Nat :=
  let c4_i32_729 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v984 : BitVec 32 := Scalar.muli c4_i32_729 v2
  let c2_i32_730 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v985 : BitVec 32 := Scalar.muli c2_i32_730 v11
  let v986 : BitVec 32 := Scalar.addi v984 v985
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v987 : BitVec 32 := Scalar.addi v986 v8
  let c0_i32_739 : BitVec 32 := 0#32
  let c0_i32_740 : BitVec 32 := 0#32
  ![v987.toNat, 0, 0]
def k0_dev40 (d0 : Dev nD) : Nat :=
  let c0_i32_752 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_751 : BitVec 32 := 4#32
  let v1008 : BitVec 32 := Scalar.muli v2 c4_i32_751
  let v1009 : BitVec 32 := Scalar.addi c0_i32_752 v1008
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_753 : BitVec 32 := 2#32
  let v1010 : BitVec 32 := Scalar.muli v5 c2_i32_753
  let v1011 : BitVec 32 := Scalar.addi v1009 v1010
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_754 : BitVec 32 := 1#32
  let v1012 : BitVec 32 := Scalar.muli v9 c1_i32_754
  let v1013 : BitVec 32 := Scalar.addi v1011 v1012
  v1013.toNat
def k0_off20 (d0 : Dev nD) : Fin 3 → Nat :=
  let c4_i32_761 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1026 : BitVec 32 := Scalar.muli c4_i32_761 v2
  let c2_i32_762 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1027 : BitVec 32 := Scalar.muli c2_i32_762 v11
  let v1028 : BitVec 32 := Scalar.addi v1026 v1027
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1029 : BitVec 32 := Scalar.addi v1028 v8
  let c0_i32_771 : BitVec 32 := 0#32
  let c0_i32_772 : BitVec 32 := 0#32
  ![v1029.toNat, 0, 0]
def k0_dev41 (d0 : Dev nD) : Nat :=
  let c0_i32_784 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_783 : BitVec 32 := 4#32
  let v1050 : BitVec 32 := Scalar.muli v2 c4_i32_783
  let v1051 : BitVec 32 := Scalar.addi c0_i32_784 v1050
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_785 : BitVec 32 := 2#32
  let v1052 : BitVec 32 := Scalar.muli v5 c2_i32_785
  let v1053 : BitVec 32 := Scalar.addi v1051 v1052
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_786 : BitVec 32 := 1#32
  let v1054 : BitVec 32 := Scalar.muli v9 c1_i32_786
  let v1055 : BitVec 32 := Scalar.addi v1053 v1054
  v1055.toNat
def k0_off21 (d0 : Dev nD) : Fin 3 → Nat :=
  let c4_i32_793 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1068 : BitVec 32 := Scalar.muli c4_i32_793 v2
  let c2_i32_794 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1069 : BitVec 32 := Scalar.muli c2_i32_794 v11
  let v1070 : BitVec 32 := Scalar.addi v1068 v1069
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1071 : BitVec 32 := Scalar.addi v1070 v8
  let c0_i32_803 : BitVec 32 := 0#32
  let c0_i32_804 : BitVec 32 := 0#32
  ![v1071.toNat, 0, 0]
def k0_dev42 (d0 : Dev nD) : Nat :=
  let c0_i32_816 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_815 : BitVec 32 := 4#32
  let v1092 : BitVec 32 := Scalar.muli v2 c4_i32_815
  let v1093 : BitVec 32 := Scalar.addi c0_i32_816 v1092
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_817 : BitVec 32 := 2#32
  let v1094 : BitVec 32 := Scalar.muli v5 c2_i32_817
  let v1095 : BitVec 32 := Scalar.addi v1093 v1094
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_818 : BitVec 32 := 1#32
  let v1096 : BitVec 32 := Scalar.muli v9 c1_i32_818
  let v1097 : BitVec 32 := Scalar.addi v1095 v1096
  v1097.toNat
def k0_off22 (d0 : Dev nD) : Fin 3 → Nat :=
  let c4_i32_825 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1110 : BitVec 32 := Scalar.muli c4_i32_825 v12
  let c2_i32_826 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1111 : BitVec 32 := Scalar.muli c2_i32_826 v13
  let v1112 : BitVec 32 := Scalar.addi v1110 v1111
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1113 : BitVec 32 := Scalar.addi v1112 v8
  let c0_i32_835 : BitVec 32 := 0#32
  let c0_i32_836 : BitVec 32 := 0#32
  ![v1113.toNat, 0, 0]
def k0_dev43 (d0 : Dev nD) : Nat :=
  let c0_i32_848 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_847 : BitVec 32 := 4#32
  let v1134 : BitVec 32 := Scalar.muli v2 c4_i32_847
  let v1135 : BitVec 32 := Scalar.addi c0_i32_848 v1134
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_849 : BitVec 32 := 2#32
  let v1136 : BitVec 32 := Scalar.muli v5 c2_i32_849
  let v1137 : BitVec 32 := Scalar.addi v1135 v1136
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_850 : BitVec 32 := 1#32
  let v1138 : BitVec 32 := Scalar.muli v9 c1_i32_850
  let v1139 : BitVec 32 := Scalar.addi v1137 v1138
  v1139.toNat
def k0_off23 (d0 : Dev nD) : Fin 3 → Nat :=
  let c4_i32_857 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1152 : BitVec 32 := Scalar.muli c4_i32_857 v12
  let c2_i32_858 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1153 : BitVec 32 := Scalar.muli c2_i32_858 v13
  let v1154 : BitVec 32 := Scalar.addi v1152 v1153
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1155 : BitVec 32 := Scalar.addi v1154 v8
  let c0_i32_867 : BitVec 32 := 0#32
  let c0_i32_868 : BitVec 32 := 0#32
  ![v1155.toNat, 0, 0]
def k0_dev44 (d0 : Dev nD) : Nat :=
  let c0_i32_880 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_879 : BitVec 32 := 4#32
  let v1176 : BitVec 32 := Scalar.muli v2 c4_i32_879
  let v1177 : BitVec 32 := Scalar.addi c0_i32_880 v1176
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_881 : BitVec 32 := 2#32
  let v1178 : BitVec 32 := Scalar.muli v5 c2_i32_881
  let v1179 : BitVec 32 := Scalar.addi v1177 v1178
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_882 : BitVec 32 := 1#32
  let v1180 : BitVec 32 := Scalar.muli v9 c1_i32_882
  let v1181 : BitVec 32 := Scalar.addi v1179 v1180
  v1181.toNat
def k0_off24 (d0 : Dev nD) : Fin 3 → Nat :=
  let c4_i32_889 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1194 : BitVec 32 := Scalar.muli c4_i32_889 v12
  let c2_i32_890 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1195 : BitVec 32 := Scalar.muli c2_i32_890 v13
  let v1196 : BitVec 32 := Scalar.addi v1194 v1195
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1197 : BitVec 32 := Scalar.addi v1196 v8
  let c0_i32_899 : BitVec 32 := 0#32
  let c0_i32_900 : BitVec 32 := 0#32
  ![v1197.toNat, 0, 0]
def k0_dev45 (d0 : Dev nD) : Nat :=
  let c0_i32_912 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_911 : BitVec 32 := 4#32
  let v1218 : BitVec 32 := Scalar.muli v2 c4_i32_911
  let v1219 : BitVec 32 := Scalar.addi c0_i32_912 v1218
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_913 : BitVec 32 := 2#32
  let v1220 : BitVec 32 := Scalar.muli v5 c2_i32_913
  let v1221 : BitVec 32 := Scalar.addi v1219 v1220
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_914 : BitVec 32 := 1#32
  let v1222 : BitVec 32 := Scalar.muli v9 c1_i32_914
  let v1223 : BitVec 32 := Scalar.addi v1221 v1222
  v1223.toNat
def k0_off25 (d0 : Dev nD) : Fin 3 → Nat :=
  let c4_i32_921 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1236 : BitVec 32 := Scalar.muli c4_i32_921 v12
  let c2_i32_922 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1237 : BitVec 32 := Scalar.muli c2_i32_922 v13
  let v1238 : BitVec 32 := Scalar.addi v1236 v1237
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1239 : BitVec 32 := Scalar.addi v1238 v8
  let c0_i32_931 : BitVec 32 := 0#32
  let c0_i32_932 : BitVec 32 := 0#32
  ![v1239.toNat, 0, 0]
def k0_dev46 (d0 : Dev nD) : Nat :=
  let c0_i32_944 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_943 : BitVec 32 := 4#32
  let v1260 : BitVec 32 := Scalar.muli v2 c4_i32_943
  let v1261 : BitVec 32 := Scalar.addi c0_i32_944 v1260
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_945 : BitVec 32 := 2#32
  let v1262 : BitVec 32 := Scalar.muli v5 c2_i32_945
  let v1263 : BitVec 32 := Scalar.addi v1261 v1262
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_946 : BitVec 32 := 1#32
  let v1264 : BitVec 32 := Scalar.muli v9 c1_i32_946
  let v1265 : BitVec 32 := Scalar.addi v1263 v1264
  v1265.toNat
def k0_off26 (d0 : Dev nD) : Fin 3 → Nat :=
  let c4_i32_953 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1278 : BitVec 32 := Scalar.muli c4_i32_953 v12
  let c2_i32_954 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1279 : BitVec 32 := Scalar.muli c2_i32_954 v13
  let v1280 : BitVec 32 := Scalar.addi v1278 v1279
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1281 : BitVec 32 := Scalar.addi v1280 v8
  let c0_i32_963 : BitVec 32 := 0#32
  let c0_i32_964 : BitVec 32 := 0#32
  ![v1281.toNat, 0, 0]
def k0_dev47 (d0 : Dev nD) : Nat :=
  let c0_i32_976 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_975 : BitVec 32 := 4#32
  let v1302 : BitVec 32 := Scalar.muli v2 c4_i32_975
  let v1303 : BitVec 32 := Scalar.addi c0_i32_976 v1302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_977 : BitVec 32 := 2#32
  let v1304 : BitVec 32 := Scalar.muli v5 c2_i32_977
  let v1305 : BitVec 32 := Scalar.addi v1303 v1304
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_978 : BitVec 32 := 1#32
  let v1306 : BitVec 32 := Scalar.muli v9 c1_i32_978
  let v1307 : BitVec 32 := Scalar.addi v1305 v1306
  v1307.toNat
def k0_off27 (d0 : Dev nD) : Fin 3 → Nat :=
  let c4_i32_985 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1320 : BitVec 32 := Scalar.muli c4_i32_985 v12
  let c2_i32_986 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1321 : BitVec 32 := Scalar.muli c2_i32_986 v13
  let v1322 : BitVec 32 := Scalar.addi v1320 v1321
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1323 : BitVec 32 := Scalar.addi v1322 v8
  let c0_i32_995 : BitVec 32 := 0#32
  let c0_i32_996 : BitVec 32 := 0#32
  ![v1323.toNat, 0, 0]
def k0_dev48 (d0 : Dev nD) : Nat :=
  let c0_i32_1008 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1007 : BitVec 32 := 4#32
  let v1344 : BitVec 32 := Scalar.muli v2 c4_i32_1007
  let v1345 : BitVec 32 := Scalar.addi c0_i32_1008 v1344
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1009 : BitVec 32 := 2#32
  let v1346 : BitVec 32 := Scalar.muli v5 c2_i32_1009
  let v1347 : BitVec 32 := Scalar.addi v1345 v1346
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1010 : BitVec 32 := 1#32
  let v1348 : BitVec 32 := Scalar.muli v9 c1_i32_1010
  let v1349 : BitVec 32 := Scalar.addi v1347 v1348
  v1349.toNat
def k0_off28 (d0 : Dev nD) : Fin 3 → Nat :=
  let c4_i32_1017 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1362 : BitVec 32 := Scalar.muli c4_i32_1017 v12
  let c2_i32_1018 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1363 : BitVec 32 := Scalar.muli c2_i32_1018 v13
  let v1364 : BitVec 32 := Scalar.addi v1362 v1363
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1365 : BitVec 32 := Scalar.addi v1364 v8
  let c0_i32_1027 : BitVec 32 := 0#32
  let c0_i32_1028 : BitVec 32 := 0#32
  ![v1365.toNat, 0, 0]
def k0_dev49 (d0 : Dev nD) : Nat :=
  let c0_i32_1040 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1039 : BitVec 32 := 4#32
  let v1386 : BitVec 32 := Scalar.muli v2 c4_i32_1039
  let v1387 : BitVec 32 := Scalar.addi c0_i32_1040 v1386
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1041 : BitVec 32 := 2#32
  let v1388 : BitVec 32 := Scalar.muli v5 c2_i32_1041
  let v1389 : BitVec 32 := Scalar.addi v1387 v1388
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1042 : BitVec 32 := 1#32
  let v1390 : BitVec 32 := Scalar.muli v9 c1_i32_1042
  let v1391 : BitVec 32 := Scalar.addi v1389 v1390
  v1391.toNat
def k0_off29 (d0 : Dev nD) : Fin 3 → Nat :=
  let c4_i32_1049 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1404 : BitVec 32 := Scalar.muli c4_i32_1049 v2
  let c2_i32_1050 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1405 : BitVec 32 := Scalar.muli c2_i32_1050 v5
  let v1406 : BitVec 32 := Scalar.addi v1404 v1405
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1407 : BitVec 32 := Scalar.addi v1406 v9
  let c0_i32_1059 : BitVec 32 := 0#32
  let c0_i32_1060 : BitVec 32 := 0#32
  ![v1407.toNat, 0, 0]
def k0_off30 (d0 : Dev nD) : Fin 3 → Nat :=
  let c4_i32_1065 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1424 : BitVec 32 := Scalar.muli c4_i32_1065 v2
  let c2_i32_1066 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1425 : BitVec 32 := Scalar.muli c2_i32_1066 v5
  let v1426 : BitVec 32 := Scalar.addi v1424 v1425
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1427 : BitVec 32 := Scalar.addi v1426 v9
  let c0_i32_1075 : BitVec 32 := 0#32
  let c0_i32_1076 : BitVec 32 := 0#32
  ![v1427.toNat, 0, 0]
def k0_off31 (d0 : Dev nD) : Fin 3 → Nat :=
  let c4_i32_1081 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1444 : BitVec 32 := Scalar.muli c4_i32_1081 v2
  let c2_i32_1082 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1445 : BitVec 32 := Scalar.muli c2_i32_1082 v5
  let v1446 : BitVec 32 := Scalar.addi v1444 v1445
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1447 : BitVec 32 := Scalar.addi v1446 v9
  let c0_i32_1091 : BitVec 32 := 0#32
  let c0_i32_1092 : BitVec 32 := 0#32
  ![v1447.toNat, 0, 0]
def k0_off32 (d0 : Dev nD) : Fin 3 → Nat :=
  let c4_i32_1097 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1464 : BitVec 32 := Scalar.muli c4_i32_1097 v2
  let c2_i32_1098 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1465 : BitVec 32 := Scalar.muli c2_i32_1098 v5
  let v1466 : BitVec 32 := Scalar.addi v1464 v1465
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1467 : BitVec 32 := Scalar.addi v1466 v9
  let c0_i32_1107 : BitVec 32 := 0#32
  let c0_i32_1108 : BitVec 32 := 0#32
  ![v1467.toNat, 0, 0]
def k0_off33 (d0 : Dev nD) : Fin 3 → Nat :=
  let c4_i32_1113 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1484 : BitVec 32 := Scalar.muli c4_i32_1113 v2
  let c2_i32_1114 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1485 : BitVec 32 := Scalar.muli c2_i32_1114 v5
  let v1486 : BitVec 32 := Scalar.addi v1484 v1485
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1487 : BitVec 32 := Scalar.addi v1486 v9
  let c0_i32_1123 : BitVec 32 := 0#32
  let c0_i32_1124 : BitVec 32 := 0#32
  ![v1487.toNat, 0, 0]
def k0_off34 (d0 : Dev nD) : Fin 3 → Nat :=
  let c4_i32_1129 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1504 : BitVec 32 := Scalar.muli c4_i32_1129 v2
  let c2_i32_1130 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1505 : BitVec 32 := Scalar.muli c2_i32_1130 v5
  let v1506 : BitVec 32 := Scalar.addi v1504 v1505
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1507 : BitVec 32 := Scalar.addi v1506 v9
  let c0_i32_1139 : BitVec 32 := 0#32
  let c0_i32_1140 : BitVec 32 := 0#32
  ![v1507.toNat, 0, 0]
def k0_off35 (d0 : Dev nD) : Fin 3 → Nat :=
  let c4_i32_1145 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1524 : BitVec 32 := Scalar.muli c4_i32_1145 v2
  let c2_i32_1146 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1525 : BitVec 32 := Scalar.muli c2_i32_1146 v5
  let v1526 : BitVec 32 := Scalar.addi v1524 v1525
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1527 : BitVec 32 := Scalar.addi v1526 v9
  let c0_i32_1155 : BitVec 32 := 0#32
  let c0_i32_1156 : BitVec 32 := 0#32
  ![v1527.toNat, 0, 0]
def k0_off36 (d0 : Dev nD) : Fin 3 → Nat :=
  let c4_i32_1162 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1545 : BitVec 32 := Scalar.muli c4_i32_1162 v10
  let c2_i32_1163 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1546 : BitVec 32 := Scalar.muli c2_i32_1163 v5
  let v1547 : BitVec 32 := Scalar.addi v1545 v1546
  let c1_i32_1159 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1540 : BitVec 32 := Scalar.subi c1_i32_1159 v8
  let v1548 : BitVec 32 := Scalar.addi v1547 v1540
  let c0_i32_1172 : BitVec 32 := 0#32
  let c0_i32_1173 : BitVec 32 := 0#32
  ![v1548.toNat, 0, 0]
def k0_off37 (d0 : Dev nD) : Fin 3 → Nat :=
  let c4_i32_1179 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1566 : BitVec 32 := Scalar.muli c4_i32_1179 v10
  let c2_i32_1180 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1567 : BitVec 32 := Scalar.muli c2_i32_1180 v5
  let v1568 : BitVec 32 := Scalar.addi v1566 v1567
  let c1_i32_1176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1561 : BitVec 32 := Scalar.subi c1_i32_1176 v8
  let v1569 : BitVec 32 := Scalar.addi v1568 v1561
  let c0_i32_1189 : BitVec 32 := 0#32
  let c0_i32_1190 : BitVec 32 := 0#32
  ![v1569.toNat, 0, 0]
def k0_off38 (d0 : Dev nD) : Fin 3 → Nat :=
  let c4_i32_1196 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1587 : BitVec 32 := Scalar.muli c4_i32_1196 v10
  let c2_i32_1197 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1588 : BitVec 32 := Scalar.muli c2_i32_1197 v5
  let v1589 : BitVec 32 := Scalar.addi v1587 v1588
  let c1_i32_1193 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1582 : BitVec 32 := Scalar.subi c1_i32_1193 v8
  let v1590 : BitVec 32 := Scalar.addi v1589 v1582
  let c0_i32_1206 : BitVec 32 := 0#32
  let c0_i32_1207 : BitVec 32 := 0#32
  ![v1590.toNat, 0, 0]
def k0_off39 (d0 : Dev nD) : Fin 3 → Nat :=
  let c4_i32_1213 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1608 : BitVec 32 := Scalar.muli c4_i32_1213 v10
  let c2_i32_1214 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1609 : BitVec 32 := Scalar.muli c2_i32_1214 v5
  let v1610 : BitVec 32 := Scalar.addi v1608 v1609
  let c1_i32_1210 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1603 : BitVec 32 := Scalar.subi c1_i32_1210 v8
  let v1611 : BitVec 32 := Scalar.addi v1610 v1603
  let c0_i32_1223 : BitVec 32 := 0#32
  let c0_i32_1224 : BitVec 32 := 0#32
  ![v1611.toNat, 0, 0]
def k0_off40 (d0 : Dev nD) : Fin 3 → Nat :=
  let c4_i32_1230 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1629 : BitVec 32 := Scalar.muli c4_i32_1230 v10
  let c2_i32_1231 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1630 : BitVec 32 := Scalar.muli c2_i32_1231 v5
  let v1631 : BitVec 32 := Scalar.addi v1629 v1630
  let c1_i32_1227 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1624 : BitVec 32 := Scalar.subi c1_i32_1227 v8
  let v1632 : BitVec 32 := Scalar.addi v1631 v1624
  let c0_i32_1240 : BitVec 32 := 0#32
  let c0_i32_1241 : BitVec 32 := 0#32
  ![v1632.toNat, 0, 0]
def k0_off41 (d0 : Dev nD) : Fin 3 → Nat :=
  let c4_i32_1247 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1650 : BitVec 32 := Scalar.muli c4_i32_1247 v10
  let c2_i32_1248 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1651 : BitVec 32 := Scalar.muli c2_i32_1248 v5
  let v1652 : BitVec 32 := Scalar.addi v1650 v1651
  let c1_i32_1244 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1645 : BitVec 32 := Scalar.subi c1_i32_1244 v8
  let v1653 : BitVec 32 := Scalar.addi v1652 v1645
  let c0_i32_1257 : BitVec 32 := 0#32
  let c0_i32_1258 : BitVec 32 := 0#32
  ![v1653.toNat, 0, 0]
def k0_off42 (d0 : Dev nD) : Fin 3 → Nat :=
  let c4_i32_1264 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1671 : BitVec 32 := Scalar.muli c4_i32_1264 v10
  let c2_i32_1265 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1672 : BitVec 32 := Scalar.muli c2_i32_1265 v5
  let v1673 : BitVec 32 := Scalar.addi v1671 v1672
  let c1_i32_1261 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1666 : BitVec 32 := Scalar.subi c1_i32_1261 v8
  let v1674 : BitVec 32 := Scalar.addi v1673 v1666
  let c0_i32_1274 : BitVec 32 := 0#32
  let c0_i32_1275 : BitVec 32 := 0#32
  ![v1674.toNat, 0, 0]
def k0_off43 (d0 : Dev nD) : Fin 3 → Nat :=
  let c4_i32_1281 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1692 : BitVec 32 := Scalar.muli c4_i32_1281 v2
  let c2_i32_1282 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1693 : BitVec 32 := Scalar.muli c2_i32_1282 v11
  let v1694 : BitVec 32 := Scalar.addi v1692 v1693
  let c1_i32_1278 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1687 : BitVec 32 := Scalar.subi c1_i32_1278 v8
  let v1695 : BitVec 32 := Scalar.addi v1694 v1687
  let c0_i32_1291 : BitVec 32 := 0#32
  let c0_i32_1292 : BitVec 32 := 0#32
  ![v1695.toNat, 0, 0]
def k0_off44 (d0 : Dev nD) : Fin 3 → Nat :=
  let c4_i32_1298 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1713 : BitVec 32 := Scalar.muli c4_i32_1298 v2
  let c2_i32_1299 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1714 : BitVec 32 := Scalar.muli c2_i32_1299 v11
  let v1715 : BitVec 32 := Scalar.addi v1713 v1714
  let c1_i32_1295 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1708 : BitVec 32 := Scalar.subi c1_i32_1295 v8
  let v1716 : BitVec 32 := Scalar.addi v1715 v1708
  let c0_i32_1308 : BitVec 32 := 0#32
  let c0_i32_1309 : BitVec 32 := 0#32
  ![v1716.toNat, 0, 0]
def k0_off45 (d0 : Dev nD) : Fin 3 → Nat :=
  let c4_i32_1315 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1734 : BitVec 32 := Scalar.muli c4_i32_1315 v2
  let c2_i32_1316 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1735 : BitVec 32 := Scalar.muli c2_i32_1316 v11
  let v1736 : BitVec 32 := Scalar.addi v1734 v1735
  let c1_i32_1312 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1729 : BitVec 32 := Scalar.subi c1_i32_1312 v8
  let v1737 : BitVec 32 := Scalar.addi v1736 v1729
  let c0_i32_1325 : BitVec 32 := 0#32
  let c0_i32_1326 : BitVec 32 := 0#32
  ![v1737.toNat, 0, 0]
def k0_off46 (d0 : Dev nD) : Fin 3 → Nat :=
  let c4_i32_1332 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1755 : BitVec 32 := Scalar.muli c4_i32_1332 v2
  let c2_i32_1333 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1756 : BitVec 32 := Scalar.muli c2_i32_1333 v11
  let v1757 : BitVec 32 := Scalar.addi v1755 v1756
  let c1_i32_1329 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1750 : BitVec 32 := Scalar.subi c1_i32_1329 v8
  let v1758 : BitVec 32 := Scalar.addi v1757 v1750
  let c0_i32_1342 : BitVec 32 := 0#32
  let c0_i32_1343 : BitVec 32 := 0#32
  ![v1758.toNat, 0, 0]
def k0_off47 (d0 : Dev nD) : Fin 3 → Nat :=
  let c4_i32_1349 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1776 : BitVec 32 := Scalar.muli c4_i32_1349 v2
  let c2_i32_1350 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1777 : BitVec 32 := Scalar.muli c2_i32_1350 v11
  let v1778 : BitVec 32 := Scalar.addi v1776 v1777
  let c1_i32_1346 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1771 : BitVec 32 := Scalar.subi c1_i32_1346 v8
  let v1779 : BitVec 32 := Scalar.addi v1778 v1771
  let c0_i32_1359 : BitVec 32 := 0#32
  let c0_i32_1360 : BitVec 32 := 0#32
  ![v1779.toNat, 0, 0]
def k0_off48 (d0 : Dev nD) : Fin 3 → Nat :=
  let c4_i32_1366 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1797 : BitVec 32 := Scalar.muli c4_i32_1366 v2
  let c2_i32_1367 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1798 : BitVec 32 := Scalar.muli c2_i32_1367 v11
  let v1799 : BitVec 32 := Scalar.addi v1797 v1798
  let c1_i32_1363 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1792 : BitVec 32 := Scalar.subi c1_i32_1363 v8
  let v1800 : BitVec 32 := Scalar.addi v1799 v1792
  let c0_i32_1376 : BitVec 32 := 0#32
  let c0_i32_1377 : BitVec 32 := 0#32
  ![v1800.toNat, 0, 0]
def k0_off49 (d0 : Dev nD) : Fin 3 → Nat :=
  let c4_i32_1383 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1818 : BitVec 32 := Scalar.muli c4_i32_1383 v2
  let c2_i32_1384 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1819 : BitVec 32 := Scalar.muli c2_i32_1384 v11
  let v1820 : BitVec 32 := Scalar.addi v1818 v1819
  let c1_i32_1380 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1813 : BitVec 32 := Scalar.subi c1_i32_1380 v8
  let v1821 : BitVec 32 := Scalar.addi v1820 v1813
  let c0_i32_1393 : BitVec 32 := 0#32
  let c0_i32_1394 : BitVec 32 := 0#32
  ![v1821.toNat, 0, 0]
def k0_off50 (d0 : Dev nD) : Fin 3 → Nat :=
  let c4_i32_1400 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1839 : BitVec 32 := Scalar.muli c4_i32_1400 v12
  let c2_i32_1401 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1840 : BitVec 32 := Scalar.muli c2_i32_1401 v13
  let v1841 : BitVec 32 := Scalar.addi v1839 v1840
  let c1_i32_1397 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1834 : BitVec 32 := Scalar.subi c1_i32_1397 v8
  let v1842 : BitVec 32 := Scalar.addi v1841 v1834
  let c0_i32_1410 : BitVec 32 := 0#32
  let c0_i32_1411 : BitVec 32 := 0#32
  ![v1842.toNat, 0, 0]
def k0_off51 (d0 : Dev nD) : Fin 3 → Nat :=
  let c4_i32_1417 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1860 : BitVec 32 := Scalar.muli c4_i32_1417 v12
  let c2_i32_1418 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1861 : BitVec 32 := Scalar.muli c2_i32_1418 v13
  let v1862 : BitVec 32 := Scalar.addi v1860 v1861
  let c1_i32_1414 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1855 : BitVec 32 := Scalar.subi c1_i32_1414 v8
  let v1863 : BitVec 32 := Scalar.addi v1862 v1855
  let c0_i32_1427 : BitVec 32 := 0#32
  let c0_i32_1428 : BitVec 32 := 0#32
  ![v1863.toNat, 0, 0]
def k0_off52 (d0 : Dev nD) : Fin 3 → Nat :=
  let c4_i32_1434 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1881 : BitVec 32 := Scalar.muli c4_i32_1434 v12
  let c2_i32_1435 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1882 : BitVec 32 := Scalar.muli c2_i32_1435 v13
  let v1883 : BitVec 32 := Scalar.addi v1881 v1882
  let c1_i32_1431 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1876 : BitVec 32 := Scalar.subi c1_i32_1431 v8
  let v1884 : BitVec 32 := Scalar.addi v1883 v1876
  let c0_i32_1444 : BitVec 32 := 0#32
  let c0_i32_1445 : BitVec 32 := 0#32
  ![v1884.toNat, 0, 0]
def k0_off53 (d0 : Dev nD) : Fin 3 → Nat :=
  let c4_i32_1451 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1902 : BitVec 32 := Scalar.muli c4_i32_1451 v12
  let c2_i32_1452 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1903 : BitVec 32 := Scalar.muli c2_i32_1452 v13
  let v1904 : BitVec 32 := Scalar.addi v1902 v1903
  let c1_i32_1448 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1897 : BitVec 32 := Scalar.subi c1_i32_1448 v8
  let v1905 : BitVec 32 := Scalar.addi v1904 v1897
  let c0_i32_1461 : BitVec 32 := 0#32
  let c0_i32_1462 : BitVec 32 := 0#32
  ![v1905.toNat, 0, 0]
def k0_off54 (d0 : Dev nD) : Fin 3 → Nat :=
  let c4_i32_1468 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1923 : BitVec 32 := Scalar.muli c4_i32_1468 v12
  let c2_i32_1469 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1924 : BitVec 32 := Scalar.muli c2_i32_1469 v13
  let v1925 : BitVec 32 := Scalar.addi v1923 v1924
  let c1_i32_1465 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1918 : BitVec 32 := Scalar.subi c1_i32_1465 v8
  let v1926 : BitVec 32 := Scalar.addi v1925 v1918
  let c0_i32_1478 : BitVec 32 := 0#32
  let c0_i32_1479 : BitVec 32 := 0#32
  ![v1926.toNat, 0, 0]
def k0_off55 (d0 : Dev nD) : Fin 3 → Nat :=
  let c4_i32_1485 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1944 : BitVec 32 := Scalar.muli c4_i32_1485 v12
  let c2_i32_1486 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1945 : BitVec 32 := Scalar.muli c2_i32_1486 v13
  let v1946 : BitVec 32 := Scalar.addi v1944 v1945
  let c1_i32_1482 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1939 : BitVec 32 := Scalar.subi c1_i32_1482 v8
  let v1947 : BitVec 32 := Scalar.addi v1946 v1939
  let c0_i32_1495 : BitVec 32 := 0#32
  let c0_i32_1496 : BitVec 32 := 0#32
  ![v1947.toNat, 0, 0]
def k0_off56 (d0 : Dev nD) : Fin 3 → Nat :=
  let c4_i32_1502 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1965 : BitVec 32 := Scalar.muli c4_i32_1502 v12
  let c2_i32_1503 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1966 : BitVec 32 := Scalar.muli c2_i32_1503 v13
  let v1967 : BitVec 32 := Scalar.addi v1965 v1966
  let c1_i32_1499 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1960 : BitVec 32 := Scalar.subi c1_i32_1499 v8
  let v1968 : BitVec 32 := Scalar.addi v1967 v1960
  let c0_i32_1512 : BitVec 32 := 0#32
  let c0_i32_1513 : BitVec 32 := 0#32
  ![v1968.toNat, 0, 0]
-- ==== Reference.lean ====
abbrev S8x12288 : Shape := ⟨2, ![8, 12288]⟩
abbrev S2048x4512 : Shape := ⟨2, ![2048, 4512]⟩
abbrev S2048x2048 : Shape := ⟨2, ![2048, 2048]⟩
abbrev S2048x8192 : Shape := ⟨2, ![2048, 8192]⟩
abbrev S8192x2048 : Shape := ⟨2, ![8192, 2048]⟩
abbrev S1024x1024 : Shape := ⟨2, ![1024, 1024]⟩
abbrev S432x1024 : Shape := ⟨2, ![432, 1024]⟩
abbrev S8x8x1536 : Shape := ⟨3, ![8, 8, 1536]⟩
abbrev S2048x8x564 : Shape := ⟨3, ![2048, 8, 564]⟩
abbrev S8x2048x564 : Shape := ⟨3, ![8, 2048, 564]⟩
abbrev S8x256x2048 : Shape := ⟨3, ![8, 256, 2048]⟩
abbrev S2048x8x1024 : Shape := ⟨3, ![2048, 8, 1024]⟩
abbrev S8x2048x1024 : Shape := ⟨3, ![8, 2048, 1024]⟩
abbrev S8x1024x2048 : Shape := ⟨3, ![8, 1024, 2048]⟩
abbrev S8x128x1024 : Shape := ⟨3, ![8, 128, 1024]⟩
abbrev S432x8x128 : Shape := ⟨3, ![432, 8, 128]⟩
abbrev S8x432x128 : Shape := ⟨3, ![8, 432, 128]⟩

abbrev nBuf : Space → Nat
  | .hbm => 18
  | .vmem => 0
  | .smem => 0
  | _ => 0

abbrev bufTy : (tb : Table) → Fin (tcTables nBuf tb) → BufTy
  | .hbm, ⟨0, _⟩ => ⟨S8x12288, .f32⟩
  | .hbm, ⟨1, _⟩ => ⟨S2048x4512, .bf16⟩
  | .hbm, ⟨2, _⟩ => ⟨S2048x2048, .bf16⟩
  | .hbm, ⟨3, _⟩ => ⟨S2048x8192, .bf16⟩
  | .hbm, ⟨4, _⟩ => ⟨S8192x2048, .bf16⟩
  | .hbm, ⟨5, _⟩ => ⟨S1024x1024, .bf16⟩
  | .hbm, ⟨6, _⟩ => ⟨S432x1024, .f32⟩
  | .hbm, ⟨7, _⟩ => ⟨S8x8x1536, .f32⟩
  | .hbm, ⟨8, _⟩ => ⟨S8x8x1536, .f32⟩
  | .hbm, ⟨9, _⟩ => ⟨S2048x8x564, .bf16⟩
  | .hbm, ⟨10, _⟩ => ⟨S8x2048x564, .bf16⟩
  | .hbm, ⟨11, _⟩ => ⟨S8x256x2048, .bf16⟩
  | .hbm, ⟨12, _⟩ => ⟨S2048x8x1024, .bf16⟩
  | .hbm, ⟨13, _⟩ => ⟨S8x2048x1024, .bf16⟩
  | .hbm, ⟨14, _⟩ => ⟨S8x1024x2048, .bf16⟩
  | .hbm, ⟨15, _⟩ => ⟨S8x128x1024, .bf16⟩
  | .hbm, ⟨16, _⟩ => ⟨S432x8x128, .f32⟩
  | .hbm, ⟨17, _⟩ => ⟨S8x432x128, .f32⟩
  | _, _ => ⟨S8x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Swap.lean ====
abbrev S4x2048x564 : Shape := ⟨3, ![4, 2048, 564]⟩
abbrev S4x256x2048 : Shape := ⟨3, ![4, 256, 2048]⟩
abbrev S4x2048x1024 : Shape := ⟨3, ![4, 2048, 1024]⟩
abbrev S4x1024x2048 : Shape := ⟨3, ![4, 1024, 2048]⟩
abbrev S4x128x1024 : Shape := ⟨3, ![4, 128, 1024]⟩
abbrev S4x432x128 : Shape := ⟨3, ![4, 432, 128]⟩
abbrev S6 : Shape := ⟨1, ![6]⟩
abbrev S1 : Shape := ⟨1, ![1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x564, .bf16⟩
  | .hbm, ⟨1, _⟩ => ⟨S4x256x2048, .bf16⟩
  | .hbm, ⟨2, _⟩ => ⟨S4x2048x1024, .bf16⟩
  | .hbm, ⟨3, _⟩ => ⟨S4x1024x2048, .bf16⟩
  | .hbm, ⟨4, _⟩ => ⟨S4x128x1024, .f32⟩
  | .hbm, ⟨5, _⟩ => ⟨S4x432x128, .f32⟩
  | .hbm, ⟨6, _⟩ => ⟨S4x2048x564, .bf16⟩
  | .hbm, ⟨7, _⟩ => ⟨S4x256x2048, .bf16⟩
  | .hbm, ⟨8, _⟩ => ⟨S4x2048x1024, .bf16⟩
  | .hbm, ⟨9, _⟩ => ⟨S4x1024x2048, .bf16⟩
  | .hbm, ⟨10, _⟩ => ⟨S4x128x1024, .f32⟩
  | .hbm, ⟨11, _⟩ => ⟨S4x432x128, .f32⟩
  | _, _ => ⟨S4x2048x564, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩

abbrev nD : Nat := 8
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v15 : BitVec 32 := Scalar.muli v2 c4_i32_10
  let v16 : BitVec 32 := Scalar.addi c0_i32_11 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v17 : BitVec 32 := Scalar.muli v5 c2_i32_12
  let v18 : BitVec 32 := Scalar.addi v16 v17
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_13 : BitVec 32 := 1#32
  let v19 : BitVec 32 := Scalar.muli v9 c1_i32_13
  let v20 : BitVec 32 := Scalar.addi v18 v19
  v20.toNat
def k0_dev2 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_19 : BitVec 32 := 1#32
  let v29 : BitVec 32 := Scalar.muli v10 c1_i32_19
  let v30 : BitVec 32 := Scalar.addi v28 v29
  v30.toNat
def k0_dev3 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v35 : BitVec 32 := Scalar.muli v2 c4_i32_22
  let v36 : BitVec 32 := Scalar.addi c0_i32_23 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v37 : BitVec 32 := Scalar.muli v5 c2_i32_24
  let v38 : BitVec 32 := Scalar.addi v36 v37
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_25 : BitVec 32 := 1#32
  let v39 : BitVec 32 := Scalar.muli v11 c1_i32_25
  let v40 : BitVec 32 := Scalar.addi v38 v39
  v40.toNat
def k0_dev4 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v45 : BitVec 32 := Scalar.muli v2 c4_i32_27
  let v46 : BitVec 32 := Scalar.addi c0_i32_28 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_29 : BitVec 32 := 2#32
  let v47 : BitVec 32 := Scalar.muli v5 c2_i32_29
  let v48 : BitVec 32 := Scalar.addi v46 v47
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_30 : BitVec 32 := 1#32
  let v49 : BitVec 32 := Scalar.muli v12 c1_i32_30
  let v50 : BitVec 32 := Scalar.addi v48 v49
  v50.toNat
def k0_dev5 (d0 : Dev nD) : Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_33 : BitVec 32 := 4#32
  let v55 : BitVec 32 := Scalar.muli v2 c4_i32_33
  let v56 : BitVec 32 := Scalar.addi c0_i32_34 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_35 : BitVec 32 := 2#32
  let v57 : BitVec 32 := Scalar.muli v5 c2_i32_35
  let v58 : BitVec 32 := Scalar.addi v56 v57
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_36 : BitVec 32 := 1#32
  let v59 : BitVec 32 := Scalar.muli v13 c1_i32_36
  let v60 : BitVec 32 := Scalar.addi v58 v59
  v60.toNat
def k0_dev6 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v65 : BitVec 32 := Scalar.muli v2 c4_i32_38
  let v66 : BitVec 32 := Scalar.addi c0_i32_39 v65
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v67 : BitVec 32 := Scalar.muli v5 c2_i32_40
  let v68 : BitVec 32 := Scalar.addi v66 v67
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_8 v8
  let c1_i32_41 : BitVec 32 := 1#32
  let v69 : BitVec 32 := Scalar.muli v14 c1_i32_41
  let v70 : BitVec 32 := Scalar.addi v68 v69
  v70.toNat
-- ==== SwapReference.lean ====
abbrev S32x2048x564 : Shape := ⟨3, ![32, 2048, 564]⟩
abbrev S32x256x2048 : Shape := ⟨3, ![32, 256, 2048]⟩
abbrev S32x2048x1024 : Shape := ⟨3, ![32, 2048, 1024]⟩
abbrev S32x1024x2048 : Shape := ⟨3, ![32, 1024, 2048]⟩
abbrev S32x128x1024 : Shape := ⟨3, ![32, 128, 1024]⟩
abbrev S32x432x128 : Shape := ⟨3, ![32, 432, 128]⟩
abbrev S4x2x4x2048x564 : Shape := ⟨5, ![4, 2, 4, 2048, 564]⟩
abbrev S4x2x4x256x2048 : Shape := ⟨5, ![4, 2, 4, 256, 2048]⟩
abbrev S4x2x4x2048x1024 : Shape := ⟨5, ![4, 2, 4, 2048, 1024]⟩
abbrev S4x2x4x1024x2048 : Shape := ⟨5, ![4, 2, 4, 1024, 2048]⟩
abbrev S4x2x4x128x1024 : Shape := ⟨5, ![4, 2, 4, 128, 1024]⟩
abbrev S4x2x4x432x128 : Shape := ⟨5, ![4, 2, 4, 432, 128]⟩

abbrev nBuf : Space → Nat
  | .hbm => 24
  | .vmem => 0
  | .smem => 0
  | _ => 0

abbrev bufTy : (tb : Table) → Fin (tcTables nBuf tb) → BufTy
  | .hbm, ⟨0, _⟩ => ⟨S32x2048x564, .bf16⟩
  | .hbm, ⟨1, _⟩ => ⟨S32x256x2048, .bf16⟩
  | .hbm, ⟨2, _⟩ => ⟨S32x2048x1024, .bf16⟩
  | .hbm, ⟨3, _⟩ => ⟨S32x1024x2048, .bf16⟩
  | .hbm, ⟨4, _⟩ => ⟨S32x128x1024, .f32⟩
  | .hbm, ⟨5, _⟩ => ⟨S32x432x128, .f32⟩
  | .hbm, ⟨6, _⟩ => ⟨S4x2x4x2048x564, .bf16⟩
  | .hbm, ⟨7, _⟩ => ⟨S4x2x4x2048x564, .bf16⟩
  | .hbm, ⟨8, _⟩ => ⟨S32x2048x564, .bf16⟩
  | .hbm, ⟨9, _⟩ => ⟨S4x2x4x256x2048, .bf16⟩
  | .hbm, ⟨10, _⟩ => ⟨S4x2x4x256x2048, .bf16⟩
  | .hbm, ⟨11, _⟩ => ⟨S32x256x2048, .bf16⟩
  | .hbm, ⟨12, _⟩ => ⟨S4x2x4x2048x1024, .bf16⟩
  | .hbm, ⟨13, _⟩ => ⟨S4x2x4x2048x1024, .bf16⟩
  | .hbm, ⟨14, _⟩ => ⟨S32x2048x1024, .bf16⟩
  | .hbm, ⟨15, _⟩ => ⟨S4x2x4x1024x2048, .bf16⟩
  | .hbm, ⟨16, _⟩ => ⟨S4x2x4x1024x2048, .bf16⟩
  | .hbm, ⟨17, _⟩ => ⟨S32x1024x2048, .bf16⟩
  | .hbm, ⟨18, _⟩ => ⟨S4x2x4x128x1024, .f32⟩
  | .hbm, ⟨19, _⟩ => ⟨S4x2x4x128x1024, .f32⟩
  | .hbm, ⟨20, _⟩ => ⟨S32x128x1024, .f32⟩
  | .hbm, ⟨21, _⟩ => ⟨S4x2x4x432x128, .f32⟩
  | .hbm, ⟨22, _⟩ => ⟨S4x2x4x432x128, .f32⟩
  | .hbm, ⟨23, _⟩ => ⟨S32x432x128, .f32⟩
  | _, _ => ⟨S32x2048x564, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Chips.lean ====
abbrev S4x2048x564 : Shape := ⟨3, ![4, 2048, 564]⟩
abbrev S4x256x2048 : Shape := ⟨3, ![4, 256, 2048]⟩
abbrev S4x2048x1024 : Shape := ⟨3, ![4, 2048, 1024]⟩
abbrev S4x1024x2048 : Shape := ⟨3, ![4, 1024, 2048]⟩
abbrev S4x128x1024 : Shape := ⟨3, ![4, 128, 1024]⟩
abbrev S4x432x128 : Shape := ⟨3, ![4, 432, 128]⟩
abbrev S6x3 : Shape := ⟨2, ![6, 3]⟩
abbrev S6 : Shape := ⟨1, ![6]⟩
abbrev S1 : Shape := ⟨1, ![1]⟩
abbrev S_ : Shape := ⟨0, ![]⟩
abbrev S1x2048x564 : Shape := ⟨3, ![1, 2048, 564]⟩
abbrev S2048x564 : Shape := ⟨2, ![2048, 564]⟩
abbrev S1x256x2048 : Shape := ⟨3, ![1, 256, 2048]⟩
abbrev S256x2048 : Shape := ⟨2, ![256, 2048]⟩
abbrev S1x2048x1024 : Shape := ⟨3, ![1, 2048, 1024]⟩
abbrev S2048x1024 : Shape := ⟨2, ![2048, 1024]⟩
abbrev S1x1024x2048 : Shape := ⟨3, ![1, 1024, 2048]⟩
abbrev S1024x2048 : Shape := ⟨2, ![1024, 2048]⟩
abbrev S1x128x1024 : Shape := ⟨3, ![1, 128, 1024]⟩
abbrev S128x1024 : Shape := ⟨2, ![128, 1024]⟩
abbrev S1x432x128 : Shape := ⟨3, ![1, 432, 128]⟩
abbrev S432x128 : Shape := ⟨2, ![432, 128]⟩
abbrev S1x1 : Shape := ⟨2, ![1, 1]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x564, .bf16⟩
  | .hbm, ⟨1, _⟩ => ⟨S4x256x2048, .bf16⟩
  | .hbm, ⟨2, _⟩ => ⟨S4x2048x1024, .bf16⟩
  | .hbm, ⟨3, _⟩ => ⟨S4x1024x2048, .bf16⟩
  | .hbm, ⟨4, _⟩ => ⟨S4x128x1024, .f32⟩
  | .hbm, ⟨5, _⟩ => ⟨S4x432x128, .f32⟩
  | .hbm, ⟨6, _⟩ => ⟨S4x2048x564, .bf16⟩
  | .hbm, ⟨7, _⟩ => ⟨S4x256x2048, .bf16⟩
  | .hbm, ⟨8, _⟩ => ⟨S4x2048x1024, .bf16⟩
  | .hbm, ⟨9, _⟩ => ⟨S4x1024x2048, .bf16⟩
  | .hbm, ⟨10, _⟩ => ⟨S4x128x1024, .f32⟩
  | .hbm, ⟨11, _⟩ => ⟨S4x432x128, .f32⟩
  | _, _ => ⟨S4x2048x564, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_8 : BitVec 32 := 0#32
  let c0_i32_9 : BitVec 32 := 0#32
  ![v10.toNat, 0, 0]
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_13 : BitVec 32 := 0#32
  let c0_i32_14 : BitVec 32 := 0#32
  ![v10.toNat, 0, 0]
def k0_off3 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_18 : BitVec 32 := 0#32
  let c0_i32_19 : BitVec 32 := 0#32
  ![v10.toNat, 0, 0]
def k0_off4 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_22 : BitVec 32 := 0#32
  let c0_i32_23 : BitVec 32 := 0#32
  ![v10.toNat, 0, 0]
def k0_off5 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_27 : BitVec 32 := 0#32
  let c0_i32_28 : BitVec 32 := 0#32
  ![v10.toNat, 0, 0]
def k0_off6 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_31 : BitVec 32 := 0#32
  let c0_i32_32 : BitVec 32 := 0#32
  ![v10.toNat, 0, 0]
def k0_off7 (d0 : Dev nD) : Fin 3 → Nat :=
  let c2_i32_35 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v51 : BitVec 32 := Scalar.muli c2_i32_35 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v52 : BitVec 32 := Scalar.addi v51 v5
  let c0_i32_46 : BitVec 32 := 0#32
  let c0_i32_47 : BitVec 32 := 0#32
  ![v52.toNat, 0, 0]
def k0_dev1 (d0 : Dev nD) : Nat :=
  let c0_i32_41 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_40 : BitVec 32 := 4#32
  let v53 : BitVec 32 := Scalar.muli v11 c4_i32_40
  let v54 : BitVec 32 := Scalar.addi c0_i32_41 v53
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_42 : BitVec 32 := 2#32
  let v55 : BitVec 32 := Scalar.muli v5 c2_i32_42
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v57 : BitVec 32 := Scalar.muli v8 c1_i32_43
  let v58 : BitVec 32 := Scalar.addi v56 v57
  v58.toNat
def k0_off8 (d0 : Dev nD) : Fin 3 → Nat :=
  let c2_i32_48 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v67 : BitVec 32 := Scalar.muli c2_i32_48 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v68 : BitVec 32 := Scalar.addi v67 v5
  let c0_i32_59 : BitVec 32 := 0#32
  let c0_i32_60 : BitVec 32 := 0#32
  ![v68.toNat, 0, 0]
def k0_dev2 (d0 : Dev nD) : Nat :=
  let c0_i32_54 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_53 : BitVec 32 := 4#32
  let v69 : BitVec 32 := Scalar.muli v11 c4_i32_53
  let v70 : BitVec 32 := Scalar.addi c0_i32_54 v69
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_55 : BitVec 32 := 2#32
  let v71 : BitVec 32 := Scalar.muli v5 c2_i32_55
  let v72 : BitVec 32 := Scalar.addi v70 v71
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_56 : BitVec 32 := 1#32
  let v73 : BitVec 32 := Scalar.muli v8 c1_i32_56
  let v74 : BitVec 32 := Scalar.addi v72 v73
  v74.toNat
def k0_off9 (d0 : Dev nD) : Fin 3 → Nat :=
  let c2_i32_61 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v83 : BitVec 32 := Scalar.muli c2_i32_61 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v84 : BitVec 32 := Scalar.addi v83 v5
  let c0_i32_72 : BitVec 32 := 0#32
  let c0_i32_73 : BitVec 32 := 0#32
  ![v84.toNat, 0, 0]
def k0_dev3 (d0 : Dev nD) : Nat :=
  let c0_i32_67 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_66 : BitVec 32 := 4#32
  let v85 : BitVec 32 := Scalar.muli v11 c4_i32_66
  let v86 : BitVec 32 := Scalar.addi c0_i32_67 v85
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_68 : BitVec 32 := 2#32
  let v87 : BitVec 32 := Scalar.muli v5 c2_i32_68
  let v88 : BitVec 32 := Scalar.addi v86 v87
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_69 : BitVec 32 := 1#32
  let v89 : BitVec 32 := Scalar.muli v8 c1_i32_69
  let v90 : BitVec 32 := Scalar.addi v88 v89
  v90.toNat
def k0_off10 (d0 : Dev nD) : Fin 3 → Nat :=
  let c2_i32_74 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v99 : BitVec 32 := Scalar.muli c2_i32_74 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v100 : BitVec 32 := Scalar.addi v99 v5
  let c0_i32_85 : BitVec 32 := 0#32
  let c0_i32_86 : BitVec 32 := 0#32
  ![v100.toNat, 0, 0]
def k0_dev4 (d0 : Dev nD) : Nat :=
  let c0_i32_80 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_79 : BitVec 32 := 4#32
  let v101 : BitVec 32 := Scalar.muli v11 c4_i32_79
  let v102 : BitVec 32 := Scalar.addi c0_i32_80 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_81 : BitVec 32 := 2#32
  let v103 : BitVec 32 := Scalar.muli v5 c2_i32_81
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v105 : BitVec 32 := Scalar.muli v8 c1_i32_82
  let v106 : BitVec 32 := Scalar.addi v104 v105
  v106.toNat
def k0_off11 (d0 : Dev nD) : Fin 3 → Nat :=
  let c2_i32_87 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v115 : BitVec 32 := Scalar.muli c2_i32_87 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v116 : BitVec 32 := Scalar.addi v115 v5
  let c0_i32_98 : BitVec 32 := 0#32
  let c0_i32_99 : BitVec 32 := 0#32
  ![v116.toNat, 0, 0]
def k0_dev5 (d0 : Dev nD) : Nat :=
  let c0_i32_93 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_92 : BitVec 32 := 4#32
  let v117 : BitVec 32 := Scalar.muli v11 c4_i32_92
  let v118 : BitVec 32 := Scalar.addi c0_i32_93 v117
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_94 : BitVec 32 := 2#32
  let v119 : BitVec 32 := Scalar.muli v5 c2_i32_94
  let v120 : BitVec 32 := Scalar.addi v118 v119
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_95 : BitVec 32 := 1#32
  let v121 : BitVec 32 := Scalar.muli v8 c1_i32_95
  let v122 : BitVec 32 := Scalar.addi v120 v121
  v122.toNat
def k0_off12 (d0 : Dev nD) : Fin 3 → Nat :=
  let c2_i32_100 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v131 : BitVec 32 := Scalar.muli c2_i32_100 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v132 : BitVec 32 := Scalar.addi v131 v5
  let c0_i32_111 : BitVec 32 := 0#32
  let c0_i32_112 : BitVec 32 := 0#32
  ![v132.toNat, 0, 0]
def k0_dev6 (d0 : Dev nD) : Nat :=
  let c0_i32_106 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_105 : BitVec 32 := 4#32
  let v133 : BitVec 32 := Scalar.muli v11 c4_i32_105
  let v134 : BitVec 32 := Scalar.addi c0_i32_106 v133
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_107 : BitVec 32 := 2#32
  let v135 : BitVec 32 := Scalar.muli v5 c2_i32_107
  let v136 : BitVec 32 := Scalar.addi v134 v135
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_108 : BitVec 32 := 1#32
  let v137 : BitVec 32 := Scalar.muli v8 c1_i32_108
  let v138 : BitVec 32 := Scalar.addi v136 v137
  v138.toNat
def k0_off13 (d0 : Dev nD) : Fin 3 → Nat :=
  let c2_i32_113 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v147 : BitVec 32 := Scalar.muli c2_i32_113 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v148 : BitVec 32 := Scalar.addi v147 v12
  let c0_i32_124 : BitVec 32 := 0#32
  let c0_i32_125 : BitVec 32 := 0#32
  ![v148.toNat, 0, 0]
def k0_dev7 (d0 : Dev nD) : Nat :=
  let c0_i32_119 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_118 : BitVec 32 := 4#32
  let v149 : BitVec 32 := Scalar.muli v2 c4_i32_118
  let v150 : BitVec 32 := Scalar.addi c0_i32_119 v149
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_120 : BitVec 32 := 2#32
  let v151 : BitVec 32 := Scalar.muli v12 c2_i32_120
  let v152 : BitVec 32 := Scalar.addi v150 v151
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_121 : BitVec 32 := 1#32
  let v153 : BitVec 32 := Scalar.muli v8 c1_i32_121
  let v154 : BitVec 32 := Scalar.addi v152 v153
  v154.toNat
def k0_off14 (d0 : Dev nD) : Fin 3 → Nat :=
  let c2_i32_126 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v163 : BitVec 32 := Scalar.muli c2_i32_126 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v164 : BitVec 32 := Scalar.addi v163 v12
  let c0_i32_137 : BitVec 32 := 0#32
  let c0_i32_138 : BitVec 32 := 0#32
  ![v164.toNat, 0, 0]
def k0_dev8 (d0 : Dev nD) : Nat :=
  let c0_i32_132 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_131 : BitVec 32 := 4#32
  let v165 : BitVec 32 := Scalar.muli v2 c4_i32_131
  let v166 : BitVec 32 := Scalar.addi c0_i32_132 v165
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_133 : BitVec 32 := 2#32
  let v167 : BitVec 32 := Scalar.muli v12 c2_i32_133
  let v168 : BitVec 32 := Scalar.addi v166 v167
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_134 : BitVec 32 := 1#32
  let v169 : BitVec 32 := Scalar.muli v8 c1_i32_134
  let v170 : BitVec 32 := Scalar.addi v168 v169
  v170.toNat
def k0_off15 (d0 : Dev nD) : Fin 3 → Nat :=
  let c2_i32_139 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v179 : BitVec 32 := Scalar.muli c2_i32_139 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v180 : BitVec 32 := Scalar.addi v179 v12
  let c0_i32_150 : BitVec 32 := 0#32
  let c0_i32_151 : BitVec 32 := 0#32
  ![v180.toNat, 0, 0]
def k0_dev9 (d0 : Dev nD) : Nat :=
  let c0_i32_145 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_144 : BitVec 32 := 4#32
  let v181 : BitVec 32 := Scalar.muli v2 c4_i32_144
  let v182 : BitVec 32 := Scalar.addi c0_i32_145 v181
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_146 : BitVec 32 := 2#32
  let v183 : BitVec 32 := Scalar.muli v12 c2_i32_146
  let v184 : BitVec 32 := Scalar.addi v182 v183
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_147 : BitVec 32 := 1#32
  let v185 : BitVec 32 := Scalar.muli v8 c1_i32_147
  let v186 : BitVec 32 := Scalar.addi v184 v185
  v186.toNat
def k0_off16 (d0 : Dev nD) : Fin 3 → Nat :=
  let c2_i32_152 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v195 : BitVec 32 := Scalar.muli c2_i32_152 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v196 : BitVec 32 := Scalar.addi v195 v12
  let c0_i32_163 : BitVec 32 := 0#32
  let c0_i32_164 : BitVec 32 := 0#32
  ![v196.toNat, 0, 0]
def k0_dev10 (d0 : Dev nD) : Nat :=
  let c0_i32_158 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_157 : BitVec 32 := 4#32
  let v197 : BitVec 32 := Scalar.muli v2 c4_i32_157
  let v198 : BitVec 32 := Scalar.addi c0_i32_158 v197
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_159 : BitVec 32 := 2#32
  let v199 : BitVec 32 := Scalar.muli v12 c2_i32_159
  let v200 : BitVec 32 := Scalar.addi v198 v199
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_160 : BitVec 32 := 1#32
  let v201 : BitVec 32 := Scalar.muli v8 c1_i32_160
  let v202 : BitVec 32 := Scalar.addi v200 v201
  v202.toNat
def k0_off17 (d0 : Dev nD) : Fin 3 → Nat :=
  let c2_i32_165 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v211 : BitVec 32 := Scalar.muli c2_i32_165 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v212 : BitVec 32 := Scalar.addi v211 v12
  let c0_i32_176 : BitVec 32 := 0#32
  let c0_i32_177 : BitVec 32 := 0#32
  ![v212.toNat, 0, 0]
def k0_dev11 (d0 : Dev nD) : Nat :=
  let c0_i32_171 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_170 : BitVec 32 := 4#32
  let v213 : BitVec 32 := Scalar.muli v2 c4_i32_170
  let v214 : BitVec 32 := Scalar.addi c0_i32_171 v213
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_172 : BitVec 32 := 2#32
  let v215 : BitVec 32 := Scalar.muli v12 c2_i32_172
  let v216 : BitVec 32 := Scalar.addi v214 v215
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_173 : BitVec 32 := 1#32
  let v217 : BitVec 32 := Scalar.muli v8 c1_i32_173
  let v218 : BitVec 32 := Scalar.addi v216 v217
  v218.toNat
def k0_off18 (d0 : Dev nD) : Fin 3 → Nat :=
  let c2_i32_178 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v227 : BitVec 32 := Scalar.muli c2_i32_178 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v228 : BitVec 32 := Scalar.addi v227 v12
  let c0_i32_189 : BitVec 32 := 0#32
  let c0_i32_190 : BitVec 32 := 0#32
  ![v228.toNat, 0, 0]
def k0_dev12 (d0 : Dev nD) : Nat :=
  let c0_i32_184 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_183 : BitVec 32 := 4#32
  let v229 : BitVec 32 := Scalar.muli v2 c4_i32_183
  let v230 : BitVec 32 := Scalar.addi c0_i32_184 v229
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_185 : BitVec 32 := 2#32
  let v231 : BitVec 32 := Scalar.muli v12 c2_i32_185
  let v232 : BitVec 32 := Scalar.addi v230 v231
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_186 : BitVec 32 := 1#32
  let v233 : BitVec 32 := Scalar.muli v8 c1_i32_186
  let v234 : BitVec 32 := Scalar.addi v232 v233
  v234.toNat
def k0_off19 (d0 : Dev nD) : Fin 3 → Nat :=
  let c2_i32_191 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v243 : BitVec 32 := Scalar.muli c2_i32_191 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v244 : BitVec 32 := Scalar.addi v243 v14
  let c0_i32_202 : BitVec 32 := 0#32
  let c0_i32_203 : BitVec 32 := 0#32
  ![v244.toNat, 0, 0]
def k0_dev13 (d0 : Dev nD) : Nat :=
  let c0_i32_197 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_196 : BitVec 32 := 4#32
  let v245 : BitVec 32 := Scalar.muli v13 c4_i32_196
  let v246 : BitVec 32 := Scalar.addi c0_i32_197 v245
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_198 : BitVec 32 := 2#32
  let v247 : BitVec 32 := Scalar.muli v14 c2_i32_198
  let v248 : BitVec 32 := Scalar.addi v246 v247
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_199 : BitVec 32 := 1#32
  let v249 : BitVec 32 := Scalar.muli v8 c1_i32_199
  let v250 : BitVec 32 := Scalar.addi v248 v249
  v250.toNat
def k0_off20 (d0 : Dev nD) : Fin 3 → Nat :=
  let c2_i32_204 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v259 : BitVec 32 := Scalar.muli c2_i32_204 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v260 : BitVec 32 := Scalar.addi v259 v14
  let c0_i32_215 : BitVec 32 := 0#32
  let c0_i32_216 : BitVec 32 := 0#32
  ![v260.toNat, 0, 0]
def k0_dev14 (d0 : Dev nD) : Nat :=
  let c0_i32_210 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_209 : BitVec 32 := 4#32
  let v261 : BitVec 32 := Scalar.muli v13 c4_i32_209
  let v262 : BitVec 32 := Scalar.addi c0_i32_210 v261
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_211 : BitVec 32 := 2#32
  let v263 : BitVec 32 := Scalar.muli v14 c2_i32_211
  let v264 : BitVec 32 := Scalar.addi v262 v263
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_212 : BitVec 32 := 1#32
  let v265 : BitVec 32 := Scalar.muli v8 c1_i32_212
  let v266 : BitVec 32 := Scalar.addi v264 v265
  v266.toNat
def k0_off21 (d0 : Dev nD) : Fin 3 → Nat :=
  let c2_i32_217 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v275 : BitVec 32 := Scalar.muli c2_i32_217 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v276 : BitVec 32 := Scalar.addi v275 v14
  let c0_i32_228 : BitVec 32 := 0#32
  let c0_i32_229 : BitVec 32 := 0#32
  ![v276.toNat, 0, 0]
def k0_dev15 (d0 : Dev nD) : Nat :=
  let c0_i32_223 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_222 : BitVec 32 := 4#32
  let v277 : BitVec 32 := Scalar.muli v13 c4_i32_222
  let v278 : BitVec 32 := Scalar.addi c0_i32_223 v277
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_224 : BitVec 32 := 2#32
  let v279 : BitVec 32 := Scalar.muli v14 c2_i32_224
  let v280 : BitVec 32 := Scalar.addi v278 v279
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_225 : BitVec 32 := 1#32
  let v281 : BitVec 32 := Scalar.muli v8 c1_i32_225
  let v282 : BitVec 32 := Scalar.addi v280 v281
  v282.toNat
def k0_off22 (d0 : Dev nD) : Fin 3 → Nat :=
  let c2_i32_230 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v291 : BitVec 32 := Scalar.muli c2_i32_230 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v292 : BitVec 32 := Scalar.addi v291 v14
  let c0_i32_241 : BitVec 32 := 0#32
  let c0_i32_242 : BitVec 32 := 0#32
  ![v292.toNat, 0, 0]
def k0_dev16 (d0 : Dev nD) : Nat :=
  let c0_i32_236 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_235 : BitVec 32 := 4#32
  let v293 : BitVec 32 := Scalar.muli v13 c4_i32_235
  let v294 : BitVec 32 := Scalar.addi c0_i32_236 v293
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_237 : BitVec 32 := 2#32
  let v295 : BitVec 32 := Scalar.muli v14 c2_i32_237
  let v296 : BitVec 32 := Scalar.addi v294 v295
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_238 : BitVec 32 := 1#32
  let v297 : BitVec 32 := Scalar.muli v8 c1_i32_238
  let v298 : BitVec 32 := Scalar.addi v296 v297
  v298.toNat
def k0_off23 (d0 : Dev nD) : Fin 3 → Nat :=
  let c2_i32_243 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v307 : BitVec 32 := Scalar.muli c2_i32_243 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v308 : BitVec 32 := Scalar.addi v307 v14
  let c0_i32_254 : BitVec 32 := 0#32
  let c0_i32_255 : BitVec 32 := 0#32
  ![v308.toNat, 0, 0]
def k0_dev17 (d0 : Dev nD) : Nat :=
  let c0_i32_249 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_248 : BitVec 32 := 4#32
  let v309 : BitVec 32 := Scalar.muli v13 c4_i32_248
  let v310 : BitVec 32 := Scalar.addi c0_i32_249 v309
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_250 : BitVec 32 := 2#32
  let v311 : BitVec 32 := Scalar.muli v14 c2_i32_250
  let v312 : BitVec 32 := Scalar.addi v310 v311
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_251 : BitVec 32 := 1#32
  let v313 : BitVec 32 := Scalar.muli v8 c1_i32_251
  let v314 : BitVec 32 := Scalar.addi v312 v313
  v314.toNat
def k0_off24 (d0 : Dev nD) : Fin 3 → Nat :=
  let c2_i32_256 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v323 : BitVec 32 := Scalar.muli c2_i32_256 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v324 : BitVec 32 := Scalar.addi v323 v14
  let c0_i32_267 : BitVec 32 := 0#32
  let c0_i32_268 : BitVec 32 := 0#32
  ![v324.toNat, 0, 0]
def k0_dev18 (d0 : Dev nD) : Nat :=
  let c0_i32_262 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_261 : BitVec 32 := 4#32
  let v325 : BitVec 32 := Scalar.muli v13 c4_i32_261
  let v326 : BitVec 32 := Scalar.addi c0_i32_262 v325
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_263 : BitVec 32 := 2#32
  let v327 : BitVec 32 := Scalar.muli v14 c2_i32_263
  let v328 : BitVec 32 := Scalar.addi v326 v327
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v329 : BitVec 32 := Scalar.muli v8 c1_i32_264
  let v330 : BitVec 32 := Scalar.addi v328 v329
  v330.toNat
-- ==== ChipsReference.lean ====
abbrev S32x2048x564 : Shape := ⟨3, ![32, 2048, 564]⟩
abbrev S32x256x2048 : Shape := ⟨3, ![32, 256, 2048]⟩
abbrev S32x2048x1024 : Shape := ⟨3, ![32, 2048, 1024]⟩
abbrev S32x1024x2048 : Shape := ⟨3, ![32, 1024, 2048]⟩
abbrev S32x128x1024 : Shape := ⟨3, ![32, 128, 1024]⟩
abbrev S32x432x128 : Shape := ⟨3, ![32, 432, 128]⟩
abbrev S4x2x4x2048x564 : Shape := ⟨5, ![4, 2, 4, 2048, 564]⟩
abbrev S4x2x4x256x2048 : Shape := ⟨5, ![4, 2, 4, 256, 2048]⟩
abbrev S4x2x4x2048x1024 : Shape := ⟨5, ![4, 2, 4, 2048, 1024]⟩
abbrev S4x2x4x1024x2048 : Shape := ⟨5, ![4, 2, 4, 1024, 2048]⟩
abbrev S4x2x4x128x1024 : Shape := ⟨5, ![4, 2, 4, 128, 1024]⟩
abbrev S4x2x4x432x128 : Shape := ⟨5, ![4, 2, 4, 432, 128]⟩

abbrev nBuf : Space → Nat
  | .hbm => 24
  | .vmem => 0
  | .smem => 0
  | _ => 0

abbrev bufTy : (tb : Table) → Fin (tcTables nBuf tb) → BufTy
  | .hbm, ⟨0, _⟩ => ⟨S32x2048x564, .bf16⟩
  | .hbm, ⟨1, _⟩ => ⟨S32x256x2048, .bf16⟩
  | .hbm, ⟨2, _⟩ => ⟨S32x2048x1024, .bf16⟩
  | .hbm, ⟨3, _⟩ => ⟨S32x1024x2048, .bf16⟩
  | .hbm, ⟨4, _⟩ => ⟨S32x128x1024, .f32⟩
  | .hbm, ⟨5, _⟩ => ⟨S32x432x128, .f32⟩
  | .hbm, ⟨6, _⟩ => ⟨S4x2x4x2048x564, .bf16⟩
  | .hbm, ⟨7, _⟩ => ⟨S4x2x4x2048x564, .bf16⟩
  | .hbm, ⟨8, _⟩ => ⟨S32x2048x564, .bf16⟩
  | .hbm, ⟨9, _⟩ => ⟨S4x2x4x256x2048, .bf16⟩
  | .hbm, ⟨10, _⟩ => ⟨S4x2x4x256x2048, .bf16⟩
  | .hbm, ⟨11, _⟩ => ⟨S32x256x2048, .bf16⟩
  | .hbm, ⟨12, _⟩ => ⟨S4x2x4x2048x1024, .bf16⟩
  | .hbm, ⟨13, _⟩ => ⟨S4x2x4x2048x1024, .bf16⟩
  | .hbm, ⟨14, _⟩ => ⟨S32x2048x1024, .bf16⟩
  | .hbm, ⟨15, _⟩ => ⟨S4x2x4x1024x2048, .bf16⟩
  | .hbm, ⟨16, _⟩ => ⟨S4x2x4x1024x2048, .bf16⟩
  | .hbm, ⟨17, _⟩ => ⟨S32x1024x2048, .bf16⟩
  | .hbm, ⟨18, _⟩ => ⟨S4x2x4x128x1024, .f32⟩
  | .hbm, ⟨19, _⟩ => ⟨S4x2x4x128x1024, .f32⟩
  | .hbm, ⟨20, _⟩ => ⟨S32x128x1024, .f32⟩
  | .hbm, ⟨21, _⟩ => ⟨S4x2x4x432x128, .f32⟩
  | .hbm, ⟨22, _⟩ => ⟨S4x2x4x432x128, .f32⟩
  | .hbm, ⟨23, _⟩ => ⟨S32x432x128, .f32⟩
  | _, _ => ⟨S32x2048x564, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Small.lean ====
abbrev S2504x128 : Shape := ⟨2, ![2504, 128]⟩
abbrev S8x2504x128 : Shape := ⟨3, ![8, 2504, 128]⟩
abbrev S1x7 : Shape := ⟨2, ![1, 7]⟩
abbrev S1 : Shape := ⟨1, ![1]⟩
abbrev S_ : Shape := ⟨0, ![]⟩
abbrev S1x2504x128 : Shape := ⟨3, ![1, 2504, 128]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S2504x128, .f32⟩
  | .hbm, ⟨1, _⟩ => ⟨S8x2504x128, .f32⟩
  | _, _ => ⟨S2504x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_10 : BitVec 32 := 0#32
  let c0_i32_11 : BitVec 32 := 0#32
  ![v17.toNat, 0, 0]
def k0_dev1 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v38 : BitVec 32 := Scalar.muli v2 c4_i32_24
  let v39 : BitVec 32 := Scalar.addi c0_i32_25 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v40 : BitVec 32 := Scalar.muli v5 c2_i32_26
  let v41 : BitVec 32 := Scalar.addi v39 v40
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_27 : BitVec 32 := 1#32
  let v42 : BitVec 32 := Scalar.muli v9 c1_i32_27
  let v43 : BitVec 32 := Scalar.addi v41 v42
  v43.toNat
def k0_dev2 (d0 : Dev nD) : Nat :=
  let c0_i32_35 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_34 : BitVec 32 := 4#32
  let v50 : BitVec 32 := Scalar.muli v10 c4_i32_34
  let v51 : BitVec 32 := Scalar.addi c0_i32_35 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v52 : BitVec 32 := Scalar.muli v5 c2_i32_36
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v54 : BitVec 32 := Scalar.muli v8 c1_i32_37
  let v55 : BitVec 32 := Scalar.addi v53 v54
  v55.toNat
def k0_dev3 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v62 : BitVec 32 := Scalar.muli v2 c4_i32_44
  let v63 : BitVec 32 := Scalar.addi c0_i32_45 v62
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_46 : BitVec 32 := 2#32
  let v64 : BitVec 32 := Scalar.muli v11 c2_i32_46
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v66 : BitVec 32 := Scalar.muli v8 c1_i32_47
  let v67 : BitVec 32 := Scalar.addi v65 v66
  v67.toNat
def k0_dev4 (d0 : Dev nD) : Nat :=
  let c0_i32_54 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_53 : BitVec 32 := 4#32
  let v74 : BitVec 32 := Scalar.muli v12 c4_i32_53
  let v75 : BitVec 32 := Scalar.addi c0_i32_54 v74
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_55 : BitVec 32 := 2#32
  let v76 : BitVec 32 := Scalar.muli v13 c2_i32_55
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_56 : BitVec 32 := 1#32
  let v78 : BitVec 32 := Scalar.muli v8 c1_i32_56
  let v79 : BitVec 32 := Scalar.addi v77 v78
  v79.toNat
def k0_off2 (d0 : Dev nD) : Fin 3 → Nat :=
  let c4_i32_61 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v90 : BitVec 32 := Scalar.muli c4_i32_61 v10
  let c2_i32_62 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v91 : BitVec 32 := Scalar.muli c2_i32_62 v5
  let v92 : BitVec 32 := Scalar.addi v90 v91
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v93 : BitVec 32 := Scalar.addi v92 v8
  let c0_i32_71 : BitVec 32 := 0#32
  let c0_i32_72 : BitVec 32 := 0#32
  ![v93.toNat, 0, 0]
def k0_dev5 (d0 : Dev nD) : Nat :=
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_83 : BitVec 32 := 4#32
  let v114 : BitVec 32 := Scalar.muli v2 c4_i32_83
  let v115 : BitVec 32 := Scalar.addi c0_i32_84 v114
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_85 : BitVec 32 := 2#32
  let v116 : BitVec 32 := Scalar.muli v5 c2_i32_85
  let v117 : BitVec 32 := Scalar.addi v115 v116
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_86 : BitVec 32 := 1#32
  let v118 : BitVec 32 := Scalar.muli v9 c1_i32_86
  let v119 : BitVec 32 := Scalar.addi v117 v118
  v119.toNat
def k0_off3 (d0 : Dev nD) : Fin 3 → Nat :=
  let c4_i32_93 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v132 : BitVec 32 := Scalar.muli c4_i32_93 v2
  let c2_i32_94 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v133 : BitVec 32 := Scalar.muli c2_i32_94 v11
  let v134 : BitVec 32 := Scalar.addi v132 v133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v135 : BitVec 32 := Scalar.addi v134 v8
  let c0_i32_103 : BitVec 32 := 0#32
  let c0_i32_104 : BitVec 32 := 0#32
  ![v135.toNat, 0, 0]
def k0_dev6 (d0 : Dev nD) : Nat :=
  let c0_i32_115 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_114 : BitVec 32 := 4#32
  let v156 : BitVec 32 := Scalar.muli v2 c4_i32_114
  let v157 : BitVec 32 := Scalar.addi c0_i32_115 v156
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_116 : BitVec 32 := 2#32
  let v158 : BitVec 32 := Scalar.muli v5 c2_i32_116
  let v159 : BitVec 32 := Scalar.addi v157 v158
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_117 : BitVec 32 := 1#32
  let v160 : BitVec 32 := Scalar.muli v9 c1_i32_117
  let v161 : BitVec 32 := Scalar.addi v159 v160
  v161.toNat
def k0_off4 (d0 : Dev nD) : Fin 3 → Nat :=
  let c4_i32_124 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v174 : BitVec 32 := Scalar.muli c4_i32_124 v12
  let c2_i32_125 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v175 : BitVec 32 := Scalar.muli c2_i32_125 v13
  let v176 : BitVec 32 := Scalar.addi v174 v175
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v177 : BitVec 32 := Scalar.addi v176 v8
  let c0_i32_134 : BitVec 32 := 0#32
  let c0_i32_135 : BitVec 32 := 0#32
  ![v177.toNat, 0, 0]
def k0_dev7 (d0 : Dev nD) : Nat :=
  let c0_i32_146 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_145 : BitVec 32 := 4#32
  let v198 : BitVec 32 := Scalar.muli v2 c4_i32_145
  let v199 : BitVec 32 := Scalar.addi c0_i32_146 v198
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_147 : BitVec 32 := 2#32
  let v200 : BitVec 32 := Scalar.muli v5 c2_i32_147
  let v201 : BitVec 32 := Scalar.addi v199 v200
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_148 : BitVec 32 := 1#32
  let v202 : BitVec 32 := Scalar.muli v9 c1_i32_148
  let v203 : BitVec 32 := Scalar.addi v201 v202
  v203.toNat
def k0_off5 (d0 : Dev nD) : Fin 3 → Nat :=
  let c4_i32_155 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v216 : BitVec 32 := Scalar.muli c4_i32_155 v2
  let c2_i32_156 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v217 : BitVec 32 := Scalar.muli c2_i32_156 v5
  let v218 : BitVec 32 := Scalar.addi v216 v217
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v219 : BitVec 32 := Scalar.addi v218 v9
  let c0_i32_165 : BitVec 32 := 0#32
  let c0_i32_166 : BitVec 32 := 0#32
  ![v219.toNat, 0, 0]
def k0_off6 (d0 : Dev nD) : Fin 3 → Nat :=
  let c4_i32_172 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v237 : BitVec 32 := Scalar.muli c4_i32_172 v10
  let c2_i32_173 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v238 : BitVec 32 := Scalar.muli c2_i32_173 v5
  let v239 : BitVec 32 := Scalar.addi v237 v238
  let c1_i32_169 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v232 : BitVec 32 := Scalar.subi c1_i32_169 v8
  let v240 : BitVec 32 := Scalar.addi v239 v232
  let c0_i32_182 : BitVec 32 := 0#32
  let c0_i32_183 : BitVec 32 := 0#32
  ![v240.toNat, 0, 0]
def k0_off7 (d0 : Dev nD) : Fin 3 → Nat :=
  let c4_i32_189 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v258 : BitVec 32 := Scalar.muli c4_i32_189 v2
  let c2_i32_190 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v259 : BitVec 32 := Scalar.muli c2_i32_190 v11
  let v260 : BitVec 32 := Scalar.addi v258 v259
  let c1_i32_186 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v253 : BitVec 32 := Scalar.subi c1_i32_186 v8
  let v261 : BitVec 32 := Scalar.addi v260 v253
  let c0_i32_199 : BitVec 32 := 0#32
  let c0_i32_200 : BitVec 32 := 0#32
  ![v261.toNat, 0, 0]
def k0_off8 (d0 : Dev nD) : Fin 3 → Nat :=
  let c4_i32_206 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v279 : BitVec 32 := Scalar.muli c4_i32_206 v12
  let c2_i32_207 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v280 : BitVec 32 := Scalar.muli c2_i32_207 v13
  let v281 : BitVec 32 := Scalar.addi v279 v280
  let c1_i32_203 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v274 : BitVec 32 := Scalar.subi c1_i32_203 v8
  let v282 : BitVec 32 := Scalar.addi v281 v274
  let c0_i32_216 : BitVec 32 := 0#32
  let c0_i32_217 : BitVec 32 := 0#32
  ![v282.toNat, 0, 0]
-- ==== SmallReference.lean ====
abbrev S20032x128 : Shape := ⟨2, ![20032, 128]⟩
abbrev S8x2504x128 : Shape := ⟨3, ![8, 2504, 128]⟩

abbrev nBuf : Space → Nat
  | .hbm => 2
  | .vmem => 0
  | .smem => 0
  | _ => 0

abbrev bufTy : (tb : Table) → Fin (tcTables nBuf tb) → BufTy
  | .hbm, ⟨0, _⟩ => ⟨S20032x128, .f32⟩
  | .hbm, ⟨1, _⟩ => ⟨S8x2504x128, .f32⟩
  | _, _ => ⟨S20032x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Cond.lean ====
abbrev S1x2048 : Shape := ⟨2, ![1, 2048]⟩
abbrev S8x1x2048 : Shape := ⟨3, ![8, 1, 2048]⟩
abbrev S1x7 : Shape := ⟨2, ![1, 7]⟩
abbrev S1 : Shape := ⟨1, ![1]⟩
abbrev S_ : Shape := ⟨0, ![]⟩
abbrev S1x1x2048 : Shape := ⟨3, ![1, 1, 2048]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S8x1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_dev1 (d0 : Dev nD) : Nat :=
  let c0_i32_13 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12 : BitVec 32 := 4#32
  let v18 : BitVec 32 := Scalar.muli v2 c4_i32_12
  let v19 : BitVec 32 := Scalar.addi c0_i32_13 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v20 : BitVec 32 := Scalar.muli v5 c2_i32_14
  let v21 : BitVec 32 := Scalar.addi v19 v20
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_7 v8
  let c1_i32_15 : BitVec 32 := 1#32
  let v22 : BitVec 32 := Scalar.muli v17 c1_i32_15
  let v23 : BitVec 32 := Scalar.addi v21 v22
  v23.toNat
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v31 : BitVec 32 := Scalar.muli v2 c4_i32_23
  let v32 : BitVec 32 := Scalar.addi c0_i32_24 v31
  let c1_i32_18 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v30 : BitVec 32 := Scalar.subi c1_i32_18 v5
  let c2_i32_25 : BitVec 32 := 2#32
  let v33 : BitVec 32 := Scalar.muli v30 c2_i32_25
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v35 : BitVec 32 := Scalar.muli v8 c1_i32_26
  let v36 : BitVec 32 := Scalar.addi v34 v35
  v36.toNat
def k0_dev3 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v45 : BitVec 32 := Scalar.muli v2 c4_i32_35
  let v46 : BitVec 32 := Scalar.addi c0_i32_36 v45
  let c1_i32_29 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.subi c1_i32_29 v5
  let c2_i32_37 : BitVec 32 := 2#32
  let v47 : BitVec 32 := Scalar.muli v43 c2_i32_37
  let v48 : BitVec 32 := Scalar.addi v46 v47
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v44 : BitVec 32 := Scalar.subi c1_i32_30 v8
  let c1_i32_38 : BitVec 32 := 1#32
  let v49 : BitVec 32 := Scalar.muli v44 c1_i32_38
  let v50 : BitVec 32 := Scalar.addi v48 v49
  v50.toNat
def k0_dev4 (d0 : Dev nD) : Nat :=
  let c0_i32_46 : BitVec 32 := 0#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v57 : BitVec 32 := Scalar.subi c1_i32_41 v2
  let c4_i32_45 : BitVec 32 := 4#32
  let v58 : BitVec 32 := Scalar.muli v57 c4_i32_45
  let v59 : BitVec 32 := Scalar.addi c0_i32_46 v58
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_47 : BitVec 32 := 2#32
  let v60 : BitVec 32 := Scalar.muli v5 c2_i32_47
  let v61 : BitVec 32 := Scalar.addi v59 v60
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v62 : BitVec 32 := Scalar.muli v8 c1_i32_48
  let v63 : BitVec 32 := Scalar.addi v61 v62
  v63.toNat
def k0_dev5 (d0 : Dev nD) : Nat :=
  let c0_i32_58 : BitVec 32 := 0#32
  let c1_i32_51 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_51 v2
  let c4_i32_57 : BitVec 32 := 4#32
  let v72 : BitVec 32 := Scalar.muli v70 c4_i32_57
  let v73 : BitVec 32 := Scalar.addi c0_i32_58 v72
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v74 : BitVec 32 := Scalar.muli v5 c2_i32_59
  let v75 : BitVec 32 := Scalar.addi v73 v74
  let c1_i32_52 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v71 : BitVec 32 := Scalar.subi c1_i32_52 v8
  let c1_i32_60 : BitVec 32 := 1#32
  let v76 : BitVec 32 := Scalar.muli v71 c1_i32_60
  let v77 : BitVec 32 := Scalar.addi v75 v76
  v77.toNat
def k0_dev6 (d0 : Dev nD) : Nat :=
  let c0_i32_69 : BitVec 32 := 0#32
  let c1_i32_63 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v84 : BitVec 32 := Scalar.subi c1_i32_63 v2
  let c4_i32_68 : BitVec 32 := 4#32
  let v86 : BitVec 32 := Scalar.muli v84 c4_i32_68
  let v87 : BitVec 32 := Scalar.addi c0_i32_69 v86
  let c1_i32_64 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v85 : BitVec 32 := Scalar.subi c1_i32_64 v5
  let c2_i32_70 : BitVec 32 := 2#32
  let v88 : BitVec 32 := Scalar.muli v85 c2_i32_70
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v90 : BitVec 32 := Scalar.muli v8 c1_i32_71
  let v91 : BitVec 32 := Scalar.addi v89 v90
  v91.toNat
def k0_dev7 (d0 : Dev nD) : Nat :=
  let c0_i32_81 : BitVec 32 := 0#32
  let c1_i32_74 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v98 : BitVec 32 := Scalar.subi c1_i32_74 v2
  let c4_i32_80 : BitVec 32 := 4#32
  let v101 : BitVec 32 := Scalar.muli v98 c4_i32_80
  let v102 : BitVec 32 := Scalar.addi c0_i32_81 v101
  let c1_i32_75 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v99 : BitVec 32 := Scalar.subi c1_i32_75 v5
  let c2_i32_82 : BitVec 32 := 2#32
  let v103 : BitVec 32 := Scalar.muli v99 c2_i32_82
  let v104 : BitVec 32 := Scalar.addi v102 v103
  let c1_i32_76 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v100 : BitVec 32 := Scalar.subi c1_i32_76 v8
  let c1_i32_83 : BitVec 32 := 1#32
  let v105 : BitVec 32 := Scalar.muli v100 c1_i32_83
  let v106 : BitVec 32 := Scalar.addi v104 v105
  v106.toNat
-- ==== CondReference.lean ====
abbrev S8x2048 : Shape := ⟨2, ![8, 2048]⟩
abbrev S8x1x2048 : Shape := ⟨3, ![8, 1, 2048]⟩

abbrev nBuf : Space → Nat
  | .hbm => 2
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x1x2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== AdamWIn.lean ====
abbrev S4x2048x564 : Shape := ⟨3, ![4, 2048, 564]⟩
abbrev S2048x564 : Shape := ⟨2, ![2048, 564]⟩
abbrev S4x512x564 : Shape := ⟨3, ![4, 512, 564]⟩
abbrev S512x564 : Shape := ⟨2, ![512, 564]⟩
abbrev S1x512x564 : Shape := ⟨3, ![1, 512, 564]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x564, .bf16⟩
  | .hbm, ⟨1, _⟩ => ⟨S2048x564, .f32⟩
  | .hbm, ⟨2, _⟩ => ⟨S2048x564, .f32⟩
  | .hbm, ⟨3, _⟩ => ⟨S2048x564, .f32⟩
  | .hbm, ⟨4, _⟩ => ⟨S2048x564, .f32⟩
  | .hbm, ⟨5, _⟩ => ⟨S2048x564, .f32⟩
  | .hbm, ⟨6, _⟩ => ⟨S2048x564, .f32⟩
  | .hbm, ⟨7, _⟩ => ⟨S2048x564, .f32⟩
  | .local _ .vmem, ⟨0, _⟩ => ⟨S4x512x564, .bf16⟩
  | .local _ .vmem, ⟨1, _⟩ => ⟨S4x512x564, .bf16⟩
  | .local _ .vmem, ⟨2, _⟩ => ⟨S512x564, .f32⟩
  | .local _ .vmem, ⟨3, _⟩ => ⟨S512x564, .f32⟩
  | .local _ .vmem, ⟨4, _⟩ => ⟨S512x564, .f32⟩
  | .local _ .vmem, ⟨5, _⟩ => ⟨S512x564, .f32⟩
  | .local _ .vmem, ⟨6, _⟩ => ⟨S512x564, .f32⟩
  | .local _ .vmem, ⟨7, _⟩ => ⟨S512x564, .f32⟩
  | .local _ .vmem, ⟨8, _⟩ => ⟨S512x564, .f32⟩
  | .local _ .vmem, ⟨9, _⟩ => ⟨S512x564, .f32⟩
  | .local _ .vmem, ⟨10, _⟩ => ⟨S512x564, .f32⟩
  | .local _ .vmem, ⟨11, _⟩ => ⟨S512x564, .f32⟩
  | .local _ .vmem, ⟨12, _⟩ => ⟨S512x564, .f32⟩
  | .local _ .vmem, ⟨13, _⟩ => ⟨S512x564, .f32⟩
  | .local _ .vmem, ⟨14, _⟩ => ⟨S512x564, .f32⟩
  | .local _ .vmem, ⟨15, _⟩ => ⟨S512x564, .f32⟩
  | _, _ => ⟨S4x2048x564, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x564 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x564 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x564 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x564 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x564 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x564 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x564 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x564 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWInIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamWInReferenceIdeal.lean ====
abbrev S4x2048x564 : Shape := ⟨3, ![4, 2048, 564]⟩
abbrev S2048x564 : Shape := ⟨2, ![2048, 564]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x564, .bf16⟩
  | .hbm, ⟨1, _⟩ => ⟨S2048x564, .f32⟩
  | .hbm, ⟨2, _⟩ => ⟨S2048x564, .f32⟩
  | .hbm, ⟨3, _⟩ => ⟨S2048x564, .f32⟩
  | .hbm, ⟨4, _⟩ => ⟨S4x2048x564, .f32⟩
  | .hbm, ⟨5, _⟩ => ⟨S_, .f32⟩
  | .hbm, ⟨6, _⟩ => ⟨S2048x564, .f32⟩
  | .hbm, ⟨7, _⟩ => ⟨S_, .f32⟩
  | .hbm, ⟨8, _⟩ => ⟨S2048x564, .f32⟩
  | .hbm, ⟨9, _⟩ => ⟨S2048x564, .f32⟩
  | .hbm, ⟨10, _⟩ => ⟨S_, .f32⟩
  | .hbm, ⟨11, _⟩ => ⟨S2048x564, .f32⟩
  | .hbm, ⟨12, _⟩ => ⟨S2048x564, .f32⟩
  | .hbm, ⟨13, _⟩ => ⟨S2048x564, .f32⟩
  | .hbm, ⟨14, _⟩ => ⟨S_, .f32⟩
  | .hbm, ⟨15, _⟩ => ⟨S2048x564, .f32⟩
  | .hbm, ⟨16, _⟩ => ⟨S2048x564, .f32⟩
  | .hbm, ⟨17, _⟩ => ⟨S2048x564, .f32⟩
  | .hbm, ⟨18, _⟩ => ⟨S_, .f32⟩
  | .hbm, ⟨19, _⟩ => ⟨S2048x564, .f32⟩
  | .hbm, ⟨20, _⟩ => ⟨S2048x564, .f32⟩
  | .hbm, ⟨21, _⟩ => ⟨S2048x564, .f32⟩
  | .hbm, ⟨22, _⟩ => ⟨S_, .f32⟩
  | .hbm, ⟨23, _⟩ => ⟨S2048x564, .f32⟩
  | .hbm, ⟨24, _⟩ => ⟨S2048x564, .f32⟩
  | .hbm, ⟨25, _⟩ => ⟨S_, .f32⟩
  | .hbm, ⟨26, _⟩ => ⟨S2048x564, .f32⟩
  | .hbm, ⟨27, _⟩ => ⟨S2048x564, .f32⟩
  | .hbm, ⟨28, _⟩ => ⟨S2048x564, .f32⟩
  | .hbm, ⟨29, _⟩ => ⟨S_, .f32⟩
  | .hbm, ⟨30, _⟩ => ⟨S2048x564, .f32⟩
  | .hbm, ⟨31, _⟩ => ⟨S2048x564, .f32⟩
  | .hbm, ⟨32, _⟩ => ⟨S2048x564, .f32⟩
  | .hbm, ⟨33, _⟩ => ⟨S_, .f32⟩
  | .hbm, ⟨34, _⟩ => ⟨S2048x564, .f32⟩
  | .hbm, ⟨35, _⟩ => ⟨S2048x564, .f32⟩
  | .hbm, ⟨36, _⟩ => ⟨S2048x564, .f32⟩
  | .hbm, ⟨37, _⟩ => ⟨S_, .f32⟩
  | .hbm, ⟨38, _⟩ => ⟨S2048x564, .f32⟩
  | .hbm, ⟨39, _⟩ => ⟨S2048x564, .f32⟩
  | _, _ => ⟨S4x2048x564, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamWOut.lean ====
abbrev S4x256x2048 : Shape := ⟨3, ![4, 256, 2048]⟩
abbrev S256x2048 : Shape := ⟨2, ![256, 2048]⟩
abbrev S1x256x2048 : Shape := ⟨3, ![1, 256, 2048]⟩

abbrev nBuf : Space → Nat
  | .hbm => 8
  | .vmem => 8
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S4x256x2048, .bf16⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamWOutIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamWOutReferenceIdeal.lean ====
abbrev S4x256x2048 : Shape := ⟨3, ![4, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S4x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamFfn1.lean ====
abbrev S4x2048x1024 : Shape := ⟨3, ![4, 2048, 1024]⟩
abbrev S2048x1024 : Shape := ⟨2, ![2048, 1024]⟩
abbrev S4x512x1024 : Shape := ⟨3, ![4, 512, 1024]⟩
abbrev S512x1024 : Shape := ⟨2, ![512, 1024]⟩
abbrev S1x512x1024 : Shape := ⟨3, ![1, 512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x1024, .bf16⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S4x512x1024, .bf16⟩
  | .local _ .vmem, ⟨1, _⟩ => ⟨S4x512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfn1Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamFfn1ReferenceIdeal.lean ====
abbrev S4x2048x1024 : Shape := ⟨3, ![4, 2048, 1024]⟩
abbrev S2048x1024 : Shape := ⟨2, ![2048, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S4x2048x1024, .f32⟩
  | .hbm, ⟨5, _⟩ => ⟨S_, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamFfn2.lean ====
abbrev S4x1024x2048 : Shape := ⟨3, ![4, 1024, 2048]⟩
abbrev S1024x2048 : Shape := ⟨2, ![1024, 2048]⟩
abbrev S4x256x2048 : Shape := ⟨3, ![4, 256, 2048]⟩
abbrev S256x2048 : Shape := ⟨2, ![256, 2048]⟩
abbrev S1x256x2048 : Shape := ⟨3, ![1, 256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x2048, .bf16⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .local _ .vmem, ⟨0, _⟩ => ⟨S4x256x2048, .bf16⟩
  | .local _ .vmem, ⟨1, _⟩ => ⟨S4x256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S4x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfn2Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamFfn2ReferenceIdeal.lean ====
abbrev S4x1024x2048 : Shape := ⟨3, ![4, 1024, 2048]⟩
abbrev S1024x2048 : Shape := ⟨2, ![1024, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x2048, .bf16⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S4x1024x2048, .f32⟩
  | .hbm, ⟨5, _⟩ => ⟨S_, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S_, .f32⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S_, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S_, .f32⟩
  | .hbm, ⟨19, _⟩ => ⟨S1024x2048, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S_, .f32⟩
  | .hbm, ⟨26, _⟩ => ⟨S1024x2048, .f32⟩
  | .hbm, ⟨27, _⟩ => ⟨S1024x2048, .f32⟩
  | .hbm, ⟨28, _⟩ => ⟨S1024x2048, .f32⟩
  | .hbm, ⟨29, _⟩ => ⟨S_, .f32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S_, .f32⟩
  | .hbm, ⟨34, _⟩ => ⟨S1024x2048, .f32⟩
  | .hbm, ⟨35, _⟩ => ⟨S1024x2048, .f32⟩
  | .hbm, ⟨36, _⟩ => ⟨S1024x2048, .f32⟩
  | .hbm, ⟨37, _⟩ => ⟨S_, .f32⟩
  | .hbm, ⟨38, _⟩ => ⟨S1024x2048, .f32⟩
  | .hbm, ⟨39, _⟩ => ⟨S1024x2048, .f32⟩
  | _, _ => ⟨S4x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamGlu.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S4x128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGluIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamGluReferenceIdeal.lean ====
abbrev S4x128x1024 : Shape := ⟨3, ![4, 128, 1024]⟩
abbrev S128x1024 : Shape := ⟨2, ![128, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamAda.lean ====
abbrev S1x2048x1536 : Shape := ⟨3, ![1, 2048, 1536]⟩
abbrev S2048x1536 : Shape := ⟨2, ![2048, 1536]⟩
abbrev S1x256x1536 : Shape := ⟨3, ![1, 256, 1536]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S1x256x1536, .f32⟩
  | .local _ .vmem, ⟨1, _⟩ => ⟨S1x256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S1x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamAdaReferenceIdeal.lean ====
abbrev S1x2048x1536 : Shape := ⟨3, ![1, 2048, 1536]⟩
abbrev S2048x1536 : Shape := ⟨2, ![2048, 1536]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S_, .f32⟩
  | .hbm, ⟨7, _⟩ => ⟨S2048x1536, .f32⟩
  | .hbm, ⟨8, _⟩ => ⟨S2048x1536, .f32⟩
  | .hbm, ⟨9, _⟩ => ⟨S_, .f32⟩
  | .hbm, ⟨10, _⟩ => ⟨S2048x1536, .f32⟩
  | .hbm, ⟨11, _⟩ => ⟨S2048x1536, .f32⟩
  | .hbm, ⟨12, _⟩ => ⟨S2048x1536, .f32⟩
  | .hbm, ⟨13, _⟩ => ⟨S_, .f32⟩
  | .hbm, ⟨14, _⟩ => ⟨S2048x1536, .f32⟩
  | .hbm, ⟨15, _⟩ => ⟨S2048x1536, .f32⟩
  | .hbm, ⟨16, _⟩ => ⟨S2048x1536, .f32⟩
  | .hbm, ⟨17, _⟩ => ⟨S_, .f32⟩
  | .hbm, ⟨18, _⟩ => ⟨S2048x1536, .f32⟩
  | .hbm, ⟨19, _⟩ => ⟨S2048x1536, .f32⟩
  | .hbm, ⟨20, _⟩ => ⟨S2048x1536, .f32⟩
  | .hbm, ⟨21, _⟩ => ⟨S_, .f32⟩
  | .hbm, ⟨22, _⟩ => ⟨S2048x1536, .f32⟩
  | .hbm, ⟨23, _⟩ => ⟨S2048x1536, .f32⟩
  | .hbm, ⟨24, _⟩ => ⟨S_, .f32⟩
  | .hbm, ⟨25, _⟩ => ⟨S2048x1536, .f32⟩
  | .hbm, ⟨26, _⟩ => ⟨S2048x1536, .f32⟩
  | .hbm, ⟨27, _⟩ => ⟨S2048x1536, .f32⟩
  | .hbm, ⟨28, _⟩ => ⟨S_, .f32⟩
  | .hbm, ⟨29, _⟩ => ⟨S2048x1536, .f32⟩
  | .hbm, ⟨30, _⟩ => ⟨S2048x1536, .f32⟩
  | .hbm, ⟨31, _⟩ => ⟨S2048x1536, .f32⟩
  | .hbm, ⟨32, _⟩ => ⟨S_, .f32⟩
  | .hbm, ⟨33, _⟩ => ⟨S2048x1536, .f32⟩
  | .hbm, ⟨34, _⟩ => ⟨S2048x1536, .f32⟩
  | .hbm, ⟨35, _⟩ => ⟨S2048x1536, .f32⟩
  | .hbm, ⟨36, _⟩ => ⟨S_, .f32⟩
  | .hbm, ⟨37, _⟩ => ⟨S2048x1536, .f32⟩
  | .hbm, ⟨38, _⟩ => ⟨S2048x1536, .f32⟩
  | _, _ => ⟨S1x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamRk.lean ====
abbrev S4x432x128 : Shape := ⟨3, ![4, 432, 128]⟩
abbrev S432x128 : Shape := ⟨2, ![432, 128]⟩
abbrev S1x432x128 : Shape := ⟨3, ![1, 432, 128]⟩

abbrev nBuf : Space → Nat
  | .hbm => 8
  | .vmem => 8
  | .smem => 0
  | _ => 0

abbrev bufTy : (tb : Table) → Fin (tcTables nBuf tb) → BufTy
  | .hbm, ⟨0, _⟩ => ⟨S4x432x128, .f32⟩
  | .hbm, ⟨1, _⟩ => ⟨S432x128, .f32⟩
  | .hbm, ⟨2, _⟩ => ⟨S432x128, .f32⟩
  | .hbm, ⟨3, _⟩ => ⟨S432x128, .f32⟩
  | .hbm, ⟨4, _⟩ => ⟨S432x128, .f32⟩
  | .hbm, ⟨5, _⟩ => ⟨S432x128, .f32⟩
  | .hbm, ⟨6, _⟩ => ⟨S432x128, .f32⟩
  | .hbm, ⟨7, _⟩ => ⟨S432x128, .f32⟩
  | .local _ .vmem, ⟨0, _⟩ => ⟨S4x432x128, .f32⟩
  | .local _ .vmem, ⟨1, _⟩ => ⟨S432x128, .f32⟩
  | .local _ .vmem, ⟨2, _⟩ => ⟨S432x128, .f32⟩
  | .local _ .vmem, ⟨3, _⟩ => ⟨S432x128, .f32⟩
  | .local _ .vmem, ⟨4, _⟩ => ⟨S432x128, .f32⟩
  | .local _ .vmem, ⟨5, _⟩ => ⟨S432x128, .f32⟩
  | .local _ .vmem, ⟨6, _⟩ => ⟨S432x128, .f32⟩
  | .local _ .vmem, ⟨7, _⟩ => ⟨S432x128, .f32⟩
  | _, _ => ⟨S4x432x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x432x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S432x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S432x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S432x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S432x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S432x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S432x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S432x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamRkIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamRkReferenceIdeal.lean ====
abbrev S4x432x128 : Shape := ⟨3, ![4, 432, 128]⟩
abbrev S432x128 : Shape := ⟨2, ![432, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x432x128, .f32⟩
  | .hbm, ⟨1, _⟩ => ⟨S432x128, .f32⟩
  | .hbm, ⟨2, _⟩ => ⟨S432x128, .f32⟩
  | .hbm, ⟨3, _⟩ => ⟨S432x128, .f32⟩
  | .hbm, ⟨4, _⟩ => ⟨S_, .f32⟩
  | .hbm, ⟨5, _⟩ => ⟨S432x128, .f32⟩
  | .hbm, ⟨6, _⟩ => ⟨S_, .f32⟩
  | .hbm, ⟨7, _⟩ => ⟨S432x128, .f32⟩
  | .hbm, ⟨8, _⟩ => ⟨S432x128, .f32⟩
  | .hbm, ⟨9, _⟩ => ⟨S_, .f32⟩
  | .hbm, ⟨10, _⟩ => ⟨S432x128, .f32⟩
  | .hbm, ⟨11, _⟩ => ⟨S432x128, .f32⟩
  | .hbm, ⟨12, _⟩ => ⟨S432x128, .f32⟩
  | .hbm, ⟨13, _⟩ => ⟨S_, .f32⟩
  | .hbm, ⟨14, _⟩ => ⟨S432x128, .f32⟩
  | .hbm, ⟨15, _⟩ => ⟨S432x128, .f32⟩
  | .hbm, ⟨16, _⟩ => ⟨S432x128, .f32⟩
  | .hbm, ⟨17, _⟩ => ⟨S_, .f32⟩
  | .hbm, ⟨18, _⟩ => ⟨S432x128, .f32⟩
  | .hbm, ⟨19, _⟩ => ⟨S432x128, .f32⟩
  | .hbm, ⟨20, _⟩ => ⟨S432x128, .f32⟩
  | .hbm, ⟨21, _⟩ => ⟨S_, .f32⟩
  | .hbm, ⟨22, _⟩ => ⟨S432x128, .f32⟩
  | .hbm, ⟨23, _⟩ => ⟨S432x128, .f32⟩
  | .hbm, ⟨24, _⟩ => ⟨S_, .f32⟩
  | .hbm, ⟨25, _⟩ => ⟨S432x128, .f32⟩
  | .hbm, ⟨26, _⟩ => ⟨S432x128, .f32⟩
  | .hbm, ⟨27, _⟩ => ⟨S432x128, .f32⟩
  | .hbm, ⟨28, _⟩ => ⟨S_, .f32⟩
  | .hbm, ⟨29, _⟩ => ⟨S432x128, .f32⟩
  | .hbm, ⟨30, _⟩ => ⟨S432x128, .f32⟩
  | .hbm, ⟨31, _⟩ => ⟨S432x128, .f32⟩
  | .hbm, ⟨32, _⟩ => ⟨S_, .f32⟩
  | .hbm, ⟨33, _⟩ => ⟨S432x128, .f32⟩
  | .hbm, ⟨34, _⟩ => ⟨S432x128, .f32⟩
  | .hbm, ⟨35, _⟩ => ⟨S432x128, .f32⟩
  | .hbm, ⟨36, _⟩ => ⟨S_, .f32⟩
  | .hbm, ⟨37, _⟩ => ⟨S432x128, .f32⟩
  | .hbm, ⟨38, _⟩ => ⟨S432x128, .f32⟩
  | _, _ => ⟨S4x432x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSmall.lean ====
abbrev S8x2440x128 : Shape := ⟨3, ![8, 2440, 128]⟩
abbrev S2440x128 : Shape := ⟨2, ![2440, 128]⟩
abbrev S1x2440x128 : Shape := ⟨3, ![1, 2440, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x2440x128, .f32⟩
  | .hbm, ⟨1, _⟩ => ⟨S2440x128, .f32⟩
  | .hbm, ⟨2, _⟩ => ⟨S2440x128, .f32⟩
  | .hbm, ⟨3, _⟩ => ⟨S2440x128, .f32⟩
  | .hbm, ⟨4, _⟩ => ⟨S2440x128, .f32⟩
  | .hbm, ⟨5, _⟩ => ⟨S2440x128, .f32⟩
  | .hbm, ⟨6, _⟩ => ⟨S2440x128, .f32⟩
  | .hbm, ⟨7, _⟩ => ⟨S2440x128, .f32⟩
  | .local _ .vmem, ⟨0, _⟩ => ⟨S8x2440x128, .f32⟩
  | .local _ .vmem, ⟨1, _⟩ => ⟨S2440x128, .f32⟩
  | .local _ .vmem, ⟨2, _⟩ => ⟨S2440x128, .f32⟩
  | .local _ .vmem, ⟨3, _⟩ => ⟨S2440x128, .f32⟩
  | .local _ .vmem, ⟨4, _⟩ => ⟨S2440x128, .f32⟩
  | .local _ .vmem, ⟨5, _⟩ => ⟨S2440x128, .f32⟩
  | .local _ .vmem, ⟨6, _⟩ => ⟨S2440x128, .f32⟩
  | .local _ .vmem, ⟨7, _⟩ => ⟨S2440x128, .f32⟩
  | _, _ => ⟨S8x2440x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2440x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2440x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2440x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2440x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2440x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2440x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2440x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2440x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamSmallReferenceIdeal.lean ====
abbrev S8x2440x128 : Shape := ⟨3, ![8, 2440, 128]⟩
abbrev S2440x128 : Shape := ⟨2, ![2440, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2440x128, .f32⟩
  | .hbm, ⟨1, _⟩ => ⟨S2440x128, .f32⟩
  | .hbm, ⟨2, _⟩ => ⟨S2440x128, .f32⟩
  | .hbm, ⟨3, _⟩ => ⟨S2440x128, .f32⟩
  | .hbm, ⟨4, _⟩ => ⟨S_, .f32⟩
  | .hbm, ⟨5, _⟩ => ⟨S2440x128, .f32⟩
  | .hbm, ⟨6, _⟩ => ⟨S_, .f32⟩
  | .hbm, ⟨7, _⟩ => ⟨S2440x128, .f32⟩
  | .hbm, ⟨8, _⟩ => ⟨S2440x128, .f32⟩
  | .hbm, ⟨9, _⟩ => ⟨S_, .f32⟩
  | .hbm, ⟨10, _⟩ => ⟨S2440x128, .f32⟩
  | .hbm, ⟨11, _⟩ => ⟨S2440x128, .f32⟩
  | .hbm, ⟨12, _⟩ => ⟨S2440x128, .f32⟩
  | .hbm, ⟨13, _⟩ => ⟨S_, .f32⟩
  | .hbm, ⟨14, _⟩ => ⟨S2440x128, .f32⟩
  | .hbm, ⟨15, _⟩ => ⟨S2440x128, .f32⟩
  | .hbm, ⟨16, _⟩ => ⟨S2440x128, .f32⟩
  | .hbm, ⟨17, _⟩ => ⟨S_, .f32⟩
  | .hbm, ⟨18, _⟩ => ⟨S2440x128, .f32⟩
  | .hbm, ⟨19, _⟩ => ⟨S2440x128, .f32⟩
  | .hbm, ⟨20, _⟩ => ⟨S2440x128, .f32⟩
  | .hbm, ⟨21, _⟩ => ⟨S_, .f32⟩
  | .hbm, ⟨22, _⟩ => ⟨S2440x128, .f32⟩
  | .hbm, ⟨23, _⟩ => ⟨S2440x128, .f32⟩
  | .hbm, ⟨24, _⟩ => ⟨S_, .f32⟩
  | .hbm, ⟨25, _⟩ => ⟨S2440x128, .f32⟩
  | .hbm, ⟨26, _⟩ => ⟨S2440x128, .f32⟩
  | .hbm, ⟨27, _⟩ => ⟨S2440x128, .f32⟩
  | .hbm, ⟨28, _⟩ => ⟨S_, .f32⟩
  | .hbm, ⟨29, _⟩ => ⟨S2440x128, .f32⟩
  | .hbm, ⟨30, _⟩ => ⟨S2440x128, .f32⟩
  | .hbm, ⟨31, _⟩ => ⟨S2440x128, .f32⟩
  | .hbm, ⟨32, _⟩ => ⟨S_, .f32⟩
  | .hbm, ⟨33, _⟩ => ⟨S2440x128, .f32⟩
  | .hbm, ⟨34, _⟩ => ⟨S2440x128, .f32⟩
  | .hbm, ⟨35, _⟩ => ⟨S2440x128, .f32⟩
  | .hbm, ⟨36, _⟩ => ⟨S_, .f32⟩
  | .hbm, ⟨37, _⟩ => ⟨S2440x128, .f32⟩
  | .hbm, ⟨38, _⟩ => ⟨S2440x128, .f32⟩
  | _, _ => ⟨S8x2440x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamLog.lean ====
abbrev S512x8x128 : Shape := ⟨3, ![512, 8, 128]⟩
abbrev S8x128 : Shape := ⟨2, ![8, 128]⟩
abbrev S1x8x128 : Shape := ⟨3, ![1, 8, 128]⟩

abbrev nBuf : Space → Nat
  | .hbm => 8
  | .vmem => 8
  | .smem => 0
  | _ => 0

abbrev bufTy : (tb : Table) → Fin (tcTables nBuf tb) → BufTy
  | .hbm, ⟨0, _⟩ => ⟨S512x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .local _ .vmem, ⟨0, _⟩ => ⟨S512x8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S512x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamLogIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamLogReferenceIdeal.lean ====
abbrev S512x8x128 : Shape := ⟨3, ![512, 8, 128]⟩
abbrev S8x128 : Shape := ⟨2, ![8, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S_, .f32⟩
  | .hbm, ⟨7, _⟩ => ⟨S8x128, .f32⟩
  | .hbm, ⟨8, _⟩ => ⟨S8x128, .f32⟩
  | .hbm, ⟨9, _⟩ => ⟨S_, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S_, .f32⟩
  | .hbm, ⟨14, _⟩ => ⟨S8x128, .f32⟩
  | .hbm, ⟨15, _⟩ => ⟨S8x128, .f32⟩
  | .hbm, ⟨16, _⟩ => ⟨S8x128, .f32⟩
  | .hbm, ⟨17, _⟩ => ⟨S_, .f32⟩
  | .hbm, ⟨18, _⟩ => ⟨S8x128, .f32⟩
  | .hbm, ⟨19, _⟩ => ⟨S8x128, .f32⟩
  | .hbm, ⟨20, _⟩ => ⟨S8x128, .f32⟩
  | .hbm, ⟨21, _⟩ => ⟨S_, .f32⟩
  | .hbm, ⟨22, _⟩ => ⟨S8x128, .f32⟩
  | .hbm, ⟨23, _⟩ => ⟨S8x128, .f32⟩
  | .hbm, ⟨24, _⟩ => ⟨S_, .f32⟩
  | .hbm, ⟨25, _⟩ => ⟨S8x128, .f32⟩
  | .hbm, ⟨26, _⟩ => ⟨S8x128, .f32⟩
  | .hbm, ⟨27, _⟩ => ⟨S8x128, .f32⟩
  | .hbm, ⟨28, _⟩ => ⟨S_, .f32⟩
  | .hbm, ⟨29, _⟩ => ⟨S8x128, .f32⟩
  | .hbm, ⟨30, _⟩ => ⟨S8x128, .f32⟩
  | .hbm, ⟨31, _⟩ => ⟨S8x128, .f32⟩
  | .hbm, ⟨32, _⟩ => ⟨S_, .f32⟩
  | .hbm, ⟨33, _⟩ => ⟨S8x128, .f32⟩
  | .hbm, ⟨34, _⟩ => ⟨S8x128, .f32⟩
  | .hbm, ⟨35, _⟩ => ⟨S8x128, .f32⟩
  | .hbm, ⟨36, _⟩ => ⟨S_, .f32⟩
  | .hbm, ⟨37, _⟩ => ⟨S8x128, .f32⟩
  | .hbm, ⟨38, _⟩ => ⟨S8x128, .f32⟩
  | _, _ => ⟨S512x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Norm.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormReferenceIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 66
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S_, .f32⟩
  | .hbm, ⟨50, _⟩ => ⟨S2048, .f32⟩
  | .hbm, ⟨51, _⟩ => ⟨S2048x1, .f32⟩
  | .hbm, ⟨52, _⟩ => ⟨S2048x2048, .f32⟩
  | .hbm, ⟨53, _⟩ => ⟨S2048x2048, .f32⟩
  | .hbm, ⟨54, _⟩ => ⟨S2048x1, .f32⟩
  | .hbm, ⟨55, _⟩ => ⟨S_, .f32⟩
  | .hbm, ⟨56, _⟩ => ⟨S2048x1, .f32⟩
  | .hbm, ⟨57, _⟩ => ⟨S2048x1, .f32⟩
  | .hbm, ⟨58, _⟩ => ⟨S_, .f32⟩
  | .hbm, ⟨59, _⟩ => ⟨S2048, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Loss.lean ====
abbrev S2048x2048 : Shape := ⟨2, ![2048, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩
abbrev S2048 : Shape := ⟨1, ![2048]⟩

abbrev nBuf : Space → Nat
  | .hbm => 10
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S8x128, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S8x128, .f32⟩
  | .local _ .vmem, ⟨13, _⟩ => ⟨S1x2048, .f32⟩
  | .local _ .vmem, ⟨14, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossReferenceIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S8x128 : Shape := ⟨2, ![8, 128]⟩

abbrev nBuf : Space → Nat
  | .hbm => 81
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S2048x2048, .f32⟩
  | .hbm, ⟨61, _⟩ => ⟨S2048x2048, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S_, .f32⟩
  | .hbm, ⟨67, _⟩ => ⟨S2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S2048x2048, .bf16⟩
  | .hbm, ⟨80, _⟩ => ⟨S8x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== LossSum.lean ====
abbrev S8x128 : Shape := ⟨2, ![8, 128]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S1x1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | _, _ => ⟨S8x128, .f32⟩

abbrev bufScoped : (cs : CoreSpace) → Fin (nBuf (.core cs)) → Bool
  | _, _ => false

abbrev semScoped : Fin 1 → Bool
  | ⟨0, _⟩ => false
  | _ => false

abbrev dmaSemScoped : Fin 2 → Bool
  | ⟨0, _⟩ => false
  | ⟨1, _⟩ => false
  | _ => false

abbrev sig : RefSig :=
  ofTc nBuf bufTy 1 2 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev main_v3 : Ref sig .tc := ⟨.hbm, 3, rfl⟩
abbrev main_v3_s0 : Ref sig .tc := ⟨.hbm, 4, rfl⟩
abbrev main_v3_s1 : Ref sig .tc := ⟨.hbm, 5, rfl⟩
abbrev main_v3_s2 : Ref sig .tc := ⟨.hbm, 6, rfl⟩
abbrev main_v3_s3 : Ref sig .tc := ⟨.hbm, 7, rfl⟩
abbrev main_v3_s4 : Ref sig .tc := ⟨.hbm, 8, rfl⟩
abbrev main_v3_s5 : Ref sig .tc := ⟨.hbm, 9, rfl⟩
abbrev main_v3_s6 : Ref sig .tc := ⟨.hbm, 10, rfl⟩
abbrev main_v3_s7 : Ref sig .tc := ⟨.hbm, 11, rfl⟩
abbrev ar0_recv : DmaSem sig := 0
abbrev ar0_send : DmaSem sig := 1
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v3_s0 | 1 => main_v3_s1 | 2 => main_v3_s2 | 3 => main_v3_s3 | 4 => main_v3_s4 | 5 => main_v3_s5 | 6 => main_v3_s6 | 7 => main_v3_s7 | ⟨_ + 8, h⟩ => absurd h (Nat.not_lt.2 (Nat.le_add_left _ _))
-- ==== LossSumReferenceIdeal.lean ====
abbrev S64x128 : Shape := ⟨2, ![64, 128]⟩
abbrev S8x8x128 : Shape := ⟨3, ![8, 8, 128]⟩
abbrev S8x1x1 : Shape := ⟨3, ![8, 1, 1]⟩
abbrev S8 : Shape := ⟨1, ![8]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S8x8x128, .f32⟩
  | .hbm, ⟨2, _⟩ => ⟨S8x1x1, .f32⟩
  | .hbm, ⟨3, _⟩ => ⟨S8, .f32⟩
  | .hbm, ⟨4, _⟩ => ⟨S_, .f32⟩
  | .hbm, ⟨5, _⟩ => ⟨S_, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proj.lean ====
abbrev S2048x2048 : Shape := ⟨2, ![2048, 2048]⟩
abbrev S2048x4608 : Shape := ⟨2, ![2048, 4608]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x4608, .bf16⟩
  | .hbm, ⟨2, _⟩ => ⟨S2048x4608, .f32⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjReferenceIdeal.lean ====
abbrev S2048x2048 : Shape := ⟨2, ![2048, 2048]⟩
abbrev S2048x4608 : Shape := ⟨2, ![2048, 4608]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4608, .bf16⟩
  | .hbm, ⟨2, _⟩ => ⟨S2048x4608, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutMix.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutMixReferenceIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Ffn1.lean ====
abbrev S2048x2048 : Shape := ⟨2, ![2048, 2048]⟩
abbrev S8x2048x1024 : Shape := ⟨3, ![8, 2048, 1024]⟩
abbrev S2048x8192 : Shape := ⟨2, ![2048, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S2048x8192, .f32⟩
  | .hbm, ⟨3, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ffn1ReferenceIdeal.lean ====
abbrev S2048x2048 : Shape := ⟨2, ![2048, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S2048x8x1024, .bf16⟩
  | .hbm, ⟨3, _⟩ => ⟨S2048x8192, .bf16⟩
  | .hbm, ⟨4, _⟩ => ⟨S2048x8192, .f32⟩
  | .hbm, ⟨5, _⟩ => ⟨S_, .f32⟩
  | .hbm, ⟨6, _⟩ => ⟨S2048x8192, .f32⟩
  | .hbm, ⟨7, _⟩ => ⟨S2048x8192, .f32⟩
  | .hbm, ⟨8, _⟩ => ⟨S2048x8192, .f32⟩
  | .hbm, ⟨9, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Ffn2.lean ====
abbrev S2048x8192 : Shape := ⟨2, ![2048, 8192]⟩
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ffn2ReferenceIdeal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DFfn2.lean ====
abbrev S2048x2048 : Shape := ⟨2, ![2048, 2048]⟩
abbrev S8192x2048 : Shape := ⟨2, ![8192, 2048]⟩
abbrev S2048x8192 : Shape := ⟨2, ![2048, 8192]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S2048x8192, .f32⟩
  | .hbm, ⟨3, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DFfn2ReferenceIdeal.lean ====
abbrev S2048x2048 : Shape := ⟨2, ![2048, 2048]⟩
abbrev S8192x2048 : Shape := ⟨2, ![8192, 2048]⟩
abbrev S2048x8192 : Shape := ⟨2, ![2048, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S2048x8192, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .i1⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S_, .f32⟩
  | .hbm, ⟨13, _⟩ => ⟨S2048x8192, .f32⟩
  | .hbm, ⟨14, _⟩ => ⟨S2048x8192, .f32⟩
  | .hbm, ⟨15, _⟩ => ⟨S2048x8192, .bf16⟩
  | .hbm, ⟨16, _⟩ => ⟨S2048x8192, .f32⟩
  | .hbm, ⟨17, _⟩ => ⟨S2048x8192, .f32⟩
  | .hbm, ⟨18, _⟩ => ⟨S_, .f32⟩
  | .hbm, ⟨19, _⟩ => ⟨S2048x8192, .f32⟩
  | .hbm, ⟨20, _⟩ => ⟨S2048x8192, .f32⟩
  | .hbm, ⟨21, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== GwFfn2.lean ====
abbrev S2048x8192 : Shape := ⟨2, ![2048, 8192]⟩
abbrev S2048x2048 : Shape := ⟨2, ![2048, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwFfn2ReferenceIdeal.lean ====
abbrev S2048x8192 : Shape := ⟨2, ![2048, 8192]⟩
abbrev S2048x2048 : Shape := ⟨2, ![2048, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S8192x2048, .bf16⟩
  | .hbm, ⟨3, _⟩ => ⟨S8192x2048, .f32⟩
  | .hbm, ⟨4, _⟩ => ⟨S8192x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DFfn1.lean ====
abbrev S2048x8192 : Shape := ⟨2, ![2048, 8192]⟩
abbrev S8x2048x1024 : Shape := ⟨3, ![8, 2048, 1024]⟩
abbrev S2048x2048 : Shape := ⟨2, ![2048, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8x2048x1024, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32_7 : BitVec 32 := 7#32
  let v12 : BitVec 1 := Scalar.cmpi .eq arg2 c7_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DFfn1ReferenceIdeal.lean ====
abbrev S2048x8192 : Shape := ⟨2, ![2048, 8192]⟩
abbrev S8x2048x1024 : Shape := ⟨3, ![8, 2048, 1024]⟩
abbrev S2048x8x1024 : Shape := ⟨3, ![2048, 8, 1024]⟩
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8x2048x1024, .bf16⟩
  | .hbm, ⟨2, _⟩ => ⟨S2048x8x1024, .bf16⟩
  | .hbm, ⟨3, _⟩ => ⟨S2048x8192, .bf16⟩
  | .hbm, ⟨4, _⟩ => ⟨S8192x2048, .bf16⟩
  | .hbm, ⟨5, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GwFfn1.lean ====
abbrev S2048x2048 : Shape := ⟨2, ![2048, 2048]⟩
abbrev S2048x8192 : Shape := ⟨2, ![2048, 8192]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwFfn1ReferenceIdeal.lean ====
abbrev S2048x2048 : Shape := ⟨2, ![2048, 2048]⟩
abbrev S2048x8192 : Shape := ⟨2, ![2048, 8192]⟩
abbrev S2048x8x1024 : Shape := ⟨3, ![2048, 8, 1024]⟩
abbrev S8x2048x1024 : Shape := ⟨3, ![8, 2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x2048, .bf16⟩
  | .hbm, ⟨3, _⟩ => ⟨S2048x8192, .f32⟩
  | .hbm, ⟨4, _⟩ => ⟨S2048x8192, .bf16⟩
  | .hbm, ⟨5, _⟩ => ⟨S2048x8x1024, .bf16⟩
  | .hbm, ⟨6, _⟩ => ⟨S8x2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DOut.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DOutReferenceIdeal.lean ====
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GwOut.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwOutReferenceIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .f32⟩
  | .hbm, ⟨4, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DIn.lean ====
abbrev S2048x4608 : Shape := ⟨2, ![2048, 4608]⟩
abbrev S2048x2048 : Shape := ⟨2, ![2048, 2048]⟩
abbrev S1024x1536 : Shape := ⟨2, ![1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x4608, .bf16⟩
  | .hbm, ⟨1, _⟩ => ⟨S2048x4608, .bf16⟩
  | .hbm, ⟨2, _⟩ => ⟨S2048x2048, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DInReferenceIdeal.lean ====
abbrev S2048x4608 : Shape := ⟨2, ![2048, 4608]⟩
abbrev S4608x2048 : Shape := ⟨2, ![4608, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x4608, .bf16⟩
  | .hbm, ⟨1, _⟩ => ⟨S2048x4608, .bf16⟩
  | .hbm, ⟨2, _⟩ => ⟨S4608x2048, .bf16⟩
  | .hbm, ⟨3, _⟩ => ⟨S2048x2048, .f32⟩
  | _, _ => ⟨S2048x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GwIn.lean ====
abbrev S2048x2048 : Shape := ⟨2, ![2048, 2048]⟩
abbrev S2048x4608 : Shape := ⟨2, ![2048, 4608]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x4608, .bf16⟩
  | .hbm, ⟨2, _⟩ => ⟨S2048x4608, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwInReferenceIdeal.lean ====
abbrev S2048x2048 : Shape := ⟨2, ![2048, 2048]⟩
abbrev S2048x4608 : Shape := ⟨2, ![2048, 4608]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4608, .bf16⟩
  | .hbm, ⟨2, _⟩ => ⟨S2048x2048, .bf16⟩
  | .hbm, ⟨3, _⟩ => ⟨S2048x4608, .f32⟩
  | .hbm, ⟨4, _⟩ => ⟨S2048x4608, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mod.lean ====
abbrev S8x2048 : Shape := ⟨2, ![8, 2048]⟩
abbrev S2048x1536 : Shape := ⟨2, ![2048, 1536]⟩
abbrev S1x1536 : Shape := ⟨2, ![1, 1536]⟩
abbrev S8x1536 : Shape := ⟨2, ![8, 1536]⟩
abbrev S2048x768 : Shape := ⟨2, ![2048, 768]⟩
abbrev S1x768 : Shape := ⟨2, ![1, 768]⟩
abbrev S8x768 : Shape := ⟨2, ![8, 768]⟩

abbrev nBuf : Space → Nat
  | .hbm => 4
  | .vmem => 8
  | .smem => 0
  | _ => 0

abbrev bufTy : (tb : Table) → Fin (tcTables nBuf tb) → BufTy
  | .hbm, ⟨0, _⟩ => ⟨S8x2048, .f32⟩
  | .hbm, ⟨1, _⟩ => ⟨S2048x1536, .f32⟩
  | .hbm, ⟨2, _⟩ => ⟨S1x1536, .f32⟩
  | .hbm, ⟨3, _⟩ => ⟨S8x1536, .f32⟩
  | .local _ .vmem, ⟨0, _⟩ => ⟨S8x2048, .f32⟩
  | .local _ .vmem, ⟨1, _⟩ => ⟨S2048x768, .f32⟩
  | .local _ .vmem, ⟨2, _⟩ => ⟨S2048x768, .f32⟩
  | .local _ .vmem, ⟨3, _⟩ => ⟨S1x768, .f32⟩
  | .local _ .vmem, ⟨4, _⟩ => ⟨S1x768, .f32⟩
  | .local _ .vmem, ⟨5, _⟩ => ⟨S8x768, .f32⟩
  | .local _ .vmem, ⟨6, _⟩ => ⟨S8x768, .f32⟩
  | .local _ .vmem, ⟨7, _⟩ => ⟨S8x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ModReferenceIdeal.lean ====
abbrev S8x2048 : Shape := ⟨2, ![8, 2048]⟩
abbrev S2048x1536 : Shape := ⟨2, ![2048, 1536]⟩
abbrev S1x1536 : Shape := ⟨2, ![1, 1536]⟩
abbrev S8x1536 : Shape := ⟨2, ![8, 1536]⟩

abbrev nBuf : Space → Nat
  | .hbm => 6
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x1536, .f32⟩
  | .hbm, ⟨2, _⟩ => ⟨S1x1536, .f32⟩
  | .hbm, ⟨3, _⟩ => ⟨S8x1536, .f32⟩
  | .hbm, ⟨4, _⟩ => ⟨S8x1536, .f32⟩
  | .hbm, ⟨5, _⟩ => ⟨S8x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GwAda.lean ====
abbrev S8x2048 : Shape := ⟨2, ![8, 2048]⟩
abbrev S8x1536 : Shape := ⟨2, ![8, 1536]⟩
abbrev S2048x1536 : Shape := ⟨2, ![2048, 1536]⟩
abbrev S8x1024 : Shape := ⟨2, ![8, 1024]⟩
abbrev S8x768 : Shape := ⟨2, ![8, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S2048x1536, .f32⟩
  | .local _ .vmem, ⟨0, _⟩ => ⟨S8x1024, .f32⟩
  | .local _ .vmem, ⟨1, _⟩ => ⟨S8x1024, .f32⟩
  | .local _ .vmem, ⟨2, _⟩ => ⟨S8x768, .f32⟩
  | .local _ .vmem, ⟨3, _⟩ => ⟨S8x768, .f32⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwAdaReferenceIdeal.lean ====
abbrev S8x2048 : Shape := ⟨2, ![8, 2048]⟩
abbrev S8x1536 : Shape := ⟨2, ![8, 1536]⟩
abbrev S2048x8 : Shape := ⟨2, ![2048, 8]⟩
abbrev S2048x1536 : Shape := ⟨2, ![2048, 1536]⟩

abbrev nBuf : Space → Nat
  | .hbm => 4
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S2048x8, .f32⟩
  | .hbm, ⟨3, _⟩ => ⟨S2048x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== First.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FirstReferenceIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Second.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SecondReferenceIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== SecondBack.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 14
  | .vmem => 20
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S2048x2048, .f32⟩
  | .hbm, ⟨9, _⟩ => ⟨S2048x2048, .bf16⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== SecondBackReferenceIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 79
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S2048x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== SumWIn.lean ====
abbrev S8192x564 : Shape := ⟨2, ![8192, 564]⟩
abbrev S512x564 : Shape := ⟨2, ![512, 564]⟩

abbrev nBuf : Space → Nat
  | .hbm => 3
  | .vmem => 6
  | .smem => 0
  | _ => 0

abbrev bufTy : (tb : Table) → Fin (tcTables nBuf tb) → BufTy
  | .hbm, ⟨0, _⟩ => ⟨S8192x564, .bf16⟩
  | .hbm, ⟨1, _⟩ => ⟨S8192x564, .bf16⟩
  | .hbm, ⟨2, _⟩ => ⟨S8192x564, .bf16⟩
  | .local _ .vmem, ⟨0, _⟩ => ⟨S512x564, .bf16⟩
  | .local _ .vmem, ⟨1, _⟩ => ⟨S512x564, .bf16⟩
  | .local _ .vmem, ⟨2, _⟩ => ⟨S512x564, .bf16⟩
  | .local _ .vmem, ⟨3, _⟩ => ⟨S512x564, .bf16⟩
  | .local _ .vmem, ⟨4, _⟩ => ⟨S512x564, .bf16⟩
  | .local _ .vmem, ⟨5, _⟩ => ⟨S512x564, .bf16⟩
  | _, _ => ⟨S8192x564, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x564 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x564 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x564 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumWInReferenceIdeal.lean ====
abbrev S8192x564 : Shape := ⟨2, ![8192, 564]⟩

abbrev nBuf : Space → Nat
  | .hbm => 3
  | .vmem => 0
  | .smem => 0
  | _ => 0

abbrev bufTy : (tb : Table) → Fin (tcTables nBuf tb) → BufTy
  | .hbm, ⟨0, _⟩ => ⟨S8192x564, .bf16⟩
  | .hbm, ⟨1, _⟩ => ⟨S8192x564, .bf16⟩
  | .hbm, ⟨2, _⟩ => ⟨S8192x564, .bf16⟩
  | _, _ => ⟨S8192x564, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumWOut.lean ====
abbrev S1024x2048 : Shape := ⟨2, ![1024, 2048]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S1024x2048, .bf16⟩
  | .hbm, ⟨1, _⟩ => ⟨S1024x2048, .bf16⟩
  | .hbm, ⟨2, _⟩ => ⟨S1024x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumWOutReferenceIdeal.lean ====
abbrev S1024x2048 : Shape := ⟨2, ![1024, 2048]⟩

abbrev nBuf : Space → Nat
  | .hbm => 3
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S1024x2048, .bf16⟩
  | .hbm, ⟨2, _⟩ => ⟨S1024x2048, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumFfn1.lean ====
abbrev S8192x1024 : Shape := ⟨2, ![8192, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumFfn1ReferenceIdeal.lean ====
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumFfn2.lean ====
abbrev S4096x2048 : Shape := ⟨2, ![4096, 2048]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumFfn2ReferenceIdeal.lean ====
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumGlu.lean ====
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumGluReferenceIdeal.lean ====
abbrev S512x1024 : Shape := ⟨2, ![512, 1024]⟩

abbrev nBuf : Space → Nat
  | .hbm => 3
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumRk.lean ====
abbrev S1728x128 : Shape := ⟨2, ![1728, 128]⟩
abbrev S432x128 : Shape := ⟨2, ![432, 128]⟩

abbrev nBuf : Space → Nat
  | .hbm => 3
  | .vmem => 6
  | .smem => 0
  | _ => 0

abbrev bufTy : (tb : Table) → Fin (tcTables nBuf tb) → BufTy
  | .hbm, ⟨0, _⟩ => ⟨S1728x128, .f32⟩
  | .hbm, ⟨1, _⟩ => ⟨S1728x128, .f32⟩
  | .hbm, ⟨2, _⟩ => ⟨S1728x128, .f32⟩
  | .local _ .vmem, ⟨0, _⟩ => ⟨S432x128, .f32⟩
  | .local _ .vmem, ⟨1, _⟩ => ⟨S432x128, .f32⟩
  | .local _ .vmem, ⟨2, _⟩ => ⟨S432x128, .f32⟩
  | .local _ .vmem, ⟨3, _⟩ => ⟨S432x128, .f32⟩
  | .local _ .vmem, ⟨4, _⟩ => ⟨S432x128, .f32⟩
  | .local _ .vmem, ⟨5, _⟩ => ⟨S432x128, .f32⟩
  | _, _ => ⟨S1728x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S432x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S432x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S432x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumRkReferenceIdeal.lean ====
abbrev S1728x128 : Shape := ⟨2, ![1728, 128]⟩

abbrev nBuf : Space → Nat
  | .hbm => 3
  | .vmem => 0
  | .smem => 0
  | _ => 0

abbrev bufTy : (tb : Table) → Fin (tcTables nBuf tb) → BufTy
  | .hbm, ⟨0, _⟩ => ⟨S1728x128, .f32⟩
  | .hbm, ⟨1, _⟩ => ⟨S1728x128, .f32⟩
  | .hbm, ⟨2, _⟩ => ⟨S1728x128, .f32⟩
  | _, _ => ⟨S1728x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumU.lean ====
abbrev S2048x1024 : Shape := ⟨2, ![2048, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumUReferenceIdeal.lean ====
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Silu.lean ====
abbrev S8x2048 : Shape := ⟨2, ![8, 2048]⟩

abbrev nBuf : Space → Nat
  | .hbm => 2
  | .vmem => 2
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .local _ .vmem, ⟨0, _⟩ => ⟨S8x2048, .f32⟩
  | .local _ .vmem, ⟨1, _⟩ => ⟨S8x2048, .f32⟩
  | _, _ => ⟨S8x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SiluReferenceIdeal.lean ====
abbrev S8x2048 : Shape := ⟨2, ![8, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S8x2048, .f32⟩
  | .hbm, ⟨3, _⟩ => ⟨S_, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S8x2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_v2 : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩

abbrev nD : Nat := 1
abbrev τ : Topo := Topo.v7x

variable {F : FTy → Type} [FloatOps F]
-- ==== Proof.Exchange.lean ====
/-
One-shot exchanges between devices: the protocol.

A device owns three families of DMA semaphores: a send and a receive semaphore for every remote copy `j` it takes part
in, and one for every local copy.  Copy `j` of device `c` lands on `peer c j`, credits the receive semaphore `j` there and
the send semaphore `j` here; `peer · j` is an involution.  Each semaphore is credited once, by one copy, and waited for
once, so its schedule has a single round with a single duty.  What a wait hands over is `pay`: for a receive semaphore
the landed block, for a send semaphore what the copy read from.

A device owes the receive semaphores of its peers from launch.  The debt is kept as the list of the copies it has not
sent yet, and a wait is allowed when its level is below the levels of all receive semaphores still owed.
-/
module

public import Idealize.ShloMosaic.Lib.Pipeline.Kit
public import Idealize.ShloMosaic.Lib.Pipeline.Regions
public import Idealize.ShloMosaic.Lib.Quiescent
public import Idealize.ShloMosaic.Lib.Tactic

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

/-- The ghost state: the pipeline's half (idle here) and the exchange's half. -/
abbrev UU (nD : Nat) (τ : Topo) (sig : RefSig) : Type := UR sig nD τ × UR sig nD τ

/-- A device's own semaphores: send, receive, local. -/
abbrev Own (J K : Type) : Type := J ⊕ J ⊕ K

variable {J K : Type}

abbrev snd (j : J) : Own J K := Sum.inl j
abbrev rcv (j : J) : Own J K := Sum.inr (Sum.inl j)
abbrev loc (k : K) : Own J K := Sum.inr (Sum.inr k)

/-- What makes an exchange: its semaphores, where each copy goes, how much it credits, what each wait hands over, and
    the level of each semaphore. -/
structure Proto (nD : Nat) (τ : Topo) (sig : RefSig) (Val : EltTy → Type) (J K : Type) where
  osem : Own J K → SemLoc sig
  inj : Function.Injective osem
  peer : Dev nD → J → Dev nD
  inv : ∀ c j, peer (peer c j) j = c
  amt : Own J K → ℕ
  pos : ∀ o, 0 < amt o
  amt_eq : ∀ j, amt (snd j) = amt (rcv j)
  pay : Dev nD → Own J K → sProp (MT nD τ sig Unit Val ℕ (UU nD τ sig) ℕ)
  lev : Own J K → ℕ
  stor : ∀ c o, BI.Storable (upEmb : UEmb _ (MT nD τ sig Unit Val ℕ (UU nD τ sig) ℕ)) (pay c o)

variable {nD : Nat} {τ : Topo} {sig : RefSig} {Val : EltTy → Type}

local notation "𝕄" => MT nD τ sig Unit Val ℕ (UU nD τ sig) ℕ

/-- The exchange's half of the ghost state. -/
abbrev ER : Emb (UR sig nD τ) (MT nD τ sig Unit Val ℕ (UU nD τ sig) ℕ) := embR
/-- The pipeline's half. -/
abbrev EP : Emb (UR sig nD τ) (MT nD τ sig Unit Val ℕ (UU nD τ sig) ℕ) := embL

variable (π : Proto nD τ sig Val J K)

namespace Proto

/-- Semaphore `o` of device `c`, as the machine names it. -/
abbrev cell (c : Dev nD) (o : Own J K) : GSem nD τ sig := ((c : Thread nD τ), π.osem o)

theorem cell_inj {c c' : Dev nD} {o o' : Own J K} (h : π.cell c o = π.cell c' o') : c = c' ∧ o = o' :=
  ⟨congrArg (fun g : GSem nD τ sig => g.1.1) h, π.inj (congrArg Prod.snd h)⟩

/-- `g` is one of the exchange's semaphores. -/
abbrev IsCell (g : GSem nD τ sig) : Prop := ∃ co : Dev nD × Own J K, π.cell co.1 co.2 = g

theorem isCell (c : Dev nD) (o : Own J K) : π.IsCell (π.cell c o) := ⟨(c, o), rfl⟩

theorem choose_cell (c : Dev nD) (o : Own J K) : (π.isCell c o).choose = (c, o) :=
  have h := π.cell_inj (π.isCell c o).choose_spec
  Prod.ext h.1 h.2

open Classical in
/-- The schedule: one round of one duty on each of the exchange's semaphores. -/
def sched : Rounds.Schedule (GSem nD τ sig) Unit 𝕄 where
  duties g r := if r = 0 ∧ π.IsCell g then {()} else ∅
  unitless _ := False
  amount g _ _ := if h : π.IsCell g then π.amt h.choose.2 else 1
  payload g _ _ := if h : π.IsCell g then π.pay h.choose.1 h.choose.2 else iprop(emp)
  amount_pos g _ _ _ := by
    by_cases h : π.IsCell g
    · rw [dif_pos h]; exact π.pos _
    · rw [dif_neg h]; exact Nat.one_pos

instance sched_storable (g : GSem nD τ sig) (r : ℕ) (d : Unit) : BI.Storable (upEmb : UEmb _ 𝕄) (π.sched.payload g r d) := by
  dsimp only [sched]
  split
  · exact π.stor _ _
  · infer_instance

theorem duties_cell (c : Dev nD) (o : Own J K) : π.sched.duties (π.cell c o) 0 = {()} := if_pos ⟨rfl, π.isCell c o⟩
theorem duties_later (g : GSem nD τ sig) (r : ℕ) (h : 1 ≤ r) : π.sched.duties g r = ∅ := if_neg fun h' => by omega
theorem mem_duties (c : Dev nD) (o : Own J K) : () ∈ π.sched.duties (π.cell c o) 0 := by
  rw [duties_cell]; exact Finset.mem_singleton_self _
theorem amount_cell (c : Dev nD) (o : Own J K) : π.sched.amount (π.cell c o) 0 () = π.amt o := by
  dsimp only [sched]; rw [dif_pos (π.isCell c o), choose_cell]
theorem payload_cell (c : Dev nD) (o : Own J K) : π.sched.payload (π.cell c o) 0 () = π.pay c o := by
  dsimp only [sched]; rw [dif_pos (π.isCell c o), choose_cell]
theorem expect_cell (c : Dev nD) (o : Own J K) : π.sched.expect (π.cell c o) 0 = π.amt o := by
  unfold Schedule.expect Schedule.amountOf; rw [duties_cell, Finset.sum_singleton, amount_cell]
theorem rest_cell (c : Dev nD) (o : Own J K) :
    bigSep (π.sched.duties (π.cell c o) 0 \ ∅) (fun d => π.sched.payload (π.cell c o) 0 d) = π.pay c o := by
  rw [Finset.sdiff_empty, duties_cell, bigSep_singleton, payload_cell]

/-! ## Levels and debts -/

/-- Levels are assigned on the TensorCores. -/
def L (g : GSem nD τ sig) : Finset Unit := if g.1.2 = .tc then {()} else ∅
theorem L_of_ne (g : GSem nD τ sig) (h : g.1.2 ≠ .tc) : L g = ∅ := if_neg h
theorem L_cell (c : Dev nD) (o : Own J K) : L (π.cell c o) = {()} := if_pos rfl

open Classical in
/-- The level of a semaphore. -/
def lv (g : GSem nD τ sig) (_ : Unit) : ℕ := if h : π.IsCell g then π.lev h.choose.2 else 0
theorem lv_cell (c : Dev nD) (o : Own J K) : π.lv (π.cell c o) () = π.lev o := by
  unfold lv; rw [dif_pos (π.isCell c o), choose_cell]

/-- What device `c` owes with the copies of `l` still to be sent. -/
def owed (c : Dev nD) (l : List J) : CellTallies nD τ sig Unit :=
  (l.map fun j => tallyAt (π.cell (π.peer c j) (rcv j)) () (π.amt (rcv j))).sum

theorem owed_nil (c : Dev nD) : π.owed c [] = 0 := rfl
theorem owed_cons (c : Dev nD) (j : J) (l : List J) :
    π.owed c (j :: l) = π.owed c l + tallyAt (π.cell (π.peer c j) (rcv j)) () (π.amt (rcv j)) := by
  unfold owed; rw [List.map_cons, List.sum_cons, add_comm]

theorem of_owed_pos {c : Dev nD} {g : GSem nD τ sig} {u : Unit} :
    ∀ {l : List J}, 0 < π.owed c l g u → ∃ j ∈ l, g = π.cell (π.peer c j) (rcv j)
  | [], h => absurd h (Nat.lt_irrefl 0)
  | j :: l, h => by
    rw [owed_cons, Pi.add_apply, Finsupp.add_apply, tallyAt_apply] at h
    by_cases hg : g = π.cell (π.peer c j) (rcv j)
    · exact ⟨j, List.mem_cons_self, hg⟩
    · rw [if_neg (fun h' => hg h'.1), Nat.add_zero] at h
      obtain ⟨j', hj', e⟩ := of_owed_pos h
      exact ⟨j', List.mem_cons_of_mem _ hj', e⟩

/-- Waiting for `o` is allowed while every receive semaphore owed is of a higher level. -/
theorem mayWait (c : Dev nD) (o : Own J K) (l : List J) (h : ∀ j ∈ l, π.lev o < π.lev (rcv j)) :
    (levAts L π.lv : sProp 𝕄) ⊢ MayWait (c : Thread nD τ) (π.osem o) () (π.owed c l) :=
  MayOwe.of_cut (L := L) (lev := π.lv) (π.lev o)
    (fun p hp => by rw [Finset.mem_singleton.mp hp]; exact (π.L_cell c o).symm ▸ Finset.mem_singleton_self _)
    (fun g u hg => by obtain ⟨j, -, rfl⟩ := π.of_owed_pos hg; rw [L_cell]; exact Finset.mem_singleton_self _)
    (fun p hp => by rw [Finset.mem_singleton.mp hp]; exact (π.lv_cell c o).le)
    (fun g u hg => by obtain ⟨j, hj, rfl⟩ := π.of_owed_pos hg; rw [show u = () from rfl, lv_cell]; exact h j hj)

/-- Device `c` owes the copies of `l`. -/
def Owe (c : Dev nD) (l : List J) : sProp 𝕄 := iprop(∃ W, owes (c : Thread nD τ) (π.owed c l) W)

/-! ## The ghost state of a device -/

abbrev at0 (c : Dev nD) (o : Own J K) : sProp 𝕄 := atPos ER (π.cell c o) 0 ∅ 0
abbrev done (c : Dev nD) (o : Own J K) : sProp 𝕄 := atPos ER (π.cell c o) 1 ∅ 0
abbrev tok (c : Dev nD) (o : Own J K) : sProp 𝕄 := dutyTok ER (π.cell c o) 0 ()
abbrev crd (c : Dev nD) (o : Own J K) : sProp 𝕄 := cred (tallyAt (π.cell c o) () (π.amt o))
/-- What pays for copy `j`: the token of the send semaphore here and of the receive semaphore there. -/
def sendTok (c : Dev nD) (j : J) : sProp 𝕄 := iprop(π.tok c (snd j) ∗ π.tok (π.peer c j) (rcv j))

variable [Fintype J] [Fintype K]

/-- Everything persistent: every semaphore's invariant, that its round has begun, and the levels. -/
def records (κ : Dev nD × Own J K → ℕ) : sProp 𝕄 :=
  iprop((bigSep Finset.univ fun co : Dev nD × Own J K => cellInv ER π.sched (κ co) (π.cell co.1 co.2))
    ∗ (bigSep Finset.univ fun co : Dev nD × Own J K => reached ER (π.cell co.1 co.2) 0) ∗ levAts L π.lv)

instance records_persistent (κ : Dev nD × Own J K → ℕ) : BI.Persistent (π.records κ) := by unfold records; infer_instance

variable (κ : Dev nD × Own J K → ℕ)

theorem records_inv (c : Dev nD) (o : Own J K) : π.records κ ⊢ cellInv ER π.sched (κ (c, o)) (π.cell c o) := by
  classical
  unfold records
  exact BI.sep_and.trans (BI.and_elimL.trans
    (bigSep_elim (Φ := fun co : Dev nD × Own J K => (cellInv ER π.sched (κ co) (π.cell co.1 co.2) : sProp 𝕄)) (Finset.mem_univ (c, o))))
theorem records_reached (c : Dev nD) (o : Own J K) : π.records κ ⊢ reached ER (π.cell c o) 0 := by
  classical
  unfold records
  exact BI.sep_and.trans (BI.and_elimR.trans (BI.sep_and.trans (BI.and_elimL.trans
    (bigSep_elim (Φ := fun co : Dev nD × Own J K => (reached ER (π.cell co.1 co.2) 0 : sProp 𝕄)) (Finset.mem_univ (c, o))))))
theorem records_lev : π.records κ ⊢ levAts L π.lv := by
  unfold records
  iintro ⟨-, -, H⟩; iexact H

/-! ## The steps -/

section Steps

variable {Λ : Labels} {defs : Defs nD τ sig Val Λ} {𝒱 : Variants} {α : Type} {Q : α → sProp (MT nD τ sig Unit Val ℕ (UU nD τ sig) ℕ)}
variable {sp sp' sp'' : Space} {s s' : Shape} {e e' : EltTy}

/-- The weakest precondition every step below speaks of. -/
abbrev wpc (defs : Defs nD τ sig Val Λ) (𝒱 : Variants) (c : Dev nD) (p : Prog (TpuEff nD τ sig Val Λ .tc) α) (Q : α → sProp 𝕄) : sProp 𝕄 :=
  wp frame (wpE defs 𝒱 (c : Thread nD τ) none) Set.univ p Q

/-- A local copy: its semaphore will hand over the written block and what was read. -/
theorem wp_local (c : Dev nD) (i : K) {src : Memref sig .tc sp s e} {dst : Memref sig .tc sp' s e} {sem : SemLoc sig}
    {hsrc : src.view.WordExact} {hdst : dst.view.WordExact} {hsem : DmaTarget.Typed (nD := nD) (τ := τ) (p := .tc) sp sem (.here dst)}
    {k : PUnit → Prog (TpuEff nD τ sig Val Λ .tc) α} {q : PosShare TreeShare}
    {fs : Buf Val (src.view.loc (c : Thread nD τ))} {fd : Buf Val (dst.view.loc (c : Thread nD τ))}
    (hs : sem = π.osem (loc i)) (hN : dst.view.amount sem = π.amt (loc i))
    (hpay : iprop((dst.view.loc (c : Thread nD τ) ↦[dst.view.set]{fullShare} (dst.view.write Val fd (src.view.read Val fs) Finset.univ))
      ∗ (src.view.loc (c : Thread nD τ) ↦[src.view.set]{q} fs)) ⊢ π.pay c (loc i)) :
    iprop(π.records κ ∗ π.tok c (loc i) ∗ (src.view.loc (c : Thread nD τ) ↦[src.view.set]{q} fs)
        ∗ (dst.view.loc (c : Thread nD τ) ↦[dst.view.set]{fullShare} fd))
      ⊢ iprop((π.crd c (loc i) -∗ wpc defs 𝒱 c (k ⟨⟩) Q)
          -∗ wpc defs 𝒱 c (.op (.enqueueDma src (.here dst) sem hsrc hdst hsem) k) Q) := by
  subst hs
  refine (show _ ⊢ _ from ?_).trans (Rounds.wp_copy_pointsTo 𝒱 ER π.sched (c : Thread nD τ) none (κ := κ (c, loc i)) (r := 0) (d := ())
    (π.mem_duties c (loc i)) () (π.amt (loc i)) hN (π.amount_cell c (loc i)) (by rw [payload_cell]; exact hpay))
  iintro ⟨#HR, Ht, Hs, Hd⟩
  isplitr; · iapply (π.records_inv κ c (loc i)); iexact HR
  isplitl [Hs]; · iexact Hs
  isplitl [Hd]; · iexact Hd
  isplitl [Ht]; · iexact Ht
  iapply (π.records_reached κ c (loc i)); iexact HR

/-- Sending copy `j`: the peer's receive semaphore will hand the block over there, the send semaphore what was read here. -/
theorem wp_remote (c c' : Dev nD) (j : J) (l : List J) {src : Memref sig .tc sp s e} {dst : Memref sig .tc sp' s e} {sS sem : SemLoc sig}
    {hsc : (dst : Memref sig (c'.tc : Thread nD τ).2.kind sp' s e).view.ref.isScScratch = false}
    {hsrc : src.view.WordExact} {hdst : dst.view.WordExact} {hsem : DmaTarget.Typed sp sem (.remote (c'.tc : Thread nD τ) dst sS hsc)}
    {k : PUnit → Prog (TpuEff nD τ sig Val Λ .tc) α} {q : PosShare TreeShare}
    {fs : Buf Val (src.view.loc (c : Thread nD τ))} {fd : Buf Val (dst.view.loc (c' : Thread nD τ))}
    (hc : c' = π.peer c j) (hS : sS = π.osem (snd j)) (hs : sem = π.osem (rcv j)) (hN : dst.view.amount sem = π.amt (rcv j))
    (hpay₁ : (src.view.loc (c : Thread nD τ) ↦[src.view.set]{q} fs) ⊢ π.pay c (snd j))
    (hpay₂ : (dst.view.loc (c' : Thread nD τ) ↦[dst.view.set]{fullShare} (dst.view.write Val fd (src.view.read Val fs) Finset.univ)) ⊢ π.pay c' (rcv j)) :
    iprop(π.records κ ∗ (π.sendTok c j ∗ (src.view.loc (c : Thread nD τ) ↦[src.view.set]{q} fs)
        ∗ (dst.view.loc (c' : Thread nD τ) ↦[dst.view.set]{fullShare} fd)) ∗ π.Owe c (j :: l))
      ⊢ iprop(((π.crd c (snd j) ∗ π.Owe c l) -∗ wpc defs 𝒱 c (k ⟨⟩) Q)
          -∗ wpc defs 𝒱 c (.op (.enqueueDma src (.remote (c'.tc : Thread nD τ) dst sS hsc) sem hsrc hdst hsem) k) Q) := by
  subst hS hs hc
  unfold Owe sendTok
  iintro ⟨#HR, ⟨⟨Ht, Ht'⟩, Hs, Hd⟩, %W, HO⟩ Hk
  iapply (Rounds.wp_send_pointsTo 𝒱 ER π.sched (c : Thread nD τ) none (κ₁ := κ (c, snd j)) (κ₂ := κ (π.peer c j, rcv j)) (r₁ := 0) (r₂ := 0)
    (d₁ := ()) (d₂ := ()) (π.mem_duties c (snd j)) (π.mem_duties (π.peer c j) (rcv j)) () () (π.amt (rcv j)) hN
    ((π.amount_cell c (snd j)).trans (π.amt_eq j)) (π.amount_cell (π.peer c j) (rcv j)) (π.owed c l) (π.owed_cons c j l) (W := W)
    (by rw [payload_cell]; exact hpay₁) (by rw [payload_cell]; exact hpay₂)) $$ [Ht Ht' Hs Hd HO]
  · isplitr; · iapply (π.records_inv κ c (snd j)); iexact HR
    isplitr; · iapply (π.records_inv κ (π.peer c j) (rcv j)); iexact HR
    isplitl [Hs]; · iexact Hs
    isplitl [Hd]; · iexact Hd
    isplitl [HO]; · iexact HO
    isplitl [Ht]; · iexact Ht
    isplitr; · iapply (π.records_reached κ c (snd j)); iexact HR
    isplitl [Ht']; · iexact Ht'
    iapply (π.records_reached κ (π.peer c j) (rcv j)); iexact HR
  iintro ⟨Hc, HO⟩
  iapply Hk
  isplitl [Hc]; · unfold crd; rw [π.amt_eq j]; iexact Hc
  iexists W; iexact HO

/-- Waiting for semaphore `o`. -/
theorem wp_await (c : Dev nD) (o : Own J K) (l : List J) (hl : ∀ j ∈ l, π.lev o < π.lev (rcv j)) {sem : DmaSem sig}
    {src : Memref sig .tc sp' s' e'} {κ' : Kind} {dst : Memref sig κ' sp s e} {hsrc : src.view.WordExact} {hdst : dst.view.WordExact}
    {k : PUnit → Prog (TpuEff nD τ sig Val Λ .tc) α}
    (hs : .dma sem = π.osem o) (hN : dst.view.dmaCredit = π.amt o) :
    iprop(π.records κ ∗ (π.at0 c o ∗ π.crd c o) ∗ π.Owe c l)
      ⊢ iprop((((π.done c o ∗ π.pay c o) ∗ π.Owe c l) -∗ wpc defs 𝒱 c (k ⟨⟩) Q)
          -∗ wpc defs 𝒱 c (.op (.waitDma2 sem src dst hsrc hdst) k) Q) := by
  unfold Owe
  iintro ⟨#HR, ⟨Hat, Hc⟩, %W, HO⟩ Hk
  iapply (Rounds.wp_wait_rest_token 𝒱 ER π.sched (c : Thread nD τ) none (κ := κ (c, o)) (sm := π.osem o) (k' := π.amt o)
      (w := .waitDma2 sem src dst hsrc hdst)
      (fun K => by rw [wpE_waitDma2_eq, hs, hN]) (Set.mem_univ _) () (O := π.owed c l) (W := W) (R := 0) (m := 0) (T := ∅)
      (by rw [Nat.zero_add, expect_cell])) $$ [Hat Hc HO]
  · isplitr; · iapply (π.records_inv κ c o); iexact HR
    isplitl [Hc]; · iexact Hc
    isplitl [HO]; · iexact HO
    isplitr; · iapply (π.mayWait c o l hl); iapply (π.records_lev κ); iexact HR
    iexact Hat
  iintro ⟨HO, Hat, -, Hp⟩
  iapply Hk
  isplitl [Hat Hp]
  · isplitl [Hat]; · iexact Hat
    iapply (Entails.of_eq (π.rest_cell c o)); iexact Hp
  iexists (insert (π.osem o, ()) W); iexact HO

end Steps

/-- After its wait a semaphore is at zero. -/
theorem close (c : Dev nD) (o : Own J K) : iprop(π.records κ ∗ π.done c o) ⊢ (|={Set.univ}=> semVal (π.cell c o) 0 : sProp 𝕄) := by
  iintro ⟨#HR, Hd⟩
  iapply (Rounds.cell_close ER π.sched (Set.mem_univ (κ (c, o))) (fun h => h) (R := 1) (π.duties_later (π.cell c o)))
  isplitr; · iapply (π.records_inv κ c o); iexact HR
  iexact Hd

/-- All semaphores of a device at zero once all are waited for. -/
theorem close_all [DecidableEq J] [DecidableEq K] (c : Dev nD) :
    iprop(π.records κ ∗ bigSep Finset.univ fun o : Own J K => π.done c o) ⊢ (|={Set.univ}=> ownSems0 π.osem c : sProp 𝕄) := by
  refine (sep_mono_left (BI.bigSep_of_persistent (Finset.univ : Finset (Own J K)) (π.records κ))).trans ?_
  rw [← bigSep_sep']
  exact (bigSep_mono fun o _ => π.close κ c o).trans (bigSep_fupd _ _)

end Proto

/-! ## Programs as lists of steps -/

section Phases

variable {Λ : Labels} {α : Type}

/-- The steps of `l`, then `k`. -/
def steps : List (TpuEff nD τ sig Val Λ .tc PUnit) → Prog (TpuEff nD τ sig Val Λ .tc) α → Prog (TpuEff nD τ sig Val Λ .tc) α
  | [], k => k
  | e :: l, k => .op e fun _ => steps l k

theorem steps_append (l l' : List (TpuEff nD τ sig Val Λ .tc PUnit)) (k : Prog (TpuEff nD τ sig Val Λ .tc) α) :
    steps (l ++ l') k = steps l (steps l' k) := by
  induction l with
  | nil => rfl
  | cons e l ih => show Prog.op e (fun _ => steps (l ++ l') k) = Prog.op e fun _ => steps l (steps l' k); rw [ih]

variable {X : Type} {defs : Defs nD τ sig Val Λ} {𝒱 : Variants} {Q : α → sProp (MT nD τ sig Unit Val ℕ (UU nD τ sig) ℕ)}

/-- A phase: one group of steps for each element of a list, each turning `A x` into `B x` and taking `x` off the list
    the invariant `I` speaks of. -/
theorem wp_phase (c : Dev nD) (R : sProp 𝕄) [BI.Persistent R] (f : X → List (TpuEff nD τ sig Val Λ .tc PUnit)) (A B : X → sProp 𝕄)
    (I : List X → sProp 𝕄) (k : Prog (TpuEff nD τ sig Val Λ .tc) α) : ∀ (l : List X)
    (h : ∀ x l', (x :: l') <:+ l → ∀ k' : Prog (TpuEff nD τ sig Val Λ .tc) α,
      iprop(R ∗ A x ∗ I (x :: l')) ⊢ iprop(((B x ∗ I l') -∗ Proto.wpc defs 𝒱 c k' Q) -∗ Proto.wpc defs 𝒱 c (steps (f x) k') Q)),
    iprop(R ∗ bigSepL l A ∗ I l) ⊢ iprop(((bigSepL l B ∗ I []) -∗ Proto.wpc defs 𝒱 c k Q) -∗ Proto.wpc defs 𝒱 c (steps (l.flatMap f) k) Q)
  | [], h => by
    iintro ⟨-, -, HI⟩ Hk
    iapply Hk
    isplitr; · rw [bigSepL_nil]; iempintro
    iexact HI
  | x :: l, h => by
    rw [bigSepL_cons, bigSepL_cons, List.flatMap_cons, steps_append]
    show iprop(R ∗ (A x ∗ bigSepL l A) ∗ I (x :: l)) ⊢ iprop((((B x ∗ bigSepL l B) ∗ I []) -∗ Proto.wpc defs 𝒱 c k Q) -∗ Proto.wpc defs 𝒱 c (steps (f x) (steps (l.flatMap f) k)) Q)
    iintro ⟨#HR, ⟨HA, HAs⟩, HI⟩ Hk
    iapply (h x l (List.suffix_refl _) (steps (l.flatMap f) k)) $$ [HA HI]
    · isplitr; · iexact HR
      isplitl [HA] <;> iassumption
    iintro ⟨HB, HI⟩
    iapply (wp_phase c R f A B I k l (fun y l' hy => h y l' (hy.trans (List.suffix_cons x l)))) $$ [HAs HI]
    · isplitr; · iexact HR
      isplitl [HAs] <;> iassumption
    iintro ⟨HBs, HI⟩
    iapply Hk
    isplitl [HB HBs]
    · isplitl [HB] <;> iassumption
    iexact HI

end Phases

/-! ## The launch -/

section Launch

variable [Fintype J] [Fintype K] [DecidableEq J] [DecidableEq K]

namespace Proto

/-- What device `c` owes at launch: every copy. -/
def O₀ (c : Dev nD) : CellTallies nD τ sig Unit := ∑ j : J, tallyAt (π.cell (π.peer c j) (rcv j)) () (π.amt (rcv j))

theorem O₀_eq (c : Dev nD) (l : List J) (hl : l.Nodup) (hu : ∀ j, j ∈ l) : π.O₀ c = π.owed c l := by
  unfold O₀ owed
  rw [← List.sum_toFinset _ hl]
  refine Finset.sum_congr (Finset.ext fun j => ?_) fun _ _ => rfl
  simp [hu j]

theorem O₀_at (d c : Dev nD) (j : J) : π.O₀ d (π.cell c (rcv j)) () = if d = π.peer c j then π.amt (rcv j) else 0 := by
  unfold O₀
  rw [Finset.sum_apply, Finsupp.finset_sum_apply, Finset.sum_eq_single j]
  · rw [tallyAt_apply]
    by_cases h : d = π.peer c j
    · subst h; rw [π.inv, if_pos ⟨rfl, rfl⟩, if_pos rfl]
    · rw [if_neg h, if_neg fun h' => h ?_]
      rw [(π.cell_inj h'.1).1, π.inv]
  · intro j' _ hne
    rw [tallyAt_apply, if_neg fun h' => hne ?_]
    have := (π.cell_inj h'.1).2
    simpa using this.symm
  · exact fun h => absurd (Finset.mem_univ j) h

theorem launch_cred (c : Dev nD) (j : J) :
    tallyOn (π.cell c (rcv j)) (launchCredit (Pipeline.owing π.O₀) 0 (π.cell c (rcv j))) = (tallyAt (π.cell c (rcv j)) () (π.amt (rcv j)) : CellTallies nD τ sig Unit) := by
  unfold tallyAt; refine congrArg _ (Finsupp.ext fun u => ?_); cases u
  rw [Pipeline.launchCredit_owing, Finsupp.single_eq_same, Finset.sum_congr rfl fun d _ => π.O₀_at d c j,
    Finset.sum_ite_eq' Finset.univ (π.peer c j) fun _ => π.amt (rcv j), if_pos (Finset.mem_univ _)]

/-- The launch credit holds the credit of every receive semaphore. -/
theorem creds (c : Dev nD) : (Pipeline.launchCred π.O₀ c : sProp 𝕄) ⊢ bigSep Finset.univ fun j : J => π.crd c (rcv j) := by
  unfold Pipeline.launchCred
  let e : J ↪ SemLoc sig := ⟨fun j => π.osem (rcv j), fun j j' h => by simpa using π.inj h⟩
  refine (bigSep_subset (Finset.subset_univ (Finset.univ.map e))).trans ?_
  rw [bigSep_map]
  exact bigSep_mono fun j _ => Entails.of_eq (congrArg cred (π.launch_cred c j))

/-- Device and semaphore to the machine's name, as an embedding. -/
def cellEmb : Dev nD × Own J K ↪ GSem nD τ sig := ⟨fun co => π.cell co.1 co.2, fun a b h => Prod.ext (π.cell_inj h).1 (π.cell_inj h).2⟩

def cells : Finset (GSem nD τ sig) := Finset.univ.map π.cellEmb
def toks : Finset (GSem nD τ sig × ℕ × Unit) := Finset.univ.map ⟨fun co => (π.cellEmb co, 0, ()), fun _ _ h => π.cellEmb.injective (congrArg Prod.fst h)⟩

/-- What the exchange's ghost state gives a device before anything is dealt. -/
def G (c : Dev nD) : sProp 𝕄 := bigSep Finset.univ fun o : Own J K =>
  iprop(roundState ER π.sched (π.cell c o) 0 ∗ reached ER (π.cell c o) 0 ∗ π.at0 c o ∗ π.tok c o)

theorem fund : BI.own (ER (initOf π.cells π.toks)) ⊢ (|==> bigSep Finset.univ π.G : sProp 𝕄) := by
  have hX (Φ : GSem nD τ sig → sProp 𝕄) : bigSep π.cells Φ = bigSep Finset.univ fun c : Dev nD => bigSep Finset.univ fun o : Own J K => Φ (π.cell c o) := by
    unfold cells; rw [bigSep_map, bigSep_univ_prod]; rfl
  have hT : bigSep π.toks (fun x => (dutyTok ER x.1 x.2.1 x.2.2 : sProp 𝕄)) = bigSep Finset.univ fun c : Dev nD => bigSep Finset.univ fun o : Own J K => π.tok c o := by
    unfold toks; rw [bigSep_map, bigSep_univ_prod]; rfl
  refine (Rounds.fund ER π.sched π.cells π.toks).trans (BI.bupd_mono ?_)
  rw [hX, hX, hX, hT]
  unfold G
  simp only [bigSep_sep']
  exact Entails.refl _

/-- What the exchange deals device `c`. -/
def ghost (c : Dev nD) : sProp 𝕄 :=
  iprop((bigSep Finset.univ fun o : Own J K => π.at0 c o) ∗ (bigSep Finset.univ fun j : J => π.sendTok c j)
    ∗ (bigSep Finset.univ fun k : K => π.tok c (loc k)) ∗ bigSep Finset.univ fun j : J => π.crd c (rcv j))

/-- The map of copy `j`, as a permutation of the devices. -/
def perm (j : J) : Dev nD ≃ Dev nD := ⟨fun c => π.peer c j, fun c => π.peer c j, fun c => π.inv c j, fun c => π.inv c j⟩

/-- The tokens dealt: each receive token to the device whose copy pays it. -/
theorem toks_deal : (bigSep Finset.univ fun c : Dev nD => bigSep Finset.univ fun o : Own J K => π.tok c o)
    ⊢ bigSep Finset.univ fun c : Dev nD => iprop((bigSep Finset.univ fun j : J => π.sendTok c j) ∗ bigSep Finset.univ fun k : K => π.tok c (loc k)) := by
  have hr : (bigSep Finset.univ fun c : Dev nD => bigSep Finset.univ fun j : J => π.tok c (rcv j))
      = bigSep Finset.univ fun c : Dev nD => bigSep Finset.univ fun j : J => π.tok (π.peer c j) (rcv j) := by
    rw [Pipeline.bigSep_univ_comm, bigSep_congr fun j _ => bigSep_univ_equiv (π.perm j) (fun c : Dev nD => π.tok c (rcv j)), Pipeline.bigSep_univ_comm]; rfl
  have h0 (c : Dev nD) : (bigSep Finset.univ fun o : Own J K => π.tok c o)
      = iprop((bigSep Finset.univ fun j : J => π.tok c (snd j)) ∗ (bigSep Finset.univ fun j : J => π.tok c (rcv j)) ∗ bigSep Finset.univ fun k : K => π.tok c (loc k)) := by
    rw [bigSep_univ_sum, bigSep_univ_sum]; rfl
  rw [bigSep_congr fun c _ => h0 c]
  unfold sendTok
  simp only [bigSep_sep']
  rw [hr]
  exact sep_assoc'

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What each device starts from: the records, its ghost state, its memory `M`. -/
def start (M : Dev nD → sProp 𝕄) (c : Dev nD) : sProp 𝕄 := iprop(∃ κ, π.records κ ∗ π.ghost c ∗ M c)

/-- The deal at launch: the invariants opened, the tokens and the arrays dealt across the devices. -/
theorem deal (V : (c : Dev nD) → (b : Ref sig .tc) → Buf Val ((c.tc : Thread nD τ).loc b)) (M : Dev nD → sProp 𝕄)
    (hM : (bigSep Finset.univ fun c : Dev nD => unscopedBufs c (V c)) ⊢ bigSep Finset.univ M) :
    iprop(levAts L π.lv ∗ bigSep Finset.univ fun c : Dev nD => iprop(ownSems0 π.osem c ∗ unscopedBufs c (V c) ∗ Pipeline.launchCred π.O₀ c ∗ π.G c))
      ⊢ (|={Set.univ}=> bigSep Finset.univ (π.start M) : sProp 𝕄) := by
  have halloc (c : Dev nD) : iprop((ownSems0 π.osem c : sProp 𝕄) ∗ bigSep Finset.univ fun o : Own J K => roundState ER π.sched (π.cell c o) 0)
      ⊢ (|={Set.univ}=> bigSep Finset.univ fun o : Own J K => iprop(∃ κ : ℕ, cellInv ER π.sched κ (π.cell c o)) : sProp 𝕄) := by
    show iprop((bigSep Finset.univ fun o : Own J K => semVal (π.cell c o) 0) ∗ bigSep Finset.univ fun o : Own J K => roundState ER π.sched (π.cell c o) 0) ⊢ _
    rw [← bigSep_sep']
    exact (bigSep_mono fun o _ => (Rounds.body_intro ER π.sched (π.cell c o)).trans inv_alloc).trans (bigSep_fupd _ _)
  unfold G
  simp only [bigSep_sep']
  iintro ⟨#Hlev, Hsems, Hbufs, Hcr, Hst, #Hr, Hat, Htok⟩
  imod (show iprop((bigSep Finset.univ fun c : Dev nD => (ownSems0 π.osem c : sProp 𝕄)) ∗ bigSep Finset.univ fun c : Dev nD => bigSep Finset.univ fun o : Own J K => roundState ER π.sched (π.cell c o) 0)
      ⊢ (|={Set.univ}=> bigSep Finset.univ fun c : Dev nD => bigSep Finset.univ fun o : Own J K => iprop(∃ κ : ℕ, cellInv ER π.sched κ (π.cell c o)) : sProp 𝕄) from by
        rw [← bigSep_sep']
        exact (bigSep_mono fun c _ => halloc c).trans (bigSep_fupd _ _)) $$ [Hsems Hst] with Hinv
  · isplitl [Hsems] <;> iassumption
  imodintro
  ihave Hinv' := (Entails.of_eq (bigSep_univ_prod (fun co : Dev nD × Own J K => iprop(∃ κ : ℕ, (cellInv ER π.sched κ (π.cell co.1 co.2) : sProp 𝕄)))).symm) $$ Hinv
  ihave Hr' := (Entails.of_eq (bigSep_univ_prod (fun co : Dev nD × Own J K => (reached ER (π.cell co.1 co.2) 0 : sProp 𝕄))).symm) $$ Hr
  ihave HK := (BI.bigSep_exists_pi Finset.univ (fun (co : Dev nD × Own J K) (κ : ℕ) => (cellInv ER π.sched κ (π.cell co.1 co.2) : sProp 𝕄))) $$ Hinv'
  icases HK with ⟨%κ, #HI⟩
  icases Hr' with #HR
  ihave Htk := π.toks_deal $$ Htok
  ihave Hc := (show (bigSep Finset.univ fun c : Dev nD => (Pipeline.launchCred π.O₀ c : sProp 𝕄)) ⊢ bigSep Finset.univ fun c : Dev nD => bigSep Finset.univ fun j : J => π.crd c (rcv j) from
    bigSep_mono fun c _ => π.creds c) $$ Hcr
  ihave Hm := hM $$ Hbufs
  iapply (with_persistent (R := π.records κ) (Φ := fun c => iprop(π.ghost c ∗ M c)) fun c _ => show iprop(π.records κ ∗ π.ghost c ∗ M c) ⊢ π.start M c from by
    unfold start; iintro ⟨H1, H2⟩; iexists κ; isplitl [H1] <;> iassumption)
  isplitr
  · unfold records
    isplitr; · iexact HI
    isplitr; · iexact HR
    iexact Hlev
  unfold ghost
  simp only [bigSep_sep']
  icases Htk with ⟨Ht1, Ht2⟩
  isplitr [Hm]
  · isplitl [Hat]; · iexact Hat
    isplitl [Ht1]; · iexact Ht1
    isplitl [Ht2]; · iexact Ht2
    iexact Hc
  iexact Hm

end Proto

end Launch

end Cert.Exchange

end
-- ==== Proof.GatherProg.lean ====
/-
The two-level gather, as a list of steps.

Eight devices `4x + 2y + c`; device `d` starts with one block of each array and ends with all eight, block `b` in slot
`b` of the result.  A device's relatives are named by `w : Fin 8`: itself, its sibling (the other `c`), the devices of
the same `c` on the three other chips, and the siblings of those three.  Copy `k : Fin 7` of an array goes
  * `k = 0`      own block, to the sibling;
  * `k = 1 + j`  own block, to relative `2 + j` (chip `j`);
  * `k = 4 + j`  the block that came from chip `j`, on to the sibling.
On the receiver the block of copy `k` lands in the slot of its relative `k + 1`.
-/
module

public import Idealize.ShloMosaic.Lib.Pipeline.Kit
public import proofs.«01_k».proof.Proof.Exchange

@[expose] public section

noncomputable section

namespace Cert.Gather

open Idealize.ShloMosaic Idealize.ShloMosaic.TcCoe
open Idealize.SL Idealize.SL.Sem
open Cert.Exchange

/-- Relative `w` of device `d`: the devices' coordinates are the bits of their number. -/
def mate (w : Fin 8) (d : Dev 8) : Dev 8 := (d ^^^ (![0, 1, 4, 2, 6, 5, 3, 7] w : Fin 8) : Fin 8)

/-- Which relative copy `k` goes to. -/
def dir : Fin 7 → Fin 8 := ![1, 2, 3, 4, 1, 1, 1]
/-- Whose block copy `k` carries: a relative of the sender. -/
def blk : Fin 7 → Fin 8 := ![0, 0, 0, 0, 2, 3, 4]

theorem mate_mate : ∀ w d, mate w (mate w d) = d := by decide
theorem mate_zero : ∀ d, mate 0 d = d := by decide
theorem mate_inj : ∀ d w w', mate w d = mate w' d → w = w' := by decide
theorem mate_lands : ∀ k d, mate k.succ (mate (dir k) d) = mate (blk k) d := by decide

/-- How a program computes the slots and the devices: any way that gives the relatives. -/
structure Net where
  off : Fin 8 → Dev 8 → Fin 3 → ℕ
  hoff : ∀ w d, off w d = ![(mate w d).val, 0, 0]
  dev : Fin 7 → Dev 8 → Dev 8
  hdev : ∀ k d, dev k d = mate (dir k) d

abbrev Big (r k : ℕ) : Shape := ⟨3, ![8, r, k]⟩
abbrev One (r k : ℕ) : Shape := ⟨3, ![1, r, k]⟩
abbrev Flat (r k : ℕ) : Shape := ⟨2, ![r, k]⟩

theorem inb {r k : ℕ} {o : Fin 3 → ℕ} (b : Fin 8) (h : o = ![b.val, 0, 0]) : ∀ a, o a + (One r k).size a ≤ (Big r k).size a := by
  subst h
  have hb := b.isLt
  intro a
  fin_cases a
  · show b.val + 1 ≤ 8; omega
  · show 0 + r ≤ r; omega
  · show 0 + k ≤ k; omega

variable {τ : Topo} {sig : RefSig}

/-- One slot of a result array, at the offsets a program computes. -/
def slotAt {r k : ℕ} {e : EltTy} (out : Memref sig .tc .hbm (Big r k) e) (hsq : (One r k).Squeezes (Flat r k)) (o : Fin 3 → ℕ)
    (h : ∀ a, o a + (One r k).size a ≤ (Big r k).size a) : Memref sig .tc .hbm (Flat r k) e :=
  (out.slice (Rect.unit (s := Big r k) o (One r k).size h) (fun _ => rfl)).squeeze (Flat r k) hsq

/-- One gathered array: a device's block, and the result. -/
structure Arr (sig : RefSig) (N : Net) where
  r : ℕ
  k : ℕ
  e : EltTy
  src : Memref sig .tc .hbm (Flat r k) e
  out : Memref sig .tc .hbm (Big r k) e
  hsq : (One r k).Squeezes (Flat r k)
  hsc : out.view.ref.isScScratch = false
  hsrc : src.view.WordExact
  hslot : ∀ w d, (slotAt out hsq (N.off w d) (inb _ (N.hoff w d))).view.WordExact

variable {N : Net}

/-- The slot of relative `w` of device `d`. -/
abbrev Arr.slotOf (a : Arr sig N) (w : Fin 8) (d : Dev 8) : Memref sig .tc .hbm (Flat a.r a.k) a.e :=
  slotAt a.out a.hsq (N.off w d) (inb _ (N.hoff w d))

/-- The slot of device `b`. -/
abbrev Arr.slot (a : Arr sig N) (b : Fin 8) : Memref sig .tc .hbm (Flat a.r a.k) a.e :=
  slotAt a.out a.hsq ![b.val, 0, 0] (inb b rfl)

theorem slotAt_congr {r k : ℕ} {e : EltTy} (out : Memref sig .tc .hbm (Big r k) e) (hsq : (One r k).Squeezes (Flat r k)) {o o' : Fin 3 → ℕ}
    (e' : o = o') (h : ∀ a, o a + (One r k).size a ≤ (Big r k).size a) (h' : ∀ a, o' a + (One r k).size a ≤ (Big r k).size a) :
    slotAt out hsq o h = slotAt out hsq o' h' := by subst e'; rfl

theorem Arr.slotOf_eq (a : Arr sig N) (w : Fin 8) (d : Dev 8) : a.slotOf w d = a.slot (mate w d) :=
  slotAt_congr _ _ (N.hoff w d) _ _

/-- The arrays and semaphores of one gather. -/
structure Kit (sig : RefSig) (N : Net) (I : Type) where
  arr : I → Arr sig N
  all : List I
  sendS : Fin 7 × I → DmaSem sig
  recvS : Fin 7 × I → DmaSem sig
  locS : I → DmaSem sig

section Program

variable {I : Type} (κ : Kit sig N I) (Val : EltTy → Type) (Λ : Labels) (d : Dev 8)

abbrev Eff (τ : Topo) (sig : RefSig) (Val : EltTy → Type) (Λ : Labels) : Type _ := TpuEff 8 τ sig Val Λ .tc PUnit

/-- The local copy of array `i`. -/
def opLocal (i : I) : Eff τ sig Val Λ :=
  .enqueueDma (κ.arr i).src (.here ((κ.arr i).slotOf 0 d)) (.dma (κ.locS i)) (κ.arr i).hsrc ((κ.arr i).hslot 0 d) ⟨Or.inl rfl, trivial⟩

/-- A copy of the own block. -/
def opSend (x : Fin 7 × I) : Eff τ sig Val Λ :=
  .enqueueDma (κ.arr x.2).src (.remote (Dev.tc (N.dev x.1 d)) ((κ.arr x.2).slotOf 0 d) (.dma (κ.sendS x)) (κ.arr x.2).hsc)
    (.dma (κ.recvS x)) (κ.arr x.2).hsrc ((κ.arr x.2).hslot 0 d) ⟨⟨rfl, Or.inl rfl⟩, trivial⟩

/-- A block passed on. -/
def opForward (x : Fin 7 × I) : Eff τ sig Val Λ :=
  .enqueueDma ((κ.arr x.2).slotOf (blk x.1) d) (.remote (Dev.tc (N.dev x.1 d)) ((κ.arr x.2).slotOf (blk x.1) d) (.dma (κ.sendS x)) (κ.arr x.2).hsc)
    (.dma (κ.recvS x)) ((κ.arr x.2).hslot _ d) ((κ.arr x.2).hslot _ d) ⟨⟨rfl, Or.inl rfl⟩, trivial⟩

/-- Waiting for a block to land. -/
def opRecv (x : Fin 7 × I) : Eff τ sig Val Λ :=
  .waitDma2 (κ.recvS x) ((κ.arr x.2).slotOf x.1.succ d) ((κ.arr x.2).slotOf x.1.succ d) ((κ.arr x.2).hslot _ d) ((κ.arr x.2).hslot _ d)

/-- Waiting for a copy of the own block to have left. -/
def opSent (x : Fin 7 × I) : Eff τ sig Val Λ :=
  .waitDma2 (κ.sendS x) ((κ.arr x.2).slotOf 0 d) (κ.arr x.2).src ((κ.arr x.2).hslot _ d) (κ.arr x.2).hsrc

/-- Waiting for a block passed on to have left. -/
def opPassed (x : Fin 7 × I) : Eff τ sig Val Λ :=
  .waitDma2 (κ.sendS x) ((κ.arr x.2).slotOf (blk x.1) d) ((κ.arr x.2).slotOf (blk x.1) d) ((κ.arr x.2).hslot _ d) ((κ.arr x.2).hslot _ d)

/-- Waiting for the local copy. -/
def opHere (i : I) : Eff τ sig Val Λ :=
  .waitDma2 (κ.locS i) (κ.arr i).src ((κ.arr i).slotOf 0 d) (κ.arr i).hsrc ((κ.arr i).hslot 0 d)

variable {κ}

/-- The copies of own blocks, in program order. -/
def sends (κ : Kit sig N I) : List (Fin 7 × I) := κ.all.flatMap fun i => [(0, i), (1, i), (2, i), (3, i)]
/-- The chips and arrays in the order blocks are passed on. -/
def chips (κ : Kit sig N I) : List (Fin 3 × I) := [0, 1, 2].flatMap fun j => κ.all.map fun i => (j, i)

/-- The copy that brings chip `j`'s block, and the one that passes it on. -/
def fromChip (x : Fin 3 × I) : Fin 7 × I := (![1, 2, 3] x.1, x.2)
def onward (x : Fin 3 × I) : Fin 7 × I := (![4, 5, 6] x.1, x.2)
/-- The blocks passed on. -/
def fwds (κ : Kit sig N I) : List (Fin 7 × I) := (chips κ).map onward

variable (κ)

/-- The whole program of device `d`. -/
def prog : Prog (TpuEff 8 τ sig Val Λ .tc) PUnit :=
  steps (κ.all.flatMap fun i => [opLocal κ Val Λ d i]) <|
  steps ((sends κ).flatMap fun x => [opSend κ Val Λ d x]) <|
  steps ((chips κ).flatMap fun x => [opRecv κ Val Λ d (fromChip x), opForward κ Val Λ d (onward x)]) <|
  steps ((κ.all.map fun i => ((0, i) : Fin 7 × I)).flatMap fun x => [opRecv κ Val Λ d x]) <|
  steps ((fwds κ).flatMap fun x => [opRecv κ Val Λ d x]) <|
  steps ((sends κ).flatMap fun x => [opSent κ Val Λ d x]) <|
  steps ((fwds κ).flatMap fun x => [opPassed κ Val Λ d x]) <|
  steps (κ.all.flatMap fun i => [opHere κ Val Λ d i]) (.ret ⟨⟩)

end Program

end Cert.Gather

end
-- ==== Proof.GatherRun.lean ====
/-
The two-level gather, run.

`X i c` is what device `c` holds of array `i` at the start, `G i c` what its result holds at the end: block `b` of `G i c`
is `X i b`.  Each semaphore's payload carries its block at these contents, so the run ends with the results at `G`.
-/
module

public import proofs.«01_k».proof.Proof.GatherProg
public import Idealize.ShloMosaic.Lib.ShareLeaves
public import Idealize.ShloMosaic.Lib.Pipeline.BigSepL

@[expose] public section

noncomputable section

namespace Cert.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Exchange

variable {τ : Topo} {sig : RefSig} {Val : EltTy → Type} {N : Net} {I : Type}

local notation "𝕄" => MT 8 τ sig Unit Val ℕ (UU 8 τ sig) ℕ

/-! ## Slots -/

section Slots

variable (a : Arr sig N)

theorem rect_set {r k : ℕ} (b : Fin 8) (x : (Big r k).Idx) :
    x ∈ (Rect.unit (s := Big r k) ![b.val, 0, 0] (One r k).size (inb b rfl)).set ↔ (x 0).val = b.val := by
  rw [Rect.mem_set_unit]
  constructor
  · intro h
    have h0 := h 0
    have h1 : b.val ≤ (x 0).val := h0.1
    have h2 : (x 0).val < b.val + 1 := h0.2
    omega
  · intro h i
    fin_cases i
    · exact ⟨show b.val ≤ (x 0).val by omega, show (x 0).val < b.val + 1 by omega⟩
    · exact ⟨Nat.zero_le _, by have := (x 1).isLt; show (x 1).val < 0 + r; rw [Nat.zero_add]; exact this⟩
    · exact ⟨Nat.zero_le _, by have := (x 2).isLt; show (x 2).val < 0 + k; rw [Nat.zero_add]; exact this⟩

/-- The elements of slot `b`, as elements of the result's buffer. -/
def slotSet (b : Fin 8) : Finset a.out.view.ty.Idx := (a.slot b).view.set

theorem slot_set (b : Fin 8) :
    slotSet a b = (Rect.unit (s := Big a.r a.k) ![b.val, 0, 0] (One a.r a.k).size (inb b rfl)).set.map a.out.view.emb := by
  show ((a.out.view.slice _).reshape _ _).set = _
  rw [View.set_reshape, View.set_slice]

theorem slots_disjoint (b b' : Fin 8) (h : b ≠ b') : Disjoint (slotSet a b) (slotSet a b') := by
  rw [slot_set, slot_set, Finset.disjoint_map, Finset.disjoint_left]
  intro x hx hx'
  rw [rect_set] at hx hx'
  exact h (Fin.ext (hx.symm.trans hx'))

theorem slots_cover : (Finset.univ.biUnion fun b : Fin 8 => slotSet a b) = a.out.view.set := by
  ext y
  simp only [Finset.mem_biUnion, Finset.mem_univ, true_and, slot_set, Finset.mem_map]
  constructor
  · rintro ⟨b, x, -, rfl⟩; exact a.out.view.emb_mem_set x
  · intro hy
    obtain ⟨x, -, rfl⟩ := Finset.mem_map.mp hy
    exact ⟨x 0, x, (rect_set _ x).mpr rfl, rfl⟩

/-- Slot `b` of the result on device `c`, with contents `f`. -/
def slotPts (c : Dev 8) (b : Fin 8) (f : Buf Val (a.out.view.loc (c : Thread 8 τ))) : sProp 𝕄 :=
  (a.out.view.loc (c : Thread 8 τ) ↦[slotSet a b]{fullShare} f)

/-- The slot with any contents. -/
def slotAny (c : Dev 8) (b : Fin 8) : sProp 𝕄 := iprop(∃ f, slotPts (τ := τ) (Val := Val) a c b f)

/-- The result on device `c` is its slots. -/
theorem out_slots (c : Dev 8) (f : Buf Val (a.out.view.loc (c : Thread 8 τ))) :
    (a.out.view.loc (c : Thread 8 τ) ↦[a.out.view.set]{fullShare} f : sProp 𝕄) = bigSep Finset.univ fun b : Fin 8 => slotPts a c b f := by
  rw [← slots_cover a]
  exact pointsTo_biUnion (ℓ := a.out.view.loc (c : Thread 8 τ)) Finset.univ (slotSet a) (fun b _ b' _ h => slots_disjoint a b b' h)

/-- The relatives of `c`, as a way to run over all devices. -/
def mates (c : Dev 8) : Fin 8 ≃ Dev 8 := Equiv.ofBijective (fun w => mate w c) (Finite.injective_iff_bijective.mp fun w w' h => mate_inj c w w' h)

theorem bigSep_head (Φ : Fin 8 → sProp 𝕄) : bigSep Finset.univ Φ = iprop(Φ 0 ∗ bigSep Finset.univ fun k : Fin 7 => Φ k.succ) := by
  rw [Fin.univ_succ, Finset.cons_eq_insert, bigSep_insert (by simp), bigSep_map]; rfl

theorem out_mates (c : Dev 8) (f : Buf Val (a.out.view.loc (c : Thread 8 τ))) :
    (a.out.view.loc (c : Thread 8 τ) ↦[a.out.view.set]{fullShare} f : sProp 𝕄)
      = iprop(slotPts a c c f ∗ bigSep Finset.univ fun k : Fin 7 => slotPts a c (mate k.succ c) f) := by
  have h0 : slotPts (τ := τ) a c ((mates c) 0) f = slotPts a c c f := congrArg (fun b => slotPts a c b f) (mate_zero c)
  rw [out_slots, bigSep_univ_equiv (mates c), bigSep_head, h0]; rfl

end Slots

/-! ## The protocol -/

/-- The semaphores by family. -/
def Kit.osem (κ : Kit sig N I) : Own (Fin 7 × I) I → SemLoc sig
  | .inl x => .dma (κ.sendS x)
  | .inr (.inl x) => .dma (κ.recvS x)
  | .inr (.inr i) => .dma (κ.locS i)

/-- The copies in the order their blocks are waited for. -/
def arrivals (κ : Kit sig N I) : List (Fin 7 × I) := (chips κ).map fromChip ++ (κ.all.map (fun i => (0, i)) ++ fwds κ)

/-- What the run needs of the arrays and semaphores, and the contents it is about. -/
structure Data (κ : Kit sig N I) (τ : Topo) (Val : EltTy → Type) where
  inj : Function.Injective κ.osem
  allNd : κ.all.Nodup
  allAll : ∀ i, i ∈ κ.all
  sentNd : (sends κ ++ fwds κ).Nodup
  sentAll : ∀ x, x ∈ sends κ ++ fwds κ
  arrNd : (arrivals κ).Nodup
  arrAll : ∀ x, x ∈ arrivals κ
  pos : ∀ i, 0 < (Flat (κ.arr i).r (κ.arr i).k).numel
  credit : ∀ i, (κ.arr i).src.view.dmaCredit = ((κ.arr i).slot 0).view.dmaCredit
  X : ∀ (i : I) (c : Dev 8), Buf Val ((κ.arr i).src.view.loc (c : Thread 8 τ))
  G : ∀ (i : I) (c : Dev 8), Buf Val ((κ.arr i).out.view.loc (c : Thread 8 τ))
  hG : ∀ i c b, ((κ.arr i).slot b).view.read Val (G i c) = (κ.arr i).src.view.read Val (X i b)

variable {κ : Kit sig N I} (D : Data κ τ Val)

/-- A share of the own block on device `c`: one for each copy that reads it. -/
def Data.part (c : Dev 8) (i : I) (w : Fin 8) : sProp 𝕄 :=
  ((κ.arr i).src.view.loc (c : Thread 8 τ) ↦[(κ.arr i).src.view.set]{ShareLeaves.leaf 3 fullShare w} D.X i c)

/-- Slot `b` of the result, with its block. -/
abbrev Data.full (c : Dev 8) (i : I) (b : Fin 8) : sProp 𝕄 := slotPts (κ.arr i) c b (D.G i c)

/-- What each wait hands over. -/
def Data.pay (c : Dev 8) : Own (Fin 7 × I) I → sProp 𝕄
  | .inl x => if x.1.val < 4 then D.part c x.2 x.1.succ else D.full c x.2 (mate (blk x.1) c)
  | .inr (.inl x) => D.full c x.2 (mate x.1.succ c)
  | .inr (.inr i) => iprop(D.full c i c ∗ D.part c i 0)

/-- The array of a semaphore. -/
def arrOf : Own (Fin 7 × I) I → I
  | .inl x => x.2
  | .inr (.inl x) => x.2
  | .inr (.inr i) => i

/-- The protocol of the gather. -/
def Data.proto : Proto 8 τ sig Val (Fin 7 × I) I where
  osem := κ.osem
  inj := D.inj
  peer c x := mate (dir x.1) c
  inv c x := mate_mate _ _
  amt o := ((κ.arr (arrOf o)).slot 0).view.dmaCredit
  pos o := View.dmaCredit_pos _ (D.pos _)
  amt_eq x := rfl
  pay := D.pay
  lev o := match o with
    | .inr (.inl x) => if x.1.val < 4 then 1 else 2
    | _ => 0
  stor c o := by
    rcases o with x | x | i
    · show BI.Storable _ (if x.1.val < 4 then D.part c x.2 x.1.succ else D.full c x.2 (mate (blk x.1) c))
      split
      · unfold Data.part; infer_instance
      · unfold Data.full slotPts; infer_instance
    · show BI.Storable _ (slotPts _ _ _ _)
      unfold slotPts; infer_instance
    · show BI.Storable _ iprop(slotPts _ _ _ _ ∗ D.part c i 0)
      unfold slotPts Data.part; infer_instance

/-! ## What a copy leaves in a slot -/

/-- Overwriting a slot with what block `b` reads to leaves it at `G`. -/
theorem Data.landed (c : Dev 8) (i : I) (b : Fin 8) (w : (Flat (κ.arr i).r (κ.arr i).k).Idx → Val (κ.arr i).e)
    (hw : w = (κ.arr i).src.view.read Val (D.X i b)) (f : Buf Val (((κ.arr i).slot b).view.loc (c : Thread 8 τ))) :
    (((κ.arr i).slot b).view.loc (c : Thread 8 τ) ↦[((κ.arr i).slot b).view.set]{fullShare} ((κ.arr i).slot b).view.write Val f w Finset.univ : sProp 𝕄)
      = D.full c i b := by
  rw [hw, ← D.hG i c b]
  refine pointsTo_congr fun y hy => ?_
  exact (congrFun (View.write_read_eq_piecewise (Val := Val) (v := ((κ.arr i).slot b).view) f (D.G i c) Finset.univ) y).trans (Finset.piecewise_eq_of_mem _ _ _ hy)

/-! ## The steps -/

section Steps

variable [Fintype I] [DecidableEq I] {Λ : Labels} {defs : Defs 8 τ sig Val Λ} {𝒱 : Variants} {Q : PUnit → sProp (MT 8 τ sig Unit Val ℕ (UU 8 τ sig) ℕ)}
variable (n : Dev 8 × Own (Fin 7 × I) I → ℕ) (c : Dev 8) (k : Prog (TpuEff 8 τ sig Val Λ .tc) PUnit)

/-- Any slot credits the same. -/
theorem credit_slot (i : I) (w : Fin 8) (d : Dev 8) : ((κ.arr i).slotOf w d).view.dmaCredit = ((κ.arr i).slot 0).view.dmaCredit := rfl

/-- The local copy. -/
theorem Data.wp_here (i : I) {dst : Memref sig .tc .hbm (Flat (κ.arr i).r (κ.arr i).k) (κ.arr i).e} (e : dst = (κ.arr i).slot c)
    {hs : (κ.arr i).src.view.WordExact} {hd : dst.view.WordExact}
    {ht : DmaTarget.Typed (nD := 8) (τ := τ) (p := .tc) .hbm (.dma (κ.locS i)) (.here dst)} :
    iprop(D.proto.records n ∗ (D.proto.tok c (loc i) ∗ D.part c i 0 ∗ slotAny (κ.arr i) c c))
      ⊢ iprop((D.proto.crd c (loc i) -∗ Proto.wpc defs 𝒱 c k Q)
        -∗ Proto.wpc defs 𝒱 c (.op (.enqueueDma (κ.arr i).src (.here dst) (.dma (κ.locS i)) hs hd ht) fun _ => k) Q) := by
  subst e
  unfold slotAny
  iintro ⟨#HR, Ht, Hp, %f, Hs⟩
  have h1 : ((κ.arr i).slot c).view.amount (.dma (κ.locS i)) = D.proto.amt (loc i) := rfl
  have h2 := sep_mono_left (Entails.of_eq (D.landed c i c _ rfl f)) (Q := D.part c i 0)
  have h3 : iprop(D.proto.records n ∗ D.proto.tok c (loc i) ∗ D.part c i 0 ∗ slotPts (κ.arr i) c c f) ⊢ _ :=
    D.proto.wp_local (defs := defs) (𝒱 := 𝒱) (Q := Q) n c i (src := (κ.arr i).src) (dst := (κ.arr i).slot c) (sem := .dma (κ.locS i)) (hsrc := hs) (hdst := hd) (hsem := ht)
      (k := fun _ => k) (q := ShareLeaves.leaf 3 fullShare (0 : Fin 8)) (fs := D.X i c) (fd := f) rfl h1 h2
  iapply h3
  isplitr; · iexact HR
  isplitl [Ht]; · iexact Ht
  isplitl [Hp]; · iexact Hp
  iexact Hs

/-- The peer's slot a copy goes to. -/
def Data.there (D : Data κ τ Val) (c : Dev 8) (x : Fin 7 × I) : sProp 𝕄 := slotAny (κ.arr x.2) (mate (dir x.1) c) (mate (blk x.1) c)

/-- A copy of the own block. -/
theorem Data.wp_own (x : Fin 7 × I) (hx : x.1.val < 4) (l : List (Fin 7 × I)) {dst : Memref sig .tc .hbm (Flat (κ.arr x.2).r (κ.arr x.2).k) (κ.arr x.2).e}
    (e : dst = (κ.arr x.2).slot (mate (blk x.1) c)) {c' : Dev 8} (ec : c' = mate (dir x.1) c)
    {hs : (κ.arr x.2).src.view.WordExact} {hd : dst.view.WordExact} {hc : dst.view.ref.isScScratch = false}
    {ht : DmaTarget.Typed .hbm (.dma (κ.recvS x)) (.remote (c'.tc : Thread 8 τ) dst (.dma (κ.sendS x)) hc)} :
    iprop(D.proto.records n ∗ (D.proto.sendTok c x ∗ D.part c x.2 x.1.succ ∗ D.there c x) ∗ D.proto.Owe c (x :: l))
      ⊢ iprop(((D.proto.crd c (snd x) ∗ D.proto.Owe c l) -∗ Proto.wpc defs 𝒱 c k Q)
        -∗ Proto.wpc defs 𝒱 c (.op (.enqueueDma (κ.arr x.2).src (.remote (c'.tc : Thread 8 τ) dst (.dma (κ.sendS x)) hc) (.dma (κ.recvS x)) hs hd ht) fun _ => k) Q) := by
  have eb : blk x.1 = 0 := by revert hx; generalize x.1 = y; revert y; decide
  have hp : D.pay c (snd x) = D.part c x.2 x.1.succ := if_pos hx
  subst e ec
  unfold Data.there slotAny
  iintro ⟨#HR, ⟨Ht, Hp, %f, Hs⟩, HO⟩
  have h1 : ((κ.arr x.2).slot (mate (blk x.1) c)).view.amount (.dma (κ.recvS x)) = D.proto.amt (rcv x) := rfl
  have h2 : _ = D.pay (mate (dir x.1) c) (rcv x) := (D.landed (mate (dir x.1) c) x.2 (mate (blk x.1) c) _ (by rw [eb, mate_zero]) f).trans
    (congrArg (D.full (mate (dir x.1) c) x.2) (mate_lands x.1 c).symm)
  have h3 : iprop(D.proto.records n ∗ (D.proto.sendTok c x ∗ D.part c x.2 x.1.succ ∗ slotPts (κ.arr x.2) (mate (dir x.1) c) (mate (blk x.1) c) f) ∗ D.proto.Owe c (x :: l)) ⊢ _ :=
    D.proto.wp_remote (defs := defs) (𝒱 := 𝒱) (Q := Q) n c (mate (dir x.1) c) x l (src := (κ.arr x.2).src) (dst := (κ.arr x.2).slot (mate (blk x.1) c))
      (sS := .dma (κ.sendS x)) (sem := .dma (κ.recvS x)) (hsc := hc) (hsrc := hs) (hdst := hd) (hsem := ht) (k := fun _ => k)
      (q := ShareLeaves.leaf 3 fullShare (x.1.succ : Fin 8)) (fs := D.X x.2 c) (fd := f) rfl rfl rfl h1 (Entails.of_eq hp.symm) (Entails.of_eq h2)
  iapply h3
  isplitr; · iexact HR
  isplitr [HO]
  · isplitl [Ht]; · iexact Ht
    isplitl [Hp]; · iexact Hp
    iexact Hs
  iexact HO

/-- A block passed on. -/
theorem Data.wp_pass (x : Fin 7 × I) (hx : ¬ x.1.val < 4) (l : List (Fin 7 × I)) {dst : Memref sig .tc .hbm (Flat (κ.arr x.2).r (κ.arr x.2).k) (κ.arr x.2).e}
    (e : dst = (κ.arr x.2).slot (mate (blk x.1) c)) {c' : Dev 8} (ec : c' = mate (dir x.1) c)
    {hs : dst.view.WordExact} {hd : dst.view.WordExact} {hc : dst.view.ref.isScScratch = false}
    {ht : DmaTarget.Typed .hbm (.dma (κ.recvS x)) (.remote (c'.tc : Thread 8 τ) dst (.dma (κ.sendS x)) hc)} :
    iprop(D.proto.records n ∗ (D.proto.sendTok c x ∗ D.full c x.2 (mate (blk x.1) c) ∗ D.there c x) ∗ D.proto.Owe c (x :: l))
      ⊢ iprop(((D.proto.crd c (snd x) ∗ D.proto.Owe c l) -∗ Proto.wpc defs 𝒱 c k Q)
        -∗ Proto.wpc defs 𝒱 c (.op (.enqueueDma dst (.remote (c'.tc : Thread 8 τ) dst (.dma (κ.sendS x)) hc) (.dma (κ.recvS x)) hs hd ht) fun _ => k) Q) := by
  have hp : D.pay c (snd x) = D.full c x.2 (mate (blk x.1) c) := if_neg hx
  subst e ec
  unfold Data.there slotAny
  iintro ⟨#HR, ⟨Ht, Hp, %f, Hs⟩, HO⟩
  have h1 : ((κ.arr x.2).slot (mate (blk x.1) c)).view.amount (.dma (κ.recvS x)) = D.proto.amt (rcv x) := rfl
  have h2 : _ = D.pay (mate (dir x.1) c) (rcv x) := (D.landed (mate (dir x.1) c) x.2 (mate (blk x.1) c) _ (D.hG x.2 c _) f).trans
    (congrArg (D.full (mate (dir x.1) c) x.2) (mate_lands x.1 c).symm)
  have h3 : iprop(D.proto.records n ∗ (D.proto.sendTok c x ∗ D.full c x.2 (mate (blk x.1) c) ∗ slotPts (κ.arr x.2) (mate (dir x.1) c) (mate (blk x.1) c) f) ∗ D.proto.Owe c (x :: l)) ⊢ _ :=
    D.proto.wp_remote (defs := defs) (𝒱 := 𝒱) (Q := Q) n c (mate (dir x.1) c) x l (src := (κ.arr x.2).slot (mate (blk x.1) c)) (dst := (κ.arr x.2).slot (mate (blk x.1) c))
      (sS := .dma (κ.sendS x)) (sem := .dma (κ.recvS x)) (hsc := hc) (hsrc := hs) (hdst := hd) (hsem := ht) (k := fun _ => k)
      (q := fullShare) (fs := D.G x.2 c) (fd := f) rfl rfl rfl h1 (Entails.of_eq hp.symm) (Entails.of_eq h2)
  iapply h3
  isplitr; · iexact HR
  isplitr [HO]
  · isplitl [Ht]; · iexact Ht
    isplitl [Hp]; · iexact Hp
    iexact Hs
  iexact HO

end Steps

end Cert.Gather

end
-- ==== Proof.GatherAll.lean ====
/-
The two-level gather of any number of arrays, from start to end.
-/
module

public import proofs.«01_k».proof.Proof.GatherRun

@[expose] public section

noncomputable section

namespace Cert.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Exchange

variable {τ : Topo} {sig : RefSig} {Val : EltTy → Type} {N : Net} {I : Type} [Fintype I] [DecidableEq I]
variable {κ : Kit sig N I} (D : Data κ τ Val)
variable {Λ : Labels} {defs : Defs 8 τ sig Val Λ} {𝒱 : Variants} {Q : PUnit → sProp (MT 8 τ sig Unit Val ℕ (UU 8 τ sig) ℕ)}
variable (n : Dev 8 × Own (Fin 7 × I) I → ℕ) (c : Dev 8) (k : Prog (TpuEff 8 τ sig Val Λ .tc) PUnit)

local notation "𝕄" => MT 8 τ sig Unit Val ℕ (UU 8 τ sig) ℕ

/-! ## Lists of the arrays and copies -/

theorem mem_sends {x : Fin 7 × I} (h : x ∈ sends κ) : x.1.val < 4 := by
  unfold sends at h
  obtain ⟨i, -, h⟩ := List.mem_flatMap.mp h
  simp only [List.mem_cons, List.not_mem_nil, or_false] at h
  rcases h with rfl | rfl | rfl | rfl
  exacts [(by decide : (0 : Fin 7).val < 4), (by decide : (1 : Fin 7).val < 4), (by decide : (2 : Fin 7).val < 4), (by decide : (3 : Fin 7).val < 4)]

theorem onward_later : ∀ y : Fin 3 × I, ¬ (onward y).1.val < 4 := fun y => by
  show ¬ (![4, 5, 6] y.1 : Fin 7).val < 4
  generalize y.1 = j; revert j; decide
theorem fromChip_first : ∀ y : Fin 3 × I, (fromChip y).1.val < 4 := fun y => by
  show (![1, 2, 3] y.1 : Fin 7).val < 4
  generalize y.1 = j; revert j; decide
/-- The block passed on is the one that came. -/
theorem onward_blk : ∀ y : Fin 3 × I, blk (onward y).1 = (fromChip y).1.succ := fun y => by
  show blk (![4, 5, 6] y.1) = Fin.succ (![1, 2, 3] y.1)
  generalize y.1 = j; revert j; decide

theorem bigSepL_both {X : Type} (l : List X) (A B : X → sProp 𝕄) :
    bigSepL l (fun x => iprop(A x ∗ B x)) = iprop(bigSepL l A ∗ bigSepL l B) := by
  induction l with
  | nil => exact (Idealize.SL.BI.equiv_iff.mp Idealize.SL.BI.emp_sep).symm
  | cons x l ih =>
    rw [bigSepL_cons', bigSepL_cons', bigSepL_cons', ih]
    apply Entails.antisymm
    · show iprop((A x ∗ B x) ∗ bigSepL l A ∗ bigSepL l B) ⊢ iprop((A x ∗ bigSepL l A) ∗ B x ∗ bigSepL l B)
      iintro ⟨⟨H1, H2⟩, H3, H4⟩
      isplitl [H1 H3]
      · isplitl [H1] <;> iassumption
      isplitl [H2] <;> iassumption
    · show iprop((A x ∗ bigSepL l A) ∗ B x ∗ bigSepL l B) ⊢ iprop((A x ∗ B x) ∗ bigSepL l A ∗ bigSepL l B)
      iintro ⟨⟨H1, H3⟩, H2, H4⟩
      isplitl [H1 H2]
      · isplitl [H1] <;> iassumption
      isplitl [H3] <;> iassumption

section Lists
include D

theorem Data.byArr (Φ : I → sProp 𝕄) : bigSep Finset.univ Φ = bigSepL κ.all Φ :=
  bigSep_univ_eq_bigSepL _ (Finset.ext fun i => by simp [D.allAll i]) D.allNd Φ

theorem Data.bySent (Φ : Fin 7 × I → sProp 𝕄) : bigSep Finset.univ Φ = iprop(bigSepL (sends κ) Φ ∗ bigSepL (fwds κ) Φ) := by
  rw [bigSep_univ_eq_bigSepL _ (Finset.ext fun x => by simpa using D.sentAll x) D.sentNd Φ, bigSepL_append]

theorem Data.byArrival (Φ : Fin 7 × I → sProp 𝕄) :
    bigSep Finset.univ Φ = iprop(bigSepL (chips κ) (fun y => Φ (fromChip y)) ∗ bigSepL (κ.all.map fun i => ((0, i) : Fin 7 × I)) Φ ∗ bigSepL (fwds κ) Φ) := by
  rw [bigSep_univ_eq_bigSepL _ (Finset.ext fun x => by simpa using D.arrAll x) D.arrNd Φ]
  unfold arrivals
  rw [bigSepL_append, bigSepL_append, bigSepL_map]

end Lists

/-! ## The phases -/

theorem Data.ph_local :
    iprop(D.proto.records n ∗ bigSepL κ.all fun i => iprop(D.proto.tok c (loc i) ∗ D.part c i 0 ∗ slotAny (κ.arr i) c c))
      ⊢ iprop((bigSepL κ.all (fun i => D.proto.crd c (loc i)) -∗ Proto.wpc defs 𝒱 c k Q)
        -∗ Proto.wpc defs 𝒱 c (steps (κ.all.flatMap fun i => [opLocal κ Val Λ c i]) k) Q) := by
  iintro ⟨#HR, HA⟩ Hk
  iapply (wp_phase (defs := defs) (𝒱 := 𝒱) (Q := Q) c (D.proto.records n) (fun i => [opLocal κ Val Λ c i])
    (fun i => iprop(D.proto.tok c (loc i) ∗ D.part c i 0 ∗ slotAny (κ.arr i) c c)) (fun i => D.proto.crd c (loc i)) (fun _ => iprop(emp)) k κ.all ?_) $$ [HA]
  · intro i l' _ k'
    iintro ⟨#HR, HA, -⟩ Hk
    iapply (D.wp_here n c k' i (((κ.arr i).slotOf_eq 0 c).trans (by rw [mate_zero]))) $$ [HA]
    · isplitr; · iexact HR
      iexact HA
    iintro Hc
    iapply Hk
    isplitl; · iexact Hc
    iempintro
  · isplitr; · iexact HR
    isplitl; · iexact HA
    iempintro
  iintro ⟨HB, -⟩
  iapply Hk; iexact HB

theorem Data.ph_sends :
    iprop(D.proto.records n ∗ (bigSepL (sends κ) fun x => iprop(D.proto.sendTok c x ∗ D.part c x.2 x.1.succ ∗ D.there c x)) ∗ D.proto.Owe c (sends κ ++ fwds κ))
      ⊢ iprop(((bigSepL (sends κ) (fun x => D.proto.crd c (snd x)) ∗ D.proto.Owe c (fwds κ)) -∗ Proto.wpc defs 𝒱 c k Q)
        -∗ Proto.wpc defs 𝒱 c (steps ((sends κ).flatMap fun x => [opSend κ Val Λ c x]) k) Q) := by
  refine wp_phase (defs := defs) (𝒱 := 𝒱) (Q := Q) c (D.proto.records n) (fun x => [opSend κ Val Λ c x])
    (fun x => iprop(D.proto.sendTok c x ∗ D.part c x.2 x.1.succ ∗ D.there c x)) (fun x => D.proto.crd c (snd x)) (fun l => D.proto.Owe c (l ++ fwds κ)) k (sends κ) ?_
  intro x l' hx k'
  have hlt : x.1.val < 4 := mem_sends (hx.subset List.mem_cons_self)
  have eb : blk x.1 = 0 := by revert hlt; generalize x.1 = y; revert y; decide
  exact D.wp_own n c k' x hlt (l' ++ fwds κ) (((κ.arr x.2).slotOf_eq 0 c).trans (by rw [eb])) (N.hdev _ _)

theorem Data.await (x : Fin 7 × I) (l : List (Fin 7 × I)) (hl : ∀ j ∈ l, D.proto.lev (rcv x) < D.proto.lev (rcv j)) :
    iprop(D.proto.records n ∗ (D.proto.at0 c (rcv x) ∗ D.proto.crd c (rcv x)) ∗ D.proto.Owe c l)
      ⊢ iprop((((D.proto.done c (rcv x) ∗ D.full c x.2 (mate x.1.succ c)) ∗ D.proto.Owe c l) -∗ Proto.wpc defs 𝒱 c k Q)
        -∗ Proto.wpc defs 𝒱 c (steps [opRecv κ Val Λ c x] k) Q) :=
  D.proto.wp_await (k := fun _ => k) (src := (κ.arr x.2).slotOf x.1.succ c) (dst := (κ.arr x.2).slotOf x.1.succ c) (hsrc := (κ.arr x.2).hslot _ c) (hdst := (κ.arr x.2).hslot _ c) n c (rcv x) l hl rfl rfl

theorem Data.ph_pass :
    iprop(D.proto.records n ∗ (bigSepL (chips κ) fun y => iprop((D.proto.at0 c (rcv (fromChip y)) ∗ D.proto.crd c (rcv (fromChip y)))
          ∗ D.proto.sendTok c (onward y) ∗ D.there c (onward y))) ∗ D.proto.Owe c (fwds κ))
      ⊢ iprop(((bigSepL (chips κ) (fun y => iprop(D.proto.done c (rcv (fromChip y)) ∗ D.proto.crd c (snd (onward y)))) ∗ D.proto.Owe c []) -∗ Proto.wpc defs 𝒱 c k Q)
        -∗ Proto.wpc defs 𝒱 c (steps ((chips κ).flatMap fun x => [opRecv κ Val Λ c (fromChip x), opForward κ Val Λ c (onward x)]) k) Q) := by
  refine wp_phase (defs := defs) (𝒱 := 𝒱) (Q := Q) c (D.proto.records n) (fun x => [opRecv κ Val Λ c (fromChip x), opForward κ Val Λ c (onward x)])
    (fun y => iprop((D.proto.at0 c (rcv (fromChip y)) ∗ D.proto.crd c (rcv (fromChip y))) ∗ D.proto.sendTok c (onward y) ∗ D.there c (onward y)))
    (fun y => iprop(D.proto.done c (rcv (fromChip y)) ∗ D.proto.crd c (snd (onward y)))) (fun l => D.proto.Owe c (l.map onward)) k (chips κ) ?_
  intro y l' hy k'
  have hlev : ∀ j ∈ (y :: l').map onward, D.proto.lev (rcv (fromChip y)) < D.proto.lev (rcv j) := by
    intro j hj
    obtain ⟨z, -, rfl⟩ := List.mem_map.mp hj
    have h1 : D.proto.lev (rcv (fromChip y)) = 1 := if_pos (fromChip_first y)
    have h2 : D.proto.lev (rcv (onward z)) = 2 := if_neg (onward_later z)
    omega
  iintro ⟨#HR, ⟨Hw, Ht, Hs⟩, HO⟩ Hk
  iapply (D.await n c (.op (opForward κ Val Λ c (onward y)) fun _ => k') (fromChip y) ((y :: l').map onward) hlev) $$ [Hw HO]
  · isplitr; · iexact HR
    isplitl [Hw] <;> iassumption
  iintro ⟨⟨Hd, Hp⟩, HO⟩
  iapply (D.wp_pass n c k' (onward y) (onward_later y) (l'.map onward) ((κ.arr y.2).slotOf_eq _ c) (N.hdev _ _)) $$ [Hp Ht Hs HO]
  · isplitr; · iexact HR
    isplitr [HO]
    · isplitl [Ht]; · iexact Ht
      isplitl [Hp]
      · rw [onward_blk]; iexact Hp
      iexact Hs
    iexact HO
  iintro ⟨Hc, HO⟩
  iapply Hk
  isplitr [HO]
  · isplitl [Hd] <;> iassumption
  iexact HO

/-- A run of waits with nothing owed. -/
theorem Data.ph_wait {X : Type} (f : X → List (Eff τ sig Val Λ)) (o : X → Own (Fin 7 × I) I) (l : List X)
    (h : ∀ x ∈ l, ∀ k' : Prog (TpuEff 8 τ sig Val Λ .tc) PUnit, iprop(D.proto.records n ∗ (D.proto.at0 c (o x) ∗ D.proto.crd c (o x)) ∗ D.proto.Owe c [])
      ⊢ iprop((((D.proto.done c (o x) ∗ D.pay c (o x)) ∗ D.proto.Owe c []) -∗ Proto.wpc defs 𝒱 c k' Q) -∗ Proto.wpc defs 𝒱 c (steps (f x) k') Q)) :
    iprop(D.proto.records n ∗ ((bigSepL l fun x => D.proto.at0 c (o x)) ∗ bigSepL l fun x => D.proto.crd c (o x)) ∗ D.proto.Owe c [])
      ⊢ iprop(((((bigSepL l fun x => D.proto.done c (o x)) ∗ bigSepL l fun x => D.pay c (o x)) ∗ D.proto.Owe c []) -∗ Proto.wpc defs 𝒱 c k Q)
        -∗ Proto.wpc defs 𝒱 c (steps (l.flatMap f) k) Q) := by
  rw [← bigSepL_both, ← bigSepL_both]
  exact wp_phase (defs := defs) (𝒱 := 𝒱) (Q := Q) c (D.proto.records n) f (fun x => iprop(D.proto.at0 c (o x) ∗ D.proto.crd c (o x)))
    (fun x => iprop(D.proto.done c (o x) ∗ D.pay c (o x))) (fun _ => D.proto.Owe c []) k l fun x l' hx k' => h x (hx.subset List.mem_cons_self) k'

theorem Data.ph_recv (l : List (Fin 7 × I)) :
    iprop(D.proto.records n ∗ ((bigSepL l fun x => D.proto.at0 c (rcv x)) ∗ bigSepL l fun x => D.proto.crd c (rcv x)) ∗ D.proto.Owe c [])
      ⊢ iprop(((((bigSepL l fun x => D.proto.done c (rcv x)) ∗ bigSepL l fun x => D.pay c (rcv x)) ∗ D.proto.Owe c []) -∗ Proto.wpc defs 𝒱 c k Q)
        -∗ Proto.wpc defs 𝒱 c (steps (l.flatMap fun x => [opRecv κ Val Λ c x]) k) Q) :=
  D.ph_wait n c k _ rcv l fun x _ k' => D.proto.wp_await (k := fun _ => k') (src := (κ.arr x.2).slotOf x.1.succ c) (dst := (κ.arr x.2).slotOf x.1.succ c) (hsrc := (κ.arr x.2).hslot _ c) (hdst := (κ.arr x.2).hslot _ c) n c (rcv x) [] (fun _ h => absurd h List.not_mem_nil) rfl rfl

theorem Data.ph_sent (l : List (Fin 7 × I)) :
    iprop(D.proto.records n ∗ ((bigSepL l fun x => D.proto.at0 c (snd x)) ∗ bigSepL l fun x => D.proto.crd c (snd x)) ∗ D.proto.Owe c [])
      ⊢ iprop(((((bigSepL l fun x => D.proto.done c (snd x)) ∗ bigSepL l fun x => D.pay c (snd x)) ∗ D.proto.Owe c []) -∗ Proto.wpc defs 𝒱 c k Q)
        -∗ Proto.wpc defs 𝒱 c (steps (l.flatMap fun x => [opSent κ Val Λ c x]) k) Q) :=
  D.ph_wait n c k _ snd l fun x _ k' => D.proto.wp_await (k := fun _ => k') (src := (κ.arr x.2).slotOf 0 c) (dst := (κ.arr x.2).src) (hsrc := (κ.arr x.2).hslot _ c) (hdst := (κ.arr x.2).hsrc) n c (snd x) [] (fun _ h => absurd h List.not_mem_nil) rfl (D.credit x.2)

theorem Data.ph_passed (l : List (Fin 7 × I)) :
    iprop(D.proto.records n ∗ ((bigSepL l fun x => D.proto.at0 c (snd x)) ∗ bigSepL l fun x => D.proto.crd c (snd x)) ∗ D.proto.Owe c [])
      ⊢ iprop(((((bigSepL l fun x => D.proto.done c (snd x)) ∗ bigSepL l fun x => D.pay c (snd x)) ∗ D.proto.Owe c []) -∗ Proto.wpc defs 𝒱 c k Q)
        -∗ Proto.wpc defs 𝒱 c (steps (l.flatMap fun x => [opPassed κ Val Λ c x]) k) Q) :=
  D.ph_wait n c k _ snd l fun x _ k' => D.proto.wp_await (k := fun _ => k') (src := (κ.arr x.2).slotOf (blk x.1) c) (dst := (κ.arr x.2).slotOf (blk x.1) c) (hsrc := (κ.arr x.2).hslot _ c) (hdst := (κ.arr x.2).hslot _ c) n c (snd x) [] (fun _ h => absurd h List.not_mem_nil) rfl rfl

theorem Data.ph_here (l : List I) :
    iprop(D.proto.records n ∗ ((bigSepL l fun i => D.proto.at0 c (loc i)) ∗ bigSepL l fun i => D.proto.crd c (loc i)) ∗ D.proto.Owe c [])
      ⊢ iprop(((((bigSepL l fun i => D.proto.done c (loc i)) ∗ bigSepL l fun i => D.pay c (loc i)) ∗ D.proto.Owe c []) -∗ Proto.wpc defs 𝒱 c k Q)
        -∗ Proto.wpc defs 𝒱 c (steps (l.flatMap fun i => [opHere κ Val Λ c i]) k) Q) :=
  D.ph_wait n c k _ loc l fun x _ k' => D.proto.wp_await (k := fun _ => k') (src := (κ.arr x).src) (dst := (κ.arr x).slotOf 0 c) (hsrc := (κ.arr x).hsrc) (hdst := (κ.arr x).hslot _ c) n c (loc x) [] (fun _ h => absurd h List.not_mem_nil) rfl rfl

/-! ## What a device holds before and after -/

/-- Block `i` of device `c`, whole. -/
def Data.held (c : Dev 8) (i : I) : sProp 𝕄 := ((κ.arr i).src.view.loc (c : Thread 8 τ) ↦[(κ.arr i).src.view.set]{fullShare} D.X i c)
/-- Result `i` of device `c`, whole. -/
def Data.result (c : Dev 8) (i : I) : sProp 𝕄 := ((κ.arr i).out.view.loc (c : Thread 8 τ) ↦[(κ.arr i).out.view.set]{fullShare} D.G i c)

/-- A device's memory at launch: its blocks, its own slots, and the slots of its peers that it will write. -/
def Data.mem (c : Dev 8) : sProp 𝕄 :=
  iprop(((bigSep Finset.univ fun i => D.held c i) ∗ bigSep Finset.univ fun i => slotAny (κ.arr i) c c) ∗ bigSep Finset.univ fun x => D.there c x)

theorem Data.held_parts (c : Dev 8) :
    (bigSep Finset.univ fun i => D.held c i) = iprop((bigSep Finset.univ fun i => D.part c i 0) ∗ bigSep Finset.univ fun x : Fin 7 × I => D.part c x.2 x.1.succ) := by
  have h (i : I) : D.held c i = iprop(D.part c i 0 ∗ bigSep Finset.univ fun k : Fin 7 => D.part c i k.succ) :=
    (ShareLeaves.pointsTo_leaves _ _ 3 fullShare).trans (bigSep_head (fun w : Fin 8 => D.part c i w))
  rw [bigSep_congr fun i _ => h i, bigSep_sep', bigSep_univ_prod, Pipeline.bigSep_univ_comm]

theorem Data.result_slots (c : Dev 8) :
    (bigSep Finset.univ fun i => D.result c i) = iprop((bigSep Finset.univ fun i => D.full c i c) ∗ bigSep Finset.univ fun x : Fin 7 × I => D.full c x.2 (mate x.1.succ c)) := by
  have h (i : I) : D.result c i = iprop(D.full c i c ∗ bigSep Finset.univ fun k : Fin 7 => D.full c i (mate k.succ c)) := out_mates (κ.arr i) c (D.G i c)
  rw [bigSep_congr fun i _ => h i, bigSep_sep', bigSep_univ_prod, Pipeline.bigSep_univ_comm]

theorem byOwn (Φ : Own (Fin 7 × I) I → sProp 𝕄) :
    bigSep Finset.univ Φ = iprop((bigSep Finset.univ fun x => Φ (snd x)) ∗ (bigSep Finset.univ fun x => Φ (rcv x)) ∗ bigSep Finset.univ fun i => Φ (loc i)) := by
  rw [bigSep_univ_sum, bigSep_univ_sum]; rfl

/-- The gather, run on device `c`. -/
theorem Data.run :
    iprop(D.proto.records n ∗ (D.proto.ghost c ∗ D.mem c) ∗ D.proto.Owe c (sends κ ++ fwds κ))
      ⊢ iprop((((bigSep Finset.univ (D.held c) ∗ bigSep Finset.univ (D.result c)) ∗ (bigSep Finset.univ fun o => D.proto.done c o) ∗ D.proto.Owe c [])
          -∗ Proto.wpc defs 𝒱 c (.ret ⟨⟩) Q) -∗ Proto.wpc defs 𝒱 c (prog κ Val Λ c) Q) := by
  have hf (Φ : Fin 7 × I → sProp 𝕄) : bigSepL (fwds κ) Φ = bigSepL (chips κ) fun y => Φ (onward y) := bigSepL_map onward (chips κ) Φ
  have hheld : bigSep Finset.univ (D.held c) = iprop(bigSepL κ.all (fun i => D.part c i 0) ∗ bigSepL (sends κ) (fun x => D.part c x.2 x.1.succ) ∗ bigSepL (fwds κ) fun x => D.part c x.2 x.1.succ) := by
    rw [show bigSep Finset.univ (D.held c) = _ from D.held_parts c, D.byArr, D.bySent]
  have hres : bigSep Finset.univ (D.result c) = iprop(bigSepL κ.all (fun i => D.full c i c) ∗ bigSepL (chips κ) (fun y => D.full c y.2 (mate (fromChip y).1.succ c))
      ∗ bigSepL (κ.all.map fun i => ((0, i) : Fin 7 × I)) (fun x => D.full c x.2 (mate x.1.succ c)) ∗ bigSepL (fwds κ) fun x => D.full c x.2 (mate x.1.succ c)) := by
    rw [show bigSep Finset.univ (D.result c) = _ from D.result_slots c, D.byArr, D.byArrival]; rfl
  have hpaid : (bigSepL (sends κ) fun x => D.pay c (snd x)) ⊢ bigSepL (sends κ) fun x => D.part c x.2 x.1.succ :=
    bigSepL_mono fun x hx => Entails.of_eq (if_pos (mem_sends hx))
  have hback : (bigSepL (fwds κ) fun x => D.pay c (snd x)) ⊢ bigSepL (chips κ) fun y => D.full c y.2 (mate (fromChip y).1.succ c) := by
    rw [hf]
    refine bigSepL_mono fun y _ => Entails.of_eq ((if_neg (onward_later y)).trans ?_)
    rw [onward_blk]; rfl
  have hat : (bigSep Finset.univ fun o => D.proto.at0 c o) = iprop((bigSepL (sends κ) (fun x => D.proto.at0 c (snd x)) ∗ bigSepL (fwds κ) fun x => D.proto.at0 c (snd x))
      ∗ (bigSepL (chips κ) (fun y => D.proto.at0 c (rcv (fromChip y))) ∗ bigSepL (κ.all.map fun i => ((0, i) : Fin 7 × I)) (fun x => D.proto.at0 c (rcv x)) ∗ bigSepL (fwds κ) fun x => D.proto.at0 c (rcv x))
      ∗ bigSepL κ.all fun i => D.proto.at0 c (loc i)) := by
    rw [byOwn, D.bySent, D.byArrival, D.byArr]
  have hdone : (bigSep Finset.univ fun o => D.proto.done c o) = iprop((bigSepL (sends κ) (fun x => D.proto.done c (snd x)) ∗ bigSepL (fwds κ) fun x => D.proto.done c (snd x))
      ∗ (bigSepL (chips κ) (fun y => D.proto.done c (rcv (fromChip y))) ∗ bigSepL (κ.all.map fun i => ((0, i) : Fin 7 × I)) (fun x => D.proto.done c (rcv x)) ∗ bigSepL (fwds κ) fun x => D.proto.done c (rcv x))
      ∗ bigSepL κ.all fun i => D.proto.done c (loc i)) := by
    rw [byOwn, D.bySent, D.byArrival, D.byArr]
  rw [hres, hdone]
  unfold Proto.ghost Data.mem
  rw [hat, show (bigSep Finset.univ fun i => D.held c i) = bigSep Finset.univ (D.held c) from rfl, hheld, D.bySent, D.byArr, D.byArrival, D.byArr, D.bySent]
  iintro ⟨#HR, ⟨⟨⟨⟨Has, Haf⟩, ⟨Hac, Ha0, Haf'⟩, Hal⟩, ⟨Hts, Htf⟩, Htl, Hcc, Hc0, Hcf⟩, ⟨⟨Hp0, Hps, Hpf⟩, Hown⟩, Hds, Hdf⟩, HO⟩ Hk
  unfold prog
  -- the local copies
  iapply (D.ph_local n c _) $$ [Htl Hp0 Hown]
  · isplitr; · iexact HR
    rw [bigSepL_both, bigSepL_both]
    isplitl [Htl]; · iexact Htl
    isplitl [Hp0] <;> iassumption
  iintro Hcl
  -- the copies of the own blocks
  iapply (D.ph_sends n c _) $$ [Hts Hps Hds HO]
  · isplitr; · iexact HR
    isplitr [HO]
    · rw [bigSepL_both, bigSepL_both]
      isplitl [Hts]; · iexact Hts
      isplitl [Hps] <;> iassumption
    iexact HO
  iintro ⟨Hcs, HO⟩
  -- the blocks passed on
  ihave Htf' := (Entails.of_eq (hf (fun x => D.proto.sendTok c x))) $$ Htf
  ihave Hdf' := (Entails.of_eq (hf (fun x => D.there c x))) $$ Hdf
  iapply (D.ph_pass n c _) $$ [Hac Hcc Htf' Hdf' HO]
  · isplitr; · iexact HR
    isplitr [HO]
    · rw [bigSepL_both, bigSepL_both, bigSepL_both]
      isplitl [Hac Hcc]
      · isplitl [Hac] <;> iassumption
      isplitl [Htf'] <;> iassumption
    iexact HO
  iintro ⟨Hpp, HO⟩
  ihave Hpp' := (Entails.of_eq (bigSepL_both (chips κ) (fun y => D.proto.done c (rcv (fromChip y))) fun y => D.proto.crd c (snd (onward y)))) $$ Hpp
  icases Hpp' with ⟨Hdc, Hcp⟩
  -- the waits
  iapply (D.ph_recv n c _ _) $$ [Ha0 Hc0 HO]
  · isplitr; · iexact HR
    isplitr [HO]
    · isplitl [Ha0] <;> iassumption
    iexact HO
  iintro ⟨⟨Hd0, Hr0⟩, HO⟩
  iapply (D.ph_recv n c _ _) $$ [Haf' Hcf HO]
  · isplitr; · iexact HR
    isplitr [HO]
    · isplitl [Haf'] <;> iassumption
    iexact HO
  iintro ⟨⟨Hdf', Hrf⟩, HO⟩
  iapply (D.ph_sent n c _ _) $$ [Has Hcs HO]
  · isplitr; · iexact HR
    isplitr [HO]
    · isplitl [Has] <;> iassumption
    iexact HO
  iintro ⟨⟨Hds', Hrs⟩, HO⟩
  ihave Hcp' := (Entails.of_eq (hf (fun x => D.proto.crd c (snd x))).symm) $$ Hcp
  iapply (D.ph_passed n c _ _) $$ [Haf Hcp' HO]
  · isplitr; · iexact HR
    isplitr [HO]
    · isplitl [Haf] <;> iassumption
    iexact HO
  iintro ⟨⟨Hdf, Hrp⟩, HO⟩
  iapply (D.ph_here n c _ _) $$ [Hal Hcl HO]
  · isplitr; · iexact HR
    isplitr [HO]
    · isplitl [Hal] <;> iassumption
    iexact HO
  iintro ⟨⟨Hdl, Hrl⟩, HO⟩
  ihave Hps := hpaid $$ Hrs
  ihave Hrc := hback $$ Hrp
  ihave Hrl' := (show (bigSepL κ.all fun i => D.pay c (loc i)) ⊢ iprop(bigSepL κ.all (fun i => D.full c i c) ∗ bigSepL κ.all fun i => D.part c i 0) from
    Entails.of_eq (bigSepL_both _ (fun i => D.full c i c) fun i => D.part c i 0)) $$ Hrl
  icases Hrl' with ⟨Hfl, Hpl⟩
  iapply Hk
  isplitl [Hps Hpf Hpl Hfl Hrc Hr0 Hrf]
  · isplitl [Hps Hpf Hpl]
    · isplitl [Hpl]; · iexact Hpl
      isplitl [Hps] <;> iassumption
    isplitl [Hfl]; · iexact Hfl
    isplitl [Hrc]; · iexact Hrc
    isplitl [Hr0]; · iexact Hr0
    iexact Hrf
  isplitr [HO]
  · isplitl [Hds' Hdf]
    · isplitl [Hds'] <;> iassumption
    isplitl [Hdc Hd0 Hdf']
    · isplitl [Hdc]; · iexact Hdc
      isplitl [Hd0] <;> iassumption
    iexact Hdl
  iexact HO

end Cert.Gather

end
-- ==== Proof.MeshLaunch.lean ====
/-
The launch of a kernel whose devices write into each other's result arrays from the first instruction on.

The kernels here stage nothing: they have no windows, no grid and no prefetched tables, only arrays in HBM and DMA
semaphores.  A device writes into its peers' result arrays before any of them has signalled, so at launch the pieces of
those arrays have to be dealt to the devices that will write them.  `θ_run_dealt` is the launch theorem for that: the
one global step `hdeal` receives, beside the kernels' own semaphores, every device's arrays.
-/
module

public import Idealize.ShloMosaic.Lib.Pipeline.Kit
public import Idealize.ShloMosaic.Lib.Pipeline.Regions
public import Idealize.ShloMosaic.Lib.Quiescent

@[expose] public section

noncomputable section

namespace Cert.MeshLaunch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline Idealize.ShloMosaic.Pipeline.PerCore

variable {nD : Nat} {τ : Topo} {sig : RefSig} {Val : EltTy → Type}
variable {Ix : Type} [DecidableEq Ix] {Name : Type} [DecidableEq Name] {U : Type} [URA U] {Lvl : Type}
variable {Λ₀ : Labels} {P : Type} [Fintype P]

local notation "𝕄" => MT nD τ sig Ix Val Name U Lvl

/-- The rights to assign levels on every TensorCore, exchanged for one assignment of levels for the whole machine. -/
theorem assign_levels (L : GSem nD τ sig → Finset Ix) (lv : GSem nD τ sig → Ix → Lvl) (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  classical
  have hother (d : Dev nD) : (bigSep (Finset.univ.erase Proc.tc) fun q => (coreLevAts ((d, q) : Thread nD τ) L lv : sProp 𝕄)) = BI.emp := by
    refine (bigSep_congr (Ψ := fun _ : Proc τ => (BI.emp : sProp 𝕄)) fun q hq => ?_).trans (BI.bigSep_emp_const _)
    unfold coreLevAts
    refine (bigSep_congr (Ψ := fun _ : SemLoc sig => (BI.emp : sProp 𝕄)) fun sm _ => ?_).trans (BI.bigSep_emp_const _)
    rw [hL (((d, q) : Thread nD τ), sm) (Finset.ne_of_mem_erase hq), BI.bigSep_empty]
  have hall : (levAts L lv : sProp 𝕄) = bigSep Finset.univ fun d : Dev nD => coreLevAts (d.tc : Thread nD τ) L lv := by
    rw [show (levAts L lv : sProp 𝕄) = bigSep Finset.univ fun c : Thread nD τ => coreLevAts c L lv
        from (bigSep_univ_prod fun g : GSem nD τ sig => bigSep (L g) fun ι => levAt g ι (lv g ι)),
      bigSep_threads (fun c : Thread nD τ => coreLevAts c L lv), bigSep_congr (fun d _ => hother d), BI.bigSep_emp_const]
    exact equiv_iff.mp Idealize.SL.BI.sep_emp
  rw [hall]
  refine (bigSep_mono fun c _ => lev_assign_cells (c.tc : Thread nD τ) L lv).trans ((BI.bigSep_bupd _ _).trans (BI.bupd_mono ?_))
  refine bigSep_mono fun d _ => show iprop((bigSep Finset.univ fun sm : SemLoc sig => levels ((d.tc : Thread nD τ), sm) (L ((d.tc : Thread nD τ), sm)))
      ∗ coreLevAts (d.tc : Thread nD τ) L lv) ⊢ coreLevAts (d.tc : Thread nD τ) L lv from ?_
  iintro ⟨-, H⟩; iexact H

section

variable (pcs : P → PCfg sig Λ₀ Val) (a : Dev nD → (p : P) → (pcs p).Adm)
  (dats : (p : P) → (c : Dev nD) → Dat τ Val Ix Name U Lvl (pinD pcs a c p) c) (ι : Ix)
  (phinj : Function.Injective (PerCore.cellOf (nD := nD) (pinD pcs a))) (p : P)
variable {K : Type} [Fintype K] {osem : K → SemLoc sig} (hw : WinFacts₀ (pcs p).spec) (ho : OwnSemFacts (pcs p).spec osem)
variable (EP : Emb (URounds (GSem nD τ sig) Unit) (MT nD τ sig Ix Val Name U Lvl))
  (defs₀ : Defs nD τ sig Val Λ₀) (𝒱₀ : Variants)

local notation "𝔻" => Pipeline.defs pcs defs₀
local notation "𝕍" => Variants.lift 𝒱₀

include phinj hw ho in
/-- Every fair execution of the kernels ends in `Q`, for kernels without windows and tables.  `hdeal` deals the own
    semaphores, the arrays, the launch credit and the ghost state `G` of ALL devices to what each body starts from, `X`;
    each body's end gives `Y`, read against the final memory by `hY`. -/
theorem θ_run_dealt [DecidableEq P] [Preorder Lvl] [∀ e, Nonempty (Val e)] [Infinite Name] [EP.LandsIn (upEmb : UEmb _ 𝕄)]
    [IsEmpty (Fin (pcs p).W)] [IsEmpty (Fin (pcs p).pre.K)]
    (m : (ℓ : Loc nD τ sig) → Buf Val ℓ) (g : Dev nD → PrngReg)
    (main : Dev nD → Prog (TpuEff nD τ sig Val (Sig Λ₀ P fun p => (pcs p).Adm) .tc) PUnit)
    (hmain : ∀ c, main c = .op (.customCall (entry p) ()) fun _ => .ret ⟨⟩)
    (hbody : ∀ c, BodyObligationLoose (dats p c) defs₀ 𝒱₀ ι Set.univ)
    (O₀ : Dev nD → CellTallies nD τ sig Ix) (howed₀ : ∀ c, (dats p c).owed 0 = O₀ c) (howedN : ∀ c, (dats p c).owed (Fin.last _) = 0)
    (L : GSem nD τ sig → Finset Ix) (lv : GSem nD τ sig → Ix → Lvl) (hL : ∀ g : GSem nD τ sig, g.1.2 ≠ .tc → L g = ∅)
    (G X Y : Dev nD → sProp 𝕄) (u₀ : U)
    (hu₀ : (ownU u₀ : sProp 𝕄)
      ⊢ |={Set.univ}=> iprop(BI.own (EP (initOf (PerCore.cells (pinD pcs a) phinj) (PerCore.launchToks (pinD pcs a) phinj))) ∗ bigSep Finset.univ G))
    (hdeal : iprop(levAts L lv ∗ bigSep Finset.univ fun c => iprop(ownSems0 osem c ∗ unscopedBufs c (fun b => m ((c.tc : Thread nD τ).loc b))
        ∗ launchCred O₀ c ∗ G c)) ⊢ (|={Set.univ}=> bigSep Finset.univ X : sProp 𝕄))
    (hin : ∀ c, iprop(X c ∗ scopedRest (pinD pcs a c p).spec c) ⊢ (dats p c).Φ 0)
    (hout : ∀ c, (dats p c).Φ (Fin.last (pinD pcs a c p).N) ⊢ iprop(Y c ∗ ownSems0 osem c ∗ scopedRest (pinD pcs a c p).spec c))
    (QY : Dev nD → MemSt nD τ sig Val → Prop)
    (hY : ∀ c (s' : Phys nD τ sig Val), iprop(Y c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  have hsems := fun c : Dev nD => PerCore.scopedSems0_split (pinD pcs a) phinj p (fun _ => hw) (fun _ => ho) (Ix := Ix) (Val := Val) (Name := Name) (U := U) (Lvl := Lvl) c
  have hbufs := fun c : Dev nD => PerCore.scopedBufs_split (pinD pcs a) p c hw.stage_scoped hw.stage_inj (fun w => isEmptyElim (α := Fin (pcs p).W) w) (nD := nD) (τ := τ) (Ix := Ix) (Val := Val) (Name := Name) (U := U) (Lvl := Lvl)
  have htab (c : Dev nD) (q : Fin (pcs p).pre.K → PosShare TreeShare) : (prefHeld (pcs p).pre c q (a c p).1 : sProp 𝕄) = BI.emp := by
    unfold prefHeld; rw [Finset.univ_eq_empty, BI.bigSep_empty]
  have harrs (c : Dev nD) (A) : ((dats p c).arrays A : sProp 𝕄) = BI.emp := by
    unfold Dat.arrays
    haveI : IsEmpty (Fin (pinD pcs a c p).W) := inferInstanceAs (IsEmpty (Fin (pcs p).W))
    rw [Finset.univ_eq_empty, BI.bigSep_empty]
  have hcw (c : Dev nD) : (cellsWaits (pinD pcs a) dats ι p c : sProp 𝕄) = BI.emp := by
    haveI : IsEmpty (Fin (pinD pcs a c p).W) := inferInstanceAs (IsEmpty (Fin (pcs p).W))
    show (bigSep Finset.univ _ : sProp 𝕄) = _
    rw [Finset.univ_eq_empty, BI.bigSep_empty]
  let start : Dev nD → sProp 𝕄 := fun c => iprop(scopedBufs (c.tc : Thread nD τ) ∗ cellsSems0 (pinD pcs a) p c ∗ idleSems0 (pinD pcs a) phinj p (fun _ => ho) c
    ∗ owes (c.tc : Thread nD τ) (O₀ c) ∅ ∗ cellsGhost (pinD pcs a) EP p c ∗ toksInit (pinD pcs a) EP p c ∗ X c)
  let done : Dev nD → sProp 𝕄 := fun c => iprop(Y c ∗ scopedSems0 (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => start) (fun _ => done)
      (fun _ => iprop(emp)) Set.univ ?_ (fun _ c => ?_) fun _ => ?_))
  · -- the launch: what every core is given, sorted; the levels assigned; the deal
    have hcore (c : Dev nD) :
        coreInit (Ix := Ix) (Name := Name) (U := U) (Lvl := Lvl) (owing O₀) 0 (⟨m, fun _ => 0, g⟩ : MemSt nD τ sig Val) (c.tc : Thread nD τ)
          ⊢ iprop(iprop(scopedBufs (c.tc : Thread nD τ) ∗ cellsSems0 (pinD pcs a) p c ∗ idleSems0 (pinD pcs a) phinj p (fun _ => ho) c
                ∗ owes (c.tc : Thread nD τ) (O₀ c) ∅)
              ∗ iprop(ownSems0 osem c ∗ unscopedBufs c (fun b => m ((c.tc : Thread nD τ).loc b)) ∗ launchCred O₀ c) ∗ levels0 c) := by
      refine (coreInit_boundary_owing O₀ m g c).trans ?_
      unfold boundary
      rw [hsems c]
      iintro ⟨⟨Hsc, ⟨⟨Hcells, Hos⟩, Hidle⟩, -⟩, Hub, -, HL, Hlv, -, Hcr⟩
      isplitl [Hsc Hcells Hidle HL]
      · isplitl [Hsc]; · iexact Hsc
        isplitl [Hcells]; · iexact Hcells
        isplitl [Hidle] <;> iassumption
      isplitr [Hlv]
      · isplitl [Hos]; · iexact Hos
        isplitl [Hub] <;> iassumption
      iexact Hlv
    have hpick (Φ : P → Dev nD → sProp 𝕄) :
        (bigSep Finset.univ fun c : Dev nD => bigSep Finset.univ fun p' => Φ p' c) ⊢ bigSep Finset.univ fun c : Dev nD => Φ p c :=
      bigSep_mono fun c _ => BI.bigSep_elim (Finset.mem_univ p)
    refine (sep_mono_left (bigSep_mono fun c _ => hcore c)).trans ?_
    simp only [bigSep_sep']
    iintro ⟨⟨Hb, Hd, Hlv⟩, Hu⟩
    imod (assign_levels L lv hL) $$ Hlv with Hla
    imod hu₀ $$ Hu with ⟨HP, HG⟩
    imod (PerCore.fund_ghost (pinD pcs a) EP phinj) $$ HP with ⟨Hg, Ht⟩
    imod hdeal $$ [Hla Hd HG] with HX
    · isplitl [Hla]; · iexact Hla
      simp only [bigSep_sep']
      icases Hd with ⟨H1, H2, H3⟩
      isplitl [H1]; · iexact H1
      isplitl [H2]; · iexact H2
      isplitl [H3] <;> iassumption
    imodintro
    iexists ()
    isplitr []
    · simp only [start, bigSep_sep']
      icases Hb with ⟨Hsc, Hcells, Hidle, HL⟩
      isplitl [Hsc]; · iexact Hsc
      isplitl [Hcells]; · iexact Hcells
      isplitl [Hidle]; · iexact Hidle
      isplitl [HL]; · iexact HL
      isplitl [Hg]; · iapply (hpick fun p' c => cellsGhost (pinD pcs a) EP p' c); iexact Hg
      isplitl [Ht]; · iapply (hpick fun p' c => toksInit (pinD pcs a) EP p' c); iexact Ht
      iexact HX
    · iempintro
  · -- one core: the kernel, then the return
    have hexit : iprop((dats p c).Φ (Fin.last (pinD pcs a c p).N) ∗ cellsSems0 (pinD pcs a) p c ∗ Dat.staging (pinD pcs a c p) c ∗ idleSems0 (pinD pcs a) phinj p (fun _ => ho) c)
        ⊢ iprop(Y c ∗ scopedSems0 (c.tc : Thread nD τ) ∗ scopedBufs (c.tc : Thread nD τ)) := by
      rw [hsems c, hbufs c]
      iintro ⟨HΦ, Hcells, Hst, Hidle⟩
      ihave H := (hout c) $$ HΦ
      icases H with ⟨HY, Hos, Hrest⟩
      isplitl [HY]; · iexact HY
      isplitr [Hst Hrest]
      · isplitr [Hidle]; · isplitl [Hcells] <;> iassumption
        iexact Hidle
      isplitl [Hst] <;> iassumption
    simp only [start]
    rw [hmain c]
    iintro ⟨Hsc, Hcells, Hidle, HL, Hg, Ht, HX⟩
    iapply (fupd_wp frame (wpE 𝔻 𝕍 (c.tc : Thread nD τ) none) Set.univ _ _)
    imod (PerCore.cellsInit_alloc (pinD pcs a) dats EP phinj p c) $$ [Hcells Hg] with ⟨%κ, -, Hinit⟩
    · isplitl [Hcells] <;> iassumption
    imodintro
    iapply (PerCore.wp_customCall_entry_frame pcs a dats ι EP κ phinj p defs₀ 𝒱₀ (fun _ => fullShare) c Set.univ (fun _ _ => Set.mem_univ _)
        (hbody c) (fun w => isEmptyElim (α := Fin (pcs p).W) w) none (fun u h => nomatch h) (X := X c) (Y := Y c) (R := scopedRest (pinD pcs a c p).spec c)
        (I := idleSems0 (pinD pcs a) phinj p (fun _ => ho) c) (Entails.of_eq (hbufs c))
        (by rw [htab]; iintro ⟨H1, -, H2⟩; iapply (hin c); isplitl [H1] <;> iassumption) hexit
        (k := fun _ => .ret ⟨⟩) (Q := fun _ => post (liftTc done BI.emp) (c.tc : Thread nD τ))) $$ [HL Hinit Ht HX Hidle Hsc]
    · rw [htab]
      isplitl [HL Hinit Ht]
      · unfold PerCore.EntryPre Dat.owesAt owesWithin
        rw [howed₀ c, harrs, hcw]
        isplitr; · iempintro
        isplitl [HL]
        · iexists ∅; isplitr; · ipureintro; rw [Finset.coe_empty]; exact Set.empty_subset _
          iexact HL
        isplitr; · iempintro
        isplitl [Hinit] <;> iassumption
      isplitr; · iempintro
      isplitl [HX]; · iexact HX
      isplitl [Hidle] <;> iassumption
    unfold PerCore.EntryPost Dat.owesAt owesWithin
    rw [howedN c, harrs]
    iintro ⟨⟨-, ⟨%W, -, HW⟩⟩, HY, Hss, -⟩
    rw [wp_ret]; imodintro
    unfold post; simp only [liftTc_tc, done]
    isplitr [HW]
    · isplitl [HY] <;> iassumption
    · iexists W; iexact HW
  · -- the ends, read against the final state
    have hread (c : Dev nD) (s' : Phys nD τ sig Val) : iprop(done c ∗ SI s') ⊢ |={Set.univ}=>
        iprop(⌜QY c s'.mem ∧ ∀ sm : SemLoc sig, sm.isScoped .tc = true → s'.mem.sem ((c.tc : Thread nD τ), sm) = 0⌝ ∗ SI s') := by
      simp only [done]
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end

end Cert.MeshLaunch

end
-- ==== Proof.ExchangeLaunch.lean ====
/-
From one device's run of an exchange to the run of the program on the whole machine.
-/
module

public import proofs.«01_k».proof.Proof.Exchange
public import proofs.«01_k».proof.Proof.MeshLaunch

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligationLoose cellOf)

variable {nD : Nat} {τ : Topo} {sig : RefSig} {Val : EltTy → Type} {J K : Type} [Fintype J] [Fintype K] [DecidableEq J] [DecidableEq K]

local notation "𝕄" => MT nD τ sig Unit Val ℕ (UU nD τ sig) ℕ

/-- Arrays held at named contents are read off the machine's memory. -/
theorem read_arrays {T : Type} [DecidableEq T] (S : Finset T) (ℓ : T → Loc nD τ sig) (A : (x : T) → Finset (Idx (ℓ x))) (f : (x : T) → Buf Val (ℓ x)) (st : Phys nD τ sig Val) :
    iprop(SI st ∗ bigSep S fun x => (ℓ x ↦[A x]{fullShare} f x)) ⊢ (⌜∀ x ∈ S, ∀ i ∈ A x, st.mem.mem (ℓ x) i = f x i⌝ : sProp 𝕄) := by
  induction S using Finset.induction_on with
  | empty => iintro -; ipureintro; simp
  | insert b S hb ih =>
    rw [bigSep_insert hb]
    show iprop(SI st ∗ ((ℓ b ↦[A b]{fullShare} f b) ∗ bigSep S fun x => (ℓ x ↦[A x]{fullShare} f x))) ⊢ _
    iintro ⟨HSI, Hb, HB⟩
    icombine HSI Hb gives %h
    ihave %hB := ih $$ [HSI HB]
    · isplitl [HSI] <;> iassumption
    ipureintro
    intro x hx
    rcases Finset.mem_insert.mp hx with rfl | hx
    · exact h
    · exact hB x hx

variable (π : Proto nD τ sig Val J K) {Λ₀ : Labels} (cfgs : Fin 1 → Cfg sig Λ₀)

/-- The pipeline's data: nothing staged, before the body what the device starts from, after it `E`. -/
def dats [IsEmpty (Fin (cfgs 0).W)] (M E : Dev nD → sProp 𝕄) (p : Fin 1) (c : Dev nD) : Dat τ Val Unit ℕ (UU nD τ sig) ℕ (cfgs p) c where
  A w := isEmptyElim (α := Fin (cfgs 0).W) (by rw [Subsingleton.elim 0 p]; exact w)
  after w := isEmptyElim (α := Fin (cfgs 0).W) (by rw [Subsingleton.elim 0 p]; exact w)
  Φ t := if t.val = 0 then π.start M c else E c
  q _ := fullShare
  owed t := if t.val = 0 then π.O₀ c else 0

section

variable [IsEmpty (Fin (cfgs 0).W)] (M E : Dev nD → sProp (MT nD τ sig Unit Val ℕ (UU nD τ sig) ℕ)) (c : Dev nD) (t : Fin ((cfgs 0).N + 1))

theorem dats_before (h : t.val = 0) : (dats π cfgs M E 0 c).Φ t = π.start M c := if_pos h
theorem dats_after (h : t.val ≠ 0) : (dats π cfgs M E 0 c).Φ t = E c := if_neg h
theorem dats_owed (h : t.val = 0) : (dats π cfgs M E 0 c).owed t = π.O₀ c := if_pos h
theorem dats_paid (h : t.val ≠ 0) : (dats π cfgs M E 0 c).owed t = 0 := if_neg h

end

/-- The ghost state at launch. -/
def ghost₀ (cfgs : Fin 1 → Cfg sig Λ₀) (inj : Function.Injective (cellOf (nD := nD) (τ := τ) cfgs)) : UU nD τ sig :=
  (initOf (Pipeline.cells cfgs inj) (Pipeline.launchToks cfgs inj), initOf π.cells π.toks)

/-- The buffers that outlive a call, under names of their own. -/
theorem bufs_named {T : Type} [Fintype T] (ref : T → Ref sig .tc) (hinj : Function.Injective ref)
    (hall : (Finset.univ.filter fun b : Ref sig .tc => ¬ b.isScoped) = Finset.univ.map ⟨ref, hinj⟩)
    (c : Dev nD) (V : (b : Ref sig .tc) → Buf Val ((c.tc : Thread nD τ).loc b)) :
    (unscopedBufs c V : sProp 𝕄) = bigSep Finset.univ fun x => (((c.tc : Thread nD τ).loc (ref x)) ↦{fullShare} V (ref x)) := by
  unfold unscopedBufs
  rw [hall, bigSep_map]; rfl

/-- A program that is one exchange, run on every device: if each device's body leaves the arrays `ℓ` at contents `f`, so
    does the machine, and every counter ends at zero. -/
theorem Proto.θ_run_exchange [∀ e, Nonempty (Val e)] [IsEmpty (Fin (cfgs 0).W)] (hN : (cfgs 0).N = 1)
    (inj : Function.Injective (cellOf (nD := nD) (τ := τ) cfgs)) (hw : Pipeline.WinFacts (cfgs 0).spec) (ho : Pipeline.OwnSemFacts (cfgs 0).spec π.osem)
    (hall : ∀ sm : SemLoc sig, sm.isScoped .tc = true)
    (hrest : ∀ c : Dev nD, (Pipeline.scopedRest (cfgs 0).spec c : sProp 𝕄) = BI.emp)
    (defs₀ : Defs nD τ sig Val Λ₀) (m : (ℓ : Loc nD τ sig) → Buf Val ℓ) (g : Dev nD → PrngReg)
    (main : Dev nD → Prog (TpuEff nD τ sig Val (Pipeline.Sig Λ₀ (Fin 1) fun p => ((cfgs p).toPCfg (Val := Val)).Adm) .tc) PUnit)
    (hmain : ∀ c, main c = .op (.customCall (Pipeline.entry 0) ()) fun _ => .ret ⟨⟩)
    (M : Dev nD → sProp 𝕄)
    (hM : (bigSep Finset.univ fun c : Dev nD => unscopedBufs c fun b => m ((c.tc : Thread nD τ).loc b)) ⊢ bigSep Finset.univ M)
    {T : Type} [Fintype T] [DecidableEq T] (ℓ : Dev nD → T → Loc nD τ sig) (A : (c : Dev nD) → (x : T) → Finset (Idx (ℓ c x))) (f : (c : Dev nD) → (x : T) → Buf Val (ℓ c x))
    (hrun : ∀ (c : Dev nD) (κ : Dev nD × Own J K → ℕ) (t : Fin (cfgs 0).N),
      iprop(π.records κ ∗ (π.ghost c ∗ M c) ∗ ∃ W, owes (c : Thread nD τ) (π.O₀ c) W)
        ⊢ Proto.wpc defs₀ .none c (defs₀ .tc (cfgs 0).body ((cfgs 0).bodyArgs t ((cfgs 0).slots t)))
            fun _ => iprop((bigSep Finset.univ fun x => (ℓ c x ↦[A c x]{fullShare} f c x)) ∗ (bigSep Finset.univ fun o => π.done c o) ∗ π.Owe c [])) :
    θ_run (Pipeline.defs (fun p => (cfgs p).toPCfg) defs₀) (onTc (τ := τ) main) ⟨m, fun _ => 0, g⟩
      (fun r => (∀ c x, ∀ i ∈ A c x, r.2.mem (ℓ c x) i = f c x i) ∧ r.2.sem = fun _ => 0) := by
  let Y : Dev nD → sProp 𝕄 := fun c => bigSep Finset.univ fun x => (ℓ c x ↦[A c x]{fullShare} f c x)
  let E : Dev nD → sProp 𝕄 := fun c => iprop(Y c ∗ Pipeline.ownSems0 π.osem c)
  have hlast : (Fin.last (cfgs 0).N).val ≠ 0 := by rw [Fin.val_last, hN]; decide
  refine MeshLaunch.θ_run_dealt (fun p => (cfgs p).toPCfg) (fun _ p => (cfgs p).toPCfg_adm) (dats π cfgs M E) () inj (0 : Fin 1) hw.to₀ ho EP defs₀ .none m g main hmain
    ?_ π.O₀ (fun c => dats_owed π cfgs M E c 0 rfl) (fun c => dats_paid π cfgs M E c _ hlast) Proto.L π.lv Proto.L_of_ne π.G (π.start M) Y (ghost₀ π cfgs inj) ?_ (π.deal _ M hM) ?_ ?_
    (fun c s => ∀ x, ∀ i ∈ A c x, s.mem (ℓ c x) i = f c x i) ?_ ?_
  · intro c t
    have ht : t.val = 0 := by have h : t.val < (cfgs 0).N := t.isLt; omega
    have hE (Φ : Fin (cfgs 0).W → sProp 𝕄) : bigSep Finset.univ Φ = BI.emp := by rw [Finset.univ_eq_empty, BI.bigSep_empty]
    rw [hE, hE, dats_before π cfgs M E c t.castSucc ht, dats_after π cfgs M E c t.succ (Nat.succ_ne_zero _)]
    unfold Dat.owesAt Pipeline.owesWithin
    rw [dats_owed π cfgs M E c t.castSucc ht, dats_paid π cfgs M E c t.succ (Nat.succ_ne_zero _)]
    unfold Proto.start
    iintro ⟨⟨%κ, #HR, HG, HM⟩, ⟨%W, %hW, HO⟩, -⟩
    have hpost : iprop(π.records κ ∗ Y c ∗ (bigSep Finset.univ fun o => π.done c o) ∗ π.Owe c [])
        ⊢ (|={Set.univ}=> iprop(E c ∗ (∃ W : Waits sig Unit, ⌜{x | x ∈ W} ⊆ (dats π cfgs M E 0 c).bound () t.succ⌝ ∗ owes (c : Thread nD τ) 0 W) ∗ BI.emp) : sProp 𝕄) := by
      unfold Proto.Owe
      rw [π.owed_nil]
      iintro ⟨#HR, HY, HD, %W', HO⟩
      imod (π.close_all κ c) $$ [HD] with HS
      · isplitr; · iexact HR
        iexact HD
      imodintro
      isplitl [HY HS]
      · isplitl [HY] <;> iassumption
      isplitl
      · iexists W'
        isplitr; · ipureintro; exact fun _ _ => Or.inl trivial
        iexact HO
      iempintro
    have hall' : iprop(π.records κ ∗ π.records κ ∗ (π.ghost c ∗ M c) ∗ ∃ W, owes (c : Thread nD τ) (π.O₀ c) W)
        ⊢ Proto.wpc defs₀ .none c (defs₀ .tc (cfgs 0).body ((cfgs 0).bodyArgs t ((cfgs 0).slots t)))
            fun _ => iprop(E c ∗ (∃ W : Waits sig Unit, ⌜{x | x ∈ W} ⊆ (dats π cfgs M E 0 c).bound () t.succ⌝ ∗ owes (c : Thread nD τ) 0 W) ∗ BI.emp) :=
      (sep_mono_right (hrun c κ t)).trans ((wp_frame_l _ _ _).trans ((wp_mono _ _ _ fun _ => hpost).trans (wp_fupd _ _ _ _ _)))
    iapply hall'
    isplitr; · iexact HR
    isplitr; · iexact HR
    isplitl [HG HM]
    · isplitl [HG] <;> iassumption
    iexists W; iexact HO
  · unfold ghost₀
    iintro Hu
    ihave H := (ownU_pair _ _) $$ Hu
    icases H with ⟨HP, HX⟩
    imod π.fund $$ HX with HG
    imodintro
    isplitl [HP] <;> iassumption
  · intro c
    rw [hrest]
    rw [dats_before π cfgs M E c 0 rfl]
    iintro ⟨H, -⟩; iexact H
  · intro c
    rw [hrest, dats_after π cfgs M E c _ hlast]
    iintro ⟨H1, H2⟩
    isplitl [H1]; · iexact H1
    isplitl [H2]; · iexact H2
    iempintro
  · intro c s'
    iintro ⟨HY, HS⟩
    ihave %h := (read_arrays (Val := Val) Finset.univ (ℓ c) (A c) (f c) s') $$ [HS HY]
    · isplitl [HS] <;> iassumption
    imodintro
    isplitr; · ipureintro; exact fun x => h x (Finset.mem_univ x)
    iexact HS
  · intro s h hs
    exact ⟨h, sem_eq_zero_of_scoped hall hs⟩

end Cert.Exchange

end
-- ==== Proof.GatherDeal.lean ====
/-
The gather at launch and at the end: the slots dealt to the devices that write them, one device's whole body, and what
the slots together hold.
-/
module

public import proofs.«01_k».proof.Proof.GatherAll
public import proofs.«01_k».proof.Proof.ExchangeLaunch

@[expose] public section

noncomputable section

namespace Cert.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Exchange

variable {τ : Topo} {sig : RefSig} {Val : EltTy → Type} {N : Net} {I : Type} [Fintype I] [DecidableEq I]
variable {κ : Kit sig N I} (D : Data κ τ Val)
variable {Λ : Labels} {defs : Defs 8 τ sig Val Λ} {𝒱 : Variants}
variable (n : Dev 8 × Own (Fin 7 × I) I → ℕ) (c : Dev 8)

local notation "𝕄" => MT 8 τ sig Unit Val ℕ (UU 8 τ sig) ℕ

/-! ## Dealing the slots -/

/-- A result with any contents. -/
def Data.blank (D : Data κ τ Val) (c : Dev 8) (i : I) : sProp 𝕄 := iprop(∃ f, ((κ.arr i).out.view.loc (c : Thread 8 τ) ↦[(κ.arr i).out.view.set]{fullShare} f))

theorem Data.blank_slots (c : Dev 8) (i : I) :
    D.blank c i ⊢ iprop(slotAny (κ.arr i) c c ∗ bigSep Finset.univ fun k : Fin 7 => slotAny (κ.arr i) c (mate k.succ c)) := by
  unfold Data.blank
  iintro ⟨%f, H⟩
  ihave H' := (Entails.of_eq (out_mates (κ.arr i) c f)) $$ H
  icases H' with ⟨H0, H1⟩
  isplitl [H0]
  · unfold slotAny; iexists f; iexact H0
  iapply (show (bigSep Finset.univ fun k : Fin 7 => slotPts (κ.arr i) c (mate k.succ c) f) ⊢ bigSep Finset.univ fun k : Fin 7 => slotAny (κ.arr i) c (mate k.succ c) from
    bigSep_mono fun k _ => show slotPts (κ.arr i) c (mate k.succ c) f ⊢ slotAny (κ.arr i) c (mate k.succ c) from by unfold slotAny; iintro H; iexists f; iexact H)
  iexact H1

/-- The devices in the order of the targets of copy `k`. -/
def toward (k : Fin 7) : Dev 8 ≃ Dev 8 := ⟨fun c => mate (dir k) c, fun c => mate (dir k) c, fun c => mate_mate _ _, fun c => mate_mate _ _⟩

/-- The slots of all results, dealt to those who write them. -/
theorem Data.deal_slots :
    (bigSep Finset.univ fun c : Dev 8 => bigSep Finset.univ fun i : I => D.blank c i)
      ⊢ iprop((bigSep Finset.univ fun c : Dev 8 => bigSep Finset.univ fun i : I => slotAny (τ := τ) (Val := Val) (κ.arr i) c c)
          ∗ bigSep Finset.univ fun c : Dev 8 => bigSep Finset.univ fun x : Fin 7 × I => D.there c x) := by
  have h (k : Fin 7) : (bigSep Finset.univ fun c : Dev 8 => bigSep Finset.univ fun i : I => slotAny (τ := τ) (Val := Val) (κ.arr i) c (mate k.succ c))
      = bigSep Finset.univ fun c : Dev 8 => bigSep Finset.univ fun i : I => D.there c (k, i) := by
    rw [bigSep_univ_equiv (toward k) (fun c : Dev 8 => bigSep Finset.univ fun i : I => slotAny (τ := τ) (Val := Val) (κ.arr i) c (mate k.succ c))]
    refine bigSep_congr fun c _ => bigSep_congr fun i _ => ?_
    show slotAny (κ.arr i) (mate (dir k) c) (mate k.succ (mate (dir k) c)) = slotAny (κ.arr i) (mate (dir k) c) (mate (blk k) c)
    rw [mate_lands]
  have hall : (bigSep Finset.univ fun c : Dev 8 => bigSep Finset.univ fun i : I => bigSep Finset.univ fun k : Fin 7 => slotAny (τ := τ) (Val := Val) (κ.arr i) c (mate k.succ c))
      = bigSep Finset.univ fun c : Dev 8 => bigSep Finset.univ fun x : Fin 7 × I => D.there c x := by
    rw [bigSep_congr fun c _ => Pipeline.bigSep_univ_comm (fun (i : I) (k : Fin 7) => slotAny (τ := τ) (Val := Val) (κ.arr i) c (mate k.succ c)), Pipeline.bigSep_univ_comm,
      bigSep_congr fun k _ => h k, Pipeline.bigSep_univ_comm]
    exact bigSep_congr fun c _ => (bigSep_univ_prod fun x : Fin 7 × I => D.there c x).symm
  refine (bigSep_mono fun c _ => bigSep_mono fun i _ => D.blank_slots c i).trans ?_
  simp only [bigSep_sep']
  rw [hall]
  exact Entails.refl _

/-- The memory of all devices, dealt. -/
theorem Data.deal_mem :
    (bigSep Finset.univ fun c : Dev 8 => iprop((bigSep Finset.univ fun i => D.held c i) ∗ bigSep Finset.univ fun i => D.blank c i)) ⊢ bigSep Finset.univ D.mem := by
  unfold Data.mem
  simp only [bigSep_sep']
  exact (sep_mono_right D.deal_slots).trans sep_assoc'

/-! ## The whole body -/

/-- The arrays a device ends with: its blocks and the results. -/
def Data.at (D : Data κ τ Val) (c : Dev 8) : I ⊕ I → Loc 8 τ sig
  | .inl i => (κ.arr i).src.view.loc (c : Thread 8 τ)
  | .inr i => (κ.arr i).out.view.loc (c : Thread 8 τ)
def Data.on (D : Data κ τ Val) (c : Dev 8) : (x : I ⊕ I) → Finset (Idx (D.at c x))
  | .inl i => (κ.arr i).src.view.set
  | .inr i => (κ.arr i).out.view.set
def Data.fin (D : Data κ τ Val) (c : Dev 8) : (x : I ⊕ I) → Buf Val (D.at c x)
  | .inl i => D.X i c
  | .inr i => D.G i c

theorem Data.fin_arrays : (bigSep Finset.univ fun x => (D.at c x ↦[D.on c x]{fullShare} D.fin c x : sProp 𝕄)) = iprop(bigSep Finset.univ (D.held c) ∗ bigSep Finset.univ (D.result c)) := by
  rw [bigSep_univ_sum]; rfl

/-- One device's body, from what it is dealt to the gathered results. -/
theorem Data.body :
    iprop(D.proto.records n ∗ (D.proto.ghost c ∗ D.mem c) ∗ ∃ W, owes (c : Thread 8 τ) (D.proto.O₀ c) W)
      ⊢ Proto.wpc defs 𝒱 c (Prog.op .deviceId fun d => prog κ Val Λ d)
          fun _ => iprop((bigSep Finset.univ fun x => (D.at c x ↦[D.on c x]{fullShare} D.fin c x)) ∗ (bigSep Finset.univ fun o => D.proto.done c o) ∗ D.proto.Owe c []) := by
  rw [D.fin_arrays c, D.proto.O₀_eq c _ D.sentNd D.sentAll]
  have h := D.run (defs := defs) (𝒱 := 𝒱) n c (Q := fun _ => iprop((bigSep Finset.univ (D.held c) ∗ bigSep Finset.univ (D.result c)) ∗ (bigSep Finset.univ fun o => D.proto.done c o) ∗ D.proto.Owe c []))
  simp only [Proto.wpc, wp_deviceId]
  iintro H
  iapply h $$ [H]
  · iexact H
  simp only [Proto.wpc, wp_ret]
  iintro H
  imodintro
  iexact H

/-! ## What a slot reads -/

/-- The slot's elements among the result's. -/
def inSlot {r k : ℕ} (b : Fin 8) (x : (Flat r k).Idx) : (Big r k).Idx := Fin.cons b x

/-- Blocks stacked along a new first axis. -/
def stack {r k : ℕ} {V : Type} (X : Fin 8 → (Flat r k).Idx → V) : (Big r k).Idx → V := fun z => X (z 0) fun a => z a.succ

theorem slot_read {r k : ℕ} {e : EltTy} (out : Memref sig .tc .hbm (Big r k) e) (hsq : (One r k).Squeezes (Flat r k)) (b : Fin 8)
    (f : out.view.ty.Contents Val) (x : (Flat r k).Idx) :
    (slotAt out hsq ![b.val, 0, 0] (inb b rfl)).view.read Val f x = out.view.read Val f (inSlot b x) := by
  show out.view.read Val f ((Rect.unit (s := Big r k) ![b.val, 0, 0] (One r k).size (inb b rfl)).emb (Shape.reshapeEquiv _ x)) = _
  refine congrArg (out.view.read Val f) (funext fun a => Fin.ext ?_)
  rw [Rect.emb_apply, Shape.reshapeEquiv_cons_one (n := 2) (d := ![r, k])]
  refine Fin.cases ?_ (fun a => ?_) a
  · show b.val + 1 * 0 = b.val; omega
  · have h0 : (![b.val, 0, 0] : Fin 3 → ℕ) a.succ = 0 := by fin_cases a <;> rfl
    show (![b.val, 0, 0] : Fin 3 → ℕ) a.succ + 1 * (x a).val = (x a).val
    rw [h0]; omega

end Cert.Gather

end
-- ==== Proof.Blocks.lean ====
/-
Blocks of an array stacked along a new first axis are a reshape of it, with the new axis moved to the front
where the array is cut by columns.
-/
module

public import proofs.«01_k».proof.Proof.GatherDeal
public import Idealize.ShloMosaic.Lib.Layout
public import Idealize.ShloMosaic.Lib.Pipeline.Value

@[expose] public section

noncomputable section

namespace Cert.Gather

open Idealize.ShloMosaic

variable {α : Type} {r k w : ℕ}

/-- Blocks of rows, stacked: the rows split in eight. -/
theorem stack_rows (v : (⟨2, ![w, k]⟩ : Shape).Idx → α) (hT : Layout.Tiles (Flat r k) ⟨2, ![w, k]⟩ 0 8) (hc : (⟨2, ![w, k]⟩ : Shape).ShapeCasts (Big r k)) :
    shapeCast (Big r k) v hc = stack fun b => Layout.block (Flat r k) ⟨2, ![w, k]⟩ 0 8 b v hT := by
  funext j
  refine shapeCast_apply v hc j (hT.idx (j 0) fun a => j a.succ) ?_
  rw [Shape.rowMajor_val_two, Shape.rowMajor_val_three]
  show ((j 0).val * r + (j 1).val) * k + (j 2).val = _
  rfl

/-- Blocks of columns, stacked: the columns split in eight, and the eight moved to the front. -/
theorem stack_cols (v : (⟨2, ![r, w]⟩ : Shape).Idx → α) (hT : Layout.Tiles (Flat r k) ⟨2, ![r, w]⟩ 1 8) (hc : (⟨2, ![r, w]⟩ : Shape).ShapeCasts ⟨3, ![r, 8, k]⟩)
    (ht : (⟨3, ![r, 8, k]⟩ : Shape).Transposes [1, 0, 2] (Big r k)) :
    transpose (Big r k) [1, 0, 2] (shapeCast ⟨3, ![r, 8, k]⟩ v hc) ht = stack fun b => Layout.block (Flat r k) ⟨2, ![r, w]⟩ 1 8 b v hT := by
  funext j
  have hw : w = 8 * k := hT.size 1
  let i : (⟨3, ![r, 8, k]⟩ : Shape).Idx := Fin.cons (j 1) (Fin.cons (j 0) (Fin.cons (j 2) finZeroElim))
  refine (transpose_apply _ _ ht j i fun c => match c with | ⟨0, _⟩ => rfl | ⟨1, _⟩ => rfl | ⟨2, _⟩ => rfl).trans ?_
  refine shapeCast_apply v hc i (hT.idx (j 0) fun a => j a.succ) ?_
  rw [Shape.rowMajor_val_two, Shape.rowMajor_val_three]
  show (j 1).val * w + ((j 0).val * k + (j 2).val) = ((j 1).val * 8 + (j 0).val) * k + (j 2).val
  rw [hw, Nat.add_mul, Nat.mul_assoc, Nat.add_assoc]

end Cert.Gather

end
-- ==== Proof.GatherInst.lean ====
/-
The gather of the weights is the two-level gather of seven arrays.
-/
module

public import proofs.«01_k».proof.Proof.Gen.KernelIdeal.Points
public import proofs.«01_k».proof.Proof.Gen.KernelIdeal.Launch
public import proofs.«01_k».proof.Proof.GatherProg

@[expose] public section

noncomputable section

namespace Cert.KernelIdeal

open Idealize.ShloMosaic Idealize.ShloMosaic.TcCoe
open Idealize.SL Idealize.SL.Sem
open Cert.Exchange Cert.Gather

/-- The slots and devices as the program computes them. -/
def net : Net where
  off := ![k0_off1, k0_off29, k0_off8, k0_off15, k0_off22, k0_off36, k0_off43, k0_off50]
  hoff := by decide +kernel
  dev k d := ⟨(![k0_dev1, k0_dev2, k0_dev3, k0_dev4, k0_dev29, k0_dev29, k0_dev29] : Fin 7 → Dev nD → Nat) k d, by revert k d; decide +kernel⟩
  hdev := by decide +kernel

theorem sq2 : S1x1.Squeezes S_ := by decide
theorem sq1 : S1.Squeezes S_ := by decide
theorem inb2 : ∀ (i k : Fin 7) (a : Fin 2), (![i.val, k.val] : Fin 2 → Nat) a + S1x1.size a ≤ S7x7.size a := by decide
theorem inb1 : ∀ (i : Fin 7) (a : Fin 1), (![i.val] : Fin 1 → Nat) a + S1.size a ≤ S7.size a := by decide

/-- The array of copy `i`. -/
def arrs (i : Fin 7) : Arr sig net :=
  match i with
  | 0 => ⟨8, 1536, .f32, Memref.whole main_arg0, Memref.whole main_v1_0, by decide, rfl, (Memref.isWhole_whole _).wordExact, fun w d => (View.wordExact_bits rfl).reshape _ _⟩
  | 1 => ⟨2048, 564, .bf16, Memref.whole main_arg1, Memref.whole main_v1_1, by decide, rfl, (Memref.isWhole_whole _).wordExact,
      fun w d => ((Memref.isWhole_whole _).wordExact_slice rfl _ (by revert w d; decide +kernel)).reshape _ _⟩
  | 2 => ⟨256, 2048, .bf16, Memref.whole main_arg2, Memref.whole main_v1_2, by decide, rfl, (Memref.isWhole_whole _).wordExact,
      fun w d => ((Memref.isWhole_whole _).wordExact_slice rfl _ (by revert w d; decide +kernel)).reshape _ _⟩
  | 3 => ⟨2048, 1024, .bf16, Memref.whole main_arg3, Memref.whole main_v1_3, by decide, rfl, (Memref.isWhole_whole _).wordExact,
      fun w d => ((Memref.isWhole_whole _).wordExact_slice rfl _ (by revert w d; decide +kernel)).reshape _ _⟩
  | 4 => ⟨1024, 2048, .bf16, Memref.whole main_arg4, Memref.whole main_v1_4, by decide, rfl, (Memref.isWhole_whole _).wordExact,
      fun w d => ((Memref.isWhole_whole _).wordExact_slice rfl _ (by revert w d; decide +kernel)).reshape _ _⟩
  | 5 => ⟨128, 1024, .bf16, Memref.whole main_arg5, Memref.whole main_v1_5, by decide, rfl, (Memref.isWhole_whole _).wordExact,
      fun w d => ((Memref.isWhole_whole _).wordExact_slice rfl _ (by revert w d; decide +kernel)).reshape _ _⟩
  | 6 => ⟨432, 128, .f32, Memref.whole main_arg6, Memref.whole main_v1_6, by decide, rfl, (Memref.isWhole_whole _).wordExact, fun w d => (View.wordExact_bits rfl).reshape _ _⟩

/-- The arrays and semaphores of the gather. -/
def kit : Kit sig net (Fin 7) where
  arr := arrs
  all := [0, 1, 2, 3, 4, 5, 6]
  sendS x := ((cc0_scratch0.slice (Rect.unit (s := S7x7) ![x.2.val, x.1.val] S1x1.size (inb2 x.2 x.1))).squeeze S_ sq2).sem
  recvS x := ((cc0_scratch1.slice (Rect.unit (s := S7x7) ![x.2.val, x.1.val] S1x1.size (inb2 x.2 x.1))).squeeze S_ sq2).sem
  locS i := ((cc0_scratch2.slice (Rect.unit (s := S7) ![i.val] S1.size (inb1 i))).squeeze S_ sq1).sem

variable {F : FTy → Type} [FloatOps F]

theorem body_eq (t : Fin cfg0.N) : Gen.bodyAt0 (F := F) t = Prog.op .deviceId fun d => prog kit (τ := τ) (Elt F) Λ₀ d := by
  rfl

end Cert.KernelIdeal

end
-- ==== Proof.GatherLaunch.lean ====
/-
The gather of the weights, run on the machine.
-/
module

public import proofs.«01_k».proof.Proof.GatherInst
public import proofs.«01_k».proof.Proof.GatherDeal

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.Gather

variable {F : FTy → Type} [FloatOps F]

theorem osem_inj : Function.Injective kit.osem := by
  have : ∀ o o', kit.osem o = kit.osem o' → o = o' := by decide +kernel
  exact fun o o' => this o o'

/-- What device `c` holds of array `i`. -/
def block (m : (ℓ : Loc nD τ sig) → Buf (Elt F) ℓ) (i : Fin 7) (c : Dev 8) : Buf (Elt F) ((kit.arr i).src.view.loc (c : Thread 8 τ)) :=
  m ((kit.arr i).src.view.loc (c : Thread 8 τ))

/-- Every device's block of array `i`, stacked. -/
def stacked (m : (ℓ : Loc nD τ sig) → Buf (Elt F) ℓ) (i : Fin 7) (c : Dev 8) : Buf (Elt F) ((kit.arr i).out.view.loc (c : Thread 8 τ)) :=
  match i with
  | 0 => stack (k := 1536) (r := 8) fun b => block m 0 b
  | 1 => stack (r := 2048) (k := 564) fun b => block m 1 b
  | 2 => stack (r := 256) (k := 2048) fun b => block m 2 b
  | 3 => stack (r := 2048) (k := 1024) fun b => block m 3 b
  | 4 => stack (r := 1024) (k := 2048) fun b => block m 4 b
  | 5 => stack (r := 128) (k := 1024) fun b => block m 5 b
  | 6 => stack (r := 432) (k := 128) fun b => block m 6 b

/-- The gather of what memory `m` holds. -/
def data (m : (ℓ : Loc nD τ sig) → Buf (Elt F) ℓ) : Data kit τ (Elt F) where
  inj := osem_inj
  allNd := by decide
  allAll := by decide
  sentNd := by decide +kernel
  sentAll := by decide +kernel
  arrNd := by decide +kernel
  arrAll := by decide +kernel
  pos i := by fin_cases i <;> decide
  credit i := by fin_cases i <;> rfl
  X := block m
  G := stacked m
  hG i c b := funext fun x => by
    rw [slot_read]
    fin_cases i <;> rfl

/-! ## What is dealt -/

/-- The arrays of a call: the arguments and the results. -/
def arrRef : Fin 7 ⊕ Fin 7 → Ref sig .tc
  | .inl i => ![main_arg0, main_arg1, main_arg2, main_arg3, main_arg4, main_arg5, main_arg6] i
  | .inr i => ![main_v1_0, main_v1_1, main_v1_2, main_v1_3, main_v1_4, main_v1_5, main_v1_6] i

theorem arrRef_inj : Function.Injective arrRef := by decide

theorem src_set (i : Fin 7) : (kit.arr i).src.view.set = Finset.univ := by
  fin_cases i <;> exact View.set_whole _
theorem out_set (i : Fin 7) : (kit.arr i).out.view.set = Finset.univ := by
  fin_cases i <;> exact View.set_whole _

local notation "𝕄" => MT 8 τ sig Unit (Elt F) ℕ (UU 8 τ sig) ℕ

theorem bufs_held (m : (ℓ : Loc nD τ sig) → Buf (Elt F) ℓ) (c : Dev 8) (i : Fin 7) :
    ((((c.tc : Thread 8 τ).loc (arrRef (.inl i))) ↦{fullShare} m ((c.tc : Thread 8 τ).loc (arrRef (.inl i)))) : sProp 𝕄) ⊢ (data m).held c i := by
  unfold Data.held
  rw [src_set]
  fin_cases i <;> exact .rfl

theorem bufs_blank (m : (ℓ : Loc nD τ sig) → Buf (Elt F) ℓ) (c : Dev 8) (i : Fin 7) :
    ((((c.tc : Thread 8 τ).loc (arrRef (.inr i))) ↦{fullShare} m ((c.tc : Thread 8 τ).loc (arrRef (.inr i)))) : sProp 𝕄) ⊢ (data m).blank c i := by
  unfold Data.blank
  rw [out_set]
  fin_cases i <;> (iintro H; iexists _; iexact H)

theorem deal (m : (ℓ : Loc nD τ sig) → Buf (Elt F) ℓ) :
    (bigSep Finset.univ fun c : Dev 8 => (unscopedBufs c fun b => m ((c.tc : Thread 8 τ).loc b) : sProp 𝕄)) ⊢ bigSep Finset.univ (data m).mem := by
  refine (bigSep_mono fun c _ => ?_).trans (data m).deal_mem
  rw [bufs_named arrRef arrRef_inj (by decide) c, bigSep_univ_sum]
  exact sep_mono (bigSep_mono fun i _ => bufs_held m c i) (bigSep_mono fun i _ => bufs_blank m c i)

/-! ## The run -/

theorem ownSems : Pipeline.OwnSemFacts (cfgs 0).spec kit.osem :=
  ⟨by decide, osem_inj, fun _ w => w.elim0⟩

variable [∀ e, Nonempty (Elt F e)]

/-- Every run ends; each device then holds the blocks of all, its own arguments as they were, and no semaphore is raised. -/
theorem run_main (m : (ℓ : Loc nD τ sig) → Buf (Elt F) ℓ) (g : Dev nD → PrngReg) :
    θ_run (defs (F := F)) (onTc (τ := τ) main) ⟨m, fun _ => 0, g⟩
      (fun r => (∀ c x, ∀ i ∈ (data m).on c x, r.2.mem ((data m).at c x) i = (data m).fin c x i) ∧ r.2.sem = fun _ => 0) := by
  refine Proto.θ_run_exchange (data m).proto cfgs Gen.N_0 Gen.cellOf_inj Gen.winFacts0 ownSems (by decide) (fun c => Gen.scopedRest0_eq c) defs₀ m g main
    (fun c => (Gen.main_chain c).trans rfl) (data m).mem (deal m) (data m).at (data m).on (data m).fin fun c κ t => ?_
  have h := (data m).body (defs := defs₀ (F := F)) (𝒱 := .none) κ c
  have e : defs₀ (F := F) .tc (cfgs 0).body ((cfgs 0).bodyArgs t ((cfgs 0).slots t)) = Prog.op .deviceId fun d => prog kit (τ := τ) (Elt F) Λ₀ d :=
    (show _ = Gen.bodyAt0 (F := F) t from rfl).trans (body_eq t)
  simp only [e]
  exact h

/-- Every run ends with all blocks stacked on every device. -/
theorem run_stacked (m : (ℓ : Loc nD τ sig) → Buf (Elt F) ℓ) (g : Dev nD → PrngReg) :
    θ_run (defs (F := F)) (onTc (τ := τ) main) ⟨m, fun _ => 0, g⟩
      (fun r => (∀ (i : Fin 7) (c : Dev 8), r.2.mem ((kit.arr i).out.view.loc (c : Thread 8 τ)) = stacked m i c)
        ∧ (∀ (i : Fin 7) (c : Dev 8), r.2.mem ((kit.arr i).src.view.loc (c : Thread 8 τ)) = block m i c) ∧ r.2.sem = fun _ => 0) :=
  (θ_run _ _ _).mono (fun _ h =>
    ⟨fun i c => funext fun z => h.1 c (.inr i) z ((Finset.ext_iff.mp (out_set i) z).mpr (Finset.mem_univ z)),
     fun i c => funext fun z => h.1 c (.inl i) z ((Finset.ext_iff.mp (src_set i) z).mpr (Finset.mem_univ z)), h.2⟩) (run_main m g)

end Cert.KernelIdeal

end
-- ==== Proof.GatherValue.lean ====
/-
The gather of the weights against the arrays that the devices hold in parts, and the claims about it.
-/
module

public import proofs.«01_k».proof.Defs
public import proofs.«01_k».proof.Proof.Blocks
public import proofs.«01_k».proof.Proof.GatherLaunch
public import proofs.«01_k».proof.Proof.Gen.Kernel
public import proofs.«01_k».proof.Proof.Gen.Reference.Run
public import proofs.«01_k».proof.Proof.Gen.ReferenceIdeal.Run

@[expose] public section

noncomputable section

namespace Cert.KernelIdeal

open Idealize.ShloMosaic Idealize.ShloMosaic.TcCoe
open Idealize.SL Idealize.SL.Sem
open Cert.Gather

variable {F : FTy → Type} [FloatOps F] [∀ e, Nonempty (Elt F e)]

/-- Whole arrays, as the reference holds them. -/
structure Whole (F : FTy → Type) where
  mod : (⟨2, ![8, 12288]⟩ : Shape).Idx → Elt F .f32
  win : (⟨2, ![2048, 4512]⟩ : Shape).Idx → Elt F .bf16
  wout : (⟨2, ![2048, 2048]⟩ : Shape).Idx → Elt F .bf16
  w1 : (⟨2, ![2048, 8192]⟩ : Shape).Idx → Elt F .bf16
  w2 : (⟨2, ![8192, 2048]⟩ : Shape).Idx → Elt F .bf16
  glu : (⟨2, ![1024, 1024]⟩ : Shape).Idx → Elt F .bf16
  rk : (⟨2, ![432, 1024]⟩ : Shape).Idx → Elt F .f32

/-- Memory `m` holds the parts of the whole arrays. -/
def Parts (m : (ℓ : Loc nD τ sig) → Buf (Elt F) ℓ) (W : Whole F) : Prop :=
  ∀ c : Dev nD,
    m ((c.tc : Thread nD τ).loc main_arg0) = Layout.block ⟨2, ![8, 1536]⟩ ⟨2, ![8, 12288]⟩ 1 8 c W.mod
    ∧ m ((c.tc : Thread nD τ).loc main_arg1) = Layout.block ⟨2, ![2048, 564]⟩ ⟨2, ![2048, 4512]⟩ 1 8 c W.win
    ∧ m ((c.tc : Thread nD τ).loc main_arg2) = Layout.block ⟨2, ![256, 2048]⟩ ⟨2, ![2048, 2048]⟩ 0 8 c W.wout
    ∧ m ((c.tc : Thread nD τ).loc main_arg3) = Layout.block ⟨2, ![2048, 1024]⟩ ⟨2, ![2048, 8192]⟩ 1 8 c W.w1
    ∧ m ((c.tc : Thread nD τ).loc main_arg4) = Layout.block ⟨2, ![1024, 2048]⟩ ⟨2, ![8192, 2048]⟩ 0 8 c W.w2
    ∧ m ((c.tc : Thread nD τ).loc main_arg5) = Layout.block ⟨2, ![128, 1024]⟩ ⟨2, ![1024, 1024]⟩ 0 8 c W.glu
    ∧ m ((c.tc : Thread nD τ).loc main_arg6) = Layout.block ⟨2, ![432, 128]⟩ ⟨2, ![432, 1024]⟩ 1 8 c W.rk

/-- What every device holds when the gather of memory `m` has ended: the whole arrays, the split axis first. -/
theorem run_whole (m : (ℓ : Loc nD τ sig) → Buf (Elt F) ℓ) (g : Dev nD → PrngReg) (W : Whole F) (h : Parts m W) :
    θ_run (defs (F := F)) (onTc (τ := τ) main) ⟨m, fun _ => 0, g⟩ (fun r => ∀ c : Dev nD,
      r.2.mem ((c.tc : Thread nD τ).loc main_v1_0) = transpose _ [1, 0, 2] (shapeCast _ W.mod ReferenceIdeal.Facts₀.shapeCasts_S8x12288_S8x8x1536) ReferenceIdeal.Facts₀.transposes_S8x8x1536_S8x8x1536_1_0_2
      ∧ r.2.mem ((c.tc : Thread nD τ).loc main_v1_1) = transpose _ [1, 0, 2] (shapeCast _ W.win ReferenceIdeal.Facts₀.shapeCasts_S2048x4512_S2048x8x564) ReferenceIdeal.Facts₀.transposes_S2048x8x564_S8x2048x564_1_0_2
      ∧ r.2.mem ((c.tc : Thread nD τ).loc main_v1_2) = shapeCast _ W.wout ReferenceIdeal.Facts₀.shapeCasts_S2048x2048_S8x256x2048
      ∧ r.2.mem ((c.tc : Thread nD τ).loc main_v1_3) = transpose _ [1, 0, 2] (shapeCast _ W.w1 ReferenceIdeal.Facts₀.shapeCasts_S2048x8192_S2048x8x1024) ReferenceIdeal.Facts₀.transposes_S2048x8x1024_S8x2048x1024_1_0_2
      ∧ r.2.mem ((c.tc : Thread nD τ).loc main_v1_4) = shapeCast _ W.w2 ReferenceIdeal.Facts₀.shapeCasts_S8192x2048_S8x1024x2048
      ∧ r.2.mem ((c.tc : Thread nD τ).loc main_v1_5) = shapeCast _ W.glu ReferenceIdeal.Facts₀.shapeCasts_S1024x1024_S8x128x1024
      ∧ r.2.mem ((c.tc : Thread nD τ).loc main_v1_6) = transpose _ [1, 0, 2] (shapeCast _ W.rk ReferenceIdeal.Facts₀.shapeCasts_S432x1024_S432x8x128) ReferenceIdeal.Facts₀.transposes_S432x8x128_S8x432x128_1_0_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run _ _ _).mono (fun r hr c => ?_) (run_stacked m g)
  obtain ⟨hv, ha, -⟩ := hr
  refine ⟨(hv 0 c).trans ?_, (hv 1 c).trans ?_, (hv 2 c).trans ?_, (hv 3 c).trans ?_, (hv 4 c).trans ?_, (hv 5 c).trans ?_, (hv 6 c).trans ?_,
    ha 0 c, ha 1 c, ha 2 c, ha 3 c, ha 4 c, ha 5 c, ha 6 c⟩
  · exact (congrArg stack (funext fun b => (h b).1)).trans (stack_cols W.mod (by decide) _ _).symm
  · exact (congrArg stack (funext fun b => (h b).2.1)).trans (stack_cols W.win (by decide) _ _).symm
  · exact (congrArg stack (funext fun b => (h b).2.2.1)).trans (stack_rows W.wout (by decide) _).symm
  · exact (congrArg stack (funext fun b => (h b).2.2.2.1)).trans (stack_cols W.w1 (by decide) _ _).symm
  · exact (congrArg stack (funext fun b => (h b).2.2.2.2.1)).trans (stack_rows W.w2 (by decide) _).symm
  · exact (congrArg stack (funext fun b => (h b).2.2.2.2.2.1)).trans (stack_rows W.glu (by decide) _).symm
  · exact (congrArg stack (funext fun b => (h b).2.2.2.2.2.2)).trans (stack_cols W.rk (by decide) _ _).symm

end Cert.KernelIdeal

namespace Cert.Proof

open Idealize.ShloMosaic Idealize.SL.Sem
open Cert.KernelIdeal (run_stacked run_whole)

theorem gather_frame : Cert.quiescent_Kernel := fun m g _ =>
  (θ_run Cert.KernelIdeal.defs _ _).mono (fun _ h =>
    ⟨fun c => ⟨h.2.1 0 c, h.2.1 1 c, h.2.1 2 c, h.2.1 3 c, h.2.1 4 c, h.2.1 5 c, h.2.1 6 c⟩, h.2.2⟩) (run_stacked (F := Bits) m g)

theorem gather_frame_ideal : Cert.quiescent_KernelIdeal := fun m g _ =>
  (θ_run Cert.KernelIdeal.defs _ _).mono (fun _ h =>
    ⟨fun c => ⟨h.2.1 0 c, h.2.1 1 c, h.2.1 2 c, h.2.1 3 c, h.2.1 4 c, h.2.1 5 c, h.2.1 6 c⟩, h.2.2⟩) (run_stacked (F := Ideal) m g)

theorem gather_bitexact : Cert.bitexact_Kernel_Reference := fun m g m' g' _ hp =>
  ⟨_, _, _, _, _, _, _,
    run_whole (F := Bits) m g ⟨m' (((0 : Dev 1).tc).loc Reference.main_arg0), m' (((0 : Dev 1).tc).loc Reference.main_arg1), m' (((0 : Dev 1).tc).loc Reference.main_arg2),
      m' (((0 : Dev 1).tc).loc Reference.main_arg3), m' (((0 : Dev 1).tc).loc Reference.main_arg4), m' (((0 : Dev 1).tc).loc Reference.main_arg5), m' (((0 : Dev 1).tc).loc Reference.main_arg6)⟩ hp,
    (θ_run Cert.Reference.defs _ _).mono (fun _ h => h 0) (Cert.Reference.Value.run (F := Bits) m' g')⟩

theorem gather_algebraic : Cert.algebraic_KernelIdeal_ReferenceIdeal := fun m g m' g' _ hp =>
  ⟨_, _, _, _, _, _, _,
    run_whole (F := Ideal) m g ⟨m' (((0 : Dev 1).tc).loc ReferenceIdeal.main_arg0), m' (((0 : Dev 1).tc).loc ReferenceIdeal.main_arg1), m' (((0 : Dev 1).tc).loc ReferenceIdeal.main_arg2),
      m' (((0 : Dev 1).tc).loc ReferenceIdeal.main_arg3), m' (((0 : Dev 1).tc).loc ReferenceIdeal.main_arg4), m' (((0 : Dev 1).tc).loc ReferenceIdeal.main_arg5), m' (((0 : Dev 1).tc).loc ReferenceIdeal.main_arg6)⟩ hp,
    (θ_run Cert.ReferenceIdeal.defs _ _).mono (fun _ h => h 0) (Cert.ReferenceIdeal.Value.run (F := Ideal) m' g')⟩

end Cert.Proof

end
-- ==== Proof.GradBlocks.lean ====
/-
An array of 32 parts, four on each of eight devices, as an array over chip, core and part: reversing the cores swaps the
blocks of siblings, and exchanging the chip with the part sends part `p` of a device to the same core of chip `p`.
-/
module

public import proofs.«01_k».proof.Proof.GatherProg
public import Idealize.ShloMosaic.Lib.Layout
public import Idealize.ShloMosaic.Lib.Pipeline.Value

@[expose] public section

noncomputable section

namespace Cert.Grads

open Idealize.ShloMosaic
open Cert.Gather (mate)

variable {α : Type} {r k : ℕ}

abbrev Part (r k : ℕ) : Shape := ⟨3, ![4, r, k]⟩
abbrev Parts (r k : ℕ) : Shape := ⟨3, ![32, r, k]⟩
abbrev Grid (r k : ℕ) : Shape := ⟨5, ![4, 2, 4, r, k]⟩

/-- The chip of device `c`, and its number on the chip. -/
def chip (c : Fin 8) : Fin 4 := ⟨c.val / 2, by omega⟩
def core (c : Fin 8) : Fin 2 := ⟨c.val % 2, by omega⟩
/-- The device of a chip and a core. -/
def device (p : Fin 4) (q : Fin 2) : Fin 8 := ⟨p.val * 2 + q.val, by omega⟩

theorem device_chip : ∀ c, device (chip c) (core c) = c := by decide
theorem device_rev : ∀ c, device (chip c) (core c).rev = mate 1 c := by decide

/-- An element by chip, core, part and place. -/
def cell (p : Fin 4) (q : Fin 2) (a : Fin 4) (x : Fin r) (y : Fin k) : (Grid r k).Idx :=
  Fin.cons p (Fin.cons q (Fin.cons a (Fin.cons x (Fin.cons y finZeroElim))))

/-- The array over chips, cores and parts reads the parts of its device. -/
theorem split_cell (v : (Parts r k).Idx → α) (hT : Layout.Tiles (Part r k) (Parts r k) 0 8) (hc : (Parts r k).ShapeCasts (Grid r k))
    (p : Fin 4) (q : Fin 2) (j : (Part r k).Idx) :
    shapeCast (Grid r k) v hc (cell p q (j 0) (j 1) (j 2)) = Layout.block (Part r k) (Parts r k) 0 8 (device p q) v hT j := by
  refine shapeCast_apply v hc _ (hT.idx (device p q) j) ?_
  rw [Shape.rowMajor_val_five, Shape.rowMajor_val_three]
  rfl

/-- The other way. -/
theorem join_cell (w : (Grid r k).Idx → α) (hT : Layout.Tiles (Part r k) (Parts r k) 0 8) (hc : (Grid r k).ShapeCasts (Parts r k))
    (p : Fin 4) (q : Fin 2) (j : (Part r k).Idx) :
    Layout.block (Part r k) (Parts r k) 0 8 (device p q) (shapeCast (Parts r k) w hc) hT j = w (cell p q (j 0) (j 1) (j 2)) := by
  refine shapeCast_apply w hc (hT.idx (device p q) j) _ ?_
  rw [Shape.rowMajor_val_five, Shape.rowMajor_val_three]
  rfl

/-- With the cores reversed, a device has the block of its sibling. -/
theorem block_swapped (v : (Parts r k).Idx → α) (hT : Layout.Tiles (Part r k) (Parts r k) 0 8) (hc : (Parts r k).ShapeCasts (Grid r k)) (hc' : (Grid r k).ShapeCasts (Parts r k)) (c : Fin 8) :
    Layout.block (Part r k) (Parts r k) 0 8 c (shapeCast (Parts r k) (Host.reverse [1] (shapeCast (Grid r k) v hc)) hc') hT
      = Layout.block (Part r k) (Parts r k) 0 8 (mate 1 c) v hT := by
  funext j
  have h := join_cell (Host.reverse [1] (shapeCast (Grid r k) v hc)) hT hc' (chip c) (core c) j
  rw [device_chip] at h
  rw [h, ← device_rev, ← split_cell v hT hc]
  refine congrArg (shapeCast (Grid r k) v hc) (funext fun a => ?_)
  fin_cases a <;> rfl

/-- With chips and parts exchanged, part `a` of a device is what its core of chip `a` had for it. -/
theorem block_exchanged (v : (Parts r k).Idx → α) (hT : Layout.Tiles (Part r k) (Parts r k) 0 8) (hc : (Parts r k).ShapeCasts (Grid r k)) (hc' : (Grid r k).ShapeCasts (Parts r k))
    (ht : (Grid r k).Transposes [2, 1, 0, 3, 4] (Grid r k)) (c : Fin 8) :
    Layout.block (Part r k) (Parts r k) 0 8 c (shapeCast (Parts r k) (transpose (Grid r k) [2, 1, 0, 3, 4] (shapeCast (Grid r k) v hc) ht) hc') hT
      = fun j => Layout.block (Part r k) (Parts r k) 0 8 (device (j 0) (core c)) v hT (Fin.cons (chip c) fun a => j a.succ) := by
  funext j
  have h := join_cell (transpose (Grid r k) [2, 1, 0, 3, 4] (shapeCast (Grid r k) v hc) ht) hT hc' (chip c) (core c) j
  rw [device_chip] at h
  refine h.trans ((transpose_apply _ _ ht _ (cell (j 0) (core c) (chip c) (j 1) (j 2)) fun b => ?_).trans ?_)
  · fin_cases b <;> rfl
  · exact split_cell v hT hc (j 0) (core c) (Fin.cons (chip c) fun a => j a.succ)

end Cert.Grads

end
-- ==== Proof.OneShot.lean ====
/-
Exchanges in which every device first starts all its copies and then waits for them.

A device `d` starts local copies `k : K`, then remote copies `j : J`, each from a region of its own memory to a region of
the memory of `peer j d`, and then waits, in some order, once for every semaphore.  Both regions of a copy are named by
its sender.  `X j d` is what the sender holds, `G j d` what the receiver's array holds in the end.
-/
module

public import proofs.«01_k».proof.Proof.ExchangeLaunch
public import Idealize.ShloMosaic.Lib.Pipeline.BigSepL

@[expose] public section

noncomputable section

namespace Cert.OneShot

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Exchange

/-- Copies: what each reads and where it writes, as their sender names them. -/
structure Moves (sig : RefSig) (J : Type) where
  sh : J → Shape
  el : J → EltTy
  src : (j : J) → Dev 8 → Memref sig .tc .hbm (sh j) (el j)
  dst : (j : J) → Dev 8 → Memref sig .tc .hbm (sh j) (el j)
  hsrc : ∀ j d, (src j d).view.WordExact
  hdst : ∀ j d, (dst j d).view.WordExact

/-- An exchange: its remote and local copies, its semaphores, and the order of its steps. -/
structure Kit (sig : RefSig) (J K : Type) where
  far : Moves sig J
  near : Moves sig K
  hsc : ∀ j d, (far.dst j d).view.ref.isScScratch = false
  peer : J → Dev 8 → Dev 8
  sendS : J → DmaSem sig
  recvS : J → DmaSem sig
  locS : K → DmaSem sig
  locals : List K
  sends : List J
  waits : List (Own J K)

variable {τ : Topo} {sig : RefSig} {J K : Type}

section Program

variable (κ : Kit sig J K) (Val : EltTy → Type) (Λ : Labels) (d : Dev 8)

abbrev Eff (τ : Topo) (sig : RefSig) (Val : EltTy → Type) (Λ : Labels) : Type _ := TpuEff 8 τ sig Val Λ .tc PUnit

/-- Starting local copy `k`. -/
def opHere (k : K) : Eff τ sig Val Λ :=
  .enqueueDma (κ.near.src k d) (.here (κ.near.dst k d)) (.dma (κ.locS k)) (κ.near.hsrc k d) (κ.near.hdst k d) ⟨Or.inl rfl, trivial⟩

/-- Starting remote copy `j`. -/
def opSend (j : J) : Eff τ sig Val Λ :=
  .enqueueDma (κ.far.src j d) (.remote (Dev.tc (κ.peer j d)) (κ.far.dst j d) (.dma (κ.sendS j)) (κ.hsc j d)) (.dma (κ.recvS j))
    (κ.far.hsrc j d) (κ.far.hdst j d) ⟨⟨rfl, Or.inl rfl⟩, trivial⟩

/-- Waiting for a semaphore. -/
def opWait : Own J K → Eff τ sig Val Λ
  | .inl j => .waitDma2 (κ.sendS j) (κ.far.dst j d) (κ.far.src j d) (κ.far.hdst j d) (κ.far.hsrc j d)
  | .inr (.inl j) => .waitDma2 (κ.recvS j) (κ.far.src j d) (κ.far.dst j d) (κ.far.hsrc j d) (κ.far.hdst j d)
  | .inr (.inr k) => .waitDma2 (κ.locS k) (κ.near.src k d) (κ.near.dst k d) (κ.near.hsrc k d) (κ.near.hdst k d)

/-- The whole program of device `d`. -/
def prog : Prog (TpuEff 8 τ sig Val Λ .tc) PUnit :=
  steps (κ.locals.flatMap fun k => [opHere κ Val Λ d k]) <|
  steps (κ.sends.flatMap fun j => [opSend κ Val Λ d j]) <|
  steps (κ.waits.flatMap fun o => [opWait κ Val Λ d o]) (.ret ⟨⟩)

end Program

/-- The semaphores by family. -/
def Kit.osem (κ : Kit sig J K) : Own J K → SemLoc sig
  | .inl j => .dma (κ.sendS j)
  | .inr (.inl j) => .dma (κ.recvS j)
  | .inr (.inr k) => .dma (κ.locS k)

variable {Val : EltTy → Type}

local notation "𝕄" => MT 8 τ sig Unit Val ℕ (UU 8 τ sig) ℕ

/-- What the run needs of an exchange, and the contents it is about.  `q` and `lq` are the shares of what is read. -/
structure Data (κ : Kit sig J K) (τ : Topo) (Val : EltTy → Type) where
  inj : Function.Injective κ.osem
  inv : ∀ j d, κ.peer j (κ.peer j d) = d
  localsNd : κ.locals.Nodup
  localsAll : ∀ k, k ∈ κ.locals
  sendsNd : κ.sends.Nodup
  sendsAll : ∀ j, j ∈ κ.sends
  waitsNd : κ.waits.Nodup
  waitsAll : ∀ o, o ∈ κ.waits
  pos : ∀ j, 0 < (κ.far.sh j).numel
  lpos : ∀ k, 0 < (κ.near.sh k).numel
  credit : ∀ j d, (κ.far.dst j d).view.dmaCredit = (κ.far.dst j 0).view.dmaCredit
  sent : ∀ j d, (κ.far.src j d).view.dmaCredit = (κ.far.dst j 0).view.dmaCredit
  lcredit : ∀ k d, (κ.near.dst k d).view.dmaCredit = (κ.near.dst k 0).view.dmaCredit
  q : J → PosShare TreeShare
  lq : K → PosShare TreeShare
  X : (j : J) → (d : Dev 8) → Buf Val ((κ.far.src j d).view.loc (d : Thread 8 τ))
  G : (j : J) → (d : Dev 8) → Buf Val ((κ.far.dst j d).view.loc (κ.peer j d : Thread 8 τ))
  hG : ∀ j d, (κ.far.dst j d).view.read Val (G j d) = (κ.far.src j d).view.read Val (X j d)
  lX : (k : K) → (d : Dev 8) → Buf Val ((κ.near.src k d).view.loc (d : Thread 8 τ))
  lG : (k : K) → (d : Dev 8) → Buf Val ((κ.near.dst k d).view.loc (d : Thread 8 τ))
  hlG : ∀ k d, (κ.near.dst k d).view.read Val (lG k d) = (κ.near.src k d).view.read Val (lX k d)

variable {κ : Kit sig J K} (D : Data κ τ Val)

namespace Data

/-- What remote copy `j` of device `d` reads. -/
def out (d : Dev 8) (j : J) : sProp 𝕄 := ((κ.far.src j d).view.loc (d : Thread 8 τ) ↦[(κ.far.src j d).view.set]{D.q j} D.X j d)
/-- What it leaves on its peer. -/
def land (d : Dev 8) (j : J) : sProp 𝕄 := ((κ.far.dst j d).view.loc (κ.peer j d : Thread 8 τ) ↦[(κ.far.dst j d).view.set]{fullShare} D.G j d)
/-- The same region before. -/
def free (D : Data κ τ Val) (d : Dev 8) (j : J) : sProp 𝕄 := iprop(∃ f, ((κ.far.dst j d).view.loc (κ.peer j d : Thread 8 τ) ↦[(κ.far.dst j d).view.set]{fullShare} f))
/-- What local copy `k` reads. -/
def lout (d : Dev 8) (k : K) : sProp 𝕄 := ((κ.near.src k d).view.loc (d : Thread 8 τ) ↦[(κ.near.src k d).view.set]{D.lq k} D.lX k d)
/-- What it leaves. -/
def lland (d : Dev 8) (k : K) : sProp 𝕄 := ((κ.near.dst k d).view.loc (d : Thread 8 τ) ↦[(κ.near.dst k d).view.set]{fullShare} D.lG k d)
/-- The same region before. -/
def lfree (D : Data κ τ Val) (d : Dev 8) (k : K) : sProp 𝕄 := iprop(∃ f, ((κ.near.dst k d).view.loc (d : Thread 8 τ) ↦[(κ.near.dst k d).view.set]{fullShare} f))

/-- What each wait hands over. -/
def pay (c : Dev 8) : Own J K → sProp 𝕄
  | .inl j => D.out c j
  | .inr (.inl j) => D.land (κ.peer j c) j
  | .inr (.inr k) => iprop(D.lland c k ∗ D.lout c k)

/-- The protocol of the exchange. -/
def proto : Proto 8 τ sig Val J K where
  osem := κ.osem
  inj := D.inj
  peer c j := κ.peer j c
  inv c j := D.inv j c
  amt o := match o with
    | .inl j => (κ.far.dst j 0).view.dmaCredit
    | .inr (.inl j) => (κ.far.dst j 0).view.dmaCredit
    | .inr (.inr k) => (κ.near.dst k 0).view.dmaCredit
  pos o := match o with
    | .inl j => View.dmaCredit_pos _ (D.pos j)
    | .inr (.inl j) => View.dmaCredit_pos _ (D.pos j)
    | .inr (.inr k) => View.dmaCredit_pos _ (D.lpos k)
  amt_eq j := rfl
  pay := D.pay
  lev o := 0
  stor c o := by
    rcases o with j | j | k
    · show BI.Storable _ (D.out c j)
      unfold out; infer_instance
    · show BI.Storable _ (D.land (κ.peer j c) j)
      unfold land; infer_instance
    · show BI.Storable _ iprop(D.lland c k ∗ D.lout c k)
      unfold lland lout; infer_instance

/-! ## The steps -/

section Steps

variable [Fintype J] [DecidableEq J] [Fintype K] [DecidableEq K] {Λ : Labels} {defs : Defs 8 τ sig Val Λ} {𝒱 : Variants} {Q : PUnit → sProp (MT 8 τ sig Unit Val ℕ (UU 8 τ sig) ℕ)}
variable (n : Dev 8 × Own J K → ℕ) (c : Dev 8) (k' : Prog (TpuEff 8 τ sig Val Λ .tc) PUnit)

/-- Overwriting a remote region with what the sender reads leaves it at `G`. -/
theorem landed (j : J) (f : Buf Val ((κ.far.dst j c).view.loc (κ.peer j c : Thread 8 τ))) :
    ((κ.far.dst j c).view.loc (κ.peer j c : Thread 8 τ) ↦[(κ.far.dst j c).view.set]{fullShare}
      (κ.far.dst j c).view.write Val f ((κ.far.src j c).view.read Val (D.X j c)) Finset.univ : sProp 𝕄) = D.land c j := by
  rw [← D.hG j c]
  exact pointsTo_congr fun y hy => (congrFun (View.write_read_eq_piecewise (Val := Val) (v := (κ.far.dst j c).view) f (D.G j c) Finset.univ) y).trans
    (Finset.piecewise_eq_of_mem _ _ _ hy)

/-- The same of a local region. -/
theorem llanded (k : K) (f : Buf Val ((κ.near.dst k c).view.loc (c : Thread 8 τ))) :
    ((κ.near.dst k c).view.loc (c : Thread 8 τ) ↦[(κ.near.dst k c).view.set]{fullShare}
      (κ.near.dst k c).view.write Val f ((κ.near.src k c).view.read Val (D.lX k c)) Finset.univ : sProp 𝕄) = D.lland c k := by
  rw [← D.hlG k c]
  exact pointsTo_congr fun y hy => (congrFun (View.write_read_eq_piecewise (Val := Val) (v := (κ.near.dst k c).view) f (D.lG k c) Finset.univ) y).trans
    (Finset.piecewise_eq_of_mem _ _ _ hy)

theorem wp_here (k : K) :
    iprop(D.proto.records n ∗ (D.proto.tok c (loc k) ∗ D.lout c k ∗ D.lfree c k))
      ⊢ iprop((D.proto.crd c (loc k) -∗ Proto.wpc defs 𝒱 c k' Q) -∗ Proto.wpc defs 𝒱 c (steps [opHere κ Val Λ c k] k') Q) := by
  unfold lfree
  iintro ⟨#HR, Ht, Hp, %f, Hs⟩
  have h1 : (κ.near.dst k c).view.amount (.dma (κ.locS k)) = D.proto.amt (loc k) := D.lcredit k c
  have h2 := sep_mono_left (Entails.of_eq (D.llanded c k f)) (Q := D.lout c k)
  have h3 : iprop(D.proto.records n ∗ D.proto.tok c (loc k) ∗ D.lout c k
        ∗ ((κ.near.dst k c).view.loc (c : Thread 8 τ) ↦[(κ.near.dst k c).view.set]{fullShare} f)) ⊢ _ :=
    D.proto.wp_local (defs := defs) (𝒱 := 𝒱) (Q := Q) n c k (src := κ.near.src k c) (dst := κ.near.dst k c) (sem := .dma (κ.locS k))
      (hsrc := κ.near.hsrc k c) (hdst := κ.near.hdst k c) (hsem := ⟨Or.inl rfl, trivial⟩)
      (k := fun _ => k') (q := D.lq k) (fs := D.lX k c) (fd := f) rfl h1 h2
  iapply h3
  isplitr; · iexact HR
  isplitl [Ht]; · iexact Ht
  isplitl [Hp]; · iexact Hp
  iexact Hs

theorem wp_send (j : J) (l : List J) :
    iprop(D.proto.records n ∗ (D.proto.sendTok c j ∗ D.out c j ∗ D.free c j) ∗ D.proto.Owe c (j :: l))
      ⊢ iprop(((D.proto.crd c (snd j) ∗ D.proto.Owe c l) -∗ Proto.wpc defs 𝒱 c k' Q)
        -∗ Proto.wpc defs 𝒱 c (steps [opSend κ Val Λ c j] k') Q) := by
  unfold free
  iintro ⟨#HR, ⟨Ht, Hp, %f, Hs⟩, HO⟩
  have h1 : (κ.far.dst j c).view.amount (.dma (κ.recvS j)) = D.proto.amt (rcv j) := D.credit j c
  have h2 : _ = D.pay (κ.peer j c) (rcv j) := (D.landed c j f).trans (congrArg (fun d => D.land d j) (D.inv j c).symm)
  have h3 : iprop(D.proto.records n ∗ (D.proto.sendTok c j ∗ D.out c j
        ∗ ((κ.far.dst j c).view.loc (κ.peer j c : Thread 8 τ) ↦[(κ.far.dst j c).view.set]{fullShare} f)) ∗ D.proto.Owe c (j :: l)) ⊢ _ :=
    D.proto.wp_remote (defs := defs) (𝒱 := 𝒱) (Q := Q) n c (κ.peer j c) j l (src := κ.far.src j c) (dst := κ.far.dst j c)
      (sS := .dma (κ.sendS j)) (sem := .dma (κ.recvS j)) (hsc := κ.hsc j c) (hsrc := κ.far.hsrc j c) (hdst := κ.far.hdst j c)
      (hsem := ⟨⟨rfl, Or.inl rfl⟩, trivial⟩) (k := fun _ => k')
      (q := D.q j) (fs := D.X j c) (fd := f) rfl rfl rfl h1 .rfl (Entails.of_eq h2)
  iapply h3
  isplitr; · iexact HR
  isplitr [HO]
  · isplitl [Ht]; · iexact Ht
    isplitl [Hp]; · iexact Hp
    iexact Hs
  iexact HO

theorem wp_await (o : Own J K) :
    iprop(D.proto.records n ∗ (D.proto.at0 c o ∗ D.proto.crd c o) ∗ D.proto.Owe c [])
      ⊢ iprop((((D.proto.done c o ∗ D.pay c o) ∗ D.proto.Owe c []) -∗ Proto.wpc defs 𝒱 c k' Q)
        -∗ Proto.wpc defs 𝒱 c (steps [opWait κ Val Λ c o] k') Q) := by
  rcases o with j | j | k
  · exact D.proto.wp_await (k := fun _ => k') (src := κ.far.dst j c) (dst := κ.far.src j c) (hsrc := κ.far.hdst j c) (hdst := κ.far.hsrc j c)
      n c (snd j) [] (fun _ h => absurd h List.not_mem_nil) rfl (D.sent j c)
  · exact D.proto.wp_await (k := fun _ => k') (src := κ.far.src j c) (dst := κ.far.dst j c) (hsrc := κ.far.hsrc j c) (hdst := κ.far.hdst j c)
      n c (rcv j) [] (fun _ h => absurd h List.not_mem_nil) rfl (D.credit j c)
  · exact D.proto.wp_await (k := fun _ => k') (src := κ.near.src k c) (dst := κ.near.dst k c) (hsrc := κ.near.hsrc k c) (hdst := κ.near.hdst k c)
      n c (loc k) [] (fun _ h => absurd h List.not_mem_nil) rfl (D.lcredit k c)

/-! ## The phases -/

theorem ph_here :
    iprop(D.proto.records n ∗ bigSepL κ.locals fun k => iprop(D.proto.tok c (loc k) ∗ D.lout c k ∗ D.lfree c k))
      ⊢ iprop((bigSepL κ.locals (fun k => D.proto.crd c (loc k)) -∗ Proto.wpc defs 𝒱 c k' Q)
        -∗ Proto.wpc defs 𝒱 c (steps (κ.locals.flatMap fun k => [opHere κ Val Λ c k]) k') Q) := by
  iintro ⟨#HR, HA⟩ Hk
  iapply (wp_phase (defs := defs) (𝒱 := 𝒱) (Q := Q) c (D.proto.records n) (fun k => [opHere κ Val Λ c k])
    (fun k => iprop(D.proto.tok c (loc k) ∗ D.lout c k ∗ D.lfree c k)) (fun k => D.proto.crd c (loc k)) (fun _ => iprop(emp)) k' κ.locals ?_) $$ [HA]
  · intro k l' _ k''
    iintro ⟨#HR, HA, -⟩ Hk
    iapply (D.wp_here n c k'' k) $$ [HA]
    · isplitr; · iexact HR
      iexact HA
    iintro Hc
    iapply Hk
    isplitl; · iexact Hc
    iempintro
  · isplitr; · iexact HR
    isplitl; · iexact HA
    iempintro
  iintro ⟨HB, -⟩
  iapply Hk; iexact HB

theorem ph_send :
    iprop(D.proto.records n ∗ (bigSepL κ.sends fun j => iprop(D.proto.sendTok c j ∗ D.out c j ∗ D.free c j)) ∗ D.proto.Owe c κ.sends)
      ⊢ iprop(((bigSepL κ.sends (fun j => D.proto.crd c (snd j)) ∗ D.proto.Owe c []) -∗ Proto.wpc defs 𝒱 c k' Q)
        -∗ Proto.wpc defs 𝒱 c (steps (κ.sends.flatMap fun j => [opSend κ Val Λ c j]) k') Q) :=
  wp_phase (defs := defs) (𝒱 := 𝒱) (Q := Q) c (D.proto.records n) (fun j => [opSend κ Val Λ c j])
    (fun j => iprop(D.proto.sendTok c j ∗ D.out c j ∗ D.free c j)) (fun j => D.proto.crd c (snd j)) (fun l => D.proto.Owe c l) k' κ.sends
    fun j l' _ k'' => D.wp_send n c k'' j l'

theorem ph_wait :
    iprop(D.proto.records n ∗ (bigSepL κ.waits fun o => iprop(D.proto.at0 c o ∗ D.proto.crd c o)) ∗ D.proto.Owe c [])
      ⊢ iprop((((bigSepL κ.waits fun o => iprop(D.proto.done c o ∗ D.pay c o)) ∗ D.proto.Owe c []) -∗ Proto.wpc defs 𝒱 c k' Q)
        -∗ Proto.wpc defs 𝒱 c (steps (κ.waits.flatMap fun o => [opWait κ Val Λ c o]) k') Q) :=
  wp_phase (defs := defs) (𝒱 := 𝒱) (Q := Q) c (D.proto.records n) (fun o => [opWait κ Val Λ c o])
    (fun o => iprop(D.proto.at0 c o ∗ D.proto.crd c o)) (fun o => iprop(D.proto.done c o ∗ D.pay c o)) (fun _ => D.proto.Owe c []) k' κ.waits
    fun o l' _ k'' => D.wp_await n c k'' o

/-! ## The whole body -/

/-- A device's memory at launch: what its copies read, and where they write. -/
def mem (c : Dev 8) : sProp 𝕄 :=
  iprop(((bigSep Finset.univ fun j => D.out c j) ∗ bigSep Finset.univ fun j => D.free c j)
    ∗ (bigSep Finset.univ fun k => D.lout c k) ∗ bigSep Finset.univ fun k => D.lfree c k)

/-- Its memory at the end: what its copies read, and what has landed with it. -/
def fin (c : Dev 8) : sProp 𝕄 :=
  iprop(((bigSep Finset.univ fun j => D.out c j) ∗ bigSep Finset.univ fun j => D.land (κ.peer j c) j)
    ∗ (bigSep Finset.univ fun k => D.lout c k) ∗ bigSep Finset.univ fun k => D.lland c k)

theorem byOwn (Φ : Own J K → sProp 𝕄) :
    bigSep Finset.univ Φ = iprop((bigSep Finset.univ fun x => Φ (snd x)) ∗ (bigSep Finset.univ fun x => Φ (rcv x)) ∗ bigSep Finset.univ fun i => Φ (loc i)) := by
  rw [bigSep_univ_sum, bigSep_univ_sum]; rfl

/-- One device's body, from what it is dealt to anything that follows from what it ends with. -/
theorem body (R : sProp 𝕄) (hR : D.fin c ⊢ R) :
    iprop(D.proto.records n ∗ (D.proto.ghost c ∗ D.mem c) ∗ ∃ W, owes (c : Thread 8 τ) (D.proto.O₀ c) W)
      ⊢ Proto.wpc defs 𝒱 c (Prog.op .deviceId fun d => prog κ Val Λ d)
          fun _ => iprop(R ∗ (bigSep Finset.univ fun o => D.proto.done c o) ∗ D.proto.Owe c []) := by
  have hl (Φ : K → sProp 𝕄) : bigSep Finset.univ Φ = bigSepL κ.locals Φ := bigSep_univ_eq_bigSepL _ (Finset.ext fun i => by simp [D.localsAll i]) D.localsNd Φ
  have hs (Φ : J → sProp 𝕄) : bigSep Finset.univ Φ = bigSepL κ.sends Φ := bigSep_univ_eq_bigSepL _ (Finset.ext fun i => by simp [D.sendsAll i]) D.sendsNd Φ
  have hw (Φ : Own J K → sProp 𝕄) : bigSep Finset.univ Φ = bigSepL κ.waits Φ := bigSep_univ_eq_bigSepL _ (Finset.ext fun i => by simp [D.waitsAll i]) D.waitsNd Φ
  have hcrd := byOwn fun o : Own J K => (D.proto.crd c o : sProp 𝕄)
  have hpay := byOwn (D.pay c)
  rw [D.proto.O₀_eq c _ D.sendsNd D.sendsAll]
  show iprop(D.proto.records n ∗ (D.proto.ghost c ∗ D.mem c) ∗ D.proto.Owe c κ.sends) ⊢ _
  unfold Proto.ghost mem
  simp only [Proto.wpc, wp_deviceId]
  iintro ⟨#HR, ⟨⟨Hat, Hst, Htl, Hcr⟩, ⟨Ho, Hf⟩, Hlo, Hlf⟩, HO⟩
  unfold prog
  iapply (D.ph_here (defs := defs) (𝒱 := 𝒱) n c _) $$ [Htl Hlo Hlf]
  · isplitr; · iexact HR
    rw [← hl, bigSep_sep', bigSep_sep']
    isplitl [Htl]; · iexact Htl
    isplitl [Hlo] <;> iassumption
  iintro Hcl
  iapply (D.ph_send (defs := defs) (𝒱 := 𝒱) n c _) $$ [Hst Ho Hf HO]
  · isplitr; · iexact HR
    isplitr [HO]
    · rw [← hs, bigSep_sep', bigSep_sep']
      isplitl [Hst]; · iexact Hst
      isplitl [Ho] <;> iassumption
    iexact HO
  iintro ⟨Hcs, HO⟩
  iapply (D.ph_wait (defs := defs) (𝒱 := 𝒱) n c _) $$ [Hat Hcl Hcs Hcr HO]
  · isplitr; · iexact HR
    isplitr [HO]
    · rw [← hw, bigSep_sep', hcrd, hs (fun x => D.proto.crd c (snd x)), hl (fun x => D.proto.crd c (loc x))]
      isplitl [Hat]; · iexact Hat
      isplitl [Hcs]; · iexact Hcs
      isplitl [Hcr] <;> iassumption
    iexact HO
  iintro ⟨HD, HO⟩
  ihave HD' := (Entails.of_eq ((hw (fun o => iprop(D.proto.done c o ∗ D.pay c o))).symm.trans (bigSep_sep' _ _ _))) $$ HD
  icases HD' with ⟨Hd, Hp⟩
  ihave Hp' := (Entails.of_eq hpay) $$ Hp
  icases Hp' with ⟨Hp1, Hp2, Hp3⟩
  ihave Hp3' := (show (bigSep Finset.univ fun k => D.pay c (loc k)) ⊢ iprop((bigSep Finset.univ fun k => D.lland c k) ∗ bigSep Finset.univ fun k => D.lout c k) from
    Entails.of_eq (bigSep_sep' _ (fun k => D.lland c k) fun k => D.lout c k)) $$ Hp3
  icases Hp3' with ⟨Hl1, Hl2⟩
  simp only [wp_ret]
  imodintro
  isplitl [Hp1 Hp2 Hl1 Hl2]
  · iapply hR
    unfold fin
    isplitl [Hp1 Hp2]
    · isplitl [Hp1]; · iexact Hp1
      iexact Hp2
    isplitl [Hl2] <;> iassumption
  isplitl [Hd] <;> iassumption

end Steps

end Data

end Cert.OneShot

end
-- ==== Proof.OneShotDeal.lean ====
/-
A one-shot exchange at launch and at the end: the regions dealt to the devices that write them, and the arrays known in
the end where every copy reads a region of its own.
-/
module

public import proofs.«01_k».proof.Proof.OneShot

@[expose] public section

noncomputable section

namespace Cert.OneShot.Data

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Exchange

variable {τ : Topo} {sig : RefSig} {J K : Type} {Val : EltTy → Type} {κ : Kit sig J K} (D : Data κ τ Val)
variable [Fintype J] [DecidableEq J] [Fintype K] [DecidableEq K]

local notation "𝕄" => MT 8 τ sig Unit Val ℕ (UU 8 τ sig) ℕ

/-- The devices in the order of the targets of copy `j`. -/
def toward (j : J) : Dev 8 ≃ Dev 8 := ⟨κ.peer j, κ.peer j, D.inv j, D.inv j⟩

/-- The regions on every device, dealt to those who write them. -/
theorem deal_free :
    (bigSep Finset.univ fun c => bigSep Finset.univ fun j => D.free (κ.peer j c) j : sProp 𝕄)
      = bigSep Finset.univ fun c => bigSep Finset.univ fun j => D.free c j := by
  have h (j : J) : (bigSep Finset.univ fun c => (D.free (κ.peer j c) j : sProp 𝕄)) = bigSep Finset.univ fun c => D.free c j :=
    (bigSep_univ_equiv (D.toward j) fun c => (D.free c j : sProp 𝕄)).symm
  rw [Pipeline.bigSep_univ_comm, bigSep_congr fun j _ => h j, Pipeline.bigSep_univ_comm]

/-- The memory of all devices, dealt. -/
theorem deal_mem :
    (bigSep Finset.univ fun c => iprop(((bigSep Finset.univ fun j => D.out c j) ∗ bigSep Finset.univ fun j => D.free (κ.peer j c) j)
        ∗ (bigSep Finset.univ fun k => D.lout c k) ∗ bigSep Finset.univ fun k => D.lfree c k) : sProp 𝕄) = bigSep Finset.univ D.mem := by
  unfold mem
  simp only [bigSep_sep']
  rw [D.deal_free]

/-! ## The end -/

/-- What a device ends with: what its copies read, and what has landed. -/
def at_ (D : Data κ τ Val) (c : Dev 8) : (J ⊕ J) ⊕ (K ⊕ K) → Loc 8 τ sig
  | .inl (.inl j) => (κ.far.src j c).view.loc (c : Thread 8 τ)
  | .inl (.inr j) => (κ.far.dst j (κ.peer j c)).view.loc (κ.peer j (κ.peer j c) : Thread 8 τ)
  | .inr (.inl k) => (κ.near.src k c).view.loc (c : Thread 8 τ)
  | .inr (.inr k) => (κ.near.dst k c).view.loc (c : Thread 8 τ)
def on_ (D : Data κ τ Val) (c : Dev 8) : (x : (J ⊕ J) ⊕ (K ⊕ K)) → Finset (Idx (D.at_ c x))
  | .inl (.inl j) => (κ.far.src j c).view.set
  | .inl (.inr j) => (κ.far.dst j (κ.peer j c)).view.set
  | .inr (.inl k) => (κ.near.src k c).view.set
  | .inr (.inr k) => (κ.near.dst k c).view.set
def fin_ (D : Data κ τ Val) (c : Dev 8) : (x : (J ⊕ J) ⊕ (K ⊕ K)) → Buf Val (D.at_ c x)
  | .inl (.inl j) => D.X j c
  | .inl (.inr j) => D.G j (κ.peer j c)
  | .inr (.inl k) => D.lX k c
  | .inr (.inr k) => D.lG k c

theorem fin_arrays (hq : ∀ j, D.q j = fullShare) (hlq : ∀ k, D.lq k = fullShare) (c : Dev 8) :
    D.fin c = (bigSep Finset.univ fun x => (D.at_ c x ↦[D.on_ c x]{fullShare} D.fin_ c x) : sProp 𝕄) := by
  rw [bigSep_univ_sum, bigSep_univ_sum, bigSep_univ_sum]
  unfold fin out lout
  simp only [hq, hlq]
  rfl

/-- Memory `M` holds `G` where copy `j` of device `d` has landed. -/
def Landed (M : (ℓ : Loc 8 τ sig) → Buf Val ℓ) (d : Dev 8) (j : J) : Prop :=
  ∀ i ∈ (κ.far.dst j d).view.set, M ((κ.far.dst j d).view.loc (κ.peer j d : Thread 8 τ)) i = D.G j d i

variable {M : (ℓ : Loc 8 τ sig) → Buf Val ℓ} (h : ∀ c x, ∀ i ∈ D.on_ c x, M (D.at_ c x) i = D.fin_ c x i)

include h

theorem ended_land (d : Dev 8) (j : J) : D.Landed M d j := by
  have h' : D.Landed M (κ.peer j (κ.peer j d)) j := h (κ.peer j d) (.inl (.inr j))
  rw [D.inv] at h'
  exact h'

theorem ended_out (c : Dev 8) (j : J) : ∀ i ∈ (κ.far.src j c).view.set, M ((κ.far.src j c).view.loc (c : Thread 8 τ)) i = D.X j c i := h c (.inl (.inl j))
theorem ended_lout (c : Dev 8) (k : K) : ∀ i ∈ (κ.near.src k c).view.set, M ((κ.near.src k c).view.loc (c : Thread 8 τ)) i = D.lX k c i := h c (.inr (.inl k))
theorem ended_lland (c : Dev 8) (k : K) : ∀ i ∈ (κ.near.dst k c).view.set, M ((κ.near.dst k c).view.loc (c : Thread 8 τ)) i = D.lG k c i := h c (.inr (.inr k))

end Cert.OneShot.Data

end
-- ==== Proof.SwapLaunch.lean ====
/-
The swap of gradients between siblings: every device sends six whole arrays to the other device of its chip.
-/
module

public import proofs.«01_k».proof.Proof.Gen.SwapIdeal.Points
public import proofs.«01_k».proof.Proof.Gen.SwapIdeal.Launch
public import proofs.«01_k».proof.Proof.OneShotDeal
public import proofs.«01_k».proof.Proof.GatherProg

@[expose] public section

noncomputable section

namespace Cert.SwapIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.OneShot
open Cert.Gather (mate)

/-! ## The copies -/

/-- An array and its result. -/
structure Pair where
  sh : Shape
  el : EltTy
  src : Memref sig .tc .hbm sh el
  dst : Memref sig .tc .hbm sh el
  hsc : dst.view.ref.isScScratch = false
  hsrc : src.view.WordExact
  hdst : dst.view.WordExact
  pos : 0 < sh.numel
  sent : src.view.dmaCredit = dst.view.dmaCredit
  src_set : src.view.set = Finset.univ
  dst_set : dst.view.set = Finset.univ

def pair (i : Fin 6) : Pair :=
  match i with
  | 0 => ⟨_, _, Memref.whole main_arg0, Memref.whole main_v1_0, rfl, (Memref.isWhole_whole _).wordExact, (Memref.isWhole_whole _).wordExact, by decide, rfl, View.set_whole _, View.set_whole _⟩
  | 1 => ⟨_, _, Memref.whole main_arg1, Memref.whole main_v1_1, rfl, (Memref.isWhole_whole _).wordExact, (Memref.isWhole_whole _).wordExact, by decide, rfl, View.set_whole _, View.set_whole _⟩
  | 2 => ⟨_, _, Memref.whole main_arg2, Memref.whole main_v1_2, rfl, (Memref.isWhole_whole _).wordExact, (Memref.isWhole_whole _).wordExact, by decide, rfl, View.set_whole _, View.set_whole _⟩
  | 3 => ⟨_, _, Memref.whole main_arg3, Memref.whole main_v1_3, rfl, (Memref.isWhole_whole _).wordExact, (Memref.isWhole_whole _).wordExact, by decide, rfl, View.set_whole _, View.set_whole _⟩
  | 4 => ⟨_, _, Memref.whole main_arg4, Memref.whole main_v1_4, rfl, (Memref.isWhole_whole _).wordExact, (Memref.isWhole_whole _).wordExact, by decide, rfl, View.set_whole _, View.set_whole _⟩
  | 5 => ⟨_, _, Memref.whole main_arg5, Memref.whole main_v1_5, rfl, (Memref.isWhole_whole _).wordExact, (Memref.isWhole_whole _).wordExact, by decide, rfl, View.set_whole _, View.set_whole _⟩

/-- The sibling, as the program computes it for copy `i`. -/
def sibling (i : Fin 6) (d : Dev 8) : Dev 8 :=
  ⟨(![k0_dev1, k0_dev2, k0_dev3, k0_dev4, k0_dev5, k0_dev6] : Fin 6 → Dev nD → Nat) i d, by revert i d; decide +kernel⟩

theorem sibling_eq : ∀ i d, sibling i d = mate 1 d := by decide +kernel

theorem sq1 : S1.Squeezes S_ := by decide
theorem inb1 : ∀ (i : Fin 6) (a : Fin 1), (![i.val] : Fin 1 → Nat) a + S1.size a ≤ S6.size a := by decide

/-- The swap. -/
def kit : Kit sig (Fin 6) (Fin 0) where
  far := ⟨fun i => (pair i).sh, fun i => (pair i).el, fun i _ => (pair i).src, fun i _ => (pair i).dst, fun i _ => (pair i).hsrc, fun i _ => (pair i).hdst⟩
  near := ⟨finZeroElim, finZeroElim, fun k => k.elim0, fun k => k.elim0, fun k => k.elim0, fun k => k.elim0⟩
  hsc i _ := (pair i).hsc
  peer := sibling
  sendS i := ((cc0_scratch0.slice (Rect.unit (s := S6) ![i.val] S1.size (inb1 i))).squeeze S_ sq1).sem
  recvS i := ((cc0_scratch1.slice (Rect.unit (s := S6) ![i.val] S1.size (inb1 i))).squeeze S_ sq1).sem
  locS k := k.elim0
  locals := []
  sends := [0, 1, 2, 3, 4, 5]
  waits := [snd 0, rcv 0, snd 1, rcv 1, snd 2, rcv 2, snd 3, rcv 3, snd 4, rcv 4, snd 5, rcv 5]

variable {F : FTy → Type} [FloatOps F]

theorem body_eq (t : Fin cfg0.N) : Gen.bodyAt0 (F := F) t = Prog.op .deviceId fun d => prog kit (τ := τ) (Elt F) Λ₀ d := by
  rfl

theorem osem_inj : Function.Injective kit.osem := by
  have : ∀ o o', kit.osem o = kit.osem o' → o = o' := by decide +kernel
  exact fun o o' => this o o'

/-! ## What is sent and what is left -/

/-- What device `c` holds of array `i`. -/
def held (m : (ℓ : Loc nD τ sig) → Buf (Elt F) ℓ) (i : Fin 6) (c : Dev 8) : Buf (Elt F) ((pair i).src.view.loc (c : Thread 8 τ)) :=
  m ((pair i).src.view.loc (c : Thread 8 τ))

/-- The same, where it lands. -/
def swapped (m : (ℓ : Loc nD τ sig) → Buf (Elt F) ℓ) (i : Fin 6) (d c : Dev 8) : Buf (Elt F) ((pair i).dst.view.loc (c : Thread 8 τ)) :=
  match i with
  | 0 => held m 0 d | 1 => held m 1 d | 2 => held m 2 d | 3 => held m 3 d | 4 => held m 4 d | 5 => held m 5 d

/-- The swap of what memory `m` holds. -/
def data (m : (ℓ : Loc nD τ sig) → Buf (Elt F) ℓ) : Data kit τ (Elt F) where
  inj := osem_inj
  inv := by decide +kernel
  localsNd := by decide
  localsAll k := k.elim0
  sendsNd := by decide
  sendsAll := by decide
  waitsNd := by decide
  waitsAll o := by
    rcases o with j | j | k
    · fin_cases j <;> simp [kit, snd, rcv]
    · fin_cases j <;> simp [kit, snd, rcv]
    · exact k.elim0
  pos i := (pair i).pos
  lpos k := k.elim0
  credit i d := rfl
  sent i d := (pair i).sent
  lcredit k := k.elim0
  q i := fullShare
  lq k := fullShare
  X i c := held m i c
  G i c := swapped m i c (sibling i c)
  hG i c := by fin_cases i <;> rfl
  lX k := k.elim0
  lG k := k.elim0
  hlG k := k.elim0

/-! ## What is dealt -/

/-- The arrays of a call: the arguments and the results. -/
def arrRef : Fin 6 ⊕ Fin 6 → Ref sig .tc
  | .inl i => ![main_arg0, main_arg1, main_arg2, main_arg3, main_arg4, main_arg5] i
  | .inr i => ![main_v1_0, main_v1_1, main_v1_2, main_v1_3, main_v1_4, main_v1_5] i

theorem arrRef_inj : Function.Injective arrRef := by decide

local notation "𝕄" => MT 8 τ sig Unit (Elt F) ℕ (UU 8 τ sig) ℕ

theorem bufs_out (m : (ℓ : Loc nD τ sig) → Buf (Elt F) ℓ) (c : Dev 8) (i : Fin 6) :
    ((((c.tc : Thread 8 τ).loc (arrRef (.inl i))) ↦{fullShare} m ((c.tc : Thread 8 τ).loc (arrRef (.inl i)))) : sProp 𝕄) ⊢ (data m).out c i := by
  show _ ⊢ ((pair i).src.view.loc (c : Thread 8 τ) ↦[(pair i).src.view.set]{fullShare} held m i c : sProp 𝕄)
  rw [(pair i).src_set]
  fin_cases i <;> exact .rfl

theorem bufs_free (m : (ℓ : Loc nD τ sig) → Buf (Elt F) ℓ) (c : Dev 8) (i : Fin 6) :
    ((((c.tc : Thread 8 τ).loc (arrRef (.inr i))) ↦{fullShare} m ((c.tc : Thread 8 τ).loc (arrRef (.inr i)))) : sProp 𝕄) ⊢ (data m).free (kit.peer i c) i := by
  have h (d : Dev 8) (e : kit.peer i d = c) :
      ((((c.tc : Thread 8 τ).loc (arrRef (.inr i))) ↦{fullShare} m ((c.tc : Thread 8 τ).loc (arrRef (.inr i)))) : sProp 𝕄) ⊢ (data m).free d i := by
    subst e
    show _ ⊢ iprop(∃ f, ((pair i).dst.view.loc (kit.peer i d : Thread 8 τ) ↦[(pair i).dst.view.set]{fullShare} f : sProp 𝕄))
    rw [(pair i).dst_set]
    fin_cases i <;> (iintro H; iexists _; iexact H)
  exact h _ ((data m).inv i c)

theorem deal (m : (ℓ : Loc nD τ sig) → Buf (Elt F) ℓ) :
    (bigSep Finset.univ fun c : Dev 8 => (unscopedBufs c fun b => m ((c.tc : Thread 8 τ).loc b) : sProp 𝕄)) ⊢ bigSep Finset.univ (data m).mem := by
  rw [← (data m).deal_mem]
  refine bigSep_mono fun c _ => ?_
  rw [bufs_named arrRef arrRef_inj (by decide) c, bigSep_univ_sum]
  have h1 : (bigSep Finset.univ fun i => (((c.tc : Thread 8 τ).loc (arrRef (.inl i))) ↦{fullShare} m ((c.tc : Thread 8 τ).loc (arrRef (.inl i))) : sProp 𝕄))
      ⊢ bigSep Finset.univ fun j => (data m).out c j := bigSep_mono fun i _ => bufs_out m c i
  have h2 : (bigSep Finset.univ fun i => (((c.tc : Thread 8 τ).loc (arrRef (.inr i))) ↦{fullShare} m ((c.tc : Thread 8 τ).loc (arrRef (.inr i))) : sProp 𝕄))
      ⊢ bigSep Finset.univ fun j => (data m).free (kit.peer j c) j := bigSep_mono fun i _ => bufs_free m c i
  refine (Idealize.SL.BI.Laws.sep_mono h1 h2).trans ?_
  rw [Finset.univ_eq_empty (α := Fin 0), bigSep_empty, bigSep_empty]
  iintro H
  isplitl [H]; · iexact H
  isplitl <;> iempintro

/-! ## The run -/

theorem ownSems : Pipeline.OwnSemFacts (cfgs 0).spec kit.osem :=
  ⟨by decide, osem_inj, fun _ w => w.elim0⟩

variable [∀ e, Nonempty (Elt F e)]

/-- Every run ends; each device then holds what its sibling sent, its own arguments as they were, and no semaphore is raised. -/
theorem run_main (m : (ℓ : Loc nD τ sig) → Buf (Elt F) ℓ) (g : Dev nD → PrngReg) :
    θ_run (defs (F := F)) (onTc (τ := τ) main) ⟨m, fun _ => 0, g⟩
      (fun r => (∀ c x, ∀ i ∈ (data m).on_ c x, r.2.mem ((data m).at_ c x) i = (data m).fin_ c x i) ∧ r.2.sem = fun _ => 0) := by
  refine Proto.θ_run_exchange (data m).proto cfgs Gen.N_0 Gen.cellOf_inj Gen.winFacts0 ownSems (by decide) (fun c => Gen.scopedRest0_eq c) defs₀ m g main
    (fun c => (Gen.main_chain c).trans rfl) (data m).mem (deal m) (data m).at_ (data m).on_ (data m).fin_ fun c κ t => ?_
  have h := (data m).body (defs := defs₀ (F := F)) (𝒱 := .none) κ c _ (Entails.of_eq ((data m).fin_arrays (fun _ => rfl) (fun _ => rfl) c))
  have e : defs₀ (F := F) .tc (cfgs 0).body ((cfgs 0).bodyArgs t ((cfgs 0).slots t)) = Prog.op .deviceId fun d => prog kit (τ := τ) (Elt F) Λ₀ d :=
    (show _ = Gen.bodyAt0 (F := F) t from rfl).trans (body_eq t)
  simp only [e]
  exact h

/-- Every run ends with the arrays of siblings swapped. -/
theorem run_swapped (m : (ℓ : Loc nD τ sig) → Buf (Elt F) ℓ) (g : Dev nD → PrngReg) :
    θ_run (defs (F := F)) (onTc (τ := τ) main) ⟨m, fun _ => 0, g⟩
      (fun r => (∀ (i : Fin 6) (c : Dev 8), r.2.mem ((pair i).dst.view.loc (c : Thread 8 τ)) = swapped m i (mate 1 c) c)
        ∧ (∀ (i : Fin 6) (c : Dev 8), r.2.mem ((pair i).src.view.loc (c : Thread 8 τ)) = held m i c) ∧ r.2.sem = fun _ => 0) := by
  refine (θ_run _ _ _).mono (fun r h => ⟨fun i c => ?_, fun i c => funext fun z => ?_, h.2⟩) (run_main m g)
  · have hl (d : Dev 8) (e : sibling i d = c) : r.2.mem ((pair i).dst.view.loc (c : Thread 8 τ)) = swapped m i d c := by
      subst e
      exact funext fun z => (data m).ended_land h.1 d i z ((Finset.ext_iff.mp (pair i).dst_set z).mpr (Finset.mem_univ z))
    exact hl _ ((sibling_eq i _).trans (Cert.Gather.mate_mate 1 c))
  · exact (data m).ended_out h.1 c i z ((Finset.ext_iff.mp (pair i).src_set z).mpr (Finset.mem_univ z))

end Cert.SwapIdeal

end
-- ==== Proof.SwapValue.lean ====
/-
The swap of gradients against the arrays that the devices hold in parts, and the claims about it.
-/
module

public import proofs.«01_k».proof.Defs
public import proofs.«01_k».proof.Proof.GradBlocks
public import proofs.«01_k».proof.Proof.SwapLaunch
public import proofs.«01_k».proof.Proof.Gen.Swap
public import proofs.«01_k».proof.Proof.Gen.SwapReference.Run
public import proofs.«01_k».proof.Proof.Gen.SwapReferenceIdeal.Run

@[expose] public section

noncomputable section

namespace Cert.SwapIdeal

open Idealize.ShloMosaic Idealize.ShloMosaic.TcCoe
open Idealize.SL Idealize.SL.Sem
open Cert.Grads

variable {F : FTy → Type} [FloatOps F] [∀ e, Nonempty (Elt F e)]

/-- Whole arrays, as the reference holds them. -/
structure Whole (F : FTy → Type) where
  win : (Parts 2048 564).Idx → Elt F .bf16
  wout : (Parts 256 2048).Idx → Elt F .bf16
  w1 : (Parts 2048 1024).Idx → Elt F .bf16
  w2 : (Parts 1024 2048).Idx → Elt F .bf16
  glu : (Parts 128 1024).Idx → Elt F .f32
  rk : (Parts 432 128).Idx → Elt F .f32

/-- Memory `m` holds the parts of the whole arrays. -/
def Holds (m : (ℓ : Loc nD τ sig) → Buf (Elt F) ℓ) (W : Whole F) : Prop :=
  ∀ c : Dev nD,
    m ((c.tc : Thread nD τ).loc main_arg0) = Layout.block (Part 2048 564) (Parts 2048 564) 0 8 c W.win
    ∧ m ((c.tc : Thread nD τ).loc main_arg1) = Layout.block (Part 256 2048) (Parts 256 2048) 0 8 c W.wout
    ∧ m ((c.tc : Thread nD τ).loc main_arg2) = Layout.block (Part 2048 1024) (Parts 2048 1024) 0 8 c W.w1
    ∧ m ((c.tc : Thread nD τ).loc main_arg3) = Layout.block (Part 1024 2048) (Parts 1024 2048) 0 8 c W.w2
    ∧ m ((c.tc : Thread nD τ).loc main_arg4) = Layout.block (Part 128 1024) (Parts 128 1024) 0 8 c W.glu
    ∧ m ((c.tc : Thread nD τ).loc main_arg5) = Layout.block (Part 432 128) (Parts 432 128) 0 8 c W.rk

/-- The cores of every chip reversed. -/
def rev {r k : ℕ} {α : Type} (v : (Parts r k).Idx → α) (hc : (Parts r k).ShapeCasts (Grid r k)) (hc' : (Grid r k).ShapeCasts (Parts r k)) : (Parts r k).Idx → α :=
  shapeCast (Parts r k) (Host.reverse [1] (shapeCast (Grid r k) v hc)) hc'

open SwapReferenceIdeal.Facts₀

/-- What every device holds when the swap of memory `m` has ended: its parts of the whole arrays with the cores reversed. -/
theorem run_whole (m : (ℓ : Loc nD τ sig) → Buf (Elt F) ℓ) (g : Dev nD → PrngReg) (W : Whole F) (h : Holds m W) :
    θ_run (defs (F := F)) (onTc (τ := τ) main) ⟨m, fun _ => 0, g⟩ (fun r => ∀ c : Dev nD,
      r.2.mem ((c.tc : Thread nD τ).loc main_v1_0) = Layout.block (Part 2048 564) (Parts 2048 564) 0 8 c (rev W.win shapeCasts_S32x2048x564_S4x2x4x2048x564 shapeCasts_S4x2x4x2048x564_S32x2048x564)
      ∧ r.2.mem ((c.tc : Thread nD τ).loc main_v1_1) = Layout.block (Part 256 2048) (Parts 256 2048) 0 8 c (rev W.wout shapeCasts_S32x256x2048_S4x2x4x256x2048 shapeCasts_S4x2x4x256x2048_S32x256x2048)
      ∧ r.2.mem ((c.tc : Thread nD τ).loc main_v1_2) = Layout.block (Part 2048 1024) (Parts 2048 1024) 0 8 c (rev W.w1 shapeCasts_S32x2048x1024_S4x2x4x2048x1024 shapeCasts_S4x2x4x2048x1024_S32x2048x1024)
      ∧ r.2.mem ((c.tc : Thread nD τ).loc main_v1_3) = Layout.block (Part 1024 2048) (Parts 1024 2048) 0 8 c (rev W.w2 shapeCasts_S32x1024x2048_S4x2x4x1024x2048 shapeCasts_S4x2x4x1024x2048_S32x1024x2048)
      ∧ r.2.mem ((c.tc : Thread nD τ).loc main_v1_4) = Layout.block (Part 128 1024) (Parts 128 1024) 0 8 c (rev W.glu shapeCasts_S32x128x1024_S4x2x4x128x1024 shapeCasts_S4x2x4x128x1024_S32x128x1024)
      ∧ r.2.mem ((c.tc : Thread nD τ).loc main_v1_5) = Layout.block (Part 432 128) (Parts 432 128) 0 8 c (rev W.rk shapeCasts_S32x432x128_S4x2x4x432x128 shapeCasts_S4x2x4x432x128_S32x432x128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run _ _ _).mono (fun r hr c => ?_) (run_swapped m g)
  obtain ⟨hv, ha, -⟩ := hr
  have hm := h (Cert.Gather.mate 1 c)
  refine ⟨(hv 0 c).trans ?_, (hv 1 c).trans ?_, (hv 2 c).trans ?_, (hv 3 c).trans ?_, (hv 4 c).trans ?_, (hv 5 c).trans ?_,
    ha 0 c, ha 1 c, ha 2 c, ha 3 c, ha 4 c, ha 5 c⟩
  · exact hm.1.trans (block_swapped W.win (by decide) _ _ c).symm
  · exact hm.2.1.trans (block_swapped W.wout (by decide) _ _ c).symm
  · exact hm.2.2.1.trans (block_swapped W.w1 (by decide) _ _ c).symm
  · exact hm.2.2.2.1.trans (block_swapped W.w2 (by decide) _ _ c).symm
  · exact hm.2.2.2.2.1.trans (block_swapped W.glu (by decide) _ _ c).symm
  · exact hm.2.2.2.2.2.trans (block_swapped W.rk (by decide) _ _ c).symm

end Cert.SwapIdeal

namespace Cert.Proof

open Idealize.ShloMosaic Idealize.SL.Sem
open Cert.SwapIdeal (run_swapped run_whole)

theorem swap_frame : Cert.quiescent_Swap := fun m g _ =>
  (θ_run Cert.SwapIdeal.defs _ _).mono (fun _ h =>
    ⟨fun c => ⟨h.2.1 0 c, h.2.1 1 c, h.2.1 2 c, h.2.1 3 c, h.2.1 4 c, h.2.1 5 c⟩, h.2.2⟩) (run_swapped (F := Bits) m g)

theorem swap_frame_ideal : Cert.quiescent_SwapIdeal := fun m g _ =>
  (θ_run Cert.SwapIdeal.defs _ _).mono (fun _ h =>
    ⟨fun c => ⟨h.2.1 0 c, h.2.1 1 c, h.2.1 2 c, h.2.1 3 c, h.2.1 4 c, h.2.1 5 c⟩, h.2.2⟩) (run_swapped (F := Ideal) m g)

theorem swap_reference_frame : Cert.quiescent_SwapReference := fun m g _ =>
  (θ_run Cert.SwapReference.defs _ _).mono (fun r h => ⟨fun c => (h c).2.2.2.2.2.2, sem_eq_zero_of_no_sems (by decide) r.2⟩) (Cert.SwapReference.Value.run (F := Bits) m g)

theorem swap_reference_frame_ideal : Cert.quiescent_SwapReferenceIdeal := fun m g _ =>
  (θ_run Cert.SwapReferenceIdeal.defs _ _).mono (fun r h => ⟨fun c => (h c).2.2.2.2.2.2, sem_eq_zero_of_no_sems (by decide) r.2⟩) (Cert.SwapReferenceIdeal.Value.run (F := Ideal) m g)

theorem swap_bitexact : Cert.bitexact_Swap_SwapReference := fun m g m' g' _ hp =>
  ⟨_, _, _, _, _, _,
    run_whole (F := Bits) m g ⟨m' (((0 : Dev 1).tc).loc SwapReference.main_arg0), m' (((0 : Dev 1).tc).loc SwapReference.main_arg1), m' (((0 : Dev 1).tc).loc SwapReference.main_arg2),
      m' (((0 : Dev 1).tc).loc SwapReference.main_arg3), m' (((0 : Dev 1).tc).loc SwapReference.main_arg4), m' (((0 : Dev 1).tc).loc SwapReference.main_arg5)⟩ hp,
    (θ_run Cert.SwapReference.defs _ _).mono (fun _ h => h 0) (Cert.SwapReference.Value.run (F := Bits) m' g')⟩

theorem swap_algebraic : Cert.algebraic_SwapIdeal_SwapReferenceIdeal := fun m g m' g' _ hp =>
  ⟨_, _, _, _, _, _,
    run_whole (F := Ideal) m g ⟨m' (((0 : Dev 1).tc).loc SwapReferenceIdeal.main_arg0), m' (((0 : Dev 1).tc).loc SwapReferenceIdeal.main_arg1), m' (((0 : Dev 1).tc).loc SwapReferenceIdeal.main_arg2),
      m' (((0 : Dev 1).tc).loc SwapReferenceIdeal.main_arg3), m' (((0 : Dev 1).tc).loc SwapReferenceIdeal.main_arg4), m' (((0 : Dev 1).tc).loc SwapReferenceIdeal.main_arg5)⟩ hp,
    (θ_run Cert.SwapReferenceIdeal.defs _ _).mono (fun _ h => h 0) (Cert.SwapReferenceIdeal.Value.run (F := Ideal) m' g')⟩

end Cert.Proof

end
-- ==== Proof.Slots.lean ====
/-
An array of `w` slots along its first axis, split over the devices that a device exchanges slots with.
-/
module

public import proofs.«01_k».proof.Proof.OneShotDeal
public import proofs.«01_k».proof.Proof.GatherProg

@[expose] public section

noncomputable section

namespace Cert.Slots

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Exchange
open Cert.Gather (One Flat)

abbrev Many (w r k : ℕ) : Shape := ⟨3, ![w, r, k]⟩

variable {τ : Topo} {sig : RefSig} {Val : EltTy → Type} {w r k : ℕ} {e : EltTy}

theorem inb {o : Fin 3 → ℕ} (b : Fin w) (h : o = ![b.val, 0, 0]) : ∀ a, o a + (One r k).size a ≤ (Many w r k).size a := by
  subst h
  have hb := b.isLt
  intro a
  fin_cases a
  · show b.val + 1 ≤ w; omega
  · show 0 + r ≤ r; omega
  · show 0 + k ≤ k; omega

/-- One slot of an array, at the offsets a program computes. -/
def slot (A : Memref sig .tc .hbm (Many w r k) e) (hsq : (One r k).Squeezes (Flat r k)) (o : Fin 3 → ℕ)
    (h : ∀ a, o a + (One r k).size a ≤ (Many w r k).size a) : Memref sig .tc .hbm (Flat r k) e :=
  (A.slice (Rect.unit (s := Many w r k) o (One r k).size h) (fun _ => rfl)).squeeze (Flat r k) hsq

/-- The indices of slot `b`. -/
def rows (b : Fin w) : Finset (Many w r k).Idx := Finset.univ.filter fun x => (x 0).val = b.val

theorem mem_rows (b : Fin w) (x : (Many w r k).Idx) : x ∈ rows b ↔ (x 0).val = b.val := by rw [rows, Finset.mem_filter, and_iff_right (Finset.mem_univ x)]

theorem rect_rows (b : Fin w) : (Rect.unit (s := Many w r k) ![b.val, 0, 0] (One r k).size (inb b rfl)).set = rows b := by
  ext x
  rw [Rect.mem_set_unit, mem_rows]
  constructor
  · intro h
    have h0 := h 0
    have h1 : b.val ≤ (x 0).val := h0.1
    have h2 : (x 0).val < b.val + 1 := h0.2
    omega
  · intro h i
    fin_cases i
    · exact ⟨show b.val ≤ (x 0).val by omega, show (x 0).val < b.val + 1 by omega⟩
    · exact ⟨Nat.zero_le _, by have := (x 1).isLt; show (x 1).val < 0 + r; rw [Nat.zero_add]; exact this⟩
    · exact ⟨Nat.zero_le _, by have := (x 2).isLt; show (x 2).val < 0 + k; rw [Nat.zero_add]; exact this⟩

variable (A : Memref sig .tc .hbm (Many w r k) e)

/-- The elements of slot `b` of `A`. -/
def slotSet (b : Fin w) : Finset A.view.ty.Idx := (rows b).map A.view.emb

theorem slot_set (hsq : (One r k).Squeezes (Flat r k)) {o : Fin 3 → ℕ} (b : Fin w) (ho : o = ![b.val, 0, 0]) (h : ∀ a, o a + (One r k).size a ≤ (Many w r k).size a) :
    (slot A hsq o h).view.set = slotSet A b := by
  subst ho
  show ((A.view.slice _).reshape _ _).set = _
  rw [View.set_reshape, View.set_slice, rect_rows]
  rfl

theorem slots_disjoint (b b' : Fin w) (h : b ≠ b') : Disjoint (slotSet A b) (slotSet A b') := by
  rw [slotSet, slotSet, Finset.disjoint_map, Finset.disjoint_left]
  intro x hx hx'
  exact h (Fin.ext (((mem_rows b x).mp hx).symm.trans ((mem_rows b' x).mp hx')))

theorem mem_slot (x : (Many w r k).Idx) : A.view.emb x ∈ slotSet A (x 0) :=
  Finset.mem_map_of_mem _ ((mem_rows (x 0) x).mpr rfl)

theorem slots_cover : (Finset.univ.biUnion fun b => slotSet A b) = A.view.set := by
  ext y
  rw [Finset.mem_biUnion]
  constructor
  · rintro ⟨b, -, hy⟩
    obtain ⟨x, -, rfl⟩ := Finset.mem_map.mp hy
    exact A.view.emb_mem_set x
  · intro hy
    obtain ⟨x, -, rfl⟩ := Finset.mem_map.mp hy
    exact ⟨x 0, Finset.mem_univ _, mem_slot A x⟩

local notation "𝕄" => MT 8 τ sig Unit Val ℕ (UU 8 τ sig) ℕ

theorem head {n : ℕ} (Φ : Fin (n + 1) → sProp 𝕄) : bigSep Finset.univ Φ = iprop(Φ 0 ∗ bigSep Finset.univ fun j : Fin n => Φ j.succ) := by
  rw [Fin.univ_succ, Finset.cons_eq_insert, bigSep_insert (by simp), bigSep_map]; rfl

/-- An array is its slots, in whatever order. -/
theorem split {n : ℕ} (who : Fin (n + 1) → Fin w) (hb : Function.Bijective who) (c : Dev 8) (f : Buf Val (A.view.loc (c : Thread 8 τ))) :
    (A.view.loc (c : Thread 8 τ) ↦[A.view.set]{fullShare} f : sProp 𝕄)
      = iprop((A.view.loc (c : Thread 8 τ) ↦[slotSet A (who 0)]{fullShare} f)
          ∗ bigSep Finset.univ fun j : Fin n => (A.view.loc (c : Thread 8 τ) ↦[slotSet A (who j.succ)]{fullShare} f)) := by
  rw [← slots_cover A, pointsTo_biUnion (ℓ := A.view.loc (c : Thread 8 τ)) Finset.univ (slotSet A) (fun b _ b' _ h => slots_disjoint A b b' h),
    bigSep_univ_equiv (Equiv.ofBijective who hb), head]
  rfl

/-- The slot's elements among the array's. -/
def inSlot (b : Fin w) (x : (Flat r k).Idx) : (Many w r k).Idx := Fin.cons b x

theorem slot_read (hsq : (One r k).Squeezes (Flat r k)) {o : Fin 3 → ℕ} (b : Fin w) (ho : o = ![b.val, 0, 0]) (h : ∀ a, o a + (One r k).size a ≤ (Many w r k).size a)
    (f : A.view.ty.Contents Val) (x : (Flat r k).Idx) : (slot A hsq o h).view.read Val f x = A.view.read Val f (inSlot b x) := by
  subst ho
  show A.view.read Val f ((Rect.unit (s := Many w r k) ![b.val, 0, 0] (One r k).size (inb b rfl)).emb (Shape.reshapeEquiv _ x)) = _
  refine congrArg (A.view.read Val f) (funext fun a => Fin.ext ?_)
  rw [Rect.emb_apply, Shape.reshapeEquiv_cons_one (n := 2) (d := ![r, k])]
  refine Fin.cases ?_ (fun a => ?_) a
  · show b.val + 1 * 0 = b.val; omega
  · have h0 : (![b.val, 0, 0] : Fin 3 → ℕ) a.succ = 0 := by fin_cases a <;> rfl
    show (![b.val, 0, 0] : Fin 3 → ℕ) a.succ + 1 * (x a).val = (x a).val
    rw [h0]; omega

end Cert.Slots

end
-- ==== Proof.ChipsInst.lean ====
/-
The exchange of gradients between chips: of six arrays of four parts, every device keeps its chip's part and sends each
of the others to the device of its core on the chip of that part.
-/
module

public import proofs.«01_k».proof.Proof.Gen.ChipsIdeal.Points
public import proofs.«01_k».proof.Proof.Gen.ChipsIdeal.Launch
public import proofs.«01_k».proof.Proof.Slots
public import proofs.«01_k».proof.Proof.GradBlocks

@[expose] public section

noncomputable section

namespace Cert.ChipsIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Exchange Cert.OneShot Cert.Slots
open Cert.Gather (mate mate_mate One Flat)
open Cert.Grads (chip core device Part device_chip)

/-! ## The copies -/

/-- The chip of the `t`-th relative of device `d`: itself, and its core on the three other chips. -/
def who (t : Fin 4) (d : Dev 8) : Fin 4 := chip (mate (![0, 2, 3, 4] t) d)

/-- The parts, at the offsets the program computes. -/
def off : Fin 4 → Dev 8 → Fin 3 → ℕ := ![k0_off1, k0_off7, k0_off13, k0_off19]
theorem hoff : ∀ t d, off t d = ![(who t d).val, 0, 0] := by decide +kernel

/-- The targets, as the program computes them. -/
def peer (x : Fin 6 × Fin 3) (d : Dev 8) : Dev 8 :=
  ⟨(![![k0_dev1, k0_dev7, k0_dev13], ![k0_dev2, k0_dev8, k0_dev14], ![k0_dev3, k0_dev9, k0_dev15],
      ![k0_dev4, k0_dev10, k0_dev16], ![k0_dev5, k0_dev11, k0_dev17], ![k0_dev6, k0_dev12, k0_dev18]] : Fin 6 → Fin 3 → Dev nD → Nat) x.1 x.2 d, by
    obtain ⟨i, j⟩ := x; revert i j d; decide +kernel⟩

theorem peer_eq : ∀ i j d, peer (i, j) d = mate (![2, 3, 4] j) d := by decide +kernel
theorem peer_peer (x : Fin 6 × Fin 3) (d : Dev 8) : peer x (peer x d) = d := by rw [peer_eq x.1 x.2, peer_eq x.1 x.2, mate_mate]

theorem who_zero : ∀ d, who 0 d = chip d := by decide
theorem who_succ (i : Fin 6) (j : Fin 3) (d : Dev 8) : who j.succ d = chip (peer (i, j) d) := by rw [peer_eq]; revert j d; decide
theorem who_bij : ∀ d, Function.Bijective fun t => who t d := by decide
theorem core_peer (i : Fin 6) (j : Fin 3) (d : Dev 8) : core (peer (i, j) d) = core d := by rw [peer_eq]; revert j d; decide

/-- An array and its result. -/
structure Arr where
  r : ℕ
  k : ℕ
  e : EltTy
  src : Memref sig .tc .hbm (Many 4 r k) e
  out : Memref sig .tc .hbm (Many 4 r k) e
  hsq : (One r k).Squeezes (Flat r k)
  hsc : out.view.ref.isScScratch = false
  hsrc : ∀ t d, (slot src hsq (off t d) (inb _ (hoff t d))).view.WordExact
  hout : ∀ d, (slot out hsq (off 0 d) (inb _ (hoff 0 d))).view.WordExact
  pos : 0 < (Flat r k).numel
  src_set : src.view.set = Finset.univ
  out_set : out.view.set = Finset.univ

def arr (i : Fin 6) : Arr :=
  match i with
  | 0 => ⟨2048, 564, .bf16, Memref.whole main_arg0, Memref.whole main_v1_0, by decide, rfl,
      fun t d => ((Memref.isWhole_whole _).wordExact_slice rfl _ (by revert t d; decide +kernel)).reshape _ _,
      fun d => ((Memref.isWhole_whole _).wordExact_slice rfl _ (by revert d; decide +kernel)).reshape _ _, by decide, View.set_whole _, View.set_whole _⟩
  | 1 => ⟨256, 2048, .bf16, Memref.whole main_arg1, Memref.whole main_v1_1, by decide, rfl,
      fun t d => ((Memref.isWhole_whole _).wordExact_slice rfl _ (by revert t d; decide +kernel)).reshape _ _,
      fun d => ((Memref.isWhole_whole _).wordExact_slice rfl _ (by revert d; decide +kernel)).reshape _ _, by decide, View.set_whole _, View.set_whole _⟩
  | 2 => ⟨2048, 1024, .bf16, Memref.whole main_arg2, Memref.whole main_v1_2, by decide, rfl,
      fun t d => ((Memref.isWhole_whole _).wordExact_slice rfl _ (by revert t d; decide +kernel)).reshape _ _,
      fun d => ((Memref.isWhole_whole _).wordExact_slice rfl _ (by revert d; decide +kernel)).reshape _ _, by decide, View.set_whole _, View.set_whole _⟩
  | 3 => ⟨1024, 2048, .bf16, Memref.whole main_arg3, Memref.whole main_v1_3, by decide, rfl,
      fun t d => ((Memref.isWhole_whole _).wordExact_slice rfl _ (by revert t d; decide +kernel)).reshape _ _,
      fun d => ((Memref.isWhole_whole _).wordExact_slice rfl _ (by revert d; decide +kernel)).reshape _ _, by decide, View.set_whole _, View.set_whole _⟩
  | 4 => ⟨128, 1024, .f32, Memref.whole main_arg4, Memref.whole main_v1_4, by decide, rfl,
      fun t d => (View.wordExact_bits rfl).reshape _ _, fun d => (View.wordExact_bits rfl).reshape _ _, by decide, View.set_whole _, View.set_whole _⟩
  | 5 => ⟨432, 128, .f32, Memref.whole main_arg5, Memref.whole main_v1_5, by decide, rfl,
      fun t d => (View.wordExact_bits rfl).reshape _ _, fun d => (View.wordExact_bits rfl).reshape _ _, by decide, View.set_whole _, View.set_whole _⟩

/-- Part `who t d` of an array, and of its result the part of device `d`. -/
abbrev Arr.part (a : Arr) (t : Fin 4) (d : Dev 8) : Memref sig .tc .hbm (Flat a.r a.k) a.e := slot a.src a.hsq (off t d) (inb _ (hoff t d))
abbrev Arr.own (a : Arr) (d : Dev 8) : Memref sig .tc .hbm (Flat a.r a.k) a.e := slot a.out a.hsq (off 0 d) (inb _ (hoff 0 d))

theorem sq2 : S1x1.Squeezes S_ := by decide
theorem sq1 : S1.Squeezes S_ := by decide
theorem inb2 : ∀ (i : Fin 6) (j : Fin 3) (a : Fin 2), (![i.val, j.val] : Fin 2 → Nat) a + S1x1.size a ≤ S6x3.size a := by decide
theorem inb1 : ∀ (i : Fin 6) (a : Fin 1), (![i.val] : Fin 1 → Nat) a + S1.size a ≤ S6.size a := by decide

/-- The remote copies in the order they start. -/
def order : List (Fin 6 × Fin 3) := [0, 1, 2].flatMap fun j => [0, 1, 2, 3, 4, 5].map fun i => (i, j)

/-- The exchange. -/
def kit : Kit sig (Fin 6 × Fin 3) (Fin 6) where
  far := ⟨fun x => Flat (arr x.1).r (arr x.1).k, fun x => (arr x.1).e, fun x d => (arr x.1).part x.2.succ d, fun x d => (arr x.1).own d,
    fun x d => (arr x.1).hsrc x.2.succ d, fun x d => (arr x.1).hout d⟩
  near := ⟨fun i => Flat (arr i).r (arr i).k, fun i => (arr i).e, fun i d => (arr i).part 0 d, fun i d => (arr i).own d,
    fun i d => (arr i).hsrc 0 d, fun i d => (arr i).hout d⟩
  hsc x _ := (arr x.1).hsc
  peer := peer
  sendS x := ((cc0_scratch0.slice (Rect.unit (s := S6x3) ![x.1.val, x.2.val] S1x1.size (inb2 x.1 x.2))).squeeze S_ sq2).sem
  recvS x := ((cc0_scratch1.slice (Rect.unit (s := S6x3) ![x.1.val, x.2.val] S1x1.size (inb2 x.1 x.2))).squeeze S_ sq2).sem
  locS i := ((cc0_scratch2.slice (Rect.unit (s := S6) ![i.val] S1.size (inb1 i))).squeeze S_ sq1).sem
  locals := [0, 1, 2, 3, 4, 5]
  sends := order
  waits := order.map rcv ++ order.map snd ++ [0, 1, 2, 3, 4, 5].map loc

variable {F : FTy → Type} [FloatOps F]

theorem body_eq (t : Fin cfg0.N) : Gen.bodyAt0 (F := F) t = Prog.op .deviceId fun d => prog kit (τ := τ) (Elt F) Λ₀ d := by
  rfl

theorem osem_inj : Function.Injective kit.osem := by
  have : ∀ o o', kit.osem o = kit.osem o' → o = o' := by decide +kernel
  exact fun o o' => this o o'

end Cert.ChipsIdeal

end
-- ==== Proof.ChipsLaunch.lean ====
/-
The exchange of gradients between chips, run on the machine.
-/
module

public import proofs.«01_k».proof.Proof.ChipsInst

@[expose] public section

noncomputable section

namespace Cert.ChipsIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Exchange Cert.OneShot Cert.Slots
open Cert.Gather (mate mate_mate One Flat)
open Cert.Grads (chip core device Part device_chip)

variable {F : FTy → Type} [FloatOps F]

/-! ## What is sent and what is left -/

/-- What device `c` holds of array `i`. -/
def held (m : (ℓ : Loc nD τ sig) → Buf (Elt F) ℓ) (i : Fin 6) (c : Dev 8) : Buf (Elt F) ((arr i).src.view.loc (c : Thread 8 τ)) :=
  m ((arr i).src.view.loc (c : Thread 8 τ))

/-- Part `a` of the result on device `c`: what its core of chip `a` had for it. -/
def gathered {r k : ℕ} {V : Type} (X : Dev 8 → (Part r k).Idx → V) (c : Dev 8) : (Part r k).Idx → V :=
  fun z => X (device (z 0) (core c)) (Fin.cons (chip c) fun a => z a.succ)

theorem gathered_in {r k : ℕ} {V : Type} (X : Dev 8 → (Part r k).Idx → V) (c d : Dev 8) (h : core c = core d) (x : (Flat r k).Idx) :
    gathered X c (inSlot (chip d) x) = X d (inSlot (chip c) x) := by
  show X (device (chip d) (core c)) _ = _
  rw [h, device_chip]
  rfl

/-- The result of array `i` on device `c`. -/
def exchanged (m : (ℓ : Loc nD τ sig) → Buf (Elt F) ℓ) (i : Fin 6) (c : Dev 8) : Buf (Elt F) ((arr i).out.view.loc (c : Thread 8 τ)) :=
  match i with
  | 0 => gathered (r := 2048) (k := 564) (held m 0) c
  | 1 => gathered (r := 256) (k := 2048) (held m 1) c
  | 2 => gathered (r := 2048) (k := 1024) (held m 2) c
  | 3 => gathered (r := 1024) (k := 2048) (held m 3) c
  | 4 => gathered (r := 128) (k := 1024) (held m 4) c
  | 5 => gathered (r := 432) (k := 128) (held m 5) c

/-- A part of the result reads what its sender held. -/
theorem own_read (m : (ℓ : Loc nD τ sig) → Buf (Elt F) ℓ) (i : Fin 6) (c d : Dev 8) (t : Fin 4) (h : core c = core d) (ht : who t d = chip c) :
    ((arr i).own d).view.read (Elt F) (exchanged m i c) = ((arr i).part t d).view.read (Elt F) (held m i d) := by
  funext x
  refine (slot_read (arr i).out (arr i).hsq (who 0 d) (hoff 0 d) _ (exchanged m i c) x).trans
    (Eq.trans ?_ (slot_read (arr i).src (arr i).hsq (who t d) (hoff t d) _ (held m i d) x).symm)
  rw [ht, who_zero]
  fin_cases i
  · exact gathered_in (r := 2048) (k := 564) (held m 0) c d h x
  · exact gathered_in (r := 256) (k := 2048) (held m 1) c d h x
  · exact gathered_in (r := 2048) (k := 1024) (held m 2) c d h x
  · exact gathered_in (r := 1024) (k := 2048) (held m 3) c d h x
  · exact gathered_in (r := 128) (k := 1024) (held m 4) c d h x
  · exact gathered_in (r := 432) (k := 128) (held m 5) c d h x

theorem order_nd : order.Nodup := by decide +kernel
theorem order_all : ∀ x, x ∈ order := by decide +kernel

/-- The exchange of what memory `m` holds. -/
def data (m : (ℓ : Loc nD τ sig) → Buf (Elt F) ℓ) : Data kit τ (Elt F) where
  inj := osem_inj
  inv := peer_peer
  localsNd := by decide
  localsAll := by decide
  sendsNd := order_nd
  sendsAll := order_all
  waitsNd := by decide +kernel
  waitsAll o := by
    rcases o with x | x | i
    · exact List.mem_append_left _ (List.mem_append_right _ (List.mem_map_of_mem (order_all x)))
    · exact List.mem_append_left _ (List.mem_append_left _ (List.mem_map_of_mem (order_all x)))
    · exact List.mem_append_right _ (List.mem_map_of_mem ((by decide : ∀ i : Fin 6, i ∈ [0, 1, 2, 3, 4, 5]) i))
  pos x := (arr x.1).pos
  lpos i := (arr i).pos
  credit x d := rfl
  sent x d := by obtain ⟨i, j⟩ := x; fin_cases i <;> rfl
  lcredit i d := rfl
  q x := fullShare
  lq i := fullShare
  X x d := held m x.1 d
  G x d := exchanged m x.1 (peer x d)
  hG x d := own_read m x.1 (peer x d) d x.2.succ (core_peer x.1 x.2 d) (who_succ x.1 x.2 d)
  lX i d := held m i d
  lG i d := exchanged m i d
  hlG i d := own_read m i d d 0 rfl (who_zero d)

/-! ## What is dealt -/

/-- The arrays of a call: the arguments and the results. -/
def arrRef : Fin 6 ⊕ Fin 6 → Ref sig .tc
  | .inl i => ![main_arg0, main_arg1, main_arg2, main_arg3, main_arg4, main_arg5] i
  | .inr i => ![main_v1_0, main_v1_1, main_v1_2, main_v1_3, main_v1_4, main_v1_5] i

theorem arrRef_inj : Function.Injective arrRef := by decide

local notation "𝕄" => MT 8 τ sig Unit (Elt F) ℕ (UU 8 τ sig) ℕ

variable (m : (ℓ : Loc nD τ sig) → Buf (Elt F) ℓ) (c : Dev 8) (i : Fin 6)

theorem out_eq (j : Fin 3) :
    (data m).out c (i, j) = ((arr i).src.view.loc (c : Thread 8 τ) ↦[slotSet (arr i).src (who j.succ c)]{fullShare} held m i c : sProp 𝕄) := by
  rw [← slot_set (arr i).src (arr i).hsq (who j.succ c) (hoff j.succ c) (inb _ (hoff j.succ c))]; rfl

theorem lout_eq : (data m).lout c i = ((arr i).src.view.loc (c : Thread 8 τ) ↦[slotSet (arr i).src (who 0 c)]{fullShare} held m i c : sProp 𝕄) := by
  rw [← slot_set (arr i).src (arr i).hsq (who 0 c) (hoff 0 c) (inb _ (hoff 0 c))]; rfl

theorem free_of (j : Fin 3) (f : Buf (Elt F) ((arr i).out.view.loc (c : Thread 8 τ))) :
    ((arr i).out.view.loc (c : Thread 8 τ) ↦[slotSet (arr i).out (who j.succ c)]{fullShare} f : sProp 𝕄) ⊢ (data m).free (peer (i, j) c) (i, j) := by
  have h (d : Dev 8) (e : peer (i, j) d = c) :
      ((arr i).out.view.loc (c : Thread 8 τ) ↦[slotSet (arr i).out (who j.succ c)]{fullShare} f : sProp 𝕄) ⊢ (data m).free d (i, j) := by
    subst e
    rw [who_succ i, peer_peer, ← who_zero, ← slot_set (arr i).out (arr i).hsq (who 0 d) (hoff 0 d) (inb _ (hoff 0 d))]
    unfold Data.free
    iintro H
    iexists f
    iexact H
  exact h _ (peer_peer (i, j) c)

theorem lfree_of (f : Buf (Elt F) ((arr i).out.view.loc (c : Thread 8 τ))) :
    ((arr i).out.view.loc (c : Thread 8 τ) ↦[slotSet (arr i).out (who 0 c)]{fullShare} f : sProp 𝕄) ⊢ (data m).lfree c i := by
  rw [← slot_set (arr i).out (arr i).hsq (who 0 c) (hoff 0 c) (inb _ (hoff 0 c))]
  unfold Data.lfree
  iintro H
  iexists f
  iexact H

theorem bufs_out :
    ((((c.tc : Thread 8 τ).loc (arrRef (.inl i))) ↦{fullShare} m ((c.tc : Thread 8 τ).loc (arrRef (.inl i)))) : sProp 𝕄)
      ⊢ iprop((data m).lout c i ∗ bigSep Finset.univ fun j => (data m).out c (i, j)) := by
  rw [lout_eq, bigSep_congr fun j _ => out_eq m c i j, ← split (arr i).src (fun t => who t c) (who_bij c) c (held m i c), (arr i).src_set]
  fin_cases i <;> exact .rfl

theorem out_free (f : Buf (Elt F) ((arr i).out.view.loc (c : Thread 8 τ))) :
    ((arr i).out.view.loc (c : Thread 8 τ) ↦[(arr i).out.view.set]{fullShare} f : sProp 𝕄)
      ⊢ iprop((data m).lfree c i ∗ bigSep Finset.univ fun j => (data m).free (peer (i, j) c) (i, j)) := by
  rw [split (arr i).out (fun t => who t c) (who_bij c) c f]
  exact Idealize.SL.BI.Laws.sep_mono (lfree_of m c i f) (bigSep_mono fun j _ => free_of m c i j f)

theorem bufs_free :
    ((((c.tc : Thread 8 τ).loc (arrRef (.inr i))) ↦{fullShare} m ((c.tc : Thread 8 τ).loc (arrRef (.inr i)))) : sProp 𝕄)
      ⊢ iprop((data m).lfree c i ∗ bigSep Finset.univ fun j => (data m).free (peer (i, j) c) (i, j)) := by
  refine BIBase.Entails.trans ?_ (out_free m c i (m ((arr i).out.view.loc (c : Thread 8 τ))))
  rw [(arr i).out_set]
  fin_cases i <;> exact .rfl

theorem deal : (bigSep Finset.univ fun c : Dev 8 => (unscopedBufs c fun b => m ((c.tc : Thread 8 τ).loc b) : sProp 𝕄)) ⊢ bigSep Finset.univ (data m).mem := by
  rw [← (data m).deal_mem]
  refine bigSep_mono fun c _ => ?_
  rw [bufs_named arrRef arrRef_inj (by decide) c, bigSep_univ_sum]
  have h1 : (bigSep Finset.univ fun i => (((c.tc : Thread 8 τ).loc (arrRef (.inl i))) ↦{fullShare} m ((c.tc : Thread 8 τ).loc (arrRef (.inl i))) : sProp 𝕄))
      ⊢ bigSep Finset.univ fun i => iprop((data m).lout c i ∗ bigSep Finset.univ fun j => (data m).out c (i, j)) := bigSep_mono fun i _ => bufs_out m c i
  have h2 : (bigSep Finset.univ fun i => (((c.tc : Thread 8 τ).loc (arrRef (.inr i))) ↦{fullShare} m ((c.tc : Thread 8 τ).loc (arrRef (.inr i))) : sProp 𝕄))
      ⊢ bigSep Finset.univ fun i => iprop((data m).lfree c i ∗ bigSep Finset.univ fun j => (data m).free (peer (i, j) c) (i, j)) :=
    bigSep_mono fun i _ => bufs_free m c i
  refine (Idealize.SL.BI.Laws.sep_mono h1 h2).trans ?_
  rw [bigSep_sep', bigSep_sep', bigSep_univ_prod fun x => (data m).out c x, bigSep_univ_prod fun x => (data m).free (kit.peer x c) x]
  iintro ⟨⟨H1, H2⟩, H3, H4⟩
  isplitl [H2 H4]
  · isplitl [H2]
    · iexact H2
    · iexact H4
  isplitl [H1] <;> iassumption

/-! ## The run -/

theorem ownSems : Pipeline.OwnSemFacts (cfgs 0).spec kit.osem :=
  ⟨by decide +kernel, osem_inj, fun _ w => w.elim0⟩

variable [∀ e, Nonempty (Elt F e)]

/-- Every run ends; each device then holds what has landed, its own arguments as they were, and no semaphore is raised. -/
theorem run_main (g : Dev nD → PrngReg) :
    θ_run (defs (F := F)) (onTc (τ := τ) main) ⟨m, fun _ => 0, g⟩
      (fun r => (∀ c x, ∀ i ∈ (data m).on_ c x, r.2.mem ((data m).at_ c x) i = (data m).fin_ c x i) ∧ r.2.sem = fun _ => 0) := by
  refine Proto.θ_run_exchange (data m).proto cfgs Gen.N_0 Gen.cellOf_inj Gen.winFacts0 ownSems (by decide +kernel) (fun c => Gen.scopedRest0_eq c) defs₀ m g main
    (fun c => (Gen.main_chain c).trans rfl) (data m).mem (deal m) (data m).at_ (data m).on_ (data m).fin_ fun c κ t => ?_
  have h := (data m).body (defs := defs₀ (F := F)) (𝒱 := .none) κ c _ (Entails.of_eq ((data m).fin_arrays (fun _ => rfl) (fun _ => rfl) c))
  have e : defs₀ (F := F) .tc (cfgs 0).body ((cfgs 0).bodyArgs t ((cfgs 0).slots t)) = Prog.op .deviceId fun d => prog kit (τ := τ) (Elt F) Λ₀ d :=
    (show _ = Gen.bodyAt0 (F := F) t from rfl).trans (body_eq t)
  simp only [e]
  exact h

/-- Every element lies in the part of a relative. -/
theorem in_part {r k : ℕ} {e : EltTy} (A : Memref sig .tc .hbm (Many 4 r k) e) (hA : A.view.set = Finset.univ) (c : Dev 8) (z : A.view.ty.Idx) :
    z ∈ slotSet A (who 0 c) ∨ ∃ j : Fin 3, z ∈ slotSet A (who j.succ c) := by
  have hz : z ∈ Finset.univ.biUnion fun b => slotSet A b := by rw [slots_cover, hA]; exact Finset.mem_univ z
  obtain ⟨b, -, hb⟩ := Finset.mem_biUnion.mp hz
  obtain ⟨t, rfl⟩ := (who_bij c).2 b
  revert hb
  exact Fin.cases (fun h => .inl h) (fun j h => .inr ⟨j, h⟩) t

/-- Every run ends with the parts exchanged. -/
theorem run_exchanged (g : Dev nD → PrngReg) :
    θ_run (defs (F := F)) (onTc (τ := τ) main) ⟨m, fun _ => 0, g⟩
      (fun r => (∀ (i : Fin 6) (c : Dev 8), r.2.mem ((arr i).out.view.loc (c : Thread 8 τ)) = exchanged m i c)
        ∧ (∀ (i : Fin 6) (c : Dev 8), r.2.mem ((arr i).src.view.loc (c : Thread 8 τ)) = held m i c) ∧ r.2.sem = fun _ => 0) := by
  refine (θ_run _ _ _).mono (fun r h => ⟨fun i c => funext fun z => ?_, fun i c => funext fun z => ?_, h.2⟩) (run_main m g)
  · rcases in_part (arr i).out (arr i).out_set c z with hz | ⟨j, hz⟩
    · rw [← slot_set (arr i).out (arr i).hsq (who 0 c) (hoff 0 c) (inb _ (hoff 0 c))] at hz
      exact (data m).ended_lland h.1 c i z hz
    · have hl (d : Dev 8) (e : peer (i, j) d = c) : r.2.mem ((arr i).out.view.loc (c : Thread 8 τ)) z = exchanged m i c z := by
        subst e
        rw [who_succ i, peer_peer, ← who_zero, ← slot_set (arr i).out (arr i).hsq (who 0 d) (hoff 0 d) (inb _ (hoff 0 d))] at hz
        exact (data m).ended_land h.1 d (i, j) z hz
      exact hl _ (peer_peer (i, j) c)
  · rcases in_part (arr i).src (arr i).src_set c z with hz | ⟨j, hz⟩
    · rw [← slot_set (arr i).src (arr i).hsq (who 0 c) (hoff 0 c) (inb _ (hoff 0 c))] at hz
      exact (data m).ended_lout h.1 c i z hz
    · rw [← slot_set (arr i).src (arr i).hsq (who j.succ c) (hoff j.succ c) (inb _ (hoff j.succ c))] at hz
      exact (data m).ended_out h.1 c (i, j) z hz

end Cert.ChipsIdeal

end
-- ==== Proof.ChipsValue.lean ====
/-
The exchange of gradients between chips against the arrays that the devices hold in parts, and the claims about it.
-/
module

public import proofs.«01_k».proof.Defs
public import proofs.«01_k».proof.Proof.ChipsLaunch
public import proofs.«01_k».proof.Proof.Gen.Chips
public import proofs.«01_k».proof.Proof.Gen.ChipsReference.Run
public import proofs.«01_k».proof.Proof.Gen.ChipsReferenceIdeal.Run

@[expose] public section

noncomputable section

namespace Cert.ChipsIdeal

open Idealize.ShloMosaic Idealize.ShloMosaic.TcCoe
open Idealize.SL Idealize.SL.Sem
open Cert.Grads

variable {F : FTy → Type} [FloatOps F] [∀ e, Nonempty (Elt F e)]

/-- Whole arrays, as the reference holds them. -/
structure Whole (F : FTy → Type) where
  win : (Parts 2048 564).Idx → Elt F .bf16
  wout : (Parts 256 2048).Idx → Elt F .bf16
  w1 : (Parts 2048 1024).Idx → Elt F .bf16
  w2 : (Parts 1024 2048).Idx → Elt F .bf16
  glu : (Parts 128 1024).Idx → Elt F .f32
  rk : (Parts 432 128).Idx → Elt F .f32

/-- Memory `m` holds the parts of the whole arrays. -/
def Holds (m : (ℓ : Loc nD τ sig) → Buf (Elt F) ℓ) (W : Whole F) : Prop :=
  ∀ c : Dev nD,
    m ((c.tc : Thread nD τ).loc main_arg0) = Layout.block (Part 2048 564) (Parts 2048 564) 0 8 c W.win
    ∧ m ((c.tc : Thread nD τ).loc main_arg1) = Layout.block (Part 256 2048) (Parts 256 2048) 0 8 c W.wout
    ∧ m ((c.tc : Thread nD τ).loc main_arg2) = Layout.block (Part 2048 1024) (Parts 2048 1024) 0 8 c W.w1
    ∧ m ((c.tc : Thread nD τ).loc main_arg3) = Layout.block (Part 1024 2048) (Parts 1024 2048) 0 8 c W.w2
    ∧ m ((c.tc : Thread nD τ).loc main_arg4) = Layout.block (Part 128 1024) (Parts 128 1024) 0 8 c W.glu
    ∧ m ((c.tc : Thread nD τ).loc main_arg5) = Layout.block (Part 432 128) (Parts 432 128) 0 8 c W.rk

/-- Chips and parts exchanged. -/
def swapped {r k : ℕ} {α : Type} (v : (Parts r k).Idx → α) (hc : (Parts r k).ShapeCasts (Grid r k)) (ht : (Grid r k).Transposes [2, 1, 0, 3, 4] (Grid r k))
    (hc' : (Grid r k).ShapeCasts (Parts r k)) : (Parts r k).Idx → α :=
  shapeCast (Parts r k) (transpose (Grid r k) [2, 1, 0, 3, 4] (shapeCast (Grid r k) v hc) ht) hc'

/-- The parts that the devices of a core had for a chip are the device's block with chips and parts exchanged. -/
theorem gathered_blocks {r k : ℕ} {V : Type} (v : (Parts r k).Idx → V) (hT : Layout.Tiles (Part r k) (Parts r k) 0 8) (hc : (Parts r k).ShapeCasts (Grid r k))
    (ht : (Grid r k).Transposes [2, 1, 0, 3, 4] (Grid r k)) (hc' : (Grid r k).ShapeCasts (Parts r k)) (c : Dev 8)
    (X : Dev 8 → (Part r k).Idx → V) (h : ∀ d, X d = Layout.block (Part r k) (Parts r k) 0 8 d v hT) :
    gathered X c = Layout.block (Part r k) (Parts r k) 0 8 c (swapped v hc ht hc') hT := by
  rw [show X = fun d => Layout.block (Part r k) (Parts r k) 0 8 d v hT from funext h]
  exact (block_exchanged v hT hc hc' ht c).symm

open ChipsReferenceIdeal.Facts₀

/-- What every device holds when the exchange of memory `m` has ended: its parts of the whole arrays with chips and parts exchanged. -/
theorem run_whole (m : (ℓ : Loc nD τ sig) → Buf (Elt F) ℓ) (g : Dev nD → PrngReg) (W : Whole F) (h : Holds m W) :
    θ_run (defs (F := F)) (onTc (τ := τ) main) ⟨m, fun _ => 0, g⟩ (fun r => ∀ c : Dev nD,
      r.2.mem ((c.tc : Thread nD τ).loc main_v1_0) = Layout.block (Part 2048 564) (Parts 2048 564) 0 8 c
        (swapped W.win shapeCasts_S32x2048x564_S4x2x4x2048x564 transposes_S4x2x4x2048x564_S4x2x4x2048x564_2_1_0_3_4 shapeCasts_S4x2x4x2048x564_S32x2048x564)
      ∧ r.2.mem ((c.tc : Thread nD τ).loc main_v1_1) = Layout.block (Part 256 2048) (Parts 256 2048) 0 8 c
        (swapped W.wout shapeCasts_S32x256x2048_S4x2x4x256x2048 transposes_S4x2x4x256x2048_S4x2x4x256x2048_2_1_0_3_4 shapeCasts_S4x2x4x256x2048_S32x256x2048)
      ∧ r.2.mem ((c.tc : Thread nD τ).loc main_v1_2) = Layout.block (Part 2048 1024) (Parts 2048 1024) 0 8 c
        (swapped W.w1 shapeCasts_S32x2048x1024_S4x2x4x2048x1024 transposes_S4x2x4x2048x1024_S4x2x4x2048x1024_2_1_0_3_4 shapeCasts_S4x2x4x2048x1024_S32x2048x1024)
      ∧ r.2.mem ((c.tc : Thread nD τ).loc main_v1_3) = Layout.block (Part 1024 2048) (Parts 1024 2048) 0 8 c
        (swapped W.w2 shapeCasts_S32x1024x2048_S4x2x4x1024x2048 transposes_S4x2x4x1024x2048_S4x2x4x1024x2048_2_1_0_3_4 shapeCasts_S4x2x4x1024x2048_S32x1024x2048)
      ∧ r.2.mem ((c.tc : Thread nD τ).loc main_v1_4) = Layout.block (Part 128 1024) (Parts 128 1024) 0 8 c
        (swapped W.glu shapeCasts_S32x128x1024_S4x2x4x128x1024 transposes_S4x2x4x128x1024_S4x2x4x128x1024_2_1_0_3_4 shapeCasts_S4x2x4x128x1024_S32x128x1024)
      ∧ r.2.mem ((c.tc : Thread nD τ).loc main_v1_5) = Layout.block (Part 432 128) (Parts 432 128) 0 8 c
        (swapped W.rk shapeCasts_S32x432x128_S4x2x4x432x128 transposes_S4x2x4x432x128_S4x2x4x432x128_2_1_0_3_4 shapeCasts_S4x2x4x432x128_S32x432x128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run _ _ _).mono (fun r hr c => ?_) (run_exchanged m g)
  obtain ⟨hv, ha, -⟩ := hr
  refine ⟨(hv 0 c).trans ?_, (hv 1 c).trans ?_, (hv 2 c).trans ?_, (hv 3 c).trans ?_, (hv 4 c).trans ?_, (hv 5 c).trans ?_,
    ha 0 c, ha 1 c, ha 2 c, ha 3 c, ha 4 c, ha 5 c⟩
  · exact gathered_blocks W.win (by decide) _ _ _ c (held m 0) fun d => (h d).1
  · exact gathered_blocks W.wout (by decide) _ _ _ c (held m 1) fun d => (h d).2.1
  · exact gathered_blocks W.w1 (by decide) _ _ _ c (held m 2) fun d => (h d).2.2.1
  · exact gathered_blocks W.w2 (by decide) _ _ _ c (held m 3) fun d => (h d).2.2.2.1
  · exact gathered_blocks W.glu (by decide) _ _ _ c (held m 4) fun d => (h d).2.2.2.2.1
  · exact gathered_blocks W.rk (by decide) _ _ _ c (held m 5) fun d => (h d).2.2.2.2.2

end Cert.ChipsIdeal

namespace Cert.Proof

open Idealize.ShloMosaic Idealize.SL.Sem
open Cert.ChipsIdeal (run_exchanged run_whole)

theorem chips_frame : Cert.quiescent_Chips := fun m g _ =>
  (θ_run Cert.ChipsIdeal.defs _ _).mono (fun _ h =>
    ⟨fun c => ⟨h.2.1 0 c, h.2.1 1 c, h.2.1 2 c, h.2.1 3 c, h.2.1 4 c, h.2.1 5 c⟩, h.2.2⟩) (run_exchanged (F := Bits) m g)

theorem chips_frame_ideal : Cert.quiescent_ChipsIdeal := fun m g _ =>
  (θ_run Cert.ChipsIdeal.defs _ _).mono (fun _ h =>
    ⟨fun c => ⟨h.2.1 0 c, h.2.1 1 c, h.2.1 2 c, h.2.1 3 c, h.2.1 4 c, h.2.1 5 c⟩, h.2.2⟩) (run_exchanged (F := Ideal) m g)

theorem chips_reference_frame : Cert.quiescent_ChipsReference := fun m g _ =>
  (θ_run Cert.ChipsReference.defs _ _).mono (fun r h => ⟨fun c => (h c).2.2.2.2.2.2, sem_eq_zero_of_no_sems (by decide) r.2⟩) (Cert.ChipsReference.Value.run (F := Bits) m g)

theorem chips_reference_frame_ideal : Cert.quiescent_ChipsReferenceIdeal := fun m g _ =>
  (θ_run Cert.ChipsReferenceIdeal.defs _ _).mono (fun r h => ⟨fun c => (h c).2.2.2.2.2.2, sem_eq_zero_of_no_sems (by decide) r.2⟩) (Cert.ChipsReferenceIdeal.Value.run (F := Ideal) m g)

theorem chips_bitexact : Cert.bitexact_Chips_ChipsReference := fun m g m' g' _ hp =>
  ⟨_, _, _, _, _, _,
    run_whole (F := Bits) m g ⟨m' (((0 : Dev 1).tc).loc ChipsReference.main_arg0), m' (((0 : Dev 1).tc).loc ChipsReference.main_arg1), m' (((0 : Dev 1).tc).loc ChipsReference.main_arg2),
      m' (((0 : Dev 1).tc).loc ChipsReference.main_arg3), m' (((0 : Dev 1).tc).loc ChipsReference.main_arg4), m' (((0 : Dev 1).tc).loc ChipsReference.main_arg5)⟩ hp,
    (θ_run Cert.ChipsReference.defs _ _).mono (fun _ h => h 0) (Cert.ChipsReference.Value.run (F := Bits) m' g')⟩

theorem chips_algebraic : Cert.algebraic_ChipsIdeal_ChipsReferenceIdeal := fun m g m' g' _ hp =>
  ⟨_, _, _, _, _, _,
    run_whole (F := Ideal) m g ⟨m' (((0 : Dev 1).tc).loc ChipsReferenceIdeal.main_arg0), m' (((0 : Dev 1).tc).loc ChipsReferenceIdeal.main_arg1), m' (((0 : Dev 1).tc).loc ChipsReferenceIdeal.main_arg2),
      m' (((0 : Dev 1).tc).loc ChipsReferenceIdeal.main_arg3), m' (((0 : Dev 1).tc).loc ChipsReferenceIdeal.main_arg4), m' (((0 : Dev 1).tc).loc ChipsReferenceIdeal.main_arg5)⟩ hp,
    (θ_run Cert.ChipsReferenceIdeal.defs _ _).mono (fun _ h => h 0) (Cert.ChipsReferenceIdeal.Value.run (F := Ideal) m' g')⟩

end Cert.Proof

end
-- ==== Proof.SmallLaunch.lean ====
/-
The gather of the small gradients is the two-level gather of one array.
-/
module

public import proofs.«01_k».proof.Proof.Gen.SmallIdeal.Points
public import proofs.«01_k».proof.Proof.Gen.SmallIdeal.Launch
public import proofs.«01_k».proof.Proof.GatherDeal

@[expose] public section

noncomputable section

namespace Cert.SmallIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.Gather

/-! ## The copies -/

/-- The slots and devices as the program computes them. -/
def net : Net where
  off := ![k0_off1, k0_off5, k0_off2, k0_off3, k0_off4, k0_off6, k0_off7, k0_off8]
  hoff := by decide +kernel
  dev k d := ⟨(![k0_dev1, k0_dev2, k0_dev3, k0_dev4, k0_dev5, k0_dev6, k0_dev7] : Fin 7 → Dev nD → Nat) k d, by revert k d; decide +kernel⟩
  hdev := by decide +kernel

theorem sq2 : S1x1.Squeezes S_ := by decide
theorem sq1 : S1.Squeezes S_ := by decide
theorem inb2 : ∀ (i : Fin 1) (k : Fin 7) (a : Fin 2), (![i.val, k.val] : Fin 2 → Nat) a + S1x1.size a ≤ S1x7.size a := by decide
theorem inb1 : ∀ (i : Fin 1) (a : Fin 1), (![i.val] : Fin 1 → Nat) a + S1.size a ≤ S1.size a := by decide

/-- The pack and its semaphores. -/
def kit : Kit sig net (Fin 1) where
  arr _ := ⟨2504, 128, .f32, Memref.whole main_arg0, Memref.whole main_v1, by decide, rfl, (Memref.isWhole_whole _).wordExact, fun w d => (View.wordExact_bits rfl).reshape _ _⟩
  all := [0]
  sendS x := ((cc0_scratch0.slice (Rect.unit (s := S1x7) ![x.2.val, x.1.val] S1x1.size (inb2 x.2 x.1))).squeeze S_ sq2).sem
  recvS x := ((cc0_scratch1.slice (Rect.unit (s := S1x7) ![x.2.val, x.1.val] S1x1.size (inb2 x.2 x.1))).squeeze S_ sq2).sem
  locS i := ((cc0_scratch2.slice (Rect.unit (s := S1) ![i.val] S1.size (inb1 i))).squeeze S_ sq1).sem

variable {F : FTy → Type} [FloatOps F]

theorem body_eq (t : Fin cfg0.N) : Gen.bodyAt0 (F := F) t = Prog.op .deviceId fun d => prog kit (τ := τ) (Elt F) Λ₀ d := by
  rfl

theorem osem_inj : Function.Injective kit.osem := by
  have : ∀ o o', kit.osem o = kit.osem o' → o = o' := by decide +kernel
  exact fun o o' => this o o'

/-! ## The blocks -/

/-- What device `c` holds. -/
def block (m : (ℓ : Loc nD τ sig) → Buf (Elt F) ℓ) (c : Dev 8) : Buf (Elt F) ((c.tc : Thread 8 τ).loc main_arg0) := m ((c.tc : Thread 8 τ).loc main_arg0)

/-- Every device's block, stacked. -/
def stacked (m : (ℓ : Loc nD τ sig) → Buf (Elt F) ℓ) (c : Dev 8) : Buf (Elt F) ((c.tc : Thread 8 τ).loc main_v1) := stack (r := 2504) (k := 128) (block m)

theorem slot_stacked (m : (ℓ : Loc nD τ sig) → Buf (Elt F) ℓ) (i : Fin 1) (c b : Dev 8) :
    ((kit.arr i).slot b).view.read (Elt F) (stacked m c) = (kit.arr i).src.view.read (Elt F) (block m b) := by
  funext x
  exact (slot_read (kit.arr i).out (kit.arr i).hsq b (stacked m c) x).trans rfl

/-- The gather of what memory `m` holds. -/
def data (m : (ℓ : Loc nD τ sig) → Buf (Elt F) ℓ) : Data kit τ (Elt F) where
  inj := osem_inj
  allNd := by decide
  allAll := by decide
  sentNd := by decide +kernel
  sentAll := by decide +kernel
  arrNd := by decide +kernel
  arrAll := by decide +kernel
  pos i := by show 0 < (Flat 2504 128).numel; decide
  credit i := rfl
  X _ := block m
  G _ := stacked m
  hG i c b := slot_stacked m i c b

/-! ## What is dealt -/

/-- The arrays of the call: the argument and the result. -/
def arrRef : Fin 1 ⊕ Fin 1 → Ref sig .tc
  | .inl _ => main_arg0
  | .inr _ => main_v1

theorem arrRef_inj : Function.Injective arrRef := by decide

local notation "𝕄" => MT 8 τ sig Unit (Elt F) ℕ (UU 8 τ sig) ℕ

theorem src_set (i : Fin 1) : (kit.arr i).src.view.set = Finset.univ := View.set_whole _
theorem out_set (i : Fin 1) : (kit.arr i).out.view.set = Finset.univ := View.set_whole _

theorem bufs_held (m : (ℓ : Loc nD τ sig) → Buf (Elt F) ℓ) (c : Dev 8) (i : Fin 1) :
    ((((c.tc : Thread 8 τ).loc (arrRef (.inl i))) ↦{fullShare} m ((c.tc : Thread 8 τ).loc (arrRef (.inl i)))) : sProp 𝕄) ⊢ (data m).held c i := by
  unfold Data.held
  rw [src_set]
  exact .rfl

theorem bufs_blank (m : (ℓ : Loc nD τ sig) → Buf (Elt F) ℓ) (c : Dev 8) (i : Fin 1) :
    ((((c.tc : Thread 8 τ).loc (arrRef (.inr i))) ↦{fullShare} m ((c.tc : Thread 8 τ).loc (arrRef (.inr i)))) : sProp 𝕄) ⊢ (data m).blank c i := by
  unfold Data.blank
  rw [out_set]
  iintro H
  iexists _
  iexact H

theorem deal (m : (ℓ : Loc nD τ sig) → Buf (Elt F) ℓ) :
    (bigSep Finset.univ fun c : Dev 8 => (unscopedBufs c fun b => m ((c.tc : Thread 8 τ).loc b) : sProp 𝕄)) ⊢ bigSep Finset.univ (data m).mem := by
  refine (bigSep_mono fun c _ => ?_).trans (data m).deal_mem
  rw [bufs_named arrRef arrRef_inj (by decide) c, bigSep_univ_sum]
  exact sep_mono (bigSep_mono fun i _ => bufs_held m c i) (bigSep_mono fun i _ => bufs_blank m c i)

/-! ## The run -/

theorem ownSems : Pipeline.OwnSemFacts (cfgs 0).spec kit.osem :=
  ⟨by decide, osem_inj, fun _ w => w.elim0⟩

variable [∀ e, Nonempty (Elt F e)]

/-- Every run ends; each device then holds the blocks of all, its own argument as it was, and no semaphore is raised. -/
theorem run_main (m : (ℓ : Loc nD τ sig) → Buf (Elt F) ℓ) (g : Dev nD → PrngReg) :
    θ_run (defs (F := F)) (onTc (τ := τ) main) ⟨m, fun _ => 0, g⟩
      (fun r => (∀ c x, ∀ i ∈ (data m).on c x, r.2.mem ((data m).at c x) i = (data m).fin c x i) ∧ r.2.sem = fun _ => 0) := by
  refine Proto.θ_run_exchange (data m).proto cfgs Gen.N_0 Gen.cellOf_inj Gen.winFacts0 ownSems (by decide) (fun c => Gen.scopedRest0_eq c) defs₀ m g main
    (fun c => (Gen.main_chain c).trans rfl) (data m).mem (deal m) (data m).at (data m).on (data m).fin fun c κ t => ?_
  have h := (data m).body (defs := defs₀ (F := F)) (𝒱 := .none) κ c
  have e : defs₀ (F := F) .tc (cfgs 0).body ((cfgs 0).bodyArgs t ((cfgs 0).slots t)) = Prog.op .deviceId fun d => prog kit (τ := τ) (Elt F) Λ₀ d :=
    (show _ = Gen.bodyAt0 (F := F) t from rfl).trans (body_eq t)
  simp only [e]
  exact h

/-- Every run ends with all blocks stacked on every device. -/
theorem run_stacked (m : (ℓ : Loc nD τ sig) → Buf (Elt F) ℓ) (g : Dev nD → PrngReg) :
    θ_run (defs (F := F)) (onTc (τ := τ) main) ⟨m, fun _ => 0, g⟩
      (fun r => (∀ c : Dev 8, r.2.mem ((c.tc : Thread 8 τ).loc main_v1) = stacked m c ∧ r.2.mem ((c.tc : Thread 8 τ).loc main_arg0) = m ((c.tc : Thread 8 τ).loc main_arg0))
        ∧ r.2.sem = fun _ => 0) :=
  (θ_run _ _ _).mono (fun _ h =>
    ⟨fun c => ⟨funext fun z => h.1 c (.inr 0) z ((Finset.ext_iff.mp (out_set 0) z).mpr (Finset.mem_univ z)),
      funext fun z => h.1 c (.inl 0) z ((Finset.ext_iff.mp (src_set 0) z).mpr (Finset.mem_univ z))⟩, h.2⟩) (run_main m g)

end Cert.SmallIdeal

end
-- ==== Proof.SmallValue.lean ====
/-
The gather of the small gradients against the array of all packs, and the claims about it.
-/
module

public import proofs.«01_k».proof.Defs
public import proofs.«01_k».proof.Proof.Blocks
public import proofs.«01_k».proof.Proof.SmallLaunch
public import proofs.«01_k».proof.Proof.Gen.Small
public import proofs.«01_k».proof.Proof.Gen.SmallReference.Run
public import proofs.«01_k».proof.Proof.Gen.SmallReferenceIdeal.Run

@[expose] public section

noncomputable section

namespace Cert.SmallIdeal

open Idealize.ShloMosaic Idealize.ShloMosaic.TcCoe
open Idealize.SL Idealize.SL.Sem
open Cert.Gather

variable {F : FTy → Type} [FloatOps F] [∀ e, Nonempty (Elt F e)]

/-- What every device holds when the gather of memory `m` has ended: all packs. -/
theorem run_whole (m : (ℓ : Loc nD τ sig) → Buf (Elt F) ℓ) (g : Dev nD → PrngReg) (v : (⟨2, ![20032, 128]⟩ : Shape).Idx → Elt F .f32)
    (h : ∀ c : Dev nD, m ((c.tc : Thread nD τ).loc main_arg0) = Layout.block ⟨2, ![2504, 128]⟩ ⟨2, ![20032, 128]⟩ 0 8 c v) :
    θ_run (defs (F := F)) (onTc (τ := τ) main) ⟨m, fun _ => 0, g⟩ (fun r => ∀ c : Dev nD,
      r.2.mem ((c.tc : Thread nD τ).loc main_v1) = shapeCast _ v SmallReferenceIdeal.Facts₀.shapeCasts_S20032x128_S8x2504x128
      ∧ r.2.mem ((c.tc : Thread nD τ).loc main_arg0) = m ((c.tc : Thread nD τ).loc main_arg0)) := by
  refine (θ_run _ _ _).mono (fun r hr c => ⟨(hr.1 c).1.trans ?_, (hr.1 c).2⟩) (run_stacked m g)
  exact (congrArg stack (funext fun b => h b)).trans (stack_rows v (by decide) _).symm

end Cert.SmallIdeal

namespace Cert.Proof

open Idealize.ShloMosaic Idealize.SL.Sem
open Cert.SmallIdeal (run_stacked run_whole)

theorem small_frame : Cert.quiescent_Small := fun m g _ =>
  (θ_run Cert.SmallIdeal.defs _ _).mono (fun _ h => ⟨fun c => (h.1 c).2, h.2⟩) (run_stacked (F := Bits) m g)

theorem small_frame_ideal : Cert.quiescent_SmallIdeal := fun m g _ =>
  (θ_run Cert.SmallIdeal.defs _ _).mono (fun _ h => ⟨fun c => (h.1 c).2, h.2⟩) (run_stacked (F := Ideal) m g)

theorem small_reference_frame : Cert.quiescent_SmallReference := fun m g _ =>
  (θ_run Cert.SmallReference.defs _ _).mono (fun r h => ⟨fun c => (h c).2, sem_eq_zero_of_no_sems (by decide) r.2⟩) (Cert.SmallReference.Value.run (F := Bits) m g)

theorem small_reference_frame_ideal : Cert.quiescent_SmallReferenceIdeal := fun m g _ =>
  (θ_run Cert.SmallReferenceIdeal.defs _ _).mono (fun r h => ⟨fun c => (h c).2, sem_eq_zero_of_no_sems (by decide) r.2⟩) (Cert.SmallReferenceIdeal.Value.run (F := Ideal) m g)

theorem small_bitexact : Cert.bitexact_Small_SmallReference := fun m g m' g' _ hp =>
  ⟨_, run_whole (F := Bits) m g (m' (((0 : Dev 1).tc).loc SmallReference.main_arg0)) hp,
    (θ_run Cert.SmallReference.defs _ _).mono (fun _ h => h 0) (Cert.SmallReference.Value.run (F := Bits) m' g')⟩

theorem small_algebraic : Cert.algebraic_SmallIdeal_SmallReferenceIdeal := fun m g m' g' _ hp =>
  ⟨_, run_whole (F := Ideal) m g (m' (((0 : Dev 1).tc).loc SmallReferenceIdeal.main_arg0)) hp,
    (θ_run Cert.SmallReferenceIdeal.defs _ _).mono (fun _ h => h 0) (Cert.SmallReferenceIdeal.Value.run (F := Ideal) m' g')⟩

end Cert.Proof

end
-- ==== Proof.CondLaunch.lean ====
/-
The gather of the condition blocks: every device writes its block into its own slot of the result of every device.  The
eight copies read the block at once, each on an eighth of its share.
-/
module

public import proofs.«01_k».proof.Proof.Gen.CondIdeal.Points
public import proofs.«01_k».proof.Proof.Gen.CondIdeal.Launch
public import proofs.«01_k».proof.Proof.Slots
public import proofs.«01_k».proof.Proof.GatherDeal

@[expose] public section

noncomputable section

namespace Cert.CondIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Exchange Cert.OneShot Cert.Slots
open Cert.Gather (One Flat stack)

/-! ## The copies -/

/-- The block, and the result. -/
abbrev src : Memref sig .tc .hbm (Flat 1 2048) .f32 := Memref.whole main_arg0
abbrev out : Memref sig .tc .hbm (Many 8 1 2048) .f32 := Memref.whole main_v1

theorem hsq : (One 1 2048).Squeezes (Flat 1 2048) := by decide
theorem hoff : ∀ d : Dev 8, k0_off1 d = ![d.val, 0, 0] := by decide +kernel

/-- The slot of device `d`. -/
abbrev own (d : Dev 8) : Memref sig .tc .hbm (Flat 1 2048) .f32 := slot out hsq (k0_off1 d) (inb (w := 8) d (hoff d))

/-- The targets, as the program computes them. -/
def peer (j : Fin 7) (d : Dev 8) : Dev 8 :=
  ⟨(![k0_dev1, k0_dev2, k0_dev3, k0_dev4, k0_dev5, k0_dev6, k0_dev7] : Fin 7 → Dev nD → Nat) j d, by revert j d; decide +kernel⟩

theorem peer_peer : ∀ j d, peer j (peer j d) = d := by decide +kernel

/-- A device and its seven targets. -/
def who (c : Dev 8) : Fin 8 → Dev 8 := Fin.cons c fun j => peer j c
theorem who_bij : ∀ c, Function.Bijective (who c) := by decide +kernel

theorem sq2 : S1x1.Squeezes S_ := by decide
theorem sq1 : S1.Squeezes S_ := by decide
theorem inb2 : ∀ (j : Fin 7) (a : Fin 2), (![0, j.val] : Fin 2 → Nat) a + S1x1.size a ≤ S1x7.size a := by decide
theorem inb1 : ∀ (a : Fin 1), (![0] : Fin 1 → Nat) a + S1.size a ≤ S1.size a := by decide

/-- The gather. -/
def kit : Kit sig (Fin 7) (Fin 1) where
  far := ⟨fun _ => Flat 1 2048, fun _ => .f32, fun _ _ => src, fun _ d => own d, fun _ _ => (Memref.isWhole_whole _).wordExact,
    fun _ _ => (View.wordExact_bits rfl).reshape _ _⟩
  near := ⟨fun _ => Flat 1 2048, fun _ => .f32, fun _ _ => src, fun _ d => own d, fun _ _ => (Memref.isWhole_whole _).wordExact,
    fun _ _ => (View.wordExact_bits rfl).reshape _ _⟩
  hsc _ _ := rfl
  peer := peer
  sendS j := ((cc0_scratch0.slice (Rect.unit (s := S1x7) ![0, j.val] S1x1.size (inb2 j))).squeeze S_ sq2).sem
  recvS j := ((cc0_scratch1.slice (Rect.unit (s := S1x7) ![0, j.val] S1x1.size (inb2 j))).squeeze S_ sq2).sem
  locS _ := ((cc0_scratch2.slice (Rect.unit (s := S1) ![0] S1.size inb1)).squeeze S_ sq1).sem
  locals := [0]
  sends := [0, 1, 2, 3, 4, 5, 6]
  waits := [0, 1, 2, 3, 4, 5, 6].map rcv ++ [0, 1, 2, 3, 4, 5, 6].map snd ++ [loc 0]

variable {F : FTy → Type} [FloatOps F]

theorem body_eq (t : Fin cfg0.N) : Gen.bodyAt0 (F := F) t = Prog.op .deviceId fun d => prog kit (τ := τ) (Elt F) Λ₀ d := by
  rfl

theorem osem_inj : Function.Injective kit.osem := by
  have : ∀ o o', kit.osem o = kit.osem o' → o = o' := by decide +kernel
  exact fun o o' => this o o'

/-! ## The blocks -/

/-- What device `c` holds. -/
def block (m : (ℓ : Loc nD τ sig) → Buf (Elt F) ℓ) (c : Dev 8) : Buf (Elt F) ((c.tc : Thread 8 τ).loc main_arg0) := m ((c.tc : Thread 8 τ).loc main_arg0)

/-- Every device's block, stacked. -/
def stacked (m : (ℓ : Loc nD τ sig) → Buf (Elt F) ℓ) (c : Dev 8) : Buf (Elt F) ((c.tc : Thread 8 τ).loc main_v1) := stack (r := 1) (k := 2048) (block m)

/-- The slot of device `d` reads the block of `d`. -/
theorem own_read (m : (ℓ : Loc nD τ sig) → Buf (Elt F) ℓ) (c d : Dev 8) : (own d).view.read (Elt F) (stacked m c) = src.view.read (Elt F) (block m d) := by
  funext x
  exact (slot_read out hsq (w := 8) d (hoff d) _ (stacked m c) x).trans rfl

/-- The gather of what memory `m` holds. -/
def data (m : (ℓ : Loc nD τ sig) → Buf (Elt F) ℓ) : Data kit τ (Elt F) where
  inj := osem_inj
  inv := peer_peer
  localsNd := by decide
  localsAll := by decide
  sendsNd := by decide
  sendsAll := by decide
  waitsNd := by decide +kernel
  waitsAll o := by
    have h : ∀ j : Fin 7, j ∈ [0, 1, 2, 3, 4, 5, 6] := by decide
    rcases o with j | j | i
    · exact List.mem_append_left _ (List.mem_append_right _ (List.mem_map_of_mem (h j)))
    · exact List.mem_append_left _ (List.mem_append_left _ (List.mem_map_of_mem (h j)))
    · exact List.mem_append_right _ (List.mem_singleton.mpr (congrArg loc (Subsingleton.elim i 0)))
  pos _ := by show 0 < (Flat 1 2048).numel; decide
  lpos _ := by show 0 < (Flat 1 2048).numel; decide
  credit j d := rfl
  sent j d := rfl
  lcredit i d := rfl
  q j := ShareLeaves.leaf 3 fullShare (j.succ : Fin 8)
  lq _ := ShareLeaves.leaf 3 fullShare (0 : Fin 8)
  X _ d := block m d
  G j d := stacked m (peer j d)
  hG j d := own_read m (peer j d) d
  lX _ d := block m d
  lG _ d := stacked m d
  hlG _ d := own_read m d d

/-! ## What is dealt -/

/-- The arrays of the call: the argument and the result. -/
def arrRef : Fin 1 ⊕ Fin 1 → Ref sig .tc
  | .inl _ => main_arg0
  | .inr _ => main_v1

theorem arrRef_inj : Function.Injective arrRef := by decide

local notation "𝕄" => MT 8 τ sig Unit (Elt F) ℕ (UU 8 τ sig) ℕ

variable (m : (ℓ : Loc nD τ sig) → Buf (Elt F) ℓ) (c : Dev 8)

theorem src_set : src.view.set = Finset.univ := View.set_whole _
theorem out_set : out.view.set = Finset.univ := View.set_whole _

theorem one (Φ : Fin 1 → sProp 𝕄) : bigSep Finset.univ Φ = Φ 0 := by
  rw [Finset.univ_unique, bigSep_singleton]; rfl

/-- The block, whole, is the parts that the eight copies read. -/
theorem src_parts :
    (src.view.loc (c : Thread 8 τ) ↦[src.view.set]{fullShare} block m c : sProp 𝕄)
      = iprop((bigSep Finset.univ fun i => (data m).lout c i) ∗ bigSep Finset.univ fun j => (data m).out c j) := by
  rw [one]
  exact (ShareLeaves.pointsTo_leaves _ _ 3 fullShare).trans (head fun w : Fin 8 =>
    (src.view.loc (c : Thread 8 τ) ↦[src.view.set]{ShareLeaves.leaf 3 fullShare w} block m c : sProp 𝕄))

/-- The result is its slots: the own one, and those of the targets. -/
theorem out_parts (f : Buf (Elt F) (out.view.loc (c : Thread 8 τ))) :
    (out.view.loc (c : Thread 8 τ) ↦[out.view.set]{fullShare} f : sProp 𝕄)
      = iprop((out.view.loc (c : Thread 8 τ) ↦[(own c).view.set]{fullShare} f)
          ∗ bigSep Finset.univ fun j => (out.view.loc (c : Thread 8 τ) ↦[(own (peer j c)).view.set]{fullShare} f)) := by
  rw [split out (who c) (who_bij c) c f]
  have h (d : Dev 8) : slotSet out d = (own d).view.set := (slot_set out hsq (w := 8) d (hoff d) (inb (w := 8) d (hoff d))).symm
  refine congrArg₂ _ (congrArg (fun s => (out.view.loc (c : Thread 8 τ) ↦[s]{fullShare} f : sProp 𝕄)) (h c)) (bigSep_congr fun j _ => ?_)
  exact congrArg (fun s => (out.view.loc (c : Thread 8 τ) ↦[s]{fullShare} f : sProp 𝕄)) (h (peer j c))

theorem free_of (j : Fin 7) (f : Buf (Elt F) (out.view.loc (c : Thread 8 τ))) :
    (out.view.loc (c : Thread 8 τ) ↦[(own (peer j c)).view.set]{fullShare} f : sProp 𝕄) ⊢ (data m).free (peer j c) j := by
  have h (d e : Dev 8) (he : peer j e = d) (g : Buf (Elt F) (out.view.loc (d : Thread 8 τ))) :
      (out.view.loc (d : Thread 8 τ) ↦[(own e).view.set]{fullShare} g : sProp 𝕄) ⊢ (data m).free e j := by
    subst he
    unfold Data.free
    iintro H
    iexists g
    iexact H
  exact h c (peer j c) (peer_peer j c) f

theorem lfree_of (f : Buf (Elt F) (out.view.loc (c : Thread 8 τ))) :
    (out.view.loc (c : Thread 8 τ) ↦[(own c).view.set]{fullShare} f : sProp 𝕄) ⊢ bigSep Finset.univ fun i => (data m).lfree c i := by
  rw [one]
  unfold Data.lfree
  iintro H
  iexists f
  iexact H

theorem land_eq (j : Fin 7) :
    (data m).land (peer j c) j = (out.view.loc (c : Thread 8 τ) ↦[(own (peer j c)).view.set]{fullShare} stacked m c : sProp 𝕄) := by
  have h (d e : Dev 8) (he : peer j e = d) :
      (data m).land e j = (out.view.loc (d : Thread 8 τ) ↦[(own e).view.set]{fullShare} stacked m d : sProp 𝕄) := by
    subst he; rfl
  exact h c (peer j c) (peer_peer j c)

theorem deal : (bigSep Finset.univ fun c : Dev 8 => (unscopedBufs c fun b => m ((c.tc : Thread 8 τ).loc b) : sProp 𝕄)) ⊢ bigSep Finset.univ (data m).mem := by
  rw [← (data m).deal_mem]
  refine bigSep_mono fun c _ => ?_
  rw [bufs_named arrRef arrRef_inj (by decide) c, bigSep_univ_sum, one, one]
  have h1 : (((c.tc : Thread 8 τ).loc main_arg0) ↦{fullShare} m ((c.tc : Thread 8 τ).loc main_arg0) : sProp 𝕄)
      ⊢ iprop((bigSep Finset.univ fun i => (data m).lout c i) ∗ bigSep Finset.univ fun j => (data m).out c j) := by
    rw [← src_parts, src_set]; exact .rfl
  have h2 : (((c.tc : Thread 8 τ).loc main_v1) ↦{fullShare} m ((c.tc : Thread 8 τ).loc main_v1) : sProp 𝕄)
      ⊢ iprop((bigSep Finset.univ fun i => (data m).lfree c i) ∗ bigSep Finset.univ fun j => (data m).free (peer j c) j) := by
    have h3 := Idealize.SL.BI.Laws.sep_mono (lfree_of m c (m (out.view.loc (c : Thread 8 τ)))) (bigSep_mono fun j (_ : j ∈ Finset.univ) => free_of m c j (m (out.view.loc (c : Thread 8 τ))))
    rw [← out_parts, out_set] at h3
    exact h3
  refine (Idealize.SL.BI.Laws.sep_mono h1 h2).trans ?_
  iintro ⟨⟨H1, H2⟩, H3, H4⟩
  isplitl [H2 H4]
  · isplitl [H2]
    · iexact H2
    · iexact H4
  isplitl [H1] <;> iassumption

/-! ## The run -/

/-- What the arrays hold in the end. -/
def final : (x : Fin 1 ⊕ Fin 1) → Buf (Elt F) ((c.tc : Thread 8 τ).loc (arrRef x))
  | .inl _ => block m c
  | .inr _ => stacked m c

theorem fin_final : (data m).fin c ⊢ bigSep Finset.univ fun x => (((c.tc : Thread 8 τ).loc (arrRef x)) ↦[Finset.univ]{fullShare} final m c x : sProp 𝕄) := by
  rw [bigSep_univ_sum, one, one]
  have h1 : iprop((bigSep Finset.univ fun i => (data m).lout c i) ∗ bigSep Finset.univ fun j => (data m).out c j)
      ⊢ (((c.tc : Thread 8 τ).loc main_arg0) ↦[Finset.univ]{fullShare} block m c : sProp 𝕄) := by
    rw [← src_parts, src_set]
  have h2 : iprop((bigSep Finset.univ fun i => (data m).lland c i) ∗ bigSep Finset.univ fun j => (data m).land (peer j c) j)
      ⊢ (((c.tc : Thread 8 τ).loc main_v1) ↦[Finset.univ]{fullShare} stacked m c : sProp 𝕄) := by
    rw [one, bigSep_congr fun j _ => land_eq m c j]
    have h3 := Entails.of_eq (out_parts c (stacked m c)).symm
    rw [out_set] at h3
    exact h3
  refine BIBase.Entails.trans ?_ (Idealize.SL.BI.Laws.sep_mono h1 h2)
  unfold Data.fin
  iintro ⟨⟨H1, H2⟩, H3, H4⟩
  isplitl [H1 H3]
  · isplitl [H3] <;> iassumption
  isplitl [H4]
  · iexact H4
  · iexact H2

theorem ownSems : Pipeline.OwnSemFacts (cfgs 0).spec kit.osem :=
  ⟨by decide +kernel, osem_inj, fun _ w => w.elim0⟩

variable [∀ e, Nonempty (Elt F e)]

/-- Every run ends; each device then holds the blocks of all, its own argument as it was, and no semaphore is raised. -/
theorem run_main (g : Dev nD → PrngReg) :
    θ_run (defs (F := F)) (onTc (τ := τ) main) ⟨m, fun _ => 0, g⟩
      (fun r => (∀ (c : Dev 8) x, ∀ i ∈ (Finset.univ : Finset (Idx ((c.tc : Thread 8 τ).loc (arrRef x)))), r.2.mem ((c.tc : Thread 8 τ).loc (arrRef x)) i = final m c x i)
        ∧ r.2.sem = fun _ => 0) := by
  refine Proto.θ_run_exchange (data m).proto cfgs Gen.N_0 Gen.cellOf_inj Gen.winFacts0 ownSems (by decide +kernel) (fun c => Gen.scopedRest0_eq c) defs₀ m g main
    (fun c => (Gen.main_chain c).trans rfl) (data m).mem (deal m) (fun c x => (c.tc : Thread 8 τ).loc (arrRef x)) (fun c x => Finset.univ) (final m) fun c κ t => ?_
  have h := (data m).body (defs := defs₀ (F := F)) (𝒱 := .none) κ c _ (fin_final m c)
  have e : defs₀ (F := F) .tc (cfgs 0).body ((cfgs 0).bodyArgs t ((cfgs 0).slots t)) = Prog.op .deviceId fun d => prog kit (τ := τ) (Elt F) Λ₀ d :=
    (show _ = Gen.bodyAt0 (F := F) t from rfl).trans (body_eq t)
  simp only [e]
  exact h

/-- Every run ends with all blocks stacked on every device. -/
theorem run_stacked (g : Dev nD → PrngReg) :
    θ_run (defs (F := F)) (onTc (τ := τ) main) ⟨m, fun _ => 0, g⟩
      (fun r => (∀ c : Dev 8, r.2.mem ((c.tc : Thread 8 τ).loc main_v1) = stacked m c ∧ r.2.mem ((c.tc : Thread 8 τ).loc main_arg0) = m ((c.tc : Thread 8 τ).loc main_arg0))
        ∧ r.2.sem = fun _ => 0) :=
  (θ_run _ _ _).mono (fun _ h =>
    ⟨fun c => ⟨funext fun z => h.1 c (.inr 0) z (Finset.mem_univ z), funext fun z => h.1 c (.inl 0) z (Finset.mem_univ z)⟩, h.2⟩) (run_main m g)

end Cert.CondIdeal

end
-- ==== Proof.CondValue.lean ====
/-
The gather of the condition blocks against the array of all of them, and the claims about it.
-/
module

public import proofs.«01_k».proof.Defs
public import proofs.«01_k».proof.Proof.Blocks
public import proofs.«01_k».proof.Proof.CondLaunch
public import proofs.«01_k».proof.Proof.Gen.Cond
public import proofs.«01_k».proof.Proof.Gen.CondReference.Run
public import proofs.«01_k».proof.Proof.Gen.CondReferenceIdeal.Run

@[expose] public section

noncomputable section

namespace Cert.CondIdeal

open Idealize.ShloMosaic Idealize.ShloMosaic.TcCoe
open Idealize.SL Idealize.SL.Sem
open Cert.Gather

variable {F : FTy → Type} [FloatOps F] [∀ e, Nonempty (Elt F e)]

/-- What every device holds when the gather of memory `m` has ended: all blocks. -/
theorem run_whole (m : (ℓ : Loc nD τ sig) → Buf (Elt F) ℓ) (g : Dev nD → PrngReg) (v : (⟨2, ![8, 2048]⟩ : Shape).Idx → Elt F .f32)
    (h : ∀ c : Dev nD, m ((c.tc : Thread nD τ).loc main_arg0) = Layout.block ⟨2, ![1, 2048]⟩ ⟨2, ![8, 2048]⟩ 0 8 c v) :
    θ_run (defs (F := F)) (onTc (τ := τ) main) ⟨m, fun _ => 0, g⟩ (fun r => ∀ c : Dev nD,
      r.2.mem ((c.tc : Thread nD τ).loc main_v1) = shapeCast _ v CondReferenceIdeal.Facts₀.shapeCasts_S8x2048_S8x1x2048
      ∧ r.2.mem ((c.tc : Thread nD τ).loc main_arg0) = m ((c.tc : Thread nD τ).loc main_arg0)) := by
  refine (θ_run _ _ _).mono (fun r hr c => ⟨(hr.1 c).1.trans ?_, (hr.1 c).2⟩) (run_stacked m g)
  exact (congrArg stack (funext fun b => h b)).trans (stack_rows v (by decide) _).symm

end Cert.CondIdeal

namespace Cert.Proof

open Idealize.ShloMosaic Idealize.SL.Sem
open Cert.CondIdeal (run_stacked run_whole)

theorem cond_frame : Cert.quiescent_Cond := fun m g _ =>
  (θ_run Cert.CondIdeal.defs _ _).mono (fun _ h => ⟨fun c => (h.1 c).2, h.2⟩) (run_stacked (F := Bits) m g)

theorem cond_frame_ideal : Cert.quiescent_CondIdeal := fun m g _ =>
  (θ_run Cert.CondIdeal.defs _ _).mono (fun _ h => ⟨fun c => (h.1 c).2, h.2⟩) (run_stacked (F := Ideal) m g)

theorem cond_reference_frame : Cert.quiescent_CondReference := fun m g _ =>
  (θ_run Cert.CondReference.defs _ _).mono (fun r h => ⟨fun c => (h c).2, sem_eq_zero_of_no_sems (by decide) r.2⟩) (Cert.CondReference.Value.run (F := Bits) m g)

theorem cond_reference_frame_ideal : Cert.quiescent_CondReferenceIdeal := fun m g _ =>
  (θ_run Cert.CondReferenceIdeal.defs _ _).mono (fun r h => ⟨fun c => (h c).2, sem_eq_zero_of_no_sems (by decide) r.2⟩) (Cert.CondReferenceIdeal.Value.run (F := Ideal) m g)

theorem cond_bitexact : Cert.bitexact_Cond_CondReference := fun m g m' g' _ hp =>
  ⟨_, run_whole (F := Bits) m g (m' (((0 : Dev 1).tc).loc CondReference.main_arg0)) hp,
    (θ_run Cert.CondReference.defs _ _).mono (fun _ h => h 0) (Cert.CondReference.Value.run (F := Bits) m' g')⟩

theorem cond_algebraic : Cert.algebraic_CondIdeal_CondReferenceIdeal := fun m g m' g' _ hp =>
  ⟨_, run_whole (F := Ideal) m g (m' (((0 : Dev 1).tc).loc CondReferenceIdeal.main_arg0)) hp,
    (θ_run Cert.CondReferenceIdeal.defs _ _).mono (fun _ h => h 0) (Cert.CondReferenceIdeal.Value.run (F := Ideal) m' g')⟩

end Cert.Proof

end
-- ==== Proof.Adam.lean ====
/-
  One AdamW step, entry by entry, on the extended reals: the gradient as the sum of the devices' parts, the new first and
  second moments, and the change of the weight. The functions are stated on single entries and, for a matrix of any size
  and any number of parts, on whole arrays; the host's operations of the plain reference are read as these functions.
  The constants that the kernel folds (it multiplies by the rounded inverse of what the reference divides by) are read
  at the exact inverse.
-/
module

public import Idealize.ShloMosaic.Lib.IdealHost
public import Idealize.ShloMosaic.Lib.Pointwise
public import Idealize.ShloMosaic.Lib.Pipeline.ValueKit
public import Idealize.ShloMosaic.PureOps.IdealRules

@[expose] public section

noncomputable section

open Idealize.ShloMosaic

namespace Cert.Adam

open scoped BigOperators

/-! ## One entry -/

/-- The new first moment: `b1 · m + (1 - b1) · g`. -/
abbrev newM (g m : EReal) : EReal :=
  Ideal.ofBits .f32 0x3F666666#32 * m + Ideal.ofBits .f32 0x3DCCCCCD#32 * g

/-- The new second moment: `b2 · v + (1 - b2) · g²`. -/
abbrev newV (g v : EReal) : EReal :=
  Ideal.ofBits .f32 0x3F7FBE77#32 * v + Ideal.ofBits .f32 0x3A83126F#32 * (g * g)

/-- The change of the weight from its value and the two moments with their bias taken out:
    `-lr · (m̂ / (sqrt v̂ + eps) + wd · w)`. -/
abbrev change (w mHat vHat : EReal) : EReal :=
  Ideal.ofBits .f32 0xBA83126F#32
    * (Ideal.div mHat (Ideal.sqrt vHat + Ideal.ofBits .f32 0x322BCC77#32) + Ideal.ofBits .f32 0x3C23D70A#32 * w)

/-- The change of the weight, the moments divided by `1 - b1^10` and `1 - b2^10`. -/
abbrev delta (g w m v : EReal) : EReal :=
  change w (Ideal.div (newM g m) (Ideal.ofBits .f32 0x3F26BD02#32))
    (Ideal.div (newV g v) (Ideal.ofBits .f32 0x3C231ACC#32))

/-- The word of `1 - b1^10` as a fraction. -/
theorem word_b1 : Ideal.ofBits .f32 0x3F26BD02#32 = ((5463681 / 8388608 : ℝ) : EReal) := by
  simp [Ideal.ofBits, Ideal.ieee, -EReal.coe_mul]; norm_num

/-- The word of `1 - b2^10` as a fraction. -/
theorem word_b2 : Ideal.ofBits .f32 0x3C231ACC#32 = ((2672307 / 268435456 : ℝ) : EReal) := by
  simp [Ideal.ofBits, Ideal.ieee, -EReal.coe_mul]; norm_num

/-- Dividing by `1 - b1^10` is multiplying by its exact inverse. -/
theorem div_b1 (x : EReal) :
    Ideal.div x (Ideal.ofBits .f32 0x3F26BD02#32) = x * ((8388608 / 5463681 : ℝ) : EReal) := by
  rw [word_b1, Ideal.div_coe (by norm_num)]; norm_num

/-- Dividing by `1 - b2^10` is multiplying by its exact inverse. -/
theorem div_b2 (x : EReal) :
    Ideal.div x (Ideal.ofBits .f32 0x3C231ACC#32) = x * ((268435456 / 2672307 : ℝ) : EReal) := by
  rw [word_b2, Ideal.div_coe (by norm_num)]; norm_num

/-- The change of the weight as the kernel computes it: the moments multiplied by the exact inverses. -/
theorem delta_mul (g w m v : EReal) :
    change w (newM g m * ((8388608 / 5463681 : ℝ) : EReal)) (newV g v * ((268435456 / 2672307 : ℝ) : EReal))
      = delta g w m v := by
  rw [delta, div_b1, div_b2]

/-! ## Whole arrays -/

variable {n R C : ℕ}

/-- The matrix shape and the shape of its stacked parts. -/
abbrev Mat (R C : ℕ) : Shape := ⟨2, ![R, C]⟩
abbrev Parts (n R C : ℕ) : Shape := ⟨3, ![n, R, C]⟩

/-- Where part `k` of the stack has the matrix's index `i`. -/
abbrev at' (k : Fin n) (i : (Mat R C).Idx) : (Parts n R C).Idx := ValueIdx.ix3 k (i 0) (i 1)

/-- The gradient: at each index the sum of the parts. -/
abbrev grad (p : (Parts n R C).Idx → EReal) : (Mat R C).Idx → EReal := fun i => ∑ k : Fin n, p (at' k i)

/-- The new first moment of every entry. -/
abbrev ms (p : (Parts n R C).Idx → EReal) (m : (Mat R C).Idx → EReal) : (Mat R C).Idx → EReal :=
  fun i => newM (grad p i) (m i)

/-- The new second moment of every entry. -/
abbrev vs (p : (Parts n R C).Idx → EReal) (v : (Mat R C).Idx → EReal) : (Mat R C).Idx → EReal :=
  fun i => newV (grad p i) (v i)

/-- The change of every weight. -/
abbrev deltas (p : (Parts n R C).Idx → EReal) (w m v : (Mat R C).Idx → EReal) : (Mat R C).Idx → EReal :=
  fun i => delta (grad p i) (w i) (m i) (v i)

/-- A single part is the gradient's entry. -/
theorem one {p : (Parts 1 R C).Idx → EReal} {i : (Mat R C).Idx} {j0 : (Parts 1 R C).Idx} (h0 : j0 = at' 0 i) :
    p j0 = grad p i := by
  subst h0; exact (Fin.sum_univ_one fun k => p (at' k i)).symm

/-- Four parts added one after another are the gradient's entry. -/
theorem four {p : (Parts 4 R C).Idx → EReal} {i : (Mat R C).Idx} {j0 j1 j2 j3 : (Parts 4 R C).Idx}
    (h0 : j0 = at' 0 i) (h1 : j1 = at' 1 i) (h2 : j2 = at' 2 i) (h3 : j3 = at' 3 i) :
    p j0 + p j1 + p j2 + p j3 = grad p i := by
  subst h0 h1 h2 h3; exact (Fin.sum_univ_four fun k => p (at' k i)).symm

/-- The sum of eight parts added one after another is the gradient's entry. -/
theorem eight {p : (Parts 8 R C).Idx → EReal} {i : (Mat R C).Idx} {j0 j1 j2 j3 j4 j5 j6 j7 : (Parts 8 R C).Idx}
    (h0 : j0 = at' 0 i) (h1 : j1 = at' 1 i) (h2 : j2 = at' 2 i) (h3 : j3 = at' 3 i)
    (h4 : j4 = at' 4 i) (h5 : j5 = at' 5 i) (h6 : j6 = at' 6 i) (h7 : j7 = at' 7 i) :
    p j0 + p j1 + p j2 + p j3 + p j4 + p j5 + p j6 + p j7 = grad p i := by
  subst h0 h1 h2 h3 h4 h5 h6 h7; exact (Fin.sum_univ_eight fun k => p (at' k i)).symm

/-- The change of one weight as the kernel computes it, its folded constants read at the exact inverses. -/
theorem step {κ : String → Option EReal} (h1 : κ "c1" = some ((8388608 / 5463681 : ℝ) : EReal))
    (h2 : κ "c2" = some ((268435456 / 2672307 : ℝ) : EReal)) {g g' w w' m m' v v' : EReal} (hg : g = g')
    (h : w = w' ∧ m = m' ∧ v = v') :
    change w (newM g m * Named.named (F := Ideal) (φ := .f32) κ "c1" 0x3FC48605#32)
        (newV g v * Named.named (F := Ideal) (φ := .f32) κ "c2" 0x42C8E6D3#32)
      = delta g' w' m' v' := by
  obtain ⟨rfl, rfl, rfl⟩ := h
  subst hg
  rw [IdealRules.named_const.ideal_named_scalar κ "c1" (φ := .f32) 0x3FC48605#32 _ h1,
    IdealRules.named_const.ideal_named_scalar κ "c2" (φ := .f32) 0x42C8E6D3#32 _ h2]
  exact delta_mul _ _ _ _

/-! ## Indices of a block's entries -/

/-- Reading a block from its corner does not move an entry. -/
theorem corner (o k : ℕ) : o + 1 * (0 + 1 * k) = o + 1 * k := by omega

/-- An index of the stack with the part's number and the matrix's coordinates. -/
theorem eq_at {k : Fin n} {i : (Mat R C).Idx} {j : (Parts n R C).Idx} (h : (j 0).val = k.val)
    (h0 : (j 1).val = (i 0).val) (h1 : (j 2).val = (i 1).val) : j = at' k i := by
  funext a
  match a with
  | ⟨0, _⟩ => exact Fin.ext h
  | ⟨1, _⟩ => exact Fin.ext h0
  | ⟨2, _⟩ => exact Fin.ext h1

/-- Two indices of a matrix with the same coordinates. -/
theorem eq_mat {i j : (Mat R C).Idx} (h0 : (j 0).val = (i 0).val) (h1 : (j 1).val = (i 1).val) : j = i := by
  funext a
  match a with
  | ⟨0, _⟩ => exact Fin.ext h0
  | ⟨1, _⟩ => exact Fin.ext h1

/-! ## The host's operations read as these functions -/

/-- A scalar word broadcast to a matrix. -/
abbrev word (h : (⟨0, ![]⟩ : Shape).BroadcastsInDim (Mat R C) ![]) (w : BitVec 32) : FVec Ideal (Mat R C) .f32 :=
  broadcastInDim (Mat R C) ![] h (constant ⟨0, ![]⟩ .f32 w)

/-- The host's sum over the stack is the gradient. -/
theorem host_grad (p : FVec Ideal (Parts n R C) .f32) (hr : (Parts n R C).ReducesTo [0] (Mat R C))
    (hu : 0 < (⟨0, ![]⟩ : Shape).numel) :
    Host.reduceAdd p (constant ⟨0, ![]⟩ .f32 0x00000000#32) hr hu = grad p := by
  funext i
  rw [ValueIdx.hostReduceAdd_apply, Ideal.hostReduceAdd_r3_a0]
  exact (congrArg (· + _) Ideal.ofBits_zero_f32).trans (zero_add _)

/-- The host's step, its gradient known: the change of the weight and the two moments. -/
theorem host_step (p : (Parts n R C).Idx → EReal) (w m v : (Mat R C).Idx → EReal) (h) {g : FVec Ideal (Mat R C) .f32}
    (hg : g = grad p) (m2 v2 : FVec Ideal (Mat R C) .f32)
    (hm : m2 = addf (mulf (word h 0x3F666666#32) (m : FVec Ideal (Mat R C) .f32)) (mulf (word h 0x3DCCCCCD#32) g))
    (hv : v2 = addf (mulf (word h 0x3F7FBE77#32) (v : FVec Ideal (Mat R C) .f32)) (mulf (word h 0x3A83126F#32) (mulf g g))) :
    mulf (word h 0xBA83126F#32) (addf (Host.divf (Host.divf m2 (word h 0x3F26BD02#32))
        (addf (Host.sqrt (Host.divf v2 (word h 0x3C231ACC#32))) (word h 0x322BCC77#32)))
      (mulf (word h 0x3C23D70A#32) (w : FVec Ideal (Mat R C) .f32))) = deltas p w m v ∧ m2 = ms p m ∧ v2 = vs p v := by
  subst hg hm hv; exact ⟨rfl, rfl, rfl⟩

end Cert.Adam

end
-- ==== Proof.AdamWIn.lean ====
/-
  The optimiser's step on the input projection's weight: what each grid point writes back is its block of the whole-array
  AdamW functions of Proof/Adam.lean, the blocks fill the arrays, and so the kernel's run is read.
-/
module

public import proofs.«01_k».proof.Defs
public import proofs.«01_k».proof.Proof.Gen.AdamWIn.Frame
public import proofs.«01_k».proof.Proof.Gen.AdamWInIdeal.Value
public import proofs.«01_k».proof.Proof.Gen.AdamWInReferenceIdeal.Run
public import proofs.«01_k».proof.Proof.Adam
public import Idealize.ShloMosaic.Lib.Pipeline.ValueKit

@[expose] public section

noncomputable section

open Idealize.ShloMosaic Idealize.ShloMosaic.TcCoe Idealize.SL.Sem
open Idealize.ShloMosaic.Pipeline (Dat)

namespace Cert.AdamWInIdeal.Step

open Cert.AdamWInIdeal Cert.AdamWInIdeal.Gen Cert.Adam

variable (m : (ℓ : Loc nD τ sig) → Buf (Elt Ideal) ℓ) (ρ : Dev nD → PrngReg) (c : Dev nD)

/-- The device's argument arrays: the parts, the weight and the two moments. -/
abbrev p0 : (Parts 4 2048 564).Idx → EReal := m ((c : Thread nD τ).loc main_arg0)
abbrev w0 : (Mat 2048 564).Idx → EReal := m ((c : Thread nD τ).loc main_arg1)
abbrev m0 : (Mat 2048 564).Idx → EReal := m ((c : Thread nD τ).loc main_arg2)
abbrev v0 : (Mat 2048 564).Idx → EReal := m ((c : Thread nD τ).loc main_arg3)

/-- Where block `t` of a matrix has the block's entry `y`. -/
abbrev inMat (t : Fin cfg0.N) (y : S512x564.Idx) : (Mat 2048 564).Idx := ((cfg0.win 4).blk t).view.emb y

/-- The body's sum of the parts at point `t` is the gradient's block, -/
theorem sum (t : Fin cfg0.N) (y : S512x564.Idx) :
    Value.E4 (View.ld (iblk m c 0 t) r0_0) (View.ld (iblk m c 0 t) r0_1) (View.ld (iblk m c 0 t) r0_2)
      (View.ld (iblk m c 0 t) r0_3) y = grad (p0 m c) (inMat t y) :=
  four (eq_at rfl (corner _ _) (corner _ _)) (eq_at rfl (corner _ _) (corner _ _))
    (eq_at rfl (corner _ _) (corner _ _)) (eq_at rfl (corner _ _) (corner _ _))

/-- and the weight's and the moments' blocks, as the body loads them, are theirs. -/
theorem loaded (t : Fin cfg0.N) (y : S512x564.Idx) :
    View.ld (iblk m c 1 t) r0_4 (Value.ix6_0 y) = w0 m c (inMat t y)
      ∧ View.ld (iblk m c 2 t) r0_4 (Value.ix6_0 y) = m0 m c (inMat t y)
      ∧ View.ld (iblk m c 3 t) r0_4 (Value.ix6_0 y) = v0 m c (inMat t y) :=
  ⟨congrArg (w0 m c) (eq_mat (corner _ _) (corner _ _)), congrArg (m0 m c) (eq_mat (corner _ _) (corner _ _)),
    congrArg (v0 m c) (eq_mat (corner _ _) (corner _ _))⟩

/-- The gradient's array after the last point: the blocks fill it. -/
theorem final_g : (dats m 0 c).arrAt 4 cfg0.N = grad (p0 m c) :=
  (dats m 0 c).arrAt_eq_of_covers 4 (grad (p0 m c)) (by decide +kernel : win0_4.Covers)
    fun t _ y => (congrFun (after0_4 m c t) y).trans ((Value.canon4_eq _ _ _ _ y).trans (sum m c t y))

/-- The array of the changes. -/
theorem final_d : (dats m 0 c).arrAt 5 cfg0.N = deltas (p0 m c) (w0 m c) (m0 m c) (v0 m c) :=
  (dats m 0 c).arrAt_eq_of_covers 5 (deltas (p0 m c) (w0 m c) (m0 m c) (v0 m c)) (by decide +kernel : win0_5.Covers)
    fun t _ y => (congrFun (after0_5 m c t) y).trans ((Value.canon5_eq _ _ _ _ _ _ _ y).trans
      (step (κ := Cert.AdamWInIdeal.κ) rfl rfl (sum m c t y) (loaded m c t y)))

/-- The array of the first moments. -/
theorem final_m : (dats m 0 c).arrAt 6 cfg0.N = ms (p0 m c) (m0 m c) :=
  (dats m 0 c).arrAt_eq_of_covers 6 (ms (p0 m c) (m0 m c)) (by decide +kernel : win0_6.Covers)
    fun t _ y => (congrFun (after0_6 m c t) y).trans ((Value.canon6_eq _ _ _ _ _ y).trans
      (congrArg₂ newM (sum m c t y) (loaded m c t y).2.1))

/-- The array of the second moments. -/
theorem final_v : (dats m 0 c).arrAt 7 cfg0.N = vs (p0 m c) (v0 m c) :=
  (dats m 0 c).arrAt_eq_of_covers 7 (vs (p0 m c) (v0 m c)) (by decide +kernel : win0_7.Covers)
    fun t _ y => (congrFun (after0_7 m c t) y).trans ((Value.canon7_eq _ _ _ _ _ y).trans
      (congrArg₂ newV (sum m c t y) (loaded m c t y).2.2))

end Cert.AdamWInIdeal.Step

namespace Cert.Proof

open Cert.Adam Cert.AdamWInIdeal.Step

theorem adam_w_in_frame : Cert.quiescent_AdamWIn := fun m g _ => Cert.AdamWIn.Gen.frame m g

theorem adam_w_in_frame_ideal : Cert.quiescent_AdamWInIdeal := fun m g _ => Cert.AdamWInIdeal.Gen.frame m g

theorem adam_w_in_reference_frame_ideal : Cert.quiescent_AdamWInReferenceIdeal := fun m g _ =>
  (θ_run Cert.AdamWInReferenceIdeal.defs _ _).mono
    (fun r h => ⟨fun c => (h c).2.2.2.2, sem_eq_zero_of_no_sems (by decide) r.2⟩)
    (Cert.AdamWInReferenceIdeal.Value.run (F := Ideal) m g)

/-- The two folded constants, read at the exact inverses. -/
theorem adam_w_in_preserves : Cert.preserves_AdamWIn_AdamWInIdeal :=
  ⟨IdealRules.named_const.statement Cert.AdamWInIdeal.κ "c1" .f32 0x3FC48605#32 _ rfl,
    IdealRules.named_const.statement Cert.AdamWInIdeal.κ "c2" .f32 0x42C8E6D3#32 _ rfl⟩

/-- The kernel and the plain step end with the same four arrays. -/
theorem adam_w_in_algebraic : Cert.algebraic_AdamWInIdeal_AdamWInReferenceIdeal := fun m g m' g' _ hp => by
  refine ⟨fun c => grad (p0 m c), fun c => deltas (p0 m c) (w0 m c) (m0 m c) (v0 m c), fun c => ms (p0 m c) (m0 m c),
    fun c => vs (p0 m c) (v0 m c), ?_, ?_⟩
  · refine (θ_run Cert.AdamWInIdeal.defs _ _).mono (fun _ h c => ?_) (Cert.AdamWInIdeal.Value.run_blocks (F := Ideal) m g)
    obtain ⟨hg, hd, hm, hv, h⟩ := h c
    exact ⟨hg.trans (final_g m c), hd.trans (final_d m c), hm.trans (final_m m c), hv.trans (final_v m c), h⟩
  · refine (θ_run Cert.AdamWInReferenceIdeal.defs _ _).mono (fun _ h c => ?_) (Cert.AdamWInReferenceIdeal.Value.run (F := Ideal) m' g')
    obtain ⟨hg, hd, hm, hv, h⟩ := h c
    obtain ⟨e0, e1, e2, e3⟩ := hp c
    have eg := host_grad (p0 m c) Cert.AdamWInReferenceIdeal.Facts₀.reducesTo_S4x2048x564_S2048x564_d0 (by decide)
    obtain ⟨ed, em, ev⟩ := host_step _ (w0 m c) (m0 m c) (v0 m c) Cert.AdamWInReferenceIdeal.Facts₀.bcast_S_S2048x564 eg _ _ rfl rfl
    rw [e0] at hg; rw [e0, e2] at hm; rw [e0, e3] at hv; rw [e0, e1, e2, e3] at hd
    exact ⟨hg.trans eg, hd.trans ed, hm.trans em, hv.trans ev, h⟩

end Cert.Proof

end
-- ==== Proof.AdamWOut.lean ====
/-
  The optimiser's step on the output projection's weight: what each grid point writes back is its block of the whole-array
  AdamW functions of Proof/Adam.lean, the blocks fill the arrays, and so the kernel's run is read.
-/
module

public import proofs.«01_k».proof.Defs
public import proofs.«01_k».proof.Proof.Gen.AdamWOut.Frame
public import proofs.«01_k».proof.Proof.Gen.AdamWOutIdeal.Value
public import proofs.«01_k».proof.Proof.Gen.AdamWOutReferenceIdeal.Run
public import proofs.«01_k».proof.Proof.Adam
public import Idealize.ShloMosaic.Lib.Pipeline.ValueKit

@[expose] public section

noncomputable section

open Idealize.ShloMosaic Idealize.ShloMosaic.TcCoe Idealize.SL.Sem
open Idealize.ShloMosaic.Pipeline (Dat)

namespace Cert.AdamWOutIdeal.Step

open Cert.AdamWOutIdeal Cert.AdamWOutIdeal.Gen Cert.Adam

variable (m : (ℓ : Loc nD τ sig) → Buf (Elt Ideal) ℓ) (ρ : Dev nD → PrngReg) (c : Dev nD)

/-- The device's argument arrays: the parts, the weight and the two moments. -/
abbrev p0 : (Parts 4 256 2048).Idx → EReal := m ((c : Thread nD τ).loc main_arg0)
abbrev w0 : (Mat 256 2048).Idx → EReal := m ((c : Thread nD τ).loc main_arg1)
abbrev m0 : (Mat 256 2048).Idx → EReal := m ((c : Thread nD τ).loc main_arg2)
abbrev v0 : (Mat 256 2048).Idx → EReal := m ((c : Thread nD τ).loc main_arg3)

/-- Where block `t` of a matrix has the block's entry `y`. -/
abbrev inMat (t : Fin cfg0.N) (y : S256x2048.Idx) : (Mat 256 2048).Idx := ((cfg0.win 4).blk t).view.emb y

/-- The body's sum of the parts at point `t` is the gradient's block, -/
theorem sum (t : Fin cfg0.N) (y : S256x2048.Idx) :
    Value.E4 (View.ld (iblk m c 0 t) r0_0) (View.ld (iblk m c 0 t) r0_1) (View.ld (iblk m c 0 t) r0_2)
      (View.ld (iblk m c 0 t) r0_3) y = grad (p0 m c) (inMat t y) :=
  four (eq_at rfl (corner _ _) (corner _ _)) (eq_at rfl (corner _ _) (corner _ _))
    (eq_at rfl (corner _ _) (corner _ _)) (eq_at rfl (corner _ _) (corner _ _))

/-- and the weight's and the moments' blocks, as the body loads them, are theirs. -/
theorem loaded (t : Fin cfg0.N) (y : S256x2048.Idx) :
    View.ld (iblk m c 1 t) r0_4 (Value.ix6_0 y) = w0 m c (inMat t y)
      ∧ View.ld (iblk m c 2 t) r0_4 (Value.ix6_0 y) = m0 m c (inMat t y)
      ∧ View.ld (iblk m c 3 t) r0_4 (Value.ix6_0 y) = v0 m c (inMat t y) :=
  ⟨congrArg (w0 m c) (eq_mat (corner _ _) (corner _ _)), congrArg (m0 m c) (eq_mat (corner _ _) (corner _ _)),
    congrArg (v0 m c) (eq_mat (corner _ _) (corner _ _))⟩

/-- The gradient's array after the last point: the blocks fill it. -/
theorem final_g : (dats m 0 c).arrAt 4 cfg0.N = grad (p0 m c) :=
  (dats m 0 c).arrAt_eq_of_covers 4 (grad (p0 m c)) (by decide +kernel : win0_4.Covers)
    fun t _ y => (congrFun (after0_4 m c t) y).trans ((Value.canon4_eq _ _ _ _ y).trans (sum m c t y))

/-- The array of the changes. -/
theorem final_d : (dats m 0 c).arrAt 5 cfg0.N = deltas (p0 m c) (w0 m c) (m0 m c) (v0 m c) :=
  (dats m 0 c).arrAt_eq_of_covers 5 (deltas (p0 m c) (w0 m c) (m0 m c) (v0 m c)) (by decide +kernel : win0_5.Covers)
    fun t _ y => (congrFun (after0_5 m c t) y).trans ((Value.canon5_eq _ _ _ _ _ _ _ y).trans
      (step (κ := Cert.AdamWOutIdeal.κ) rfl rfl (sum m c t y) (loaded m c t y)))

/-- The array of the first moments. -/
theorem final_m : (dats m 0 c).arrAt 6 cfg0.N = ms (p0 m c) (m0 m c) :=
  (dats m 0 c).arrAt_eq_of_covers 6 (ms (p0 m c) (m0 m c)) (by decide +kernel : win0_6.Covers)
    fun t _ y => (congrFun (after0_6 m c t) y).trans ((Value.canon6_eq _ _ _ _ _ y).trans
      (congrArg₂ newM (sum m c t y) (loaded m c t y).2.1))

/-- The array of the second moments. -/
theorem final_v : (dats m 0 c).arrAt 7 cfg0.N = vs (p0 m c) (v0 m c) :=
  (dats m 0 c).arrAt_eq_of_covers 7 (vs (p0 m c) (v0 m c)) (by decide +kernel : win0_7.Covers)
    fun t _ y => (congrFun (after0_7 m c t) y).trans ((Value.canon7_eq _ _ _ _ _ y).trans
      (congrArg₂ newV (sum m c t y) (loaded m c t y).2.2))

end Cert.AdamWOutIdeal.Step

namespace Cert.Proof

open Cert.Adam Cert.AdamWOutIdeal.Step

theorem adam_w_out_frame : Cert.quiescent_AdamWOut := fun m g _ => Cert.AdamWOut.Gen.frame m g

theorem adam_w_out_frame_ideal : Cert.quiescent_AdamWOutIdeal := fun m g _ => Cert.AdamWOutIdeal.Gen.frame m g

theorem adam_w_out_reference_frame_ideal : Cert.quiescent_AdamWOutReferenceIdeal := fun m g _ =>
  (θ_run Cert.AdamWOutReferenceIdeal.defs _ _).mono
    (fun r h => ⟨fun c => (h c).2.2.2.2, sem_eq_zero_of_no_sems (by decide) r.2⟩)
    (Cert.AdamWOutReferenceIdeal.Value.run (F := Ideal) m g)

/-- The two folded constants, read at the exact inverses. -/
theorem adam_w_out_preserves : Cert.preserves_AdamWOut_AdamWOutIdeal :=
  ⟨IdealRules.named_const.statement Cert.AdamWOutIdeal.κ "c1" .f32 0x3FC48605#32 _ rfl,
    IdealRules.named_const.statement Cert.AdamWOutIdeal.κ "c2" .f32 0x42C8E6D3#32 _ rfl⟩

/-- The kernel and the plain step end with the same four arrays. -/
theorem adam_w_out_algebraic : Cert.algebraic_AdamWOutIdeal_AdamWOutReferenceIdeal := fun m g m' g' _ hp => by
  refine ⟨fun c => grad (p0 m c), fun c => deltas (p0 m c) (w0 m c) (m0 m c) (v0 m c), fun c => ms (p0 m c) (m0 m c),
    fun c => vs (p0 m c) (v0 m c), ?_, ?_⟩
  · refine (θ_run Cert.AdamWOutIdeal.defs _ _).mono (fun _ h c => ?_) (Cert.AdamWOutIdeal.Value.run_blocks (F := Ideal) m g)
    obtain ⟨hg, hd, hm, hv, h⟩ := h c
    exact ⟨hg.trans (final_g m c), hd.trans (final_d m c), hm.trans (final_m m c), hv.trans (final_v m c), h⟩
  · refine (θ_run Cert.AdamWOutReferenceIdeal.defs _ _).mono (fun _ h c => ?_) (Cert.AdamWOutReferenceIdeal.Value.run (F := Ideal) m' g')
    obtain ⟨hg, hd, hm, hv, h⟩ := h c
    obtain ⟨e0, e1, e2, e3⟩ := hp c
    have eg := host_grad (p0 m c) Cert.AdamWOutReferenceIdeal.Facts₀.reducesTo_S4x256x2048_S256x2048_d0 (by decide)
    obtain ⟨ed, em, ev⟩ := host_step _ (w0 m c) (m0 m c) (v0 m c) Cert.AdamWOutReferenceIdeal.Facts₀.bcast_S_S256x2048 eg _ _ rfl rfl
    rw [e0] at hg; rw [e0, e2] at hm; rw [e0, e3] at hv; rw [e0, e1, e2, e3] at hd
    exact ⟨hg.trans eg, hd.trans ed, hm.trans em, hv.trans ev, h⟩

end Cert.Proof

end
-- ==== Proof.AdamFfn1.lean ====
/-
  The optimiser's step on the feed-forward layer's first weight: what each grid point writes back is its block of the whole-array
  AdamW functions of Proof/Adam.lean, the blocks fill the arrays, and so the kernel's run is read.
-/
module

public import proofs.«01_k».proof.Defs
public import proofs.«01_k».proof.Proof.Gen.AdamFfn1.Frame
public import proofs.«01_k».proof.Proof.Gen.AdamFfn1Ideal.Value
public import proofs.«01_k».proof.Proof.Gen.AdamFfn1ReferenceIdeal.Run
public import proofs.«01_k».proof.Proof.Adam
public import Idealize.ShloMosaic.Lib.Pipeline.ValueKit

@[expose] public section

noncomputable section

open Idealize.ShloMosaic Idealize.ShloMosaic.TcCoe Idealize.SL.Sem
open Idealize.ShloMosaic.Pipeline (Dat)

namespace Cert.AdamFfn1Ideal.Step

open Cert.AdamFfn1Ideal Cert.AdamFfn1Ideal.Gen Cert.Adam

variable (m : (ℓ : Loc nD τ sig) → Buf (Elt Ideal) ℓ) (ρ : Dev nD → PrngReg) (c : Dev nD)

/-- The device's argument arrays: the parts, the weight and the two moments. -/
abbrev p0 : (Parts 4 2048 1024).Idx → EReal := m ((c : Thread nD τ).loc main_arg0)
abbrev w0 : (Mat 2048 1024).Idx → EReal := m ((c : Thread nD τ).loc main_arg1)
abbrev m0 : (Mat 2048 1024).Idx → EReal := m ((c : Thread nD τ).loc main_arg2)
abbrev v0 : (Mat 2048 1024).Idx → EReal := m ((c : Thread nD τ).loc main_arg3)

/-- Where block `t` of a matrix has the block's entry `y`. -/
abbrev inMat (t : Fin cfg0.N) (y : S512x1024.Idx) : (Mat 2048 1024).Idx := ((cfg0.win 4).blk t).view.emb y

/-- The body's sum of the parts at point `t` is the gradient's block, -/
theorem sum (t : Fin cfg0.N) (y : S512x1024.Idx) :
    Value.E4 (View.ld (iblk m c 0 t) r0_0) (View.ld (iblk m c 0 t) r0_1) (View.ld (iblk m c 0 t) r0_2)
      (View.ld (iblk m c 0 t) r0_3) y = grad (p0 m c) (inMat t y) :=
  four (eq_at rfl (corner _ _) (corner _ _)) (eq_at rfl (corner _ _) (corner _ _))
    (eq_at rfl (corner _ _) (corner _ _)) (eq_at rfl (corner _ _) (corner _ _))

/-- and the weight's and the moments' blocks, as the body loads them, are theirs. -/
theorem loaded (t : Fin cfg0.N) (y : S512x1024.Idx) :
    View.ld (iblk m c 1 t) r0_4 (Value.ix6_0 y) = w0 m c (inMat t y)
      ∧ View.ld (iblk m c 2 t) r0_4 (Value.ix6_0 y) = m0 m c (inMat t y)
      ∧ View.ld (iblk m c 3 t) r0_4 (Value.ix6_0 y) = v0 m c (inMat t y) :=
  ⟨congrArg (w0 m c) (eq_mat (corner _ _) (corner _ _)), congrArg (m0 m c) (eq_mat (corner _ _) (corner _ _)),
    congrArg (v0 m c) (eq_mat (corner _ _) (corner _ _))⟩

/-- The gradient's array after the last point: the blocks fill it. -/
theorem final_g : (dats m 0 c).arrAt 4 cfg0.N = grad (p0 m c) :=
  (dats m 0 c).arrAt_eq_of_covers 4 (grad (p0 m c)) (by decide +kernel : win0_4.Covers)
    fun t _ y => (congrFun (after0_4 m c t) y).trans ((Value.canon4_eq _ _ _ _ y).trans (sum m c t y))

/-- The array of the changes. -/
theorem final_d : (dats m 0 c).arrAt 5 cfg0.N = deltas (p0 m c) (w0 m c) (m0 m c) (v0 m c) :=
  (dats m 0 c).arrAt_eq_of_covers 5 (deltas (p0 m c) (w0 m c) (m0 m c) (v0 m c)) (by decide +kernel : win0_5.Covers)
    fun t _ y => (congrFun (after0_5 m c t) y).trans ((Value.canon5_eq _ _ _ _ _ _ _ y).trans
      (step (κ := Cert.AdamFfn1Ideal.κ) rfl rfl (sum m c t y) (loaded m c t y)))

/-- The array of the first moments. -/
theorem final_m : (dats m 0 c).arrAt 6 cfg0.N = ms (p0 m c) (m0 m c) :=
  (dats m 0 c).arrAt_eq_of_covers 6 (ms (p0 m c) (m0 m c)) (by decide +kernel : win0_6.Covers)
    fun t _ y => (congrFun (after0_6 m c t) y).trans ((Value.canon6_eq _ _ _ _ _ y).trans
      (congrArg₂ newM (sum m c t y) (loaded m c t y).2.1))

/-- The array of the second moments. -/
theorem final_v : (dats m 0 c).arrAt 7 cfg0.N = vs (p0 m c) (v0 m c) :=
  (dats m 0 c).arrAt_eq_of_covers 7 (vs (p0 m c) (v0 m c)) (by decide +kernel : win0_7.Covers)
    fun t _ y => (congrFun (after0_7 m c t) y).trans ((Value.canon7_eq _ _ _ _ _ y).trans
      (congrArg₂ newV (sum m c t y) (loaded m c t y).2.2))

end Cert.AdamFfn1Ideal.Step

namespace Cert.Proof

open Cert.Adam Cert.AdamFfn1Ideal.Step

theorem adam_ffn_w1_frame : Cert.quiescent_AdamFfn1 := fun m g _ => Cert.AdamFfn1.Gen.frame m g

theorem adam_ffn_w1_frame_ideal : Cert.quiescent_AdamFfn1Ideal := fun m g _ => Cert.AdamFfn1Ideal.Gen.frame m g

theorem adam_ffn_w1_reference_frame_ideal : Cert.quiescent_AdamFfn1ReferenceIdeal := fun m g _ =>
  (θ_run Cert.AdamFfn1ReferenceIdeal.defs _ _).mono
    (fun r h => ⟨fun c => (h c).2.2.2.2, sem_eq_zero_of_no_sems (by decide) r.2⟩)
    (Cert.AdamFfn1ReferenceIdeal.Value.run (F := Ideal) m g)

/-- The two folded constants, read at the exact inverses. -/
theorem adam_ffn_w1_preserves : Cert.preserves_AdamFfn1_AdamFfn1Ideal :=
  ⟨IdealRules.named_const.statement Cert.AdamFfn1Ideal.κ "c1" .f32 0x3FC48605#32 _ rfl,
    IdealRules.named_const.statement Cert.AdamFfn1Ideal.κ "c2" .f32 0x42C8E6D3#32 _ rfl⟩

/-- The kernel and the plain step end with the same four arrays. -/
theorem adam_ffn_w1_algebraic : Cert.algebraic_AdamFfn1Ideal_AdamFfn1ReferenceIdeal := fun m g m' g' _ hp => by
  refine ⟨fun c => grad (p0 m c), fun c => deltas (p0 m c) (w0 m c) (m0 m c) (v0 m c), fun c => ms (p0 m c) (m0 m c),
    fun c => vs (p0 m c) (v0 m c), ?_, ?_⟩
  · refine (θ_run Cert.AdamFfn1Ideal.defs _ _).mono (fun _ h c => ?_) (Cert.AdamFfn1Ideal.Value.run_blocks (F := Ideal) m g)
    obtain ⟨hg, hd, hm, hv, h⟩ := h c
    exact ⟨hg.trans (final_g m c), hd.trans (final_d m c), hm.trans (final_m m c), hv.trans (final_v m c), h⟩
  · refine (θ_run Cert.AdamFfn1ReferenceIdeal.defs _ _).mono (fun _ h c => ?_) (Cert.AdamFfn1ReferenceIdeal.Value.run (F := Ideal) m' g')
    obtain ⟨hg, hd, hm, hv, h⟩ := h c
    obtain ⟨e0, e1, e2, e3⟩ := hp c
    have eg := host_grad (p0 m c) Cert.AdamFfn1ReferenceIdeal.Facts₀.reducesTo_S4x2048x1024_S2048x1024_d0 (by decide)
    obtain ⟨ed, em, ev⟩ := host_step _ (w0 m c) (m0 m c) (v0 m c) Cert.AdamFfn1ReferenceIdeal.Facts₀.bcast_S_S2048x1024 eg _ _ rfl rfl
    rw [e0] at hg; rw [e0, e2] at hm; rw [e0, e3] at hv; rw [e0, e1, e2, e3] at hd
    exact ⟨hg.trans eg, hd.trans ed, hm.trans em, hv.trans ev, h⟩

end Cert.Proof

end
-- ==== Proof.AdamFfn2.lean ====
/-
  The optimiser's step on the feed-forward layer's second weight: what each grid point writes back is its block of the whole-array
  AdamW functions of Proof/Adam.lean, the blocks fill the arrays, and so the kernel's run is read.
-/
module

public import proofs.«01_k».proof.Defs
public import proofs.«01_k».proof.Proof.Gen.AdamFfn2.Frame
public import proofs.«01_k».proof.Proof.Gen.AdamFfn2Ideal.Value
public import proofs.«01_k».proof.Proof.Gen.AdamFfn2ReferenceIdeal.Run
public import proofs.«01_k».proof.Proof.Adam
public import Idealize.ShloMosaic.Lib.Pipeline.ValueKit

@[expose] public section

noncomputable section

open Idealize.ShloMosaic Idealize.ShloMosaic.TcCoe Idealize.SL.Sem
open Idealize.ShloMosaic.Pipeline (Dat)

namespace Cert.AdamFfn2Ideal.Step

open Cert.AdamFfn2Ideal Cert.AdamFfn2Ideal.Gen Cert.Adam

variable (m : (ℓ : Loc nD τ sig) → Buf (Elt Ideal) ℓ) (ρ : Dev nD → PrngReg) (c : Dev nD)

/-- The device's argument arrays: the parts, the weight and the two moments. -/
abbrev p0 : (Parts 4 1024 2048).Idx → EReal := m ((c : Thread nD τ).loc main_arg0)
abbrev w0 : (Mat 1024 2048).Idx → EReal := m ((c : Thread nD τ).loc main_arg1)
abbrev m0 : (Mat 1024 2048).Idx → EReal := m ((c : Thread nD τ).loc main_arg2)
abbrev v0 : (Mat 1024 2048).Idx → EReal := m ((c : Thread nD τ).loc main_arg3)

/-- Where block `t` of a matrix has the block's entry `y`. -/
abbrev inMat (t : Fin cfg0.N) (y : S256x2048.Idx) : (Mat 1024 2048).Idx := ((cfg0.win 4).blk t).view.emb y

/-- The body's sum of the parts at point `t` is the gradient's block, -/
theorem sum (t : Fin cfg0.N) (y : S256x2048.Idx) :
    Value.E4 (View.ld (iblk m c 0 t) r0_0) (View.ld (iblk m c 0 t) r0_1) (View.ld (iblk m c 0 t) r0_2)
      (View.ld (iblk m c 0 t) r0_3) y = grad (p0 m c) (inMat t y) :=
  four (eq_at rfl (corner _ _) (corner _ _)) (eq_at rfl (corner _ _) (corner _ _))
    (eq_at rfl (corner _ _) (corner _ _)) (eq_at rfl (corner _ _) (corner _ _))

/-- and the weight's and the moments' blocks, as the body loads them, are theirs. -/
theorem loaded (t : Fin cfg0.N) (y : S256x2048.Idx) :
    View.ld (iblk m c 1 t) r0_4 (Value.ix6_0 y) = w0 m c (inMat t y)
      ∧ View.ld (iblk m c 2 t) r0_4 (Value.ix6_0 y) = m0 m c (inMat t y)
      ∧ View.ld (iblk m c 3 t) r0_4 (Value.ix6_0 y) = v0 m c (inMat t y) :=
  ⟨congrArg (w0 m c) (eq_mat (corner _ _) (corner _ _)), congrArg (m0 m c) (eq_mat (corner _ _) (corner _ _)),
    congrArg (v0 m c) (eq_mat (corner _ _) (corner _ _))⟩

/-- The gradient's array after the last point: the blocks fill it. -/
theorem final_g : (dats m 0 c).arrAt 4 cfg0.N = grad (p0 m c) :=
  (dats m 0 c).arrAt_eq_of_covers 4 (grad (p0 m c)) (by decide +kernel : win0_4.Covers)
    fun t _ y => (congrFun (after0_4 m c t) y).trans ((Value.canon4_eq _ _ _ _ y).trans (sum m c t y))

/-- The array of the changes. -/
theorem final_d : (dats m 0 c).arrAt 5 cfg0.N = deltas (p0 m c) (w0 m c) (m0 m c) (v0 m c) :=
  (dats m 0 c).arrAt_eq_of_covers 5 (deltas (p0 m c) (w0 m c) (m0 m c) (v0 m c)) (by decide +kernel : win0_5.Covers)
    fun t _ y => (congrFun (after0_5 m c t) y).trans ((Value.canon5_eq _ _ _ _ _ _ _ y).trans
      (step (κ := Cert.AdamFfn2Ideal.κ) rfl rfl (sum m c t y) (loaded m c t y)))

/-- The array of the first moments. -/
theorem final_m : (dats m 0 c).arrAt 6 cfg0.N = ms (p0 m c) (m0 m c) :=
  (dats m 0 c).arrAt_eq_of_covers 6 (ms (p0 m c) (m0 m c)) (by decide +kernel : win0_6.Covers)
    fun t _ y => (congrFun (after0_6 m c t) y).trans ((Value.canon6_eq _ _ _ _ _ y).trans
      (congrArg₂ newM (sum m c t y) (loaded m c t y).2.1))

/-- The array of the second moments. -/
theorem final_v : (dats m 0 c).arrAt 7 cfg0.N = vs (p0 m c) (v0 m c) :=
  (dats m 0 c).arrAt_eq_of_covers 7 (vs (p0 m c) (v0 m c)) (by decide +kernel : win0_7.Covers)
    fun t _ y => (congrFun (after0_7 m c t) y).trans ((Value.canon7_eq _ _ _ _ _ y).trans
      (congrArg₂ newV (sum m c t y) (loaded m c t y).2.2))

end Cert.AdamFfn2Ideal.Step

namespace Cert.Proof

open Cert.Adam Cert.AdamFfn2Ideal.Step

theorem adam_ffn_w2_frame : Cert.quiescent_AdamFfn2 := fun m g _ => Cert.AdamFfn2.Gen.frame m g

theorem adam_ffn_w2_frame_ideal : Cert.quiescent_AdamFfn2Ideal := fun m g _ => Cert.AdamFfn2Ideal.Gen.frame m g

theorem adam_ffn_w2_reference_frame_ideal : Cert.quiescent_AdamFfn2ReferenceIdeal := fun m g _ =>
  (θ_run Cert.AdamFfn2ReferenceIdeal.defs _ _).mono
    (fun r h => ⟨fun c => (h c).2.2.2.2, sem_eq_zero_of_no_sems (by decide) r.2⟩)
    (Cert.AdamFfn2ReferenceIdeal.Value.run (F := Ideal) m g)

/-- The two folded constants, read at the exact inverses. -/
theorem adam_ffn_w2_preserves : Cert.preserves_AdamFfn2_AdamFfn2Ideal :=
  ⟨IdealRules.named_const.statement Cert.AdamFfn2Ideal.κ "c1" .f32 0x3FC48605#32 _ rfl,
    IdealRules.named_const.statement Cert.AdamFfn2Ideal.κ "c2" .f32 0x42C8E6D3#32 _ rfl⟩

/-- The kernel and the plain step end with the same four arrays. -/
theorem adam_ffn_w2_algebraic : Cert.algebraic_AdamFfn2Ideal_AdamFfn2ReferenceIdeal := fun m g m' g' _ hp => by
  refine ⟨fun c => grad (p0 m c), fun c => deltas (p0 m c) (w0 m c) (m0 m c) (v0 m c), fun c => ms (p0 m c) (m0 m c),
    fun c => vs (p0 m c) (v0 m c), ?_, ?_⟩
  · refine (θ_run Cert.AdamFfn2Ideal.defs _ _).mono (fun _ h c => ?_) (Cert.AdamFfn2Ideal.Value.run_blocks (F := Ideal) m g)
    obtain ⟨hg, hd, hm, hv, h⟩ := h c
    exact ⟨hg.trans (final_g m c), hd.trans (final_d m c), hm.trans (final_m m c), hv.trans (final_v m c), h⟩
  · refine (θ_run Cert.AdamFfn2ReferenceIdeal.defs _ _).mono (fun _ h c => ?_) (Cert.AdamFfn2ReferenceIdeal.Value.run (F := Ideal) m' g')
    obtain ⟨hg, hd, hm, hv, h⟩ := h c
    obtain ⟨e0, e1, e2, e3⟩ := hp c
    have eg := host_grad (p0 m c) Cert.AdamFfn2ReferenceIdeal.Facts₀.reducesTo_S4x1024x2048_S1024x2048_d0 (by decide)
    obtain ⟨ed, em, ev⟩ := host_step _ (w0 m c) (m0 m c) (v0 m c) Cert.AdamFfn2ReferenceIdeal.Facts₀.bcast_S_S1024x2048 eg _ _ rfl rfl
    rw [e0] at hg; rw [e0, e2] at hm; rw [e0, e3] at hv; rw [e0, e1, e2, e3] at hd
    exact ⟨hg.trans eg, hd.trans ed, hm.trans em, hv.trans ev, h⟩

end Cert.Proof

end
-- ==== Proof.AdamGlu.lean ====
/-
  The optimiser's step on the gate's weight: what each grid point writes back is its block of the whole-array
  AdamW functions of Proof/Adam.lean, the blocks fill the arrays, and so the kernel's run is read.
-/
module

public import proofs.«01_k».proof.Defs
public import proofs.«01_k».proof.Proof.Gen.AdamGlu.Frame
public import proofs.«01_k».proof.Proof.Gen.AdamGluIdeal.Value
public import proofs.«01_k».proof.Proof.Gen.AdamGluReferenceIdeal.Run
public import proofs.«01_k».proof.Proof.Adam
public import Idealize.ShloMosaic.Lib.Pipeline.ValueKit

@[expose] public section

noncomputable section

open Idealize.ShloMosaic Idealize.ShloMosaic.TcCoe Idealize.SL.Sem
open Idealize.ShloMosaic.Pipeline (Dat)

namespace Cert.AdamGluIdeal.Step

open Cert.AdamGluIdeal Cert.AdamGluIdeal.Gen Cert.Adam

variable (m : (ℓ : Loc nD τ sig) → Buf (Elt Ideal) ℓ) (ρ : Dev nD → PrngReg) (c : Dev nD)

/-- The device's argument arrays: the parts, the weight and the two moments. -/
abbrev p0 : (Parts 4 128 1024).Idx → EReal := m ((c : Thread nD τ).loc main_arg0)
abbrev w0 : (Mat 128 1024).Idx → EReal := m ((c : Thread nD τ).loc main_arg1)
abbrev m0 : (Mat 128 1024).Idx → EReal := m ((c : Thread nD τ).loc main_arg2)
abbrev v0 : (Mat 128 1024).Idx → EReal := m ((c : Thread nD τ).loc main_arg3)

/-- Where block `t` of a matrix has the block's entry `y`. -/
abbrev inMat (t : Fin cfg0.N) (y : S128x1024.Idx) : (Mat 128 1024).Idx := ((cfg0.win 4).blk t).view.emb y

/-- The body's sum of the parts at point `t` is the gradient's block, -/
theorem sum (t : Fin cfg0.N) (y : S128x1024.Idx) :
    Value.E4 (View.ld (iblk m c 0 t) r0_0) (View.ld (iblk m c 0 t) r0_1) (View.ld (iblk m c 0 t) r0_2)
      (View.ld (iblk m c 0 t) r0_3) y = grad (p0 m c) (inMat t y) :=
  four (p := p0 m c) (eq_at rfl (corner _ _) (corner _ _)) (eq_at rfl (corner _ _) (corner _ _))
    (eq_at rfl (corner _ _) (corner _ _)) (eq_at rfl (corner _ _) (corner _ _))

/-- and the weight's and the moments' blocks, as the body loads them, are theirs. -/
theorem loaded (t : Fin cfg0.N) (y : S128x1024.Idx) :
    View.ld (iblk m c 1 t) r0_4 (Value.ix6_0 y) = w0 m c (inMat t y)
      ∧ View.ld (iblk m c 2 t) r0_4 (Value.ix6_0 y) = m0 m c (inMat t y)
      ∧ View.ld (iblk m c 3 t) r0_4 (Value.ix6_0 y) = v0 m c (inMat t y) :=
  ⟨congrArg (w0 m c) (eq_mat (corner _ _) (corner _ _)), congrArg (m0 m c) (eq_mat (corner _ _) (corner _ _)),
    congrArg (v0 m c) (eq_mat (corner _ _) (corner _ _))⟩

/-- The gradient's array after the last point: the blocks fill it. -/
theorem final_g : (dats m 0 c).arrAt 4 cfg0.N = grad (p0 m c) :=
  (dats m 0 c).arrAt_eq_of_covers 4 (grad (p0 m c)) (by decide +kernel : win0_4.Covers)
    fun t _ y => (congrFun (after0_4 m c t) y).trans ((Value.canon4_eq _ _ _ _ y).trans (sum m c t y))

/-- The array of the changes. -/
theorem final_d : (dats m 0 c).arrAt 5 cfg0.N = deltas (p0 m c) (w0 m c) (m0 m c) (v0 m c) :=
  (dats m 0 c).arrAt_eq_of_covers 5 (deltas (p0 m c) (w0 m c) (m0 m c) (v0 m c)) (by decide +kernel : win0_5.Covers)
    fun t _ y => (congrFun (after0_5 m c t) y).trans ((Value.canon5_eq _ _ _ _ _ _ _ y).trans
      (step (κ := Cert.AdamGluIdeal.κ) rfl rfl (sum m c t y) (loaded m c t y)))

/-- The array of the first moments. -/
theorem final_m : (dats m 0 c).arrAt 6 cfg0.N = ms (p0 m c) (m0 m c) :=
  (dats m 0 c).arrAt_eq_of_covers 6 (ms (p0 m c) (m0 m c)) (by decide +kernel : win0_6.Covers)
    fun t _ y => (congrFun (after0_6 m c t) y).trans ((Value.canon6_eq _ _ _ _ _ y).trans
      (congrArg₂ newM (sum m c t y) (loaded m c t y).2.1))

/-- The array of the second moments. -/
theorem final_v : (dats m 0 c).arrAt 7 cfg0.N = vs (p0 m c) (v0 m c) :=
  (dats m 0 c).arrAt_eq_of_covers 7 (vs (p0 m c) (v0 m c)) (by decide +kernel : win0_7.Covers)
    fun t _ y => (congrFun (after0_7 m c t) y).trans ((Value.canon7_eq _ _ _ _ _ y).trans
      (congrArg₂ newV (sum m c t y) (loaded m c t y).2.2))

end Cert.AdamGluIdeal.Step

namespace Cert.Proof

open Cert.Adam Cert.AdamGluIdeal.Step

theorem adam_s5_w_glu_frame : Cert.quiescent_AdamGlu := fun m g _ => Cert.AdamGlu.Gen.frame m g

theorem adam_s5_w_glu_frame_ideal : Cert.quiescent_AdamGluIdeal := fun m g _ => Cert.AdamGluIdeal.Gen.frame m g

theorem adam_s5_w_glu_reference_frame_ideal : Cert.quiescent_AdamGluReferenceIdeal := fun m g _ =>
  (θ_run Cert.AdamGluReferenceIdeal.defs _ _).mono
    (fun r h => ⟨fun c => (h c).2.2.2.2, sem_eq_zero_of_no_sems (by decide) r.2⟩)
    (Cert.AdamGluReferenceIdeal.Value.run (F := Ideal) m g)

/-- The two folded constants, read at the exact inverses. -/
theorem adam_s5_w_glu_preserves : Cert.preserves_AdamGlu_AdamGluIdeal :=
  ⟨IdealRules.named_const.statement Cert.AdamGluIdeal.κ "c1" .f32 0x3FC48605#32 _ rfl,
    IdealRules.named_const.statement Cert.AdamGluIdeal.κ "c2" .f32 0x42C8E6D3#32 _ rfl⟩

/-- The kernel and the plain step end with the same four arrays. -/
theorem adam_s5_w_glu_algebraic : Cert.algebraic_AdamGluIdeal_AdamGluReferenceIdeal := fun m g m' g' _ hp => by
  refine ⟨fun c => grad (p0 m c), fun c => deltas (p0 m c) (w0 m c) (m0 m c) (v0 m c), fun c => ms (p0 m c) (m0 m c),
    fun c => vs (p0 m c) (v0 m c), ?_, ?_⟩
  · refine (θ_run Cert.AdamGluIdeal.defs _ _).mono (fun _ h c => ?_) (Cert.AdamGluIdeal.Value.run_blocks (F := Ideal) m g)
    obtain ⟨hg, hd, hm, hv, h⟩ := h c
    exact ⟨hg.trans (final_g m c), hd.trans (final_d m c), hm.trans (final_m m c), hv.trans (final_v m c), h⟩
  · refine (θ_run Cert.AdamGluReferenceIdeal.defs _ _).mono (fun _ h c => ?_) (Cert.AdamGluReferenceIdeal.Value.run (F := Ideal) m' g')
    obtain ⟨hg, hd, hm, hv, h⟩ := h c
    obtain ⟨e0, e1, e2, e3⟩ := hp c
    have eg := host_grad (p0 m c) Cert.AdamGluReferenceIdeal.Facts₀.reducesTo_S4x128x1024_S128x1024_d0 (by decide)
    obtain ⟨ed, em, ev⟩ := host_step _ (w0 m c) (m0 m c) (v0 m c) Cert.AdamGluReferenceIdeal.Facts₀.bcast_S_S128x1024 eg _ _ rfl rfl
    rw [e0] at hg; rw [e0, e2] at hm; rw [e0, e3] at hv; rw [e0, e1, e2, e3] at hd
    exact ⟨hg.trans eg, hd.trans ed, hm.trans em, hv.trans ev, h⟩

end Cert.Proof

end
-- ==== Proof.AdamAda.lean ====
/-
  The optimiser's step on the modulation's weight: what each grid point writes back is its block of the whole-array
  AdamW functions of Proof/Adam.lean, the blocks fill the arrays, and so the kernel's run is read.
-/
module

public import proofs.«01_k».proof.Defs
public import proofs.«01_k».proof.Proof.Gen.AdamAda.Frame
public import proofs.«01_k».proof.Proof.Gen.AdamAdaIdeal.Value
public import proofs.«01_k».proof.Proof.Gen.AdamAdaReferenceIdeal.Run
public import proofs.«01_k».proof.Proof.Adam
public import Idealize.ShloMosaic.Lib.Pipeline.ValueKit

@[expose] public section

noncomputable section

open Idealize.ShloMosaic Idealize.ShloMosaic.TcCoe Idealize.SL.Sem
open Idealize.ShloMosaic.Pipeline (Dat)

namespace Cert.AdamAdaIdeal.Step

open Cert.AdamAdaIdeal Cert.AdamAdaIdeal.Gen Cert.Adam

variable (m : (ℓ : Loc nD τ sig) → Buf (Elt Ideal) ℓ) (ρ : Dev nD → PrngReg) (c : Dev nD)

/-- The device's argument arrays: the parts, the weight and the two moments. -/
abbrev p0 : (Parts 1 2048 1536).Idx → EReal := m ((c : Thread nD τ).loc main_arg0)
abbrev w0 : (Mat 2048 1536).Idx → EReal := m ((c : Thread nD τ).loc main_arg1)
abbrev m0 : (Mat 2048 1536).Idx → EReal := m ((c : Thread nD τ).loc main_arg2)
abbrev v0 : (Mat 2048 1536).Idx → EReal := m ((c : Thread nD τ).loc main_arg3)

/-- Where block `t` of a matrix has the block's entry `y`. -/
abbrev inMat (t : Fin cfg0.N) (y : S256x1536.Idx) : (Mat 2048 1536).Idx := ((cfg0.win 4).blk t).view.emb y

/-- The body's one part at point `t` is the gradient's block, -/
theorem sum (t : Fin cfg0.N) (y : S256x1536.Idx) :
    Value.E4 (View.ld (iblk m c 0 t) r0_0) y = grad (p0 m c) (inMat t y) :=
  one (p := p0 m c) (eq_at rfl (corner _ _) (corner _ _))

/-- and the weight's and the moments' blocks, as the body loads them, are theirs. -/
theorem loaded (t : Fin cfg0.N) (y : S256x1536.Idx) :
    View.ld (iblk m c 1 t) r0_1 (Value.ix6_0 y) = w0 m c (inMat t y)
      ∧ View.ld (iblk m c 2 t) r0_1 (Value.ix6_0 y) = m0 m c (inMat t y)
      ∧ View.ld (iblk m c 3 t) r0_1 (Value.ix6_0 y) = v0 m c (inMat t y) :=
  ⟨congrArg (w0 m c) (eq_mat (corner _ _) (corner _ _)), congrArg (m0 m c) (eq_mat (corner _ _) (corner _ _)),
    congrArg (v0 m c) (eq_mat (corner _ _) (corner _ _))⟩

/-- The gradient's array after the last point: the blocks fill it. -/
theorem final_g : (dats m 0 c).arrAt 4 cfg0.N = grad (p0 m c) :=
  (dats m 0 c).arrAt_eq_of_covers 4 (grad (p0 m c)) (by decide +kernel : win0_4.Covers)
    fun t _ y => (congrFun (after0_4 m c t) y).trans ((Value.canon4_eq _ y).trans (sum m c t y))

/-- The array of the changes. -/
theorem final_d : (dats m 0 c).arrAt 5 cfg0.N = deltas (p0 m c) (w0 m c) (m0 m c) (v0 m c) :=
  (dats m 0 c).arrAt_eq_of_covers 5 (deltas (p0 m c) (w0 m c) (m0 m c) (v0 m c)) (by decide +kernel : win0_5.Covers)
    fun t _ y => (congrFun (after0_5 m c t) y).trans ((Value.canon5_eq _ _ _ _ y).trans
      (step (κ := Cert.AdamAdaIdeal.κ) rfl rfl (sum m c t y) (loaded m c t y)))

/-- The array of the first moments. -/
theorem final_m : (dats m 0 c).arrAt 6 cfg0.N = ms (p0 m c) (m0 m c) :=
  (dats m 0 c).arrAt_eq_of_covers 6 (ms (p0 m c) (m0 m c)) (by decide +kernel : win0_6.Covers)
    fun t _ y => (congrFun (after0_6 m c t) y).trans ((Value.canon6_eq _ _ y).trans
      (congrArg₂ newM (sum m c t y) (loaded m c t y).2.1))

/-- The array of the second moments. -/
theorem final_v : (dats m 0 c).arrAt 7 cfg0.N = vs (p0 m c) (v0 m c) :=
  (dats m 0 c).arrAt_eq_of_covers 7 (vs (p0 m c) (v0 m c)) (by decide +kernel : win0_7.Covers)
    fun t _ y => (congrFun (after0_7 m c t) y).trans ((Value.canon7_eq _ _ y).trans
      (congrArg₂ newV (sum m c t y) (loaded m c t y).2.2))

end Cert.AdamAdaIdeal.Step

namespace Cert.Proof

open Cert.Adam Cert.AdamAdaIdeal.Step

theorem adam_ada_w_frame : Cert.quiescent_AdamAda := fun m g _ => Cert.AdamAda.Gen.frame m g

theorem adam_ada_w_frame_ideal : Cert.quiescent_AdamAdaIdeal := fun m g _ => Cert.AdamAdaIdeal.Gen.frame m g

theorem adam_ada_w_reference_frame_ideal : Cert.quiescent_AdamAdaReferenceIdeal := fun m g _ =>
  (θ_run Cert.AdamAdaReferenceIdeal.defs _ _).mono
    (fun r h => ⟨fun c => (h c).2.2.2.2, sem_eq_zero_of_no_sems (by decide) r.2⟩)
    (Cert.AdamAdaReferenceIdeal.Value.run (F := Ideal) m g)

/-- The two folded constants, read at the exact inverses. -/
theorem adam_ada_w_preserves : Cert.preserves_AdamAda_AdamAdaIdeal :=
  ⟨IdealRules.named_const.statement Cert.AdamAdaIdeal.κ "c1" .f32 0x3FC48605#32 _ rfl,
    IdealRules.named_const.statement Cert.AdamAdaIdeal.κ "c2" .f32 0x42C8E6D3#32 _ rfl⟩

/-- The kernel and the plain step end with the same four arrays. -/
theorem adam_ada_w_algebraic : Cert.algebraic_AdamAdaIdeal_AdamAdaReferenceIdeal := fun m g m' g' _ hp => by
  refine ⟨fun c => grad (p0 m c), fun c => deltas (p0 m c) (w0 m c) (m0 m c) (v0 m c), fun c => ms (p0 m c) (m0 m c),
    fun c => vs (p0 m c) (v0 m c), ?_, ?_⟩
  · refine (θ_run Cert.AdamAdaIdeal.defs _ _).mono (fun _ h c => ?_) (Cert.AdamAdaIdeal.Value.run_blocks (F := Ideal) m g)
    obtain ⟨hg, hd, hm, hv, h⟩ := h c
    exact ⟨hg.trans (final_g m c), hd.trans (final_d m c), hm.trans (final_m m c), hv.trans (final_v m c), h⟩
  · refine (θ_run Cert.AdamAdaReferenceIdeal.defs _ _).mono (fun _ h c => ?_) (Cert.AdamAdaReferenceIdeal.Value.run (F := Ideal) m' g')
    obtain ⟨hg, hd, hm, hv, h⟩ := h c
    obtain ⟨e0, e1, e2, e3⟩ := hp c
    have eg := host_grad (p0 m c) Cert.AdamAdaReferenceIdeal.Facts₀.reducesTo_S1x2048x1536_S2048x1536_d0 (by decide)
    obtain ⟨ed, em, ev⟩ := host_step _ (w0 m c) (m0 m c) (v0 m c) Cert.AdamAdaReferenceIdeal.Facts₀.bcast_S_S2048x1536 eg _ _ rfl rfl
    rw [e0] at hg; rw [e0, e2] at hm; rw [e0, e3] at hv; rw [e0, e1, e2, e3] at hd
    exact ⟨hg.trans eg, hd.trans ed, hm.trans em, hv.trans ev, h⟩

end Cert.Proof

end
-- ==== Proof.AdamRk.lean ====
/-
  The optimiser's step on the packed weights of the recurrence: what each grid point writes back is its block of the whole-array
  AdamW functions of Proof/Adam.lean, the blocks fill the arrays, and so the kernel's run is read.
-/
module

public import proofs.«01_k».proof.Defs
public import proofs.«01_k».proof.Proof.Gen.AdamRk.Frame
public import proofs.«01_k».proof.Proof.Gen.AdamRkIdeal.Value
public import proofs.«01_k».proof.Proof.Gen.AdamRkReferenceIdeal.Run
public import proofs.«01_k».proof.Proof.Adam
public import Idealize.ShloMosaic.Lib.Pipeline.ValueKit

@[expose] public section

noncomputable section

open Idealize.ShloMosaic Idealize.ShloMosaic.TcCoe Idealize.SL.Sem
open Idealize.ShloMosaic.Pipeline (Dat)

namespace Cert.AdamRkIdeal.Step

open Cert.AdamRkIdeal Cert.AdamRkIdeal.Gen Cert.Adam

variable (m : (ℓ : Loc nD τ sig) → Buf (Elt Ideal) ℓ) (ρ : Dev nD → PrngReg) (c : Dev nD)

/-- The device's argument arrays: the parts, the weight and the two moments. -/
abbrev p0 : (Parts 4 432 128).Idx → EReal := m ((c : Thread nD τ).loc main_arg0)
abbrev w0 : (Mat 432 128).Idx → EReal := m ((c : Thread nD τ).loc main_arg1)
abbrev m0 : (Mat 432 128).Idx → EReal := m ((c : Thread nD τ).loc main_arg2)
abbrev v0 : (Mat 432 128).Idx → EReal := m ((c : Thread nD τ).loc main_arg3)

/-- Where block `t` of a matrix has the block's entry `y`. -/
abbrev inMat (t : Fin cfg0.N) (y : S432x128.Idx) : (Mat 432 128).Idx := ((cfg0.win 4).blk t).view.emb y

/-- The body's sum of the parts at point `t` is the gradient's block, -/
theorem sum (t : Fin cfg0.N) (y : S432x128.Idx) :
    Value.E4 (View.ld (iblk m c 0 t) r0_0) (View.ld (iblk m c 0 t) r0_1) (View.ld (iblk m c 0 t) r0_2)
      (View.ld (iblk m c 0 t) r0_3) y = grad (p0 m c) (inMat t y) :=
  four (p := p0 m c) (eq_at rfl (corner _ _) (corner _ _)) (eq_at rfl (corner _ _) (corner _ _))
    (eq_at rfl (corner _ _) (corner _ _)) (eq_at rfl (corner _ _) (corner _ _))

/-- and the weight's and the moments' blocks, as the body loads them, are theirs. -/
theorem loaded (t : Fin cfg0.N) (y : S432x128.Idx) :
    View.ld (iblk m c 1 t) r0_4 (Value.ix6_0 y) = w0 m c (inMat t y)
      ∧ View.ld (iblk m c 2 t) r0_4 (Value.ix6_0 y) = m0 m c (inMat t y)
      ∧ View.ld (iblk m c 3 t) r0_4 (Value.ix6_0 y) = v0 m c (inMat t y) :=
  ⟨congrArg (w0 m c) (eq_mat (corner _ _) (corner _ _)), congrArg (m0 m c) (eq_mat (corner _ _) (corner _ _)),
    congrArg (v0 m c) (eq_mat (corner _ _) (corner _ _))⟩

/-- The gradient's array after the last point: the blocks fill it. -/
theorem final_g : (dats m 0 c).arrAt 4 cfg0.N = grad (p0 m c) :=
  (dats m 0 c).arrAt_eq_of_covers 4 (grad (p0 m c)) (by decide +kernel : win0_4.Covers)
    fun t _ y => (congrFun (after0_4 m c t) y).trans ((Value.canon4_eq _ _ _ _ y).trans (sum m c t y))

/-- The array of the changes. -/
theorem final_d : (dats m 0 c).arrAt 5 cfg0.N = deltas (p0 m c) (w0 m c) (m0 m c) (v0 m c) :=
  (dats m 0 c).arrAt_eq_of_covers 5 (deltas (p0 m c) (w0 m c) (m0 m c) (v0 m c)) (by decide +kernel : win0_5.Covers)
    fun t _ y => (congrFun (after0_5 m c t) y).trans ((Value.canon5_eq _ _ _ _ _ _ _ y).trans
      (step (κ := Cert.AdamRkIdeal.κ) rfl rfl (sum m c t y) (loaded m c t y)))

/-- The array of the first moments. -/
theorem final_m : (dats m 0 c).arrAt 6 cfg0.N = ms (p0 m c) (m0 m c) :=
  (dats m 0 c).arrAt_eq_of_covers 6 (ms (p0 m c) (m0 m c)) (by decide +kernel : win0_6.Covers)
    fun t _ y => (congrFun (after0_6 m c t) y).trans ((Value.canon6_eq _ _ _ _ _ y).trans
      (congrArg₂ newM (sum m c t y) (loaded m c t y).2.1))

/-- The array of the second moments. -/
theorem final_v : (dats m 0 c).arrAt 7 cfg0.N = vs (p0 m c) (v0 m c) :=
  (dats m 0 c).arrAt_eq_of_covers 7 (vs (p0 m c) (v0 m c)) (by decide +kernel : win0_7.Covers)
    fun t _ y => (congrFun (after0_7 m c t) y).trans ((Value.canon7_eq _ _ _ _ _ y).trans
      (congrArg₂ newV (sum m c t y) (loaded m c t y).2.2))

end Cert.AdamRkIdeal.Step

namespace Cert.Proof

open Cert.Adam Cert.AdamRkIdeal.Step

theorem adam_rkpack_frame : Cert.quiescent_AdamRk := fun m g _ => Cert.AdamRk.Gen.frame m g

theorem adam_rkpack_frame_ideal : Cert.quiescent_AdamRkIdeal := fun m g _ => Cert.AdamRkIdeal.Gen.frame m g

theorem adam_rkpack_reference_frame_ideal : Cert.quiescent_AdamRkReferenceIdeal := fun m g _ =>
  (θ_run Cert.AdamRkReferenceIdeal.defs _ _).mono
    (fun r h => ⟨fun c => (h c).2.2.2.2, sem_eq_zero_of_no_sems (by decide) r.2⟩)
    (Cert.AdamRkReferenceIdeal.Value.run (F := Ideal) m g)

/-- The two folded constants, read at the exact inverses. -/
theorem adam_rkpack_preserves : Cert.preserves_AdamRk_AdamRkIdeal :=
  ⟨IdealRules.named_const.statement Cert.AdamRkIdeal.κ "c1" .f32 0x3FC48605#32 _ rfl,
    IdealRules.named_const.statement Cert.AdamRkIdeal.κ "c2" .f32 0x42C8E6D3#32 _ rfl⟩

/-- The kernel and the plain step end with the same four arrays. -/
theorem adam_rkpack_algebraic : Cert.algebraic_AdamRkIdeal_AdamRkReferenceIdeal := fun m g m' g' _ hp => by
  refine ⟨fun c => grad (p0 m c), fun c => deltas (p0 m c) (w0 m c) (m0 m c) (v0 m c), fun c => ms (p0 m c) (m0 m c),
    fun c => vs (p0 m c) (v0 m c), ?_, ?_⟩
  · refine (θ_run Cert.AdamRkIdeal.defs _ _).mono (fun _ h c => ?_) (Cert.AdamRkIdeal.Value.run_blocks (F := Ideal) m g)
    obtain ⟨hg, hd, hm, hv, h⟩ := h c
    exact ⟨hg.trans (final_g m c), hd.trans (final_d m c), hm.trans (final_m m c), hv.trans (final_v m c), h⟩
  · refine (θ_run Cert.AdamRkReferenceIdeal.defs _ _).mono (fun _ h c => ?_) (Cert.AdamRkReferenceIdeal.Value.run (F := Ideal) m' g')
    obtain ⟨hg, hd, hm, hv, h⟩ := h c
    obtain ⟨e0, e1, e2, e3⟩ := hp c
    have eg := host_grad (p0 m c) Cert.AdamRkReferenceIdeal.Facts₀.reducesTo_S4x432x128_S432x128_d0 (by decide)
    obtain ⟨ed, em, ev⟩ := host_step _ (w0 m c) (m0 m c) (v0 m c) Cert.AdamRkReferenceIdeal.Facts₀.bcast_S_S432x128 eg _ _ rfl rfl
    rw [e0] at hg; rw [e0, e2] at hm; rw [e0, e3] at hv; rw [e0, e1, e2, e3] at hd
    exact ⟨hg.trans eg, hd.trans ed, hm.trans em, hv.trans ev, h⟩

end Cert.Proof

end
-- ==== Proof.AdamSmall.lean ====
/-
  The optimiser's step on the packed small weights: what each grid point writes back is its block of the whole-array
  AdamW functions of Proof/Adam.lean, the blocks fill the arrays, and so the kernel's run is read.
-/
module

public import proofs.«01_k».proof.Defs
public import proofs.«01_k».proof.Proof.Gen.AdamSmall.Frame
public import proofs.«01_k».proof.Proof.Gen.AdamSmallIdeal.Value
public import proofs.«01_k».proof.Proof.Gen.AdamSmallReferenceIdeal.Run
public import proofs.«01_k».proof.Proof.Adam
public import Idealize.ShloMosaic.Lib.Pipeline.ValueKit

@[expose] public section

noncomputable section

open Idealize.ShloMosaic Idealize.ShloMosaic.TcCoe Idealize.SL.Sem
open Idealize.ShloMosaic.Pipeline (Dat)

namespace Cert.AdamSmallIdeal.Step

open Cert.AdamSmallIdeal Cert.AdamSmallIdeal.Gen Cert.Adam

variable (m : (ℓ : Loc nD τ sig) → Buf (Elt Ideal) ℓ) (ρ : Dev nD → PrngReg) (c : Dev nD)

/-- The device's argument arrays: the parts, the weight and the two moments. -/
abbrev p0 : (Parts 8 2440 128).Idx → EReal := m ((c : Thread nD τ).loc main_arg0)
abbrev w0 : (Mat 2440 128).Idx → EReal := m ((c : Thread nD τ).loc main_arg1)
abbrev m0 : (Mat 2440 128).Idx → EReal := m ((c : Thread nD τ).loc main_arg2)
abbrev v0 : (Mat 2440 128).Idx → EReal := m ((c : Thread nD τ).loc main_arg3)

/-- Where block `t` of a matrix has the block's entry `y`. -/
abbrev inMat (t : Fin cfg0.N) (y : S2440x128.Idx) : (Mat 2440 128).Idx := ((cfg0.win 4).blk t).view.emb y

/-- The body's sum of the parts at point `t` is the gradient's block, -/
theorem sum (t : Fin cfg0.N) (y : S2440x128.Idx) :
    Value.E4 (View.ld (iblk m c 0 t) r0_0) (View.ld (iblk m c 0 t) r0_1) (View.ld (iblk m c 0 t) r0_2)
      (View.ld (iblk m c 0 t) r0_3) (View.ld (iblk m c 0 t) r0_4) (View.ld (iblk m c 0 t) r0_5)
      (View.ld (iblk m c 0 t) r0_6) (View.ld (iblk m c 0 t) r0_7) y = grad (p0 m c) (inMat t y) :=
  eight (p := p0 m c) (eq_at rfl (corner _ _) (corner _ _)) (eq_at rfl (corner _ _) (corner _ _))
    (eq_at rfl (corner _ _) (corner _ _)) (eq_at rfl (corner _ _) (corner _ _))
    (eq_at rfl (corner _ _) (corner _ _)) (eq_at rfl (corner _ _) (corner _ _))
    (eq_at rfl (corner _ _) (corner _ _)) (eq_at rfl (corner _ _) (corner _ _))

/-- and the weight's and the moments' blocks, as the body loads them, are theirs. -/
theorem loaded (t : Fin cfg0.N) (y : S2440x128.Idx) :
    View.ld (iblk m c 1 t) r0_8 (Value.ix6_0 y) = w0 m c (inMat t y)
      ∧ View.ld (iblk m c 2 t) r0_8 (Value.ix6_0 y) = m0 m c (inMat t y)
      ∧ View.ld (iblk m c 3 t) r0_8 (Value.ix6_0 y) = v0 m c (inMat t y) :=
  ⟨congrArg (w0 m c) (eq_mat (corner _ _) (corner _ _)), congrArg (m0 m c) (eq_mat (corner _ _) (corner _ _)),
    congrArg (v0 m c) (eq_mat (corner _ _) (corner _ _))⟩

/-- The gradient's array after the last point: the blocks fill it. -/
theorem final_g : (dats m 0 c).arrAt 4 cfg0.N = grad (p0 m c) :=
  (dats m 0 c).arrAt_eq_of_covers 4 (grad (p0 m c)) (by decide +kernel : win0_4.Covers)
    fun t _ y => (congrFun (after0_4 m c t) y).trans ((Value.canon4_eq _ _ _ _ _ _ _ _ y).trans (sum m c t y))

/-- The array of the changes. -/
theorem final_d : (dats m 0 c).arrAt 5 cfg0.N = deltas (p0 m c) (w0 m c) (m0 m c) (v0 m c) :=
  (dats m 0 c).arrAt_eq_of_covers 5 (deltas (p0 m c) (w0 m c) (m0 m c) (v0 m c)) (by decide +kernel : win0_5.Covers)
    fun t _ y => (congrFun (after0_5 m c t) y).trans ((Value.canon5_eq _ _ _ _ _ _ _ _ _ _ _ y).trans
      (step (κ := Cert.AdamSmallIdeal.κ) rfl rfl (sum m c t y) (loaded m c t y)))

/-- The array of the first moments. -/
theorem final_m : (dats m 0 c).arrAt 6 cfg0.N = ms (p0 m c) (m0 m c) :=
  (dats m 0 c).arrAt_eq_of_covers 6 (ms (p0 m c) (m0 m c)) (by decide +kernel : win0_6.Covers)
    fun t _ y => (congrFun (after0_6 m c t) y).trans ((Value.canon6_eq _ _ _ _ _ _ _ _ _ y).trans
      (congrArg₂ newM (sum m c t y) (loaded m c t y).2.1))

/-- The array of the second moments. -/
theorem final_v : (dats m 0 c).arrAt 7 cfg0.N = vs (p0 m c) (v0 m c) :=
  (dats m 0 c).arrAt_eq_of_covers 7 (vs (p0 m c) (v0 m c)) (by decide +kernel : win0_7.Covers)
    fun t _ y => (congrFun (after0_7 m c t) y).trans ((Value.canon7_eq _ _ _ _ _ _ _ _ _ y).trans
      (congrArg₂ newV (sum m c t y) (loaded m c t y).2.2))

end Cert.AdamSmallIdeal.Step

namespace Cert.Proof

open Cert.Adam Cert.AdamSmallIdeal.Step

theorem adam_small_frame : Cert.quiescent_AdamSmall := fun m g _ => Cert.AdamSmall.Gen.frame m g

theorem adam_small_frame_ideal : Cert.quiescent_AdamSmallIdeal := fun m g _ => Cert.AdamSmallIdeal.Gen.frame m g

theorem adam_small_reference_frame_ideal : Cert.quiescent_AdamSmallReferenceIdeal := fun m g _ =>
  (θ_run Cert.AdamSmallReferenceIdeal.defs _ _).mono
    (fun r h => ⟨fun c => (h c).2.2.2.2, sem_eq_zero_of_no_sems (by decide) r.2⟩)
    (Cert.AdamSmallReferenceIdeal.Value.run (F := Ideal) m g)

/-- The two folded constants, read at the exact inverses. -/
theorem adam_small_preserves : Cert.preserves_AdamSmall_AdamSmallIdeal :=
  ⟨IdealRules.named_const.statement Cert.AdamSmallIdeal.κ "c1" .f32 0x3FC48605#32 _ rfl,
    IdealRules.named_const.statement Cert.AdamSmallIdeal.κ "c2" .f32 0x42C8E6D3#32 _ rfl⟩

/-- The kernel and the plain step end with the same four arrays. -/
theorem adam_small_algebraic : Cert.algebraic_AdamSmallIdeal_AdamSmallReferenceIdeal := fun m g m' g' _ hp => by
  refine ⟨fun c => grad (p0 m c), fun c => deltas (p0 m c) (w0 m c) (m0 m c) (v0 m c), fun c => ms (p0 m c) (m0 m c),
    fun c => vs (p0 m c) (v0 m c), ?_, ?_⟩
  · refine (θ_run Cert.AdamSmallIdeal.defs _ _).mono (fun _ h c => ?_) (Cert.AdamSmallIdeal.Value.run_blocks (F := Ideal) m g)
    obtain ⟨hg, hd, hm, hv, h⟩ := h c
    exact ⟨hg.trans (final_g m c), hd.trans (final_d m c), hm.trans (final_m m c), hv.trans (final_v m c), h⟩
  · refine (θ_run Cert.AdamSmallReferenceIdeal.defs _ _).mono (fun _ h c => ?_) (Cert.AdamSmallReferenceIdeal.Value.run (F := Ideal) m' g')
    obtain ⟨hg, hd, hm, hv, h⟩ := h c
    obtain ⟨e0, e1, e2, e3⟩ := hp c
    have eg := host_grad (p0 m c) Cert.AdamSmallReferenceIdeal.Facts₀.reducesTo_S8x2440x128_S2440x128_d0 (by decide)
    obtain ⟨ed, em, ev⟩ := host_step _ (w0 m c) (m0 m c) (v0 m c) Cert.AdamSmallReferenceIdeal.Facts₀.bcast_S_S2440x128 eg _ _ rfl rfl
    rw [e0] at hg; rw [e0, e2] at hm; rw [e0, e3] at hv; rw [e0, e1, e2, e3] at hd
    exact ⟨hg.trans eg, hd.trans ed, hm.trans em, hv.trans ev, h⟩

end Cert.Proof

end
-- ==== Proof.AdamLog.lean ====
/-
  The optimiser's step on `s5_log_step`, whose gradient has a part for each device and each state position, 512 in all:
  the body's additions, one after another, are one recursion over the parts, and so the gradient of Proof/Adam.lean.
-/
module

public import proofs.«01_k».proof.Defs
public import proofs.«01_k».proof.Proof.Gen.AdamLog.Frame
public import proofs.«01_k».proof.Proof.Gen.AdamLogIdeal.Frame
public import proofs.«01_k».proof.Proof.Gen.AdamLogReferenceIdeal.Run
public import proofs.«01_k».proof.Proof.Adam
public import Idealize.ShloMosaic.Lib.Pipeline.ValueKit

@[expose] public section

noncomputable section

open Idealize.ShloMosaic Idealize.ShloMosaic.TcCoe Idealize.SL.Sem
open Idealize.ShloMosaic.Pipeline (Dat)

namespace Cert.AdamLogIdeal.Step

open Cert.AdamLogIdeal Cert.AdamLogIdeal.Gen Cert.Adam

/-! ## The sum of the parts -/

/-- One part lies inside the stack. -/
theorem inside (k : ℕ) (a : Fin 3) : (![k % 512, 0, 0] : Fin 3 → ℕ) a + S1x8x128.size a ≤ S512x8x128.size a := by
  match a with
  | ⟨0, _⟩ => exact Nat.succ_le_of_lt (Nat.mod_lt _ (by decide))
  | ⟨1, _⟩ => exact le_refl 8
  | ⟨2, _⟩ => exact le_refl 128

/-- Part `k` of the stack, as the body loads it. -/
def part (x : Vec Ideal S512x8x128 .f32) (k : ℕ) : FVec Ideal S8x128 .f32 :=
  shapeCast S8x128 (View.ld x (Rect.unit (s := S512x8x128) ![k % 512, 0, 0] S1x8x128.size (inside k)))
    shapeCasts_S1x8x128_S8x128

/-- Its entries are the stack's. -/
theorem part_apply (x : Vec Ideal S512x8x128 .f32) (k : Fin 512) (y : S8x128.Idx) : part x k y = x (at' k y) :=
  (shapeCast_dropUnit_apply _ _ _ y).trans
    (congrArg x (eq_at (by show k.val % 512 + 1 * 0 = k.val; omega) (by show 0 + 1 * (y 0).val = _; omega)
      (by show 0 + 1 * (y 1).val = _; omega)))

/-- Arrays added one after another. -/
def chain (f : ℕ → FVec Ideal S8x128 .f32) : ℕ → FVec Ideal S8x128 .f32
  | 0 => f 0
  | k + 1 => addf (chain f k) (f (k + 1))

/-- Each entry of the chain is the sum of the entries. -/
theorem chain_apply (f : ℕ → FVec Ideal S8x128 .f32) (n : ℕ) (y : S8x128.Idx) :
    chain f n y = ∑ k : Fin (n + 1), f k y := by
  induction n with
  | zero => exact (Fin.sum_univ_one fun k : Fin 1 => f k y).symm
  | succ n ih => exact (congrArg (· + f (n + 1) y) ih).trans (Fin.sum_univ_castSucc fun k : Fin (n + 2) => f k y).symm

set_option maxRecDepth 65536 in
/-- The body's sum is the chain of the 512 parts, -/
theorem body_chain (x : Vec Ideal S512x8x128 .f32) (x1 x2 x3 : Vec Ideal S8x128 .f32) :
    k0_pay52 (k0_pay57 x x1 x2 x3) (View.ld x r0_510) (View.ld x r0_511) = chain (part x) 511 := rfl

/-- and so the gradient. -/
theorem body_sum (x : Vec Ideal S512x8x128 .f32) (x1 x2 x3 : Vec Ideal S8x128 .f32) :
    k0_pay52 (k0_pay57 x x1 x2 x3) (View.ld x r0_510) (View.ld x r0_511) = grad (n := 512) x := by
  rw [body_chain]
  funext y
  rw [chain_apply]
  exact Finset.sum_congr rfl fun k _ => part_apply x k y

/-! ## What the body leaves -/

variable (x : Vec Ideal S512x8x128 .f32) (w mo ve : Vec Ideal S8x128 .f32)

theorem out_g : out0_4 x w mo ve = grad (n := 512) x :=
  (View.canon_cons_unit_lit' _ _ _ (by decide)).trans (body_sum x w mo ve)

theorem out_m : out0_6 x w mo ve = ms (n := 512) x mo := by
  refine (View.canon_cons_unit_lit' _ _ _ (by decide)).trans ?_
  unfold k0_pay53
  rw [body_sum, View.ld_unit_lit' _ mo (by decide)]; rfl

theorem out_v : out0_7 x w mo ve = vs (n := 512) x ve := by
  refine (View.canon_cons_unit_lit' _ _ _ (by decide)).trans ?_
  unfold k0_pay54
  rw [body_sum, View.ld_unit_lit' _ ve (by decide)]; rfl

theorem out_d : out0_5 x w mo ve = deltas (n := 512) x w mo ve := by
  refine (View.canon_cons_unit_lit' _ _ _ (by decide)).trans ?_
  unfold k0_pay56 k0_pay55 k0_pay53 k0_pay54
  rw [body_sum, View.ld_unit_lit' _ w (by decide), View.ld_unit_lit' _ mo (by decide), View.ld_unit_lit' _ ve (by decide)]
  funext y
  exact step (κ := Cert.AdamLogIdeal.κ) rfl rfl rfl ⟨rfl, rfl, rfl⟩

/-! ## The arrays after the run -/

variable (m : (ℓ : Loc nD τ sig) → Buf (Elt Ideal) ℓ) (ρ : Dev nD → PrngReg) (c : Dev nD)

/-- The device's argument arrays: the parts, the weight and the two moments. -/
abbrev p0 : (Parts 512 8 128).Idx → EReal := m ((c : Thread nD τ).loc main_arg0)
abbrev w0 : (Mat 8 128).Idx → EReal := m ((c : Thread nD τ).loc main_arg1)
abbrev m0 : (Mat 8 128).Idx → EReal := m ((c : Thread nD τ).loc main_arg2)
abbrev v0 : (Mat 8 128).Idx → EReal := m ((c : Thread nD τ).loc main_arg3)

/-- Where a block of a matrix has its entry `y`. -/
abbrev inMat (t : Fin cfg0.N) (y : S8x128.Idx) : (Mat 8 128).Idx := ((cfg0.win 4).blk t).view.emb y

/-- The stack's block has all the parts, -/
theorem first : ∀ t : Fin cfg0.N, win0_0.index t 0 = 0 := by decide +kernel

/-- so its gradient is the gradient's block, -/
theorem sum (t : Fin cfg0.N) (y : S8x128.Idx) : grad (n := 512) (iblk m c 0 t) y = grad (p0 m c) (inMat t y) :=
  Finset.sum_congr rfl fun k _ => congrArg (p0 m c)
    (eq_at (by show win0_0.index t 0 * 512 + 1 * k.val = k.val; rw [first]; omega) rfl rfl)

/-- and the weight's and the moments' blocks are theirs. -/
theorem loaded (t : Fin cfg0.N) (y : S8x128.Idx) :
    iblk m c 1 t y = w0 m c (inMat t y) ∧ iblk m c 2 t y = m0 m c (inMat t y) ∧ iblk m c 3 t y = v0 m c (inMat t y) :=
  ⟨rfl, rfl, rfl⟩

/-- The gradient's array after the run. -/
theorem final_g : (dats m 0 c).arrAt 4 cfg0.N = grad (p0 m c) :=
  (dats m 0 c).arrAt_eq_of_covers 4 (grad (p0 m c)) (by decide +kernel : win0_4.Covers)
    fun t _ y => (congrFun ((after0_4 m c t).trans (out_g _ _ _ _)) y).trans (sum m c t y)

/-- The array of the changes. -/
theorem final_d : (dats m 0 c).arrAt 5 cfg0.N = deltas (p0 m c) (w0 m c) (m0 m c) (v0 m c) :=
  (dats m 0 c).arrAt_eq_of_covers 5 (deltas (p0 m c) (w0 m c) (m0 m c) (v0 m c)) (by decide +kernel : win0_5.Covers)
    fun t _ y => (congrFun ((after0_5 m c t).trans (out_d _ _ _ _)) y).trans
      (congrArg (fun g => delta g (w0 m c (inMat t y)) (m0 m c (inMat t y)) (v0 m c (inMat t y))) (sum m c t y))

/-- The array of the first moments. -/
theorem final_m : (dats m 0 c).arrAt 6 cfg0.N = ms (p0 m c) (m0 m c) :=
  (dats m 0 c).arrAt_eq_of_covers 6 (ms (p0 m c) (m0 m c)) (by decide +kernel : win0_6.Covers)
    fun t _ y => (congrFun ((after0_6 m c t).trans (out_m _ _ _ _)) y).trans
      (congrArg₂ newM (sum m c t y) (loaded m c t y).2.1)

/-- The array of the second moments. -/
theorem final_v : (dats m 0 c).arrAt 7 cfg0.N = vs (p0 m c) (v0 m c) :=
  (dats m 0 c).arrAt_eq_of_covers 7 (vs (p0 m c) (v0 m c)) (by decide +kernel : win0_7.Covers)
    fun t _ y => (congrFun ((after0_7 m c t).trans (out_v _ _ _ _)) y).trans
      (congrArg₂ newV (sum m c t y) (loaded m c t y).2.2)

end Cert.AdamLogIdeal.Step

namespace Cert.Proof

open Cert.Adam Cert.AdamLogIdeal.Step

theorem adam_log_frame : Cert.quiescent_AdamLog := fun m g _ => Cert.AdamLog.Gen.frame m g

theorem adam_log_frame_ideal : Cert.quiescent_AdamLogIdeal := fun m g _ => Cert.AdamLogIdeal.Gen.frame m g

theorem adam_log_reference_frame_ideal : Cert.quiescent_AdamLogReferenceIdeal := fun m g _ =>
  (θ_run Cert.AdamLogReferenceIdeal.defs _ _).mono
    (fun r h => ⟨fun c => (h c).2.2.2.2, sem_eq_zero_of_no_sems (by decide) r.2⟩)
    (Cert.AdamLogReferenceIdeal.Value.run (F := Ideal) m g)

/-- The two folded constants, read at the exact inverses. -/
theorem adam_log_preserves : Cert.preserves_AdamLog_AdamLogIdeal :=
  ⟨IdealRules.named_const.statement Cert.AdamLogIdeal.κ "c1" .f32 0x3FC48605#32 _ rfl,
    IdealRules.named_const.statement Cert.AdamLogIdeal.κ "c2" .f32 0x42C8E6D3#32 _ rfl⟩

/-- The kernel and the plain step end with the same four arrays. -/
theorem adam_log_algebraic : Cert.algebraic_AdamLogIdeal_AdamLogReferenceIdeal := fun m g m' g' _ hp => by
  refine ⟨fun c => grad (p0 m c), fun c => deltas (p0 m c) (w0 m c) (m0 m c) (v0 m c), fun c => ms (p0 m c) (m0 m c),
    fun c => vs (p0 m c) (v0 m c), ?_, ?_⟩
  · refine (θ_run Cert.AdamLogIdeal.defs _ _).mono (fun r h c => ?_)
      (Cert.AdamLogIdeal.Gen.run_main (F := Ideal) m g)
    have kept (w : Fin 8) (hw) : r.2.mem ((c : Thread Cert.AdamLogIdeal.nD Cert.AdamLogIdeal.τ).loc (Pipeline.arrRef Cert.AdamLogIdeal.spec0 w))
        = m ((c : Thread Cert.AdamLogIdeal.nD Cert.AdamLogIdeal.τ).loc (Pipeline.arrRef Cert.AdamLogIdeal.spec0 w)) :=
      ((h c).1 w).trans (((Cert.AdamLogIdeal.Gen.dats m 0 c).arrAt_in w hw _).trans (Cert.AdamLogIdeal.Gen.A_eq m c w))
    exact ⟨((h c).1 4).trans (final_g m c), ((h c).1 5).trans (final_d m c), ((h c).1 6).trans (final_m m c),
      ((h c).1 7).trans (final_v m c), kept 0 rfl, kept 1 rfl, kept 2 rfl, kept 3 rfl⟩
  · refine (θ_run Cert.AdamLogReferenceIdeal.defs _ _).mono (fun _ h c => ?_) (Cert.AdamLogReferenceIdeal.Value.run (F := Ideal) m' g')
    obtain ⟨hg, hd, hm, hv, h⟩ := h c
    obtain ⟨e0, e1, e2, e3⟩ := hp c
    have eg := host_grad (p0 m c) Cert.AdamLogReferenceIdeal.Facts₀.reducesTo_S512x8x128_S8x128_d0 (by decide)
    obtain ⟨ed, em, ev⟩ := host_step _ (w0 m c) (m0 m c) (v0 m c) Cert.AdamLogReferenceIdeal.Facts₀.bcast_S_S8x128 eg _ _ rfl rfl
    rw [e0] at hg; rw [e0, e2] at hm; rw [e0, e3] at hv; rw [e0, e1, e2, e3] at hd
    exact ⟨hg.trans eg, hd.trans ed, hm.trans em, hv.trans ev, h⟩

end Cert.Proof

end
-- ==== Proof.Rows.lean ====
/-
  Sums along the rows and down the columns of a matrix, and the broadcasts back, as a kernel and as the host write them;
  the sum down a column taken tile by tile; and the root-mean-square norm of each row with its backward pass.
-/
module

public import proofs.«01_k».proof.Proof.Adam

@[expose] public section

noncomputable section

open Idealize.ShloMosaic

namespace Cert.Rows

open scoped BigOperators
open Cert.Adam (Mat)

variable {R C : ℕ}

/-- A vector. -/
abbrev Line (n : ℕ) : Shape := ⟨1, ![n]⟩

/-- The entry in row `r` and column `k`. -/
abbrev pt (r : Fin R) (k : Fin C) : (Mat R C).Idx := fun a => match a with | ⟨0, _⟩ => r | ⟨1, _⟩ => k

/-- The entry `r` of a vector. -/
abbrev pt1 (r : Fin R) : (Line R).Idx := fun a => match a with | ⟨0, _⟩ => r

/-- An index by its coordinates. -/
theorem eq_pt {i : (Mat R C).Idx} {r : Fin R} {k : Fin C} (h0 : (i 0).val = r.val) (h1 : (i 1).val = k.val) :
    i = pt r k := by
  funext a
  match a with
  | ⟨0, _⟩ => exact Fin.ext h0
  | ⟨1, _⟩ => exact Fin.ext h1

/-- The sums along the rows, as a column. -/
def lanes (v : (Mat R C).Idx → EReal) : (Mat R 1).Idx → EReal := fun i => ∑ k : Fin C, v (pt (i 0) k)

/-- The sums down the columns, as a row. -/
def cols (v : (Mat R C).Idx → EReal) : (Mat 1 C).Idx → EReal := fun i => ∑ r : Fin R, v (pt r (i 1))

/-- A column beside itself. -/
def along (v : (Mat R 1).Idx → EReal) : (Mat R C).Idx → EReal := fun i => v (pt (i 0) 0)

/-- A row under itself. -/
def down (v : (Mat 1 C).Idx → EReal) : (Mat R C).Idx → EReal := fun i => v (pt 0 (i 1))

/-- A coordinate along an axis, whether the axis is repeated or not. -/
theorem unless_one {n : ℕ} (k : Fin n) : k.val = if n = 1 then 0 else k.val := by
  split
  · have := k.isLt; omega
  · rfl

/-! ## A kernel's operations -/

theorem lane_sum (v : FVec Ideal (Mat R C) .f32) (acc) (h) (hφ) (hacc) (hs) :
    shapeCast (Mat R 1) (multiReduction .add [1] (Line R) v acc h hφ hacc) hs = lanes v := by
  funext i
  refine (shapeCast_apply _ hs i (pt1 (i 0)) (by
    rw [Shape.rowMajor_val_one, Shape.rowMajor_val_two]
    have : (i 1).val < 1 := (i 1).isLt
    show (i 0).val = (i 0).val * 1 + (i 1).val; omega)).trans ?_
  exact (Ideal.reduceAdd_r2_a1 h v _).trans (Finset.sum_congr rfl fun k _ => congrArg v (eq_pt rfl rfl))

theorem col_sum (v : FVec Ideal (Mat R C) .f32) (acc) (h) (hφ) (hacc) (hs) :
    shapeCast (Mat 1 C) (multiReduction .add [0] (Line C) v acc h hφ hacc) hs = cols v := by
  funext i
  refine (shapeCast_apply _ hs i (pt1 (i 1)) (by
    rw [Shape.rowMajor_val_one, Shape.rowMajor_val_two]
    have : (i 0).val < 1 := (i 0).isLt
    show (i 1).val = (i 0).val * C + (i 1).val
    rw [show (i 0).val = 0 by omega, zero_mul, zero_add])).trans ?_
  exact (Ideal.reduceAdd_r2_a0 h v _).trans (Finset.sum_congr rfl fun k _ => congrArg v (eq_pt rfl rfl))

theorem to_along (v : FVec Ideal (Mat R 1) .f32) (h) : broadcastTo (Mat R C) v h = along v := by
  funext i
  exact broadcastTo_apply v h i (pt (i 0) 0) fun a => match a with
    | ⟨0, _⟩ => unless_one (i 0)
    | ⟨1, _⟩ => rfl

theorem to_down (v : FVec Ideal (Mat 1 C) .f32) (h) : broadcastTo (Mat R C) v h = down v := by
  funext i
  exact broadcastTo_apply v h i (pt 0 (i 1)) fun a => match a with
    | ⟨0, _⟩ => rfl
    | ⟨1, _⟩ => unless_one (i 1)

/-! ## The host's operations -/

/-- A scalar. -/
abbrev Pt : Shape := ⟨0, ![]⟩

theorem host_word (T : Shape) (w : BitVec 32) (h) :
    broadcastInDim T ![] h (constant (F := Ideal) Pt .f32 w) = fun _ => Ideal.ofBits .f32 w := by
  funext j
  exact ValueIdx.broadcastInDim_scalar_apply h _ j

theorem host_lanes (v : FVec Ideal (Mat R C) .f32) (h) (hu) (i : Fin R) :
    Host.reduceAdd v (constant (F := Ideal) Pt .f32 0x00000000#32) (axes := [1]) (t := Line R) h hu (pt1 i)
      = lanes v (pt i 0) := by
  refine (Ideal.hostReduceAdd_r2_a1 h v _ _).trans ?_
  refine (congrArg (· + _) (Ideal.ofBits_zero_f32)).trans ((zero_add _).trans ?_)
  exact Finset.sum_congr rfl fun k _ => congrArg v (eq_pt rfl rfl)

/-- A vector down each column. -/
theorem host_stand {D : ℕ} (v : FVec Ideal (Line R) .f32) (hb) :
    broadcastInDim (Mat R D) ![0] hb v = fun i => v (pt1 (R := R) (i 0)) := by
  funext i
  refine broadcastInDim_apply ![0] hb v i (pt1 (R := R) (i 0)) fun a => ?_
  obtain rfl : a = (0 : Fin 1) := Subsingleton.elim _ _
  exact unless_one (n := R) (i 0)

theorem host_lane_sum (v : FVec Ideal (Mat R C) .f32) (h) (hu) (hb) :
    broadcastInDim (Mat R 1) ![0] hb
      (Host.reduceAdd v (constant (F := Ideal) Pt .f32 0x00000000#32) (axes := [1]) (t := Line R) h hu) = lanes v :=
  (host_stand _ hb).trans (funext fun i => host_lanes v h hu (i 0))

theorem host_lane_sum' (v : FVec Ideal (Mat R C) .f32) (h) (hu) (hs) :
    shapeCast (Mat R 1)
      (Host.reduceAdd v (constant (F := Ideal) Pt .f32 0x00000000#32) (axes := [1]) (t := Line R) h hu) hs = lanes v := by
  funext i
  refine (shapeCast_apply _ hs i (pt1 (i 0)) (by
    rw [Shape.rowMajor_val_one, Shape.rowMajor_val_two]
    have : (i 1).val < 1 := (i 1).isLt
    show (i 0).val = (i 0).val * 1 + (i 1).val; omega)).trans (host_lanes v h hu (i 0))

/-- The sums along the rows, beside themselves. -/
theorem host_lanes_along (v : FVec Ideal (Mat R C) .f32) {D : ℕ} (h) (hu) (hb) :
    broadcastInDim (Mat R D) ![0] hb
      (Host.reduceAdd v (constant (F := Ideal) Pt .f32 0x00000000#32) (axes := [1]) (t := Line R) h hu)
        = along (lanes v) :=
  (host_stand _ hb).trans (funext fun i => host_lanes v h hu (i 0))

theorem host_col_sum (v : FVec Ideal (Mat R C) .f32) (h) (hu) (hs) :
    shapeCast (Mat 1 C)
      (Host.reduceAdd v (constant (F := Ideal) Pt .f32 0x00000000#32) (axes := [0]) (t := Line C) h hu) hs = cols v := by
  funext i
  refine (shapeCast_apply _ hs i (pt1 (i 1)) (by
    rw [Shape.rowMajor_val_one, Shape.rowMajor_val_two]
    have : (i 0).val < 1 := (i 0).isLt
    show (i 1).val = (i 0).val * C + (i 1).val
    rw [show (i 0).val = 0 by omega, zero_mul, zero_add])).trans ?_
  refine (Ideal.hostReduceAdd_r2_a0 h v _ _).trans ?_
  refine (congrArg (· + _) (Ideal.ofBits_zero_f32)).trans ((zero_add _).trans ?_)
  exact Finset.sum_congr rfl fun k _ => congrArg v (eq_pt rfl rfl)

theorem host_along (v : FVec Ideal (Mat R 1) .f32) (h) : broadcastInDim (Mat R C) ![0, 1] h v = along v := by
  funext i
  exact broadcastInDim_apply ![0, 1] h v i (pt (i 0) 0) fun a => by
    match a with
    | ⟨0, _⟩ => exact unless_one (i 0)
    | ⟨1, _⟩ => rfl

theorem host_down (v : FVec Ideal (Mat 1 C) .f32) (h) : broadcastInDim (Mat R C) ![0, 1] h v = down v := by
  funext i
  exact broadcastInDim_apply ![0, 1] h v i (pt 0 (i 1)) fun a => by
    match a with
    | ⟨0, _⟩ => rfl
    | ⟨1, _⟩ => exact unless_one (i 1)

/-! ## Tiles of rows -/

/-- Row `r` of tile `n`, of eight tiles of 256 rows. -/
def rowOf (n : ℕ) (r : Fin 256) : Fin 2048 := ⟨(n * 256 + r.val) % 2048, Nat.mod_lt _ (by decide)⟩

/-- The matrix's rows that `ρ` selects. -/
def pick {S : ℕ} (ρ : Fin S → Fin R) (v : (Mat R C).Idx → EReal) : (Mat S C).Idx → EReal :=
  fun i => v (pt (ρ (i 0)) (i 1))

/-- The sums down the columns, tile by tile. -/
theorem sum_tiles (v : (Mat 2048 C).Idx → EReal) :
    (fun i => ∑ n ∈ Finset.range 8, cols (pick (rowOf n) v) i) = cols v := by
  funext i
  rw [Finset.sum_range]
  refine (Fintype.sum_prod_type' fun (n : Fin 8) (r : Fin 256) => v (pt (rowOf n r) (i 1))).symm.trans ?_
  refine Fintype.sum_equiv (finProdFinEquiv : Fin 8 × Fin 256 ≃ Fin (8 * 256)) _ (fun r => v (pt r (i 1))) fun p => ?_
  refine congrArg v (eq_pt ?_ rfl)
  have h0 := p.1.isLt
  have h1 := p.2.isLt
  show (p.1.val * 256 + p.2.val) % 2048 = p.2.val + 256 * p.1.val
  omega

/-- Sums started at the first tile and added to at each later one are the sums down the columns after the last. -/
theorem sum_steps {N : ℕ} (hN : N = 8) (f : (n : ℕ) → n < N → (Mat 1 C).Idx → EReal) (v : (Mat 2048 C).Idx → EReal)
    (h0 : ∀ t : Fin N, t.val % 8 = 0 → ∀ j, f t.val t.isLt j = 0 + cols (pick (rowOf t.val) v) j)
    (hs : ∀ t : Fin N, ¬t.val % 8 = 0 → ∀ j, f t.val t.isLt j
      = f (t.val - 1) (Nat.lt_of_le_of_lt (Nat.sub_le _ _) t.isLt) j + cols (pick (rowOf t.val) v) j)
    (t : Fin N) (ht : t.val % 8 = 7) : f t.val t.isLt = cols v := by
  refine (funext fun j => ?_).trans (sum_tiles v)
  exact (Pipeline.eq_sum_of_reset_step_apply_single_of_mod f 8 (fun _ => 0) (fun n => cols (pick (rowOf n) v)) h0 hs hN.le t ht j).trans
    (zero_add _)

/-! ## The norm of the rows, and its backward pass -/

/-- The mean square of each row of 2048 entries, and the small term. -/
def meanSq (x : (Mat R C).Idx → EReal) : (Mat R 1).Idx → EReal :=
  fun i => Ideal.div (lanes (fun i => x i * x i) i) (Ideal.ofBits .f32 0x45000000#32) + Ideal.ofBits .f32 0x358637BD#32

/-- The inverse of its root, -/
def inv (x : (Mat R C).Idx → EReal) : (Mat R 1).Idx → EReal := fun i => Ideal.rsqrt (meanSq x i)

/-- and that function's derivative. -/
def slope (x : (Mat R C).Idx → EReal) : (Mat R 1).Idx → EReal :=
  fun i => Ideal.ofBits .f32 0xBF000000#32 * Ideal.div (inv x i) (meanSq x i)

/-- The normed rows. -/
def normed (x : (Mat R C).Idx → EReal) : (Mat R C).Idx → EReal := fun i => x i * along (inv x) i

/-- What the cotangent `u` of the normed rows gives to the mean's summands. -/
def pull (x u : (Mat R C).Idx → EReal) : (Mat R 1).Idx → EReal :=
  fun i => Ideal.div (lanes (fun i => x i * u i) i * slope x i) (Ideal.ofBits .f32 0x45000000#32)

/-- The cotangent of the rows from the cotangent `u` of the normed rows. -/
def back (x u : (Mat R C).Idx → EReal) : (Mat R C).Idx → EReal :=
  fun i => u i * along (inv x) i + x i * along (pull x u) i + along (pull x u) i * x i

/-- The sum over one column changes nothing. -/
theorem lanes_one (v : (Mat R 1).Idx → EReal) : lanes v = v := by
  funext i
  refine (Fin.sum_univ_one fun k : Fin 1 => v (pt (i 0) k)).trans (congrArg v (eq_pt rfl ?_).symm)
  have : (i 1).val < 1 := (i 1).isLt
  show (i 1).val = 0; omega

end Cert.Rows

end
-- ==== Proof.Norm.lean ====
/-
  The backward pass of the first norm, with its modulation `(gain * norm x) * (1 + scale) + shift`: the cotangent of `x`
  tile by tile, and the sums of the cotangents of gain, scale and shift, which the body adds up over the tiles.
-/
module

public import proofs.«01_k».proof.Defs
public import proofs.«01_k».proof.Proof.Gen.Norm.Frame
public import proofs.«01_k».proof.Proof.Gen.NormIdeal.Value
public import proofs.«01_k».proof.Proof.Gen.NormReferenceIdeal.Run
public import proofs.«01_k».proof.Proof.Rows

@[expose] public section

noncomputable section

open Idealize.ShloMosaic Idealize.ShloMosaic.TcCoe Idealize.SL.Sem
open Idealize.ShloMosaic.Pipeline (Dat)

namespace Cert.NormFn

open Cert.Adam (Mat)
open Cert.Rows

variable {R C : ℕ}

/-- The cotangent of the gained rows, -/
def dGained (dh : (Mat R C).Idx → EReal) (scale : (Mat 1 C).Idx → EReal) : (Mat R C).Idx → EReal :=
  fun i => dh i * down (fun j => Ideal.ofBits .f32 0x3F800000#32 + scale j) i

/-- and of the normed rows. -/
def dNormed (dh : (Mat R C).Idx → EReal) (gain scale : (Mat 1 C).Idx → EReal) : (Mat R C).Idx → EReal :=
  fun i => dGained dh scale i * down gain i

/-- The cotangent of `x`, added to what reaches it otherwise. -/
def dx (dx1 dh x : (Mat R C).Idx → EReal) (gain scale : (Mat 1 C).Idx → EReal) : (Mat R C).Idx → EReal :=
  fun i => dx1 i + back x (dNormed dh gain scale) i

/-- What each row gives to the gain, -/
def toGain (dh x : (Mat R C).Idx → EReal) (scale : (Mat 1 C).Idx → EReal) : (Mat R C).Idx → EReal :=
  fun i => normed x i * dGained dh scale i

/-- and to the scale. -/
def toScale (dh x : (Mat R C).Idx → EReal) (gain : (Mat 1 C).Idx → EReal) : (Mat R C).Idx → EReal :=
  fun i => normed x i * down gain i * dh i

end Cert.NormFn

namespace Cert.NormIdeal.Step

open Cert.NormIdeal Cert.NormIdeal.Gen
open Cert.Adam (Mat)
open Cert.Rows Cert.NormFn

section Payloads

variable (dx1 dh x : Vec Ideal S256x2048 .f32) (gain scale : Vec Ideal S1x2048 .f32)

theorem lane_tile (v : FVec Ideal S256x2048 .f32) :
    shapeCast S256x1 (multiReduction .add [1] S256 v 0x00000000#32 reduces_S256x2048_S256 (.inl rfl) rfl)
      shapeCasts_S256_S256x1 = lanes v := lane_sum (R := 256) (C := 2048) v _ _ _ _ _

theorem lane_unit (v : FVec Ideal S256x1 .f32) :
    shapeCast S256x1 (multiReduction .add [1] S256 v 0x00000000#32 reduces_S256x1_S256 (.inl rfl) rfl)
      shapeCasts_S256_S256x1 = v := (lane_sum (R := 256) (C := 1) v _ _ _ _ _).trans (lanes_one v)

theorem col_tile (v : FVec Ideal S256x2048 .f32) :
    shapeCast S1x2048 (multiReduction .add [0] S2048 v 0x00000000#32 reduces_S256x2048_S2048 (.inl rfl) rfl)
      shapeCasts_S2048_S1x2048 = cols v := col_sum (R := 256) (C := 2048) v _ _ _ _ _

theorem along_tile (v : FVec Ideal S256x1 .f32) :
    broadcastTo S256x2048 v broadcasts_S256x1_S256x2048 = along v := to_along (R := 256) (C := 2048) v _

theorem down_tile (v : FVec Ideal S1x2048 .f32) :
    broadcastTo S256x2048 v broadcasts_S1x2048_S256x2048 = down v := to_down (R := 256) (C := 2048) v _

theorem meanSq_eq : k0_pay8 x = meanSq x := by
  unfold k0_pay8
  dsimp only
  rw [lane_tile]
  rfl

theorem inv_eq : k0_pay9 x = inv x := by unfold k0_pay9; rw [meanSq_eq]; rfl

theorem slope_eq : k0_pay10 x = slope x := by unfold k0_pay10; rw [inv_eq, meanSq_eq]; rfl

theorem normed_eq : k0_pay11 x = normed x := by
  unfold k0_pay11; rw [inv_eq]; dsimp only; rw [along_tile]; rfl

theorem dGained_eq : k0_pay15 dh scale = dGained dh scale := by
  unfold k0_pay15 k0_pay12; dsimp only; rw [shapeCast_self, down_tile]; rfl

theorem dNormed_eq : k0_pay17 dh gain scale = dNormed dh gain scale := by
  unfold k0_pay17; rw [dGained_eq]; dsimp only; rw [down_tile]; rfl

/-- The cotangent of `x`. -/
theorem dx_eq : k0_pay1 dx1 x (k0_pay10 x) (k0_pay18 dh x gain scale) (k0_pay19 dh x gain scale)
    = dx dx1 dh x gain scale := by
  unfold k0_pay1 k0_pay18 k0_pay19
  rw [slope_eq, dNormed_eq, inv_eq]
  dsimp only
  rw [lane_tile, lane_unit, along_tile, along_tile]
  rfl

theorem shift_eq : k0_pay13 dh = cols dh := col_tile dh

theorem scale_eq : k0_pay14 dh x gain = cols (toScale dh x gain) := by
  unfold k0_pay14 k0_pay12
  rw [normed_eq]
  dsimp only
  rw [col_tile, shapeCast_self, down_tile]
  rfl

theorem gain_eq : k0_pay16 dh x scale = cols (toGain dh x scale) := by
  unfold k0_pay16
  rw [normed_eq, dGained_eq]
  exact col_tile _

end Payloads

/-- A running sum, -/
theorem plus_gain (v old : FVec Ideal S1x2048 .f32) : k0_pay5 v old = fun j => old j + v j := by
  unfold k0_pay5; rw [shapeCast_self]; rfl

theorem plus_scale (v old : FVec Ideal S1x2048 .f32) : k0_pay6 v old = fun j => old j + v j := by
  unfold k0_pay6; rw [shapeCast_self]; rfl

theorem plus_shift (v old : FVec Ideal S1x2048 .f32) : k0_pay7 v old = fun j => old j + v j := by
  unfold k0_pay7; rw [shapeCast_self]; rfl

/-- and its start. -/
theorem start_gain : k0_pay2 (F := Ideal) = fun _ => 0 := funext fun _ => Ideal.ofBits_zero_f32
theorem start_scale : k0_pay3 (F := Ideal) = fun _ => 0 := funext fun _ => Ideal.ofBits_zero_f32
theorem start_shift : k0_pay4 (F := Ideal) = fun _ => 0 := funext fun _ => Ideal.ofBits_zero_f32

/-! ## What the body leaves -/

section Steps

variable (m : (ℓ : Loc nD τ sig) → Buf (Elt Ideal) ℓ) (c : Dev nD)

/-- The device's argument arrays. -/
abbrev a0 : (Mat 2048 2048).Idx → EReal := m ((c : Thread nD τ).loc main_arg0)
abbrev a1 : (Mat 2048 2048).Idx → EReal := m ((c : Thread nD τ).loc main_arg1)
abbrev a2 : (Mat 2048 2048).Idx → EReal := m ((c : Thread nD τ).loc main_arg2)
abbrev a3 : (Mat 1 2048).Idx → EReal := m ((c : Thread nD τ).loc main_arg3)
abbrev a4 : (Mat 1 2048).Idx → EReal := m ((c : Thread nD τ).loc main_arg4)

/-- The tile of rows at each point of the grid, -/
theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = t.val ∧ win0_2.index t 1 = 0 := by decide +kernel
theorem at6 : ∀ t : Fin cfg0.N, win0_6.index t 0 = t.val ∧ win0_6.index t 1 = 0 := by decide +kernel
theorem at3 : ∀ t : Fin cfg0.N, win0_3.index t 0 = 0 ∧ win0_3.index t 1 = 0 := by decide +kernel
theorem at4 : ∀ t : Fin cfg0.N, win0_4.index t 0 = 0 ∧ win0_4.index t 1 = 0 := by decide +kernel

/-- the row that its row `r` is, -/
theorem tile_row {t : Fin cfg0.N} {b : ℕ} (hb : b = t.val) (r : Fin 256) : b * 256 + 1 * r.val = (rowOf t.val r).val := by
  have ht : t.val < 8 := lt_of_lt_of_eq t.isLt N_0
  have := r.isLt
  show b * 256 + 1 * r.val = (t.val * 256 + r.val) % 2048
  omega

/-- and an array's position that a block's position is. -/
theorem block_col {b : ℕ} (hb : b = 0) (n k : ℕ) : b * n + 1 * k = k := by rw [hb]; omega

theorem blk0 (t : Fin cfg0.N) : iblk m c 0 t = pick (rowOf t.val) (a0 m c) :=
  funext fun y => congrArg (a0 m c) (eq_pt (tile_row (at0 t).1 (y 0)) (block_col (at0 t).2 2048 (y 1).val))

theorem blk1 (t : Fin cfg0.N) : iblk m c 1 t = pick (rowOf t.val) (a1 m c) :=
  funext fun y => congrArg (a1 m c) (eq_pt (tile_row (at1 t).1 (y 0)) (block_col (at1 t).2 2048 (y 1).val))

theorem blk2 (t : Fin cfg0.N) : iblk m c 2 t = pick (rowOf t.val) (a2 m c) :=
  funext fun y => congrArg (a2 m c) (eq_pt (tile_row (at2 t).1 (y 0)) (block_col (at2 t).2 2048 (y 1).val))

theorem blk3 (t : Fin cfg0.N) : iblk m c 3 t = a3 m c :=
  funext fun y => congrArg (a3 m c) ((eq_pt (block_col (at3 t).1 1 (y 0).val) (block_col (at3 t).2 2048 (y 1).val)).trans
    (eq_pt rfl rfl).symm)

theorem blk4 (t : Fin cfg0.N) : iblk m c 4 t = a4 m c :=
  funext fun y => congrArg (a4 m c) ((eq_pt (block_col (at4 t).1 1 (y 0).val) (block_col (at4 t).2 2048 (y 1).val)).trans
    (eq_pt rfl rfl).symm)

/-- What the four arrays have to be. -/
abbrev gx : (Mat 2048 2048).Idx → EReal := dx (a0 m c) (a1 m c) (a2 m c) (a3 m c) (a4 m c)
abbrev gGain : (Mat 2048 2048).Idx → EReal := toGain (a1 m c) (a2 m c) (a4 m c)
abbrev gScale : (Mat 2048 2048).Idx → EReal := toScale (a1 m c) (a2 m c) (a3 m c)

/-- At the first tile the body starts the three sums. -/
theorem step_A (t : Fin cfg0.N) (h0 : t.val % 8 = 0) : outsAt0 m c t.val t.isLt =
    (pick (rowOf t.val) (gx m c), fun j => 0 + cols (pick (rowOf t.val) (gGain m c)) j,
      fun j => 0 + cols (pick (rowOf t.val) (gScale m c)) j, fun j => 0 + cols (pick (rowOf t.val) (a1 m c)) j) := by
  rw [outsAt0_A m c t h0]
  frame_out [dx_eq, gain_eq, scale_eq, shift_eq, plus_gain, plus_scale, plus_shift, start_gain, start_scale, start_shift,
    blk0, blk1, blk2, blk3, blk4]
  rfl

/-- At a later tile it adds to them. -/
theorem step_B (t : Fin cfg0.N) (h0 : ¬t.val % 8 = 0) : outsAt0 m c t.val t.isLt =
    (pick (rowOf t.val) (gx m c),
      fun j => (outsAt0 m c (t.val - 1) (Nat.lt_of_le_of_lt (Nat.sub_le _ _) t.isLt)).2.1 j
        + cols (pick (rowOf t.val) (gGain m c)) j,
      fun j => (outsAt0 m c (t.val - 1) (Nat.lt_of_le_of_lt (Nat.sub_le _ _) t.isLt)).2.2.1 j
        + cols (pick (rowOf t.val) (gScale m c)) j,
      fun j => (outsAt0 m c (t.val - 1) (Nat.lt_of_le_of_lt (Nat.sub_le _ _) t.isLt)).2.2.2 j
        + cols (pick (rowOf t.val) (a1 m c)) j) := by
  rw [outsAt0_B m c t h0]
  frame_out [dx_eq, gain_eq, scale_eq, shift_eq, plus_gain, plus_scale, plus_shift, blk0, blk1, blk2, blk3, blk4]
  rfl

/-! ## The arrays after the run -/

/-- The cotangent of `x`. -/
theorem final_x : (dats m 0 c).arrAt 6 cfg0.N = gx m c :=
  (dats m 0 c).arrAt_eq_of_covers 6 (gx m c) (by decide +kernel : win0_6.Covers) fun t _ y => by
    have h : (dats m 0 c).after 6 t = pick (rowOf t.val) (gx m c) := by
      rw [after0_6]
      by_cases h0 : t.val % 8 = 0
      · rw [step_A m c t h0]
      · rw [step_B m c t h0]
    exact (congrFun h y).trans
      (congrArg (gx m c) (eq_pt (tile_row (at6 t).1 (y 0)) (block_col (at6 t).2 2048 (y 1).val)).symm)

/-- The last tile. -/
abbrev tl : Fin cfg0.N := ⟨7, by decide⟩

/-- The sum for the gain, -/
theorem final_gain : (dats m 0 c).arrAt 7 cfg0.N = cols (gGain m c) :=
  (dats m 0 c).arrAt_eq_of_after_last 7 tl (by decide +kernel) (cols (gGain m c)) fun j =>
    congrFun (((after0_7 m c tl).trans (sum_steps N_0 (fun n h => (outsAt0 m c n h).2.1) (gGain m c)
      (fun t h0 j => by rw [step_A m c t h0]) (fun t h0 j => by rw [step_B m c t h0]) tl rfl))) j

/-- for the scale, -/
theorem final_scale : (dats m 0 c).arrAt 8 cfg0.N = cols (gScale m c) :=
  (dats m 0 c).arrAt_eq_of_after_last 8 tl (by decide +kernel) (cols (gScale m c)) fun j =>
    congrFun (((after0_8 m c tl).trans (sum_steps N_0 (fun n h => (outsAt0 m c n h).2.2.1) (gScale m c)
      (fun t h0 j => by rw [step_A m c t h0]) (fun t h0 j => by rw [step_B m c t h0]) tl rfl))) j

/-- and for the shift. -/
theorem final_shift : (dats m 0 c).arrAt 9 cfg0.N = cols (a1 m c) :=
  (dats m 0 c).arrAt_eq_of_after_last 9 tl (by decide +kernel) (cols (a1 m c)) fun j =>
    congrFun (((after0_9 m c tl).trans (sum_steps N_0 (fun n h => (outsAt0 m c n h).2.2.2) (a1 m c)
      (fun t h0 j => by rw [step_A m c t h0]) (fun t h0 j => by rw [step_B m c t h0]) tl rfl))) j

end Steps

end Cert.NormIdeal.Step

namespace Cert.NormReferenceIdeal.Value

open Cert.NormReferenceIdeal
open Cert.Adam (Mat)
open Cert.Rows Cert.NormFn

theorem lane_all (v : FVec Ideal S2048x2048 .f32) :
    broadcastInDim S2048x1 ![0] Gen.bcast_S2048_S2048x1_0 (Host.reduceAdd v (constant S_ .f32 0x00000000#32)
      Gen.reducesTo_S2048x2048_S2048_d1 Gen.h_S_) = lanes v := host_lane_sum (R := 2048) (C := 2048) v _ _ _

theorem along_unit (v : FVec Ideal S2048x1 .f32) :
    broadcastInDim S2048x2048 ![0] Gen.bcast_S2048_S2048x2048_0 (Host.reduceAdd v (constant S_ .f32 0x00000000#32)
      Gen.reducesTo_S2048x1_S2048_d1 Gen.h_S_) = along v :=
  (host_lanes_along (R := 2048) (C := 1) v _ _ _).trans (congrArg along (lanes_one v))

theorem along_all (v : FVec Ideal S2048x1 .f32) :
    broadcastInDim S2048x2048 ![0, 1] Gen.bcast_S2048x1_S2048x2048_0_1 v = along v :=
  host_along (R := 2048) (C := 2048) v _

theorem down_all (v : FVec Ideal S1x2048 .f32) :
    broadcastInDim S2048x2048 ![0, 1] Gen.bcast_S1x2048_S2048x2048_0_1 v = down v :=
  host_down (R := 2048) (C := 2048) v _

theorem word_col (w : BitVec 32) : broadcastInDim S2048x1 ![] Gen.bcast_S_S2048x1 (constant (F := Ideal) S_ .f32 w)
    = fun _ => Ideal.ofBits .f32 w := host_word _ w _

theorem word_row (w : BitVec 32) : broadcastInDim S1x2048 ![] Gen.bcast_S_S1x2048 (constant (F := Ideal) S_ .f32 w)
    = fun _ => Ideal.ofBits .f32 w := host_word _ w _

theorem lane_all' (v : FVec Ideal S2048x2048 .f32) :
    shapeCast S2048x1 (Host.reduceAdd v (constant S_ .f32 0x00000000#32) Gen.reducesTo_S2048x2048_S2048_d1 Gen.h_S_)
      Gen.shapeCasts_S2048_S2048x1 = lanes v := host_lane_sum' (R := 2048) (C := 2048) v _ _ _

theorem col_all (v : FVec Ideal S2048x2048 .f32) :
    shapeCast S1x2048 (Host.reduceAdd v (constant S_ .f32 0x00000000#32) Gen.reducesTo_S2048x2048_S2048_d0 Gen.h_S_)
      Gen.shapeCasts_S2048_S1x2048 = cols v := host_col_sum (R := 2048) (C := 2048) v _ _ _

section Arrays

variable (dx1 dh x : FVec Ideal S2048x2048 .f32) (gain scale : FVec Ideal S1x2048 .f32)

/-- The host's mean squares, -/
def hMean : FVec Ideal S2048x1 .f32 :=
  addf (Host.divf (broadcastInDim S2048x1 ![0] Gen.bcast_S2048_S2048x1_0 (Host.reduceAdd (mulf x x)
      (constant S_ .f32 0x00000000#32) Gen.reducesTo_S2048x2048_S2048_d1 Gen.h_S_))
    (broadcastInDim S2048x1 ![] Gen.bcast_S_S2048x1 (constant S_ .f32 0x45000000#32)))
    (broadcastInDim S2048x1 ![] Gen.bcast_S_S2048x1 (constant S_ .f32 0x358637BD#32))

theorem hMean_eq : hMean x = meanSq x := by
  unfold hMean; rw [lane_all, word_col, word_col]; rfl

/-- the normed rows, -/
def hNormed : FVec Ideal S2048x2048 .f32 :=
  mulf x (broadcastInDim S2048x2048 ![0, 1] Gen.bcast_S2048x1_S2048x2048_0_1 (Host.rsqrt (hMean x)))

theorem hNormed_eq : hNormed x = normed x := by
  unfold hNormed; rw [hMean_eq, along_all]; rfl

/-- the cotangent of the gained rows, -/
def hGained : FVec Ideal S2048x2048 .f32 :=
  mulf (shapeCast S2048x2048 dh Gen.shapeCasts_S2048x2048_S2048x2048)
    (broadcastInDim S2048x2048 ![0, 1] Gen.bcast_S1x2048_S2048x2048_0_1
      (addf (broadcastInDim S1x2048 ![] Gen.bcast_S_S1x2048 (constant S_ .f32 0x3F800000#32)) scale))

theorem hGained_eq : hGained dh scale = dGained dh scale := by
  unfold hGained; rw [shapeCast_self, word_row, down_all]; rfl

/-- what it gives to the mean's summands, -/
def hPull (u : FVec Ideal S2048x2048 .f32) : FVec Ideal S2048x2048 .f32 :=
  broadcastInDim S2048x2048 ![0] Gen.bcast_S2048_S2048x2048_0 (Host.reduceAdd (Host.divf
    (mulf (shapeCast S2048x1 (Host.reduceAdd (mulf x u) (constant S_ .f32 0x00000000#32)
        Gen.reducesTo_S2048x2048_S2048_d1 Gen.h_S_) Gen.shapeCasts_S2048_S2048x1)
      (mulf (broadcastInDim S2048x1 ![] Gen.bcast_S_S2048x1 (constant S_ .f32 0xBF000000#32))
        (Host.divf (Host.rsqrt (hMean x)) (hMean x))))
    (broadcastInDim S2048x1 ![] Gen.bcast_S_S2048x1 (constant S_ .f32 0x45000000#32)))
    (constant S_ .f32 0x00000000#32) Gen.reducesTo_S2048x1_S2048_d1 Gen.h_S_)

theorem hPull_eq (u : FVec Ideal S2048x2048 .f32) : hPull x u = along (pull x u) := by
  unfold hPull; rw [hMean_eq, lane_all', along_unit, word_col, word_col]; rfl

/-- the cotangent of `x`, -/
def hBack (u : FVec Ideal S2048x2048 .f32) : FVec Ideal S2048x2048 .f32 :=
  addf (addf (mulf u (broadcastInDim S2048x2048 ![0, 1] Gen.bcast_S2048x1_S2048x2048_0_1 (Host.rsqrt (hMean x))))
    (mulf x (hPull x u))) (mulf (hPull x u) x)

theorem hBack_eq (u : FVec Ideal S2048x2048 .f32) : hBack x u = back x u := by
  unfold hBack; rw [hMean_eq, hPull_eq, along_all]; rfl

end Arrays

variable (m : (ℓ : Loc nD τ sig) → Buf (Elt Ideal) ℓ) (c : Dev nD)

/-- The host's arrays are those of the functions above. -/
theorem dx_eq : res_main_v48 m c = dx (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) := by
  have h (a0 a1 a2 : FVec Ideal S2048x2048 .f32) (a3 a4 : FVec Ideal S1x2048 .f32) :
      addf a0 (hBack a2 (mulf (hGained a1 a4)
        (broadcastInDim S2048x2048 ![0, 1] Gen.bcast_S1x2048_S2048x2048_0_1 a3))) = dx a0 a1 a2 a3 a4 := by
    rw [hGained_eq, down_all, hBack_eq]; rfl
  exact h _ _ _ _ _

theorem gain_eq (a1 a2 : FVec Ideal S2048x2048 .f32) (a4 : FVec Ideal S1x2048 .f32) :
    shapeCast S1x2048 (Host.reduceAdd (mulf (hNormed a2) (hGained a1 a4)) (constant S_ .f32 0x00000000#32)
      Gen.reducesTo_S2048x2048_S2048_d0 Gen.h_S_) Gen.shapeCasts_S2048_S1x2048 = cols (toGain a1 a2 a4) := by
  rw [hNormed_eq, hGained_eq, col_all]; rfl

theorem scale_eq (a1 a2 : FVec Ideal S2048x2048 .f32) (a3 : FVec Ideal S1x2048 .f32) :
    shapeCast S1x2048 (Host.reduceAdd (mulf (mulf (hNormed a2)
      (broadcastInDim S2048x2048 ![0, 1] Gen.bcast_S1x2048_S2048x2048_0_1 a3))
      (shapeCast S2048x2048 a1 Gen.shapeCasts_S2048x2048_S2048x2048)) (constant S_ .f32 0x00000000#32)
      Gen.reducesTo_S2048x2048_S2048_d0 Gen.h_S_) Gen.shapeCasts_S2048_S1x2048 = cols (toScale a1 a2 a3) := by
  rw [hNormed_eq, down_all, shapeCast_self, col_all]; rfl

end Cert.NormReferenceIdeal.Value

namespace Cert.Proof

open Cert.NormIdeal.Step Cert.NormFn Cert.Rows

theorem norm_frame : Cert.quiescent_Norm := fun m g _ => Cert.Norm.Gen.frame m g

theorem norm_frame_ideal : Cert.quiescent_NormIdeal := fun m g _ => Cert.NormIdeal.Gen.frame m g

theorem norm_reference_frame_ideal : Cert.quiescent_NormReferenceIdeal := fun m g _ =>
  (θ_run Cert.NormReferenceIdeal.defs _ _).mono
    (fun r h => ⟨fun c => (h c).2.2.2.2, sem_eq_zero_of_no_sems (by decide) r.2⟩)
    (Cert.NormReferenceIdeal.Value.run (F := Ideal) m g)

/-- No operation is read differently on the extended reals. -/
theorem norm_preserves : Cert.preserves_Norm_NormIdeal := trivial

/-- The kernel and the host end with the same four arrays. -/
theorem norm_algebraic : Cert.algebraic_NormIdeal_NormReferenceIdeal := fun m g m' g' _ hp => by
  refine ⟨fun c => gx m c, fun c => cols (gGain m c), fun c => cols (gScale m c), fun c => cols (a1 m c), ?_, ?_⟩
  · refine (θ_run Cert.NormIdeal.defs _ _).mono (fun r h c => ?_) (Cert.NormIdeal.Value.run_blocks (F := Ideal) m g)
    obtain ⟨h6, h7, h8, h9, h⟩ := h c
    exact ⟨h6.trans (final_x m c), h7.trans (final_gain m c), h8.trans (final_scale m c), h9.trans (final_shift m c), h⟩
  · refine (θ_run Cert.NormReferenceIdeal.defs _ _).mono (fun _ h c => ?_)
      (Cert.NormReferenceIdeal.Value.run (F := Ideal) m' g')
    obtain ⟨hx, hg, hs, hb, h⟩ := h c
    obtain ⟨e0, e1, e2, e3, e4, -⟩ := hp c
    have ex := Cert.NormReferenceIdeal.Value.dx_eq m' c
    rw [e0, e1, e2, e3, e4] at ex
    rw [e1, e2, e4] at hg; rw [e1, e2, e3] at hs; rw [e1] at hb
    exact ⟨hx.trans ex, hg.trans (Cert.NormReferenceIdeal.Value.gain_eq _ _ _),
      hs.trans (Cert.NormReferenceIdeal.Value.scale_eq _ _ _), hb.trans (Cert.NormReferenceIdeal.Value.col_all _), h⟩

end Cert.Proof

end
-- ==== Proof.LossFn.lean ====
/-
  The loss of some rows against a target and its cotangents, as functions of whole arrays; and the identities between
  scaling a sum and scaling its summands that the loss needs.
-/
module

public import proofs.«01_k».proof.Proof.Rows

@[expose] public section

noncomputable section

open Idealize.ShloMosaic

namespace Cert.LossFn

open scoped BigOperators
open Cert.Adam (Mat)
open Cert.Rows

/-! ## The constants -/

theorem half_word : Ideal.ofBits .f32 0x3F000000#32 = ((1 / 2 : ℝ) : EReal) := by
  simp [Ideal.ofBits, Ideal.ieee, -EReal.coe_mul]; norm_num

theorem one_word : Ideal.ofBits .f32 0x3F800000#32 = ((1 : ℝ) : EReal) := by
  simp [Ideal.ofBits, Ideal.ieee, -EReal.coe_mul]; norm_num

theorem two_word : Ideal.ofBits .f32 0x40000000#32 = ((2 : ℝ) : EReal) := by
  simp [Ideal.ofBits, Ideal.ieee, -EReal.coe_mul]; norm_num

theorem width_word : Ideal.ofBits .f32 0x45000000#32 = ((2048 : ℝ) : EReal) := by
  simp [Ideal.ofBits, Ideal.ieee, -EReal.coe_mul]; norm_num

theorem inv_width_word : Ideal.ofBits .f32 0x3A000000#32 = ((1 / 2048 : ℝ) : EReal) := by
  simp [Ideal.ofBits, Ideal.ieee, -EReal.coe_mul]; norm_num

/-- A nonnegative real factor of a sum is one of its summands. -/
theorem mul_sum_of_nonneg {ι : Type} {a : ℝ} (ha : 0 ≤ a) (t : Finset ι) (v : ι → EReal) :
    (a : EReal) * ∑ k ∈ t, v k = ∑ k ∈ t, (a : EReal) * v k := by
  classical
  induction t using Finset.induction_on with
  | empty => simp
  | insert k t hk ih =>
    rw [Finset.sum_insert hk, Finset.sum_insert hk, ← ih]
    exact EReal.left_distrib_of_nonneg_of_ne_top (EReal.coe_nonneg.mpr ha) (EReal.coe_ne_top a) _ _

/-- A row's squared errors, halved and averaged. -/
def halfMean (s : EReal) : EReal := Ideal.ofBits .f32 0x3F000000#32 * s * Ideal.ofBits .f32 0x3A000000#32

/-- The sum of some rows' squared errors, halved and averaged, -/
theorem scale_sum {n : ℕ} (v : Fin n → EReal) :
    Ideal.ofBits .f32 0x3F000000#32 * (∑ k, v k) * Ideal.ofBits .f32 0x3A000000#32 = ∑ k, halfMean (v k) := by
  simp only [halfMean, half_word, inv_width_word]
  rw [mul_sum_of_nonneg (by norm_num), mul_comm, mul_sum_of_nonneg (by norm_num)]
  exact Finset.sum_congr rfl fun k _ => mul_comm _ _

/-- and half the sum of their averages. -/
theorem scale_means {n : ℕ} (v : Fin n → EReal) :
    Ideal.ofBits .f32 0x3F000000#32 * (∑ k, Ideal.div (v k) (Ideal.ofBits .f32 0x45000000#32)) = ∑ k, halfMean (v k) := by
  simp only [halfMean, half_word, inv_width_word, width_word]
  rw [mul_sum_of_nonneg (by norm_num)]
  exact Finset.sum_congr rfl fun k _ => by rw [Ideal.div_coe (by norm_num), mul_assoc]

/-- The cotangent of a squared error. -/
def weight : EReal :=
  Ideal.ofBits .f32 0x3F000000#32 * (Ideal.ofBits .f32 0x3F800000#32 * Ideal.ofBits .f32 0x3A000000#32)

/-- The square's derivative, as twice the error and as the error from either side. -/
theorem double_err (e : EReal) :
    Ideal.div (Ideal.ofBits .f32 0x3F000000#32 * Ideal.ofBits .f32 0x3F800000#32) (Ideal.ofBits .f32 0x45000000#32)
      * (Ideal.ofBits .f32 0x40000000#32 * e) = e * weight + weight * e := by
  have hw : weight = ((1 / 4096 : ℝ) : EReal) := by
    rw [weight, half_word, one_word, inv_width_word, ← EReal.coe_mul, ← EReal.coe_mul]; norm_num
  have h0 : (0 : EReal) ≤ ((1 / 4096 : ℝ) : EReal) := EReal.coe_nonneg.mpr (by norm_num)
  rw [hw, half_word, one_word, two_word, width_word, Ideal.div_coe (by norm_num), ← mul_assoc, ← EReal.coe_mul,
    ← EReal.coe_mul, ← EReal.coe_mul, mul_comm e, ← EReal.right_distrib_of_nonneg h0 h0, ← EReal.coe_add]
  norm_num

/-! ## The arrays -/

variable {R C : ℕ}

/-- The rows that are normed. -/
def total (x f : (Mat R C).Idx → EReal) (gate : (Mat 1 C).Idx → EReal) : (Mat R C).Idx → EReal :=
  fun i => x i + down gate i * f i

variable (x f tg : (Mat R C).Idx → EReal) (gate fg : (Mat 1 C).Idx → EReal)

/-- The errors. -/
def err : (Mat R C).Idx → EReal := fun i => normed (total x f gate) i * down fg i - tg i

/-- What each row gives to the loss. -/
def part : (Mat R 1).Idx → EReal := fun i => halfMean (lanes (fun i => err x f tg gate fg i * err x f tg gate fg i) i)

/-- The errors' cotangents, -/
def dErr : (Mat R C).Idx → EReal := fun i => err x f tg gate fg i * weight + weight * err x f tg gate fg i

/-- that of the rows that are normed, -/
def dx : (Mat R C).Idx → EReal := back (total x f gate) fun i => dErr x f tg gate fg i * down fg i

/-- that of `f`, -/
def dffn : (Mat R C).Idx → EReal := fun i => down gate i * dx x f tg gate fg i

/-- and what each row gives to the gate -/
def toGate : (Mat R C).Idx → EReal := fun i => dx x f tg gate fg i * f i

/-- and to the gain. -/
def toGain : (Mat R C).Idx → EReal := fun i => normed (total x f gate) i * dErr x f tg gate fg i

/-! ## Operations -/

/-- An index into one entry. -/
theorem one_val (i : (Mat 1 1).Idx) (a : Fin 2) : (i a).val = 0 := by
  have : (i a).val < 1 := by
    match a with
    | ⟨0, _⟩ => exact (i 0).isLt
    | ⟨1, _⟩ => exact (i 1).isLt
  omega

/-- One entry spread over a matrix. -/
theorem to_all (v : FVec Ideal (Mat 1 1) .f32) (h) : broadcastTo (Mat R C) v h = fun _ => v (pt 0 0) := by
  funext i
  exact broadcastTo_apply v h i (pt 0 0) fun a => match a with
    | ⟨0, _⟩ => rfl
    | ⟨1, _⟩ => rfl

/-- The host's sum of the means of the rows. -/
theorem host_means (v : FVec Ideal (Mat R C) .f32) (h) (hu) (hb) (h' : (Line R).ReducesTo [0] Pt) (j : Pt.Idx) :
    Host.reduceAdd (Host.divf (Host.reduceAdd v (constant (F := Ideal) Pt .f32 0x00000000#32) (axes := [1]) (t := Line R) h hu)
      (broadcastInDim (Line R) ![] hb (constant (F := Ideal) Pt .f32 0x45000000#32)))
      (constant (F := Ideal) Pt .f32 0x00000000#32) h' hu j
      = ∑ r : Fin R, Ideal.div (lanes v (pt r 0)) (Ideal.ofBits .f32 0x45000000#32) := by
  refine (Ideal.hostReduceAdd_r1_a0 h' _ _ j).trans ?_
  refine (congrArg (· + _) (Ideal.ofBits_zero_f32)).trans ((zero_add _).trans ?_)
  refine Finset.sum_congr rfl fun r _ => ?_
  exact congrArg (Ideal.div · _) ((congrArg _ (funext fun a => by obtain rfl : a = (0 : Fin 1) := Subsingleton.elim _ _; rfl)).trans (host_lanes v h hu r))

end Cert.LossFn

end
-- ==== Proof.Loss.lean ====
/-
  The loss of a device's tokens with its backward pass: the squared errors of the normed rows of `x + gate * f` against the
  target, halved, averaged over a row and summed over the rows. The kernel scales each tile's sum and adds the tiles up;
  the host averages each row and scales the sum of all rows.
-/
module

public import proofs.«01_k».proof.Defs
public import proofs.«01_k».proof.Proof.Gen.Loss.Frame
public import proofs.«01_k».proof.Proof.Gen.LossIdeal.Value
public import proofs.«01_k».proof.Proof.Gen.LossReferenceIdeal.Run
public import proofs.«01_k».proof.Proof.LossFn

@[expose] public section

noncomputable section

open Idealize.ShloMosaic Idealize.ShloMosaic.TcCoe Idealize.SL.Sem
open Idealize.ShloMosaic.Pipeline (Dat)

namespace Cert.LossIdeal.Step

open Cert.LossIdeal Cert.LossIdeal.Gen
open Cert.Adam (Mat)
open Cert.Rows Cert.LossFn

section Payloads

variable (x f tg : Vec Ideal S256x2048 .f32) (gate fg : Vec Ideal S1x2048 .f32)

theorem lane_tile (v : FVec Ideal S256x2048 .f32) :
    shapeCast S256x1 (multiReduction .add [1] S256 v 0x00000000#32 reduces_S256x2048_S256 (.inl rfl) rfl)
      shapeCasts_S256_S256x1 = lanes v := lane_sum (R := 256) (C := 2048) v _ _ _ _ _

theorem lane_unit (v : FVec Ideal S256x1 .f32) :
    shapeCast S256x1 (multiReduction .add [1] S256 v 0x00000000#32 reduces_S256x1_S256 (.inl rfl) rfl)
      shapeCasts_S256_S256x1 = v := (lane_sum (R := 256) (C := 1) v _ _ _ _ _).trans (lanes_one v)

theorem col_tile (v : FVec Ideal S256x2048 .f32) :
    shapeCast S1x2048 (multiReduction .add [0] S2048 v 0x00000000#32 reduces_S256x2048_S2048 (.inl rfl) rfl)
      shapeCasts_S2048_S1x2048 = cols v := col_sum (R := 256) (C := 2048) v _ _ _ _ _

theorem along_tile (v : FVec Ideal S256x1 .f32) :
    broadcastTo S256x2048 v broadcasts_S256x1_S256x2048 = along v := to_along (R := 256) (C := 2048) v _

theorem down_tile (v : FVec Ideal S1x2048 .f32) :
    broadcastTo S256x2048 v broadcasts_S1x2048_S256x2048 = down v := to_down (R := 256) (C := 2048) v _

theorem col_one (v : FVec Ideal S256x1 .f32) :
    shapeCast S1x1 (multiReduction .add [0] S1 v 0x00000000#32 reduces_S256x1_S1 (.inl rfl) rfl) shapeCasts_S1_S1x1
      = cols v := col_sum (R := 256) (C := 1) v _ _ _ _ _

theorem all_tile (v : FVec Ideal S1x1 .f32) :
    broadcastTo S8x128 v broadcasts_S1x1_S8x128 = fun _ => v (pt 0 0) := to_all (R := 8) (C := 128) v _

/-- A constant passed through the shapes of one entry. -/
theorem cot_point (c : EReal) :
    broadcastTo S256x1 (shapeCast S1x1 (broadcast S1 (extractAt ![0, 0, 0] (shapeCast S1x1x1 (multiReduction (F := Ideal)
      (φ := .f32) .add [1, 2] S1 (shapeCast S1x1x1 (fun _ => c) shapeCasts_S1x1_S1x1x1) 0x00000000#32 reduces_S1x1x1_S1
      (.inl rfl) rfl) shapeCasts_S1_S1x1x1) inpos_S1x1x1_p0_0_0)) shapeCasts_S1_S1x1) broadcasts_S1x1_S256x1
      = fun _ => c :=
  funext fun _ => (Ideal.reduceAdd_r3_a12 (n0 := 1) (n1 := 1) (n2 := 1) _ _ _).trans
    ((Fin.sum_univ_one _).trans (Fin.sum_univ_one fun _ : Fin 1 => c))

theorem sum_eq : k0_pay7 x f gate = total x f gate := by
  unfold k0_pay7; dsimp only; rw [down_tile]; rfl

theorem meanSq_eq : k0_pay8 x f gate = meanSq (total x f gate) := by
  unfold k0_pay8; rw [sum_eq]; dsimp only; rw [lane_tile]; rfl

theorem inv_eq : k0_pay9 x f gate = inv (total x f gate) := by unfold k0_pay9; rw [meanSq_eq]; rfl

theorem slope_eq : k0_pay10 x f gate = slope (total x f gate) := by unfold k0_pay10; rw [inv_eq, meanSq_eq]; rfl

theorem normed_eq : k0_pay11 x f gate = normed (total x f gate) := by
  unfold k0_pay11; rw [sum_eq, inv_eq]; dsimp only; rw [along_tile]; rfl

theorem err_eq : k0_pay12 x f tg gate fg = err x f tg gate fg := by
  unfold k0_pay12; rw [normed_eq]; dsimp only; rw [down_tile]; rfl

/-- The tile's loss. -/
theorem part_eq : k0_pay13 x f tg gate fg = fun _ => cols (part x f tg gate fg) (pt 0 0) := by
  unfold k0_pay13
  rw [err_eq]
  dsimp only
  rw [lane_tile, col_one]
  exact funext fun _ => scale_sum _

theorem cot_eq : k0_pay15 (k0_pay12 x f tg gate fg) k0_pay14 = dErr x f tg gate fg := by
  rw [err_eq]
  unfold k0_pay15
  rw [show k0_pay14 (F := Ideal) = fun _ => weight from rfl]
  dsimp only
  rw [cot_point, lane_unit, along_tile]
  rfl

theorem gain_eq : k0_pay16 (k0_pay11 x f gate) (k0_pay12 x f tg gate fg) k0_pay14 = cols (toGain x f tg gate fg) := by
  unfold k0_pay16
  rw [cot_eq, normed_eq]
  exact col_tile _

/-- The cotangent of the sum. -/
theorem dx_eq : k0_pay17 fg (k0_pay7 x f gate) (k0_pay9 x f gate) (k0_pay10 x f gate) (k0_pay12 x f tg gate fg) k0_pay14
    = dx x f tg gate fg := by
  unfold k0_pay17
  rw [cot_eq, sum_eq, inv_eq, slope_eq]
  dsimp only
  rw [down_tile, lane_tile, lane_unit, along_tile, along_tile]
  rfl

theorem gate_eq : k0_pay18 f fg (k0_pay7 x f gate) (k0_pay9 x f gate) (k0_pay10 x f gate) (k0_pay12 x f tg gate fg)
    k0_pay14 = cols (toGate x f tg gate fg) := by
  unfold k0_pay18
  rw [dx_eq]
  exact col_tile _

theorem loss_eq : k0_pay19 (k0_pay13 x f tg gate fg) = fun _ => cols (part x f tg gate fg) (pt 0 0) := by
  unfold k0_pay19
  rw [part_eq]
  dsimp only
  rw [shapeCast_self, all_tile]

theorem ffn_eq : k0_pay20 gate fg (k0_pay7 x f gate) (k0_pay9 x f gate) (k0_pay10 x f gate) (k0_pay12 x f tg gate fg)
    k0_pay14 = dffn x f tg gate fg := by
  unfold k0_pay20
  rw [dx_eq]
  dsimp only
  rw [down_tile]
  rfl

end Payloads

/-- A running sum, -/
theorem plus_loss (v old : FVec Ideal S8x128 .f32) : k0_pay4 v old = fun j => old j + v j := by
  unfold k0_pay4; rw [shapeCast_self]; rfl

theorem plus_gate (v old : FVec Ideal S1x2048 .f32) : k0_pay5 v old = fun j => old j + v j := by
  unfold k0_pay5; rw [shapeCast_self]; rfl

theorem plus_gain (v old : FVec Ideal S1x2048 .f32) : k0_pay6 v old = fun j => old j + v j := by
  unfold k0_pay6; rw [shapeCast_self]; rfl

/-- and its start. -/
theorem start_loss : k0_pay1 (F := Ideal) = fun _ => 0 := funext fun _ => Ideal.ofBits_zero_f32
theorem start_gate : k0_pay2 (F := Ideal) = fun _ => 0 := funext fun _ => Ideal.ofBits_zero_f32
theorem start_gain : k0_pay3 (F := Ideal) = fun _ => 0 := funext fun _ => Ideal.ofBits_zero_f32

/-! ## What the body leaves -/

section Steps

variable (m : (ℓ : Loc nD τ sig) → Buf (Elt Ideal) ℓ) (c : Dev nD)

/-- The device's argument arrays. -/
abbrev a0 : (Mat 2048 2048).Idx → EReal := m ((c : Thread nD τ).loc main_arg0)
abbrev a1 : (Mat 2048 2048).Idx → EReal := m ((c : Thread nD τ).loc main_arg1)
abbrev a2 : (Mat 2048 2048).Idx → EReal := m ((c : Thread nD τ).loc main_arg2)
abbrev a3 : (Mat 1 2048).Idx → EReal := m ((c : Thread nD τ).loc main_arg3)
abbrev a4 : (Mat 1 2048).Idx → EReal := m ((c : Thread nD τ).loc main_arg4)

/-- The tile of rows at each point of the grid, -/
theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = t.val ∧ win0_2.index t 1 = 0 := by decide +kernel
theorem at5 : ∀ t : Fin cfg0.N, win0_5.index t 0 = t.val ∧ win0_5.index t 1 = 0 := by decide +kernel
theorem at6 : ∀ t : Fin cfg0.N, win0_6.index t 0 = t.val ∧ win0_6.index t 1 = 0 := by decide +kernel
theorem at3 : ∀ t : Fin cfg0.N, win0_3.index t 0 = 0 ∧ win0_3.index t 1 = 0 := by decide +kernel
theorem at4 : ∀ t : Fin cfg0.N, win0_4.index t 0 = 0 ∧ win0_4.index t 1 = 0 := by decide +kernel

/-- the row that its row `r` is, -/
theorem tile_row {t : Fin cfg0.N} {b : ℕ} (hb : b = t.val) (r : Fin 256) : b * 256 + 1 * r.val = (rowOf t.val r).val := by
  have ht : t.val < 8 := lt_of_lt_of_eq t.isLt N_0
  have := r.isLt
  show b * 256 + 1 * r.val = (t.val * 256 + r.val) % 2048
  omega

/-- and an array's position that a block's position is. -/
theorem block_col {b : ℕ} (hb : b = 0) (n k : ℕ) : b * n + 1 * k = k := by rw [hb]; omega

theorem blk0 (t : Fin cfg0.N) : iblk m c 0 t = pick (rowOf t.val) (a0 m c) :=
  funext fun y => congrArg (a0 m c) (eq_pt (tile_row (at0 t).1 (y 0)) (block_col (at0 t).2 2048 (y 1).val))

theorem blk1 (t : Fin cfg0.N) : iblk m c 1 t = pick (rowOf t.val) (a1 m c) :=
  funext fun y => congrArg (a1 m c) (eq_pt (tile_row (at1 t).1 (y 0)) (block_col (at1 t).2 2048 (y 1).val))

theorem blk2 (t : Fin cfg0.N) : iblk m c 2 t = pick (rowOf t.val) (a2 m c) :=
  funext fun y => congrArg (a2 m c) (eq_pt (tile_row (at2 t).1 (y 0)) (block_col (at2 t).2 2048 (y 1).val))

theorem blk3 (t : Fin cfg0.N) : iblk m c 3 t = a3 m c :=
  funext fun y => congrArg (a3 m c) ((eq_pt (block_col (at3 t).1 1 (y 0).val) (block_col (at3 t).2 2048 (y 1).val)).trans
    (eq_pt rfl rfl).symm)

theorem blk4 (t : Fin cfg0.N) : iblk m c 4 t = a4 m c :=
  funext fun y => congrArg (a4 m c) ((eq_pt (block_col (at4 t).1 1 (y 0).val) (block_col (at4 t).2 2048 (y 1).val)).trans
    (eq_pt rfl rfl).symm)

/-- What the five arrays have to be: the first two themselves, the others summed over the rows. -/
abbrev gx : (Mat 2048 2048).Idx → EReal := dx (a0 m c) (a1 m c) (a2 m c) (a3 m c) (a4 m c)
abbrev gFfn : (Mat 2048 2048).Idx → EReal := dffn (a0 m c) (a1 m c) (a2 m c) (a3 m c) (a4 m c)
abbrev gPart : (Mat 2048 1).Idx → EReal := part (a0 m c) (a1 m c) (a2 m c) (a3 m c) (a4 m c)
abbrev gGate : (Mat 2048 2048).Idx → EReal := toGate (a0 m c) (a1 m c) (a2 m c) (a3 m c) (a4 m c)
abbrev gGain : (Mat 2048 2048).Idx → EReal := toGain (a0 m c) (a1 m c) (a2 m c) (a3 m c) (a4 m c)

/-- At the first tile the body starts the three sums. -/
theorem step_A (t : Fin cfg0.N) (h0 : t.val % 8 = 0) : outsAt0 m c t.val t.isLt =
    (pick (rowOf t.val) (gx m c), pick (rowOf t.val) (gFfn m c),
      fun _ => 0 + cols (pick (rowOf t.val) (gPart m c)) (pt 0 0),
      fun j => 0 + cols (pick (rowOf t.val) (gGate m c)) j, fun j => 0 + cols (pick (rowOf t.val) (gGain m c)) j) := by
  rw [outsAt0_A m c t h0]
  frame_out [dx_eq, ffn_eq, loss_eq, gate_eq, gain_eq, plus_loss, plus_gate, plus_gain, start_loss, start_gate, start_gain,
    blk0, blk1, blk2, blk3, blk4]
  rfl

/-- At a later tile it adds to them. -/
theorem step_B (t : Fin cfg0.N) (h0 : ¬t.val % 8 = 0) : outsAt0 m c t.val t.isLt =
    (pick (rowOf t.val) (gx m c), pick (rowOf t.val) (gFfn m c),
      fun j => (outsAt0 m c (t.val - 1) (Nat.lt_of_le_of_lt (Nat.sub_le _ _) t.isLt)).2.2.1 j
        + cols (pick (rowOf t.val) (gPart m c)) (pt 0 0),
      fun j => (outsAt0 m c (t.val - 1) (Nat.lt_of_le_of_lt (Nat.sub_le _ _) t.isLt)).2.2.2.1 j
        + cols (pick (rowOf t.val) (gGate m c)) j,
      fun j => (outsAt0 m c (t.val - 1) (Nat.lt_of_le_of_lt (Nat.sub_le _ _) t.isLt)).2.2.2.2 j
        + cols (pick (rowOf t.val) (gGain m c)) j) := by
  rw [outsAt0_B m c t h0]
  frame_out [dx_eq, ffn_eq, loss_eq, gate_eq, gain_eq, plus_loss, plus_gate, plus_gain, blk0, blk1, blk2, blk3, blk4]
  rfl

/-! ## The arrays after the run -/

/-- The cotangent of the sum, -/
theorem final_x : (dats m 0 c).arrAt 5 cfg0.N = gx m c :=
  (dats m 0 c).arrAt_eq_of_covers 5 (gx m c) (by decide +kernel : win0_5.Covers) fun t _ y => by
    have h : (dats m 0 c).after 5 t = pick (rowOf t.val) (gx m c) := by
      rw [after0_5]
      by_cases h0 : t.val % 8 = 0
      · rw [step_A m c t h0]
      · rw [step_B m c t h0]
    exact (congrFun h y).trans
      (congrArg (gx m c) (eq_pt (tile_row (at5 t).1 (y 0)) (block_col (at5 t).2 2048 (y 1).val)).symm)

/-- and of `f`. -/
theorem final_ffn : (dats m 0 c).arrAt 6 cfg0.N = gFfn m c :=
  (dats m 0 c).arrAt_eq_of_covers 6 (gFfn m c) (by decide +kernel : win0_6.Covers) fun t _ y => by
    have h : (dats m 0 c).after 6 t = pick (rowOf t.val) (gFfn m c) := by
      rw [after0_6]
      by_cases h0 : t.val % 8 = 0
      · rw [step_A m c t h0]
      · rw [step_B m c t h0]
    exact (congrFun h y).trans
      (congrArg (gFfn m c) (eq_pt (tile_row (at6 t).1 (y 0)) (block_col (at6 t).2 2048 (y 1).val)).symm)

/-- The last tile. -/
abbrev tl : Fin cfg0.N := ⟨7, by decide⟩

/-- The loss, in each of the entries it is spread over, -/
theorem final_loss : (dats m 0 c).arrAt 7 cfg0.N = fun _ => cols (gPart m c) (pt 0 0) :=
  (dats m 0 c).arrAt_eq_of_after_last 7 tl (by decide +kernel) (fun _ => cols (gPart m c) (pt 0 0)) fun j =>
    (congrFun (after0_7 m c tl) j).trans (congrFun (sum_steps N_0 (fun n h _ => (outsAt0 m c n h).2.2.1 j) (gPart m c)
      (fun t h0 i => by rw [step_A m c t h0, eq_pt (i := i) (r := 0) (k := 0) (one_val i 0) (one_val i 1)])
      (fun t h0 i => by rw [step_B m c t h0, eq_pt (i := i) (r := 0) (k := 0) (one_val i 0) (one_val i 1)]) tl rfl) (pt 0 0))

/-- the sum for the gate, -/
theorem final_gate : (dats m 0 c).arrAt 8 cfg0.N = cols (gGate m c) :=
  (dats m 0 c).arrAt_eq_of_after_last 8 tl (by decide +kernel) (cols (gGate m c)) fun j =>
    congrFun (((after0_8 m c tl).trans (sum_steps N_0 (fun n h => (outsAt0 m c n h).2.2.2.1) (gGate m c)
      (fun t h0 j => by rw [step_A m c t h0]) (fun t h0 j => by rw [step_B m c t h0]) tl rfl))) j

/-- and for the gain. -/
theorem final_gain : (dats m 0 c).arrAt 9 cfg0.N = cols (gGain m c) :=
  (dats m 0 c).arrAt_eq_of_after_last 9 tl (by decide +kernel) (cols (gGain m c)) fun j =>
    congrFun (((after0_9 m c tl).trans (sum_steps N_0 (fun n h => (outsAt0 m c n h).2.2.2.2) (gGain m c)
      (fun t h0 j => by rw [step_A m c t h0]) (fun t h0 j => by rw [step_B m c t h0]) tl rfl))) j

end Steps

end Cert.LossIdeal.Step

namespace Cert.LossReferenceIdeal.Value

open Cert.LossReferenceIdeal
open Cert.Adam (Mat)
open Cert.Rows Cert.LossFn

theorem lane_all (v : FVec Ideal S2048x2048 .f32) :
    broadcastInDim S2048x1 ![0] Gen.bcast_S2048_S2048x1_0 (Host.reduceAdd v (constant S_ .f32 0x00000000#32)
      Gen.reducesTo_S2048x2048_S2048_d1 Gen.h_S_) = lanes v := host_lane_sum (R := 2048) (C := 2048) v _ _ _

theorem along_unit (v : FVec Ideal S2048x1 .f32) :
    broadcastInDim S2048x2048 ![0] Gen.bcast_S2048_S2048x2048_0 (Host.reduceAdd v (constant S_ .f32 0x00000000#32)
      Gen.reducesTo_S2048x1_S2048_d1 Gen.h_S_) = along v :=
  (host_lanes_along (R := 2048) (C := 1) v _ _ _).trans (congrArg along (lanes_one v))

theorem along_all (v : FVec Ideal S2048x1 .f32) :
    broadcastInDim S2048x2048 ![0, 1] Gen.bcast_S2048x1_S2048x2048_0_1 v = along v :=
  host_along (R := 2048) (C := 2048) v _

theorem down_all (v : FVec Ideal S1x2048 .f32) :
    broadcastInDim S2048x2048 ![0, 1] Gen.bcast_S1x2048_S2048x2048_0_1 v = down v :=
  host_down (R := 2048) (C := 2048) v _

theorem word_col (w : BitVec 32) : broadcastInDim S2048x1 ![] Gen.bcast_S_S2048x1 (constant (F := Ideal) S_ .f32 w)
    = fun _ => Ideal.ofBits .f32 w := host_word _ w _

theorem word_all (w : BitVec 32) : broadcastInDim S2048x2048 ![] Gen.bcast_S_S2048x2048 (constant (F := Ideal) S_ .f32 w)
    = fun _ => Ideal.ofBits .f32 w := host_word _ w _

theorem lane_all' (v : FVec Ideal S2048x2048 .f32) :
    shapeCast S2048x1 (Host.reduceAdd v (constant S_ .f32 0x00000000#32) Gen.reducesTo_S2048x2048_S2048_d1 Gen.h_S_)
      Gen.shapeCasts_S2048_S2048x1 = lanes v := host_lane_sum' (R := 2048) (C := 2048) v _ _ _

theorem col_all (v : FVec Ideal S2048x2048 .f32) :
    shapeCast S1x2048 (Host.reduceAdd v (constant S_ .f32 0x00000000#32) Gen.reducesTo_S2048x2048_S2048_d0 Gen.h_S_)
      Gen.shapeCasts_S2048_S1x2048 = cols v := host_col_sum (R := 2048) (C := 2048) v _ _ _

/-- The cotangent of each row's mean, spread over the row. -/
theorem weight_all : broadcastInDim S2048x2048 ![0] Gen.bcast_S2048_S2048x2048_0 (Host.divf
    (broadcastInDim S2048 ![] Gen.bcast_S_S2048 (mulf (constant (F := Ideal) S_ .f32 0x3F000000#32)
      (constant S_ .f32 0x3F800000#32)))
    (broadcastInDim S2048 ![] Gen.bcast_S_S2048 (constant S_ .f32 0x45000000#32)))
      = fun _ => Ideal.div (Ideal.ofBits .f32 0x3F000000#32 * Ideal.ofBits .f32 0x3F800000#32)
        (Ideal.ofBits .f32 0x45000000#32) := host_stand (R := 2048) (D := 2048) _ _

section Arrays

variable (x f tg : FVec Ideal S2048x2048 .f32) (gate fg : FVec Ideal S1x2048 .f32)

/-- The host's sum, -/
def hTotal : FVec Ideal S2048x2048 .f32 :=
  addf x (mulf (broadcastInDim S2048x2048 ![0, 1] Gen.bcast_S1x2048_S2048x2048_0_1 gate) f)

theorem hTotal_eq : hTotal x f gate = total x f gate := by
  unfold hTotal; rw [down_all]; rfl

/-- mean squares, -/
def hMean : FVec Ideal S2048x1 .f32 :=
  addf (Host.divf (broadcastInDim S2048x1 ![0] Gen.bcast_S2048_S2048x1_0 (Host.reduceAdd (mulf x x)
      (constant S_ .f32 0x00000000#32) Gen.reducesTo_S2048x2048_S2048_d1 Gen.h_S_))
    (broadcastInDim S2048x1 ![] Gen.bcast_S_S2048x1 (constant S_ .f32 0x45000000#32)))
    (broadcastInDim S2048x1 ![] Gen.bcast_S_S2048x1 (constant S_ .f32 0x358637BD#32))

theorem hMean_eq : hMean x = meanSq x := by
  unfold hMean; rw [lane_all, word_col, word_col]; rfl

/-- normed rows, -/
def hNormed : FVec Ideal S2048x2048 .f32 :=
  mulf x (broadcastInDim S2048x2048 ![0, 1] Gen.bcast_S2048x1_S2048x2048_0_1 (Host.rsqrt (hMean x)))

theorem hNormed_eq : hNormed x = normed x := by
  unfold hNormed; rw [hMean_eq, along_all]; rfl

/-- errors -/
def hErr : FVec Ideal S2048x2048 .f32 :=
  subf (mulf (hNormed (hTotal x f gate)) (broadcastInDim S2048x2048 ![0, 1] Gen.bcast_S1x2048_S2048x2048_0_1 fg)) tg

theorem hErr_eq : hErr x f tg gate fg = err x f tg gate fg := by
  unfold hErr; rw [hTotal_eq, hNormed_eq, down_all]; rfl

/-- and their cotangents, -/
def hCot : FVec Ideal S2048x2048 .f32 :=
  mulf (broadcastInDim S2048x2048 ![0] Gen.bcast_S2048_S2048x2048_0 (Host.divf
    (broadcastInDim S2048 ![] Gen.bcast_S_S2048 (mulf (constant (F := Ideal) S_ .f32 0x3F000000#32)
      (constant S_ .f32 0x3F800000#32)))
    (broadcastInDim S2048 ![] Gen.bcast_S_S2048 (constant S_ .f32 0x45000000#32))))
    (mulf (broadcastInDim S2048x2048 ![] Gen.bcast_S_S2048x2048 (constant S_ .f32 0x40000000#32)) (hErr x f tg gate fg))

theorem hCot_eq : hCot x f tg gate fg = dErr x f tg gate fg := by
  unfold hCot
  rw [weight_all, word_all, hErr_eq]
  exact funext fun i => double_err (err x f tg gate fg i)

/-- what the cotangent of the normed rows gives to the mean's summands, -/
def hPull (u : FVec Ideal S2048x2048 .f32) : FVec Ideal S2048x2048 .f32 :=
  broadcastInDim S2048x2048 ![0] Gen.bcast_S2048_S2048x2048_0 (Host.reduceAdd (Host.divf
    (mulf (shapeCast S2048x1 (Host.reduceAdd (mulf x u) (constant S_ .f32 0x00000000#32)
        Gen.reducesTo_S2048x2048_S2048_d1 Gen.h_S_) Gen.shapeCasts_S2048_S2048x1)
      (mulf (broadcastInDim S2048x1 ![] Gen.bcast_S_S2048x1 (constant S_ .f32 0xBF000000#32))
        (Host.divf (Host.rsqrt (hMean x)) (hMean x))))
    (broadcastInDim S2048x1 ![] Gen.bcast_S_S2048x1 (constant S_ .f32 0x45000000#32)))
    (constant S_ .f32 0x00000000#32) Gen.reducesTo_S2048x1_S2048_d1 Gen.h_S_)

theorem hPull_eq (u : FVec Ideal S2048x2048 .f32) : hPull x u = along (pull x u) := by
  unfold hPull; rw [hMean_eq, lane_all', along_unit, word_col, word_col]; rfl

/-- the cotangent of the sum, -/
def hBack (u : FVec Ideal S2048x2048 .f32) : FVec Ideal S2048x2048 .f32 :=
  addf (addf (mulf u (broadcastInDim S2048x2048 ![0, 1] Gen.bcast_S2048x1_S2048x2048_0_1 (Host.rsqrt (hMean x))))
    (mulf x (hPull x u))) (mulf (hPull x u) x)

theorem hBack_eq (u : FVec Ideal S2048x2048 .f32) : hBack x u = back x u := by
  unfold hBack; rw [hMean_eq, hPull_eq, along_all]; rfl

def hDx : FVec Ideal S2048x2048 .f32 :=
  hBack (hTotal x f gate) (mulf (hCot x f tg gate fg)
    (broadcastInDim S2048x2048 ![0, 1] Gen.bcast_S1x2048_S2048x2048_0_1 fg))

theorem hDx_eq : hDx x f tg gate fg = dx x f tg gate fg := by
  unfold hDx; rw [hTotal_eq, hCot_eq, down_all, hBack_eq]; rfl

/-- that of `f`, -/
theorem hFfn_eq : truncf .bf16 (mulf (broadcastInDim S2048x2048 ![0, 1] Gen.bcast_S1x2048_S2048x2048_0_1 gate)
    (hDx x f tg gate fg)) Gen.bitsLt_bf16_f32 = dffn x f tg gate fg := by
  rw [hDx_eq, down_all]; rfl

/-- those of the gate and the gain, -/
theorem hGate_eq : shapeCast S1x2048 (Host.reduceAdd (mulf (hDx x f tg gate fg) f) (constant S_ .f32 0x00000000#32)
    Gen.reducesTo_S2048x2048_S2048_d0 Gen.h_S_) Gen.shapeCasts_S2048_S1x2048 = cols (toGate x f tg gate fg) := by
  rw [hDx_eq, col_all]; rfl

theorem hGain_eq : shapeCast S1x2048 (Host.reduceAdd (mulf (hNormed (hTotal x f gate)) (hCot x f tg gate fg))
    (constant S_ .f32 0x00000000#32) Gen.reducesTo_S2048x2048_S2048_d0 Gen.h_S_) Gen.shapeCasts_S2048_S1x2048
      = cols (toGain x f tg gate fg) := by
  rw [hTotal_eq, hNormed_eq, hCot_eq, col_all]; rfl

/-- and the loss. -/
theorem hLoss_eq : broadcastInDim S8x128 ![] Gen.bcast_S_S8x128 (mulf (constant (F := Ideal) S_ .f32 0x3F000000#32)
    (Host.reduceAdd (Host.divf (Host.reduceAdd (mulf (hErr x f tg gate fg) (hErr x f tg gate fg))
        (constant S_ .f32 0x00000000#32) Gen.reducesTo_S2048x2048_S2048_d1 Gen.h_S_)
      (broadcastInDim S2048 ![] Gen.bcast_S_S2048 (constant S_ .f32 0x45000000#32)))
      (constant S_ .f32 0x00000000#32) Gen.reducesTo_S2048_S_d0 Gen.h_S_))
      = fun _ => cols (part x f tg gate fg) (pt 0 0) := by
  rw [hErr_eq]
  funext j
  refine (ValueIdx.broadcastInDim_scalar_apply Gen.bcast_S_S8x128 _ j).trans ?_
  exact (congrArg (Ideal.ofBits .f32 0x3F000000#32 * ·) (host_means (R := 2048) (C := 2048) _ _ _ _ _ _)).trans
    (scale_means _)

end Arrays

variable (m : (ℓ : Loc nD τ sig) → Buf (Elt Ideal) ℓ) (c : Dev nD)

/-- The arrays that the host returns. -/
theorem dx_eq : res_main_v51 m c = dx (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) := hDx_eq _ _ _ _ _

theorem ffn_eq : res_main_v57 m c = dffn (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4)) := hFfn_eq _ _ _ _ _

theorem gate_eq : res_main_v56 m c = cols (toGate (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4))) := hGate_eq _ _ _ _ _

end Cert.LossReferenceIdeal.Value

namespace Cert.Proof

open Cert.LossIdeal.Step Cert.LossFn Cert.Rows

theorem loss_frame : Cert.quiescent_Loss := fun m g _ => Cert.Loss.Gen.frame m g

theorem loss_frame_ideal : Cert.quiescent_LossIdeal := fun m g _ => Cert.LossIdeal.Gen.frame m g

theorem loss_reference_frame_ideal : Cert.quiescent_LossReferenceIdeal := fun m g _ =>
  (θ_run Cert.LossReferenceIdeal.defs _ _).mono
    (fun r h => ⟨fun c => (h c).2.2.2.2.2, sem_eq_zero_of_no_sems (by decide) r.2⟩)
    (Cert.LossReferenceIdeal.Value.run (F := Ideal) m g)

/-- No operation is read differently on the extended reals. -/
theorem loss_preserves : Cert.preserves_Loss_LossIdeal := trivial

/-- The kernel and the host end with the same five arrays. -/
theorem loss_algebraic : Cert.algebraic_LossIdeal_LossReferenceIdeal := fun m g m' g' _ hp => by
  refine ⟨fun c => gx m c, fun c => gFfn m c, fun c => fun _ => cols (gPart m c) (pt 0 0), fun c => cols (gGate m c),
    fun c => cols (gGain m c), ?_, ?_⟩
  · refine (θ_run Cert.LossIdeal.defs _ _).mono (fun r h c => ?_) (Cert.LossIdeal.Value.run_blocks (F := Ideal) m g)
    obtain ⟨h5, h6, h7, h8, h9, h⟩ := h c
    exact ⟨h5.trans (final_x m c), h6.trans (final_ffn m c), h7.trans (final_loss m c), h8.trans (final_gate m c),
      h9.trans (final_gain m c), h⟩
  · refine (θ_run Cert.LossReferenceIdeal.defs _ _).mono (fun _ h c => ?_)
      (Cert.LossReferenceIdeal.Value.run (F := Ideal) m' g')
    obtain ⟨hx, hf, hl, hg, hb, h⟩ := h c
    obtain ⟨e0, e1, e2, e3, e4⟩ := hp c
    have ex := Cert.LossReferenceIdeal.Value.dx_eq m' c
    have ef := Cert.LossReferenceIdeal.Value.ffn_eq m' c
    have eg := Cert.LossReferenceIdeal.Value.gate_eq m' c
    rw [e0, e1, e2, e3, e4] at ex ef eg hl hb
    exact ⟨hx.trans ex, hf.trans ef, hl.trans (Cert.LossReferenceIdeal.Value.hLoss_eq _ _ _ _ _), hg.trans eg,
      hb.trans (Cert.LossReferenceIdeal.Value.hGain_eq _ _ _ _ _), h⟩

end Cert.Proof
-- ==== Proof.LossSum.lean ====
/-
  The sum of the devices' losses over the mesh: every device sends the corner of its tile to all, and adds what it received.
-/
module

public import proofs.«01_k».proof.Defs
public import proofs.«01_k».proof.Proof.Gen.LossSum
public import proofs.«01_k».proof.Proof.Gen.LossSum.Launch
public import proofs.«01_k».proof.Proof.Gen.LossSumIdeal
public import proofs.«01_k».proof.Proof.Gen.LossSumIdeal.Launch
public import proofs.«01_k».proof.Proof.Gen.LossSumReferenceIdeal
public import proofs.«01_k».proof.Proof.Gen.LossSumReferenceIdeal.Run
public import Idealize.ShloMosaic.Lib.Tactic
public import Idealize.ShloMosaic.Lib.Pipeline.Frame
public import Idealize.ShloMosaic.Lib.Pipeline.CollectiveSegs
public import proofs.«01_k».proof.Proof.Blocks
public import Idealize.ShloMosaic.Lib.Pointwise

@[expose] public section

noncomputable section

namespace Cert.LossSumIdeal

open Cert.LossSumIdeal.Gen
open Cert.LossSumIdeal.Gen.Sites (L lv)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipelines' component (there is none to run) and that of the sum over the mesh. -/
abbrev UU : Type := UR sig nD τ × Sites.UC

local notation "𝕄" => MT nD τ sig ℕ (Elt F) ℕ UU ℕ

abbrev EP : Emb (UR sig nD τ) (MT nD τ sig ℕ (Elt F) ℕ UU ℕ) := embL
abbrev EC : Emb Sites.UC (MT nD τ sig ℕ (Elt F) ℕ UU ℕ) := embR

variable (m : (ℓ : Loc nD τ sig) → Buf (Elt F) ℓ) (ρ : Dev nD → PrngReg)

/-- A device's buffers at the launch, -/
abbrev V₀ (c : Dev nD) : Valuation τ sig (Elt F) := fun b => m ((c : Dev nD), b)
/-- when it has cut the corner out of its tile, -/
abbrev V₁ (c : Dev nD) : Valuation τ sig (Elt F) := StableHlo.after (hostOps0 (F := F)) (V₀ m c)
/-- and at the end. -/
abbrev V₂ (c : Dev nD) : Valuation τ sig (Elt F) := (ar0 (F := F)).after₀ (V₁ m) c

abbrev 𝒱₀ : Variants := Variants.none
abbrev adm : (p : Fin 0) → (pcfgs (F := F) p).Adm := fun p => p.elim0
abbrev pdats : (p : Fin 0) → (c : Dev nD) → Pipeline.Dat τ (Elt F) ℕ ℕ UU ℕ (Pipeline.pin (pcfgs (F := F)) adm p) c :=
  fun p => p.elim0

/-- The invariants of the cells, kept until the end, where the counters are read. -/
abbrev invs : sProp 𝕄 := iprop(∃ κ, (AllReduce.Dat.once (ar0 (F := F)) (V₁ m)).cellInvs (Sites.E0 EC) κ)

local notation "ℍ" => Pipeline.HostSeg (Name := ℕ) (U := UU) (pcfgs (F := F)) defs₀ 𝒱₀ L lv

/-- Cutting out the corner. -/
def cut : ℍ := Pipeline.HostSeg.ofOps _ _ _ _ _ (Pipeline.ucRefs τ sig) (hostOps0 (F := F))
  (fun op h => Pipeline.sub_ucRefs op ((List.forall_iff_forall_mem.mp hostOps0_sub) op h))
  (fun op h => by rcases List.mem_cons.mp h with rfl | h; · rfl
                  obtain rfl := List.mem_singleton.mp h; rfl)
  (V₀ m) (Sites.Es EC (V₁ m) 0)

/-- The sum over the mesh. -/
def add : ℍ := Sites.seg0 EC 𝒱₀ (V₁ m) (Sites.Rest0 (V₁ m) fun _ => invs m)

def segs : List (Pipeline.Seg (pcfgs (F := F)) adm (pdats (F := F)) 0 defs₀ 𝒱₀ L lv) := [.host (cut m), .host (add m)]

theorem main_eq (c : Dev nD) : main (F := F) c = Pipeline.Seg.run (segs m) :=
  main_segs adm (pdats (F := F)) 0 𝒱₀ L lv (cut m) (add m) rfl rfl c

theorem cut_add (c : Dev nD) : (cut m).post c ⊢ (add (F := F) m).pre c := by
  refine BIBase.Entails.trans ?_ (Sites.pre0 EC 𝒱₀ (V₁ m) (fun _ => invs m) c)
  dsimp only [cut, Pipeline.HostSeg.ofOps]
  rw [Sites.Es_0]
  iintro ⟨Hh, HO, Hp, Hr⟩
  ihave #Hi := (show (AllReduce.Dat.once (ar0 (F := F)) (V₁ m)).rides (Sites.E0 EC) c 1 2 ⊢ invs m from by unfold AllReduce.Dat.rides; iintro ⟨Hi, -⟩; iexact Hi) $$ Hr
  isplitl [Hh]; · iexact Hh
  isplitl [HO Hp Hr]
  · isplitl [HO]; · iexact HO
    isplitl [Hp] <;> iassumption
  iexact Hi

/-- What a device holds at the end. -/
abbrev Tₙ (c : Dev nD) : sProp 𝕄 :=
  iprop(StableHlo.held (c : Thread nD τ) (Pipeline.ucRefs τ sig) (V₂ m c) ∗ invs m ∗ (ar0 (F := F)).ghostAfter (Sites.E0 EC) c 0)

theorem add_Tₙ (c : Dev nD) : (add (F := F) m).post c ⊢ iprop(Tₙ m c ∗ ∃ W, owes (c : Thread nD τ) (0 : CellTallies nD τ sig ℕ) W) := by
  refine (Sites.post0 EC 𝒱₀ (V₁ m) (fun _ => invs m) c).trans ?_
  iintro ⟨Hh, HE, Hg, Hi⟩
  ihave HO := (Sites.hE_last EC (V₁ m) c) $$ HE
  isplitr [HO]
  · isplitl [Hh]; · iexact Hh
    isplitl [Hi] <;> iassumption
  iexact HO

/-- What it starts with. -/
abbrev T₀ (c : Dev nD) : sProp 𝕄 := (cut m).pre c

theorem init :
    iprop((bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (ρ c) ∗ Sites.G EC (V₁ m) c)) ∗ levAts L lv)
      ⊢ (|={Set.univ}=> bigSep Finset.univ (T₀ m) : sProp 𝕄) := by
  have h1 (c : Dev nD) : iprop(unscopedBufs c (fun b => m ((c : Thread nD τ).loc b)) ∗ unscopedSems0 c
        ∗ owes (c : Thread nD τ) (Sites.O0 (F := F) c) ∅ ∗ Pipeline.launchCred (Sites.O0 (F := F)) c ∗ prngReg c (ρ c) ∗ Sites.G EC (V₁ m) c)
      ⊢ iprop(StableHlo.held (c : Thread nD τ) (Pipeline.ucRefs τ sig) (V₀ m c)
          ∗ (unscopedSems0 c ∗ owes (c : Thread nD τ) (Sites.O0 (F := F) c) ∅ ∗ Pipeline.launchCred (Sites.O0 (F := F)) c ∗ prngReg c (ρ c) ∗ Sites.G EC (V₁ m) c)) := by
    rw [show unscopedBufs c (fun b => m ((c : Thread nD τ).loc b))
        = StableHlo.held (c : Thread nD τ) (Pipeline.ucRefs τ sig) (V₀ m c)
      from Pipeline.unscopedBufs_held (Ix := ℕ) (Name := ℕ) (U := UU) (Lvl := ℕ) c (V₀ m c)]
  have h2 (c : Dev nD) : iprop(StableHlo.held (c : Thread nD τ) (Pipeline.ucRefs τ sig) (V₀ m c) ∗ Sites.Es EC (V₁ m) 0 c) ⊢ T₀ m c := by
    dsimp only [T₀, cut, Pipeline.HostSeg.ofOps]; iintro H; iexact H
  iintro ⟨H, HL⟩
  ihave H' := (show _ ⊢ iprop((bigSep Finset.univ fun c : Dev nD => StableHlo.held (c : Thread nD τ) (Pipeline.ucRefs τ sig) (V₀ m c))
        ∗ bigSep Finset.univ fun c : Dev nD => iprop(unscopedSems0 c ∗ owes (c : Thread nD τ) (Sites.O0 (F := F) c) ∅ ∗ Pipeline.launchCred (Sites.O0 (F := F)) c ∗ prngReg c (ρ c) ∗ Sites.G EC (V₁ m) c))
      from by rw [← bigSep_sep']; exact bigSep_mono fun c _ => h1 c) $$ H
  icases H' with ⟨Hh, Hr⟩
  imod (Sites.hE0 EC (V₁ m) ρ) $$ [Hr HL] with HE
  · isplitl [Hr] <;> iassumption
  imodintro
  iapply (show iprop((bigSep Finset.univ fun c : Dev nD => StableHlo.held (c : Thread nD τ) (Pipeline.ucRefs τ sig) (V₀ m c))
        ∗ bigSep Finset.univ (Sites.Es EC (V₁ m) 0))
      ⊢ bigSep Finset.univ (T₀ m) from by rw [← bigSep_sep']; exact bigSep_mono fun c _ => h2 c)
  isplitl [Hh] <;> iassumption

def u₀ : UU :=
  (initOf (Pipeline.cells (Pipeline.pin (pcfgs (F := F)) adm) cellOf_inj) (Pipeline.launchToks (Pipeline.pin (pcfgs (F := F)) adm) cellOf_inj),
    Sites.uC (U := UU) (V₁ m))

/-- The argument and the result. -/
def ends : Finset (DevRef τ sig) := {Proc.devRef .tc main_arg0, Proc.devRef .tc main_v3}

theorem held_ends (c : Dev nD) (W : Valuation τ sig (Elt F)) :
    (StableHlo.held (c : Thread nD τ) (Pipeline.ucRefs τ sig) W : sProp 𝕄)
      ⊢ iprop((((c : Thread nD τ).loc main_arg0) ↦{fullShare} W main_arg0) ∗ (((c : Thread nD τ).loc main_v3) ↦{fullShare} W main_v3)) := by
  rw [StableHlo.held_sub_split (c : Thread nD τ) (show ends ⊆ Pipeline.ucRefs τ sig by decide) W]
  iintro ⟨H, -⟩
  iapply (show (StableHlo.held (c : Thread nD τ) ends W : sProp 𝕄) ⊢ _ from by
    unfold StableHlo.held ends
    rw [bigSep_eq_bigSepL_of_eq [Proc.devRef .tc main_arg0, Proc.devRef .tc main_v3] (by decide) (by decide)]
    exact .rfl)
  iexact H

set_option backward.isDefEq.respectTransparency.types false in
/-- Every device ends with the sum over the mesh, its argument as it was, all counters at zero. -/
theorem run_main : θ_run (defs (F := F)) (onTc (τ := τ) (main (F := F))) ⟨m, fun _ => 0, ρ⟩
    (fun r => (∀ c : Dev nD, r.2.mem ((c : Thread nD τ).loc main_v3) = V₂ m c main_v3
      ∧ r.2.mem ((c : Thread nD τ).loc main_arg0) = V₂ m c main_arg0) ∧ r.2.sem = fun _ => 0) :=
  Pipeline.θ_run_regions_kit_sems (pcfgs (F := F)) adm (pdats (F := F)) 0 cellOf_inj EP defs₀ 𝒱₀ L lv m ρ main (segs m)
    (fun c Q => by rw [main_eq m c])
    (by simp only [segs, Pipeline.Seg.pipes_host, Pipeline.Seg.pipes_nil]; decide)
    (O₀ := Sites.O0 (F := F)) (hL := Sites.hL) (G := Sites.G EC (V₁ m)) (u₀ := u₀ m)
    (hu₀ := by
      unfold u₀
      iintro Hu
      ihave H := (ownU_pair _ _) $$ Hu
      icases H with ⟨HP, HX⟩
      imodintro
      isplitl [HP]; · iexact HP
      rw [Sites.bigSep_G]; iexact HX)
    (T₀ := T₀ m) (Tₙ := Tₙ m)
    (hch := ⟨fun c => .rfl, cut_add m, add_Tₙ m⟩)
    (hinit := init m ρ)
    (QY := fun c s => (s.mem ((c : Thread nD τ).loc main_arg0) = V₂ m c main_arg0 ∧ s.mem ((c : Thread nD τ).loc main_v3) = V₂ m c main_v3)
      ∧ s.sem ((ar0 (F := F)).barrierCell c) = 0 ∧ s.sem ((ar0 (F := F)).recvCell c) = 0 ∧ s.sem ((ar0 (F := F)).sendCell c) = 0)
    (hfin := fun c s' => by
      iintro ⟨⟨Hh, Hi, Hg⟩, HSI⟩
      ihave Hxy := (held_ends c (V₂ m c)) $$ Hh
      icases Hxy with ⟨Hx, Hy⟩
      icombine HSI Hx gives %hx
      icombine HSI Hy gives %hy
      imod ((AllReduce.Dat.once (ar0 (F := F)) (V₁ m)).ghostAfter_read (Sites.E0 EC) c (k := 0) le_rfl s') $$ [Hi Hg HSI] with ⟨%ha, HSI⟩
      · isplitl [Hi Hg]; · isplitl [Hi] <;> iassumption
        iexact HSI
      imodintro
      isplitr; · ipureintro; exact ⟨⟨Buf.eq_of_forall_mem_univ hx, Buf.eq_of_forall_mem_univ hy⟩, ha⟩
      iexact HSI)
    (hQ := fun s h hs => ⟨fun c => ⟨(h c).1.2, (h c).1.1⟩, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

/-- The argument keeps its contents. -/
theorem arg_kept (c : Dev nD) : V₂ m c main_arg0 = m ((c : Thread nD τ).loc main_arg0) := by
  refine ((ar0 (F := F)).after₀_of_notMem (V₁ m) c (b := Proc.devRef .tc main_arg0) fun h => ?_).trans ?_
  · rcases Finset.mem_insert.mp h with h | h
    · exact absurd (Proc.devRef_injective _ h) (by decide : main_arg0 ≠ main_v3)
    · obtain ⟨j, hj⟩ := (ar0 (F := F)).mem_stageRefs.mp h
      exact absurd (Proc.devRef_injective _ hj) ((by decide : ∀ j : Fin 8, main_arg0 ≠ ar0_stage j) j)
  show StableHlo.after (hostOps0 (F := F)) (V₀ m c) main_arg0 = _
  after_results

/-- The corner of a device's tile. -/
theorem corner (c : Dev nD) : V₁ m c main_v2
    = shapeCast S_ (extractStridedSlice S1x1 ![0, 0] (m ((c : Thread nD τ).loc main_arg0)) slices_S8x128_S1x1_0_0) shapeCasts_S1x1_S_ := by
  show StableHlo.after (hostOps0 (F := F)) (V₀ m c) main_v2 = _
  after_results <;> rfl

theorem peer_eq : ∀ (c : Dev nD) (j : Fin 8), (ar0 (F := Ideal)).peer c j = j := by decide

/-- The first entry of a tile. -/
def first : S8x128.Idx := ix2 0 0

/-- The tiles of all devices. -/
abbrev Stacked : Shape := ⟨2, ![64, 128]⟩

/-- The sum of the first entries of the devices' tiles. -/
def total (W : Stacked.Idx → EReal) : EReal := ∑ k : Fin 8, Layout.block S8x128 Stacked 0 8 k W (by decide) first

theorem corner_apply (v : S8x128.Idx → EReal) (j : S_.Idx) :
    shapeCast S_ (extractStridedSlice S1x1 ![0, 0] v slices_S8x128_S1x1_0_0) shapeCasts_S1x1_S_ j = v first := by
  refine (shapeCast_apply _ _ j (ix2 0 0) rfl).trans ?_
  unfold extractStridedSlice
  exact congrArg v (funext fun a => match a with | ⟨0, _⟩ => rfl | ⟨1, _⟩ => rfl)

/-- Eight numbers added from the left. -/
theorem fold_eight (g : Fin 8 → EReal) : ((List.finRange 8).drop 1).foldl (fun a j => a + g j) (g 0) = ∑ k : Fin 8, g k := by
  rw [Fin.sum_univ_eight, show (List.finRange 8).drop 1 = [1, 2, 3, 4, 5, 6, 7] by decide]
  rfl

/-- Every device ends with the total. -/
theorem sum_value (m : (ℓ : Loc nD τ sig) → Buf (Elt Ideal) ℓ) (W : Stacked.Idx → EReal)
    (h : ∀ c : Dev nD, m ((c : Thread nD τ).loc main_arg0) = Layout.block S8x128 Stacked 0 8 c W (by decide)) (c : Dev nD) :
    V₂ m c main_v3 = fun _ => total W := by
  have hc (k : Dev nD) : V₁ m k main_v2 = fun _ => Layout.block S8x128 Stacked 0 8 k W (by decide) first := by
    rw [corner m k, h k]; exact funext fun j => corner_apply _ j
  have hf : (fun j : Fin 8 => V₁ m ((ar0 (F := Ideal)).peer c j) main_v2) = fun k _ => Layout.block S8x128 Stacked 0 8 k W (by decide) first :=
    funext fun j => by rw [peer_eq c j]; exact hc j
  have hg : (ar0 (F := Ideal)).foldGroup (fun j : Fin 8 => V₁ m ((ar0 (F := Ideal)).peer c j) main_v2) = fun _ => total W := by
    rw [hf]
    funext i
    unfold AllReduce.Cfg.foldGroup
    exact fold_eight fun k => Layout.block S8x128 Stacked 0 8 k W (by decide) first
  have ht (Y : S_.Idx → EReal) : (ar0 (F := Ideal)).toResult Y = Y := rfl
  exact ((ar0 (F := Ideal)).after₀_result (V₁ m) c).trans ((congrArg (ar0 (F := Ideal)).toResult hg).trans (ht _))

end Cert.LossSumIdeal

namespace Cert.LossSumReferenceIdeal.Value

open Idealize.ShloMosaic Idealize.ShloMosaic.TcCoe
open Cert.LossSumReferenceIdeal.Gen
open Cert.LossSumIdeal (total first Stacked)

/-- So does the host. -/
theorem host_total (W : Stacked.Idx → EReal) :
    Host.reduceAdd (F := Ideal) (φ := .f32) (shapeCast S8 (extractStridedSlice S8x1x1 ![0, 0, 0] (shapeCast S8x8x128 W shapeCasts_S64x128_S8x8x128)
      slices_S8x8x128_S8x1x1_0_0_0) shapeCasts_S8x1x1_S8) (constant S_ .f32 0x00000000#32) reducesTo_S8_S_d0 h_S_ = fun _ => total W := by
  funext j
  refine (Ideal.hostReduceAdd_r1_a0 reducesTo_S8_S_d0 _ _ j).trans ?_
  refine (congrArg (· + _) (Ideal.ofBits_zero_f32)).trans ((zero_add _).trans ?_)
  refine Finset.sum_congr rfl fun k _ => ?_
  refine (shapeCast_apply _ _ _ (ix3 k 0 0) (by
    rw [Shape.rowMajor_val_one, Shape.rowMajor_val_three]
    show (k.val * 1 + 0) * 1 + 0 = k.val; omega)).trans ?_
  rw [Cert.Gather.stack_rows (r := 8) (k := 128) W (by decide)]
  unfold extractStridedSlice
  refine congrArg W (funext fun a => Fin.ext ?_)
  match a with
  | ⟨0, _⟩ => show (0 + k.val) * 8 + (0 + 0) = k.val * 8 + 0; omega
  | ⟨1, _⟩ => rfl

end Cert.LossSumReferenceIdeal.Value

namespace Cert.Proof

open Idealize.ShloMosaic Idealize.SL.Sem
open Cert.LossSumIdeal (run_main arg_kept total sum_value)

theorem sum_frame : Cert.quiescent_LossSum := fun m g _ =>
  (θ_run Cert.LossSumIdeal.defs _ _).mono (fun _ h => ⟨fun c => (h.1 c).2.trans (arg_kept (F := Bits) m c), h.2⟩) (run_main (F := Bits) m g)

theorem sum_frame_ideal : Cert.quiescent_LossSumIdeal := fun m g _ =>
  (θ_run Cert.LossSumIdeal.defs _ _).mono (fun _ h => ⟨fun c => (h.1 c).2.trans (arg_kept (F := Ideal) m c), h.2⟩) (run_main (F := Ideal) m g)

theorem sum_reference_frame_ideal : Cert.quiescent_LossSumReferenceIdeal := fun m g _ =>
  (θ_run Cert.LossSumReferenceIdeal.defs _ _).mono (fun r h => ⟨fun c => (h c).2, sem_eq_zero_of_no_sems (by decide) r.2⟩)
    (Cert.LossSumReferenceIdeal.Value.run (F := Ideal) m g)

theorem sum_preserves : Cert.preserves_LossSum_LossSumIdeal := trivial

theorem sum_algebraic : Cert.algebraic_LossSumIdeal_LossSumReferenceIdeal := fun m g m' g' _ hp =>
  ⟨fun _ => total (m' (((0 : Dev 1).tc).loc LossSumReferenceIdeal.main_arg0)),
    (θ_run Cert.LossSumIdeal.defs _ _).mono (fun _ h c => ⟨(h.1 c).1.trans (sum_value m _ hp c), (h.1 c).2.trans (arg_kept m c)⟩)
      (run_main (F := Ideal) m g),
    (θ_run Cert.LossSumReferenceIdeal.defs _ _).mono (fun _ h => ⟨(h 0).1.trans (Cert.LossSumReferenceIdeal.Value.host_total _), (h 0).2⟩)
      (Cert.LossSumReferenceIdeal.Value.run (F := Ideal) m' g')⟩

end Cert.Proof

end
-- ==== Proof.Product.lean ====
/-
  Products of matrices of any size on the extended reals, and the sums that a body gets from its blocks.
-/
module

public import proofs.«01_k».proof.Proof.Rows

@[expose] public section

noncomputable section

open Idealize.ShloMosaic

namespace Cert.Product

open scoped BigOperators
open Cert.Adam (Mat Parts)
open Cert.Rows

variable {M K N : ℕ}

/-- The product of two matrices, -/
def prod (a : (Mat M K).Idx → EReal) (b : (Mat K N).Idx → EReal) : (Mat M N).Idx → EReal :=
  fun i => ∑ k : Fin K, a (pt (i 0) k) * b (pt k (i 1))

/-- and the transpose of one. -/
def tr (a : (Mat M K).Idx → EReal) : (Mat K M).Idx → EReal := fun i => a (pt (i 1) (i 0))

/-! ## The operations -/

section Operations

variable {φ₁ φ₂ : FTy} (prec : Option ContractPrecision)

/-- The dimension numbers of `aᵀ b`. -/
def dotT (M K N : ℕ) : DotDims (Mat K M) (Mat K N) (Mat M N) where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The kernel's products of blocks: `a b`, -/
theorem block (a : FVec Ideal (Mat M K) φ₁) (b : FVec Ideal (Mat K N) φ₂) :
    matmul (DotDims.plain M K N) prec a b (constant (Mat M N) .f32 0x00000000#32) = prod a b := funext fun i => by
  refine (Ideal.matmul_apply₁_of (DotDims.plain M K N) (a := 1) rfl rfl a b _ i (fun k => pt (i 0) k) (fun k => pt k (i 1))
    (fun k => ?_) (fun k => ?_)).trans ((congrArg (· + _) Ideal.ofBits_zero_f32).trans (zero_add _))
  · funext x; match x with
    | ⟨0, _⟩ => rfl
    | ⟨1, _⟩ => rfl
  · funext x; match x with
    | ⟨0, _⟩ => rfl
    | ⟨1, _⟩ => rfl

/-- `a bᵀ` -/
theorem block_right (a : FVec Ideal (Mat M K) φ₁) (b : FVec Ideal (Mat N K) φ₂) :
    matmul (DotDims.transposedRhs M K N) prec a b (constant (Mat M N) .f32 0x00000000#32) = prod a (tr b) := funext fun i => by
  refine (Ideal.matmul_apply₁_of (DotDims.transposedRhs M K N) (a := 1) rfl rfl a b _ i (fun k => pt (i 0) k)
    (fun k => pt (i 1) k) (fun k => ?_) (fun k => ?_)).trans ((congrArg (· + _) Ideal.ofBits_zero_f32).trans (zero_add _))
  · funext x; match x with
    | ⟨0, _⟩ => rfl
    | ⟨1, _⟩ => rfl
  · funext x; match x with
    | ⟨0, _⟩ => rfl
    | ⟨1, _⟩ => rfl

/-- and `aᵀ b`. -/
theorem block_left (a : FVec Ideal (Mat K M) φ₁) (b : FVec Ideal (Mat K N) φ₂) :
    matmul (dotT M K N) prec a b (constant (Mat M N) .f32 0x00000000#32) = prod (tr a) b := funext fun i => by
  refine (Ideal.matmul_apply₁_of (dotT M K N) (a := 0) rfl rfl a b _ i (fun k => pt k (i 0)) (fun k => pt k (i 1))
    (fun k => ?_) (fun k => ?_)).trans ((congrArg (· + _) Ideal.ofBits_zero_f32).trans (zero_add _))
  · funext x; match x with
    | ⟨0, _⟩ => rfl
    | ⟨1, _⟩ => rfl
  · funext x; match x with
    | ⟨0, _⟩ => rfl
    | ⟨1, _⟩ => rfl

/-- The host's product -/
theorem host (a : FVec Ideal (Mat M K) φ₁) (b : FVec Ideal (Mat K N) φ₂) :
    Host.dotGeneral (DotDims.plain M K N) prec a b = prod a b := funext fun i => by
  refine (Ideal.matmul_apply₁_of (DotDims.plain M K N) (a := 1) rfl rfl a b (fun _ => 0) i (fun k => pt (i 0) k)
    (fun k => pt k (i 1)) (fun k => ?_) (fun k => ?_)).trans (zero_add _)
  · funext x; match x with
    | ⟨0, _⟩ => rfl
    | ⟨1, _⟩ => rfl
  · funext x; match x with
    | ⟨0, _⟩ => rfl
    | ⟨1, _⟩ => rfl

/-- and its transpose. -/
theorem host_tr {φ : FTy} (a : FVec Ideal (Mat M K) φ) (h) : transpose (Mat K M) [1, 0] a h = tr a := funext fun i =>
  congrArg a (funext fun x => by
    match x with
    | ⟨0, _⟩ => rfl
    | ⟨1, _⟩ => rfl)

/-- An index of parts by its coordinates. -/
theorem eq_part {J R L : ℕ} {i : (Parts J R L).Idx} {j : Fin J} {r : Fin R} {l : Fin L} (h0 : (i 0).val = j.val)
    (h1 : (i 1).val = r.val) (h2 : (i 2).val = l.val) : i = ValueIdx.ix3 j r l := by
  funext a
  match a with
  | ⟨0, _⟩ => exact Fin.ext h0
  | ⟨1, _⟩ => exact Fin.ext h1
  | ⟨2, _⟩ => exact Fin.ext h2

/-- The matrix of which each of `J` parts is a block of columns, -/
def columns {J R L : ℕ} (w : (Parts J R L).Idx → EReal) : (Mat R (J * L)).Idx → EReal := fun i =>
  w (ValueIdx.ix3 (finProdFinEquiv.symm (i 1)).1 (i 0) (finProdFinEquiv.symm (i 1)).2)

/-- and the parts of a matrix. -/
def slots {J R L : ℕ} (v : (Mat R (J * L)).Idx → EReal) : (Parts J R L).Idx → EReal := fun i =>
  v (pt (i 1) (finProdFinEquiv (i 0, i 2)))

theorem host_columns {J R L : ℕ} {φ : FTy} (w : FVec Ideal (Parts J R L) φ) (ht) (hc) :
    shapeCast (Mat R (J * L)) (transpose ⟨3, ![R, J, L]⟩ [1, 0, 2] w ht) hc = columns w := funext fun i => by
  have he : finProdFinEquiv.symm (i 1) = ((finProdFinEquiv.symm (i 1)).1, (finProdFinEquiv.symm (i 1)).2) := rfl
  have hv : (i 1).val = (finProdFinEquiv.symm (i 1)).2.val + L * (finProdFinEquiv.symm (i 1)).1.val :=
    congrArg Fin.val (finProdFinEquiv.apply_symm_apply (i 1)).symm
  refine (shapeCast_apply _ hc i (ValueIdx.ix3 (i 0) (finProdFinEquiv.symm (i 1)).1 (finProdFinEquiv.symm (i 1)).2) ?_).trans ?_
  · rw [Shape.rowMajor_val_two, Shape.rowMajor_val_three]
    show ((i 0).val * J + (finProdFinEquiv.symm (i 1)).1.val) * L + (finProdFinEquiv.symm (i 1)).2.val
      = (i 0).val * (J * L) + (i 1).val
    rw [hv]; ring
  · exact transpose_apply _ _ ht _ _ fun c => match c with | ⟨0, _⟩ => rfl | ⟨1, _⟩ => rfl | ⟨2, _⟩ => rfl

theorem host_slots {J R L : ℕ} {φ : FTy} (v : FVec Ideal (Mat R (J * L)) φ) (ht) (hc) :
    transpose (Parts J R L) [1, 0, 2] (shapeCast ⟨3, ![R, J, L]⟩ v hc) ht = slots v := funext fun i => by
  refine (transpose_apply _ _ ht i (ValueIdx.ix3 (i 1) (i 0) (i 2)) fun c => match c with | ⟨0, _⟩ => rfl | ⟨1, _⟩ => rfl | ⟨2, _⟩ => rfl).trans ?_
  refine shapeCast_apply v hc _ (pt (i 1) (finProdFinEquiv (i 0, i 2))) ?_
  rw [Shape.rowMajor_val_two, Shape.rowMajor_val_three]
  show (i 1).val * (J * L) + ((i 2).val + L * (i 0).val) = ((i 1).val * J + (i 0).val) * L + (i 2).val
  ring

/-- A part alone, read as a matrix, -/
theorem one_part {R C : ℕ} (v : (Parts 1 R C).Idx → EReal) (h) :
    shapeCast (Mat R C) v h = fun i => v (ValueIdx.ix3 0 (i 0) (i 1)) := funext fun i =>
  shapeCast_apply v h i (ValueIdx.ix3 0 (i 0) (i 1)) (by
    rw [Shape.rowMajor_val_two, Shape.rowMajor_val_three]
    show (0 * R + (i 0).val) * C + (i 1).val = (i 0).val * C + (i 1).val
    rw [Nat.zero_mul, Nat.zero_add])

/-- and a matrix read as a part. -/
theorem as_part {R C : ℕ} (v : (Mat R C).Idx → EReal) (h) :
    shapeCast (Parts 1 R C) v h = fun i => v (pt (i 1) (i 2)) := funext fun i =>
  shapeCast_apply v h i (pt (i 1) (i 2)) (by
    rw [Shape.rowMajor_val_two, Shape.rowMajor_val_three]
    show (i 1).val * C + (i 2).val = ((i 0).val * R + (i 1).val) * C + (i 2).val
    have h0 : (i 0).val = 0 := Nat.lt_one_iff.mp (i 0).isLt
    rw [h0, Nat.zero_mul, Nat.zero_add])

end Operations

/-! ## Blocks -/

/-- Two windows at the same block read the same positions. -/
theorem same_block {b b' : ℕ} (h : b = b') (n k : ℕ) : b * n + 1 * k = b' * n + 1 * k := by rw [h]

/-- A block that is the whole axis. -/
theorem whole_axis {b : ℕ} (h : b = 0) (n k : ℕ) : b * n + 1 * k = k := by rw [h]; omega

/-- A block of rows times a block of columns is a block of the product. -/
theorem prod_block {m n : ℕ} {A : (Mat M K).Idx → EReal} {B : (Mat K N).Idx → EReal} {a : (Mat m K).Idx → EReal}
    {b : (Mat K n).Idx → EReal} {y : (Mat m n).Idx} {i : (Mat M N).Idx} (ha : ∀ k, a (pt (y 0) k) = A (pt (i 0) k))
    (hb : ∀ k, b (pt k (y 1)) = B (pt k (i 1))) : prod a b y = prod A B i :=
  Finset.sum_congr rfl fun k _ => congrArg₂ (· * ·) (ha k) (hb k)

/-- The products of `J` blocks of the contracted axis add up to the product. -/
theorem prod_blocks {J L m n : ℕ} {A : (Mat M (J * L)).Idx → EReal} {B : (Mat (J * L) N).Idx → EReal}
    (a : ℕ → (Mat m L).Idx → EReal) (b : ℕ → (Mat L n).Idx → EReal) {y : (Mat m n).Idx} {i : (Mat M N).Idx}
    (ha : ∀ (j : Fin J) k, a j (pt (y 0) k) = A (pt (i 0) (finProdFinEquiv (j, k))))
    (hb : ∀ (j : Fin J) k, b j (pt k (y 1)) = B (pt (finProdFinEquiv (j, k)) (i 1))) :
    ∑ j ∈ Finset.range J, prod (a j) (b j) y = prod A B i := by
  rw [← Fin.sum_univ_eq_sum_range (fun j => prod (a j) (b j) y), prod, ← finProdFinEquiv.sum_comp, Fintype.sum_prod_type]
  exact Finset.sum_congr rfl fun j _ => Finset.sum_congr rfl fun k _ => congrArg₂ (· * ·) (ha j k) (hb j k)

/-- A body that keeps a sum beside its output: the first of `J` points puts its term there, the next ones add theirs, and the
    last one writes the sum with its own term to the output. -/
theorem accumulate {P J : ℕ} {ι : Type} (f : (n : ℕ) → n < P → (ι → EReal) × (ι → EReal)) (term : Fin P → ι → EReal)
    (hJ : 1 < J) (point : ℕ → Fin P) (hp : ∀ t : Fin P, point t.val = t)
    (hA : ∀ t : Fin P, t.val % J = 0 → (f t.val t.isLt).2 = term t)
    (hB : ∀ t : Fin P, ¬t.val % J = 0 → ¬t.val % J = J - 1 →
      (f t.val t.isLt).2 = fun i => (f (t.val - 1) (Nat.lt_of_le_of_lt (Nat.sub_le _ _) t.isLt)).2 i + term t i)
    (hC : ∀ t : Fin P, ¬t.val % J = 0 → t.val % J = J - 1 →
      (f t.val t.isLt).1 = fun i => (f (t.val - 1) (Nat.lt_of_le_of_lt (Nat.sub_le _ _) t.isLt)).2 i + term t i)
    (t : Fin P) (ht : t.val % J = J - 1) (i : ι) :
    (f t.val t.isLt).1 i = ∑ j ∈ Finset.range J, term (point (J * (t.val / J) + j)) i := by
  have key := Pipeline.eq_sum_of_reset_step_apply (fun n h => if n % J = J - 1 then (f n h).1 else (f n h).2) J (fun _ => 0)
    (fun n => term (point n))
    (fun s h0 i => by
      have h1 : ¬s.val % J = J - 1 := by omega
      simp only [if_neg h1, hA s h0, hp s, zero_add])
    (fun s h0 i => by
      have hm := Nat.div_add_mod s.val J
      have hlt := Nat.mod_lt s.val (show 0 < J by omega)
      have e : s.val - 1 = J * (s.val / J) + (s.val % J - 1) := by omega
      have hpre : ¬(s.val - 1) % J = J - 1 := by
        rw [e, Nat.mul_add_mod, Nat.mod_eq_of_lt (by omega)]; omega
      by_cases h1 : s.val % J = J - 1
      · simp only [if_pos h1, if_neg hpre, hC s h0 h1, hp s]
      · simp only [if_neg h1, if_neg hpre, hB s h0 h1, hp s]) t i
  simp only [if_pos ht, zero_add, ht] at key
  rwa [show J - 1 + 1 = J by omega] at key

/-! ## The square of the positive part -/

/-- The square of a number's positive part, -/
def square (x : EReal) : EReal := max x (Ideal.ofBits .f32 0x00000000#32) * max x (Ideal.ofBits .f32 0x00000000#32)

/-- and its derivative. -/
def slope (x : EReal) : EReal := Ideal.ofBits .f32 0x40000000#32 * max x (Ideal.ofBits .f32 0x00000000#32)

theorem slope_of_not_pos {x : EReal} (h : ¬Ideal.ofBits .f32 0x00000000#32 < x) : slope x = 0 := by
  unfold slope
  rw [max_eq_right (not_lt.mp h), Ideal.ofBits_zero_f32, mul_zero]

/-- Where the number is not positive, nothing is left of a multiple of the derivative. -/
theorem select_slope (g x : EReal) :
    Scalar.select (Ideal.cmp .ogt x (Ideal.ofBits .f32 0x00000000#32)) (g * slope x) (Ideal.ofBits .f32 0x00000000#32)
      = g * slope x := by
  by_cases h : Ideal.ofBits .f32 0x00000000#32 < x
  · exact if_pos (congrArg BitVec.ofBool (decide_eq_true h))
  · rw [slope_of_not_pos h, mul_zero]
    exact (if_neg (by
      show ¬BitVec.ofBool (decide (Ideal.ofBits .f32 0x00000000#32 < x)) = 1
      rw [decide_eq_false h]; decide)).trans Ideal.ofBits_zero_f32

end Cert.Product

end
-- ==== Proof.Forward.lean ====
/-
  Forward calls whose bodies get a block of the result in one product: two projections, the modulation with its bias, and the
  first feed-forward layer, whose weights come in parts and which leaves the square of its positive part as well.
-/
module

public import proofs.«01_k».proof.Defs
public import proofs.«01_k».proof.Proof.Gen.Proj.Frame
public import proofs.«01_k».proof.Proof.Gen.ProjIdeal.Value
public import proofs.«01_k».proof.Proof.Gen.ProjReferenceIdeal.Run
public import proofs.«01_k».proof.Proof.Gen.OutMix.Frame
public import proofs.«01_k».proof.Proof.Gen.OutMixIdeal.Value
public import proofs.«01_k».proof.Proof.Gen.OutMixReferenceIdeal.Run
public import proofs.«01_k».proof.Proof.Gen.Mod.Frame
public import proofs.«01_k».proof.Proof.Gen.ModIdeal.Value
public import proofs.«01_k».proof.Proof.Gen.ModReferenceIdeal.Run
public import proofs.«01_k».proof.Proof.Gen.Ffn1.Frame
public import proofs.«01_k».proof.Proof.Gen.Ffn1Ideal.Value
public import proofs.«01_k».proof.Proof.Gen.Ffn1ReferenceIdeal.Run
public import proofs.«01_k».proof.Proof.Product

@[expose] public section

noncomputable section

open Idealize.ShloMosaic Idealize.ShloMosaic.TcCoe Idealize.SL.Sem
open Idealize.ShloMosaic.Pipeline (Dat)

namespace Cert.ProjIdeal.Step

open Cert.ProjIdeal Cert.ProjIdeal.Gen
open Cert.Adam (Mat Parts)
open Cert.Rows Cert.Product

variable (m : (ℓ : Loc nD τ sig) → Buf (Elt Ideal) ℓ) (c : Dev nD)

/-- The device's arrays. -/
abbrev a0 : (Mat 2048 2048).Idx → EReal := m ((c : Thread nD τ).loc main_arg0)
abbrev a1 : (Mat 2048 4608).Idx → EReal := m ((c : Thread nD τ).loc main_arg1)

/-- The blocks of the left array are the result's rows, those of the right one its columns. -/
theorem at0 : ∀ t : Fin cfg0.N, win0_0.index t 0 = win0_2.index t 0 ∧ win0_0.index t 1 = 0 := by decide +kernel
theorem at1 : ∀ t : Fin cfg0.N, win0_1.index t 0 = 0 ∧ win0_1.index t 1 = win0_2.index t 1 := by decide +kernel

theorem final : (dats m 0 c).arrAt 2 cfg0.N = prod (a0 m c) (a1 m c) :=
  (dats m 0 c).arrAt_eq_of_covers 2 (prod (a0 m c) (a1 m c)) (by decide +kernel : win0_2.Covers) fun t _ y => by
    have h : (dats m 0 c).after 2 t = prod (iblk m c 0 t : (Mat 1024 2048).Idx → EReal) (iblk m c 1 t) := by
      rw [after0_2]
      unfold outsAt0
      frame_out
      exact block (M := 1024) (K := 2048) (N := 768) none (φ₁ := .bf16) (φ₂ := .bf16) _ _
    exact (congrFun h y).trans (prod_block (m := 1024) (n := 768) (K := 2048) (M := 2048) (N := 4608)
      (fun k => congrArg (a0 m c) (eq_pt (same_block (at0 t).1 1024 (y 0).val) (whole_axis (at0 t).2 2048 k.val)))
      (fun k => congrArg (a1 m c) (eq_pt (whole_axis (at1 t).1 2048 k.val) (same_block (at1 t).2 768 (y 1).val))))

end Cert.ProjIdeal.Step

namespace Cert.Proof

open Cert.ProjIdeal.Step Cert.Product

theorem proj_frame : Cert.quiescent_Proj := fun m g _ => Cert.Proj.Gen.frame m g

theorem proj_frame_ideal : Cert.quiescent_ProjIdeal := fun m g _ => Cert.ProjIdeal.Gen.frame m g

theorem proj_reference_frame_ideal : Cert.quiescent_ProjReferenceIdeal := fun m g _ =>
  (θ_run Cert.ProjReferenceIdeal.defs _ _).mono
    (fun r h => ⟨fun c => (h c).2, sem_eq_zero_of_no_sems (by decide) r.2⟩)
    (Cert.ProjReferenceIdeal.Value.run (F := Ideal) m g)

theorem proj_preserves : Cert.preserves_Proj_ProjIdeal := trivial

/-- The kernel and the host end with the same array: the input projection. -/
theorem proj_algebraic : Cert.algebraic_ProjIdeal_ProjReferenceIdeal := fun m g m' g' _ hp => by
  refine ⟨fun c => prod (a0 m c) (a1 m c), ?_, ?_⟩
  · refine (θ_run Cert.ProjIdeal.defs _ _).mono (fun _ h c => ?_) (Cert.ProjIdeal.Value.run_blocks (F := Ideal) m g)
    exact ⟨(h c).1.trans (final m c), (h c).2⟩
  · refine (θ_run Cert.ProjReferenceIdeal.defs _ _).mono (fun _ h c => ?_)
      (Cert.ProjReferenceIdeal.Value.run (F := Ideal) m' g')
    obtain ⟨e, h⟩ := h c
    obtain ⟨e0, e1⟩ := hp c
    rw [e0, e1] at e
    exact ⟨e.trans (host (M := 2048) (K := 2048) (N := 4608) none (φ₁ := .bf16) (φ₂ := .bf16) _ _), h⟩

end Cert.Proof

namespace Cert.OutMixIdeal.Step

open Cert.OutMixIdeal Cert.OutMixIdeal.Gen
open Cert.Adam (Mat Parts)
open Cert.Rows Cert.Product

variable (m : (ℓ : Loc nD τ sig) → Buf (Elt Ideal) ℓ) (c : Dev nD)

/-- The device's arrays. -/
abbrev a0 : (Mat 2048 2048).Idx → EReal := m ((c : Thread nD τ).loc main_arg0)
abbrev a1 : (Mat 2048 2048).Idx → EReal := m ((c : Thread nD τ).loc main_arg1)

/-- The blocks of the left array are the result's rows, those of the right one its columns. -/
theorem at0 : ∀ t : Fin cfg0.N, win0_0.index t 0 = win0_2.index t 0 ∧ win0_0.index t 1 = 0 := by decide +kernel
theorem at1 : ∀ t : Fin cfg0.N, win0_1.index t 0 = 0 ∧ win0_1.index t 1 = win0_2.index t 1 := by decide +kernel

theorem final : (dats m 0 c).arrAt 2 cfg0.N = prod (a0 m c) (a1 m c) :=
  (dats m 0 c).arrAt_eq_of_covers 2 (prod (a0 m c) (a1 m c)) (by decide +kernel : win0_2.Covers) fun t _ y => by
    have h : (dats m 0 c).after 2 t = prod (iblk m c 0 t : (Mat 1024 2048).Idx → EReal) (iblk m c 1 t) := by
      rw [after0_2]
      unfold outsAt0
      frame_out
      exact block (M := 1024) (K := 2048) (N := 1024) none (φ₁ := .bf16) (φ₂ := .bf16) _ _
    exact (congrFun h y).trans (prod_block (m := 1024) (n := 1024) (K := 2048) (M := 2048) (N := 2048)
      (fun k => congrArg (a0 m c) (eq_pt (same_block (at0 t).1 1024 (y 0).val) (whole_axis (at0 t).2 2048 k.val)))
      (fun k => congrArg (a1 m c) (eq_pt (whole_axis (at1 t).1 2048 k.val) (same_block (at1 t).2 1024 (y 1).val))))

end Cert.OutMixIdeal.Step

namespace Cert.Proof

open Cert.OutMixIdeal.Step Cert.Product

theorem out_mix_frame : Cert.quiescent_OutMix := fun m g _ => Cert.OutMix.Gen.frame m g

theorem out_mix_frame_ideal : Cert.quiescent_OutMixIdeal := fun m g _ => Cert.OutMixIdeal.Gen.frame m g

theorem out_mix_reference_frame_ideal : Cert.quiescent_OutMixReferenceIdeal := fun m g _ =>
  (θ_run Cert.OutMixReferenceIdeal.defs _ _).mono
    (fun r h => ⟨fun c => (h c).2, sem_eq_zero_of_no_sems (by decide) r.2⟩)
    (Cert.OutMixReferenceIdeal.Value.run (F := Ideal) m g)

theorem out_mix_preserves : Cert.preserves_OutMix_OutMixIdeal := trivial

/-- The kernel and the host end with the same array: the output projection. -/
theorem out_mix_algebraic : Cert.algebraic_OutMixIdeal_OutMixReferenceIdeal := fun m g m' g' _ hp => by
  refine ⟨fun c => prod (a0 m c) (a1 m c), ?_, ?_⟩
  · refine (θ_run Cert.OutMixIdeal.defs _ _).mono (fun _ h c => ?_) (Cert.OutMixIdeal.Value.run_blocks (F := Ideal) m g)
    exact ⟨(h c).1.trans (final m c), (h c).2⟩
  · refine (θ_run Cert.OutMixReferenceIdeal.defs _ _).mono (fun _ h c => ?_)
      (Cert.OutMixReferenceIdeal.Value.run (F := Ideal) m' g')
    obtain ⟨e, h⟩ := h c
    obtain ⟨e0, e1⟩ := hp c
    rw [e0, e1] at e
    exact ⟨e.trans (host (M := 2048) (K := 2048) (N := 2048) none (φ₁ := .bf16) (φ₂ := .bf16) _ _), h⟩

end Cert.Proof

namespace Cert.ModIdeal.Step

open Cert.ModIdeal Cert.ModIdeal.Gen
open Cert.Adam (Mat Parts)
open Cert.Rows Cert.Product

variable (m : (ℓ : Loc nD τ sig) → Buf (Elt Ideal) ℓ) (c : Dev nD)

/-- The device's arrays. -/
abbrev a0 : (Mat 8 2048).Idx → EReal := m ((c : Thread nD τ).loc main_arg0)
abbrev a1 : (Mat 2048 1536).Idx → EReal := m ((c : Thread nD τ).loc main_arg1)
abbrev a2 : (Mat 1 1536).Idx → EReal := m ((c : Thread nD τ).loc main_arg2)

/-- The blocks of the left array are the result's rows, those of the right one its columns. -/
theorem at0 : ∀ t : Fin cfg0.N, win0_0.index t 0 = win0_3.index t 0 ∧ win0_0.index t 1 = 0 := by decide +kernel
theorem at1 : ∀ t : Fin cfg0.N, win0_1.index t 0 = 0 ∧ win0_1.index t 1 = win0_3.index t 1 := by decide +kernel
theorem at2 : ∀ t : Fin cfg0.N, win0_2.index t 0 = 0 ∧ win0_2.index t 1 = win0_3.index t 1 := by decide +kernel

/-- The product with the bias under every row. -/
abbrev biased : (Mat 8 1536).Idx → EReal := fun i => prod (a0 m c) (a1 m c) i + down (a2 m c) i

theorem final : (dats m 0 c).arrAt 3 cfg0.N = biased m c :=
  (dats m 0 c).arrAt_eq_of_covers 3 (biased m c) (by decide +kernel : win0_3.Covers) fun t _ y => by
    have h : (dats m 0 c).after 3 t = fun i : (Mat 8 768).Idx =>
        prod (iblk m c 0 t : (Mat 8 2048).Idx → EReal) (iblk m c 1 t) i + down (iblk m c 2 t) i := by
      rw [after0_3]
      unfold outsAt0
      frame_out
      exact congrArg₂ (fun (v w : (Mat 8 768).Idx → EReal) i => v i + w i)
        (block (M := 8) (K := 2048) (N := 768) (some .fp32) (φ₁ := .f32) (φ₂ := .f32) _ _) (to_down (R := 8) (C := 768) _ _)
    exact (congrFun h y).trans (congrArg₂ (· + ·) (prod_block (m := 8) (n := 768) (K := 2048) (M := 8) (N := 1536)
      (fun k => congrArg (a0 m c) (eq_pt (same_block (at0 t).1 8 (y 0).val) (whole_axis (at0 t).2 2048 k.val)))
      (fun k => congrArg (a1 m c) (eq_pt (whole_axis (at1 t).1 2048 k.val) (same_block (at1 t).2 768 (y 1).val))))
      (congrArg (a2 m c) (eq_pt (whole_axis (at2 t).1 1 0) (same_block (at2 t).2 768 (y 1).val))))

end Cert.ModIdeal.Step

namespace Cert.Proof

open Cert.ModIdeal.Step Cert.Product

theorem mod_frame : Cert.quiescent_Mod := fun m g _ => Cert.Mod.Gen.frame m g

theorem mod_frame_ideal : Cert.quiescent_ModIdeal := fun m g _ => Cert.ModIdeal.Gen.frame m g

theorem mod_reference_frame_ideal : Cert.quiescent_ModReferenceIdeal := fun m g _ =>
  (θ_run Cert.ModReferenceIdeal.defs _ _).mono
    (fun r h => ⟨fun c => (h c).2, sem_eq_zero_of_no_sems (by decide) r.2⟩)
    (Cert.ModReferenceIdeal.Value.run (F := Ideal) m g)

theorem mod_preserves : Cert.preserves_Mod_ModIdeal := trivial

/-- The kernel and the host end with the same array: the modulation. -/
theorem mod_algebraic : Cert.algebraic_ModIdeal_ModReferenceIdeal := fun m g m' g' _ hp => by
  refine ⟨fun c => biased m c, ?_, ?_⟩
  · refine (θ_run Cert.ModIdeal.defs _ _).mono (fun _ h c => ?_) (Cert.ModIdeal.Value.run_blocks (F := Ideal) m g)
    exact ⟨(h c).1.trans (final m c), (h c).2⟩
  · refine (θ_run Cert.ModReferenceIdeal.defs _ _).mono (fun _ h c => ?_)
      (Cert.ModReferenceIdeal.Value.run (F := Ideal) m' g')
    obtain ⟨e, h⟩ := h c
    obtain ⟨e0, e1, e2⟩ := hp c
    rw [e0, e1, e2] at e
    exact ⟨e.trans (congrArg₂ (fun (v w : (Cert.Adam.Mat 8 1536).Idx → EReal) i => v i + w i)
      (host (M := 8) (K := 2048) (N := 1536) none (φ₁ := .f32) (φ₂ := .f32) _ _) (Cert.Rows.host_down (R := 8) (C := 1536) _ _)), h⟩

end Cert.Proof

namespace Cert.Ffn1Ideal.Step

open Cert.Ffn1Ideal Cert.Ffn1Ideal.Gen
open Cert.Adam (Mat Parts)
open Cert.Rows Cert.Product

variable (m : (ℓ : Loc nD τ sig) → Buf (Elt Ideal) ℓ) (c : Dev nD)

/-- The device's arrays. -/
abbrev a0 : (Mat 2048 2048).Idx → EReal := m ((c : Thread nD τ).loc main_arg0)
abbrev a1 : (Parts 8 2048 1024).Idx → EReal := m ((c : Thread nD τ).loc main_arg1)

/-- A block of the result's columns is a part of the weights. Both results have the same blocks. -/
theorem at0 : ∀ t : Fin cfg0.N, win0_0.index t 0 = win0_2.index t 0 ∧ win0_0.index t 1 = 0 := by decide +kernel
theorem at1 : ∀ t : Fin cfg0.N,
    win0_1.index t 0 = win0_2.index t 1 ∧ win0_1.index t 1 = 0 ∧ win0_1.index t 2 = 0 := by decide +kernel
theorem at3 : ∀ t : Fin cfg0.N, win0_3.index t 0 = win0_2.index t 0 ∧ win0_3.index t 1 = win0_2.index t 1 := by
  decide +kernel

/-- The layer's result, -/
abbrev whole : (Mat 2048 8192).Idx → EReal := prod (a0 m c) (columns (J := 8) (R := 2048) (L := 1024) (a1 m c))

/-- and a block's. -/
abbrev part (t : Fin cfg0.N) : (Mat 1024 1024).Idx → EReal :=
  prod (iblk m c 0 t : (Mat 1024 2048).Idx → EReal)
    fun i : (Mat 2048 1024).Idx => (iblk m c 1 t : (Parts 1 2048 1024).Idx → EReal) (ValueIdx.ix3 0 (i 0) (i 1))

theorem pay (t : Fin cfg0.N) : k0_pay1 (iblk m c 0 t) (iblk m c 1 t) = part m c t :=
  (block (M := 1024) (K := 2048) (N := 1024) none (φ₁ := .bf16) (φ₂ := .bf16) _ _).trans
    (congrArg (prod _) (one_part (R := 2048) (C := 1024) _ _))

theorem part_at (t : Fin cfg0.N) (y : (Mat 1024 1024).Idx) (i : (Mat 2048 8192).Idx)
    (h0 : (i 0).val = win0_2.index t 0 * 1024 + 1 * (y 0).val) (h1 : (i 1).val = win0_2.index t 1 * 1024 + 1 * (y 1).val) :
    part m c t y = whole m c i :=
  prod_block (m := 1024) (n := 1024) (K := 2048) (M := 2048) (N := 8192)
    (fun k => congrArg (a0 m c) (eq_pt ((same_block (at0 t).1 1024 (y 0).val).trans h0.symm) (whole_axis (at0 t).2 2048 k.val)))
    (fun k => congrArg (a1 m c) (eq_part (J := 8) (R := 2048) (L := 1024)
      (by
        show win0_1.index t 0 * 1 + 1 * 0 = (i 1).val / 1024
        have := (y 1).isLt
        have : (y 1).val < 1024 := this
        rw [(at1 t).1, h1]; omega)
      (whole_axis (at1 t).2.1 2048 k.val)
      (by
        show win0_1.index t 2 * 1024 + 1 * (y 1).val = (i 1).val % 1024
        have : (y 1).val < 1024 := (y 1).isLt
        rw [(at1 t).2.2, h1]; omega)))

theorem final : (dats m 0 c).arrAt 2 cfg0.N = whole m c :=
  (dats m 0 c).arrAt_eq_of_covers 2 (whole m c) (by decide +kernel : win0_2.Covers) fun t _ y => by
    have h : (dats m 0 c).after 2 t = part m c t := by
      rw [after0_2]
      unfold outsAt0
      frame_out
      exact pay m c t
    exact (congrFun h y).trans (part_at m c t y _ rfl rfl)

theorem final_square : (dats m 0 c).arrAt 3 cfg0.N = fun i : (Mat 2048 8192).Idx => square (whole m c i) :=
  (dats m 0 c).arrAt_eq_of_covers 3 (fun i : (Mat 2048 8192).Idx => square (whole m c i)) (by decide +kernel : win0_3.Covers)
    fun t _ y => by
    have h : (dats m 0 c).after 3 t = fun i : (Mat 1024 1024).Idx => square (part m c t i) := by
      rw [after0_3]
      unfold outsAt0
      frame_out
      exact congrArg (fun (v : (Mat 1024 1024).Idx → EReal) i => square (v i)) (pay m c t)
    exact (congrFun h y).trans (congrArg square (part_at m c t y _
      (same_block (at3 t).1 1024 (y 0).val) (same_block (at3 t).2 1024 (y 1).val)))

theorem host_whole (a : FVec Ideal (Mat 2048 2048) .bf16) (w : FVec Ideal (Parts 8 2048 1024) .bf16) (ht) (hc) :
    Host.dotGeneral (DotDims.plain 2048 2048 8192) none a
      (shapeCast (Mat 2048 (8 * 1024)) (transpose ⟨3, ![2048, 8, 1024]⟩ [1, 0, 2] w ht) hc)
      = prod (N := 8192) a (columns (J := 8) (R := 2048) (L := 1024) w) :=
  (host (M := 2048) (K := 2048) (N := 8192) none (φ₁ := .bf16) (φ₂ := .bf16) _ _).trans
    (congrArg (prod (N := 8192) a) (host_columns (J := 8) (R := 2048) (L := 1024) (φ := .bf16) w ht hc))

end Cert.Ffn1Ideal.Step

namespace Cert.Proof

open Cert.Ffn1Ideal.Step Cert.Product

theorem ffn1_frame : Cert.quiescent_Ffn1 := fun m g _ => Cert.Ffn1.Gen.frame m g

theorem ffn1_frame_ideal : Cert.quiescent_Ffn1Ideal := fun m g _ => Cert.Ffn1Ideal.Gen.frame m g

theorem ffn1_reference_frame_ideal : Cert.quiescent_Ffn1ReferenceIdeal := fun m g _ =>
  (θ_run Cert.Ffn1ReferenceIdeal.defs _ _).mono
    (fun r h => ⟨fun c => (h c).2.2, sem_eq_zero_of_no_sems (by decide) r.2⟩)
    (Cert.Ffn1ReferenceIdeal.Value.run (F := Ideal) m g)

theorem ffn1_preserves : Cert.preserves_Ffn1_Ffn1Ideal := trivial

/-- The kernel and the host end with the same array: the first feed-forward layer, and the square of its positive part. -/
theorem ffn1_algebraic : Cert.algebraic_Ffn1Ideal_Ffn1ReferenceIdeal := fun m g m' g' _ hp => by
  refine ⟨fun c => whole m c, fun c => fun i => square (whole m c i), ?_, ?_⟩
  · refine (θ_run Cert.Ffn1Ideal.defs _ _).mono (fun _ h c => ?_) (Cert.Ffn1Ideal.Value.run_blocks (F := Ideal) m g)
    exact ⟨(h c).1.trans (final m c), (h c).2.1.trans (final_square m c), (h c).2.2⟩
  · refine (θ_run Cert.Ffn1ReferenceIdeal.defs _ _).mono (fun _ h c => ?_)
      (Cert.Ffn1ReferenceIdeal.Value.run (F := Ideal) m' g')
    obtain ⟨ea, eb, h⟩ := h c
    obtain ⟨e0, e1⟩ := hp c
    rw [e0, e1] at ea eb
    exact ⟨ea.trans (host_whole _ _ _ _), eb.trans ((congrArg₂ (fun (v z : (Cert.Adam.Mat 2048 8192).Idx → EReal) i => max (v i) (z i) * max (v i) (z i))
      (host_whole _ _ _ _) (Cert.Rows.host_word _ _ _))), h⟩

end Cert.Proof

end
-- ==== Proof.Back.lean ====
/-
  Backward calls whose bodies get a block of the result in one product with a transpose: the cotangent of the output
  projection's input, and that of the hidden layer, which is multiplied by the derivative of the squared positive part.
-/
module

public import proofs.«01_k».proof.Defs
public import proofs.«01_k».proof.Proof.Gen.DOut.Frame
public import proofs.«01_k».proof.Proof.Gen.DOutIdeal.Value
public import proofs.«01_k».proof.Proof.Gen.DOutReferenceIdeal.Run
public import proofs.«01_k».proof.Proof.Gen.DFfn2.Frame
public import proofs.«01_k».proof.Proof.Gen.DFfn2Ideal.Value
public import proofs.«01_k».proof.Proof.Gen.DFfn2ReferenceIdeal.Run
public import proofs.«01_k».proof.Proof.Product

@[expose] public section

noncomputable section

open Idealize.ShloMosaic Idealize.ShloMosaic.TcCoe Idealize.SL.Sem
open Idealize.ShloMosaic.Pipeline (Dat)

namespace Cert.DOutIdeal.Step

open Cert.DOutIdeal Cert.DOutIdeal.Gen
open Cert.Adam (Mat Parts)
open Cert.Rows Cert.Product

variable (m : (ℓ : Loc nD τ sig) → Buf (Elt Ideal) ℓ) (c : Dev nD)

/-- The device's arrays. -/
abbrev a0 : (Mat 2048 2048).Idx → EReal := m ((c : Thread nD τ).loc main_arg0)
abbrev a1 : (Mat 2048 2048).Idx → EReal := m ((c : Thread nD τ).loc main_arg1)

/-- The blocks of the left array are the result's rows, those of the right one its columns. -/
theorem at0 : ∀ t : Fin cfg0.N, win0_0.index t 0 = win0_2.index t 0 ∧ win0_0.index t 1 = 0 := by decide +kernel
theorem at1 : ∀ t : Fin cfg0.N, win0_1.index t 0 = win0_2.index t 1 ∧ win0_1.index t 1 = 0 := by decide +kernel

theorem final : (dats m 0 c).arrAt 2 cfg0.N = prod (a0 m c) (tr (a1 m c)) :=
  (dats m 0 c).arrAt_eq_of_covers 2 (prod (a0 m c) (tr (a1 m c))) (by decide +kernel : win0_2.Covers) fun t _ y => by
    have h : (dats m 0 c).after 2 t = prod (iblk m c 0 t : (Mat 1024 2048).Idx → EReal) (tr (iblk m c 1 t : (Mat 1024 2048).Idx → EReal)) := by
      rw [after0_2]
      unfold outsAt0
      frame_out
      exact block_right (M := 1024) (K := 2048) (N := 1024) none (φ₁ := .bf16) (φ₂ := .bf16) _ _
    exact (congrFun h y).trans (prod_block (m := 1024) (n := 1024) (K := 2048) (M := 2048) (N := 2048)
      (fun k => congrArg (a0 m c) (eq_pt (same_block (at0 t).1 1024 (y 0).val) (whole_axis (at0 t).2 2048 k.val)))
      (fun k => congrArg (a1 m c) (eq_pt (same_block (at1 t).1 1024 (y 1).val) (whole_axis (at1 t).2 2048 k.val))))

end Cert.DOutIdeal.Step

namespace Cert.Proof

open Cert.DOutIdeal.Step Cert.Product

theorem d_out_frame : Cert.quiescent_DOut := fun m g _ => Cert.DOut.Gen.frame m g

theorem d_out_frame_ideal : Cert.quiescent_DOutIdeal := fun m g _ => Cert.DOutIdeal.Gen.frame m g

theorem d_out_reference_frame_ideal : Cert.quiescent_DOutReferenceIdeal := fun m g _ =>
  (θ_run Cert.DOutReferenceIdeal.defs _ _).mono
    (fun r h => ⟨fun c => (h c).2, sem_eq_zero_of_no_sems (by decide) r.2⟩)
    (Cert.DOutReferenceIdeal.Value.run (F := Ideal) m g)

theorem d_out_preserves : Cert.preserves_DOut_DOutIdeal := trivial

/-- The kernel and the host end with the same array: the cotangent of the output projection's input. -/
theorem d_out_algebraic : Cert.algebraic_DOutIdeal_DOutReferenceIdeal := fun m g m' g' _ hp => by
  refine ⟨fun c => prod (a0 m c) (tr (a1 m c)), ?_, ?_⟩
  · refine (θ_run Cert.DOutIdeal.defs _ _).mono (fun _ h c => ?_) (Cert.DOutIdeal.Value.run_blocks (F := Ideal) m g)
    exact ⟨(h c).1.trans (final m c), (h c).2⟩
  · refine (θ_run Cert.DOutReferenceIdeal.defs _ _).mono (fun _ h c => ?_)
      (Cert.DOutReferenceIdeal.Value.run (F := Ideal) m' g')
    obtain ⟨e, h⟩ := h c
    obtain ⟨e0, e1⟩ := hp c
    rw [e0, e1] at e
    exact ⟨e.trans ((host (M := 2048) (K := 2048) (N := 2048) none (φ₁ := .bf16) (φ₂ := .bf16) _ _).trans (congrArg (prod _) (host_tr _ _))), h⟩

end Cert.Proof

namespace Cert.DFfn2Ideal.Step

open Cert.DFfn2Ideal Cert.DFfn2Ideal.Gen
open Cert.Adam (Mat Parts)
open Cert.Rows Cert.Product

variable (m : (ℓ : Loc nD τ sig) → Buf (Elt Ideal) ℓ) (c : Dev nD)

/-- The device's arrays. -/
abbrev a0 : (Mat 2048 2048).Idx → EReal := m ((c : Thread nD τ).loc main_arg0)
abbrev a1 : (Mat 8192 2048).Idx → EReal := m ((c : Thread nD τ).loc main_arg1)
abbrev a2 : (Mat 2048 8192).Idx → EReal := m ((c : Thread nD τ).loc main_arg2)

/-- The blocks of the left array are the result's rows, those of the right one its columns. -/
theorem at0 : ∀ t : Fin cfg0.N, win0_0.index t 0 = win0_3.index t 0 ∧ win0_0.index t 1 = 0 := by decide +kernel
theorem at1 : ∀ t : Fin cfg0.N, win0_1.index t 0 = win0_3.index t 1 ∧ win0_1.index t 1 = 0 := by decide +kernel
theorem at2 : ∀ t : Fin cfg0.N, win0_2.index t 0 = win0_3.index t 0 ∧ win0_2.index t 1 = win0_3.index t 1 := by
  decide +kernel

/-- The cotangent of the hidden layer. -/
abbrev whole : (Mat 2048 8192).Idx → EReal := fun i => prod (a0 m c) (tr (a1 m c)) i * slope (a2 m c i)

theorem final : (dats m 0 c).arrAt 3 cfg0.N = whole m c :=
  (dats m 0 c).arrAt_eq_of_covers 3 (whole m c) (by decide +kernel : win0_3.Covers) fun t _ y => by
    have h : (dats m 0 c).after 3 t = fun i : (Mat 1024 1024).Idx =>
        prod (iblk m c 0 t : (Mat 1024 2048).Idx → EReal) (tr (iblk m c 1 t : (Mat 1024 2048).Idx → EReal)) i
          * slope ((iblk m c 2 t : (Mat 1024 1024).Idx → EReal) i) := by
      rw [after0_3]
      unfold outsAt0
      frame_out
      exact congrArg (fun (v : (Mat 1024 1024).Idx → EReal) i => v i * slope ((iblk m c 2 t : (Mat 1024 1024).Idx → EReal) i))
        (block_right (M := 1024) (K := 2048) (N := 1024) none (φ₁ := .bf16) (φ₂ := .bf16) _ _)
    exact (congrFun h y).trans (congrArg₂ (· * ·) (prod_block (m := 1024) (n := 1024) (K := 2048) (M := 2048) (N := 8192)
      (fun k => congrArg (a0 m c) (eq_pt (same_block (at0 t).1 1024 (y 0).val) (whole_axis (at0 t).2 2048 k.val)))
      (fun k => congrArg (a1 m c) (eq_pt (same_block (at1 t).1 1024 (y 1).val) (whole_axis (at1 t).2 2048 k.val))))
      (congrArg (fun i => slope (a2 m c i)) ((eq_pt (same_block (at2 t).1 1024 (y 0).val) (same_block (at2 t).2 1024 (y 1).val)).trans
        (eq_pt rfl rfl).symm)))

end Cert.DFfn2Ideal.Step

namespace Cert.Proof

open Cert.DFfn2Ideal.Step Cert.Product

theorem d_ffn2_frame : Cert.quiescent_DFfn2 := fun m g _ => Cert.DFfn2.Gen.frame m g

theorem d_ffn2_frame_ideal : Cert.quiescent_DFfn2Ideal := fun m g _ => Cert.DFfn2Ideal.Gen.frame m g

theorem d_ffn2_reference_frame_ideal : Cert.quiescent_DFfn2ReferenceIdeal := fun m g _ =>
  (θ_run Cert.DFfn2ReferenceIdeal.defs _ _).mono
    (fun r h => ⟨fun c => (h c).2, sem_eq_zero_of_no_sems (by decide) r.2⟩)
    (Cert.DFfn2ReferenceIdeal.Value.run (F := Ideal) m g)

theorem d_ffn2_preserves : Cert.preserves_DFfn2_DFfn2Ideal := trivial

/-- The kernel and the host end with the same array: the cotangent of the hidden layer. -/
theorem d_ffn2_algebraic : Cert.algebraic_DFfn2Ideal_DFfn2ReferenceIdeal := fun m g m' g' _ hp => by
  refine ⟨fun c => whole m c, ?_, ?_⟩
  · refine (θ_run Cert.DFfn2Ideal.defs _ _).mono (fun _ h c => ?_) (Cert.DFfn2Ideal.Value.run_blocks (F := Ideal) m g)
    exact ⟨(h c).1.trans (final m c), (h c).2⟩
  · refine (θ_run Cert.DFfn2ReferenceIdeal.defs _ _).mono (fun _ h c => ?_)
      (Cert.DFfn2ReferenceIdeal.Value.run (F := Ideal) m' g')
    obtain ⟨e, h⟩ := h c
    obtain ⟨e0, e1, e2⟩ := hp c
    rw [e0, e1, e2] at e
    exact ⟨e.trans ((congrArg₂ (fun (p z : (Cert.Adam.Mat 2048 8192).Idx → EReal) i =>
        Scalar.select (Ideal.cmp .ogt (a2 m c i) (z i)) (p i * (Ideal.ofBits .f32 0x40000000#32 * max (a2 m c i) (z i))) (z i))
        ((host (M := 2048) (K := 2048) (N := 8192) none (φ₁ := .bf16) (φ₂ := .bf16) _ _).trans (congrArg (prod _) (host_tr _ _)))
        (Cert.Rows.host_word _ _ _)).trans (funext fun i => select_slope _ _)), h⟩

end Cert.Proof

end
-- ==== Proof.Accumulate.lean ====
/-
  Calls whose contracted axis comes in blocks: the second feed-forward layer, and the cotangents of the inputs of the first one
  and of the input projection. A body adds the products of blocks up beside its output and writes the sum with the last one.
-/
module

public import proofs.«01_k».proof.Defs
public import proofs.«01_k».proof.Proof.Gen.Ffn2.Frame
public import proofs.«01_k».proof.Proof.Gen.Ffn2Ideal.Value
public import proofs.«01_k».proof.Proof.Gen.Ffn2ReferenceIdeal.Run
public import proofs.«01_k».proof.Proof.Gen.DIn.Frame
public import proofs.«01_k».proof.Proof.Gen.DInIdeal.Value
public import proofs.«01_k».proof.Proof.Gen.DInReferenceIdeal.Run
public import proofs.«01_k».proof.Proof.Gen.DFfn1.Frame
public import proofs.«01_k».proof.Proof.Gen.DFfn1Ideal.Value
public import proofs.«01_k».proof.Proof.Gen.DFfn1ReferenceIdeal.Run
public import proofs.«01_k».proof.Proof.Product

@[expose] public section

noncomputable section

open Idealize.ShloMosaic Idealize.ShloMosaic.TcCoe Idealize.SL.Sem
open Idealize.ShloMosaic.Pipeline (Dat)

namespace Cert.Ffn2Ideal.Step

open Cert.Ffn2Ideal Cert.Ffn2Ideal.Gen
open Cert.Adam (Mat Parts)
open Cert.Rows Cert.Product

variable (m : (ℓ : Loc nD τ sig) → Buf (Elt Ideal) ℓ) (c : Dev nD)

/-- The device's arrays. -/
abbrev a0 : (Mat 2048 8192).Idx → EReal := m ((c : Thread nD τ).loc main_arg0)
abbrev a1 : (Mat 8192 2048).Idx → EReal := m ((c : Thread nD τ).loc main_arg1)

/-- The grid's points by their numbers; a block of the result takes 4 of them in a row. -/
abbrev point (n : ℕ) : Fin cfg0.N := ⟨n % 16, Nat.mod_lt _ (by decide)⟩

theorem point_val (t : Fin cfg0.N) : point t.val = t := Fin.ext (Nat.mod_eq_of_lt t.isLt)

/-- Their blocks of the left array are a row of blocks, and those of the right one go along with them. -/
theorem at0 : ∀ t : Fin cfg0.N, ∀ j : Fin 4, win0_0.index (point (4 * (t.val / 4) + j.val)) 0 = win0_2.index t 0
    ∧ win0_0.index (point (4 * (t.val / 4) + j.val)) 1 = j.val := by decide +kernel
theorem at1 : ∀ t : Fin cfg0.N, ∀ j : Fin 4, win0_1.index (point (4 * (t.val / 4) + j.val)) 0 = j.val
    ∧ win0_1.index (point (4 * (t.val / 4) + j.val)) 1 = win0_2.index t 1 := by decide +kernel

/-- The right block of a point, -/
abbrev right (t : Fin cfg0.N) : (Mat 2048 1024).Idx → EReal := iblk m c 1 t

/-- and the point's product. -/
abbrev term (t : Fin cfg0.N) : (Mat 1024 1024).Idx → EReal := prod (iblk m c 0 t : (Mat 1024 2048).Idx → EReal) (right m c t)

theorem pay (t : Fin cfg0.N) : k0_pay1 (iblk m c 0 t) (iblk m c 1 t) = term m c t :=
  block (M := 1024) (K := 2048) (N := 1024) none (φ₁ := .bf16) (φ₂ := .bf16) _ _

theorem sum_apply (t : Fin cfg0.N) (h : t.val % 4 = 4 - 1) (y : (Mat 1024 1024).Idx) :
    (outsAt0 m c t.val t.isLt).1 y = ∑ j ∈ Finset.range 4, term m c (point (4 * (t.val / 4) + j)) y :=
  accumulate (J := 4) (fun n h => outsAt0 m c n h) (term m c) (by decide) point point_val
    (fun t h0 => by
      rw [outsAt0_A m c t h0 (by omega) (by omega)]
      frame_out
      exact (shapeCast_self _ _).trans (pay m c t))
    (fun t h0 h2 => by
      rw [outsAt0_B m c t h0 (by omega) h2]
      frame_out
      exact (shapeCast_self _ _).trans (congrArg₂ (fun (v w : (Mat 1024 1024).Idx → EReal) i => v i + w i)
        ((Memref.isWhole_whole _).read_unread _) (pay m c t)))
    (fun t h0 h2 => by
      rw [outsAt0_C m c t h0 (by omega) h2]
      frame_out
      exact congrArg₂ (fun (v w : (Mat 1024 1024).Idx → EReal) i => v i + w i)
        ((Memref.isWhole_whole _).read_unread _) (pay m c t)) t h y

/-- The call's result. -/
abbrev whole : (Mat 2048 2048).Idx → EReal := prod (a0 m c) (a1 m c)

theorem final : (dats m 0 c).arrAt 2 cfg0.N = whole m c :=
  (dats m 0 c).arrAt_eq_of_covers 2 (whole m c) (by decide +kernel : win0_2.Covers) fun t hf y => by
    rw [after0_2]
    refine (sum_apply m c t ((flush0_2 t).mp hf) y).trans ?_
    exact prod_blocks (J := 4) (L := 2048) (m := 1024) (n := 1024) (M := 2048) (N := 2048)
      (fun j => iblk m c 0 (point (4 * (t.val / 4) + j))) (fun j => right m c (point (4 * (t.val / 4) + j)))
      (fun j k => congrArg (a0 m c) (eq_pt (same_block (at0 t j).1 1024 (y 0).val) (by
        show win0_0.index (point (4 * (t.val / 4) + j.val)) 1 * 2048 + 1 * k.val = k.val + 2048 * j.val
        rw [(at0 t j).2]; omega)))
      (fun j k => congrArg (a1 m c) (eq_pt (by
        show win0_1.index (point (4 * (t.val / 4) + j.val)) 0 * 2048 + 1 * k.val = k.val + 2048 * j.val
        rw [(at1 t j).1]; omega) (same_block (at1 t j).2 1024 (y 1).val)))

end Cert.Ffn2Ideal.Step

namespace Cert.Proof

open Cert.Ffn2Ideal.Step Cert.Product

theorem ffn2_frame : Cert.quiescent_Ffn2 := fun m g _ => Cert.Ffn2.Gen.frame m g

theorem ffn2_frame_ideal : Cert.quiescent_Ffn2Ideal := fun m g _ => Cert.Ffn2Ideal.Gen.frame m g

theorem ffn2_reference_frame_ideal : Cert.quiescent_Ffn2ReferenceIdeal := fun m g _ =>
  (θ_run Cert.Ffn2ReferenceIdeal.defs _ _).mono
    (fun r h => ⟨fun c => (h c).2, sem_eq_zero_of_no_sems (by decide) r.2⟩)
    (Cert.Ffn2ReferenceIdeal.Value.run (F := Ideal) m g)

theorem ffn2_preserves : Cert.preserves_Ffn2_Ffn2Ideal := trivial

/-- The kernel and the host end with the same array: the second feed-forward layer. -/
theorem ffn2_algebraic : Cert.algebraic_Ffn2Ideal_Ffn2ReferenceIdeal := fun m g m' g' _ hp => by
  refine ⟨fun c => whole m c, ?_, ?_⟩
  · refine (θ_run Cert.Ffn2Ideal.defs _ _).mono (fun _ h c => ?_) (Cert.Ffn2Ideal.Value.run_blocks (F := Ideal) m g)
    exact ⟨(h c).1.trans (final m c), (h c).2⟩
  · refine (θ_run Cert.Ffn2ReferenceIdeal.defs _ _).mono (fun _ h c => ?_)
      (Cert.Ffn2ReferenceIdeal.Value.run (F := Ideal) m' g')
    obtain ⟨e, h⟩ := h c
    obtain ⟨e0, e1⟩ := hp c
    rw [e0, e1] at e
    exact ⟨e.trans (host (M := 2048) (K := 8192) (N := 2048) none (φ₁ := .bf16) (φ₂ := .bf16) _ _), h⟩

end Cert.Proof

namespace Cert.DInIdeal.Step

open Cert.DInIdeal Cert.DInIdeal.Gen
open Cert.Adam (Mat Parts)
open Cert.Rows Cert.Product

variable (m : (ℓ : Loc nD τ sig) → Buf (Elt Ideal) ℓ) (c : Dev nD)

/-- The device's arrays. -/
abbrev a0 : (Mat 2048 4608).Idx → EReal := m ((c : Thread nD τ).loc main_arg0)
abbrev a1 : (Mat 2048 4608).Idx → EReal := m ((c : Thread nD τ).loc main_arg1)

/-- The grid's points by their numbers; a block of the result takes 3 of them in a row. -/
abbrev point (n : ℕ) : Fin cfg0.N := ⟨n % 12, Nat.mod_lt _ (by decide)⟩

theorem point_val (t : Fin cfg0.N) : point t.val = t := Fin.ext (Nat.mod_eq_of_lt t.isLt)

/-- Their blocks of the left array are a row of blocks, and those of the right one go along with them. -/
theorem at0 : ∀ t : Fin cfg0.N, ∀ j : Fin 3, win0_0.index (point (3 * (t.val / 3) + j.val)) 0 = win0_2.index t 0
    ∧ win0_0.index (point (3 * (t.val / 3) + j.val)) 1 = j.val := by decide +kernel
theorem at1 : ∀ t : Fin cfg0.N, ∀ j : Fin 3, win0_1.index (point (3 * (t.val / 3) + j.val)) 0 = win0_2.index t 1
    ∧ win0_1.index (point (3 * (t.val / 3) + j.val)) 1 = j.val := by decide +kernel

/-- The right block of a point, -/
abbrev right (t : Fin cfg0.N) : (Mat 1536 1024).Idx → EReal := tr (iblk m c 1 t : (Mat 1024 1536).Idx → EReal)

/-- and the point's product. -/
abbrev term (t : Fin cfg0.N) : (Mat 1024 1024).Idx → EReal := prod (iblk m c 0 t : (Mat 1024 1536).Idx → EReal) (right m c t)

theorem pay (t : Fin cfg0.N) : k0_pay1 (iblk m c 0 t) (iblk m c 1 t) = term m c t :=
  block_right (M := 1024) (K := 1536) (N := 1024) none (φ₁ := .bf16) (φ₂ := .bf16) _ _

theorem sum_apply (t : Fin cfg0.N) (h : t.val % 3 = 3 - 1) (y : (Mat 1024 1024).Idx) :
    (outsAt0 m c t.val t.isLt).1 y = ∑ j ∈ Finset.range 3, term m c (point (3 * (t.val / 3) + j)) y :=
  accumulate (J := 3) (fun n h => outsAt0 m c n h) (term m c) (by decide) point point_val
    (fun t h0 => by
      rw [outsAt0_A m c t h0 (by omega) (by omega)]
      frame_out
      exact (shapeCast_self _ _).trans (pay m c t))
    (fun t h0 h2 => by
      rw [outsAt0_B m c t h0 (by omega) h2]
      frame_out
      exact (shapeCast_self _ _).trans (congrArg₂ (fun (v w : (Mat 1024 1024).Idx → EReal) i => v i + w i)
        ((Memref.isWhole_whole _).read_unread _) (pay m c t)))
    (fun t h0 h2 => by
      rw [outsAt0_C m c t h0 (by omega) h2]
      frame_out
      exact congrArg₂ (fun (v w : (Mat 1024 1024).Idx → EReal) i => v i + w i)
        ((Memref.isWhole_whole _).read_unread _) (pay m c t)) t h y

/-- The call's result. -/
abbrev whole : (Mat 2048 2048).Idx → EReal := prod (a0 m c) (tr (a1 m c))

theorem final : (dats m 0 c).arrAt 2 cfg0.N = whole m c :=
  (dats m 0 c).arrAt_eq_of_covers 2 (whole m c) (by decide +kernel : win0_2.Covers) fun t hf y => by
    rw [after0_2]
    refine (sum_apply m c t ((flush0_2 t).mp hf) y).trans ?_
    exact prod_blocks (J := 3) (L := 1536) (m := 1024) (n := 1024) (M := 2048) (N := 2048)
      (fun j => iblk m c 0 (point (3 * (t.val / 3) + j))) (fun j => right m c (point (3 * (t.val / 3) + j)))
      (fun j k => congrArg (a0 m c) (eq_pt (same_block (at0 t j).1 1024 (y 0).val) (by
        show win0_0.index (point (3 * (t.val / 3) + j.val)) 1 * 1536 + 1 * k.val = k.val + 1536 * j.val
        rw [(at0 t j).2]; omega)))
      (fun j k => congrArg (a1 m c) (eq_pt (same_block (at1 t j).1 1024 (y 1).val) (by
        show win0_1.index (point (3 * (t.val / 3) + j.val)) 1 * 1536 + 1 * k.val = k.val + 1536 * j.val
        rw [(at1 t j).2]; omega)))

end Cert.DInIdeal.Step

namespace Cert.Proof

open Cert.DInIdeal.Step Cert.Product

theorem d_in_frame : Cert.quiescent_DIn := fun m g _ => Cert.DIn.Gen.frame m g

theorem d_in_frame_ideal : Cert.quiescent_DInIdeal := fun m g _ => Cert.DInIdeal.Gen.frame m g

theorem d_in_reference_frame_ideal : Cert.quiescent_DInReferenceIdeal := fun m g _ =>
  (θ_run Cert.DInReferenceIdeal.defs _ _).mono
    (fun r h => ⟨fun c => (h c).2, sem_eq_zero_of_no_sems (by decide) r.2⟩)
    (Cert.DInReferenceIdeal.Value.run (F := Ideal) m g)

theorem d_in_preserves : Cert.preserves_DIn_DInIdeal := trivial

/-- The kernel and the host end with the same array: the cotangent of the input projection's input. -/
theorem d_in_algebraic : Cert.algebraic_DInIdeal_DInReferenceIdeal := fun m g m' g' _ hp => by
  refine ⟨fun c => whole m c, ?_, ?_⟩
  · refine (θ_run Cert.DInIdeal.defs _ _).mono (fun _ h c => ?_) (Cert.DInIdeal.Value.run_blocks (F := Ideal) m g)
    exact ⟨(h c).1.trans (final m c), (h c).2⟩
  · refine (θ_run Cert.DInReferenceIdeal.defs _ _).mono (fun _ h c => ?_)
      (Cert.DInReferenceIdeal.Value.run (F := Ideal) m' g')
    obtain ⟨e, h⟩ := h c
    obtain ⟨e0, e1⟩ := hp c
    rw [e0, e1] at e
    exact ⟨e.trans ((host (M := 2048) (K := 4608) (N := 2048) none (φ₁ := .bf16) (φ₂ := .bf16) _ _).trans (congrArg (prod _) (host_tr _ _))), h⟩

end Cert.Proof

namespace Cert.DFfn1Ideal.Step

open Cert.DFfn1Ideal Cert.DFfn1Ideal.Gen
open Cert.Adam (Mat Parts)
open Cert.Rows Cert.Product

variable (m : (ℓ : Loc nD τ sig) → Buf (Elt Ideal) ℓ) (c : Dev nD)

/-- The device's arrays. -/
abbrev a0 : (Mat 2048 8192).Idx → EReal := m ((c : Thread nD τ).loc main_arg0)
abbrev a1 : (Parts 8 2048 1024).Idx → EReal := m ((c : Thread nD τ).loc main_arg1)

/-- The grid's points by their numbers; a block of the result takes 8 of them in a row. -/
abbrev point (n : ℕ) : Fin cfg0.N := ⟨n % 32, Nat.mod_lt _ (by decide)⟩

theorem point_val (t : Fin cfg0.N) : point t.val = t := Fin.ext (Nat.mod_eq_of_lt t.isLt)

/-- Their blocks of the left array are a row of blocks, and those of the right one go along with them. -/
theorem at0 : ∀ t : Fin cfg0.N, ∀ j : Fin 8, win0_0.index (point (8 * (t.val / 8) + j.val)) 0 = win0_2.index t 0
    ∧ win0_0.index (point (8 * (t.val / 8) + j.val)) 1 = j.val := by decide +kernel
theorem at1 : ∀ t : Fin cfg0.N, ∀ j : Fin 8, win0_1.index (point (8 * (t.val / 8) + j.val)) 0 = j.val
    ∧ win0_1.index (point (8 * (t.val / 8) + j.val)) 1 = win0_2.index t 1
    ∧ win0_1.index (point (8 * (t.val / 8) + j.val)) 2 = 0 := by decide +kernel

/-- The right block of a point, -/
abbrev right (t : Fin cfg0.N) : (Mat 1024 1024).Idx → EReal := tr (fun i : (Mat 1024 1024).Idx =>
  (iblk m c 1 t : (Parts 1 1024 1024).Idx → EReal) (ValueIdx.ix3 0 (i 0) (i 1)))

/-- and the point's product. -/
abbrev term (t : Fin cfg0.N) : (Mat 1024 1024).Idx → EReal := prod (iblk m c 0 t : (Mat 1024 1024).Idx → EReal) (right m c t)

theorem pay (t : Fin cfg0.N) : k0_pay1 (iblk m c 0 t) (iblk m c 1 t) = term m c t :=
  (block_right (M := 1024) (K := 1024) (N := 1024) none (φ₁ := .bf16) (φ₂ := .bf16) _ _).trans
    (congrArg (fun v : (Mat 1024 1024).Idx → EReal => prod _ (tr v)) (one_part (R := 1024) (C := 1024) _ _))

theorem sum_apply (t : Fin cfg0.N) (h : t.val % 8 = 8 - 1) (y : (Mat 1024 1024).Idx) :
    (outsAt0 m c t.val t.isLt).1 y = ∑ j ∈ Finset.range 8, term m c (point (8 * (t.val / 8) + j)) y :=
  accumulate (J := 8) (fun n h => outsAt0 m c n h) (term m c) (by decide) point point_val
    (fun t h0 => by
      rw [outsAt0_A m c t h0 (by omega) (by omega)]
      frame_out
      exact (shapeCast_self _ _).trans (pay m c t))
    (fun t h0 h2 => by
      rw [outsAt0_B m c t h0 (by omega) h2]
      frame_out
      exact (shapeCast_self _ _).trans (congrArg₂ (fun (v w : (Mat 1024 1024).Idx → EReal) i => v i + w i)
        ((Memref.isWhole_whole _).read_unread _) (pay m c t)))
    (fun t h0 h2 => by
      rw [outsAt0_C m c t h0 (by omega) h2]
      frame_out
      exact congrArg₂ (fun (v w : (Mat 1024 1024).Idx → EReal) i => v i + w i)
        ((Memref.isWhole_whole _).read_unread _) (pay m c t)) t h y

/-- The call's result. -/
abbrev whole : (Mat 2048 2048).Idx → EReal := prod (a0 m c) (tr (columns (J := 8) (R := 2048) (L := 1024) (a1 m c)))

theorem final : (dats m 0 c).arrAt 2 cfg0.N = whole m c :=
  (dats m 0 c).arrAt_eq_of_covers 2 (whole m c) (by decide +kernel : win0_2.Covers) fun t hf y => by
    rw [after0_2]
    refine (sum_apply m c t ((flush0_2 t).mp hf) y).trans ?_
    exact prod_blocks (J := 8) (L := 1024) (m := 1024) (n := 1024) (M := 2048) (N := 2048)
      (fun j => iblk m c 0 (point (8 * (t.val / 8) + j))) (fun j => right m c (point (8 * (t.val / 8) + j)))
      (fun j k => congrArg (a0 m c) (eq_pt (same_block (at0 t j).1 1024 (y 0).val) (by
        show win0_0.index (point (8 * (t.val / 8) + j.val)) 1 * 1024 + 1 * k.val = k.val + 1024 * j.val
        rw [(at0 t j).2]; omega)))
      (fun j k => congrArg (a1 m c) (eq_part (J := 8) (R := 2048) (L := 1024)
        (by
          show win0_1.index (point (8 * (t.val / 8) + j.val)) 0 * 1 + 1 * 0 = (k.val + 1024 * j.val) / 1024
          have := k.isLt
          rw [(at1 t j).1]; omega)
        (same_block (at1 t j).2.1 1024 (y 1).val)
        (by
          show win0_1.index (point (8 * (t.val / 8) + j.val)) 2 * 1024 + 1 * k.val = (k.val + 1024 * j.val) % 1024
          have := k.isLt
          rw [(at1 t j).2.2]; omega)))

end Cert.DFfn1Ideal.Step

namespace Cert.Proof

open Cert.DFfn1Ideal.Step Cert.Product

theorem d_ffn1_frame : Cert.quiescent_DFfn1 := fun m g _ => Cert.DFfn1.Gen.frame m g

theorem d_ffn1_frame_ideal : Cert.quiescent_DFfn1Ideal := fun m g _ => Cert.DFfn1Ideal.Gen.frame m g

theorem d_ffn1_reference_frame_ideal : Cert.quiescent_DFfn1ReferenceIdeal := fun m g _ =>
  (θ_run Cert.DFfn1ReferenceIdeal.defs _ _).mono
    (fun r h => ⟨fun c => (h c).2, sem_eq_zero_of_no_sems (by decide) r.2⟩)
    (Cert.DFfn1ReferenceIdeal.Value.run (F := Ideal) m g)

theorem d_ffn1_preserves : Cert.preserves_DFfn1_DFfn1Ideal := trivial

/-- The kernel and the host end with the same array: the cotangent of the first feed-forward layer's input. -/
theorem d_ffn1_algebraic : Cert.algebraic_DFfn1Ideal_DFfn1ReferenceIdeal := fun m g m' g' _ hp => by
  refine ⟨fun c => whole m c, ?_, ?_⟩
  · refine (θ_run Cert.DFfn1Ideal.defs _ _).mono (fun _ h c => ?_) (Cert.DFfn1Ideal.Value.run_blocks (F := Ideal) m g)
    exact ⟨(h c).1.trans (final m c), (h c).2⟩
  · refine (θ_run Cert.DFfn1ReferenceIdeal.defs _ _).mono (fun _ h c => ?_)
      (Cert.DFfn1ReferenceIdeal.Value.run (F := Ideal) m' g')
    obtain ⟨e, h⟩ := h c
    obtain ⟨e0, e1⟩ := hp c
    rw [e0, e1] at e
    exact ⟨e.trans ((host (M := 2048) (K := 8192) (N := 2048) none (φ₁ := .bf16) (φ₂ := .bf16) _ _).trans
      (congrArg (prod _) ((host_tr (M := 2048) (K := 8192) (φ := .bf16) _ _).trans
        (congrArg tr (host_columns (J := 8) (R := 2048) (L := 1024) (φ := .bf16) _ _ _))))), h⟩

end Cert.Proof

end
-- ==== Proof.WeightGrads.lean ====
/-
  The calls that multiply by a transpose on the left: the gradients of the weights of five linear layers, from the layers'
  inputs and the cotangents of their outputs. A body's block is a block of columns of the one against a block of columns of
  the other; every sum runs over the whole contracted axis.
-/
module

public import proofs.«01_k».proof.Defs
public import proofs.«01_k».proof.Proof.Gen.GwOut.Frame
public import proofs.«01_k».proof.Proof.Gen.GwOutIdeal.Value
public import proofs.«01_k».proof.Proof.Gen.GwOutReferenceIdeal.Run
public import proofs.«01_k».proof.Proof.Gen.GwFfn2.Frame
public import proofs.«01_k».proof.Proof.Gen.GwFfn2Ideal.Value
public import proofs.«01_k».proof.Proof.Gen.GwFfn2ReferenceIdeal.Run
public import proofs.«01_k».proof.Proof.Gen.GwIn.Frame
public import proofs.«01_k».proof.Proof.Gen.GwInIdeal.Value
public import proofs.«01_k».proof.Proof.Gen.GwInReferenceIdeal.Run
public import proofs.«01_k».proof.Proof.Gen.GwAda.Frame
public import proofs.«01_k».proof.Proof.Gen.GwAdaIdeal.Value
public import proofs.«01_k».proof.Proof.Gen.GwAdaReferenceIdeal.Run
public import proofs.«01_k».proof.Proof.Gen.GwFfn1.Frame
public import proofs.«01_k».proof.Proof.Gen.GwFfn1Ideal.Value
public import proofs.«01_k».proof.Proof.Gen.GwFfn1ReferenceIdeal.Run
public import proofs.«01_k».proof.Proof.Product

@[expose] public section

noncomputable section

open Idealize.ShloMosaic Idealize.ShloMosaic.TcCoe Idealize.SL.Sem
open Idealize.ShloMosaic.Pipeline (Dat)

namespace Cert.GwOutIdeal.Step

open Cert.GwOutIdeal Cert.GwOutIdeal.Gen
open Cert.Adam (Mat)
open Cert.Rows Cert.Product

variable (m : (ℓ : Loc nD τ sig) → Buf (Elt Ideal) ℓ) (c : Dev nD)

/-- The device's two arrays. -/
abbrev a0 : (Mat 2048 2048).Idx → EReal := m ((c : Thread nD τ).loc main_arg0)
abbrev a1 : (Mat 2048 2048).Idx → EReal := m ((c : Thread nD τ).loc main_arg1)

/-- The blocks of both are the result's rows and columns. -/
theorem at0 : ∀ t : Fin cfg0.N, win0_0.index t 0 = 0 ∧ win0_0.index t 1 = win0_2.index t 0 := by decide +kernel
theorem at1 : ∀ t : Fin cfg0.N, win0_1.index t 0 = 0 ∧ win0_1.index t 1 = win0_2.index t 1 := by decide +kernel

theorem final : (dats m 0 c).arrAt 2 cfg0.N = prod (tr (a0 m c)) (a1 m c) :=
  (dats m 0 c).arrAt_eq_of_covers 2 (prod (tr (a0 m c)) (a1 m c)) (by decide +kernel : win0_2.Covers) fun t _ y => by
    have h : (dats m 0 c).after 2 t = prod (tr (iblk m c 0 t : (Mat 2048 1024).Idx → EReal)) (iblk m c 1 t) := by
      rw [after0_2]
      unfold outsAt0
      frame_out
      exact block_left (M := 1024) (K := 2048) (N := 1024) none (φ₁ := .bf16) (φ₂ := .bf16) _ _
    exact (congrFun h y).trans (prod_block (m := 1024) (n := 1024) (K := 2048) (M := 2048) (N := 2048)
      (fun k => congrArg (a0 m c) (eq_pt (whole_axis (at0 t).1 2048 k.val) (same_block (at0 t).2 1024 (y 0).val)))
      fun k => congrArg (a1 m c) (eq_pt (whole_axis (at1 t).1 2048 k.val) (same_block (at1 t).2 1024 (y 1).val)))

end Cert.GwOutIdeal.Step

namespace Cert.Proof

open Cert.GwOutIdeal.Step Cert.Product

theorem gw_out_frame : Cert.quiescent_GwOut := fun m g _ => Cert.GwOut.Gen.frame m g

theorem gw_out_frame_ideal : Cert.quiescent_GwOutIdeal := fun m g _ => Cert.GwOutIdeal.Gen.frame m g

theorem gw_out_reference_frame_ideal : Cert.quiescent_GwOutReferenceIdeal := fun m g _ =>
  (θ_run Cert.GwOutReferenceIdeal.defs _ _).mono
    (fun r h => ⟨fun c => (h c).2, sem_eq_zero_of_no_sems (by decide) r.2⟩)
    (Cert.GwOutReferenceIdeal.Value.run (F := Ideal) m g)

theorem gw_out_preserves : Cert.preserves_GwOut_GwOutIdeal := trivial

/-- The kernel and the host end with the same array: the gradient of the output projection. -/
theorem gw_out_algebraic : Cert.algebraic_GwOutIdeal_GwOutReferenceIdeal := fun m g m' g' _ hp => by
  refine ⟨fun c => prod (tr (a0 m c)) (a1 m c), ?_, ?_⟩
  · refine (θ_run Cert.GwOutIdeal.defs _ _).mono (fun _ h c => ?_) (Cert.GwOutIdeal.Value.run_blocks (F := Ideal) m g)
    exact ⟨(h c).1.trans (final m c), (h c).2⟩
  · refine (θ_run Cert.GwOutReferenceIdeal.defs _ _).mono (fun _ h c => ?_)
      (Cert.GwOutReferenceIdeal.Value.run (F := Ideal) m' g')
    obtain ⟨e, h⟩ := h c
    obtain ⟨e0, e1⟩ := hp c
    rw [e0, e1] at e
    exact ⟨e.trans ((host (M := 2048) (K := 2048) (N := 2048) none (φ₁ := .bf16) (φ₂ := .bf16) _ _).trans (congrArg (prod · _) (host_tr _ _))), h⟩

end Cert.Proof

namespace Cert.GwFfn2Ideal.Step

open Cert.GwFfn2Ideal Cert.GwFfn2Ideal.Gen
open Cert.Adam (Mat)
open Cert.Rows Cert.Product

variable (m : (ℓ : Loc nD τ sig) → Buf (Elt Ideal) ℓ) (c : Dev nD)

/-- The device's two arrays. -/
abbrev a0 : (Mat 2048 8192).Idx → EReal := m ((c : Thread nD τ).loc main_arg0)
abbrev a1 : (Mat 2048 2048).Idx → EReal := m ((c : Thread nD τ).loc main_arg1)

/-- The blocks of both are the result's rows and columns. -/
theorem at0 : ∀ t : Fin cfg0.N, win0_0.index t 0 = 0 ∧ win0_0.index t 1 = win0_2.index t 0 := by decide +kernel
theorem at1 : ∀ t : Fin cfg0.N, win0_1.index t 0 = 0 ∧ win0_1.index t 1 = win0_2.index t 1 := by decide +kernel

theorem final : (dats m 0 c).arrAt 2 cfg0.N = prod (tr (a0 m c)) (a1 m c) :=
  (dats m 0 c).arrAt_eq_of_covers 2 (prod (tr (a0 m c)) (a1 m c)) (by decide +kernel : win0_2.Covers) fun t _ y => by
    have h : (dats m 0 c).after 2 t = prod (tr (iblk m c 0 t : (Mat 2048 1024).Idx → EReal)) (iblk m c 1 t) := by
      rw [after0_2]
      unfold outsAt0
      frame_out
      exact block_left (M := 1024) (K := 2048) (N := 1024) none (φ₁ := .bf16) (φ₂ := .bf16) _ _
    exact (congrFun h y).trans (prod_block (m := 1024) (n := 1024) (K := 2048) (M := 8192) (N := 2048)
      (fun k => congrArg (a0 m c) (eq_pt (whole_axis (at0 t).1 2048 k.val) (same_block (at0 t).2 1024 (y 0).val)))
      fun k => congrArg (a1 m c) (eq_pt (whole_axis (at1 t).1 2048 k.val) (same_block (at1 t).2 1024 (y 1).val)))

end Cert.GwFfn2Ideal.Step

namespace Cert.Proof

open Cert.GwFfn2Ideal.Step Cert.Product

theorem gw_ffn2_frame : Cert.quiescent_GwFfn2 := fun m g _ => Cert.GwFfn2.Gen.frame m g

theorem gw_ffn2_frame_ideal : Cert.quiescent_GwFfn2Ideal := fun m g _ => Cert.GwFfn2Ideal.Gen.frame m g

theorem gw_ffn2_reference_frame_ideal : Cert.quiescent_GwFfn2ReferenceIdeal := fun m g _ =>
  (θ_run Cert.GwFfn2ReferenceIdeal.defs _ _).mono
    (fun r h => ⟨fun c => (h c).2, sem_eq_zero_of_no_sems (by decide) r.2⟩)
    (Cert.GwFfn2ReferenceIdeal.Value.run (F := Ideal) m g)

theorem gw_ffn2_preserves : Cert.preserves_GwFfn2_GwFfn2Ideal := trivial

/-- The kernel and the host end with the same array: the gradient of the second feed-forward layer. -/
theorem gw_ffn2_algebraic : Cert.algebraic_GwFfn2Ideal_GwFfn2ReferenceIdeal := fun m g m' g' _ hp => by
  refine ⟨fun c => prod (tr (a0 m c)) (a1 m c), ?_, ?_⟩
  · refine (θ_run Cert.GwFfn2Ideal.defs _ _).mono (fun _ h c => ?_) (Cert.GwFfn2Ideal.Value.run_blocks (F := Ideal) m g)
    exact ⟨(h c).1.trans (final m c), (h c).2⟩
  · refine (θ_run Cert.GwFfn2ReferenceIdeal.defs _ _).mono (fun _ h c => ?_)
      (Cert.GwFfn2ReferenceIdeal.Value.run (F := Ideal) m' g')
    obtain ⟨e, h⟩ := h c
    obtain ⟨e0, e1⟩ := hp c
    rw [e0, e1] at e
    exact ⟨e.trans ((host (M := 8192) (K := 2048) (N := 2048) none (φ₁ := .bf16) (φ₂ := .bf16) _ _).trans (congrArg (prod · _) (host_tr _ _))), h⟩

end Cert.Proof

namespace Cert.GwInIdeal.Step

open Cert.GwInIdeal Cert.GwInIdeal.Gen
open Cert.Adam (Mat)
open Cert.Rows Cert.Product

variable (m : (ℓ : Loc nD τ sig) → Buf (Elt Ideal) ℓ) (c : Dev nD)

/-- The device's two arrays. -/
abbrev a0 : (Mat 2048 2048).Idx → EReal := m ((c : Thread nD τ).loc main_arg0)
abbrev a1 : (Mat 2048 4608).Idx → EReal := m ((c : Thread nD τ).loc main_arg1)

/-- The blocks of both are the result's rows and columns. -/
theorem at0 : ∀ t : Fin cfg0.N, win0_0.index t 0 = 0 ∧ win0_0.index t 1 = win0_2.index t 0 := by decide +kernel
theorem at1 : ∀ t : Fin cfg0.N, win0_1.index t 0 = 0 ∧ win0_1.index t 1 = win0_2.index t 1 := by decide +kernel

theorem final : (dats m 0 c).arrAt 2 cfg0.N = prod (tr (a0 m c)) (a1 m c) :=
  (dats m 0 c).arrAt_eq_of_covers 2 (prod (tr (a0 m c)) (a1 m c)) (by decide +kernel : win0_2.Covers) fun t _ y => by
    have h : (dats m 0 c).after 2 t = prod (tr (iblk m c 0 t : (Mat 2048 1024).Idx → EReal)) (iblk m c 1 t) := by
      rw [after0_2]
      unfold outsAt0
      frame_out
      exact block_left (M := 1024) (K := 2048) (N := 768) none (φ₁ := .bf16) (φ₂ := .bf16) _ _
    exact (congrFun h y).trans (prod_block (m := 1024) (n := 768) (K := 2048) (M := 2048) (N := 4608)
      (fun k => congrArg (a0 m c) (eq_pt (whole_axis (at0 t).1 2048 k.val) (same_block (at0 t).2 1024 (y 0).val)))
      fun k => congrArg (a1 m c) (eq_pt (whole_axis (at1 t).1 2048 k.val) (same_block (at1 t).2 768 (y 1).val)))

end Cert.GwInIdeal.Step

namespace Cert.Proof

open Cert.GwInIdeal.Step Cert.Product

theorem gw_in_frame : Cert.quiescent_GwIn := fun m g _ => Cert.GwIn.Gen.frame m g

theorem gw_in_frame_ideal : Cert.quiescent_GwInIdeal := fun m g _ => Cert.GwInIdeal.Gen.frame m g

theorem gw_in_reference_frame_ideal : Cert.quiescent_GwInReferenceIdeal := fun m g _ =>
  (θ_run Cert.GwInReferenceIdeal.defs _ _).mono
    (fun r h => ⟨fun c => (h c).2, sem_eq_zero_of_no_sems (by decide) r.2⟩)
    (Cert.GwInReferenceIdeal.Value.run (F := Ideal) m g)

theorem gw_in_preserves : Cert.preserves_GwIn_GwInIdeal := trivial

/-- The kernel and the host end with the same array: the gradient of the input projection. -/
theorem gw_in_algebraic : Cert.algebraic_GwInIdeal_GwInReferenceIdeal := fun m g m' g' _ hp => by
  refine ⟨fun c => prod (tr (a0 m c)) (a1 m c), ?_, ?_⟩
  · refine (θ_run Cert.GwInIdeal.defs _ _).mono (fun _ h c => ?_) (Cert.GwInIdeal.Value.run_blocks (F := Ideal) m g)
    exact ⟨(h c).1.trans (final m c), (h c).2⟩
  · refine (θ_run Cert.GwInReferenceIdeal.defs _ _).mono (fun _ h c => ?_)
      (Cert.GwInReferenceIdeal.Value.run (F := Ideal) m' g')
    obtain ⟨e, h⟩ := h c
    obtain ⟨e0, e1⟩ := hp c
    rw [e0, e1] at e
    exact ⟨e.trans ((host (M := 2048) (K := 2048) (N := 4608) none (φ₁ := .bf16) (φ₂ := .bf16) _ _).trans (congrArg (prod · _) (host_tr _ _))), h⟩

end Cert.Proof

namespace Cert.GwAdaIdeal.Step

open Cert.GwAdaIdeal Cert.GwAdaIdeal.Gen
open Cert.Adam (Mat)
open Cert.Rows Cert.Product

variable (m : (ℓ : Loc nD τ sig) → Buf (Elt Ideal) ℓ) (c : Dev nD)

/-- The device's two arrays. -/
abbrev a0 : (Mat 8 2048).Idx → EReal := m ((c : Thread nD τ).loc main_arg0)
abbrev a1 : (Mat 8 1536).Idx → EReal := m ((c : Thread nD τ).loc main_arg1)

/-- The blocks of both are the result's rows and columns. -/
theorem at0 : ∀ t : Fin cfg0.N, win0_0.index t 0 = 0 ∧ win0_0.index t 1 = win0_2.index t 0 := by decide +kernel
theorem at1 : ∀ t : Fin cfg0.N, win0_1.index t 0 = 0 ∧ win0_1.index t 1 = win0_2.index t 1 := by decide +kernel

theorem final : (dats m 0 c).arrAt 2 cfg0.N = prod (tr (a0 m c)) (a1 m c) :=
  (dats m 0 c).arrAt_eq_of_covers 2 (prod (tr (a0 m c)) (a1 m c)) (by decide +kernel : win0_2.Covers) fun t _ y => by
    have h : (dats m 0 c).after 2 t = prod (tr (iblk m c 0 t : (Mat 8 1024).Idx → EReal)) (iblk m c 1 t) := by
      rw [after0_2]
      unfold outsAt0
      frame_out
      exact block_left (M := 1024) (K := 8) (N := 768) (some .fp32) _ _
    exact (congrFun h y).trans (prod_block (m := 1024) (n := 768) (K := 8) (M := 2048) (N := 1536)
      (fun k => congrArg (a0 m c) (eq_pt (whole_axis (at0 t).1 8 k.val) (same_block (at0 t).2 1024 (y 0).val)))
      fun k => congrArg (a1 m c) (eq_pt (whole_axis (at1 t).1 8 k.val) (same_block (at1 t).2 768 (y 1).val)))

end Cert.GwAdaIdeal.Step

namespace Cert.Proof

open Cert.GwAdaIdeal.Step Cert.Product

theorem gw_ada_frame : Cert.quiescent_GwAda := fun m g _ => Cert.GwAda.Gen.frame m g

theorem gw_ada_frame_ideal : Cert.quiescent_GwAdaIdeal := fun m g _ => Cert.GwAdaIdeal.Gen.frame m g

theorem gw_ada_reference_frame_ideal : Cert.quiescent_GwAdaReferenceIdeal := fun m g _ =>
  (θ_run Cert.GwAdaReferenceIdeal.defs _ _).mono
    (fun r h => ⟨fun c => (h c).2, sem_eq_zero_of_no_sems (by decide) r.2⟩)
    (Cert.GwAdaReferenceIdeal.Value.run (F := Ideal) m g)

theorem gw_ada_preserves : Cert.preserves_GwAda_GwAdaIdeal := trivial

/-- The kernel and the host end with the same array: the gradient of the modulation. -/
theorem gw_ada_algebraic : Cert.algebraic_GwAdaIdeal_GwAdaReferenceIdeal := fun m g m' g' _ hp => by
  refine ⟨fun c => prod (tr (a0 m c)) (a1 m c), ?_, ?_⟩
  · refine (θ_run Cert.GwAdaIdeal.defs _ _).mono (fun _ h c => ?_) (Cert.GwAdaIdeal.Value.run_blocks (F := Ideal) m g)
    exact ⟨(h c).1.trans (final m c), (h c).2⟩
  · refine (θ_run Cert.GwAdaReferenceIdeal.defs _ _).mono (fun _ h c => ?_)
      (Cert.GwAdaReferenceIdeal.Value.run (F := Ideal) m' g')
    obtain ⟨e, h⟩ := h c
    obtain ⟨e0, e1⟩ := hp c
    rw [e0, e1] at e
    exact ⟨e.trans ((host (M := 2048) (K := 8) (N := 1536) none (φ₁ := .bf16) (φ₂ := .bf16) _ _).trans (congrArg (prod · _) (host_tr _ _))), h⟩

end Cert.Proof

namespace Cert.GwFfn1Ideal.Step

open Cert.GwFfn1Ideal Cert.GwFfn1Ideal.Gen
open Cert.Adam (Mat)
open Cert.Rows Cert.Product

variable (m : (ℓ : Loc nD τ sig) → Buf (Elt Ideal) ℓ) (c : Dev nD)

/-- The device's two arrays. -/
abbrev a0 : (Mat 2048 2048).Idx → EReal := m ((c : Thread nD τ).loc main_arg0)
abbrev a1 : (Mat 2048 8192).Idx → EReal := m ((c : Thread nD τ).loc main_arg1)

/-- A device's part of the result is a block of columns. -/
theorem at0 : ∀ t : Fin cfg0.N, win0_0.index t 0 = 0 ∧ win0_0.index t 1 = win0_2.index t 1 := by decide +kernel
theorem at1 : ∀ t : Fin cfg0.N, win0_1.index t 0 = 0 ∧ win0_1.index t 1 = win0_2.index t 0 ∧ win0_2.index t 2 = 0 := by
  decide +kernel

/-- The array of all parts. -/
abbrev parts : (Cert.Adam.Parts 8 2048 1024).Idx → EReal :=
  slots (J := 8) (R := 2048) (L := 1024) (prod (tr (a0 m c)) (a1 m c))

theorem final : (dats m 0 c).arrAt 2 cfg0.N = parts m c :=
  (dats m 0 c).arrAt_eq_of_covers 2 (parts m c) (by decide +kernel : win0_2.Covers) fun t _ y => by
    have h : (dats m 0 c).after 2 t = fun y : (Cert.Adam.Parts 1 1024 1024).Idx =>
        prod (tr (iblk m c 0 t : (Mat 2048 1024).Idx → EReal)) (iblk m c 1 t) (pt (y 1) (y 2)) := by
      rw [after0_2]
      unfold outsAt0
      frame_out
      exact (as_part (R := 1024) (C := 1024) _ _).trans
        (congrArg (fun v : (Mat 1024 1024).Idx → EReal => fun y : (Cert.Adam.Parts 1 1024 1024).Idx => v (pt (y 1) (y 2)))
          (block_left (M := 1024) (K := 2048) (N := 1024) none (φ₁ := .bf16) (φ₂ := .bf16) _ _))
    have h0 : (y 0).val = 0 := Nat.lt_one_iff.mp (y 0).isLt
    have hcol : win0_1.index t 1 * 1024 + 1 * (y 2).val
        = (win0_2.index t 2 * 1024 + 1 * (y 2).val) + 1024 * (win0_2.index t 0 * 1 + 1 * (y 0).val) := by
      rw [(at1 t).2.1, (at1 t).2.2, h0]; omega
    exact (congrFun h y).trans (prod_block (m := 1024) (n := 1024) (K := 2048) (M := 2048) (N := 8192)
      (fun k => congrArg (a0 m c) (eq_pt (whole_axis (at0 t).1 2048 k.val) (same_block (at0 t).2 1024 (y 1).val)))
      fun k => congrArg (a1 m c) (eq_pt (whole_axis (at1 t).1 2048 k.val) hcol))

end Cert.GwFfn1Ideal.Step

namespace Cert.Proof

open Cert.GwFfn1Ideal.Step Cert.Product

theorem gw_ffn1_frame : Cert.quiescent_GwFfn1 := fun m g _ => Cert.GwFfn1.Gen.frame m g

theorem gw_ffn1_frame_ideal : Cert.quiescent_GwFfn1Ideal := fun m g _ => Cert.GwFfn1Ideal.Gen.frame m g

theorem gw_ffn1_reference_frame_ideal : Cert.quiescent_GwFfn1ReferenceIdeal := fun m g _ =>
  (θ_run Cert.GwFfn1ReferenceIdeal.defs _ _).mono
    (fun r h => ⟨fun c => (h c).2, sem_eq_zero_of_no_sems (by decide) r.2⟩)
    (Cert.GwFfn1ReferenceIdeal.Value.run (F := Ideal) m g)

theorem gw_ffn1_preserves : Cert.preserves_GwFfn1_GwFfn1Ideal := trivial

/-- The kernel and the host end with the same array: the gradient of the first feed-forward layer, in parts. -/
theorem gw_ffn1_algebraic : Cert.algebraic_GwFfn1Ideal_GwFfn1ReferenceIdeal := fun m g m' g' _ hp => by
  refine ⟨fun c => parts m c, ?_, ?_⟩
  · refine (θ_run Cert.GwFfn1Ideal.defs _ _).mono (fun _ h c => ?_) (Cert.GwFfn1Ideal.Value.run_blocks (F := Ideal) m g)
    exact ⟨(h c).1.trans (final m c), (h c).2⟩
  · refine (θ_run Cert.GwFfn1ReferenceIdeal.defs _ _).mono (fun _ h c => ?_)
      (Cert.GwFfn1ReferenceIdeal.Value.run (F := Ideal) m' g')
    obtain ⟨e, h⟩ := h c
    obtain ⟨e0, e1⟩ := hp c
    rw [e0, e1] at e
    exact ⟨e.trans ((host_slots (J := 8) (R := 2048) (L := 1024) _ _ _).trans (congrArg slots
      ((host (M := 2048) (K := 2048) (N := 8192) none (φ₁ := .bf16) (φ₂ := .bf16) _ _).trans (congrArg (prod · _) (host_tr _ _))))), h⟩

end Cert.Proof

end
-- ==== Proof.Sums.lean ====
/-
  The calls that work entry by entry: the sums of two chips' gradients, the sum of two cotangents of the scan's input, and
  the activation of the conditioning.
-/
module

public import proofs.«01_k».proof.Defs
public import proofs.«01_k».proof.Proof.Gen.SumWIn.Frame
public import proofs.«01_k».proof.Proof.Gen.SumWInIdeal.Value
public import proofs.«01_k».proof.Proof.Gen.SumWInReferenceIdeal.Run
public import proofs.«01_k».proof.Proof.Gen.SumWOut.Frame
public import proofs.«01_k».proof.Proof.Gen.SumWOutIdeal.Value
public import proofs.«01_k».proof.Proof.Gen.SumWOutReferenceIdeal.Run
public import proofs.«01_k».proof.Proof.Gen.SumFfn1.Frame
public import proofs.«01_k».proof.Proof.Gen.SumFfn1Ideal.Value
public import proofs.«01_k».proof.Proof.Gen.SumFfn1ReferenceIdeal.Run
public import proofs.«01_k».proof.Proof.Gen.SumFfn2.Frame
public import proofs.«01_k».proof.Proof.Gen.SumFfn2Ideal.Value
public import proofs.«01_k».proof.Proof.Gen.SumFfn2ReferenceIdeal.Run
public import proofs.«01_k».proof.Proof.Gen.SumGlu.Frame
public import proofs.«01_k».proof.Proof.Gen.SumGluIdeal.Value
public import proofs.«01_k».proof.Proof.Gen.SumGluReferenceIdeal.Run
public import proofs.«01_k».proof.Proof.Gen.SumRk.Frame
public import proofs.«01_k».proof.Proof.Gen.SumRkIdeal.Value
public import proofs.«01_k».proof.Proof.Gen.SumRkReferenceIdeal.Run
public import proofs.«01_k».proof.Proof.Gen.SumU.Frame
public import proofs.«01_k».proof.Proof.Gen.SumUIdeal.Value
public import proofs.«01_k».proof.Proof.Gen.SumUReferenceIdeal.Run
public import proofs.«01_k».proof.Proof.Gen.Silu.Frame
public import proofs.«01_k».proof.Proof.Gen.SiluIdeal.Value
public import proofs.«01_k».proof.Proof.Gen.SiluReferenceIdeal.Run
public import proofs.«01_k».proof.Proof.Rows

@[expose] public section

noncomputable section

open Idealize.ShloMosaic Idealize.ShloMosaic.TcCoe Idealize.SL.Sem

namespace Cert.Entries

open Cert.Adam (Mat)

/-- The sum of two arrays, entry by entry. -/
def plus {S : Shape} (a b : S.Idx → EReal) : S.Idx → EReal := fun i => a i + b i

/-- The activation `x / (1 + exp (-x))`, as the kernel and the host write it. -/
theorem silu {S : Shape} (x : FVec Ideal S .f32) (h) :
    (fun i => FloatOps.mulf (x i) (FloatOps.divf (Scalar.ofBits (F := Ideal) .f32 0x3F800000#32)
        (FloatOps.addf (Scalar.ofBits .f32 0x3F800000#32)
          (FloatOps.exp (FloatOps.subf (Scalar.ofBits .f32 0x00000000#32) (x i))))))
      = mulf x (Host.divf (broadcastInDim S ![] h (constant (F := Ideal) Cert.Rows.Pt .f32 0x3F800000#32))
          (addf (broadcastInDim S ![] h (constant (F := Ideal) Cert.Rows.Pt .f32 0x3F800000#32)) (Host.exp (Host.negf x)))) := by
  rw [Cert.Rows.host_word]
  funext i
  have e : Ideal.ofBits .f32 0x00000000#32 - x i = -(x i) := by rw [Ideal.ofBits_zero_f32, zero_sub]
  exact congrArg (fun z => x i * Ideal.div (Ideal.ofBits .f32 0x3F800000#32)
    (Ideal.ofBits .f32 0x3F800000#32 + Ideal.exp z)) e

end Cert.Entries

namespace Cert.Proof

open Cert.Entries

theorem sum_w_in_frame : Cert.quiescent_SumWIn := fun m g _ => Cert.SumWIn.Gen.frame m g

theorem sum_w_in_frame_ideal : Cert.quiescent_SumWInIdeal := fun m g _ => Cert.SumWInIdeal.Gen.frame m g

theorem sum_w_in_reference_frame_ideal : Cert.quiescent_SumWInReferenceIdeal := fun m g _ =>
  (θ_run Cert.SumWInReferenceIdeal.defs _ _).mono (fun r h => ⟨fun c => (h c).2, sem_eq_zero_of_no_sems (by decide) r.2⟩)
    (Cert.SumWInReferenceIdeal.Value.run (F := Ideal) m g)

theorem sum_w_in_preserves : Cert.preserves_SumWIn_SumWInIdeal := trivial

/-- The sum of two chips' gradients of the input projection's weight. -/
theorem sum_w_in_algebraic : Cert.algebraic_SumWInIdeal_SumWInReferenceIdeal := fun m g m' g' _ hp =>
  ⟨fun c => plus (m ((c.tc : Thread _ _).loc Cert.SumWInIdeal.main_arg0)) (m ((c.tc : Thread _ _).loc Cert.SumWInIdeal.main_arg1)),
    Cert.SumWInIdeal.Value.run (F := Ideal) m g,
    (θ_run Cert.SumWInReferenceIdeal.defs _ _).mono
      (fun _ h c => ⟨(h c).1.trans (congrArg₂ plus (hp c).1 (hp c).2), (h c).2⟩)
      (Cert.SumWInReferenceIdeal.Value.run (F := Ideal) m' g')⟩

theorem sum_w_out_frame : Cert.quiescent_SumWOut := fun m g _ => Cert.SumWOut.Gen.frame m g

theorem sum_w_out_frame_ideal : Cert.quiescent_SumWOutIdeal := fun m g _ => Cert.SumWOutIdeal.Gen.frame m g

theorem sum_w_out_reference_frame_ideal : Cert.quiescent_SumWOutReferenceIdeal := fun m g _ =>
  (θ_run Cert.SumWOutReferenceIdeal.defs _ _).mono (fun r h => ⟨fun c => (h c).2, sem_eq_zero_of_no_sems (by decide) r.2⟩)
    (Cert.SumWOutReferenceIdeal.Value.run (F := Ideal) m g)

theorem sum_w_out_preserves : Cert.preserves_SumWOut_SumWOutIdeal := trivial

/-- The same of the output projection's, -/
theorem sum_w_out_algebraic : Cert.algebraic_SumWOutIdeal_SumWOutReferenceIdeal := fun m g m' g' _ hp =>
  ⟨fun c => plus (m ((c.tc : Thread _ _).loc Cert.SumWOutIdeal.main_arg0)) (m ((c.tc : Thread _ _).loc Cert.SumWOutIdeal.main_arg1)),
    Cert.SumWOutIdeal.Value.run (F := Ideal) m g,
    (θ_run Cert.SumWOutReferenceIdeal.defs _ _).mono
      (fun _ h c => ⟨(h c).1.trans (congrArg₂ plus (hp c).1 (hp c).2), (h c).2⟩)
      (Cert.SumWOutReferenceIdeal.Value.run (F := Ideal) m' g')⟩

theorem sum_ffn_w1_frame : Cert.quiescent_SumFfn1 := fun m g _ => Cert.SumFfn1.Gen.frame m g

theorem sum_ffn_w1_frame_ideal : Cert.quiescent_SumFfn1Ideal := fun m g _ => Cert.SumFfn1Ideal.Gen.frame m g

theorem sum_ffn_w1_reference_frame_ideal : Cert.quiescent_SumFfn1ReferenceIdeal := fun m g _ =>
  (θ_run Cert.SumFfn1ReferenceIdeal.defs _ _).mono (fun r h => ⟨fun c => (h c).2, sem_eq_zero_of_no_sems (by decide) r.2⟩)
    (Cert.SumFfn1ReferenceIdeal.Value.run (F := Ideal) m g)

theorem sum_ffn_w1_preserves : Cert.preserves_SumFfn1_SumFfn1Ideal := trivial

/-- of the first feed-forward layer's, -/
theorem sum_ffn_w1_algebraic : Cert.algebraic_SumFfn1Ideal_SumFfn1ReferenceIdeal := fun m g m' g' _ hp =>
  ⟨fun c => plus (m ((c.tc : Thread _ _).loc Cert.SumFfn1Ideal.main_arg0)) (m ((c.tc : Thread _ _).loc Cert.SumFfn1Ideal.main_arg1)),
    Cert.SumFfn1Ideal.Value.run (F := Ideal) m g,
    (θ_run Cert.SumFfn1ReferenceIdeal.defs _ _).mono
      (fun _ h c => ⟨(h c).1.trans (congrArg₂ plus (hp c).1 (hp c).2), (h c).2⟩)
      (Cert.SumFfn1ReferenceIdeal.Value.run (F := Ideal) m' g')⟩

theorem sum_ffn_w2_frame : Cert.quiescent_SumFfn2 := fun m g _ => Cert.SumFfn2.Gen.frame m g

theorem sum_ffn_w2_frame_ideal : Cert.quiescent_SumFfn2Ideal := fun m g _ => Cert.SumFfn2Ideal.Gen.frame m g

theorem sum_ffn_w2_reference_frame_ideal : Cert.quiescent_SumFfn2ReferenceIdeal := fun m g _ =>
  (θ_run Cert.SumFfn2ReferenceIdeal.defs _ _).mono (fun r h => ⟨fun c => (h c).2, sem_eq_zero_of_no_sems (by decide) r.2⟩)
    (Cert.SumFfn2ReferenceIdeal.Value.run (F := Ideal) m g)

theorem sum_ffn_w2_preserves : Cert.preserves_SumFfn2_SumFfn2Ideal := trivial

/-- of the second's, -/
theorem sum_ffn_w2_algebraic : Cert.algebraic_SumFfn2Ideal_SumFfn2ReferenceIdeal := fun m g m' g' _ hp =>
  ⟨fun c => plus (m ((c.tc : Thread _ _).loc Cert.SumFfn2Ideal.main_arg0)) (m ((c.tc : Thread _ _).loc Cert.SumFfn2Ideal.main_arg1)),
    Cert.SumFfn2Ideal.Value.run (F := Ideal) m g,
    (θ_run Cert.SumFfn2ReferenceIdeal.defs _ _).mono
      (fun _ h c => ⟨(h c).1.trans (congrArg₂ plus (hp c).1 (hp c).2), (h c).2⟩)
      (Cert.SumFfn2ReferenceIdeal.Value.run (F := Ideal) m' g')⟩

theorem sum_glu_frame : Cert.quiescent_SumGlu := fun m g _ => Cert.SumGlu.Gen.frame m g

theorem sum_glu_frame_ideal : Cert.quiescent_SumGluIdeal := fun m g _ => Cert.SumGluIdeal.Gen.frame m g

theorem sum_glu_reference_frame_ideal : Cert.quiescent_SumGluReferenceIdeal := fun m g _ =>
  (θ_run Cert.SumGluReferenceIdeal.defs _ _).mono (fun r h => ⟨fun c => (h c).2, sem_eq_zero_of_no_sems (by decide) r.2⟩)
    (Cert.SumGluReferenceIdeal.Value.run (F := Ideal) m g)

theorem sum_glu_preserves : Cert.preserves_SumGlu_SumGluIdeal := trivial

/-- of the gate's in the scan's mixer, -/
theorem sum_glu_algebraic : Cert.algebraic_SumGluIdeal_SumGluReferenceIdeal := fun m g m' g' _ hp =>
  ⟨fun c => plus (m ((c.tc : Thread _ _).loc Cert.SumGluIdeal.main_arg0)) (m ((c.tc : Thread _ _).loc Cert.SumGluIdeal.main_arg1)),
    Cert.SumGluIdeal.Value.run (F := Ideal) m g,
    (θ_run Cert.SumGluReferenceIdeal.defs _ _).mono
      (fun _ h c => ⟨(h c).1.trans (congrArg₂ plus (hp c).1 (hp c).2), (h c).2⟩)
      (Cert.SumGluReferenceIdeal.Value.run (F := Ideal) m' g')⟩

theorem sum_rk_frame : Cert.quiescent_SumRk := fun m g _ => Cert.SumRk.Gen.frame m g

theorem sum_rk_frame_ideal : Cert.quiescent_SumRkIdeal := fun m g _ => Cert.SumRkIdeal.Gen.frame m g

theorem sum_rk_reference_frame_ideal : Cert.quiescent_SumRkReferenceIdeal := fun m g _ =>
  (θ_run Cert.SumRkReferenceIdeal.defs _ _).mono (fun r h => ⟨fun c => (h c).2, sem_eq_zero_of_no_sems (by decide) r.2⟩)
    (Cert.SumRkReferenceIdeal.Value.run (F := Ideal) m g)

theorem sum_rk_preserves : Cert.preserves_SumRk_SumRkIdeal := trivial

/-- and of the packed small weights'. -/
theorem sum_rk_algebraic : Cert.algebraic_SumRkIdeal_SumRkReferenceIdeal := fun m g m' g' _ hp =>
  ⟨fun c => plus (m ((c.tc : Thread _ _).loc Cert.SumRkIdeal.main_arg0)) (m ((c.tc : Thread _ _).loc Cert.SumRkIdeal.main_arg1)),
    Cert.SumRkIdeal.Value.run (F := Ideal) m g,
    (θ_run Cert.SumRkReferenceIdeal.defs _ _).mono
      (fun _ h c => ⟨(h c).1.trans (congrArg₂ plus (hp c).1 (hp c).2), (h c).2⟩)
      (Cert.SumRkReferenceIdeal.Value.run (F := Ideal) m' g')⟩

theorem sum_u_frame : Cert.quiescent_SumU := fun m g _ => Cert.SumU.Gen.frame m g

theorem sum_u_frame_ideal : Cert.quiescent_SumUIdeal := fun m g _ => Cert.SumUIdeal.Gen.frame m g

theorem sum_u_reference_frame_ideal : Cert.quiescent_SumUReferenceIdeal := fun m g _ =>
  (θ_run Cert.SumUReferenceIdeal.defs _ _).mono (fun r h => ⟨fun c => (h c).2, sem_eq_zero_of_no_sems (by decide) r.2⟩)
    (Cert.SumUReferenceIdeal.Value.run (F := Ideal) m g)

theorem sum_u_preserves : Cert.preserves_SumU_SumUIdeal := trivial

/-- The sum of the two cotangents of the scan's input. -/
theorem sum_u_algebraic : Cert.algebraic_SumUIdeal_SumUReferenceIdeal := fun m g m' g' _ hp =>
  ⟨fun c => plus (m ((c.tc : Thread _ _).loc Cert.SumUIdeal.main_arg0)) (m ((c.tc : Thread _ _).loc Cert.SumUIdeal.main_arg1)),
    Cert.SumUIdeal.Value.run (F := Ideal) m g,
    (θ_run Cert.SumUReferenceIdeal.defs _ _).mono
      (fun _ h c => ⟨(h c).1.trans (congrArg₂ plus (hp c).1 (hp c).2), (h c).2⟩)
      (Cert.SumUReferenceIdeal.Value.run (F := Ideal) m' g')⟩

theorem silu_frame : Cert.quiescent_Silu := fun m g _ => Cert.Silu.Gen.frame m g

theorem silu_frame_ideal : Cert.quiescent_SiluIdeal := fun m g _ => Cert.SiluIdeal.Gen.frame m g

theorem silu_reference_frame_ideal : Cert.quiescent_SiluReferenceIdeal := fun m g _ =>
  (θ_run Cert.SiluReferenceIdeal.defs _ _).mono (fun r h => ⟨fun c => (h c).2, sem_eq_zero_of_no_sems (by decide) r.2⟩)
    (Cert.SiluReferenceIdeal.Value.run (F := Ideal) m g)

theorem silu_preserves : Cert.preserves_Silu_SiluIdeal := trivial

/-- The kernel and the host end with the same activation. -/
theorem silu_algebraic : Cert.algebraic_SiluIdeal_SiluReferenceIdeal := fun m g m' g' _ hp =>
  ⟨_, Cert.SiluIdeal.Value.run (F := Ideal) m g,
    (θ_run Cert.SiluReferenceIdeal.defs _ _).mono
      (fun _ h c => ⟨(h c).1.trans ((silu _ _).symm.trans (congrArg Cert.SiluIdeal.Value.G1 (hp c))), (h c).2⟩)
      (Cert.SiluReferenceIdeal.Value.run (F := Ideal) m' g')⟩

end Cert.Proof

end
-- ==== Proof.Norms.lean ====
/-
  The forward passes of the two norms: the rows normed, gained and modulated, tile by tile; the second one of the rows with
  the mixers' gated output added.
-/
module

public import proofs.«01_k».proof.Defs
public import proofs.«01_k».proof.Proof.Gen.First.Frame
public import proofs.«01_k».proof.Proof.Gen.FirstIdeal.Value
public import proofs.«01_k».proof.Proof.Gen.FirstReferenceIdeal.Run
public import proofs.«01_k».proof.Proof.Gen.Second.Frame
public import proofs.«01_k».proof.Proof.Gen.SecondIdeal.Value
public import proofs.«01_k».proof.Proof.Gen.SecondReferenceIdeal.Run
public import proofs.«01_k».proof.Proof.Norm

@[expose] public section

noncomputable section

open Idealize.ShloMosaic Idealize.ShloMosaic.TcCoe Idealize.SL.Sem
open Idealize.ShloMosaic.Pipeline (Dat)

namespace Cert.NormFn

open Cert.Adam (Mat)
open Cert.Rows

variable {R C : ℕ}

/-- The normed rows, gained and modulated. -/
def modded (x : (Mat R C).Idx → EReal) (gain scale shift : (Mat 1 C).Idx → EReal) : (Mat R C).Idx → EReal :=
  fun i => normed x i * down gain i * down (fun j => Ideal.ofBits .f32 0x3F800000#32 + scale j) i + down shift i

/-- The rows with what a branch gives, through its gate. -/
def joined (x mixed : (Mat R C).Idx → EReal) (gate : (Mat 1 C).Idx → EReal) : (Mat R C).Idx → EReal :=
  fun i => x i + down gate i * mixed i

/-- The row of an array that a row of its tile `n` is, -/
theorem tile_row {n b : ℕ} (hn : n < 8) (hb : b = n) (r : Fin 256) : b * 256 + 1 * r.val = (rowOf n r).val := by
  have := r.isLt
  show b * 256 + 1 * r.val = (n * 256 + r.val) % 2048
  omega

/-- the entry of an array that an entry of its tile `n` is, -/
theorem tile_at {n b d : ℕ} {i : (Mat 2048 2048).Idx} {y : (Mat 256 2048).Idx} (hn : n < 8) (hb : b = n ∧ d = 0)
    (h0 : (i 0).val = b * 256 + 1 * (y 0).val) (h1 : (i 1).val = d * 2048 + 1 * (y 1).val) :
    i = pt (rowOf n (y 0)) (y 1) :=
  eq_pt (h0.trans (tile_row hn hb.1 (y 0))) (h1.trans (by rw [hb.2]; omega))

/-- and an entry of a row that is its own block. -/
theorem row_at {b d : ℕ} {i y : (Mat 1 2048).Idx} (hb : b = 0 ∧ d = 0)
    (h0 : (i 0).val = b * 1 + 1 * (y 0).val) (h1 : (i 1).val = d * 2048 + 1 * (y 1).val) : i = y :=
  (eq_pt (r := y 0) (k := y 1) (h0.trans (by rw [hb.1]; omega)) (h1.trans (by rw [hb.2]; omega))).trans (eq_pt rfl rfl).symm

end Cert.NormFn

namespace Cert.NormReferenceIdeal.Value

open Cert.NormReferenceIdeal
open Cert.Adam (Mat)
open Cert.Rows Cert.NormFn

/-- The host's normed rows, gained and modulated, -/
theorem modded_eq (x : FVec Ideal S2048x2048 .f32) (gain scale shift : FVec Ideal S1x2048 .f32) :
    addf (mulf (mulf (hNormed x) (broadcastInDim S2048x2048 ![0, 1] Gen.bcast_S1x2048_S2048x2048_0_1 gain))
      (broadcastInDim S2048x2048 ![0, 1] Gen.bcast_S1x2048_S2048x2048_0_1
        (addf (broadcastInDim S1x2048 ![] Gen.bcast_S_S1x2048 (constant S_ .f32 0x3F800000#32)) scale)))
      (broadcastInDim S2048x2048 ![0, 1] Gen.bcast_S1x2048_S2048x2048_0_1 shift) = modded x gain scale shift := by
  rw [hNormed_eq, word_row, down_all, down_all, down_all]; rfl

/-- and the rows with the branch's output. -/
def hJoined (x mixed : FVec Ideal S2048x2048 .f32) (gate : FVec Ideal S1x2048 .f32) : FVec Ideal S2048x2048 .f32 :=
  addf x (mulf (broadcastInDim S2048x2048 ![0, 1] Gen.bcast_S1x2048_S2048x2048_0_1 gate) mixed)

theorem joined_eq (x mixed : FVec Ideal S2048x2048 .f32) (gate : FVec Ideal S1x2048 .f32) :
    hJoined x mixed gate = joined x mixed gate := by
  unfold hJoined; rw [down_all]; rfl

end Cert.NormReferenceIdeal.Value

/-! ## The first norm -/

namespace Cert.FirstIdeal.Step

open Cert.FirstIdeal Cert.FirstIdeal.Gen
open Cert.Adam (Mat)
open Cert.Rows Cert.NormFn
open Cert.NormIdeal.Step (lane_tile along_tile down_tile)

theorem body (x : Vec Ideal S256x2048 .f32) (gain scale shift : Vec Ideal S1x2048 .f32) :
    k0_pay1 x gain scale shift = modded x gain scale shift := by
  unfold k0_pay1
  dsimp only
  rw [lane_tile, along_tile, down_tile gain,
    down_tile shift, down_tile]
  rfl

variable (m : (ℓ : Loc nD τ sig) → Buf (Elt Ideal) ℓ) (c : Dev nD)

/-- The device's argument arrays. -/
abbrev a0 : (Mat 2048 2048).Idx → EReal := m ((c : Thread nD τ).loc main_arg0)
abbrev a1 : (Mat 1 2048).Idx → EReal := m ((c : Thread nD τ).loc main_arg1)
abbrev a2 : (Mat 1 2048).Idx → EReal := m ((c : Thread nD τ).loc main_arg2)
abbrev a3 : (Mat 1 2048).Idx → EReal := m ((c : Thread nD τ).loc main_arg3)

/-- Where each point of the grid has its blocks. -/
theorem at0 : ∀ t : Fin cfg0.N, win0_0.index t 0 = t.val ∧ win0_0.index t 1 = 0 := by decide +kernel
theorem at1 : ∀ t : Fin cfg0.N, win0_1.index t 0 = 0 ∧ win0_1.index t 1 = 0 := by decide +kernel
theorem at2 : ∀ t : Fin cfg0.N, win0_2.index t 0 = 0 ∧ win0_2.index t 1 = 0 := by decide +kernel
theorem at3 : ∀ t : Fin cfg0.N, win0_3.index t 0 = 0 ∧ win0_3.index t 1 = 0 := by decide +kernel
theorem at4 : ∀ t : Fin cfg0.N, win0_4.index t 0 = t.val ∧ win0_4.index t 1 = 0 := by decide +kernel

theorem few (t : Fin cfg0.N) : t.val < 8 := lt_of_lt_of_eq t.isLt N_0

theorem blk0 (t : Fin cfg0.N) : iblk m c 0 t = pick (rowOf t.val) (a0 m c) :=
  funext fun _ => congrArg (a0 m c) (tile_at (few t) (at0 t) rfl rfl)
theorem blk1 (t : Fin cfg0.N) : iblk m c 1 t = a1 m c := funext fun _ => congrArg (a1 m c) (row_at (at1 t) rfl rfl)
theorem blk2 (t : Fin cfg0.N) : iblk m c 2 t = a2 m c := funext fun _ => congrArg (a2 m c) (row_at (at2 t) rfl rfl)
theorem blk3 (t : Fin cfg0.N) : iblk m c 3 t = a3 m c := funext fun _ => congrArg (a3 m c) (row_at (at3 t) rfl rfl)

/-- What the array has to be, -/
abbrev goal : (Mat 2048 2048).Idx → EReal := modded (a0 m c) (a1 m c) (a2 m c) (a3 m c)

/-- what a point writes, -/
theorem step (t : Fin cfg0.N) : (dats m 0 c).after 4 t = pick (rowOf t.val) (goal m c) := by
  rw [after0_4]
  unfold out0_4
  frame_out [body, blk0, blk1, blk2, blk3]
  rfl

/-- and the array after the run. -/
theorem final : (dats m 0 c).arrAt 4 cfg0.N = goal m c :=
  (dats m 0 c).arrAt_eq_of_covers 4 (goal m c) (by decide +kernel : win0_4.Covers) fun t _ y =>
    (congrFun (step m c t) y).trans (congrArg (goal m c) (tile_at (y := y) (few t) (at4 t) rfl rfl)).symm

end Cert.FirstIdeal.Step

/-! ## The second norm -/

namespace Cert.SecondIdeal.Step

open Cert.SecondIdeal Cert.SecondIdeal.Gen
open Cert.Adam (Mat)
open Cert.Rows Cert.NormFn
open Cert.NormIdeal.Step (down_tile)

theorem join (x mixed : Vec Ideal S256x2048 .f32) (gate : Vec Ideal S1x2048 .f32) :
    k0_pay1 x mixed gate = joined x mixed gate := by
  unfold k0_pay1
  dsimp only
  rw [down_tile]
  rfl

theorem body (x mixed : Vec Ideal S256x2048 .f32) (gate gain scale shift : Vec Ideal S1x2048 .f32) :
    k0_pay2 x mixed gate gain scale shift = modded (joined x mixed gate) gain scale shift := by
  unfold k0_pay2
  rw [join]
  exact Cert.FirstIdeal.Step.body (joined x mixed gate) gain scale shift

variable (m : (ℓ : Loc nD τ sig) → Buf (Elt Ideal) ℓ) (c : Dev nD)

/-- The device's argument arrays. -/
abbrev a0 : (Mat 2048 2048).Idx → EReal := m ((c : Thread nD τ).loc main_arg0)
abbrev a1 : (Mat 2048 2048).Idx → EReal := m ((c : Thread nD τ).loc main_arg1)
abbrev a2 : (Mat 1 2048).Idx → EReal := m ((c : Thread nD τ).loc main_arg2)
abbrev a3 : (Mat 1 2048).Idx → EReal := m ((c : Thread nD τ).loc main_arg3)
abbrev a4 : (Mat 1 2048).Idx → EReal := m ((c : Thread nD τ).loc main_arg4)
abbrev a5 : (Mat 1 2048).Idx → EReal := m ((c : Thread nD τ).loc main_arg5)

/-- Where each point of the grid has its blocks. -/
theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = 0 ∧ win0_2.index t 1 = 0 := by decide +kernel
theorem at3 : ∀ t : Fin cfg0.N, win0_3.index t 0 = 0 ∧ win0_3.index t 1 = 0 := by decide +kernel
theorem at4 : ∀ t : Fin cfg0.N, win0_4.index t 0 = 0 ∧ win0_4.index t 1 = 0 := by decide +kernel
theorem at5 : ∀ t : Fin cfg0.N, win0_5.index t 0 = 0 ∧ win0_5.index t 1 = 0 := by decide +kernel
theorem at6 : ∀ t : Fin cfg0.N, win0_6.index t 0 = t.val ∧ win0_6.index t 1 = 0 := by decide +kernel
theorem at7 : ∀ t : Fin cfg0.N, win0_7.index t 0 = t.val ∧ win0_7.index t 1 = 0 := by decide +kernel

theorem few (t : Fin cfg0.N) : t.val < 8 := lt_of_lt_of_eq t.isLt N_0

theorem blk0 (t : Fin cfg0.N) : iblk m c 0 t = pick (rowOf t.val) (a0 m c) :=
  funext fun _ => congrArg (a0 m c) (tile_at (few t) (at0 t) rfl rfl)
theorem blk1 (t : Fin cfg0.N) : iblk m c 1 t = pick (rowOf t.val) (a1 m c) :=
  funext fun _ => congrArg (a1 m c) (tile_at (few t) (at1 t) rfl rfl)
theorem blk2 (t : Fin cfg0.N) : iblk m c 2 t = a2 m c := funext fun _ => congrArg (a2 m c) (row_at (at2 t) rfl rfl)
theorem blk3 (t : Fin cfg0.N) : iblk m c 3 t = a3 m c := funext fun _ => congrArg (a3 m c) (row_at (at3 t) rfl rfl)
theorem blk4 (t : Fin cfg0.N) : iblk m c 4 t = a4 m c := funext fun _ => congrArg (a4 m c) (row_at (at4 t) rfl rfl)
theorem blk5 (t : Fin cfg0.N) : iblk m c 5 t = a5 m c := funext fun _ => congrArg (a5 m c) (row_at (at5 t) rfl rfl)

/-- What the two arrays have to be, -/
abbrev sum : (Mat 2048 2048).Idx → EReal := joined (a0 m c) (a1 m c) (a2 m c)
abbrev goal : (Mat 2048 2048).Idx → EReal := modded (sum m c) (a3 m c) (a4 m c) (a5 m c)

/-- what a point writes, -/
theorem step_sum (t : Fin cfg0.N) : (dats m 0 c).after 6 t = pick (rowOf t.val) (sum m c) := by
  rw [after0_6]
  unfold out0_6
  frame_out [join, blk0, blk1, blk2]
  rfl

theorem step (t : Fin cfg0.N) : (dats m 0 c).after 7 t = pick (rowOf t.val) (goal m c) := by
  rw [after0_7]
  unfold out0_7
  frame_out [body, blk0, blk1, blk2, blk3, blk4, blk5]
  rfl

/-- and the arrays after the run. -/
theorem final_sum : (dats m 0 c).arrAt 6 cfg0.N = sum m c :=
  (dats m 0 c).arrAt_eq_of_covers 6 (sum m c) (by decide +kernel : win0_6.Covers) fun t _ y =>
    (congrFun (step_sum m c t) y).trans (congrArg (sum m c) (tile_at (y := y) (few t) (at6 t) rfl rfl)).symm

theorem final : (dats m 0 c).arrAt 7 cfg0.N = goal m c :=
  (dats m 0 c).arrAt_eq_of_covers 7 (goal m c) (by decide +kernel : win0_7.Covers) fun t _ y =>
    (congrFun (step m c t) y).trans (congrArg (goal m c) (tile_at (y := y) (few t) (at7 t) rfl rfl)).symm

end Cert.SecondIdeal.Step

namespace Cert.Proof

theorem first_frame : Cert.quiescent_First := fun m g _ => Cert.First.Gen.frame m g

theorem first_frame_ideal : Cert.quiescent_FirstIdeal := fun m g _ => Cert.FirstIdeal.Gen.frame m g

theorem first_reference_frame_ideal : Cert.quiescent_FirstReferenceIdeal := fun m g _ =>
  (θ_run Cert.FirstReferenceIdeal.defs _ _).mono (fun r h => ⟨fun c => (h c).2, sem_eq_zero_of_no_sems (by decide) r.2⟩)
    (Cert.FirstReferenceIdeal.Value.run (F := Ideal) m g)

theorem first_preserves : Cert.preserves_First_FirstIdeal := trivial

/-- The kernel and the host end with the same modulated rows. -/
theorem first_algebraic : Cert.algebraic_FirstIdeal_FirstReferenceIdeal := fun m g m' g' _ hp => by
  refine ⟨fun c => Cert.FirstIdeal.Step.goal m c, ?_, ?_⟩
  · exact (θ_run Cert.FirstIdeal.defs _ _).mono (fun _ h c => ⟨(h c).1.trans (Cert.FirstIdeal.Step.final m c), (h c).2⟩)
      (Cert.FirstIdeal.Value.run_blocks (F := Ideal) m g)
  · refine (θ_run Cert.FirstReferenceIdeal.defs _ _).mono (fun _ h c => ?_)
      (Cert.FirstReferenceIdeal.Value.run (F := Ideal) m' g')
    obtain ⟨e, h⟩ := h c
    obtain ⟨e0, e1, e2, e3⟩ := hp c
    rw [e0, e1, e2, e3] at e
    exact ⟨e.trans (Cert.NormReferenceIdeal.Value.modded_eq _ _ _ _), h⟩

theorem second_frame : Cert.quiescent_Second := fun m g _ => Cert.Second.Gen.frame m g

theorem second_frame_ideal : Cert.quiescent_SecondIdeal := fun m g _ => Cert.SecondIdeal.Gen.frame m g

theorem second_reference_frame_ideal : Cert.quiescent_SecondReferenceIdeal := fun m g _ =>
  (θ_run Cert.SecondReferenceIdeal.defs _ _).mono (fun r h => ⟨fun c => (h c).2.2, sem_eq_zero_of_no_sems (by decide) r.2⟩)
    (Cert.SecondReferenceIdeal.Value.run (F := Ideal) m g)

theorem second_preserves : Cert.preserves_Second_SecondIdeal := trivial

/-- The kernel and the host end with the same sum and the same modulated rows. -/
theorem second_algebraic : Cert.algebraic_SecondIdeal_SecondReferenceIdeal := fun m g m' g' _ hp => by
  refine ⟨fun c => Cert.SecondIdeal.Step.sum m c, fun c => Cert.SecondIdeal.Step.goal m c, ?_, ?_⟩
  · exact (θ_run Cert.SecondIdeal.defs _ _).mono (fun _ h c => ⟨(h c).1.trans (Cert.SecondIdeal.Step.final_sum m c),
      (h c).2.1.trans (Cert.SecondIdeal.Step.final m c), (h c).2.2⟩) (Cert.SecondIdeal.Value.run_blocks (F := Ideal) m g)
  · refine (θ_run Cert.SecondReferenceIdeal.defs _ _).mono (fun _ h c => ?_)
      (Cert.SecondReferenceIdeal.Value.run (F := Ideal) m' g')
    obtain ⟨es, e, h⟩ := h c
    obtain ⟨e0, e1, e2, e3, e4, e5⟩ := hp c
    rw [e0, e1, e2] at es; rw [e0, e1, e2, e3, e4, e5] at e
    have ej := Cert.NormReferenceIdeal.Value.joined_eq (Cert.SecondIdeal.Step.a0 m c) (Cert.SecondIdeal.Step.a1 m c)
      (Cert.SecondIdeal.Step.a2 m c)
    have em := Cert.NormReferenceIdeal.Value.modded_eq (Cert.NormReferenceIdeal.Value.hJoined (Cert.SecondIdeal.Step.a0 m c)
      (Cert.SecondIdeal.Step.a1 m c) (Cert.SecondIdeal.Step.a2 m c)) (Cert.SecondIdeal.Step.a3 m c)
      (Cert.SecondIdeal.Step.a4 m c) (Cert.SecondIdeal.Step.a5 m c)
    exact ⟨es.trans ej, (e.trans em).trans (congrArg
      (fun z => Cert.NormFn.modded z (Cert.SecondIdeal.Step.a3 m c) (Cert.SecondIdeal.Step.a4 m c)
        (Cert.SecondIdeal.Step.a5 m c)) ej), h⟩

end Cert.Proof

end
-- ==== Proof.SecondNorm.lean ====
/-
  The backward pass of the second norm and of the sum it is taken of: the cotangents of the rows and of the branch tile by
  tile, and the sums of the cotangents of gate, gain, scale and shift, which the body adds up over the tiles.
-/
module

public import proofs.«01_k».proof.Defs
public import proofs.«01_k».proof.Proof.Gen.SecondBack.Frame
public import proofs.«01_k».proof.Proof.Gen.SecondBackIdeal.Value
public import proofs.«01_k».proof.Proof.Gen.SecondBackReferenceIdeal.Run
public import proofs.«01_k».proof.Proof.Norms

@[expose] public section

noncomputable section

open Idealize.ShloMosaic Idealize.ShloMosaic.TcCoe Idealize.SL.Sem
open Idealize.ShloMosaic.Pipeline (Dat)

namespace Cert.NormFn

open Cert.Adam (Mat)
open Cert.Rows

variable {R C : ℕ}

/-- The cotangent of the rows `x` from the cotangent `u` of the normed rows, with what reaches the rows otherwise. -/
def through (g x u : (Mat R C).Idx → EReal) : (Mat R C).Idx → EReal :=
  fun i => g i + u i * along (inv x) i + x i * along (pull x u) i + along (pull x u) i * x i

/-- The cotangent of the sum of the rows and the branch, -/
def dJoined (g dh x mixed : (Mat R C).Idx → EReal) (gate gain scale : (Mat 1 C).Idx → EReal) : (Mat R C).Idx → EReal :=
  through g (joined x mixed gate) (dNormed dh gain scale)

/-- that of the branch, -/
def toBranch (d : (Mat R C).Idx → EReal) (gate : (Mat 1 C).Idx → EReal) : (Mat R C).Idx → EReal :=
  fun i => down gate i * d i

/-- and what each row gives to the gate. -/
def toGate (d mixed : (Mat R C).Idx → EReal) : (Mat R C).Idx → EReal := fun i => d i * mixed i

end Cert.NormFn

namespace Cert.SecondBackIdeal.Step

open Cert.SecondBackIdeal Cert.SecondBackIdeal.Gen
open Cert.Adam (Mat)
open Cert.Rows Cert.NormFn
open Cert.NormIdeal.Step (lane_tile lane_unit col_tile along_tile down_tile)

section Payloads

variable (g dh x mixed : Vec Ideal S256x2048 .f32) (gate gain scale : Vec Ideal S1x2048 .f32)

theorem join : k0_pay3 x mixed gate = joined x mixed gate := Cert.SecondIdeal.Step.join x mixed gate

theorem meanSq_eq : k0_pay4 x mixed gate = meanSq (joined x mixed gate) := by
  unfold k0_pay4
  rw [join]
  dsimp only
  rw [lane_tile]
  rfl

theorem inv_eq : k0_pay5 x mixed gate = inv (joined x mixed gate) := by unfold k0_pay5; rw [meanSq_eq]; rfl

theorem slope_eq : k0_pay6 x mixed gate = slope (joined x mixed gate) := by
  unfold k0_pay6; rw [inv_eq, meanSq_eq]; rfl

theorem normed_eq : k0_pay7 x mixed gate = normed (joined x mixed gate) := by
  unfold k0_pay7; rw [inv_eq, join]; dsimp only; rw [along_tile]; rfl

theorem dGained_eq : k0_pay11 dh scale = dGained dh scale := by
  unfold k0_pay11 k0_pay8; dsimp only; rw [shapeCast_self, down_tile]; rfl

theorem shift_eq : k0_pay9 dh = cols dh := col_tile dh

theorem scale_eq : k0_pay10 dh x mixed gate gain = cols (toScale dh (joined x mixed gate) gain) := by
  unfold k0_pay10 k0_pay8
  rw [normed_eq]
  dsimp only
  rw [col_tile, shapeCast_self, down_tile]
  rfl

/-- The cotangent of the rows. -/
theorem dx_eq : k0_pay13 g gain (k0_pay3 x mixed gate) (k0_pay5 x mixed gate) (k0_pay6 x mixed gate) (k0_pay11 dh scale)
    = dJoined g dh x mixed gate gain scale := by
  unfold k0_pay13
  rw [slope_eq, inv_eq, join, dGained_eq]
  dsimp only
  rw [lane_tile, lane_unit, along_tile,
    along_tile, down_tile]
  rfl

theorem dx_eq' : k0_pay14 g gain (k0_pay3 x mixed gate) (k0_pay5 x mixed gate) (k0_pay6 x mixed gate) (k0_pay11 dh scale)
    = dJoined g dh x mixed gate gain scale := by
  unfold k0_pay14
  rw [dx_eq]
  exact shapeCast_self _ _

/-- The cotangent of the branch. -/
theorem branch_eq : k0_pay15 g gate gain (k0_pay3 x mixed gate) (k0_pay5 x mixed gate) (k0_pay6 x mixed gate)
    (k0_pay11 dh scale) = toBranch (dJoined g dh x mixed gate gain scale) gate := by
  unfold k0_pay15
  rw [dx_eq']
  dsimp only
  rw [down_tile]
  rfl

variable (old : FVec Ideal S1x2048 .f32)

/-- The running sums: for the gate, -/
theorem plus_gate : k0_pay20 g mixed gain (k0_pay3 x mixed gate) (k0_pay5 x mixed gate) (k0_pay6 x mixed gate)
    (k0_pay11 dh scale) old = fun j => old j + cols (toGate (dJoined g dh x mixed gate gain scale) mixed) j := by
  unfold k0_pay20
  rw [dx_eq']
  dsimp only
  rw [col_tile, shapeCast_self]
  rfl

/-- for the gain, -/
theorem plus_gain : k0_pay21 (k0_pay12 dh x mixed gate scale) old
    = fun j => old j + cols (toGain dh (joined x mixed gate) scale) j := by
  unfold k0_pay21 k0_pay12
  rw [normed_eq, dGained_eq]
  dsimp only
  rw [col_tile, shapeCast_self]
  rfl

/-- for the scale and the shift, -/
theorem plus_scale (v : FVec Ideal S1x2048 .f32) : k0_pay1 v old = fun j => old j + v j := by
  unfold k0_pay1; rw [shapeCast_self]; rfl
theorem plus_shift (v : FVec Ideal S1x2048 .f32) : k0_pay2 v old = fun j => old j + v j := by
  unfold k0_pay2; rw [shapeCast_self]; rfl

/-- and their starts. -/
theorem start_gate : k0_pay16 (F := Ideal) = fun _ => 0 := funext fun _ => Ideal.ofBits_zero_f32
theorem start_gain : k0_pay17 (F := Ideal) = fun _ => 0 := funext fun _ => Ideal.ofBits_zero_f32
theorem start_scale : k0_pay18 (F := Ideal) = fun _ => 0 := funext fun _ => Ideal.ofBits_zero_f32
theorem start_shift : k0_pay19 (F := Ideal) = fun _ => 0 := funext fun _ => Ideal.ofBits_zero_f32

end Payloads

/-! ## What the body leaves -/

section Steps

variable (m : (ℓ : Loc nD τ sig) → Buf (Elt Ideal) ℓ) (c : Dev nD)

/-- The device's argument arrays. -/
abbrev a0 : (Mat 2048 2048).Idx → EReal := m ((c : Thread nD τ).loc main_arg0)
abbrev a1 : (Mat 2048 2048).Idx → EReal := m ((c : Thread nD τ).loc main_arg1)
abbrev a2 : (Mat 2048 2048).Idx → EReal := m ((c : Thread nD τ).loc main_arg2)
abbrev a3 : (Mat 2048 2048).Idx → EReal := m ((c : Thread nD τ).loc main_arg3)
abbrev a4 : (Mat 1 2048).Idx → EReal := m ((c : Thread nD τ).loc main_arg4)
abbrev a5 : (Mat 1 2048).Idx → EReal := m ((c : Thread nD τ).loc main_arg5)
abbrev a6 : (Mat 1 2048).Idx → EReal := m ((c : Thread nD τ).loc main_arg6)

/-- Where each point of the grid has its blocks. -/
theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = t.val ∧ win0_2.index t 1 = 0 := by decide +kernel
theorem at3 : ∀ t : Fin cfg0.N, win0_3.index t 0 = t.val ∧ win0_3.index t 1 = 0 := by decide +kernel
theorem at4 : ∀ t : Fin cfg0.N, win0_4.index t 0 = 0 ∧ win0_4.index t 1 = 0 := by decide +kernel
theorem at5 : ∀ t : Fin cfg0.N, win0_5.index t 0 = 0 ∧ win0_5.index t 1 = 0 := by decide +kernel
theorem at6 : ∀ t : Fin cfg0.N, win0_6.index t 0 = 0 ∧ win0_6.index t 1 = 0 := by decide +kernel
theorem at8 : ∀ t : Fin cfg0.N, win0_8.index t 0 = t.val ∧ win0_8.index t 1 = 0 := by decide +kernel
theorem at9 : ∀ t : Fin cfg0.N, win0_9.index t 0 = t.val ∧ win0_9.index t 1 = 0 := by decide +kernel

theorem few (t : Fin cfg0.N) : t.val < 8 := lt_of_lt_of_eq t.isLt N_0

theorem blk0 (t : Fin cfg0.N) : iblk m c 0 t = pick (rowOf t.val) (a0 m c) :=
  funext fun _ => congrArg (a0 m c) (tile_at (few t) (at0 t) rfl rfl)
theorem blk1 (t : Fin cfg0.N) : iblk m c 1 t = pick (rowOf t.val) (a1 m c) :=
  funext fun _ => congrArg (a1 m c) (tile_at (few t) (at1 t) rfl rfl)
theorem blk2 (t : Fin cfg0.N) : iblk m c 2 t = pick (rowOf t.val) (a2 m c) :=
  funext fun _ => congrArg (a2 m c) (tile_at (few t) (at2 t) rfl rfl)
theorem blk3 (t : Fin cfg0.N) : iblk m c 3 t = pick (rowOf t.val) (a3 m c) :=
  funext fun _ => congrArg (a3 m c) (tile_at (few t) (at3 t) rfl rfl)
theorem blk4 (t : Fin cfg0.N) : iblk m c 4 t = a4 m c := funext fun _ => congrArg (a4 m c) (row_at (at4 t) rfl rfl)
theorem blk5 (t : Fin cfg0.N) : iblk m c 5 t = a5 m c := funext fun _ => congrArg (a5 m c) (row_at (at5 t) rfl rfl)
theorem blk6 (t : Fin cfg0.N) : iblk m c 6 t = a6 m c := funext fun _ => congrArg (a6 m c) (row_at (at6 t) rfl rfl)

/-- What the arrays have to be, and the rows whose sums the last four are. -/
abbrev gx : (Mat 2048 2048).Idx → EReal :=
  dJoined (a0 m c) (a1 m c) (a2 m c) (a3 m c) (a4 m c) (a5 m c) (a6 m c)
abbrev gBranch : (Mat 2048 2048).Idx → EReal := toBranch (gx m c) (a4 m c)
abbrev gGate : (Mat 2048 2048).Idx → EReal := toGate (gx m c) (a3 m c)
abbrev gGain : (Mat 2048 2048).Idx → EReal := toGain (a1 m c) (joined (a2 m c) (a3 m c) (a4 m c)) (a6 m c)
abbrev gScale : (Mat 2048 2048).Idx → EReal := toScale (a1 m c) (joined (a2 m c) (a3 m c) (a4 m c)) (a5 m c)

/-- At the first tile the body starts the four sums. -/
theorem step_A (t : Fin cfg0.N) (h0 : t.val % 8 = 0) : outsAt0 m c t.val t.isLt =
    (pick (rowOf t.val) (gx m c), pick (rowOf t.val) (gBranch m c), fun j => 0 + cols (pick (rowOf t.val) (gGate m c)) j,
      fun j => 0 + cols (pick (rowOf t.val) (gGain m c)) j, fun j => 0 + cols (pick (rowOf t.val) (gScale m c)) j,
      fun j => 0 + cols (pick (rowOf t.val) (a1 m c)) j) := by
  rw [outsAt0_A m c t h0]
  frame_out [dx_eq, branch_eq, scale_eq, shift_eq, plus_gate, plus_gain, plus_scale, plus_shift, start_gate, start_gain,
    start_scale, start_shift, blk0, blk1, blk2, blk3, blk4, blk5, blk6]
  rfl

/-- At a later tile it adds to them. -/
theorem step_B (t : Fin cfg0.N) (h0 : ¬t.val % 8 = 0) : outsAt0 m c t.val t.isLt =
    (pick (rowOf t.val) (gx m c), pick (rowOf t.val) (gBranch m c),
      fun j => (outsAt0 m c (t.val - 1) (Nat.lt_of_le_of_lt (Nat.sub_le _ _) t.isLt)).2.2.1 j
        + cols (pick (rowOf t.val) (gGate m c)) j,
      fun j => (outsAt0 m c (t.val - 1) (Nat.lt_of_le_of_lt (Nat.sub_le _ _) t.isLt)).2.2.2.1 j
        + cols (pick (rowOf t.val) (gGain m c)) j,
      fun j => (outsAt0 m c (t.val - 1) (Nat.lt_of_le_of_lt (Nat.sub_le _ _) t.isLt)).2.2.2.2.1 j
        + cols (pick (rowOf t.val) (gScale m c)) j,
      fun j => (outsAt0 m c (t.val - 1) (Nat.lt_of_le_of_lt (Nat.sub_le _ _) t.isLt)).2.2.2.2.2 j
        + cols (pick (rowOf t.val) (a1 m c)) j) := by
  rw [outsAt0_B m c t h0]
  frame_out [dx_eq, branch_eq, scale_eq, shift_eq, plus_gate, plus_gain, plus_scale, plus_shift,
    blk0, blk1, blk2, blk3, blk4, blk5, blk6]
  rfl

/-- Whatever the tile, what it leaves of the two cotangents. -/
theorem step_tiles (t : Fin cfg0.N) : (outsAt0 m c t.val t.isLt).1 = pick (rowOf t.val) (gx m c)
    ∧ (outsAt0 m c t.val t.isLt).2.1 = pick (rowOf t.val) (gBranch m c) := by
  by_cases h0 : t.val % 8 = 0
  · rw [step_A m c t h0]; exact ⟨rfl, rfl⟩
  · rw [step_B m c t h0]; exact ⟨rfl, rfl⟩

/-! ## The arrays after the run -/

/-- The cotangent of the rows, -/
theorem final_x : (dats m 0 c).arrAt 8 cfg0.N = gx m c :=
  (dats m 0 c).arrAt_eq_of_covers 8 (gx m c) (by decide +kernel : win0_8.Covers) fun t _ y =>
    (congrFun ((after0_8 m c t).trans (step_tiles m c t).1) y).trans
      (congrArg (gx m c) (tile_at (y := y) (few t) (at8 t) rfl rfl)).symm

/-- and of the branch. -/
theorem final_branch : (dats m 0 c).arrAt 9 cfg0.N = gBranch m c :=
  (dats m 0 c).arrAt_eq_of_covers 9 (gBranch m c) (by decide +kernel : win0_9.Covers) fun t _ y =>
    (congrFun ((after0_9 m c t).trans (step_tiles m c t).2) y).trans
      (congrArg (gBranch m c) (tile_at (y := y) (few t) (at9 t) rfl rfl)).symm

/-- The last tile. -/
abbrev tl : Fin cfg0.N := ⟨7, by decide⟩

/-- The sum for the gate, -/
theorem final_gate : (dats m 0 c).arrAt 10 cfg0.N = cols (gGate m c) :=
  (dats m 0 c).arrAt_eq_of_after_last 10 tl (by decide +kernel) (cols (gGate m c)) fun j =>
    congrFun (((after0_10 m c tl).trans (sum_steps N_0 (fun n h => (outsAt0 m c n h).2.2.1) (gGate m c)
      (fun t h0 j => by rw [step_A m c t h0]) (fun t h0 j => by rw [step_B m c t h0]) tl rfl))) j

/-- for the gain, -/
theorem final_gain : (dats m 0 c).arrAt 11 cfg0.N = cols (gGain m c) :=
  (dats m 0 c).arrAt_eq_of_after_last 11 tl (by decide +kernel) (cols (gGain m c)) fun j =>
    congrFun (((after0_11 m c tl).trans (sum_steps N_0 (fun n h => (outsAt0 m c n h).2.2.2.1) (gGain m c)
      (fun t h0 j => by rw [step_A m c t h0]) (fun t h0 j => by rw [step_B m c t h0]) tl rfl))) j

/-- for the scale, -/
theorem final_scale : (dats m 0 c).arrAt 12 cfg0.N = cols (gScale m c) :=
  (dats m 0 c).arrAt_eq_of_after_last 12 tl (by decide +kernel) (cols (gScale m c)) fun j =>
    congrFun (((after0_12 m c tl).trans (sum_steps N_0 (fun n h => (outsAt0 m c n h).2.2.2.2.1) (gScale m c)
      (fun t h0 j => by rw [step_A m c t h0]) (fun t h0 j => by rw [step_B m c t h0]) tl rfl))) j

/-- and for the shift. -/
theorem final_shift : (dats m 0 c).arrAt 13 cfg0.N = cols (a1 m c) :=
  (dats m 0 c).arrAt_eq_of_after_last 13 tl (by decide +kernel) (cols (a1 m c)) fun j =>
    congrFun (((after0_13 m c tl).trans (sum_steps N_0 (fun n h => (outsAt0 m c n h).2.2.2.2.2) (a1 m c)
      (fun t h0 j => by rw [step_A m c t h0]) (fun t h0 j => by rw [step_B m c t h0]) tl rfl))) j

end Steps

end Cert.SecondBackIdeal.Step

/-! ## The host's arrays -/

namespace Cert.NormReferenceIdeal.Value

open Cert.NormReferenceIdeal
open Cert.Adam (Mat)
open Cert.Rows Cert.NormFn

section Arrays

variable (g dh x mixed : FVec Ideal S2048x2048 .f32) (gate gain scale : FVec Ideal S1x2048 .f32)

/-- The cotangent of the rows, -/
def hThrough (u : FVec Ideal S2048x2048 .f32) : FVec Ideal S2048x2048 .f32 :=
  addf (addf (addf g (mulf u (broadcastInDim S2048x2048 ![0, 1] Gen.bcast_S2048x1_S2048x2048_0_1 (Host.rsqrt (hMean x)))))
    (mulf x (hPull x u))) (mulf (hPull x u) x)

theorem hThrough_eq (u : FVec Ideal S2048x2048 .f32) : hThrough g x u = through g x u := by
  unfold hThrough; rw [hMean_eq, hPull_eq, along_all]; rfl

/-- as the host writes it of the rows and the branch. -/
def hdJoined : FVec Ideal S2048x2048 .f32 :=
  hThrough g (hJoined x mixed gate) (mulf (hGained dh scale)
    (broadcastInDim S2048x2048 ![0, 1] Gen.bcast_S1x2048_S2048x2048_0_1 gain))

theorem hdJoined_eq : hdJoined g dh x mixed gate gain scale = dJoined g dh x mixed gate gain scale := by
  unfold hdJoined; rw [hThrough_eq, joined_eq, hGained_eq, down_all]; rfl

/-- The cotangent of the branch, -/
theorem branch_eq (d : FVec Ideal S2048x2048 .f32) :
    mulf (broadcastInDim S2048x2048 ![0, 1] Gen.bcast_S1x2048_S2048x2048_0_1 gate)
      (shapeCast S2048x2048 d Gen.shapeCasts_S2048x2048_S2048x2048) = toBranch d gate := by
  rw [shapeCast_self, down_all]; rfl

/-- and the sum for the gate. -/
theorem gate_eq (d : FVec Ideal S2048x2048 .f32) :
    shapeCast S1x2048 (Host.reduceAdd (mulf (shapeCast S2048x2048 d Gen.shapeCasts_S2048x2048_S2048x2048) mixed)
      (constant S_ .f32 0x00000000#32) Gen.reducesTo_S2048x2048_S2048_d0 Gen.h_S_) Gen.shapeCasts_S2048_S1x2048
      = cols (toGate d mixed) := by
  rw [shapeCast_self, col_all]; rfl

end Arrays

end Cert.NormReferenceIdeal.Value

namespace Cert.SecondBackReferenceIdeal.Value

open Cert.SecondBackReferenceIdeal
open Cert.Rows Cert.NormFn
open Cert.NormReferenceIdeal.Value (hdJoined hdJoined_eq hJoined joined_eq)

variable (m : (ℓ : Loc nD τ sig) → Buf (Elt Ideal) ℓ) (c : Dev nD)

/-- The host's cotangent of the rows, of the arguments, -/
abbrev hx : FVec Ideal S2048x2048 .f32 :=
  hdJoined (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6))

theorem x_eq : res_main_v51 m c = hx m c := rfl

/-- the cotangent of the branch, -/
theorem branch_eq : res_main_v58 m c = toBranch (hx m c) (m ((c.tc : Thread nD τ).loc main_arg4)) :=
  Cert.NormReferenceIdeal.Value.branch_eq (m ((c.tc : Thread nD τ).loc main_arg4)) (hx m c)

/-- and the sum for the gate. -/
theorem gate_eq : res_main_v57 m c = cols (toGate (hx m c) (m ((c.tc : Thread nD τ).loc main_arg3))) :=
  Cert.NormReferenceIdeal.Value.gate_eq (m ((c.tc : Thread nD τ).loc main_arg3)) (hx m c)

end Cert.SecondBackReferenceIdeal.Value

namespace Cert.Proof

open Cert.SecondBackIdeal.Step Cert.NormFn Cert.Rows
open Cert.NormReferenceIdeal.Value (hdJoined_eq hJoined joined_eq)

theorem second_back_frame : Cert.quiescent_SecondBack := fun m g _ => Cert.SecondBack.Gen.frame m g

theorem second_back_frame_ideal : Cert.quiescent_SecondBackIdeal := fun m g _ => Cert.SecondBackIdeal.Gen.frame m g

theorem second_back_reference_frame_ideal : Cert.quiescent_SecondBackReferenceIdeal := fun m g _ =>
  (θ_run Cert.SecondBackReferenceIdeal.defs _ _).mono
    (fun r h => ⟨fun c => (h c).2.2.2.2.2.2, sem_eq_zero_of_no_sems (by decide) r.2⟩)
    (Cert.SecondBackReferenceIdeal.Value.run (F := Ideal) m g)

/-- No operation is read differently on the extended reals. -/
theorem second_back_preserves : Cert.preserves_SecondBack_SecondBackIdeal := trivial

/-- The kernel and the host end with the same six arrays. -/
theorem second_back_algebraic : Cert.algebraic_SecondBackIdeal_SecondBackReferenceIdeal := fun m g m' g' _ hp => by
  refine ⟨fun c => gx m c, fun c => gBranch m c, fun c => cols (gGate m c), fun c => cols (gGain m c),
    fun c => cols (gScale m c), fun c => cols (a1 m c), ?_, ?_⟩
  · refine (θ_run Cert.SecondBackIdeal.defs _ _).mono (fun r h c => ?_)
      (Cert.SecondBackIdeal.Value.run_blocks (F := Ideal) m g)
    obtain ⟨h8, h9, h10, h11, h12, h13, h⟩ := h c
    exact ⟨h8.trans (final_x m c), h9.trans (final_branch m c), h10.trans (final_gate m c), h11.trans (final_gain m c),
      h12.trans (final_scale m c), h13.trans (final_shift m c), h⟩
  · refine (θ_run Cert.SecondBackReferenceIdeal.defs _ _).mono (fun _ h c => ?_)
      (Cert.SecondBackReferenceIdeal.Value.run (F := Ideal) m' g')
    obtain ⟨hx, hm, ht, hg, hs, hb, h⟩ := h c
    obtain ⟨e0, e1, e2, e3, e4, e5, e6, -⟩ := hp c
    have ex : Cert.SecondBackReferenceIdeal.Value.hx m' c = gx m c := by
      unfold Cert.SecondBackReferenceIdeal.Value.hx
      rw [e0, e1, e2, e3, e4, e5, e6]
      exact hdJoined_eq _ _ _ _ _ _ _
    have em := Cert.SecondBackReferenceIdeal.Value.branch_eq m' c
    have et := Cert.SecondBackReferenceIdeal.Value.gate_eq m' c
    rw [ex, e4] at em; rw [ex, e3] at et
    rw [e1, e2, e3, e4, e6] at hg; rw [e1, e2, e3, e4, e5] at hs; rw [e1] at hb
    have ej := joined_eq (a2 m c) (a3 m c) (a4 m c)
    have eg := Cert.NormReferenceIdeal.Value.gain_eq (a1 m c) (hJoined (a2 m c) (a3 m c) (a4 m c)) (a6 m c)
    have es := Cert.NormReferenceIdeal.Value.scale_eq (a1 m c) (hJoined (a2 m c) (a3 m c) (a4 m c)) (a5 m c)
    exact ⟨hx.trans ((Cert.SecondBackReferenceIdeal.Value.x_eq m' c).trans ex), hm.trans em, ht.trans et,
      (hg.trans eg).trans (congrArg (fun z => cols (toGain (a1 m c) z (a6 m c))) ej),
      (hs.trans es).trans (congrArg (fun z => cols (toScale (a1 m c) z (a5 m c))) ej),
      hb.trans (Cert.NormReferenceIdeal.Value.col_all _), h⟩

end Cert.Proof

end
-- ==== Proof.lean ====
/-
The claims: the five calls in which the eight devices exchange data, the optimiser's calls, the two norms with their
backward passes, the loss, the matrix products, the chips' sums and the conditioning's activation.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Swap
public import proofs.«01_k».proof.Proof.Gen.Swap.Skeleton
public import proofs.«01_k».proof.Proof.Gen.Swap.Launch
public import proofs.«01_k».proof.Proof.Gen.Swap.Points
public import proofs.«01_k».proof.Proof.Gen.Swap.Frame
public import proofs.«01_k».proof.Proof.Gen.SwapReference
public import proofs.«01_k».proof.Proof.Gen.SwapReference.Run
public import proofs.«01_k».proof.Proof.Gen.SwapIdeal
public import proofs.«01_k».proof.Proof.Gen.SwapIdeal.Skeleton
public import proofs.«01_k».proof.Proof.Gen.SwapIdeal.Launch
public import proofs.«01_k».proof.Proof.Gen.SwapIdeal.Points
public import proofs.«01_k».proof.Proof.Gen.SwapIdeal.Frame
public import proofs.«01_k».proof.Proof.Gen.SwapReferenceIdeal
public import proofs.«01_k».proof.Proof.Gen.SwapReferenceIdeal.Run
public import proofs.«01_k».proof.Proof.Gen.Chips
public import proofs.«01_k».proof.Proof.Gen.Chips.Skeleton
public import proofs.«01_k».proof.Proof.Gen.Chips.Launch
public import proofs.«01_k».proof.Proof.Gen.Chips.Points
public import proofs.«01_k».proof.Proof.Gen.Chips.Frame
public import proofs.«01_k».proof.Proof.Gen.ChipsReference
public import proofs.«01_k».proof.Proof.Gen.ChipsReference.Run
public import proofs.«01_k».proof.Proof.Gen.ChipsIdeal
public import proofs.«01_k».proof.Proof.Gen.ChipsIdeal.Skeleton
public import proofs.«01_k».proof.Proof.Gen.ChipsIdeal.Launch
public import proofs.«01_k».proof.Proof.Gen.ChipsIdeal.Points
public import proofs.«01_k».proof.Proof.Gen.ChipsIdeal.Frame
public import proofs.«01_k».proof.Proof.Gen.ChipsReferenceIdeal
public import proofs.«01_k».proof.Proof.Gen.ChipsReferenceIdeal.Run
public import proofs.«01_k».proof.Proof.Gen.Small
public import proofs.«01_k».proof.Proof.Gen.Small.Skeleton
public import proofs.«01_k».proof.Proof.Gen.Small.Launch
public import proofs.«01_k».proof.Proof.Gen.Small.Points
public import proofs.«01_k».proof.Proof.Gen.Small.Frame
public import proofs.«01_k».proof.Proof.Gen.SmallReference
public import proofs.«01_k».proof.Proof.Gen.SmallReference.Run
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points
public import proofs.«01_k».proof.Proof.Gen.SmallIdeal.Frame
public import proofs.«01_k».proof.Proof.Gen.SmallReferenceIdeal
public import proofs.«01_k».proof.Proof.Gen.SmallReferenceIdeal.Run
public import proofs.«01_k».proof.Proof.Gen.Cond
public import proofs.«01_k».proof.Proof.Gen.Cond.Skeleton
public import proofs.«01_k».proof.Proof.Gen.Cond.Launch
public import proofs.«01_k».proof.Proof.Gen.Cond.Points
public import proofs.«01_k».proof.Proof.Gen.Cond.Frame
public import proofs.«01_k».proof.Proof.Gen.CondReference
public import proofs.«01_k».proof.Proof.Gen.CondReference.Run
public import proofs.«01_k».proof.Proof.Gen.CondIdeal
public import proofs.«01_k».proof.Proof.Gen.CondIdeal.Skeleton
public import proofs.«01_k».proof.Proof.Gen.CondIdeal.Launch
public import proofs.«01_k».proof.Proof.Gen.CondIdeal.Points
public import proofs.«01_k».proof.Proof.Gen.CondIdeal.Frame
public import proofs.«01_k».proof.Proof.Gen.CondReferenceIdeal
public import proofs.«01_k».proof.Proof.Gen.CondReferenceIdeal.Run
public import proofs.«01_k».proof.Proof.GatherValue
public import proofs.«01_k».proof.Proof.SwapValue
public import proofs.«01_k».proof.Proof.ChipsValue
public import proofs.«01_k».proof.Proof.SmallValue
public import proofs.«01_k».proof.Proof.CondValue
public import proofs.«01_k».proof.Proof.Gen.AdamWIn.Frame
public import proofs.«01_k».proof.Proof.Gen.AdamWInIdeal.Value
public import proofs.«01_k».proof.Proof.Gen.AdamWInReferenceIdeal.Run
public import proofs.«01_k».proof.Proof.Gen.AdamWOut.Frame
public import proofs.«01_k».proof.Proof.Gen.AdamWOutIdeal.Value
public import proofs.«01_k».proof.Proof.Gen.AdamWOutReferenceIdeal.Run
public import proofs.«01_k».proof.Proof.Gen.AdamFfn1.Frame
public import proofs.«01_k».proof.Proof.Gen.AdamFfn1Ideal.Value
public import proofs.«01_k».proof.Proof.Gen.AdamFfn1ReferenceIdeal.Run
public import proofs.«01_k».proof.Proof.Gen.AdamFfn2.Frame
public import proofs.«01_k».proof.Proof.Gen.AdamFfn2Ideal.Value
public import proofs.«01_k».proof.Proof.Gen.AdamFfn2ReferenceIdeal.Run
public import proofs.«01_k».proof.Proof.Gen.AdamGlu.Frame
public import proofs.«01_k».proof.Proof.Gen.AdamGluIdeal.Value
public import proofs.«01_k».proof.Proof.Gen.AdamGluReferenceIdeal.Run
public import proofs.«01_k».proof.Proof.Gen.AdamAda.Frame
public import proofs.«01_k».proof.Proof.Gen.AdamAdaIdeal.Value
public import proofs.«01_k».proof.Proof.Gen.AdamAdaReferenceIdeal.Run
public import proofs.«01_k».proof.Proof.Gen.AdamRk.Frame
public import proofs.«01_k».proof.Proof.Gen.AdamRkIdeal.Value
public import proofs.«01_k».proof.Proof.Gen.AdamRkReferenceIdeal.Run
public import proofs.«01_k».proof.Proof.Gen.AdamSmall.Frame
public import proofs.«01_k».proof.Proof.Gen.AdamSmallIdeal.Value
public import proofs.«01_k».proof.Proof.Gen.AdamSmallReferenceIdeal.Run
public import proofs.«01_k».proof.Proof.Gen.AdamLog.Frame
public import proofs.«01_k».proof.Proof.Gen.AdamLogIdeal.Frame
public import proofs.«01_k».proof.Proof.Gen.AdamLogReferenceIdeal.Run
public import proofs.«01_k».proof.Proof.Gen.Norm.Frame
public import proofs.«01_k».proof.Proof.Gen.NormIdeal.Value
public import proofs.«01_k».proof.Proof.Gen.NormReferenceIdeal.Run
public import proofs.«01_k».proof.Proof.Gen.Loss.Frame
public import proofs.«01_k».proof.Proof.Gen.LossIdeal.Value
public import proofs.«01_k».proof.Proof.Gen.LossReferenceIdeal.Run
public import proofs.«01_k».proof.Proof.AdamWIn
public import proofs.«01_k».proof.Proof.AdamWOut
public import proofs.«01_k».proof.Proof.AdamFfn1
public import proofs.«01_k».proof.Proof.AdamFfn2
public import proofs.«01_k».proof.Proof.AdamGlu
public import proofs.«01_k».proof.Proof.AdamAda
public import proofs.«01_k».proof.Proof.AdamRk
public import proofs.«01_k».proof.Proof.AdamSmall
public import proofs.«01_k».proof.Proof.AdamLog
public import proofs.«01_k».proof.Proof.Norm
public import proofs.«01_k».proof.Proof.Loss
public import proofs.«01_k».proof.Proof.LossSum
public import proofs.«01_k».proof.Proof.Forward
public import proofs.«01_k».proof.Proof.Back
public import proofs.«01_k».proof.Proof.Accumulate
public import proofs.«01_k».proof.Proof.WeightGrads
public import proofs.«01_k».proof.Proof.Sums
public import proofs.«01_k».proof.Proof.Norms
public import proofs.«01_k».proof.Proof.SecondNorm
public import proofs.«01_k».proof.Proof.Gen.First.Frame
public import proofs.«01_k».proof.Proof.Gen.FirstIdeal.Value
public import proofs.«01_k».proof.Proof.Gen.FirstReferenceIdeal.Run
public import proofs.«01_k».proof.Proof.Gen.Second.Frame
public import proofs.«01_k».proof.Proof.Gen.SecondIdeal.Value
public import proofs.«01_k».proof.Proof.Gen.SecondReferenceIdeal.Run
public import proofs.«01_k».proof.Proof.Gen.SecondBack.Frame
public import proofs.«01_k».proof.Proof.Gen.SecondBackIdeal.Value
public import proofs.«01_k».proof.Proof.Gen.SecondBackReferenceIdeal.Run
public import proofs.«01_k».proof.Proof.Gen.SumWIn.Frame
public import proofs.«01_k».proof.Proof.Gen.SumWInIdeal.Value
public import proofs.«01_k».proof.Proof.Gen.SumWInReferenceIdeal.Run
public import proofs.«01_k».proof.Proof.Gen.SumWOut.Frame
public import proofs.«01_k».proof.Proof.Gen.SumWOutIdeal.Value
public import proofs.«01_k».proof.Proof.Gen.SumWOutReferenceIdeal.Run
public import proofs.«01_k».proof.Proof.Gen.SumFfn1.Frame
public import proofs.«01_k».proof.Proof.Gen.SumFfn1Ideal.Value
public import proofs.«01_k».proof.Proof.Gen.SumFfn1ReferenceIdeal.Run
public import proofs.«01_k».proof.Proof.Gen.SumFfn2.Frame
public import proofs.«01_k».proof.Proof.Gen.SumFfn2Ideal.Value
public import proofs.«01_k».proof.Proof.Gen.SumFfn2ReferenceIdeal.Run
public import proofs.«01_k».proof.Proof.Gen.SumGlu.Frame
public import proofs.«01_k».proof.Proof.Gen.SumGluIdeal.Value
public import proofs.«01_k».proof.Proof.Gen.SumGluReferenceIdeal.Run
public import proofs.«01_k».proof.Proof.Gen.SumRk.Frame
public import proofs.«01_k».proof.Proof.Gen.SumRkIdeal.Value
public import proofs.«01_k».proof.Proof.Gen.SumRkReferenceIdeal.Run
public import proofs.«01_k».proof.Proof.Gen.Silu.Frame
public import proofs.«01_k».proof.Proof.Gen.SiluIdeal.Value
public import proofs.«01_k».proof.Proof.Gen.SiluReferenceIdeal.Run
public import proofs.«01_k».proof.Proof.Gen.SumU.Frame
public import proofs.«01_k».proof.Proof.Gen.SumUIdeal.Value
public import proofs.«01_k».proof.Proof.Gen.SumUReferenceIdeal.Run
public import Idealize.ShloMosaic.Adequacy
public import Idealize.ShloMosaic.Init

@[expose] public section

noncomputable section

namespace Cert.Proof

open Idealize.ShloMosaic Idealize.SL.Sem

theorem reference_frame : Cert.quiescent_Reference := fun m g _ =>
  (θ_run Cert.Reference.defs _ _).mono (fun r h => ⟨fun c => (h c).2.2.2.2.2.2.2, sem_eq_zero_of_no_sems (by decide) r.2⟩) (Cert.Reference.Value.run (F := Bits) m g)

theorem reference_frame_ideal : Cert.quiescent_ReferenceIdeal := fun m g _ =>
  (θ_run Cert.ReferenceIdeal.defs _ _).mono (fun r h => ⟨fun c => (h c).2.2.2.2.2.2.2, sem_eq_zero_of_no_sems (by decide) r.2⟩) (Cert.ReferenceIdeal.Value.run (F := Ideal) m g)

theorem claim : Cert.Claim := ⟨
  Cert.Kernel.Gen.facts, Cert.KernelIdeal.Gen.facts, Cert.ReferenceIdeal.Gen.facts, Cert.Reference.Gen.facts,
  Cert.Swap.Gen.facts, Cert.SwapIdeal.Gen.facts, Cert.SwapReferenceIdeal.Gen.facts, Cert.SwapReference.Gen.facts,
  Cert.Chips.Gen.facts, Cert.ChipsIdeal.Gen.facts, Cert.ChipsReferenceIdeal.Gen.facts, Cert.ChipsReference.Gen.facts,
  Cert.Small.Gen.facts, Cert.SmallIdeal.Gen.facts, Cert.SmallReferenceIdeal.Gen.facts, Cert.SmallReference.Gen.facts,
  Cert.Cond.Gen.facts, Cert.CondIdeal.Gen.facts, Cert.CondReferenceIdeal.Gen.facts, Cert.CondReference.Gen.facts,
  Cert.AdamWIn.Gen.facts, Cert.AdamWInIdeal.Gen.facts, Cert.AdamWInReferenceIdeal.Gen.facts,
  Cert.AdamWOut.Gen.facts, Cert.AdamWOutIdeal.Gen.facts, Cert.AdamWOutReferenceIdeal.Gen.facts,
  Cert.AdamFfn1.Gen.facts, Cert.AdamFfn1Ideal.Gen.facts, Cert.AdamFfn1ReferenceIdeal.Gen.facts,
  Cert.AdamFfn2.Gen.facts, Cert.AdamFfn2Ideal.Gen.facts, Cert.AdamFfn2ReferenceIdeal.Gen.facts,
  Cert.AdamGlu.Gen.facts, Cert.AdamGluIdeal.Gen.facts, Cert.AdamGluReferenceIdeal.Gen.facts,
  Cert.AdamAda.Gen.facts, Cert.AdamAdaIdeal.Gen.facts, Cert.AdamAdaReferenceIdeal.Gen.facts,
  Cert.AdamRk.Gen.facts, Cert.AdamRkIdeal.Gen.facts, Cert.AdamRkReferenceIdeal.Gen.facts,
  Cert.AdamSmall.Gen.facts, Cert.AdamSmallIdeal.Gen.facts, Cert.AdamSmallReferenceIdeal.Gen.facts,
  Cert.AdamLog.Gen.facts, Cert.AdamLogIdeal.Gen.facts, Cert.AdamLogReferenceIdeal.Gen.facts,
  Cert.Norm.Gen.facts, Cert.NormIdeal.Gen.facts, Cert.NormReferenceIdeal.Gen.facts,
  Cert.Loss.Gen.facts, Cert.LossIdeal.Gen.facts, Cert.LossReferenceIdeal.Gen.facts,
  Cert.LossSum.Gen.facts, Cert.LossSumIdeal.Gen.facts, Cert.LossSumReferenceIdeal.Gen.facts,
  Cert.Proj.Gen.facts, Cert.ProjIdeal.Gen.facts, Cert.ProjReferenceIdeal.Gen.facts,
  Cert.OutMix.Gen.facts, Cert.OutMixIdeal.Gen.facts, Cert.OutMixReferenceIdeal.Gen.facts,
  Cert.Ffn1.Gen.facts, Cert.Ffn1Ideal.Gen.facts, Cert.Ffn1ReferenceIdeal.Gen.facts,
  Cert.Ffn2.Gen.facts, Cert.Ffn2Ideal.Gen.facts, Cert.Ffn2ReferenceIdeal.Gen.facts,
  Cert.DFfn2.Gen.facts, Cert.DFfn2Ideal.Gen.facts, Cert.DFfn2ReferenceIdeal.Gen.facts,
  Cert.GwFfn2.Gen.facts, Cert.GwFfn2Ideal.Gen.facts, Cert.GwFfn2ReferenceIdeal.Gen.facts,
  Cert.DFfn1.Gen.facts, Cert.DFfn1Ideal.Gen.facts, Cert.DFfn1ReferenceIdeal.Gen.facts,
  Cert.GwFfn1.Gen.facts, Cert.GwFfn1Ideal.Gen.facts, Cert.GwFfn1ReferenceIdeal.Gen.facts,
  Cert.DOut.Gen.facts, Cert.DOutIdeal.Gen.facts, Cert.DOutReferenceIdeal.Gen.facts,
  Cert.GwOut.Gen.facts, Cert.GwOutIdeal.Gen.facts, Cert.GwOutReferenceIdeal.Gen.facts,
  Cert.DIn.Gen.facts, Cert.DInIdeal.Gen.facts, Cert.DInReferenceIdeal.Gen.facts,
  Cert.GwIn.Gen.facts, Cert.GwInIdeal.Gen.facts, Cert.GwInReferenceIdeal.Gen.facts,
  Cert.Mod.Gen.facts, Cert.ModIdeal.Gen.facts, Cert.ModReferenceIdeal.Gen.facts,
  Cert.GwAda.Gen.facts, Cert.GwAdaIdeal.Gen.facts, Cert.GwAdaReferenceIdeal.Gen.facts,
  Cert.First.Gen.facts, Cert.FirstIdeal.Gen.facts, Cert.FirstReferenceIdeal.Gen.facts,
  Cert.Second.Gen.facts, Cert.SecondIdeal.Gen.facts, Cert.SecondReferenceIdeal.Gen.facts,
  Cert.SecondBack.Gen.facts, Cert.SecondBackIdeal.Gen.facts, Cert.SecondBackReferenceIdeal.Gen.facts,
  Cert.SumWIn.Gen.facts, Cert.SumWInIdeal.Gen.facts, Cert.SumWInReferenceIdeal.Gen.facts,
  Cert.SumWOut.Gen.facts, Cert.SumWOutIdeal.Gen.facts, Cert.SumWOutReferenceIdeal.Gen.facts,
  Cert.SumFfn1.Gen.facts, Cert.SumFfn1Ideal.Gen.facts, Cert.SumFfn1ReferenceIdeal.Gen.facts,
  Cert.SumFfn2.Gen.facts, Cert.SumFfn2Ideal.Gen.facts, Cert.SumFfn2ReferenceIdeal.Gen.facts,
  Cert.SumGlu.Gen.facts, Cert.SumGluIdeal.Gen.facts, Cert.SumGluReferenceIdeal.Gen.facts,
  Cert.SumRk.Gen.facts, Cert.SumRkIdeal.Gen.facts, Cert.SumRkReferenceIdeal.Gen.facts,
  Cert.SumU.Gen.facts, Cert.SumUIdeal.Gen.facts, Cert.SumUReferenceIdeal.Gen.facts,
  Cert.Silu.Gen.facts, Cert.SiluIdeal.Gen.facts, Cert.SiluReferenceIdeal.Gen.facts,
  gather_frame, gather_frame_ideal, reference_frame_ideal, reference_frame,
  swap_frame, swap_frame_ideal, swap_reference_frame_ideal, swap_reference_frame,
  chips_frame, chips_frame_ideal, chips_reference_frame_ideal, chips_reference_frame,
  small_frame, small_frame_ideal, small_reference_frame_ideal, small_reference_frame,
  cond_frame, cond_frame_ideal, cond_reference_frame_ideal, cond_reference_frame,
  adam_w_in_frame, adam_w_in_frame_ideal, adam_w_in_reference_frame_ideal,
  adam_w_out_frame, adam_w_out_frame_ideal, adam_w_out_reference_frame_ideal,
  adam_ffn_w1_frame, adam_ffn_w1_frame_ideal, adam_ffn_w1_reference_frame_ideal,
  adam_ffn_w2_frame, adam_ffn_w2_frame_ideal, adam_ffn_w2_reference_frame_ideal,
  adam_s5_w_glu_frame, adam_s5_w_glu_frame_ideal, adam_s5_w_glu_reference_frame_ideal,
  adam_ada_w_frame, adam_ada_w_frame_ideal, adam_ada_w_reference_frame_ideal,
  adam_rkpack_frame, adam_rkpack_frame_ideal, adam_rkpack_reference_frame_ideal,
  adam_small_frame, adam_small_frame_ideal, adam_small_reference_frame_ideal,
  adam_log_frame, adam_log_frame_ideal, adam_log_reference_frame_ideal,
  norm_frame, norm_frame_ideal, norm_reference_frame_ideal,
  loss_frame, loss_frame_ideal, loss_reference_frame_ideal,
  sum_frame, sum_frame_ideal, sum_reference_frame_ideal,
  proj_frame, proj_frame_ideal, proj_reference_frame_ideal,
  out_mix_frame, out_mix_frame_ideal, out_mix_reference_frame_ideal,
  ffn1_frame, ffn1_frame_ideal, ffn1_reference_frame_ideal,
  ffn2_frame, ffn2_frame_ideal, ffn2_reference_frame_ideal,
  d_ffn2_frame, d_ffn2_frame_ideal, d_ffn2_reference_frame_ideal,
  gw_ffn2_frame, gw_ffn2_frame_ideal, gw_ffn2_reference_frame_ideal,
  d_ffn1_frame, d_ffn1_frame_ideal, d_ffn1_reference_frame_ideal,
  gw_ffn1_frame, gw_ffn1_frame_ideal, gw_ffn1_reference_frame_ideal,
  d_out_frame, d_out_frame_ideal, d_out_reference_frame_ideal,
  gw_out_frame, gw_out_frame_ideal, gw_out_reference_frame_ideal,
  d_in_frame, d_in_frame_ideal, d_in_reference_frame_ideal,
  gw_in_frame, gw_in_frame_ideal, gw_in_reference_frame_ideal,
  mod_frame, mod_frame_ideal, mod_reference_frame_ideal,
  gw_ada_frame, gw_ada_frame_ideal, gw_ada_reference_frame_ideal,
  first_frame, first_frame_ideal, first_reference_frame_ideal,
  second_frame, second_frame_ideal, second_reference_frame_ideal,
  second_back_frame, second_back_frame_ideal, second_back_reference_frame_ideal,
  sum_w_in_frame, sum_w_in_frame_ideal, sum_w_in_reference_frame_ideal,
  sum_w_out_frame, sum_w_out_frame_ideal, sum_w_out_reference_frame_ideal,
  sum_ffn_w1_frame, sum_ffn_w1_frame_ideal, sum_ffn_w1_reference_frame_ideal,
  sum_ffn_w2_frame, sum_ffn_w2_frame_ideal, sum_ffn_w2_reference_frame_ideal,
  sum_glu_frame, sum_glu_frame_ideal, sum_glu_reference_frame_ideal,
  sum_rk_frame, sum_rk_frame_ideal, sum_rk_reference_frame_ideal,
  sum_u_frame, sum_u_frame_ideal, sum_u_reference_frame_ideal,
  silu_frame, silu_frame_ideal, silu_reference_frame_ideal,
  trivial, gather_bitexact, gather_algebraic, trivial, swap_bitexact, swap_algebraic, trivial, chips_bitexact, chips_algebraic, trivial, small_bitexact, small_algebraic, trivial, cond_bitexact, cond_algebraic,
  adam_w_in_preserves, adam_w_in_algebraic,
  adam_w_out_preserves, adam_w_out_algebraic,
  adam_ffn_w1_preserves, adam_ffn_w1_algebraic,
  adam_ffn_w2_preserves, adam_ffn_w2_algebraic,
  adam_s5_w_glu_preserves, adam_s5_w_glu_algebraic,
  adam_ada_w_preserves, adam_ada_w_algebraic,
  adam_rkpack_preserves, adam_rkpack_algebraic,
  adam_small_preserves, adam_small_algebraic,
  adam_log_preserves, adam_log_algebraic,
  norm_preserves, norm_algebraic,
  loss_preserves, loss_algebraic,
  sum_preserves, sum_algebraic,
  proj_preserves, proj_algebraic,
  out_mix_preserves, out_mix_algebraic,
  ffn1_preserves, ffn1_algebraic,
  ffn2_preserves, ffn2_algebraic,
  d_ffn2_preserves, d_ffn2_algebraic,
  gw_ffn2_preserves, gw_ffn2_algebraic,
  d_ffn1_preserves, d_ffn1_algebraic,
  gw_ffn1_preserves, gw_ffn1_algebraic,
  d_out_preserves, d_out_algebraic,
  gw_out_preserves, gw_out_algebraic,
  d_in_preserves, d_in_algebraic,
  gw_in_preserves, gw_in_algebraic,
  mod_preserves, mod_algebraic,
  gw_ada_preserves, gw_ada_algebraic,
  first_preserves, first_algebraic,
  second_preserves, second_algebraic,
  second_back_preserves, second_back_algebraic,
  sum_w_in_preserves, sum_w_in_algebraic,
  sum_w_out_preserves, sum_w_out_algebraic,
  sum_ffn_w1_preserves, sum_ffn_w1_algebraic,
  sum_ffn_w2_preserves, sum_ffn_w2_algebraic,
  sum_glu_preserves, sum_glu_algebraic,
  sum_rk_preserves, sum_rk_algebraic,
  sum_u_preserves, sum_u_algebraic,
  silu_preserves, silu_algebraic⟩

end Cert.Proof

end
